-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![4096, 256]⟩ ⟨2, ![4096, 4096]⟩ 1 16 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨2, ![256, 8192]⟩ ⟨2, ![4096, 8192]⟩ 0 16 c (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = m' (((0 : Dev Cert.ReferenceIdeal.nD).tc : Thread Cert.ReferenceIdeal.nD Cert.ReferenceIdeal.τ).loc Cert.ReferenceIdeal.main_arg2)
      ∧ m ((c.tc : Thread Cert.KernelIdeal.nD Cert.KernelIdeal.τ).loc Cert.KernelIdeal.main_arg3) = m' (((0 : Dev Cert.ReferenceIdeal.nD).tc : Thread Cert.ReferenceIdeal.nD Cert.ReferenceIdeal.τ).loc Cert.ReferenceIdeal.main_arg3)) →
    ∃ (v0 : Buf (Elt Ideal) (((0 : Dev Cert.ReferenceIdeal.nD).tc : Thread Cert.ReferenceIdeal.nD Cert.ReferenceIdeal.τ).loc Cert.ReferenceIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![256, 8192]⟩ ⟨2, ![4096, 8192]⟩ 0 16 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v0) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S4096x256 : Shape := ⟨2, ![4096, 256]⟩
abbrev S256x8192 : Shape := ⟨2, ![256, 8192]⟩
abbrev S1 : Shape := ⟨1, ![1]⟩
abbrev S2x256x2048 : Shape := ⟨3, ![2, 256, 2048]⟩
abbrev S2 : Shape := ⟨1, ![2]⟩
abbrev S_ : Shape := ⟨0, ![]⟩
abbrev S256x256 : Shape := ⟨2, ![256, 256]⟩
abbrev S256x2048 : Shape := ⟨2, ![256, 2048]⟩
abbrev S1x256x2048 : Shape := ⟨3, ![1, 256, 2048]⟩

abbrev nBuf : Space → Nat
  | .hbm => 5
  | .vmem => 7
  | .smem => 2
  | _ => 0

abbrev bufTy : (tb : Table) → Fin (tcTables nBuf tb) → BufTy
  | .hbm, ⟨0, _⟩ => ⟨S4096x256, .fp8e5m2⟩
  | .hbm, ⟨1, _⟩ => ⟨S256x8192, .fp8e5m2⟩
  | .hbm, ⟨2, _⟩ => ⟨S1, .f32⟩
  | .hbm, ⟨3, _⟩ => ⟨S1, .f32⟩
  | .hbm, ⟨4, _⟩ => ⟨S256x8192, .f32⟩
  | .local _ .vmem, ⟨0, _⟩ => ⟨S4096x256, .fp8e5m2⟩
  | .local _ .vmem, ⟨1, _⟩ => ⟨S256x8192, .fp8e5m2⟩
  | .local _ .vmem, ⟨2, _⟩ => ⟨S256x8192, .f32⟩
  | .local _ .vmem, ⟨3, _⟩ => ⟨S2x256x2048, .bf16⟩
  | .local _ .vmem, ⟨4, _⟩ => ⟨S2x256x2048, .bf16⟩
  | .local _ .vmem, ⟨5, _⟩ => ⟨S2x256x2048, .bf16⟩
  | .local _ .vmem, ⟨6, _⟩ => ⟨S2x256x2048, .bf16⟩
  | .local _ .smem, ⟨0, _⟩ => ⟨S1, .f32⟩
  | .local _ .smem, ⟨1, _⟩ => ⟨S1, .f32⟩
  | _, _ => ⟨S4096x256, .fp8e5m2⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .smem, ⟨0, _⟩ => true
  | .smem, ⟨1, _⟩ => true
  | _, _ => false

abbrev semScoped : Fin 5 → Bool
  | ⟨0, _⟩ => true
  | ⟨1, _⟩ => true
  | ⟨2, _⟩ => true
  | ⟨3, _⟩ => true
  | ⟨4, _⟩ => false
  | _ => false

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  (ofTc nBuf bufTy 5 21 bufScoped semScoped dmaSemScoped tileCredit tileCredit_eq_zero tileCredit_pos).withBarriers [(0, 4)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v1 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg4_0 : Ref sig .tc := ⟨.vmem, 2, rfl⟩
abbrev cc0_scratch0 : Ref sig .tc := ⟨.vmem, 3, rfl⟩
abbrev cc0_scratch1 : Ref sig .tc := ⟨.vmem, 4, rfl⟩
abbrev cc0_scratch2 : Ref sig .tc := ⟨.vmem, 5, rfl⟩
abbrev cc0_scratch3 : Ref sig .tc := ⟨.vmem, 6, rfl⟩
abbrev cc0_stg2_0 : Ref sig .tc := ⟨.smem, 0, rfl⟩
abbrev cc0_stg3_0 : Ref sig .tc := ⟨.smem, 1, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev barrier0 : Sem sig := 4

abbrev nD : Nat := 16
abbrev τ : Topo := Topo.v7x

variable {F : FTy → Type} [FloatOps F]

abbrev grid0 : Pipeline.Grid := .none

def k0_dev1 (d0 : Dev nD) : Nat :=
  let c0_i32_78 : BitVec 32 := 0#32
  let c4_i32_75 : BitVec 32 := 4#32
  let c4_i32_17 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let v43 : BitVec 32 := Scalar.muli c4_i32_17 v12
  let c2_i32 : BitVec 32 := 2#32
  let c0_i32_11 : BitVec 32 := 0#32
  let v30 : BitVec 1 := Scalar.cmpi .eq c2_i32 c0_i32_11
  let c1_i32_12 : BitVec 32 := 1#32
  let v31 : BitVec 32 := Scalar.select v30 c1_i32_12 c2_i32
  let v32 : BitVec 32 := Scalar.remsi v12 v31
  let c0_i32_14 : BitVec 32 := 0#32
  let v34 : BitVec 1 := Scalar.cmpi .slt v32 c0_i32_14
  let c0_i32_15 : BitVec 32 := 0#32
  let v35 : BitVec 1 := Scalar.cmpi .slt v31 c0_i32_15
  let v36 : BitVec 1 := Scalar.xori v34 v35
  let c0_i32_13 : BitVec 32 := 0#32
  let v33 : BitVec 1 := Scalar.cmpi .ne v32 c0_i32_13
  let v37 : BitVec 1 := Scalar.andi v36 v33
  let v38 : BitVec 32 := Scalar.addi v32 v31
  let v39 : BitVec 32 := Scalar.select v37 v38 v32
  let c0_i32_16 : BitVec 32 := 0#32
  let v40 : BitVec 1 := Scalar.cmpi .eq v39 c0_i32_16
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c4_i32_4 : BitVec 32 := 4#32
  let c0_i32_7 : BitVec 32 := 0#32
  let v19 : BitVec 1 := Scalar.cmpi .sgt c4_i32_4 c0_i32_7
  let v20 : BitVec 32 := Scalar.extui v19
  let c0_i32_8 : BitVec 32 := 0#32
  let v21 : BitVec 1 := Scalar.cmpi .slt c4_i32_4 c0_i32_8
  let v22 : BitVec 32 := Scalar.extui v21
  let v23 : BitVec 32 := Scalar.subi v20 v22
  let v24 : BitVec 1 := Scalar.cmpi .ne v18 v23
  let v25 : BitVec 32 := Scalar.remsi v2 c4_i32_4
  let c0_i32_9 : BitVec 32 := 0#32
  let v26 : BitVec 1 := Scalar.cmpi .ne v25 c0_i32_9
  let v27 : BitVec 1 := Scalar.andi v24 v26
  let v13 : BitVec 32 := Scalar.divsi v2 c4_i32_4
  let c1_i32_10 : BitVec 32 := 1#32
  let v28 : BitVec 32 := Scalar.subi v13 c1_i32_10
  let v29 : BitVec 32 := Scalar.select v27 v28 v13
  let c3_i32 : BitVec 32 := 3#32
  let v41 : BitVec 32 := Scalar.subi c3_i32 v29
  let v42 : BitVec 32 := Scalar.select v40 v29 v41
  let v44 : BitVec 32 := Scalar.addi v43 v42
  let c1_i32_47 : BitVec 32 := 1#32
  let v98 : BitVec 32 := Scalar.subi v44 c1_i32_47
  let c16_i32_48 : BitVec 32 := 16#32
  let c0_i32_49 : BitVec 32 := 0#32
  let v99 : BitVec 1 := Scalar.cmpi .eq c16_i32_48 c0_i32_49
  let c1_i32_50 : BitVec 32 := 1#32
  let v100 : BitVec 32 := Scalar.select v99 c1_i32_50 c16_i32_48
  let v101 : BitVec 32 := Scalar.remsi v98 v100
  let c0_i32_52 : BitVec 32 := 0#32
  let v103 : BitVec 1 := Scalar.cmpi .slt v101 c0_i32_52
  let c0_i32_53 : BitVec 32 := 0#32
  let v104 : BitVec 1 := Scalar.cmpi .slt v100 c0_i32_53
  let v105 : BitVec 1 := Scalar.xori v103 v104
  let c0_i32_51 : BitVec 32 := 0#32
  let v102 : BitVec 1 := Scalar.cmpi .ne v101 c0_i32_51
  let v106 : BitVec 1 := Scalar.andi v105 v102
  let v107 : BitVec 32 := Scalar.addi v101 v100
  let v108 : BitVec 32 := Scalar.select v106 v107 v101
  let c0_i32_55 : BitVec 32 := 0#32
  let v110 : BitVec 1 := Scalar.cmpi .sgt v108 c0_i32_55
  let v111 : BitVec 32 := Scalar.extui v110
  let c0_i32_56 : BitVec 32 := 0#32
  let v112 : BitVec 1 := Scalar.cmpi .slt v108 c0_i32_56
  let v113 : BitVec 32 := Scalar.extui v112
  let v114 : BitVec 32 := Scalar.subi v111 v113
  let c4_i32_54 : BitVec 32 := 4#32
  let c0_i32_57 : BitVec 32 := 0#32
  let v115 : BitVec 1 := Scalar.cmpi .sgt c4_i32_54 c0_i32_57
  let v116 : BitVec 32 := Scalar.extui v115
  let c0_i32_58 : BitVec 32 := 0#32
  let v117 : BitVec 1 := Scalar.cmpi .slt c4_i32_54 c0_i32_58
  let v118 : BitVec 32 := Scalar.extui v117
  let v119 : BitVec 32 := Scalar.subi v116 v118
  let v120 : BitVec 1 := Scalar.cmpi .ne v114 v119
  let v121 : BitVec 32 := Scalar.remsi v108 c4_i32_54
  let c0_i32_59 : BitVec 32 := 0#32
  let v122 : BitVec 1 := Scalar.cmpi .ne v121 c0_i32_59
  let v123 : BitVec 1 := Scalar.andi v120 v122
  let v109 : BitVec 32 := Scalar.divsi v108 c4_i32_54
  let c1_i32_60 : BitVec 32 := 1#32
  let v124 : BitVec 32 := Scalar.subi v109 c1_i32_60
  let v125 : BitVec 32 := Scalar.select v123 v124 v109
  let c2_i32_67 : BitVec 32 := 2#32
  let c0_i32_68 : BitVec 32 := 0#32
  let v136 : BitVec 1 := Scalar.cmpi .eq c2_i32_67 c0_i32_68
  let c1_i32_69 : BitVec 32 := 1#32
  let v137 : BitVec 32 := Scalar.select v136 c1_i32_69 c2_i32_67
  let v138 : BitVec 32 := Scalar.remsi v125 v137
  let c0_i32_71 : BitVec 32 := 0#32
  let v140 : BitVec 1 := Scalar.cmpi .slt v138 c0_i32_71
  let c0_i32_72 : BitVec 32 := 0#32
  let v141 : BitVec 1 := Scalar.cmpi .slt v137 c0_i32_72
  let v142 : BitVec 1 := Scalar.xori v140 v141
  let c0_i32_70 : BitVec 32 := 0#32
  let v139 : BitVec 1 := Scalar.cmpi .ne v138 c0_i32_70
  let v143 : BitVec 1 := Scalar.andi v142 v139
  let v144 : BitVec 32 := Scalar.addi v138 v137
  let v145 : BitVec 32 := Scalar.select v143 v144 v138
  let c0_i32_73 : BitVec 32 := 0#32
  let v146 : BitVec 1 := Scalar.cmpi .eq v145 c0_i32_73
  let c4_i32_61 : BitVec 32 := 4#32
  let c0_i32_62 : BitVec 32 := 0#32
  let v126 : BitVec 1 := Scalar.cmpi .eq c4_i32_61 c0_i32_62
  let c1_i32_63 : BitVec 32 := 1#32
  let v127 : BitVec 32 := Scalar.select v126 c1_i32_63 c4_i32_61
  let v128 : BitVec 32 := Scalar.remsi v108 v127
  let c0_i32_65 : BitVec 32 := 0#32
  let v130 : BitVec 1 := Scalar.cmpi .slt v128 c0_i32_65
  let c0_i32_66 : BitVec 32 := 0#32
  let v131 : BitVec 1 := Scalar.cmpi .slt v127 c0_i32_66
  let v132 : BitVec 1 := Scalar.xori v130 v131
  let c0_i32_64 : BitVec 32 := 0#32
  let v129 : BitVec 1 := Scalar.cmpi .ne v128 c0_i32_64
  let v133 : BitVec 1 := Scalar.andi v132 v129
  let v134 : BitVec 32 := Scalar.addi v128 v127
  let v135 : BitVec 32 := Scalar.select v133 v134 v128
  let c3_i32_74 : BitVec 32 := 3#32
  let v147 : BitVec 32 := Scalar.subi c3_i32_74 v135
  let v148 : BitVec 32 := Scalar.select v146 v135 v147
  let v149 : BitVec 32 := Scalar.muli c4_i32_75 v148
  let v150 : BitVec 32 := Scalar.addi v149 v125
  let c1_i32_77 : BitVec 32 := 1#32
  let v152 : BitVec 32 := Scalar.muli v150 c1_i32_77
  let v153 : BitVec 32 := Scalar.addi c0_i32_78 v152
  v153.toNat
def k0_dev2 (d0 : Dev nD) : Nat :=
  let c0_i32_81 : BitVec 32 := 0#32
  let c4_i32_46 : BitVec 32 := 4#32
  let c4_i32_17 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let v43 : BitVec 32 := Scalar.muli c4_i32_17 v12
  let c2_i32 : BitVec 32 := 2#32
  let c0_i32_11 : BitVec 32 := 0#32
  let v30 : BitVec 1 := Scalar.cmpi .eq c2_i32 c0_i32_11
  let c1_i32_12 : BitVec 32 := 1#32
  let v31 : BitVec 32 := Scalar.select v30 c1_i32_12 c2_i32
  let v32 : BitVec 32 := Scalar.remsi v12 v31
  let c0_i32_14 : BitVec 32 := 0#32
  let v34 : BitVec 1 := Scalar.cmpi .slt v32 c0_i32_14
  let c0_i32_15 : BitVec 32 := 0#32
  let v35 : BitVec 1 := Scalar.cmpi .slt v31 c0_i32_15
  let v36 : BitVec 1 := Scalar.xori v34 v35
  let c0_i32_13 : BitVec 32 := 0#32
  let v33 : BitVec 1 := Scalar.cmpi .ne v32 c0_i32_13
  let v37 : BitVec 1 := Scalar.andi v36 v33
  let v38 : BitVec 32 := Scalar.addi v32 v31
  let v39 : BitVec 32 := Scalar.select v37 v38 v32
  let c0_i32_16 : BitVec 32 := 0#32
  let v40 : BitVec 1 := Scalar.cmpi .eq v39 c0_i32_16
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c4_i32_4 : BitVec 32 := 4#32
  let c0_i32_7 : BitVec 32 := 0#32
  let v19 : BitVec 1 := Scalar.cmpi .sgt c4_i32_4 c0_i32_7
  let v20 : BitVec 32 := Scalar.extui v19
  let c0_i32_8 : BitVec 32 := 0#32
  let v21 : BitVec 1 := Scalar.cmpi .slt c4_i32_4 c0_i32_8
  let v22 : BitVec 32 := Scalar.extui v21
  let v23 : BitVec 32 := Scalar.subi v20 v22
  let v24 : BitVec 1 := Scalar.cmpi .ne v18 v23
  let v25 : BitVec 32 := Scalar.remsi v2 c4_i32_4
  let c0_i32_9 : BitVec 32 := 0#32
  let v26 : BitVec 1 := Scalar.cmpi .ne v25 c0_i32_9
  let v27 : BitVec 1 := Scalar.andi v24 v26
  let v13 : BitVec 32 := Scalar.divsi v2 c4_i32_4
  let c1_i32_10 : BitVec 32 := 1#32
  let v28 : BitVec 32 := Scalar.subi v13 c1_i32_10
  let v29 : BitVec 32 := Scalar.select v27 v28 v13
  let c3_i32 : BitVec 32 := 3#32
  let v41 : BitVec 32 := Scalar.subi c3_i32 v29
  let v42 : BitVec 32 := Scalar.select v40 v29 v41
  let v44 : BitVec 32 := Scalar.addi v43 v42
  let c1_i32_18 : BitVec 32 := 1#32
  let v45 : BitVec 32 := Scalar.addi v44 c1_i32_18
  let c16_i32_19 : BitVec 32 := 16#32
  let c0_i32_20 : BitVec 32 := 0#32
  let v46 : BitVec 1 := Scalar.cmpi .eq c16_i32_19 c0_i32_20
  let c1_i32_21 : BitVec 32 := 1#32
  let v47 : BitVec 32 := Scalar.select v46 c1_i32_21 c16_i32_19
  let v48 : BitVec 32 := Scalar.remsi v45 v47
  let c0_i32_23 : BitVec 32 := 0#32
  let v50 : BitVec 1 := Scalar.cmpi .slt v48 c0_i32_23
  let c0_i32_24 : BitVec 32 := 0#32
  let v51 : BitVec 1 := Scalar.cmpi .slt v47 c0_i32_24
  let v52 : BitVec 1 := Scalar.xori v50 v51
  let c0_i32_22 : BitVec 32 := 0#32
  let v49 : BitVec 1 := Scalar.cmpi .ne v48 c0_i32_22
  let v53 : BitVec 1 := Scalar.andi v52 v49
  let v54 : BitVec 32 := Scalar.addi v48 v47
  let v55 : BitVec 32 := Scalar.select v53 v54 v48
  let c0_i32_26 : BitVec 32 := 0#32
  let v57 : BitVec 1 := Scalar.cmpi .sgt v55 c0_i32_26
  let v58 : BitVec 32 := Scalar.extui v57
  let c0_i32_27 : BitVec 32 := 0#32
  let v59 : BitVec 1 := Scalar.cmpi .slt v55 c0_i32_27
  let v60 : BitVec 32 := Scalar.extui v59
  let v61 : BitVec 32 := Scalar.subi v58 v60
  let c4_i32_25 : BitVec 32 := 4#32
  let c0_i32_28 : BitVec 32 := 0#32
  let v62 : BitVec 1 := Scalar.cmpi .sgt c4_i32_25 c0_i32_28
  let v63 : BitVec 32 := Scalar.extui v62
  let c0_i32_29 : BitVec 32 := 0#32
  let v64 : BitVec 1 := Scalar.cmpi .slt c4_i32_25 c0_i32_29
  let v65 : BitVec 32 := Scalar.extui v64
  let v66 : BitVec 32 := Scalar.subi v63 v65
  let v67 : BitVec 1 := Scalar.cmpi .ne v61 v66
  let v68 : BitVec 32 := Scalar.remsi v55 c4_i32_25
  let c0_i32_30 : BitVec 32 := 0#32
  let v69 : BitVec 1 := Scalar.cmpi .ne v68 c0_i32_30
  let v70 : BitVec 1 := Scalar.andi v67 v69
  let v56 : BitVec 32 := Scalar.divsi v55 c4_i32_25
  let c1_i32_31 : BitVec 32 := 1#32
  let v71 : BitVec 32 := Scalar.subi v56 c1_i32_31
  let v72 : BitVec 32 := Scalar.select v70 v71 v56
  let c2_i32_38 : BitVec 32 := 2#32
  let c0_i32_39 : BitVec 32 := 0#32
  let v83 : BitVec 1 := Scalar.cmpi .eq c2_i32_38 c0_i32_39
  let c1_i32_40 : BitVec 32 := 1#32
  let v84 : BitVec 32 := Scalar.select v83 c1_i32_40 c2_i32_38
  let v85 : BitVec 32 := Scalar.remsi v72 v84
  let c0_i32_42 : BitVec 32 := 0#32
  let v87 : BitVec 1 := Scalar.cmpi .slt v85 c0_i32_42
  let c0_i32_43 : BitVec 32 := 0#32
  let v88 : BitVec 1 := Scalar.cmpi .slt v84 c0_i32_43
  let v89 : BitVec 1 := Scalar.xori v87 v88
  let c0_i32_41 : BitVec 32 := 0#32
  let v86 : BitVec 1 := Scalar.cmpi .ne v85 c0_i32_41
  let v90 : BitVec 1 := Scalar.andi v89 v86
  let v91 : BitVec 32 := Scalar.addi v85 v84
  let v92 : BitVec 32 := Scalar.select v90 v91 v85
  let c0_i32_44 : BitVec 32 := 0#32
  let v93 : BitVec 1 := Scalar.cmpi .eq v92 c0_i32_44
  let c4_i32_32 : BitVec 32 := 4#32
  let c0_i32_33 : BitVec 32 := 0#32
  let v73 : BitVec 1 := Scalar.cmpi .eq c4_i32_32 c0_i32_33
  let c1_i32_34 : BitVec 32 := 1#32
  let v74 : BitVec 32 := Scalar.select v73 c1_i32_34 c4_i32_32
  let v75 : BitVec 32 := Scalar.remsi v55 v74
  let c0_i32_36 : BitVec 32 := 0#32
  let v77 : BitVec 1 := Scalar.cmpi .slt v75 c0_i32_36
  let c0_i32_37 : BitVec 32 := 0#32
  let v78 : BitVec 1 := Scalar.cmpi .slt v74 c0_i32_37
  let v79 : BitVec 1 := Scalar.xori v77 v78
  let c0_i32_35 : BitVec 32 := 0#32
  let v76 : BitVec 1 := Scalar.cmpi .ne v75 c0_i32_35
  let v80 : BitVec 1 := Scalar.andi v79 v76
  let v81 : BitVec 32 := Scalar.addi v75 v74
  let v82 : BitVec 32 := Scalar.select v80 v81 v75
  let c3_i32_45 : BitVec 32 := 3#32
  let v94 : BitVec 32 := Scalar.subi c3_i32_45 v82
  let v95 : BitVec 32 := Scalar.select v93 v82 v94
  let v96 : BitVec 32 := Scalar.muli c4_i32_46 v95
  let v97 : BitVec 32 := Scalar.addi v96 v72
  let c1_i32_80 : BitVec 32 := 1#32
  let v154 : BitVec 32 := Scalar.muli v97 c1_i32_80
  let v155 : BitVec 32 := Scalar.addi c0_i32_81 v154
  v155.toNat
def k0_off1 (d0 : Dev nD) : Fin 2 → Nat :=
  let c4_i32_112 : BitVec 32 := 4#32
  let c4_i32_17 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let v43 : BitVec 32 := Scalar.muli c4_i32_17 v12
  let c2_i32 : BitVec 32 := 2#32
  let c0_i32_11 : BitVec 32 := 0#32
  let v30 : BitVec 1 := Scalar.cmpi .eq c2_i32 c0_i32_11
  let c1_i32_12 : BitVec 32 := 1#32
  let v31 : BitVec 32 := Scalar.select v30 c1_i32_12 c2_i32
  let v32 : BitVec 32 := Scalar.remsi v12 v31
  let c0_i32_14 : BitVec 32 := 0#32
  let v34 : BitVec 1 := Scalar.cmpi .slt v32 c0_i32_14
  let c0_i32_15 : BitVec 32 := 0#32
  let v35 : BitVec 1 := Scalar.cmpi .slt v31 c0_i32_15
  let v36 : BitVec 1 := Scalar.xori v34 v35
  let c0_i32_13 : BitVec 32 := 0#32
  let v33 : BitVec 1 := Scalar.cmpi .ne v32 c0_i32_13
  let v37 : BitVec 1 := Scalar.andi v36 v33
  let v38 : BitVec 32 := Scalar.addi v32 v31
  let v39 : BitVec 32 := Scalar.select v37 v38 v32
  let c0_i32_16 : BitVec 32 := 0#32
  let v40 : BitVec 1 := Scalar.cmpi .eq v39 c0_i32_16
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c4_i32_4 : BitVec 32 := 4#32
  let c0_i32_7 : BitVec 32 := 0#32
  let v19 : BitVec 1 := Scalar.cmpi .sgt c4_i32_4 c0_i32_7
  let v20 : BitVec 32 := Scalar.extui v19
  let c0_i32_8 : BitVec 32 := 0#32
  let v21 : BitVec 1 := Scalar.cmpi .slt c4_i32_4 c0_i32_8
  let v22 : BitVec 32 := Scalar.extui v21
  let v23 : BitVec 32 := Scalar.subi v20 v22
  let v24 : BitVec 1 := Scalar.cmpi .ne v18 v23
  let v25 : BitVec 32 := Scalar.remsi v2 c4_i32_4
  let c0_i32_9 : BitVec 32 := 0#32
  let v26 : BitVec 1 := Scalar.cmpi .ne v25 c0_i32_9
  let v27 : BitVec 1 := Scalar.andi v24 v26
  let v13 : BitVec 32 := Scalar.divsi v2 c4_i32_4
  let c1_i32_10 : BitVec 32 := 1#32
  let v28 : BitVec 32 := Scalar.subi v13 c1_i32_10
  let v29 : BitVec 32 := Scalar.select v27 v28 v13
  let c3_i32 : BitVec 32 := 3#32
  let v41 : BitVec 32 := Scalar.subi c3_i32 v29
  let v42 : BitVec 32 := Scalar.select v40 v29 v41
  let v44 : BitVec 32 := Scalar.addi v43 v42
  let c1_i32_84 : BitVec 32 := 1#32
  let v159 : BitVec 32 := Scalar.subi v44 c1_i32_84
  let c16_i32_85 : BitVec 32 := 16#32
  let c0_i32_86 : BitVec 32 := 0#32
  let v160 : BitVec 1 := Scalar.cmpi .eq c16_i32_85 c0_i32_86
  let c1_i32_87 : BitVec 32 := 1#32
  let v161 : BitVec 32 := Scalar.select v160 c1_i32_87 c16_i32_85
  let v162 : BitVec 32 := Scalar.remsi v159 v161
  let c0_i32_89 : BitVec 32 := 0#32
  let v164 : BitVec 1 := Scalar.cmpi .slt v162 c0_i32_89
  let c0_i32_90 : BitVec 32 := 0#32
  let v165 : BitVec 1 := Scalar.cmpi .slt v161 c0_i32_90
  let v166 : BitVec 1 := Scalar.xori v164 v165
  let c0_i32_88 : BitVec 32 := 0#32
  let v163 : BitVec 1 := Scalar.cmpi .ne v162 c0_i32_88
  let v167 : BitVec 1 := Scalar.andi v166 v163
  let v168 : BitVec 32 := Scalar.addi v162 v161
  let v169 : BitVec 32 := Scalar.select v167 v168 v162
  let c0_i32_92 : BitVec 32 := 0#32
  let v171 : BitVec 1 := Scalar.cmpi .sgt v169 c0_i32_92
  let v172 : BitVec 32 := Scalar.extui v171
  let c0_i32_93 : BitVec 32 := 0#32
  let v173 : BitVec 1 := Scalar.cmpi .slt v169 c0_i32_93
  let v174 : BitVec 32 := Scalar.extui v173
  let v175 : BitVec 32 := Scalar.subi v172 v174
  let c4_i32_91 : BitVec 32 := 4#32
  let c0_i32_94 : BitVec 32 := 0#32
  let v176 : BitVec 1 := Scalar.cmpi .sgt c4_i32_91 c0_i32_94
  let v177 : BitVec 32 := Scalar.extui v176
  let c0_i32_95 : BitVec 32 := 0#32
  let v178 : BitVec 1 := Scalar.cmpi .slt c4_i32_91 c0_i32_95
  let v179 : BitVec 32 := Scalar.extui v178
  let v180 : BitVec 32 := Scalar.subi v177 v179
  let v181 : BitVec 1 := Scalar.cmpi .ne v175 v180
  let v182 : BitVec 32 := Scalar.remsi v169 c4_i32_91
  let c0_i32_96 : BitVec 32 := 0#32
  let v183 : BitVec 1 := Scalar.cmpi .ne v182 c0_i32_96
  let v184 : BitVec 1 := Scalar.andi v181 v183
  let v170 : BitVec 32 := Scalar.divsi v169 c4_i32_91
  let c1_i32_97 : BitVec 32 := 1#32
  let v185 : BitVec 32 := Scalar.subi v170 c1_i32_97
  let v186 : BitVec 32 := Scalar.select v184 v185 v170
  let c2_i32_104 : BitVec 32 := 2#32
  let c0_i32_105 : BitVec 32 := 0#32
  let v197 : BitVec 1 := Scalar.cmpi .eq c2_i32_104 c0_i32_105
  let c1_i32_106 : BitVec 32 := 1#32
  let v198 : BitVec 32 := Scalar.select v197 c1_i32_106 c2_i32_104
  let v199 : BitVec 32 := Scalar.remsi v186 v198
  let c0_i32_108 : BitVec 32 := 0#32
  let v201 : BitVec 1 := Scalar.cmpi .slt v199 c0_i32_108
  let c0_i32_109 : BitVec 32 := 0#32
  let v202 : BitVec 1 := Scalar.cmpi .slt v198 c0_i32_109
  let v203 : BitVec 1 := Scalar.xori v201 v202
  let c0_i32_107 : BitVec 32 := 0#32
  let v200 : BitVec 1 := Scalar.cmpi .ne v199 c0_i32_107
  let v204 : BitVec 1 := Scalar.andi v203 v200
  let v205 : BitVec 32 := Scalar.addi v199 v198
  let v206 : BitVec 32 := Scalar.select v204 v205 v199
  let c0_i32_110 : BitVec 32 := 0#32
  let v207 : BitVec 1 := Scalar.cmpi .eq v206 c0_i32_110
  let c4_i32_98 : BitVec 32 := 4#32
  let c0_i32_99 : BitVec 32 := 0#32
  let v187 : BitVec 1 := Scalar.cmpi .eq c4_i32_98 c0_i32_99
  let c1_i32_100 : BitVec 32 := 1#32
  let v188 : BitVec 32 := Scalar.select v187 c1_i32_100 c4_i32_98
  let v189 : BitVec 32 := Scalar.remsi v169 v188
  let c0_i32_102 : BitVec 32 := 0#32
  let v191 : BitVec 1 := Scalar.cmpi .slt v189 c0_i32_102
  let c0_i32_103 : BitVec 32 := 0#32
  let v192 : BitVec 1 := Scalar.cmpi .slt v188 c0_i32_103
  let v193 : BitVec 1 := Scalar.xori v191 v192
  let c0_i32_101 : BitVec 32 := 0#32
  let v190 : BitVec 1 := Scalar.cmpi .ne v189 c0_i32_101
  let v194 : BitVec 1 := Scalar.andi v193 v190
  let v195 : BitVec 32 := Scalar.addi v189 v188
  let v196 : BitVec 32 := Scalar.select v194 v195 v189
  let c3_i32_111 : BitVec 32 := 3#32
  let v208 : BitVec 32 := Scalar.subi c3_i32_111 v196
  let v209 : BitVec 32 := Scalar.select v207 v196 v208
  let v210 : BitVec 32 := Scalar.muli c4_i32_112 v209
  let v211 : BitVec 32 := Scalar.addi v210 v186
  let c256_i32 : BitVec 32 := 256#32
  let v212 : BitVec 32 := Scalar.muli v211 c256_i32
  let v213 : Index := Scalar.indexCast v212
  let c0_113 : Index := 0#32
  ![v213.toNat, 0]
def k0_off2 (d0 : Dev nD) : Fin 2 → Nat :=
  let c4_i32_180 : BitVec 32 := 4#32
  let c4_i32_17 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let v43 : BitVec 32 := Scalar.muli c4_i32_17 v12
  let c2_i32 : BitVec 32 := 2#32
  let c0_i32_11 : BitVec 32 := 0#32
  let v30 : BitVec 1 := Scalar.cmpi .eq c2_i32 c0_i32_11
  let c1_i32_12 : BitVec 32 := 1#32
  let v31 : BitVec 32 := Scalar.select v30 c1_i32_12 c2_i32
  let v32 : BitVec 32 := Scalar.remsi v12 v31
  let c0_i32_14 : BitVec 32 := 0#32
  let v34 : BitVec 1 := Scalar.cmpi .slt v32 c0_i32_14
  let c0_i32_15 : BitVec 32 := 0#32
  let v35 : BitVec 1 := Scalar.cmpi .slt v31 c0_i32_15
  let v36 : BitVec 1 := Scalar.xori v34 v35
  let c0_i32_13 : BitVec 32 := 0#32
  let v33 : BitVec 1 := Scalar.cmpi .ne v32 c0_i32_13
  let v37 : BitVec 1 := Scalar.andi v36 v33
  let v38 : BitVec 32 := Scalar.addi v32 v31
  let v39 : BitVec 32 := Scalar.select v37 v38 v32
  let c0_i32_16 : BitVec 32 := 0#32
  let v40 : BitVec 1 := Scalar.cmpi .eq v39 c0_i32_16
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c4_i32_4 : BitVec 32 := 4#32
  let c0_i32_7 : BitVec 32 := 0#32
  let v19 : BitVec 1 := Scalar.cmpi .sgt c4_i32_4 c0_i32_7
  let v20 : BitVec 32 := Scalar.extui v19
  let c0_i32_8 : BitVec 32 := 0#32
  let v21 : BitVec 1 := Scalar.cmpi .slt c4_i32_4 c0_i32_8
  let v22 : BitVec 32 := Scalar.extui v21
  let v23 : BitVec 32 := Scalar.subi v20 v22
  let v24 : BitVec 1 := Scalar.cmpi .ne v18 v23
  let v25 : BitVec 32 := Scalar.remsi v2 c4_i32_4
  let c0_i32_9 : BitVec 32 := 0#32
  let v26 : BitVec 1 := Scalar.cmpi .ne v25 c0_i32_9
  let v27 : BitVec 1 := Scalar.andi v24 v26
  let v13 : BitVec 32 := Scalar.divsi v2 c4_i32_4
  let c1_i32_10 : BitVec 32 := 1#32
  let v28 : BitVec 32 := Scalar.subi v13 c1_i32_10
  let v29 : BitVec 32 := Scalar.select v27 v28 v13
  let c3_i32 : BitVec 32 := 3#32
  let v41 : BitVec 32 := Scalar.subi c3_i32 v29
  let v42 : BitVec 32 := Scalar.select v40 v29 v41
  let v44 : BitVec 32 := Scalar.addi v43 v42
  let c1_i32_152 : BitVec 32 := 1#32
  let v287 : BitVec 32 := Scalar.addi v44 c1_i32_152
  let c16_i32_153 : BitVec 32 := 16#32
  let c0_i32_154 : BitVec 32 := 0#32
  let v288 : BitVec 1 := Scalar.cmpi .eq c16_i32_153 c0_i32_154
  let c1_i32_155 : BitVec 32 := 1#32
  let v289 : BitVec 32 := Scalar.select v288 c1_i32_155 c16_i32_153
  let v290 : BitVec 32 := Scalar.remsi v287 v289
  let c0_i32_157 : BitVec 32 := 0#32
  let v292 : BitVec 1 := Scalar.cmpi .slt v290 c0_i32_157
  let c0_i32_158 : BitVec 32 := 0#32
  let v293 : BitVec 1 := Scalar.cmpi .slt v289 c0_i32_158
  let v294 : BitVec 1 := Scalar.xori v292 v293
  let c0_i32_156 : BitVec 32 := 0#32
  let v291 : BitVec 1 := Scalar.cmpi .ne v290 c0_i32_156
  let v295 : BitVec 1 := Scalar.andi v294 v291
  let v296 : BitVec 32 := Scalar.addi v290 v289
  let v297 : BitVec 32 := Scalar.select v295 v296 v290
  let c0_i32_160 : BitVec 32 := 0#32
  let v299 : BitVec 1 := Scalar.cmpi .sgt v297 c0_i32_160
  let v300 : BitVec 32 := Scalar.extui v299
  let c0_i32_161 : BitVec 32 := 0#32
  let v301 : BitVec 1 := Scalar.cmpi .slt v297 c0_i32_161
  let v302 : BitVec 32 := Scalar.extui v301
  let v303 : BitVec 32 := Scalar.subi v300 v302
  let c4_i32_159 : BitVec 32 := 4#32
  let c0_i32_162 : BitVec 32 := 0#32
  let v304 : BitVec 1 := Scalar.cmpi .sgt c4_i32_159 c0_i32_162
  let v305 : BitVec 32 := Scalar.extui v304
  let c0_i32_163 : BitVec 32 := 0#32
  let v306 : BitVec 1 := Scalar.cmpi .slt c4_i32_159 c0_i32_163
  let v307 : BitVec 32 := Scalar.extui v306
  let v308 : BitVec 32 := Scalar.subi v305 v307
  let v309 : BitVec 1 := Scalar.cmpi .ne v303 v308
  let v310 : BitVec 32 := Scalar.remsi v297 c4_i32_159
  let c0_i32_164 : BitVec 32 := 0#32
  let v311 : BitVec 1 := Scalar.cmpi .ne v310 c0_i32_164
  let v312 : BitVec 1 := Scalar.andi v309 v311
  let v298 : BitVec 32 := Scalar.divsi v297 c4_i32_159
  let c1_i32_165 : BitVec 32 := 1#32
  let v313 : BitVec 32 := Scalar.subi v298 c1_i32_165
  let v314 : BitVec 32 := Scalar.select v312 v313 v298
  let c2_i32_172 : BitVec 32 := 2#32
  let c0_i32_173 : BitVec 32 := 0#32
  let v325 : BitVec 1 := Scalar.cmpi .eq c2_i32_172 c0_i32_173
  let c1_i32_174 : BitVec 32 := 1#32
  let v326 : BitVec 32 := Scalar.select v325 c1_i32_174 c2_i32_172
  let v327 : BitVec 32 := Scalar.remsi v314 v326
  let c0_i32_176 : BitVec 32 := 0#32
  let v329 : BitVec 1 := Scalar.cmpi .slt v327 c0_i32_176
  let c0_i32_177 : BitVec 32 := 0#32
  let v330 : BitVec 1 := Scalar.cmpi .slt v326 c0_i32_177
  let v331 : BitVec 1 := Scalar.xori v329 v330
  let c0_i32_175 : BitVec 32 := 0#32
  let v328 : BitVec 1 := Scalar.cmpi .ne v327 c0_i32_175
  let v332 : BitVec 1 := Scalar.andi v331 v328
  let v333 : BitVec 32 := Scalar.addi v327 v326
  let v334 : BitVec 32 := Scalar.select v332 v333 v327
  let c0_i32_178 : BitVec 32 := 0#32
  let v335 : BitVec 1 := Scalar.cmpi .eq v334 c0_i32_178
  let c4_i32_166 : BitVec 32 := 4#32
  let c0_i32_167 : BitVec 32 := 0#32
  let v315 : BitVec 1 := Scalar.cmpi .eq c4_i32_166 c0_i32_167
  let c1_i32_168 : BitVec 32 := 1#32
  let v316 : BitVec 32 := Scalar.select v315 c1_i32_168 c4_i32_166
  let v317 : BitVec 32 := Scalar.remsi v297 v316
  let c0_i32_170 : BitVec 32 := 0#32
  let v319 : BitVec 1 := Scalar.cmpi .slt v317 c0_i32_170
  let c0_i32_171 : BitVec 32 := 0#32
  let v320 : BitVec 1 := Scalar.cmpi .slt v316 c0_i32_171
  let v321 : BitVec 1 := Scalar.xori v319 v320
  let c0_i32_169 : BitVec 32 := 0#32
  let v318 : BitVec 1 := Scalar.cmpi .ne v317 c0_i32_169
  let v322 : BitVec 1 := Scalar.andi v321 v318
  let v323 : BitVec 32 := Scalar.addi v317 v316
  let v324 : BitVec 32 := Scalar.select v322 v323 v317
  let c3_i32_179 : BitVec 32 := 3#32
  let v336 : BitVec 32 := Scalar.subi c3_i32_179 v324
  let v337 : BitVec 32 := Scalar.select v335 v324 v336
  let v338 : BitVec 32 := Scalar.muli c4_i32_180 v337
  let v339 : BitVec 32 := Scalar.addi v338 v314
  let c256_i32_181 : BitVec 32 := 256#32
  let v340 : BitVec 32 := Scalar.muli v339 c256_i32_181
  let v341 : Index := Scalar.indexCast v340
  let c0_182 : Index := 0#32
  ![v341.toNat, 0]
def k0_dev3 (d0 : Dev nD) : Nat :=
  let c0_i32_227 : BitVec 32 := 0#32
  let c4_i32_46 : BitVec 32 := 4#32
  let c4_i32_17 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let v43 : BitVec 32 := Scalar.muli c4_i32_17 v12
  let c2_i32 : BitVec 32 := 2#32
  let c0_i32_11 : BitVec 32 := 0#32
  let v30 : BitVec 1 := Scalar.cmpi .eq c2_i32 c0_i32_11
  let c1_i32_12 : BitVec 32 := 1#32
  let v31 : BitVec 32 := Scalar.select v30 c1_i32_12 c2_i32
  let v32 : BitVec 32 := Scalar.remsi v12 v31
  let c0_i32_14 : BitVec 32 := 0#32
  let v34 : BitVec 1 := Scalar.cmpi .slt v32 c0_i32_14
  let c0_i32_15 : BitVec 32 := 0#32
  let v35 : BitVec 1 := Scalar.cmpi .slt v31 c0_i32_15
  let v36 : BitVec 1 := Scalar.xori v34 v35
  let c0_i32_13 : BitVec 32 := 0#32
  let v33 : BitVec 1 := Scalar.cmpi .ne v32 c0_i32_13
  let v37 : BitVec 1 := Scalar.andi v36 v33
  let v38 : BitVec 32 := Scalar.addi v32 v31
  let v39 : BitVec 32 := Scalar.select v37 v38 v32
  let c0_i32_16 : BitVec 32 := 0#32
  let v40 : BitVec 1 := Scalar.cmpi .eq v39 c0_i32_16
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c4_i32_4 : BitVec 32 := 4#32
  let c0_i32_7 : BitVec 32 := 0#32
  let v19 : BitVec 1 := Scalar.cmpi .sgt c4_i32_4 c0_i32_7
  let v20 : BitVec 32 := Scalar.extui v19
  let c0_i32_8 : BitVec 32 := 0#32
  let v21 : BitVec 1 := Scalar.cmpi .slt c4_i32_4 c0_i32_8
  let v22 : BitVec 32 := Scalar.extui v21
  let v23 : BitVec 32 := Scalar.subi v20 v22
  let v24 : BitVec 1 := Scalar.cmpi .ne v18 v23
  let v25 : BitVec 32 := Scalar.remsi v2 c4_i32_4
  let c0_i32_9 : BitVec 32 := 0#32
  let v26 : BitVec 1 := Scalar.cmpi .ne v25 c0_i32_9
  let v27 : BitVec 1 := Scalar.andi v24 v26
  let v13 : BitVec 32 := Scalar.divsi v2 c4_i32_4
  let c1_i32_10 : BitVec 32 := 1#32
  let v28 : BitVec 32 := Scalar.subi v13 c1_i32_10
  let v29 : BitVec 32 := Scalar.select v27 v28 v13
  let c3_i32 : BitVec 32 := 3#32
  let v41 : BitVec 32 := Scalar.subi c3_i32 v29
  let v42 : BitVec 32 := Scalar.select v40 v29 v41
  let v44 : BitVec 32 := Scalar.addi v43 v42
  let c1_i32_18 : BitVec 32 := 1#32
  let v45 : BitVec 32 := Scalar.addi v44 c1_i32_18
  let c16_i32_19 : BitVec 32 := 16#32
  let c0_i32_20 : BitVec 32 := 0#32
  let v46 : BitVec 1 := Scalar.cmpi .eq c16_i32_19 c0_i32_20
  let c1_i32_21 : BitVec 32 := 1#32
  let v47 : BitVec 32 := Scalar.select v46 c1_i32_21 c16_i32_19
  let v48 : BitVec 32 := Scalar.remsi v45 v47
  let c0_i32_23 : BitVec 32 := 0#32
  let v50 : BitVec 1 := Scalar.cmpi .slt v48 c0_i32_23
  let c0_i32_24 : BitVec 32 := 0#32
  let v51 : BitVec 1 := Scalar.cmpi .slt v47 c0_i32_24
  let v52 : BitVec 1 := Scalar.xori v50 v51
  let c0_i32_22 : BitVec 32 := 0#32
  let v49 : BitVec 1 := Scalar.cmpi .ne v48 c0_i32_22
  let v53 : BitVec 1 := Scalar.andi v52 v49
  let v54 : BitVec 32 := Scalar.addi v48 v47
  let v55 : BitVec 32 := Scalar.select v53 v54 v48
  let c0_i32_26 : BitVec 32 := 0#32
  let v57 : BitVec 1 := Scalar.cmpi .sgt v55 c0_i32_26
  let v58 : BitVec 32 := Scalar.extui v57
  let c0_i32_27 : BitVec 32 := 0#32
  let v59 : BitVec 1 := Scalar.cmpi .slt v55 c0_i32_27
  let v60 : BitVec 32 := Scalar.extui v59
  let v61 : BitVec 32 := Scalar.subi v58 v60
  let c4_i32_25 : BitVec 32 := 4#32
  let c0_i32_28 : BitVec 32 := 0#32
  let v62 : BitVec 1 := Scalar.cmpi .sgt c4_i32_25 c0_i32_28
  let v63 : BitVec 32 := Scalar.extui v62
  let c0_i32_29 : BitVec 32 := 0#32
  let v64 : BitVec 1 := Scalar.cmpi .slt c4_i32_25 c0_i32_29
  let v65 : BitVec 32 := Scalar.extui v64
  let v66 : BitVec 32 := Scalar.subi v63 v65
  let v67 : BitVec 1 := Scalar.cmpi .ne v61 v66
  let v68 : BitVec 32 := Scalar.remsi v55 c4_i32_25
  let c0_i32_30 : BitVec 32 := 0#32
  let v69 : BitVec 1 := Scalar.cmpi .ne v68 c0_i32_30
  let v70 : BitVec 1 := Scalar.andi v67 v69
  let v56 : BitVec 32 := Scalar.divsi v55 c4_i32_25
  let c1_i32_31 : BitVec 32 := 1#32
  let v71 : BitVec 32 := Scalar.subi v56 c1_i32_31
  let v72 : BitVec 32 := Scalar.select v70 v71 v56
  let c2_i32_38 : BitVec 32 := 2#32
  let c0_i32_39 : BitVec 32 := 0#32
  let v83 : BitVec 1 := Scalar.cmpi .eq c2_i32_38 c0_i32_39
  let c1_i32_40 : BitVec 32 := 1#32
  let v84 : BitVec 32 := Scalar.select v83 c1_i32_40 c2_i32_38
  let v85 : BitVec 32 := Scalar.remsi v72 v84
  let c0_i32_42 : BitVec 32 := 0#32
  let v87 : BitVec 1 := Scalar.cmpi .slt v85 c0_i32_42
  let c0_i32_43 : BitVec 32 := 0#32
  let v88 : BitVec 1 := Scalar.cmpi .slt v84 c0_i32_43
  let v89 : BitVec 1 := Scalar.xori v87 v88
  let c0_i32_41 : BitVec 32 := 0#32
  let v86 : BitVec 1 := Scalar.cmpi .ne v85 c0_i32_41
  let v90 : BitVec 1 := Scalar.andi v89 v86
  let v91 : BitVec 32 := Scalar.addi v85 v84
  let v92 : BitVec 32 := Scalar.select v90 v91 v85
  let c0_i32_44 : BitVec 32 := 0#32
  let v93 : BitVec 1 := Scalar.cmpi .eq v92 c0_i32_44
  let c4_i32_32 : BitVec 32 := 4#32
  let c0_i32_33 : BitVec 32 := 0#32
  let v73 : BitVec 1 := Scalar.cmpi .eq c4_i32_32 c0_i32_33
  let c1_i32_34 : BitVec 32 := 1#32
  let v74 : BitVec 32 := Scalar.select v73 c1_i32_34 c4_i32_32
  let v75 : BitVec 32 := Scalar.remsi v55 v74
  let c0_i32_36 : BitVec 32 := 0#32
  let v77 : BitVec 1 := Scalar.cmpi .slt v75 c0_i32_36
  let c0_i32_37 : BitVec 32 := 0#32
  let v78 : BitVec 1 := Scalar.cmpi .slt v74 c0_i32_37
  let v79 : BitVec 1 := Scalar.xori v77 v78
  let c0_i32_35 : BitVec 32 := 0#32
  let v76 : BitVec 1 := Scalar.cmpi .ne v75 c0_i32_35
  let v80 : BitVec 1 := Scalar.andi v79 v76
  let v81 : BitVec 32 := Scalar.addi v75 v74
  let v82 : BitVec 32 := Scalar.select v80 v81 v75
  let c3_i32_45 : BitVec 32 := 3#32
  let v94 : BitVec 32 := Scalar.subi c3_i32_45 v82
  let v95 : BitVec 32 := Scalar.select v93 v82 v94
  let v96 : BitVec 32 := Scalar.muli c4_i32_46 v95
  let v97 : BitVec 32 := Scalar.addi v96 v72
  let c1_i32_226 : BitVec 32 := 1#32
  let v415 : BitVec 32 := Scalar.muli v97 c1_i32_226
  let v416 : BitVec 32 := Scalar.addi c0_i32_227 v415
  v416.toNat
def k0_dev4 (d0 : Dev nD) : Nat :=
  let c0_i32_237 : BitVec 32 := 0#32
  let c4_i32_75 : BitVec 32 := 4#32
  let c4_i32_17 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let v43 : BitVec 32 := Scalar.muli c4_i32_17 v12
  let c2_i32 : BitVec 32 := 2#32
  let c0_i32_11 : BitVec 32 := 0#32
  let v30 : BitVec 1 := Scalar.cmpi .eq c2_i32 c0_i32_11
  let c1_i32_12 : BitVec 32 := 1#32
  let v31 : BitVec 32 := Scalar.select v30 c1_i32_12 c2_i32
  let v32 : BitVec 32 := Scalar.remsi v12 v31
  let c0_i32_14 : BitVec 32 := 0#32
  let v34 : BitVec 1 := Scalar.cmpi .slt v32 c0_i32_14
  let c0_i32_15 : BitVec 32 := 0#32
  let v35 : BitVec 1 := Scalar.cmpi .slt v31 c0_i32_15
  let v36 : BitVec 1 := Scalar.xori v34 v35
  let c0_i32_13 : BitVec 32 := 0#32
  let v33 : BitVec 1 := Scalar.cmpi .ne v32 c0_i32_13
  let v37 : BitVec 1 := Scalar.andi v36 v33
  let v38 : BitVec 32 := Scalar.addi v32 v31
  let v39 : BitVec 32 := Scalar.select v37 v38 v32
  let c0_i32_16 : BitVec 32 := 0#32
  let v40 : BitVec 1 := Scalar.cmpi .eq v39 c0_i32_16
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c4_i32_4 : BitVec 32 := 4#32
  let c0_i32_7 : BitVec 32 := 0#32
  let v19 : BitVec 1 := Scalar.cmpi .sgt c4_i32_4 c0_i32_7
  let v20 : BitVec 32 := Scalar.extui v19
  let c0_i32_8 : BitVec 32 := 0#32
  let v21 : BitVec 1 := Scalar.cmpi .slt c4_i32_4 c0_i32_8
  let v22 : BitVec 32 := Scalar.extui v21
  let v23 : BitVec 32 := Scalar.subi v20 v22
  let v24 : BitVec 1 := Scalar.cmpi .ne v18 v23
  let v25 : BitVec 32 := Scalar.remsi v2 c4_i32_4
  let c0_i32_9 : BitVec 32 := 0#32
  let v26 : BitVec 1 := Scalar.cmpi .ne v25 c0_i32_9
  let v27 : BitVec 1 := Scalar.andi v24 v26
  let v13 : BitVec 32 := Scalar.divsi v2 c4_i32_4
  let c1_i32_10 : BitVec 32 := 1#32
  let v28 : BitVec 32 := Scalar.subi v13 c1_i32_10
  let v29 : BitVec 32 := Scalar.select v27 v28 v13
  let c3_i32 : BitVec 32 := 3#32
  let v41 : BitVec 32 := Scalar.subi c3_i32 v29
  let v42 : BitVec 32 := Scalar.select v40 v29 v41
  let v44 : BitVec 32 := Scalar.addi v43 v42
  let c1_i32_47 : BitVec 32 := 1#32
  let v98 : BitVec 32 := Scalar.subi v44 c1_i32_47
  let c16_i32_48 : BitVec 32 := 16#32
  let c0_i32_49 : BitVec 32 := 0#32
  let v99 : BitVec 1 := Scalar.cmpi .eq c16_i32_48 c0_i32_49
  let c1_i32_50 : BitVec 32 := 1#32
  let v100 : BitVec 32 := Scalar.select v99 c1_i32_50 c16_i32_48
  let v101 : BitVec 32 := Scalar.remsi v98 v100
  let c0_i32_52 : BitVec 32 := 0#32
  let v103 : BitVec 1 := Scalar.cmpi .slt v101 c0_i32_52
  let c0_i32_53 : BitVec 32 := 0#32
  let v104 : BitVec 1 := Scalar.cmpi .slt v100 c0_i32_53
  let v105 : BitVec 1 := Scalar.xori v103 v104
  let c0_i32_51 : BitVec 32 := 0#32
  let v102 : BitVec 1 := Scalar.cmpi .ne v101 c0_i32_51
  let v106 : BitVec 1 := Scalar.andi v105 v102
  let v107 : BitVec 32 := Scalar.addi v101 v100
  let v108 : BitVec 32 := Scalar.select v106 v107 v101
  let c0_i32_55 : BitVec 32 := 0#32
  let v110 : BitVec 1 := Scalar.cmpi .sgt v108 c0_i32_55
  let v111 : BitVec 32 := Scalar.extui v110
  let c0_i32_56 : BitVec 32 := 0#32
  let v112 : BitVec 1 := Scalar.cmpi .slt v108 c0_i32_56
  let v113 : BitVec 32 := Scalar.extui v112
  let v114 : BitVec 32 := Scalar.subi v111 v113
  let c4_i32_54 : BitVec 32 := 4#32
  let c0_i32_57 : BitVec 32 := 0#32
  let v115 : BitVec 1 := Scalar.cmpi .sgt c4_i32_54 c0_i32_57
  let v116 : BitVec 32 := Scalar.extui v115
  let c0_i32_58 : BitVec 32 := 0#32
  let v117 : BitVec 1 := Scalar.cmpi .slt c4_i32_54 c0_i32_58
  let v118 : BitVec 32 := Scalar.extui v117
  let v119 : BitVec 32 := Scalar.subi v116 v118
  let v120 : BitVec 1 := Scalar.cmpi .ne v114 v119
  let v121 : BitVec 32 := Scalar.remsi v108 c4_i32_54
  let c0_i32_59 : BitVec 32 := 0#32
  let v122 : BitVec 1 := Scalar.cmpi .ne v121 c0_i32_59
  let v123 : BitVec 1 := Scalar.andi v120 v122
  let v109 : BitVec 32 := Scalar.divsi v108 c4_i32_54
  let c1_i32_60 : BitVec 32 := 1#32
  let v124 : BitVec 32 := Scalar.subi v109 c1_i32_60
  let v125 : BitVec 32 := Scalar.select v123 v124 v109
  let c2_i32_67 : BitVec 32 := 2#32
  let c0_i32_68 : BitVec 32 := 0#32
  let v136 : BitVec 1 := Scalar.cmpi .eq c2_i32_67 c0_i32_68
  let c1_i32_69 : BitVec 32 := 1#32
  let v137 : BitVec 32 := Scalar.select v136 c1_i32_69 c2_i32_67
  let v138 : BitVec 32 := Scalar.remsi v125 v137
  let c0_i32_71 : BitVec 32 := 0#32
  let v140 : BitVec 1 := Scalar.cmpi .slt v138 c0_i32_71
  let c0_i32_72 : BitVec 32 := 0#32
  let v141 : BitVec 1 := Scalar.cmpi .slt v137 c0_i32_72
  let v142 : BitVec 1 := Scalar.xori v140 v141
  let c0_i32_70 : BitVec 32 := 0#32
  let v139 : BitVec 1 := Scalar.cmpi .ne v138 c0_i32_70
  let v143 : BitVec 1 := Scalar.andi v142 v139
  let v144 : BitVec 32 := Scalar.addi v138 v137
  let v145 : BitVec 32 := Scalar.select v143 v144 v138
  let c0_i32_73 : BitVec 32 := 0#32
  let v146 : BitVec 1 := Scalar.cmpi .eq v145 c0_i32_73
  let c4_i32_61 : BitVec 32 := 4#32
  let c0_i32_62 : BitVec 32 := 0#32
  let v126 : BitVec 1 := Scalar.cmpi .eq c4_i32_61 c0_i32_62
  let c1_i32_63 : BitVec 32 := 1#32
  let v127 : BitVec 32 := Scalar.select v126 c1_i32_63 c4_i32_61
  let v128 : BitVec 32 := Scalar.remsi v108 v127
  let c0_i32_65 : BitVec 32 := 0#32
  let v130 : BitVec 1 := Scalar.cmpi .slt v128 c0_i32_65
  let c0_i32_66 : BitVec 32 := 0#32
  let v131 : BitVec 1 := Scalar.cmpi .slt v127 c0_i32_66
  let v132 : BitVec 1 := Scalar.xori v130 v131
  let c0_i32_64 : BitVec 32 := 0#32
  let v129 : BitVec 1 := Scalar.cmpi .ne v128 c0_i32_64
  let v133 : BitVec 1 := Scalar.andi v132 v129
  let v134 : BitVec 32 := Scalar.addi v128 v127
  let v135 : BitVec 32 := Scalar.select v133 v134 v128
  let c3_i32_74 : BitVec 32 := 3#32
  let v147 : BitVec 32 := Scalar.subi c3_i32_74 v135
  let v148 : BitVec 32 := Scalar.select v146 v135 v147
  let v149 : BitVec 32 := Scalar.muli c4_i32_75 v148
  let v150 : BitVec 32 := Scalar.addi v149 v125
  let c1_i32_236 : BitVec 32 := 1#32
  let v425 : BitVec 32 := Scalar.muli v150 c1_i32_236
  let v426 : BitVec 32 := Scalar.addi c0_i32_237 v425
  v426.toNat
def k0_dev5 (d0 : Dev nD) : Nat :=
  let c0_i32_247 : BitVec 32 := 0#32
  let c4_i32_46 : BitVec 32 := 4#32
  let c4_i32_17 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let v43 : BitVec 32 := Scalar.muli c4_i32_17 v12
  let c2_i32 : BitVec 32 := 2#32
  let c0_i32_11 : BitVec 32 := 0#32
  let v30 : BitVec 1 := Scalar.cmpi .eq c2_i32 c0_i32_11
  let c1_i32_12 : BitVec 32 := 1#32
  let v31 : BitVec 32 := Scalar.select v30 c1_i32_12 c2_i32
  let v32 : BitVec 32 := Scalar.remsi v12 v31
  let c0_i32_14 : BitVec 32 := 0#32
  let v34 : BitVec 1 := Scalar.cmpi .slt v32 c0_i32_14
  let c0_i32_15 : BitVec 32 := 0#32
  let v35 : BitVec 1 := Scalar.cmpi .slt v31 c0_i32_15
  let v36 : BitVec 1 := Scalar.xori v34 v35
  let c0_i32_13 : BitVec 32 := 0#32
  let v33 : BitVec 1 := Scalar.cmpi .ne v32 c0_i32_13
  let v37 : BitVec 1 := Scalar.andi v36 v33
  let v38 : BitVec 32 := Scalar.addi v32 v31
  let v39 : BitVec 32 := Scalar.select v37 v38 v32
  let c0_i32_16 : BitVec 32 := 0#32
  let v40 : BitVec 1 := Scalar.cmpi .eq v39 c0_i32_16
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c4_i32_4 : BitVec 32 := 4#32
  let c0_i32_7 : BitVec 32 := 0#32
  let v19 : BitVec 1 := Scalar.cmpi .sgt c4_i32_4 c0_i32_7
  let v20 : BitVec 32 := Scalar.extui v19
  let c0_i32_8 : BitVec 32 := 0#32
  let v21 : BitVec 1 := Scalar.cmpi .slt c4_i32_4 c0_i32_8
  let v22 : BitVec 32 := Scalar.extui v21
  let v23 : BitVec 32 := Scalar.subi v20 v22
  let v24 : BitVec 1 := Scalar.cmpi .ne v18 v23
  let v25 : BitVec 32 := Scalar.remsi v2 c4_i32_4
  let c0_i32_9 : BitVec 32 := 0#32
  let v26 : BitVec 1 := Scalar.cmpi .ne v25 c0_i32_9
  let v27 : BitVec 1 := Scalar.andi v24 v26
  let v13 : BitVec 32 := Scalar.divsi v2 c4_i32_4
  let c1_i32_10 : BitVec 32 := 1#32
  let v28 : BitVec 32 := Scalar.subi v13 c1_i32_10
  let v29 : BitVec 32 := Scalar.select v27 v28 v13
  let c3_i32 : BitVec 32 := 3#32
  let v41 : BitVec 32 := Scalar.subi c3_i32 v29
  let v42 : BitVec 32 := Scalar.select v40 v29 v41
  let v44 : BitVec 32 := Scalar.addi v43 v42
  let c1_i32_18 : BitVec 32 := 1#32
  let v45 : BitVec 32 := Scalar.addi v44 c1_i32_18
  let c16_i32_19 : BitVec 32 := 16#32
  let c0_i32_20 : BitVec 32 := 0#32
  let v46 : BitVec 1 := Scalar.cmpi .eq c16_i32_19 c0_i32_20
  let c1_i32_21 : BitVec 32 := 1#32
  let v47 : BitVec 32 := Scalar.select v46 c1_i32_21 c16_i32_19
  let v48 : BitVec 32 := Scalar.remsi v45 v47
  let c0_i32_23 : BitVec 32 := 0#32
  let v50 : BitVec 1 := Scalar.cmpi .slt v48 c0_i32_23
  let c0_i32_24 : BitVec 32 := 0#32
  let v51 : BitVec 1 := Scalar.cmpi .slt v47 c0_i32_24
  let v52 : BitVec 1 := Scalar.xori v50 v51
  let c0_i32_22 : BitVec 32 := 0#32
  let v49 : BitVec 1 := Scalar.cmpi .ne v48 c0_i32_22
  let v53 : BitVec 1 := Scalar.andi v52 v49
  let v54 : BitVec 32 := Scalar.addi v48 v47
  let v55 : BitVec 32 := Scalar.select v53 v54 v48
  let c0_i32_26 : BitVec 32 := 0#32
  let v57 : BitVec 1 := Scalar.cmpi .sgt v55 c0_i32_26
  let v58 : BitVec 32 := Scalar.extui v57
  let c0_i32_27 : BitVec 32 := 0#32
  let v59 : BitVec 1 := Scalar.cmpi .slt v55 c0_i32_27
  let v60 : BitVec 32 := Scalar.extui v59
  let v61 : BitVec 32 := Scalar.subi v58 v60
  let c4_i32_25 : BitVec 32 := 4#32
  let c0_i32_28 : BitVec 32 := 0#32
  let v62 : BitVec 1 := Scalar.cmpi .sgt c4_i32_25 c0_i32_28
  let v63 : BitVec 32 := Scalar.extui v62
  let c0_i32_29 : BitVec 32 := 0#32
  let v64 : BitVec 1 := Scalar.cmpi .slt c4_i32_25 c0_i32_29
  let v65 : BitVec 32 := Scalar.extui v64
  let v66 : BitVec 32 := Scalar.subi v63 v65
  let v67 : BitVec 1 := Scalar.cmpi .ne v61 v66
  let v68 : BitVec 32 := Scalar.remsi v55 c4_i32_25
  let c0_i32_30 : BitVec 32 := 0#32
  let v69 : BitVec 1 := Scalar.cmpi .ne v68 c0_i32_30
  let v70 : BitVec 1 := Scalar.andi v67 v69
  let v56 : BitVec 32 := Scalar.divsi v55 c4_i32_25
  let c1_i32_31 : BitVec 32 := 1#32
  let v71 : BitVec 32 := Scalar.subi v56 c1_i32_31
  let v72 : BitVec 32 := Scalar.select v70 v71 v56
  let c2_i32_38 : BitVec 32 := 2#32
  let c0_i32_39 : BitVec 32 := 0#32
  let v83 : BitVec 1 := Scalar.cmpi .eq c2_i32_38 c0_i32_39
  let c1_i32_40 : BitVec 32 := 1#32
  let v84 : BitVec 32 := Scalar.select v83 c1_i32_40 c2_i32_38
  let v85 : BitVec 32 := Scalar.remsi v72 v84
  let c0_i32_42 : BitVec 32 := 0#32
  let v87 : BitVec 1 := Scalar.cmpi .slt v85 c0_i32_42
  let c0_i32_43 : BitVec 32 := 0#32
  let v88 : BitVec 1 := Scalar.cmpi .slt v84 c0_i32_43
  let v89 : BitVec 1 := Scalar.xori v87 v88
  let c0_i32_41 : BitVec 32 := 0#32
  let v86 : BitVec 1 := Scalar.cmpi .ne v85 c0_i32_41
  let v90 : BitVec 1 := Scalar.andi v89 v86
  let v91 : BitVec 32 := Scalar.addi v85 v84
  let v92 : BitVec 32 := Scalar.select v90 v91 v85
  let c0_i32_44 : BitVec 32 := 0#32
  let v93 : BitVec 1 := Scalar.cmpi .eq v92 c0_i32_44
  let c4_i32_32 : BitVec 32 := 4#32
  let c0_i32_33 : BitVec 32 := 0#32
  let v73 : BitVec 1 := Scalar.cmpi .eq c4_i32_32 c0_i32_33
  let c1_i32_34 : BitVec 32 := 1#32
  let v74 : BitVec 32 := Scalar.select v73 c1_i32_34 c4_i32_32
  let v75 : BitVec 32 := Scalar.remsi v55 v74
  let c0_i32_36 : BitVec 32 := 0#32
  let v77 : BitVec 1 := Scalar.cmpi .slt v75 c0_i32_36
  let c0_i32_37 : BitVec 32 := 0#32
  let v78 : BitVec 1 := Scalar.cmpi .slt v74 c0_i32_37
  let v79 : BitVec 1 := Scalar.xori v77 v78
  let c0_i32_35 : BitVec 32 := 0#32
  let v76 : BitVec 1 := Scalar.cmpi .ne v75 c0_i32_35
  let v80 : BitVec 1 := Scalar.andi v79 v76
  let v81 : BitVec 32 := Scalar.addi v75 v74
  let v82 : BitVec 32 := Scalar.select v80 v81 v75
  let c3_i32_45 : BitVec 32 := 3#32
  let v94 : BitVec 32 := Scalar.subi c3_i32_45 v82
  let v95 : BitVec 32 := Scalar.select v93 v82 v94
  let v96 : BitVec 32 := Scalar.muli c4_i32_46 v95
  let v97 : BitVec 32 := Scalar.addi v96 v72
  let c1_i32_246 : BitVec 32 := 1#32
  let v435 : BitVec 32 := Scalar.muli v97 c1_i32_246
  let v436 : BitVec 32 := Scalar.addi c0_i32_247 v435
  v436.toNat
def k0_dev6 (d0 : Dev nD) : Nat :=
  let c0_i32_257 : BitVec 32 := 0#32
  let c4_i32_75 : BitVec 32 := 4#32
  let c4_i32_17 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let v43 : BitVec 32 := Scalar.muli c4_i32_17 v12
  let c2_i32 : BitVec 32 := 2#32
  let c0_i32_11 : BitVec 32 := 0#32
  let v30 : BitVec 1 := Scalar.cmpi .eq c2_i32 c0_i32_11
  let c1_i32_12 : BitVec 32 := 1#32
  let v31 : BitVec 32 := Scalar.select v30 c1_i32_12 c2_i32
  let v32 : BitVec 32 := Scalar.remsi v12 v31
  let c0_i32_14 : BitVec 32 := 0#32
  let v34 : BitVec 1 := Scalar.cmpi .slt v32 c0_i32_14
  let c0_i32_15 : BitVec 32 := 0#32
  let v35 : BitVec 1 := Scalar.cmpi .slt v31 c0_i32_15
  let v36 : BitVec 1 := Scalar.xori v34 v35
  let c0_i32_13 : BitVec 32 := 0#32
  let v33 : BitVec 1 := Scalar.cmpi .ne v32 c0_i32_13
  let v37 : BitVec 1 := Scalar.andi v36 v33
  let v38 : BitVec 32 := Scalar.addi v32 v31
  let v39 : BitVec 32 := Scalar.select v37 v38 v32
  let c0_i32_16 : BitVec 32 := 0#32
  let v40 : BitVec 1 := Scalar.cmpi .eq v39 c0_i32_16
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c4_i32_4 : BitVec 32 := 4#32
  let c0_i32_7 : BitVec 32 := 0#32
  let v19 : BitVec 1 := Scalar.cmpi .sgt c4_i32_4 c0_i32_7
  let v20 : BitVec 32 := Scalar.extui v19
  let c0_i32_8 : BitVec 32 := 0#32
  let v21 : BitVec 1 := Scalar.cmpi .slt c4_i32_4 c0_i32_8
  let v22 : BitVec 32 := Scalar.extui v21
  let v23 : BitVec 32 := Scalar.subi v20 v22
  let v24 : BitVec 1 := Scalar.cmpi .ne v18 v23
  let v25 : BitVec 32 := Scalar.remsi v2 c4_i32_4
  let c0_i32_9 : BitVec 32 := 0#32
  let v26 : BitVec 1 := Scalar.cmpi .ne v25 c0_i32_9
  let v27 : BitVec 1 := Scalar.andi v24 v26
  let v13 : BitVec 32 := Scalar.divsi v2 c4_i32_4
  let c1_i32_10 : BitVec 32 := 1#32
  let v28 : BitVec 32 := Scalar.subi v13 c1_i32_10
  let v29 : BitVec 32 := Scalar.select v27 v28 v13
  let c3_i32 : BitVec 32 := 3#32
  let v41 : BitVec 32 := Scalar.subi c3_i32 v29
  let v42 : BitVec 32 := Scalar.select v40 v29 v41
  let v44 : BitVec 32 := Scalar.addi v43 v42
  let c1_i32_47 : BitVec 32 := 1#32
  let v98 : BitVec 32 := Scalar.subi v44 c1_i32_47
  let c16_i32_48 : BitVec 32 := 16#32
  let c0_i32_49 : BitVec 32 := 0#32
  let v99 : BitVec 1 := Scalar.cmpi .eq c16_i32_48 c0_i32_49
  let c1_i32_50 : BitVec 32 := 1#32
  let v100 : BitVec 32 := Scalar.select v99 c1_i32_50 c16_i32_48
  let v101 : BitVec 32 := Scalar.remsi v98 v100
  let c0_i32_52 : BitVec 32 := 0#32
  let v103 : BitVec 1 := Scalar.cmpi .slt v101 c0_i32_52
  let c0_i32_53 : BitVec 32 := 0#32
  let v104 : BitVec 1 := Scalar.cmpi .slt v100 c0_i32_53
  let v105 : BitVec 1 := Scalar.xori v103 v104
  let c0_i32_51 : BitVec 32 := 0#32
  let v102 : BitVec 1 := Scalar.cmpi .ne v101 c0_i32_51
  let v106 : BitVec 1 := Scalar.andi v105 v102
  let v107 : BitVec 32 := Scalar.addi v101 v100
  let v108 : BitVec 32 := Scalar.select v106 v107 v101
  let c0_i32_55 : BitVec 32 := 0#32
  let v110 : BitVec 1 := Scalar.cmpi .sgt v108 c0_i32_55
  let v111 : BitVec 32 := Scalar.extui v110
  let c0_i32_56 : BitVec 32 := 0#32
  let v112 : BitVec 1 := Scalar.cmpi .slt v108 c0_i32_56
  let v113 : BitVec 32 := Scalar.extui v112
  let v114 : BitVec 32 := Scalar.subi v111 v113
  let c4_i32_54 : BitVec 32 := 4#32
  let c0_i32_57 : BitVec 32 := 0#32
  let v115 : BitVec 1 := Scalar.cmpi .sgt c4_i32_54 c0_i32_57
  let v116 : BitVec 32 := Scalar.extui v115
  let c0_i32_58 : BitVec 32 := 0#32
  let v117 : BitVec 1 := Scalar.cmpi .slt c4_i32_54 c0_i32_58
  let v118 : BitVec 32 := Scalar.extui v117
  let v119 : BitVec 32 := Scalar.subi v116 v118
  let v120 : BitVec 1 := Scalar.cmpi .ne v114 v119
  let v121 : BitVec 32 := Scalar.remsi v108 c4_i32_54
  let c0_i32_59 : BitVec 32 := 0#32
  let v122 : BitVec 1 := Scalar.cmpi .ne v121 c0_i32_59
  let v123 : BitVec 1 := Scalar.andi v120 v122
  let v109 : BitVec 32 := Scalar.divsi v108 c4_i32_54
  let c1_i32_60 : BitVec 32 := 1#32
  let v124 : BitVec 32 := Scalar.subi v109 c1_i32_60
  let v125 : BitVec 32 := Scalar.select v123 v124 v109
  let c2_i32_67 : BitVec 32 := 2#32
  let c0_i32_68 : BitVec 32 := 0#32
  let v136 : BitVec 1 := Scalar.cmpi .eq c2_i32_67 c0_i32_68
  let c1_i32_69 : BitVec 32 := 1#32
  let v137 : BitVec 32 := Scalar.select v136 c1_i32_69 c2_i32_67
  let v138 : BitVec 32 := Scalar.remsi v125 v137
  let c0_i32_71 : BitVec 32 := 0#32
  let v140 : BitVec 1 := Scalar.cmpi .slt v138 c0_i32_71
  let c0_i32_72 : BitVec 32 := 0#32
  let v141 : BitVec 1 := Scalar.cmpi .slt v137 c0_i32_72
  let v142 : BitVec 1 := Scalar.xori v140 v141
  let c0_i32_70 : BitVec 32 := 0#32
  let v139 : BitVec 1 := Scalar.cmpi .ne v138 c0_i32_70
  let v143 : BitVec 1 := Scalar.andi v142 v139
  let v144 : BitVec 32 := Scalar.addi v138 v137
  let v145 : BitVec 32 := Scalar.select v143 v144 v138
  let c0_i32_73 : BitVec 32 := 0#32
  let v146 : BitVec 1 := Scalar.cmpi .eq v145 c0_i32_73
  let c4_i32_61 : BitVec 32 := 4#32
  let c0_i32_62 : BitVec 32 := 0#32
  let v126 : BitVec 1 := Scalar.cmpi .eq c4_i32_61 c0_i32_62
  let c1_i32_63 : BitVec 32 := 1#32
  let v127 : BitVec 32 := Scalar.select v126 c1_i32_63 c4_i32_61
  let v128 : BitVec 32 := Scalar.remsi v108 v127
  let c0_i32_65 : BitVec 32 := 0#32
  let v130 : BitVec 1 := Scalar.cmpi .slt v128 c0_i32_65
  let c0_i32_66 : BitVec 32 := 0#32
  let v131 : BitVec 1 := Scalar.cmpi .slt v127 c0_i32_66
  let v132 : BitVec 1 := Scalar.xori v130 v131
  let c0_i32_64 : BitVec 32 := 0#32
  let v129 : BitVec 1 := Scalar.cmpi .ne v128 c0_i32_64
  let v133 : BitVec 1 := Scalar.andi v132 v129
  let v134 : BitVec 32 := Scalar.addi v128 v127
  let v135 : BitVec 32 := Scalar.select v133 v134 v128
  let c3_i32_74 : BitVec 32 := 3#32
  let v147 : BitVec 32 := Scalar.subi c3_i32_74 v135
  let v148 : BitVec 32 := Scalar.select v146 v135 v147
  let v149 : BitVec 32 := Scalar.muli c4_i32_75 v148
  let v150 : BitVec 32 := Scalar.addi v149 v125
  let c1_i32_256 : BitVec 32 := 1#32
  let v445 : BitVec 32 := Scalar.muli v150 c1_i32_256
  let v446 : BitVec 32 := Scalar.addi c0_i32_257 v445
  v446.toNat
def k0_off3 (d0 : Dev nD) (c0_i32_262 : BitVec 32) : Fin 2 → Nat :=
  let c4_i32_291 : BitVec 32 := 4#32
  let c4_i32_17 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let v43 : BitVec 32 := Scalar.muli c4_i32_17 v12
  let c2_i32 : BitVec 32 := 2#32
  let c0_i32_11 : BitVec 32 := 0#32
  let v30 : BitVec 1 := Scalar.cmpi .eq c2_i32 c0_i32_11
  let c1_i32_12 : BitVec 32 := 1#32
  let v31 : BitVec 32 := Scalar.select v30 c1_i32_12 c2_i32
  let v32 : BitVec 32 := Scalar.remsi v12 v31
  let c0_i32_14 : BitVec 32 := 0#32
  let v34 : BitVec 1 := Scalar.cmpi .slt v32 c0_i32_14
  let c0_i32_15 : BitVec 32 := 0#32
  let v35 : BitVec 1 := Scalar.cmpi .slt v31 c0_i32_15
  let v36 : BitVec 1 := Scalar.xori v34 v35
  let c0_i32_13 : BitVec 32 := 0#32
  let v33 : BitVec 1 := Scalar.cmpi .ne v32 c0_i32_13
  let v37 : BitVec 1 := Scalar.andi v36 v33
  let v38 : BitVec 32 := Scalar.addi v32 v31
  let v39 : BitVec 32 := Scalar.select v37 v38 v32
  let c0_i32_16 : BitVec 32 := 0#32
  let v40 : BitVec 1 := Scalar.cmpi .eq v39 c0_i32_16
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c4_i32_4 : BitVec 32 := 4#32
  let c0_i32_7 : BitVec 32 := 0#32
  let v19 : BitVec 1 := Scalar.cmpi .sgt c4_i32_4 c0_i32_7
  let v20 : BitVec 32 := Scalar.extui v19
  let c0_i32_8 : BitVec 32 := 0#32
  let v21 : BitVec 1 := Scalar.cmpi .slt c4_i32_4 c0_i32_8
  let v22 : BitVec 32 := Scalar.extui v21
  let v23 : BitVec 32 := Scalar.subi v20 v22
  let v24 : BitVec 1 := Scalar.cmpi .ne v18 v23
  let v25 : BitVec 32 := Scalar.remsi v2 c4_i32_4
  let c0_i32_9 : BitVec 32 := 0#32
  let v26 : BitVec 1 := Scalar.cmpi .ne v25 c0_i32_9
  let v27 : BitVec 1 := Scalar.andi v24 v26
  let v13 : BitVec 32 := Scalar.divsi v2 c4_i32_4
  let c1_i32_10 : BitVec 32 := 1#32
  let v28 : BitVec 32 := Scalar.subi v13 c1_i32_10
  let v29 : BitVec 32 := Scalar.select v27 v28 v13
  let c3_i32 : BitVec 32 := 3#32
  let v41 : BitVec 32 := Scalar.subi c3_i32 v29
  let v42 : BitVec 32 := Scalar.select v40 v29 v41
  let v44 : BitVec 32 := Scalar.addi v43 v42
  let v455 : BitVec 32 := Scalar.subi v44 c0_i32_262
  let c2_i32_263 : BitVec 32 := 2#32
  let v456 : BitVec 32 := Scalar.subi v455 c2_i32_263
  let c16_i32_264 : BitVec 32 := 16#32
  let c0_i32_265 : BitVec 32 := 0#32
  let v457 : BitVec 1 := Scalar.cmpi .eq c16_i32_264 c0_i32_265
  let c1_i32_266 : BitVec 32 := 1#32
  let v458 : BitVec 32 := Scalar.select v457 c1_i32_266 c16_i32_264
  let v459 : BitVec 32 := Scalar.remsi v456 v458
  let c0_i32_268 : BitVec 32 := 0#32
  let v461 : BitVec 1 := Scalar.cmpi .slt v459 c0_i32_268
  let c0_i32_269 : BitVec 32 := 0#32
  let v462 : BitVec 1 := Scalar.cmpi .slt v458 c0_i32_269
  let v463 : BitVec 1 := Scalar.xori v461 v462
  let c0_i32_267 : BitVec 32 := 0#32
  let v460 : BitVec 1 := Scalar.cmpi .ne v459 c0_i32_267
  let v464 : BitVec 1 := Scalar.andi v463 v460
  let v465 : BitVec 32 := Scalar.addi v459 v458
  let v466 : BitVec 32 := Scalar.select v464 v465 v459
  let c0_i32_271 : BitVec 32 := 0#32
  let v468 : BitVec 1 := Scalar.cmpi .sgt v466 c0_i32_271
  let v469 : BitVec 32 := Scalar.extui v468
  let c0_i32_272 : BitVec 32 := 0#32
  let v470 : BitVec 1 := Scalar.cmpi .slt v466 c0_i32_272
  let v471 : BitVec 32 := Scalar.extui v470
  let v472 : BitVec 32 := Scalar.subi v469 v471
  let c4_i32_270 : BitVec 32 := 4#32
  let c0_i32_273 : BitVec 32 := 0#32
  let v473 : BitVec 1 := Scalar.cmpi .sgt c4_i32_270 c0_i32_273
  let v474 : BitVec 32 := Scalar.extui v473
  let c0_i32_274 : BitVec 32 := 0#32
  let v475 : BitVec 1 := Scalar.cmpi .slt c4_i32_270 c0_i32_274
  let v476 : BitVec 32 := Scalar.extui v475
  let v477 : BitVec 32 := Scalar.subi v474 v476
  let v478 : BitVec 1 := Scalar.cmpi .ne v472 v477
  let v479 : BitVec 32 := Scalar.remsi v466 c4_i32_270
  let c0_i32_275 : BitVec 32 := 0#32
  let v480 : BitVec 1 := Scalar.cmpi .ne v479 c0_i32_275
  let v481 : BitVec 1 := Scalar.andi v478 v480
  let v467 : BitVec 32 := Scalar.divsi v466 c4_i32_270
  let c1_i32_276 : BitVec 32 := 1#32
  let v482 : BitVec 32 := Scalar.subi v467 c1_i32_276
  let v483 : BitVec 32 := Scalar.select v481 v482 v467
  let c2_i32_283 : BitVec 32 := 2#32
  let c0_i32_284 : BitVec 32 := 0#32
  let v494 : BitVec 1 := Scalar.cmpi .eq c2_i32_283 c0_i32_284
  let c1_i32_285 : BitVec 32 := 1#32
  let v495 : BitVec 32 := Scalar.select v494 c1_i32_285 c2_i32_283
  let v496 : BitVec 32 := Scalar.remsi v483 v495
  let c0_i32_287 : BitVec 32 := 0#32
  let v498 : BitVec 1 := Scalar.cmpi .slt v496 c0_i32_287
  let c0_i32_288 : BitVec 32 := 0#32
  let v499 : BitVec 1 := Scalar.cmpi .slt v495 c0_i32_288
  let v500 : BitVec 1 := Scalar.xori v498 v499
  let c0_i32_286 : BitVec 32 := 0#32
  let v497 : BitVec 1 := Scalar.cmpi .ne v496 c0_i32_286
  let v501 : BitVec 1 := Scalar.andi v500 v497
  let v502 : BitVec 32 := Scalar.addi v496 v495
  let v503 : BitVec 32 := Scalar.select v501 v502 v496
  let c0_i32_289 : BitVec 32 := 0#32
  let v504 : BitVec 1 := Scalar.cmpi .eq v503 c0_i32_289
  let c4_i32_277 : BitVec 32 := 4#32
  let c0_i32_278 : BitVec 32 := 0#32
  let v484 : BitVec 1 := Scalar.cmpi .eq c4_i32_277 c0_i32_278
  let c1_i32_279 : BitVec 32 := 1#32
  let v485 : BitVec 32 := Scalar.select v484 c1_i32_279 c4_i32_277
  let v486 : BitVec 32 := Scalar.remsi v466 v485
  let c0_i32_281 : BitVec 32 := 0#32
  let v488 : BitVec 1 := Scalar.cmpi .slt v486 c0_i32_281
  let c0_i32_282 : BitVec 32 := 0#32
  let v489 : BitVec 1 := Scalar.cmpi .slt v485 c0_i32_282
  let v490 : BitVec 1 := Scalar.xori v488 v489
  let c0_i32_280 : BitVec 32 := 0#32
  let v487 : BitVec 1 := Scalar.cmpi .ne v486 c0_i32_280
  let v491 : BitVec 1 := Scalar.andi v490 v487
  let v492 : BitVec 32 := Scalar.addi v486 v485
  let v493 : BitVec 32 := Scalar.select v491 v492 v486
  let c3_i32_290 : BitVec 32 := 3#32
  let v505 : BitVec 32 := Scalar.subi c3_i32_290 v493
  let v506 : BitVec 32 := Scalar.select v504 v493 v505
  let v507 : BitVec 32 := Scalar.muli c4_i32_291 v506
  let v508 : BitVec 32 := Scalar.addi v507 v483
  let c256_i32_292 : BitVec 32 := 256#32
  let v509 : BitVec 32 := Scalar.muli v508 c256_i32_292
  let v510 : Index := Scalar.indexCast v509
  let c0_293 : Index := 0#32
  ![v510.toNat, 0]
def k0_off4 (d0 : Dev nD) (c0_i32_328 : BitVec 32) : Fin 2 → Nat :=
  let c4_i32_357 : BitVec 32 := 4#32
  let c4_i32_17 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let v43 : BitVec 32 := Scalar.muli c4_i32_17 v12
  let c2_i32 : BitVec 32 := 2#32
  let c0_i32_11 : BitVec 32 := 0#32
  let v30 : BitVec 1 := Scalar.cmpi .eq c2_i32 c0_i32_11
  let c1_i32_12 : BitVec 32 := 1#32
  let v31 : BitVec 32 := Scalar.select v30 c1_i32_12 c2_i32
  let v32 : BitVec 32 := Scalar.remsi v12 v31
  let c0_i32_14 : BitVec 32 := 0#32
  let v34 : BitVec 1 := Scalar.cmpi .slt v32 c0_i32_14
  let c0_i32_15 : BitVec 32 := 0#32
  let v35 : BitVec 1 := Scalar.cmpi .slt v31 c0_i32_15
  let v36 : BitVec 1 := Scalar.xori v34 v35
  let c0_i32_13 : BitVec 32 := 0#32
  let v33 : BitVec 1 := Scalar.cmpi .ne v32 c0_i32_13
  let v37 : BitVec 1 := Scalar.andi v36 v33
  let v38 : BitVec 32 := Scalar.addi v32 v31
  let v39 : BitVec 32 := Scalar.select v37 v38 v32
  let c0_i32_16 : BitVec 32 := 0#32
  let v40 : BitVec 1 := Scalar.cmpi .eq v39 c0_i32_16
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c4_i32_4 : BitVec 32 := 4#32
  let c0_i32_7 : BitVec 32 := 0#32
  let v19 : BitVec 1 := Scalar.cmpi .sgt c4_i32_4 c0_i32_7
  let v20 : BitVec 32 := Scalar.extui v19
  let c0_i32_8 : BitVec 32 := 0#32
  let v21 : BitVec 1 := Scalar.cmpi .slt c4_i32_4 c0_i32_8
  let v22 : BitVec 32 := Scalar.extui v21
  let v23 : BitVec 32 := Scalar.subi v20 v22
  let v24 : BitVec 1 := Scalar.cmpi .ne v18 v23
  let v25 : BitVec 32 := Scalar.remsi v2 c4_i32_4
  let c0_i32_9 : BitVec 32 := 0#32
  let v26 : BitVec 1 := Scalar.cmpi .ne v25 c0_i32_9
  let v27 : BitVec 1 := Scalar.andi v24 v26
  let v13 : BitVec 32 := Scalar.divsi v2 c4_i32_4
  let c1_i32_10 : BitVec 32 := 1#32
  let v28 : BitVec 32 := Scalar.subi v13 c1_i32_10
  let v29 : BitVec 32 := Scalar.select v27 v28 v13
  let c3_i32 : BitVec 32 := 3#32
  let v41 : BitVec 32 := Scalar.subi c3_i32 v29
  let v42 : BitVec 32 := Scalar.select v40 v29 v41
  let v44 : BitVec 32 := Scalar.addi v43 v42
  let v577 : BitVec 32 := Scalar.addi v44 c0_i32_328
  let c2_i32_329 : BitVec 32 := 2#32
  let v578 : BitVec 32 := Scalar.addi v577 c2_i32_329
  let c16_i32_330 : BitVec 32 := 16#32
  let c0_i32_331 : BitVec 32 := 0#32
  let v579 : BitVec 1 := Scalar.cmpi .eq c16_i32_330 c0_i32_331
  let c1_i32_332 : BitVec 32 := 1#32
  let v580 : BitVec 32 := Scalar.select v579 c1_i32_332 c16_i32_330
  let v581 : BitVec 32 := Scalar.remsi v578 v580
  let c0_i32_334 : BitVec 32 := 0#32
  let v583 : BitVec 1 := Scalar.cmpi .slt v581 c0_i32_334
  let c0_i32_335 : BitVec 32 := 0#32
  let v584 : BitVec 1 := Scalar.cmpi .slt v580 c0_i32_335
  let v585 : BitVec 1 := Scalar.xori v583 v584
  let c0_i32_333 : BitVec 32 := 0#32
  let v582 : BitVec 1 := Scalar.cmpi .ne v581 c0_i32_333
  let v586 : BitVec 1 := Scalar.andi v585 v582
  let v587 : BitVec 32 := Scalar.addi v581 v580
  let v588 : BitVec 32 := Scalar.select v586 v587 v581
  let c0_i32_337 : BitVec 32 := 0#32
  let v590 : BitVec 1 := Scalar.cmpi .sgt v588 c0_i32_337
  let v591 : BitVec 32 := Scalar.extui v590
  let c0_i32_338 : BitVec 32 := 0#32
  let v592 : BitVec 1 := Scalar.cmpi .slt v588 c0_i32_338
  let v593 : BitVec 32 := Scalar.extui v592
  let v594 : BitVec 32 := Scalar.subi v591 v593
  let c4_i32_336 : BitVec 32 := 4#32
  let c0_i32_339 : BitVec 32 := 0#32
  let v595 : BitVec 1 := Scalar.cmpi .sgt c4_i32_336 c0_i32_339
  let v596 : BitVec 32 := Scalar.extui v595
  let c0_i32_340 : BitVec 32 := 0#32
  let v597 : BitVec 1 := Scalar.cmpi .slt c4_i32_336 c0_i32_340
  let v598 : BitVec 32 := Scalar.extui v597
  let v599 : BitVec 32 := Scalar.subi v596 v598
  let v600 : BitVec 1 := Scalar.cmpi .ne v594 v599
  let v601 : BitVec 32 := Scalar.remsi v588 c4_i32_336
  let c0_i32_341 : BitVec 32 := 0#32
  let v602 : BitVec 1 := Scalar.cmpi .ne v601 c0_i32_341
  let v603 : BitVec 1 := Scalar.andi v600 v602
  let v589 : BitVec 32 := Scalar.divsi v588 c4_i32_336
  let c1_i32_342 : BitVec 32 := 1#32
  let v604 : BitVec 32 := Scalar.subi v589 c1_i32_342
  let v605 : BitVec 32 := Scalar.select v603 v604 v589
  let c2_i32_349 : BitVec 32 := 2#32
  let c0_i32_350 : BitVec 32 := 0#32
  let v616 : BitVec 1 := Scalar.cmpi .eq c2_i32_349 c0_i32_350
  let c1_i32_351 : BitVec 32 := 1#32
  let v617 : BitVec 32 := Scalar.select v616 c1_i32_351 c2_i32_349
  let v618 : BitVec 32 := Scalar.remsi v605 v617
  let c0_i32_353 : BitVec 32 := 0#32
  let v620 : BitVec 1 := Scalar.cmpi .slt v618 c0_i32_353
  let c0_i32_354 : BitVec 32 := 0#32
  let v621 : BitVec 1 := Scalar.cmpi .slt v617 c0_i32_354
  let v622 : BitVec 1 := Scalar.xori v620 v621
  let c0_i32_352 : BitVec 32 := 0#32
  let v619 : BitVec 1 := Scalar.cmpi .ne v618 c0_i32_352
  let v623 : BitVec 1 := Scalar.andi v622 v619
  let v624 : BitVec 32 := Scalar.addi v618 v617
  let v625 : BitVec 32 := Scalar.select v623 v624 v618
  let c0_i32_355 : BitVec 32 := 0#32
  let v626 : BitVec 1 := Scalar.cmpi .eq v625 c0_i32_355
  let c4_i32_343 : BitVec 32 := 4#32
  let c0_i32_344 : BitVec 32 := 0#32
  let v606 : BitVec 1 := Scalar.cmpi .eq c4_i32_343 c0_i32_344
  let c1_i32_345 : BitVec 32 := 1#32
  let v607 : BitVec 32 := Scalar.select v606 c1_i32_345 c4_i32_343
  let v608 : BitVec 32 := Scalar.remsi v588 v607
  let c0_i32_347 : BitVec 32 := 0#32
  let v610 : BitVec 1 := Scalar.cmpi .slt v608 c0_i32_347
  let c0_i32_348 : BitVec 32 := 0#32
  let v611 : BitVec 1 := Scalar.cmpi .slt v607 c0_i32_348
  let v612 : BitVec 1 := Scalar.xori v610 v611
  let c0_i32_346 : BitVec 32 := 0#32
  let v609 : BitVec 1 := Scalar.cmpi .ne v608 c0_i32_346
  let v613 : BitVec 1 := Scalar.andi v612 v609
  let v614 : BitVec 32 := Scalar.addi v608 v607
  let v615 : BitVec 32 := Scalar.select v613 v614 v608
  let c3_i32_356 : BitVec 32 := 3#32
  let v627 : BitVec 32 := Scalar.subi c3_i32_356 v615
  let v628 : BitVec 32 := Scalar.select v626 v615 v627
  let v629 : BitVec 32 := Scalar.muli c4_i32_357 v628
  let v630 : BitVec 32 := Scalar.addi v629 v605
  let c256_i32_358 : BitVec 32 := 256#32
  let v631 : BitVec 32 := Scalar.muli v630 c256_i32_358
  let v632 : Index := Scalar.indexCast v631
  let c0_359 : Index := 0#32
  ![v632.toNat, 0]
def k0_dev7 (d0 : Dev nD) : Nat :=
  let c0_i32_415 : BitVec 32 := 0#32
  let c4_i32_75 : BitVec 32 := 4#32
  let c4_i32_17 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let v43 : BitVec 32 := Scalar.muli c4_i32_17 v12
  let c2_i32 : BitVec 32 := 2#32
  let c0_i32_11 : BitVec 32 := 0#32
  let v30 : BitVec 1 := Scalar.cmpi .eq c2_i32 c0_i32_11
  let c1_i32_12 : BitVec 32 := 1#32
  let v31 : BitVec 32 := Scalar.select v30 c1_i32_12 c2_i32
  let v32 : BitVec 32 := Scalar.remsi v12 v31
  let c0_i32_14 : BitVec 32 := 0#32
  let v34 : BitVec 1 := Scalar.cmpi .slt v32 c0_i32_14
  let c0_i32_15 : BitVec 32 := 0#32
  let v35 : BitVec 1 := Scalar.cmpi .slt v31 c0_i32_15
  let v36 : BitVec 1 := Scalar.xori v34 v35
  let c0_i32_13 : BitVec 32 := 0#32
  let v33 : BitVec 1 := Scalar.cmpi .ne v32 c0_i32_13
  let v37 : BitVec 1 := Scalar.andi v36 v33
  let v38 : BitVec 32 := Scalar.addi v32 v31
  let v39 : BitVec 32 := Scalar.select v37 v38 v32
  let c0_i32_16 : BitVec 32 := 0#32
  let v40 : BitVec 1 := Scalar.cmpi .eq v39 c0_i32_16
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c4_i32_4 : BitVec 32 := 4#32
  let c0_i32_7 : BitVec 32 := 0#32
  let v19 : BitVec 1 := Scalar.cmpi .sgt c4_i32_4 c0_i32_7
  let v20 : BitVec 32 := Scalar.extui v19
  let c0_i32_8 : BitVec 32 := 0#32
  let v21 : BitVec 1 := Scalar.cmpi .slt c4_i32_4 c0_i32_8
  let v22 : BitVec 32 := Scalar.extui v21
  let v23 : BitVec 32 := Scalar.subi v20 v22
  let v24 : BitVec 1 := Scalar.cmpi .ne v18 v23
  let v25 : BitVec 32 := Scalar.remsi v2 c4_i32_4
  let c0_i32_9 : BitVec 32 := 0#32
  let v26 : BitVec 1 := Scalar.cmpi .ne v25 c0_i32_9
  let v27 : BitVec 1 := Scalar.andi v24 v26
  let v13 : BitVec 32 := Scalar.divsi v2 c4_i32_4
  let c1_i32_10 : BitVec 32 := 1#32
  let v28 : BitVec 32 := Scalar.subi v13 c1_i32_10
  let v29 : BitVec 32 := Scalar.select v27 v28 v13
  let c3_i32 : BitVec 32 := 3#32
  let v41 : BitVec 32 := Scalar.subi c3_i32 v29
  let v42 : BitVec 32 := Scalar.select v40 v29 v41
  let v44 : BitVec 32 := Scalar.addi v43 v42
  let c1_i32_47 : BitVec 32 := 1#32
  let v98 : BitVec 32 := Scalar.subi v44 c1_i32_47
  let c16_i32_48 : BitVec 32 := 16#32
  let c0_i32_49 : BitVec 32 := 0#32
  let v99 : BitVec 1 := Scalar.cmpi .eq c16_i32_48 c0_i32_49
  let c1_i32_50 : BitVec 32 := 1#32
  let v100 : BitVec 32 := Scalar.select v99 c1_i32_50 c16_i32_48
  let v101 : BitVec 32 := Scalar.remsi v98 v100
  let c0_i32_52 : BitVec 32 := 0#32
  let v103 : BitVec 1 := Scalar.cmpi .slt v101 c0_i32_52
  let c0_i32_53 : BitVec 32 := 0#32
  let v104 : BitVec 1 := Scalar.cmpi .slt v100 c0_i32_53
  let v105 : BitVec 1 := Scalar.xori v103 v104
  let c0_i32_51 : BitVec 32 := 0#32
  let v102 : BitVec 1 := Scalar.cmpi .ne v101 c0_i32_51
  let v106 : BitVec 1 := Scalar.andi v105 v102
  let v107 : BitVec 32 := Scalar.addi v101 v100
  let v108 : BitVec 32 := Scalar.select v106 v107 v101
  let c0_i32_55 : BitVec 32 := 0#32
  let v110 : BitVec 1 := Scalar.cmpi .sgt v108 c0_i32_55
  let v111 : BitVec 32 := Scalar.extui v110
  let c0_i32_56 : BitVec 32 := 0#32
  let v112 : BitVec 1 := Scalar.cmpi .slt v108 c0_i32_56
  let v113 : BitVec 32 := Scalar.extui v112
  let v114 : BitVec 32 := Scalar.subi v111 v113
  let c4_i32_54 : BitVec 32 := 4#32
  let c0_i32_57 : BitVec 32 := 0#32
  let v115 : BitVec 1 := Scalar.cmpi .sgt c4_i32_54 c0_i32_57
  let v116 : BitVec 32 := Scalar.extui v115
  let c0_i32_58 : BitVec 32 := 0#32
  let v117 : BitVec 1 := Scalar.cmpi .slt c4_i32_54 c0_i32_58
  let v118 : BitVec 32 := Scalar.extui v117
  let v119 : BitVec 32 := Scalar.subi v116 v118
  let v120 : BitVec 1 := Scalar.cmpi .ne v114 v119
  let v121 : BitVec 32 := Scalar.remsi v108 c4_i32_54
  let c0_i32_59 : BitVec 32 := 0#32
  let v122 : BitVec 1 := Scalar.cmpi .ne v121 c0_i32_59
  let v123 : BitVec 1 := Scalar.andi v120 v122
  let v109 : BitVec 32 := Scalar.divsi v108 c4_i32_54
  let c1_i32_60 : BitVec 32 := 1#32
  let v124 : BitVec 32 := Scalar.subi v109 c1_i32_60
  let v125 : BitVec 32 := Scalar.select v123 v124 v109
  let c2_i32_67 : BitVec 32 := 2#32
  let c0_i32_68 : BitVec 32 := 0#32
  let v136 : BitVec 1 := Scalar.cmpi .eq c2_i32_67 c0_i32_68
  let c1_i32_69 : BitVec 32 := 1#32
  let v137 : BitVec 32 := Scalar.select v136 c1_i32_69 c2_i32_67
  let v138 : BitVec 32 := Scalar.remsi v125 v137
  let c0_i32_71 : BitVec 32 := 0#32
  let v140 : BitVec 1 := Scalar.cmpi .slt v138 c0_i32_71
  let c0_i32_72 : BitVec 32 := 0#32
  let v141 : BitVec 1 := Scalar.cmpi .slt v137 c0_i32_72
  let v142 : BitVec 1 := Scalar.xori v140 v141
  let c0_i32_70 : BitVec 32 := 0#32
  let v139 : BitVec 1 := Scalar.cmpi .ne v138 c0_i32_70
  let v143 : BitVec 1 := Scalar.andi v142 v139
  let v144 : BitVec 32 := Scalar.addi v138 v137
  let v145 : BitVec 32 := Scalar.select v143 v144 v138
  let c0_i32_73 : BitVec 32 := 0#32
  let v146 : BitVec 1 := Scalar.cmpi .eq v145 c0_i32_73
  let c4_i32_61 : BitVec 32 := 4#32
  let c0_i32_62 : BitVec 32 := 0#32
  let v126 : BitVec 1 := Scalar.cmpi .eq c4_i32_61 c0_i32_62
  let c1_i32_63 : BitVec 32 := 1#32
  let v127 : BitVec 32 := Scalar.select v126 c1_i32_63 c4_i32_61
  let v128 : BitVec 32 := Scalar.remsi v108 v127
  let c0_i32_65 : BitVec 32 := 0#32
  let v130 : BitVec 1 := Scalar.cmpi .slt v128 c0_i32_65
  let c0_i32_66 : BitVec 32 := 0#32
  let v131 : BitVec 1 := Scalar.cmpi .slt v127 c0_i32_66
  let v132 : BitVec 1 := Scalar.xori v130 v131
  let c0_i32_64 : BitVec 32 := 0#32
  let v129 : BitVec 1 := Scalar.cmpi .ne v128 c0_i32_64
  let v133 : BitVec 1 := Scalar.andi v132 v129
  let v134 : BitVec 32 := Scalar.addi v128 v127
  let v135 : BitVec 32 := Scalar.select v133 v134 v128
  let c3_i32_74 : BitVec 32 := 3#32
  let v147 : BitVec 32 := Scalar.subi c3_i32_74 v135
  let v148 : BitVec 32 := Scalar.select v146 v135 v147
  let v149 : BitVec 32 := Scalar.muli c4_i32_75 v148
  let v150 : BitVec 32 := Scalar.addi v149 v125
  let c1_i32_414 : BitVec 32 := 1#32
  let v713 : BitVec 32 := Scalar.muli v150 c1_i32_414
  let v714 : BitVec 32 := Scalar.addi c0_i32_415 v713
  v714.toNat
def k0_dev8 (d0 : Dev nD) : Nat :=
  let c0_i32_442 : BitVec 32 := 0#32
  let c4_i32_46 : BitVec 32 := 4#32
  let c4_i32_17 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let v43 : BitVec 32 := Scalar.muli c4_i32_17 v12
  let c2_i32 : BitVec 32 := 2#32
  let c0_i32_11 : BitVec 32 := 0#32
  let v30 : BitVec 1 := Scalar.cmpi .eq c2_i32 c0_i32_11
  let c1_i32_12 : BitVec 32 := 1#32
  let v31 : BitVec 32 := Scalar.select v30 c1_i32_12 c2_i32
  let v32 : BitVec 32 := Scalar.remsi v12 v31
  let c0_i32_14 : BitVec 32 := 0#32
  let v34 : BitVec 1 := Scalar.cmpi .slt v32 c0_i32_14
  let c0_i32_15 : BitVec 32 := 0#32
  let v35 : BitVec 1 := Scalar.cmpi .slt v31 c0_i32_15
  let v36 : BitVec 1 := Scalar.xori v34 v35
  let c0_i32_13 : BitVec 32 := 0#32
  let v33 : BitVec 1 := Scalar.cmpi .ne v32 c0_i32_13
  let v37 : BitVec 1 := Scalar.andi v36 v33
  let v38 : BitVec 32 := Scalar.addi v32 v31
  let v39 : BitVec 32 := Scalar.select v37 v38 v32
  let c0_i32_16 : BitVec 32 := 0#32
  let v40 : BitVec 1 := Scalar.cmpi .eq v39 c0_i32_16
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c4_i32_4 : BitVec 32 := 4#32
  let c0_i32_7 : BitVec 32 := 0#32
  let v19 : BitVec 1 := Scalar.cmpi .sgt c4_i32_4 c0_i32_7
  let v20 : BitVec 32 := Scalar.extui v19
  let c0_i32_8 : BitVec 32 := 0#32
  let v21 : BitVec 1 := Scalar.cmpi .slt c4_i32_4 c0_i32_8
  let v22 : BitVec 32 := Scalar.extui v21
  let v23 : BitVec 32 := Scalar.subi v20 v22
  let v24 : BitVec 1 := Scalar.cmpi .ne v18 v23
  let v25 : BitVec 32 := Scalar.remsi v2 c4_i32_4
  let c0_i32_9 : BitVec 32 := 0#32
  let v26 : BitVec 1 := Scalar.cmpi .ne v25 c0_i32_9
  let v27 : BitVec 1 := Scalar.andi v24 v26
  let v13 : BitVec 32 := Scalar.divsi v2 c4_i32_4
  let c1_i32_10 : BitVec 32 := 1#32
  let v28 : BitVec 32 := Scalar.subi v13 c1_i32_10
  let v29 : BitVec 32 := Scalar.select v27 v28 v13
  let c3_i32 : BitVec 32 := 3#32
  let v41 : BitVec 32 := Scalar.subi c3_i32 v29
  let v42 : BitVec 32 := Scalar.select v40 v29 v41
  let v44 : BitVec 32 := Scalar.addi v43 v42
  let c1_i32_18 : BitVec 32 := 1#32
  let v45 : BitVec 32 := Scalar.addi v44 c1_i32_18
  let c16_i32_19 : BitVec 32 := 16#32
  let c0_i32_20 : BitVec 32 := 0#32
  let v46 : BitVec 1 := Scalar.cmpi .eq c16_i32_19 c0_i32_20
  let c1_i32_21 : BitVec 32 := 1#32
  let v47 : BitVec 32 := Scalar.select v46 c1_i32_21 c16_i32_19
  let v48 : BitVec 32 := Scalar.remsi v45 v47
  let c0_i32_23 : BitVec 32 := 0#32
  let v50 : BitVec 1 := Scalar.cmpi .slt v48 c0_i32_23
  let c0_i32_24 : BitVec 32 := 0#32
  let v51 : BitVec 1 := Scalar.cmpi .slt v47 c0_i32_24
  let v52 : BitVec 1 := Scalar.xori v50 v51
  let c0_i32_22 : BitVec 32 := 0#32
  let v49 : BitVec 1 := Scalar.cmpi .ne v48 c0_i32_22
  let v53 : BitVec 1 := Scalar.andi v52 v49
  let v54 : BitVec 32 := Scalar.addi v48 v47
  let v55 : BitVec 32 := Scalar.select v53 v54 v48
  let c0_i32_26 : BitVec 32 := 0#32
  let v57 : BitVec 1 := Scalar.cmpi .sgt v55 c0_i32_26
  let v58 : BitVec 32 := Scalar.extui v57
  let c0_i32_27 : BitVec 32 := 0#32
  let v59 : BitVec 1 := Scalar.cmpi .slt v55 c0_i32_27
  let v60 : BitVec 32 := Scalar.extui v59
  let v61 : BitVec 32 := Scalar.subi v58 v60
  let c4_i32_25 : BitVec 32 := 4#32
  let c0_i32_28 : BitVec 32 := 0#32
  let v62 : BitVec 1 := Scalar.cmpi .sgt c4_i32_25 c0_i32_28
  let v63 : BitVec 32 := Scalar.extui v62
  let c0_i32_29 : BitVec 32 := 0#32
  let v64 : BitVec 1 := Scalar.cmpi .slt c4_i32_25 c0_i32_29
  let v65 : BitVec 32 := Scalar.extui v64
  let v66 : BitVec 32 := Scalar.subi v63 v65
  let v67 : BitVec 1 := Scalar.cmpi .ne v61 v66
  let v68 : BitVec 32 := Scalar.remsi v55 c4_i32_25
  let c0_i32_30 : BitVec 32 := 0#32
  let v69 : BitVec 1 := Scalar.cmpi .ne v68 c0_i32_30
  let v70 : BitVec 1 := Scalar.andi v67 v69
  let v56 : BitVec 32 := Scalar.divsi v55 c4_i32_25
  let c1_i32_31 : BitVec 32 := 1#32
  let v71 : BitVec 32 := Scalar.subi v56 c1_i32_31
  let v72 : BitVec 32 := Scalar.select v70 v71 v56
  let c2_i32_38 : BitVec 32 := 2#32
  let c0_i32_39 : BitVec 32 := 0#32
  let v83 : BitVec 1 := Scalar.cmpi .eq c2_i32_38 c0_i32_39
  let c1_i32_40 : BitVec 32 := 1#32
  let v84 : BitVec 32 := Scalar.select v83 c1_i32_40 c2_i32_38
  let v85 : BitVec 32 := Scalar.remsi v72 v84
  let c0_i32_42 : BitVec 32 := 0#32
  let v87 : BitVec 1 := Scalar.cmpi .slt v85 c0_i32_42
  let c0_i32_43 : BitVec 32 := 0#32
  let v88 : BitVec 1 := Scalar.cmpi .slt v84 c0_i32_43
  let v89 : BitVec 1 := Scalar.xori v87 v88
  let c0_i32_41 : BitVec 32 := 0#32
  let v86 : BitVec 1 := Scalar.cmpi .ne v85 c0_i32_41
  let v90 : BitVec 1 := Scalar.andi v89 v86
  let v91 : BitVec 32 := Scalar.addi v85 v84
  let v92 : BitVec 32 := Scalar.select v90 v91 v85
  let c0_i32_44 : BitVec 32 := 0#32
  let v93 : BitVec 1 := Scalar.cmpi .eq v92 c0_i32_44
  let c4_i32_32 : BitVec 32 := 4#32
  let c0_i32_33 : BitVec 32 := 0#32
  let v73 : BitVec 1 := Scalar.cmpi .eq c4_i32_32 c0_i32_33
  let c1_i32_34 : BitVec 32 := 1#32
  let v74 : BitVec 32 := Scalar.select v73 c1_i32_34 c4_i32_32
  let v75 : BitVec 32 := Scalar.remsi v55 v74
  let c0_i32_36 : BitVec 32 := 0#32
  let v77 : BitVec 1 := Scalar.cmpi .slt v75 c0_i32_36
  let c0_i32_37 : BitVec 32 := 0#32
  let v78 : BitVec 1 := Scalar.cmpi .slt v74 c0_i32_37
  let v79 : BitVec 1 := Scalar.xori v77 v78
  let c0_i32_35 : BitVec 32 := 0#32
  let v76 : BitVec 1 := Scalar.cmpi .ne v75 c0_i32_35
  let v80 : BitVec 1 := Scalar.andi v79 v76
  let v81 : BitVec 32 := Scalar.addi v75 v74
  let v82 : BitVec 32 := Scalar.select v80 v81 v75
  let c3_i32_45 : BitVec 32 := 3#32
  let v94 : BitVec 32 := Scalar.subi c3_i32_45 v82
  let v95 : BitVec 32 := Scalar.select v93 v82 v94
  let v96 : BitVec 32 := Scalar.muli c4_i32_46 v95
  let v97 : BitVec 32 := Scalar.addi v96 v72
  let c1_i32_441 : BitVec 32 := 1#32
  let v737 : BitVec 32 := Scalar.muli v97 c1_i32_441
  let v738 : BitVec 32 := Scalar.addi c0_i32_442 v737
  v738.toNat
def k0_dev9 (d0 : Dev nD) : Nat :=
  let c0_i32_456 : BitVec 32 := 0#32
  let c4_i32_46 : BitVec 32 := 4#32
  let c4_i32_17 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let v43 : BitVec 32 := Scalar.muli c4_i32_17 v12
  let c2_i32 : BitVec 32 := 2#32
  let c0_i32_11 : BitVec 32 := 0#32
  let v30 : BitVec 1 := Scalar.cmpi .eq c2_i32 c0_i32_11
  let c1_i32_12 : BitVec 32 := 1#32
  let v31 : BitVec 32 := Scalar.select v30 c1_i32_12 c2_i32
  let v32 : BitVec 32 := Scalar.remsi v12 v31
  let c0_i32_14 : BitVec 32 := 0#32
  let v34 : BitVec 1 := Scalar.cmpi .slt v32 c0_i32_14
  let c0_i32_15 : BitVec 32 := 0#32
  let v35 : BitVec 1 := Scalar.cmpi .slt v31 c0_i32_15
  let v36 : BitVec 1 := Scalar.xori v34 v35
  let c0_i32_13 : BitVec 32 := 0#32
  let v33 : BitVec 1 := Scalar.cmpi .ne v32 c0_i32_13
  let v37 : BitVec 1 := Scalar.andi v36 v33
  let v38 : BitVec 32 := Scalar.addi v32 v31
  let v39 : BitVec 32 := Scalar.select v37 v38 v32
  let c0_i32_16 : BitVec 32 := 0#32
  let v40 : BitVec 1 := Scalar.cmpi .eq v39 c0_i32_16
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c4_i32_4 : BitVec 32 := 4#32
  let c0_i32_7 : BitVec 32 := 0#32
  let v19 : BitVec 1 := Scalar.cmpi .sgt c4_i32_4 c0_i32_7
  let v20 : BitVec 32 := Scalar.extui v19
  let c0_i32_8 : BitVec 32 := 0#32
  let v21 : BitVec 1 := Scalar.cmpi .slt c4_i32_4 c0_i32_8
  let v22 : BitVec 32 := Scalar.extui v21
  let v23 : BitVec 32 := Scalar.subi v20 v22
  let v24 : BitVec 1 := Scalar.cmpi .ne v18 v23
  let v25 : BitVec 32 := Scalar.remsi v2 c4_i32_4
  let c0_i32_9 : BitVec 32 := 0#32
  let v26 : BitVec 1 := Scalar.cmpi .ne v25 c0_i32_9
  let v27 : BitVec 1 := Scalar.andi v24 v26
  let v13 : BitVec 32 := Scalar.divsi v2 c4_i32_4
  let c1_i32_10 : BitVec 32 := 1#32
  let v28 : BitVec 32 := Scalar.subi v13 c1_i32_10
  let v29 : BitVec 32 := Scalar.select v27 v28 v13
  let c3_i32 : BitVec 32 := 3#32
  let v41 : BitVec 32 := Scalar.subi c3_i32 v29
  let v42 : BitVec 32 := Scalar.select v40 v29 v41
  let v44 : BitVec 32 := Scalar.addi v43 v42
  let c1_i32_18 : BitVec 32 := 1#32
  let v45 : BitVec 32 := Scalar.addi v44 c1_i32_18
  let c16_i32_19 : BitVec 32 := 16#32
  let c0_i32_20 : BitVec 32 := 0#32
  let v46 : BitVec 1 := Scalar.cmpi .eq c16_i32_19 c0_i32_20
  let c1_i32_21 : BitVec 32 := 1#32
  let v47 : BitVec 32 := Scalar.select v46 c1_i32_21 c16_i32_19
  let v48 : BitVec 32 := Scalar.remsi v45 v47
  let c0_i32_23 : BitVec 32 := 0#32
  let v50 : BitVec 1 := Scalar.cmpi .slt v48 c0_i32_23
  let c0_i32_24 : BitVec 32 := 0#32
  let v51 : BitVec 1 := Scalar.cmpi .slt v47 c0_i32_24
  let v52 : BitVec 1 := Scalar.xori v50 v51
  let c0_i32_22 : BitVec 32 := 0#32
  let v49 : BitVec 1 := Scalar.cmpi .ne v48 c0_i32_22
  let v53 : BitVec 1 := Scalar.andi v52 v49
  let v54 : BitVec 32 := Scalar.addi v48 v47
  let v55 : BitVec 32 := Scalar.select v53 v54 v48
  let c0_i32_26 : BitVec 32 := 0#32
  let v57 : BitVec 1 := Scalar.cmpi .sgt v55 c0_i32_26
  let v58 : BitVec 32 := Scalar.extui v57
  let c0_i32_27 : BitVec 32 := 0#32
  let v59 : BitVec 1 := Scalar.cmpi .slt v55 c0_i32_27
  let v60 : BitVec 32 := Scalar.extui v59
  let v61 : BitVec 32 := Scalar.subi v58 v60
  let c4_i32_25 : BitVec 32 := 4#32
  let c0_i32_28 : BitVec 32 := 0#32
  let v62 : BitVec 1 := Scalar.cmpi .sgt c4_i32_25 c0_i32_28
  let v63 : BitVec 32 := Scalar.extui v62
  let c0_i32_29 : BitVec 32 := 0#32
  let v64 : BitVec 1 := Scalar.cmpi .slt c4_i32_25 c0_i32_29
  let v65 : BitVec 32 := Scalar.extui v64
  let v66 : BitVec 32 := Scalar.subi v63 v65
  let v67 : BitVec 1 := Scalar.cmpi .ne v61 v66
  let v68 : BitVec 32 := Scalar.remsi v55 c4_i32_25
  let c0_i32_30 : BitVec 32 := 0#32
  let v69 : BitVec 1 := Scalar.cmpi .ne v68 c0_i32_30
  let v70 : BitVec 1 := Scalar.andi v67 v69
  let v56 : BitVec 32 := Scalar.divsi v55 c4_i32_25
  let c1_i32_31 : BitVec 32 := 1#32
  let v71 : BitVec 32 := Scalar.subi v56 c1_i32_31
  let v72 : BitVec 32 := Scalar.select v70 v71 v56
  let c2_i32_38 : BitVec 32 := 2#32
  let c0_i32_39 : BitVec 32 := 0#32
  let v83 : BitVec 1 := Scalar.cmpi .eq c2_i32_38 c0_i32_39
  let c1_i32_40 : BitVec 32 := 1#32
  let v84 : BitVec 32 := Scalar.select v83 c1_i32_40 c2_i32_38
  let v85 : BitVec 32 := Scalar.remsi v72 v84
  let c0_i32_42 : BitVec 32 := 0#32
  let v87 : BitVec 1 := Scalar.cmpi .slt v85 c0_i32_42
  let c0_i32_43 : BitVec 32 := 0#32
  let v88 : BitVec 1 := Scalar.cmpi .slt v84 c0_i32_43
  let v89 : BitVec 1 := Scalar.xori v87 v88
  let c0_i32_41 : BitVec 32 := 0#32
  let v86 : BitVec 1 := Scalar.cmpi .ne v85 c0_i32_41
  let v90 : BitVec 1 := Scalar.andi v89 v86
  let v91 : BitVec 32 := Scalar.addi v85 v84
  let v92 : BitVec 32 := Scalar.select v90 v91 v85
  let c0_i32_44 : BitVec 32 := 0#32
  let v93 : BitVec 1 := Scalar.cmpi .eq v92 c0_i32_44
  let c4_i32_32 : BitVec 32 := 4#32
  let c0_i32_33 : BitVec 32 := 0#32
  let v73 : BitVec 1 := Scalar.cmpi .eq c4_i32_32 c0_i32_33
  let c1_i32_34 : BitVec 32 := 1#32
  let v74 : BitVec 32 := Scalar.select v73 c1_i32_34 c4_i32_32
  let v75 : BitVec 32 := Scalar.remsi v55 v74
  let c0_i32_36 : BitVec 32 := 0#32
  let v77 : BitVec 1 := Scalar.cmpi .slt v75 c0_i32_36
  let c0_i32_37 : BitVec 32 := 0#32
  let v78 : BitVec 1 := Scalar.cmpi .slt v74 c0_i32_37
  let v79 : BitVec 1 := Scalar.xori v77 v78
  let c0_i32_35 : BitVec 32 := 0#32
  let v76 : BitVec 1 := Scalar.cmpi .ne v75 c0_i32_35
  let v80 : BitVec 1 := Scalar.andi v79 v76
  let v81 : BitVec 32 := Scalar.addi v75 v74
  let v82 : BitVec 32 := Scalar.select v80 v81 v75
  let c3_i32_45 : BitVec 32 := 3#32
  let v94 : BitVec 32 := Scalar.subi c3_i32_45 v82
  let v95 : BitVec 32 := Scalar.select v93 v82 v94
  let v96 : BitVec 32 := Scalar.muli c4_i32_46 v95
  let v97 : BitVec 32 := Scalar.addi v96 v72
  let c1_i32_455 : BitVec 32 := 1#32
  let v747 : BitVec 32 := Scalar.muli v97 c1_i32_455
  let v748 : BitVec 32 := Scalar.addi c0_i32_456 v747
  v748.toNat
def k0_dev10 (d0 : Dev nD) : Nat :=
  let c0_i32_468 : BitVec 32 := 0#32
  let c4_i32_75 : BitVec 32 := 4#32
  let c4_i32_17 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let v43 : BitVec 32 := Scalar.muli c4_i32_17 v12
  let c2_i32 : BitVec 32 := 2#32
  let c0_i32_11 : BitVec 32 := 0#32
  let v30 : BitVec 1 := Scalar.cmpi .eq c2_i32 c0_i32_11
  let c1_i32_12 : BitVec 32 := 1#32
  let v31 : BitVec 32 := Scalar.select v30 c1_i32_12 c2_i32
  let v32 : BitVec 32 := Scalar.remsi v12 v31
  let c0_i32_14 : BitVec 32 := 0#32
  let v34 : BitVec 1 := Scalar.cmpi .slt v32 c0_i32_14
  let c0_i32_15 : BitVec 32 := 0#32
  let v35 : BitVec 1 := Scalar.cmpi .slt v31 c0_i32_15
  let v36 : BitVec 1 := Scalar.xori v34 v35
  let c0_i32_13 : BitVec 32 := 0#32
  let v33 : BitVec 1 := Scalar.cmpi .ne v32 c0_i32_13
  let v37 : BitVec 1 := Scalar.andi v36 v33
  let v38 : BitVec 32 := Scalar.addi v32 v31
  let v39 : BitVec 32 := Scalar.select v37 v38 v32
  let c0_i32_16 : BitVec 32 := 0#32
  let v40 : BitVec 1 := Scalar.cmpi .eq v39 c0_i32_16
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c4_i32_4 : BitVec 32 := 4#32
  let c0_i32_7 : BitVec 32 := 0#32
  let v19 : BitVec 1 := Scalar.cmpi .sgt c4_i32_4 c0_i32_7
  let v20 : BitVec 32 := Scalar.extui v19
  let c0_i32_8 : BitVec 32 := 0#32
  let v21 : BitVec 1 := Scalar.cmpi .slt c4_i32_4 c0_i32_8
  let v22 : BitVec 32 := Scalar.extui v21
  let v23 : BitVec 32 := Scalar.subi v20 v22
  let v24 : BitVec 1 := Scalar.cmpi .ne v18 v23
  let v25 : BitVec 32 := Scalar.remsi v2 c4_i32_4
  let c0_i32_9 : BitVec 32 := 0#32
  let v26 : BitVec 1 := Scalar.cmpi .ne v25 c0_i32_9
  let v27 : BitVec 1 := Scalar.andi v24 v26
  let v13 : BitVec 32 := Scalar.divsi v2 c4_i32_4
  let c1_i32_10 : BitVec 32 := 1#32
  let v28 : BitVec 32 := Scalar.subi v13 c1_i32_10
  let v29 : BitVec 32 := Scalar.select v27 v28 v13
  let c3_i32 : BitVec 32 := 3#32
  let v41 : BitVec 32 := Scalar.subi c3_i32 v29
  let v42 : BitVec 32 := Scalar.select v40 v29 v41
  let v44 : BitVec 32 := Scalar.addi v43 v42
  let c1_i32_47 : BitVec 32 := 1#32
  let v98 : BitVec 32 := Scalar.subi v44 c1_i32_47
  let c16_i32_48 : BitVec 32 := 16#32
  let c0_i32_49 : BitVec 32 := 0#32
  let v99 : BitVec 1 := Scalar.cmpi .eq c16_i32_48 c0_i32_49
  let c1_i32_50 : BitVec 32 := 1#32
  let v100 : BitVec 32 := Scalar.select v99 c1_i32_50 c16_i32_48
  let v101 : BitVec 32 := Scalar.remsi v98 v100
  let c0_i32_52 : BitVec 32 := 0#32
  let v103 : BitVec 1 := Scalar.cmpi .slt v101 c0_i32_52
  let c0_i32_53 : BitVec 32 := 0#32
  let v104 : BitVec 1 := Scalar.cmpi .slt v100 c0_i32_53
  let v105 : BitVec 1 := Scalar.xori v103 v104
  let c0_i32_51 : BitVec 32 := 0#32
  let v102 : BitVec 1 := Scalar.cmpi .ne v101 c0_i32_51
  let v106 : BitVec 1 := Scalar.andi v105 v102
  let v107 : BitVec 32 := Scalar.addi v101 v100
  let v108 : BitVec 32 := Scalar.select v106 v107 v101
  let c0_i32_55 : BitVec 32 := 0#32
  let v110 : BitVec 1 := Scalar.cmpi .sgt v108 c0_i32_55
  let v111 : BitVec 32 := Scalar.extui v110
  let c0_i32_56 : BitVec 32 := 0#32
  let v112 : BitVec 1 := Scalar.cmpi .slt v108 c0_i32_56
  let v113 : BitVec 32 := Scalar.extui v112
  let v114 : BitVec 32 := Scalar.subi v111 v113
  let c4_i32_54 : BitVec 32 := 4#32
  let c0_i32_57 : BitVec 32 := 0#32
  let v115 : BitVec 1 := Scalar.cmpi .sgt c4_i32_54 c0_i32_57
  let v116 : BitVec 32 := Scalar.extui v115
  let c0_i32_58 : BitVec 32 := 0#32
  let v117 : BitVec 1 := Scalar.cmpi .slt c4_i32_54 c0_i32_58
  let v118 : BitVec 32 := Scalar.extui v117
  let v119 : BitVec 32 := Scalar.subi v116 v118
  let v120 : BitVec 1 := Scalar.cmpi .ne v114 v119
  let v121 : BitVec 32 := Scalar.remsi v108 c4_i32_54
  let c0_i32_59 : BitVec 32 := 0#32
  let v122 : BitVec 1 := Scalar.cmpi .ne v121 c0_i32_59
  let v123 : BitVec 1 := Scalar.andi v120 v122
  let v109 : BitVec 32 := Scalar.divsi v108 c4_i32_54
  let c1_i32_60 : BitVec 32 := 1#32
  let v124 : BitVec 32 := Scalar.subi v109 c1_i32_60
  let v125 : BitVec 32 := Scalar.select v123 v124 v109
  let c2_i32_67 : BitVec 32 := 2#32
  let c0_i32_68 : BitVec 32 := 0#32
  let v136 : BitVec 1 := Scalar.cmpi .eq c2_i32_67 c0_i32_68
  let c1_i32_69 : BitVec 32 := 1#32
  let v137 : BitVec 32 := Scalar.select v136 c1_i32_69 c2_i32_67
  let v138 : BitVec 32 := Scalar.remsi v125 v137
  let c0_i32_71 : BitVec 32 := 0#32
  let v140 : BitVec 1 := Scalar.cmpi .slt v138 c0_i32_71
  let c0_i32_72 : BitVec 32 := 0#32
  let v141 : BitVec 1 := Scalar.cmpi .slt v137 c0_i32_72
  let v142 : BitVec 1 := Scalar.xori v140 v141
  let c0_i32_70 : BitVec 32 := 0#32
  let v139 : BitVec 1 := Scalar.cmpi .ne v138 c0_i32_70
  let v143 : BitVec 1 := Scalar.andi v142 v139
  let v144 : BitVec 32 := Scalar.addi v138 v137
  let v145 : BitVec 32 := Scalar.select v143 v144 v138
  let c0_i32_73 : BitVec 32 := 0#32
  let v146 : BitVec 1 := Scalar.cmpi .eq v145 c0_i32_73
  let c4_i32_61 : BitVec 32 := 4#32
  let c0_i32_62 : BitVec 32 := 0#32
  let v126 : BitVec 1 := Scalar.cmpi .eq c4_i32_61 c0_i32_62
  let c1_i32_63 : BitVec 32 := 1#32
  let v127 : BitVec 32 := Scalar.select v126 c1_i32_63 c4_i32_61
  let v128 : BitVec 32 := Scalar.remsi v108 v127
  let c0_i32_65 : BitVec 32 := 0#32
  let v130 : BitVec 1 := Scalar.cmpi .slt v128 c0_i32_65
  let c0_i32_66 : BitVec 32 := 0#32
  let v131 : BitVec 1 := Scalar.cmpi .slt v127 c0_i32_66
  let v132 : BitVec 1 := Scalar.xori v130 v131
  let c0_i32_64 : BitVec 32 := 0#32
  let v129 : BitVec 1 := Scalar.cmpi .ne v128 c0_i32_64
  let v133 : BitVec 1 := Scalar.andi v132 v129
  let v134 : BitVec 32 := Scalar.addi v128 v127
  let v135 : BitVec 32 := Scalar.select v133 v134 v128
  let c3_i32_74 : BitVec 32 := 3#32
  let v147 : BitVec 32 := Scalar.subi c3_i32_74 v135
  let v148 : BitVec 32 := Scalar.select v146 v135 v147
  let v149 : BitVec 32 := Scalar.muli c4_i32_75 v148
  let v150 : BitVec 32 := Scalar.addi v149 v125
  let c1_i32_467 : BitVec 32 := 1#32
  let v757 : BitVec 32 := Scalar.muli v150 c1_i32_467
  let v758 : BitVec 32 := Scalar.addi c0_i32_468 v757
  v758.toNat
def k0_dev11 (d0 : Dev nD) : Nat :=
  let c0_i32_494 : BitVec 32 := 0#32
  let c4_i32_75 : BitVec 32 := 4#32
  let c4_i32_17 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let v43 : BitVec 32 := Scalar.muli c4_i32_17 v12
  let c2_i32 : BitVec 32 := 2#32
  let c0_i32_11 : BitVec 32 := 0#32
  let v30 : BitVec 1 := Scalar.cmpi .eq c2_i32 c0_i32_11
  let c1_i32_12 : BitVec 32 := 1#32
  let v31 : BitVec 32 := Scalar.select v30 c1_i32_12 c2_i32
  let v32 : BitVec 32 := Scalar.remsi v12 v31
  let c0_i32_14 : BitVec 32 := 0#32
  let v34 : BitVec 1 := Scalar.cmpi .slt v32 c0_i32_14
  let c0_i32_15 : BitVec 32 := 0#32
  let v35 : BitVec 1 := Scalar.cmpi .slt v31 c0_i32_15
  let v36 : BitVec 1 := Scalar.xori v34 v35
  let c0_i32_13 : BitVec 32 := 0#32
  let v33 : BitVec 1 := Scalar.cmpi .ne v32 c0_i32_13
  let v37 : BitVec 1 := Scalar.andi v36 v33
  let v38 : BitVec 32 := Scalar.addi v32 v31
  let v39 : BitVec 32 := Scalar.select v37 v38 v32
  let c0_i32_16 : BitVec 32 := 0#32
  let v40 : BitVec 1 := Scalar.cmpi .eq v39 c0_i32_16
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c4_i32_4 : BitVec 32 := 4#32
  let c0_i32_7 : BitVec 32 := 0#32
  let v19 : BitVec 1 := Scalar.cmpi .sgt c4_i32_4 c0_i32_7
  let v20 : BitVec 32 := Scalar.extui v19
  let c0_i32_8 : BitVec 32 := 0#32
  let v21 : BitVec 1 := Scalar.cmpi .slt c4_i32_4 c0_i32_8
  let v22 : BitVec 32 := Scalar.extui v21
  let v23 : BitVec 32 := Scalar.subi v20 v22
  let v24 : BitVec 1 := Scalar.cmpi .ne v18 v23
  let v25 : BitVec 32 := Scalar.remsi v2 c4_i32_4
  let c0_i32_9 : BitVec 32 := 0#32
  let v26 : BitVec 1 := Scalar.cmpi .ne v25 c0_i32_9
  let v27 : BitVec 1 := Scalar.andi v24 v26
  let v13 : BitVec 32 := Scalar.divsi v2 c4_i32_4
  let c1_i32_10 : BitVec 32 := 1#32
  let v28 : BitVec 32 := Scalar.subi v13 c1_i32_10
  let v29 : BitVec 32 := Scalar.select v27 v28 v13
  let c3_i32 : BitVec 32 := 3#32
  let v41 : BitVec 32 := Scalar.subi c3_i32 v29
  let v42 : BitVec 32 := Scalar.select v40 v29 v41
  let v44 : BitVec 32 := Scalar.addi v43 v42
  let c1_i32_47 : BitVec 32 := 1#32
  let v98 : BitVec 32 := Scalar.subi v44 c1_i32_47
  let c16_i32_48 : BitVec 32 := 16#32
  let c0_i32_49 : BitVec 32 := 0#32
  let v99 : BitVec 1 := Scalar.cmpi .eq c16_i32_48 c0_i32_49
  let c1_i32_50 : BitVec 32 := 1#32
  let v100 : BitVec 32 := Scalar.select v99 c1_i32_50 c16_i32_48
  let v101 : BitVec 32 := Scalar.remsi v98 v100
  let c0_i32_52 : BitVec 32 := 0#32
  let v103 : BitVec 1 := Scalar.cmpi .slt v101 c0_i32_52
  let c0_i32_53 : BitVec 32 := 0#32
  let v104 : BitVec 1 := Scalar.cmpi .slt v100 c0_i32_53
  let v105 : BitVec 1 := Scalar.xori v103 v104
  let c0_i32_51 : BitVec 32 := 0#32
  let v102 : BitVec 1 := Scalar.cmpi .ne v101 c0_i32_51
  let v106 : BitVec 1 := Scalar.andi v105 v102
  let v107 : BitVec 32 := Scalar.addi v101 v100
  let v108 : BitVec 32 := Scalar.select v106 v107 v101
  let c0_i32_55 : BitVec 32 := 0#32
  let v110 : BitVec 1 := Scalar.cmpi .sgt v108 c0_i32_55
  let v111 : BitVec 32 := Scalar.extui v110
  let c0_i32_56 : BitVec 32 := 0#32
  let v112 : BitVec 1 := Scalar.cmpi .slt v108 c0_i32_56
  let v113 : BitVec 32 := Scalar.extui v112
  let v114 : BitVec 32 := Scalar.subi v111 v113
  let c4_i32_54 : BitVec 32 := 4#32
  let c0_i32_57 : BitVec 32 := 0#32
  let v115 : BitVec 1 := Scalar.cmpi .sgt c4_i32_54 c0_i32_57
  let v116 : BitVec 32 := Scalar.extui v115
  let c0_i32_58 : BitVec 32 := 0#32
  let v117 : BitVec 1 := Scalar.cmpi .slt c4_i32_54 c0_i32_58
  let v118 : BitVec 32 := Scalar.extui v117
  let v119 : BitVec 32 := Scalar.subi v116 v118
  let v120 : BitVec 1 := Scalar.cmpi .ne v114 v119
  let v121 : BitVec 32 := Scalar.remsi v108 c4_i32_54
  let c0_i32_59 : BitVec 32 := 0#32
  let v122 : BitVec 1 := Scalar.cmpi .ne v121 c0_i32_59
  let v123 : BitVec 1 := Scalar.andi v120 v122
  let v109 : BitVec 32 := Scalar.divsi v108 c4_i32_54
  let c1_i32_60 : BitVec 32 := 1#32
  let v124 : BitVec 32 := Scalar.subi v109 c1_i32_60
  let v125 : BitVec 32 := Scalar.select v123 v124 v109
  let c2_i32_67 : BitVec 32 := 2#32
  let c0_i32_68 : BitVec 32 := 0#32
  let v136 : BitVec 1 := Scalar.cmpi .eq c2_i32_67 c0_i32_68
  let c1_i32_69 : BitVec 32 := 1#32
  let v137 : BitVec 32 := Scalar.select v136 c1_i32_69 c2_i32_67
  let v138 : BitVec 32 := Scalar.remsi v125 v137
  let c0_i32_71 : BitVec 32 := 0#32
  let v140 : BitVec 1 := Scalar.cmpi .slt v138 c0_i32_71
  let c0_i32_72 : BitVec 32 := 0#32
  let v141 : BitVec 1 := Scalar.cmpi .slt v137 c0_i32_72
  let v142 : BitVec 1 := Scalar.xori v140 v141
  let c0_i32_70 : BitVec 32 := 0#32
  let v139 : BitVec 1 := Scalar.cmpi .ne v138 c0_i32_70
  let v143 : BitVec 1 := Scalar.andi v142 v139
  let v144 : BitVec 32 := Scalar.addi v138 v137
  let v145 : BitVec 32 := Scalar.select v143 v144 v138
  let c0_i32_73 : BitVec 32 := 0#32
  let v146 : BitVec 1 := Scalar.cmpi .eq v145 c0_i32_73
  let c4_i32_61 : BitVec 32 := 4#32
  let c0_i32_62 : BitVec 32 := 0#32
  let v126 : BitVec 1 := Scalar.cmpi .eq c4_i32_61 c0_i32_62
  let c1_i32_63 : BitVec 32 := 1#32
  let v127 : BitVec 32 := Scalar.select v126 c1_i32_63 c4_i32_61
  let v128 : BitVec 32 := Scalar.remsi v108 v127
  let c0_i32_65 : BitVec 32 := 0#32
  let v130 : BitVec 1 := Scalar.cmpi .slt v128 c0_i32_65
  let c0_i32_66 : BitVec 32 := 0#32
  let v131 : BitVec 1 := Scalar.cmpi .slt v127 c0_i32_66
  let v132 : BitVec 1 := Scalar.xori v130 v131
  let c0_i32_64 : BitVec 32 := 0#32
  let v129 : BitVec 1 := Scalar.cmpi .ne v128 c0_i32_64
  let v133 : BitVec 1 := Scalar.andi v132 v129
  let v134 : BitVec 32 := Scalar.addi v128 v127
  let v135 : BitVec 32 := Scalar.select v133 v134 v128
  let c3_i32_74 : BitVec 32 := 3#32
  let v147 : BitVec 32 := Scalar.subi c3_i32_74 v135
  let v148 : BitVec 32 := Scalar.select v146 v135 v147
  let v149 : BitVec 32 := Scalar.muli c4_i32_75 v148
  let v150 : BitVec 32 := Scalar.addi v149 v125
  let c1_i32_493 : BitVec 32 := 1#32
  let v781 : BitVec 32 := Scalar.muli v150 c1_i32_493
  let v782 : BitVec 32 := Scalar.addi c0_i32_494 v781
  v782.toNat
def k0_dev12 (d0 : Dev nD) : Nat :=
  let c0_i32_522 : BitVec 32 := 0#32
  let c4_i32_46 : BitVec 32 := 4#32
  let c4_i32_17 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let v43 : BitVec 32 := Scalar.muli c4_i32_17 v12
  let c2_i32 : BitVec 32 := 2#32
  let c0_i32_11 : BitVec 32 := 0#32
  let v30 : BitVec 1 := Scalar.cmpi .eq c2_i32 c0_i32_11
  let c1_i32_12 : BitVec 32 := 1#32
  let v31 : BitVec 32 := Scalar.select v30 c1_i32_12 c2_i32
  let v32 : BitVec 32 := Scalar.remsi v12 v31
  let c0_i32_14 : BitVec 32 := 0#32
  let v34 : BitVec 1 := Scalar.cmpi .slt v32 c0_i32_14
  let c0_i32_15 : BitVec 32 := 0#32
  let v35 : BitVec 1 := Scalar.cmpi .slt v31 c0_i32_15
  let v36 : BitVec 1 := Scalar.xori v34 v35
  let c0_i32_13 : BitVec 32 := 0#32
  let v33 : BitVec 1 := Scalar.cmpi .ne v32 c0_i32_13
  let v37 : BitVec 1 := Scalar.andi v36 v33
  let v38 : BitVec 32 := Scalar.addi v32 v31
  let v39 : BitVec 32 := Scalar.select v37 v38 v32
  let c0_i32_16 : BitVec 32 := 0#32
  let v40 : BitVec 1 := Scalar.cmpi .eq v39 c0_i32_16
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c4_i32_4 : BitVec 32 := 4#32
  let c0_i32_7 : BitVec 32 := 0#32
  let v19 : BitVec 1 := Scalar.cmpi .sgt c4_i32_4 c0_i32_7
  let v20 : BitVec 32 := Scalar.extui v19
  let c0_i32_8 : BitVec 32 := 0#32
  let v21 : BitVec 1 := Scalar.cmpi .slt c4_i32_4 c0_i32_8
  let v22 : BitVec 32 := Scalar.extui v21
  let v23 : BitVec 32 := Scalar.subi v20 v22
  let v24 : BitVec 1 := Scalar.cmpi .ne v18 v23
  let v25 : BitVec 32 := Scalar.remsi v2 c4_i32_4
  let c0_i32_9 : BitVec 32 := 0#32
  let v26 : BitVec 1 := Scalar.cmpi .ne v25 c0_i32_9
  let v27 : BitVec 1 := Scalar.andi v24 v26
  let v13 : BitVec 32 := Scalar.divsi v2 c4_i32_4
  let c1_i32_10 : BitVec 32 := 1#32
  let v28 : BitVec 32 := Scalar.subi v13 c1_i32_10
  let v29 : BitVec 32 := Scalar.select v27 v28 v13
  let c3_i32 : BitVec 32 := 3#32
  let v41 : BitVec 32 := Scalar.subi c3_i32 v29
  let v42 : BitVec 32 := Scalar.select v40 v29 v41
  let v44 : BitVec 32 := Scalar.addi v43 v42
  let c1_i32_18 : BitVec 32 := 1#32
  let v45 : BitVec 32 := Scalar.addi v44 c1_i32_18
  let c16_i32_19 : BitVec 32 := 16#32
  let c0_i32_20 : BitVec 32 := 0#32
  let v46 : BitVec 1 := Scalar.cmpi .eq c16_i32_19 c0_i32_20
  let c1_i32_21 : BitVec 32 := 1#32
  let v47 : BitVec 32 := Scalar.select v46 c1_i32_21 c16_i32_19
  let v48 : BitVec 32 := Scalar.remsi v45 v47
  let c0_i32_23 : BitVec 32 := 0#32
  let v50 : BitVec 1 := Scalar.cmpi .slt v48 c0_i32_23
  let c0_i32_24 : BitVec 32 := 0#32
  let v51 : BitVec 1 := Scalar.cmpi .slt v47 c0_i32_24
  let v52 : BitVec 1 := Scalar.xori v50 v51
  let c0_i32_22 : BitVec 32 := 0#32
  let v49 : BitVec 1 := Scalar.cmpi .ne v48 c0_i32_22
  let v53 : BitVec 1 := Scalar.andi v52 v49
  let v54 : BitVec 32 := Scalar.addi v48 v47
  let v55 : BitVec 32 := Scalar.select v53 v54 v48
  let c0_i32_26 : BitVec 32 := 0#32
  let v57 : BitVec 1 := Scalar.cmpi .sgt v55 c0_i32_26
  let v58 : BitVec 32 := Scalar.extui v57
  let c0_i32_27 : BitVec 32 := 0#32
  let v59 : BitVec 1 := Scalar.cmpi .slt v55 c0_i32_27
  let v60 : BitVec 32 := Scalar.extui v59
  let v61 : BitVec 32 := Scalar.subi v58 v60
  let c4_i32_25 : BitVec 32 := 4#32
  let c0_i32_28 : BitVec 32 := 0#32
  let v62 : BitVec 1 := Scalar.cmpi .sgt c4_i32_25 c0_i32_28
  let v63 : BitVec 32 := Scalar.extui v62
  let c0_i32_29 : BitVec 32 := 0#32
  let v64 : BitVec 1 := Scalar.cmpi .slt c4_i32_25 c0_i32_29
  let v65 : BitVec 32 := Scalar.extui v64
  let v66 : BitVec 32 := Scalar.subi v63 v65
  let v67 : BitVec 1 := Scalar.cmpi .ne v61 v66
  let v68 : BitVec 32 := Scalar.remsi v55 c4_i32_25
  let c0_i32_30 : BitVec 32 := 0#32
  let v69 : BitVec 1 := Scalar.cmpi .ne v68 c0_i32_30
  let v70 : BitVec 1 := Scalar.andi v67 v69
  let v56 : BitVec 32 := Scalar.divsi v55 c4_i32_25
  let c1_i32_31 : BitVec 32 := 1#32
  let v71 : BitVec 32 := Scalar.subi v56 c1_i32_31
  let v72 : BitVec 32 := Scalar.select v70 v71 v56
  let c2_i32_38 : BitVec 32 := 2#32
  let c0_i32_39 : BitVec 32 := 0#32
  let v83 : BitVec 1 := Scalar.cmpi .eq c2_i32_38 c0_i32_39
  let c1_i32_40 : BitVec 32 := 1#32
  let v84 : BitVec 32 := Scalar.select v83 c1_i32_40 c2_i32_38
  let v85 : BitVec 32 := Scalar.remsi v72 v84
  let c0_i32_42 : BitVec 32 := 0#32
  let v87 : BitVec 1 := Scalar.cmpi .slt v85 c0_i32_42
  let c0_i32_43 : BitVec 32 := 0#32
  let v88 : BitVec 1 := Scalar.cmpi .slt v84 c0_i32_43
  let v89 : BitVec 1 := Scalar.xori v87 v88
  let c0_i32_41 : BitVec 32 := 0#32
  let v86 : BitVec 1 := Scalar.cmpi .ne v85 c0_i32_41
  let v90 : BitVec 1 := Scalar.andi v89 v86
  let v91 : BitVec 32 := Scalar.addi v85 v84
  let v92 : BitVec 32 := Scalar.select v90 v91 v85
  let c0_i32_44 : BitVec 32 := 0#32
  let v93 : BitVec 1 := Scalar.cmpi .eq v92 c0_i32_44
  let c4_i32_32 : BitVec 32 := 4#32
  let c0_i32_33 : BitVec 32 := 0#32
  let v73 : BitVec 1 := Scalar.cmpi .eq c4_i32_32 c0_i32_33
  let c1_i32_34 : BitVec 32 := 1#32
  let v74 : BitVec 32 := Scalar.select v73 c1_i32_34 c4_i32_32
  let v75 : BitVec 32 := Scalar.remsi v55 v74
  let c0_i32_36 : BitVec 32 := 0#32
  let v77 : BitVec 1 := Scalar.cmpi .slt v75 c0_i32_36
  let c0_i32_37 : BitVec 32 := 0#32
  let v78 : BitVec 1 := Scalar.cmpi .slt v74 c0_i32_37
  let v79 : BitVec 1 := Scalar.xori v77 v78
  let c0_i32_35 : BitVec 32 := 0#32
  let v76 : BitVec 1 := Scalar.cmpi .ne v75 c0_i32_35
  let v80 : BitVec 1 := Scalar.andi v79 v76
  let v81 : BitVec 32 := Scalar.addi v75 v74
  let v82 : BitVec 32 := Scalar.select v80 v81 v75
  let c3_i32_45 : BitVec 32 := 3#32
  let v94 : BitVec 32 := Scalar.subi c3_i32_45 v82
  let v95 : BitVec 32 := Scalar.select v93 v82 v94
  let v96 : BitVec 32 := Scalar.muli c4_i32_46 v95
  let v97 : BitVec 32 := Scalar.addi v96 v72
  let c1_i32_521 : BitVec 32 := 1#32
  let v805 : BitVec 32 := Scalar.muli v97 c1_i32_521
  let v806 : BitVec 32 := Scalar.addi c0_i32_522 v805
  v806.toNat
def k0_dev13 (d0 : Dev nD) : Nat :=
  let c0_i32_536 : BitVec 32 := 0#32
  let c4_i32_46 : BitVec 32 := 4#32
  let c4_i32_17 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let v43 : BitVec 32 := Scalar.muli c4_i32_17 v12
  let c2_i32 : BitVec 32 := 2#32
  let c0_i32_11 : BitVec 32 := 0#32
  let v30 : BitVec 1 := Scalar.cmpi .eq c2_i32 c0_i32_11
  let c1_i32_12 : BitVec 32 := 1#32
  let v31 : BitVec 32 := Scalar.select v30 c1_i32_12 c2_i32
  let v32 : BitVec 32 := Scalar.remsi v12 v31
  let c0_i32_14 : BitVec 32 := 0#32
  let v34 : BitVec 1 := Scalar.cmpi .slt v32 c0_i32_14
  let c0_i32_15 : BitVec 32 := 0#32
  let v35 : BitVec 1 := Scalar.cmpi .slt v31 c0_i32_15
  let v36 : BitVec 1 := Scalar.xori v34 v35
  let c0_i32_13 : BitVec 32 := 0#32
  let v33 : BitVec 1 := Scalar.cmpi .ne v32 c0_i32_13
  let v37 : BitVec 1 := Scalar.andi v36 v33
  let v38 : BitVec 32 := Scalar.addi v32 v31
  let v39 : BitVec 32 := Scalar.select v37 v38 v32
  let c0_i32_16 : BitVec 32 := 0#32
  let v40 : BitVec 1 := Scalar.cmpi .eq v39 c0_i32_16
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c4_i32_4 : BitVec 32 := 4#32
  let c0_i32_7 : BitVec 32 := 0#32
  let v19 : BitVec 1 := Scalar.cmpi .sgt c4_i32_4 c0_i32_7
  let v20 : BitVec 32 := Scalar.extui v19
  let c0_i32_8 : BitVec 32 := 0#32
  let v21 : BitVec 1 := Scalar.cmpi .slt c4_i32_4 c0_i32_8
  let v22 : BitVec 32 := Scalar.extui v21
  let v23 : BitVec 32 := Scalar.subi v20 v22
  let v24 : BitVec 1 := Scalar.cmpi .ne v18 v23
  let v25 : BitVec 32 := Scalar.remsi v2 c4_i32_4
  let c0_i32_9 : BitVec 32 := 0#32
  let v26 : BitVec 1 := Scalar.cmpi .ne v25 c0_i32_9
  let v27 : BitVec 1 := Scalar.andi v24 v26
  let v13 : BitVec 32 := Scalar.divsi v2 c4_i32_4
  let c1_i32_10 : BitVec 32 := 1#32
  let v28 : BitVec 32 := Scalar.subi v13 c1_i32_10
  let v29 : BitVec 32 := Scalar.select v27 v28 v13
  let c3_i32 : BitVec 32 := 3#32
  let v41 : BitVec 32 := Scalar.subi c3_i32 v29
  let v42 : BitVec 32 := Scalar.select v40 v29 v41
  let v44 : BitVec 32 := Scalar.addi v43 v42
  let c1_i32_18 : BitVec 32 := 1#32
  let v45 : BitVec 32 := Scalar.addi v44 c1_i32_18
  let c16_i32_19 : BitVec 32 := 16#32
  let c0_i32_20 : BitVec 32 := 0#32
  let v46 : BitVec 1 := Scalar.cmpi .eq c16_i32_19 c0_i32_20
  let c1_i32_21 : BitVec 32 := 1#32
  let v47 : BitVec 32 := Scalar.select v46 c1_i32_21 c16_i32_19
  let v48 : BitVec 32 := Scalar.remsi v45 v47
  let c0_i32_23 : BitVec 32 := 0#32
  let v50 : BitVec 1 := Scalar.cmpi .slt v48 c0_i32_23
  let c0_i32_24 : BitVec 32 := 0#32
  let v51 : BitVec 1 := Scalar.cmpi .slt v47 c0_i32_24
  let v52 : BitVec 1 := Scalar.xori v50 v51
  let c0_i32_22 : BitVec 32 := 0#32
  let v49 : BitVec 1 := Scalar.cmpi .ne v48 c0_i32_22
  let v53 : BitVec 1 := Scalar.andi v52 v49
  let v54 : BitVec 32 := Scalar.addi v48 v47
  let v55 : BitVec 32 := Scalar.select v53 v54 v48
  let c0_i32_26 : BitVec 32 := 0#32
  let v57 : BitVec 1 := Scalar.cmpi .sgt v55 c0_i32_26
  let v58 : BitVec 32 := Scalar.extui v57
  let c0_i32_27 : BitVec 32 := 0#32
  let v59 : BitVec 1 := Scalar.cmpi .slt v55 c0_i32_27
  let v60 : BitVec 32 := Scalar.extui v59
  let v61 : BitVec 32 := Scalar.subi v58 v60
  let c4_i32_25 : BitVec 32 := 4#32
  let c0_i32_28 : BitVec 32 := 0#32
  let v62 : BitVec 1 := Scalar.cmpi .sgt c4_i32_25 c0_i32_28
  let v63 : BitVec 32 := Scalar.extui v62
  let c0_i32_29 : BitVec 32 := 0#32
  let v64 : BitVec 1 := Scalar.cmpi .slt c4_i32_25 c0_i32_29
  let v65 : BitVec 32 := Scalar.extui v64
  let v66 : BitVec 32 := Scalar.subi v63 v65
  let v67 : BitVec 1 := Scalar.cmpi .ne v61 v66
  let v68 : BitVec 32 := Scalar.remsi v55 c4_i32_25
  let c0_i32_30 : BitVec 32 := 0#32
  let v69 : BitVec 1 := Scalar.cmpi .ne v68 c0_i32_30
  let v70 : BitVec 1 := Scalar.andi v67 v69
  let v56 : BitVec 32 := Scalar.divsi v55 c4_i32_25
  let c1_i32_31 : BitVec 32 := 1#32
  let v71 : BitVec 32 := Scalar.subi v56 c1_i32_31
  let v72 : BitVec 32 := Scalar.select v70 v71 v56
  let c2_i32_38 : BitVec 32 := 2#32
  let c0_i32_39 : BitVec 32 := 0#32
  let v83 : BitVec 1 := Scalar.cmpi .eq c2_i32_38 c0_i32_39
  let c1_i32_40 : BitVec 32 := 1#32
  let v84 : BitVec 32 := Scalar.select v83 c1_i32_40 c2_i32_38
  let v85 : BitVec 32 := Scalar.remsi v72 v84
  let c0_i32_42 : BitVec 32 := 0#32
  let v87 : BitVec 1 := Scalar.cmpi .slt v85 c0_i32_42
  let c0_i32_43 : BitVec 32 := 0#32
  let v88 : BitVec 1 := Scalar.cmpi .slt v84 c0_i32_43
  let v89 : BitVec 1 := Scalar.xori v87 v88
  let c0_i32_41 : BitVec 32 := 0#32
  let v86 : BitVec 1 := Scalar.cmpi .ne v85 c0_i32_41
  let v90 : BitVec 1 := Scalar.andi v89 v86
  let v91 : BitVec 32 := Scalar.addi v85 v84
  let v92 : BitVec 32 := Scalar.select v90 v91 v85
  let c0_i32_44 : BitVec 32 := 0#32
  let v93 : BitVec 1 := Scalar.cmpi .eq v92 c0_i32_44
  let c4_i32_32 : BitVec 32 := 4#32
  let c0_i32_33 : BitVec 32 := 0#32
  let v73 : BitVec 1 := Scalar.cmpi .eq c4_i32_32 c0_i32_33
  let c1_i32_34 : BitVec 32 := 1#32
  let v74 : BitVec 32 := Scalar.select v73 c1_i32_34 c4_i32_32
  let v75 : BitVec 32 := Scalar.remsi v55 v74
  let c0_i32_36 : BitVec 32 := 0#32
  let v77 : BitVec 1 := Scalar.cmpi .slt v75 c0_i32_36
  let c0_i32_37 : BitVec 32 := 0#32
  let v78 : BitVec 1 := Scalar.cmpi .slt v74 c0_i32_37
  let v79 : BitVec 1 := Scalar.xori v77 v78
  let c0_i32_35 : BitVec 32 := 0#32
  let v76 : BitVec 1 := Scalar.cmpi .ne v75 c0_i32_35
  let v80 : BitVec 1 := Scalar.andi v79 v76
  let v81 : BitVec 32 := Scalar.addi v75 v74
  let v82 : BitVec 32 := Scalar.select v80 v81 v75
  let c3_i32_45 : BitVec 32 := 3#32
  let v94 : BitVec 32 := Scalar.subi c3_i32_45 v82
  let v95 : BitVec 32 := Scalar.select v93 v82 v94
  let v96 : BitVec 32 := Scalar.muli c4_i32_46 v95
  let v97 : BitVec 32 := Scalar.addi v96 v72
  let c1_i32_535 : BitVec 32 := 1#32
  let v815 : BitVec 32 := Scalar.muli v97 c1_i32_535
  let v816 : BitVec 32 := Scalar.addi c0_i32_536 v815
  v816.toNat
def k0_dev14 (d0 : Dev nD) : Nat :=
  let c0_i32_548 : BitVec 32 := 0#32
  let c4_i32_75 : BitVec 32 := 4#32
  let c4_i32_17 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let v43 : BitVec 32 := Scalar.muli c4_i32_17 v12
  let c2_i32 : BitVec 32 := 2#32
  let c0_i32_11 : BitVec 32 := 0#32
  let v30 : BitVec 1 := Scalar.cmpi .eq c2_i32 c0_i32_11
  let c1_i32_12 : BitVec 32 := 1#32
  let v31 : BitVec 32 := Scalar.select v30 c1_i32_12 c2_i32
  let v32 : BitVec 32 := Scalar.remsi v12 v31
  let c0_i32_14 : BitVec 32 := 0#32
  let v34 : BitVec 1 := Scalar.cmpi .slt v32 c0_i32_14
  let c0_i32_15 : BitVec 32 := 0#32
  let v35 : BitVec 1 := Scalar.cmpi .slt v31 c0_i32_15
  let v36 : BitVec 1 := Scalar.xori v34 v35
  let c0_i32_13 : BitVec 32 := 0#32
  let v33 : BitVec 1 := Scalar.cmpi .ne v32 c0_i32_13
  let v37 : BitVec 1 := Scalar.andi v36 v33
  let v38 : BitVec 32 := Scalar.addi v32 v31
  let v39 : BitVec 32 := Scalar.select v37 v38 v32
  let c0_i32_16 : BitVec 32 := 0#32
  let v40 : BitVec 1 := Scalar.cmpi .eq v39 c0_i32_16
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c4_i32_4 : BitVec 32 := 4#32
  let c0_i32_7 : BitVec 32 := 0#32
  let v19 : BitVec 1 := Scalar.cmpi .sgt c4_i32_4 c0_i32_7
  let v20 : BitVec 32 := Scalar.extui v19
  let c0_i32_8 : BitVec 32 := 0#32
  let v21 : BitVec 1 := Scalar.cmpi .slt c4_i32_4 c0_i32_8
  let v22 : BitVec 32 := Scalar.extui v21
  let v23 : BitVec 32 := Scalar.subi v20 v22
  let v24 : BitVec 1 := Scalar.cmpi .ne v18 v23
  let v25 : BitVec 32 := Scalar.remsi v2 c4_i32_4
  let c0_i32_9 : BitVec 32 := 0#32
  let v26 : BitVec 1 := Scalar.cmpi .ne v25 c0_i32_9
  let v27 : BitVec 1 := Scalar.andi v24 v26
  let v13 : BitVec 32 := Scalar.divsi v2 c4_i32_4
  let c1_i32_10 : BitVec 32 := 1#32
  let v28 : BitVec 32 := Scalar.subi v13 c1_i32_10
  let v29 : BitVec 32 := Scalar.select v27 v28 v13
  let c3_i32 : BitVec 32 := 3#32
  let v41 : BitVec 32 := Scalar.subi c3_i32 v29
  let v42 : BitVec 32 := Scalar.select v40 v29 v41
  let v44 : BitVec 32 := Scalar.addi v43 v42
  let c1_i32_47 : BitVec 32 := 1#32
  let v98 : BitVec 32 := Scalar.subi v44 c1_i32_47
  let c16_i32_48 : BitVec 32 := 16#32
  let c0_i32_49 : BitVec 32 := 0#32
  let v99 : BitVec 1 := Scalar.cmpi .eq c16_i32_48 c0_i32_49
  let c1_i32_50 : BitVec 32 := 1#32
  let v100 : BitVec 32 := Scalar.select v99 c1_i32_50 c16_i32_48
  let v101 : BitVec 32 := Scalar.remsi v98 v100
  let c0_i32_52 : BitVec 32 := 0#32
  let v103 : BitVec 1 := Scalar.cmpi .slt v101 c0_i32_52
  let c0_i32_53 : BitVec 32 := 0#32
  let v104 : BitVec 1 := Scalar.cmpi .slt v100 c0_i32_53
  let v105 : BitVec 1 := Scalar.xori v103 v104
  let c0_i32_51 : BitVec 32 := 0#32
  let v102 : BitVec 1 := Scalar.cmpi .ne v101 c0_i32_51
  let v106 : BitVec 1 := Scalar.andi v105 v102
  let v107 : BitVec 32 := Scalar.addi v101 v100
  let v108 : BitVec 32 := Scalar.select v106 v107 v101
  let c0_i32_55 : BitVec 32 := 0#32
  let v110 : BitVec 1 := Scalar.cmpi .sgt v108 c0_i32_55
  let v111 : BitVec 32 := Scalar.extui v110
  let c0_i32_56 : BitVec 32 := 0#32
  let v112 : BitVec 1 := Scalar.cmpi .slt v108 c0_i32_56
  let v113 : BitVec 32 := Scalar.extui v112
  let v114 : BitVec 32 := Scalar.subi v111 v113
  let c4_i32_54 : BitVec 32 := 4#32
  let c0_i32_57 : BitVec 32 := 0#32
  let v115 : BitVec 1 := Scalar.cmpi .sgt c4_i32_54 c0_i32_57
  let v116 : BitVec 32 := Scalar.extui v115
  let c0_i32_58 : BitVec 32 := 0#32
  let v117 : BitVec 1 := Scalar.cmpi .slt c4_i32_54 c0_i32_58
  let v118 : BitVec 32 := Scalar.extui v117
  let v119 : BitVec 32 := Scalar.subi v116 v118
  let v120 : BitVec 1 := Scalar.cmpi .ne v114 v119
  let v121 : BitVec 32 := Scalar.remsi v108 c4_i32_54
  let c0_i32_59 : BitVec 32 := 0#32
  let v122 : BitVec 1 := Scalar.cmpi .ne v121 c0_i32_59
  let v123 : BitVec 1 := Scalar.andi v120 v122
  let v109 : BitVec 32 := Scalar.divsi v108 c4_i32_54
  let c1_i32_60 : BitVec 32 := 1#32
  let v124 : BitVec 32 := Scalar.subi v109 c1_i32_60
  let v125 : BitVec 32 := Scalar.select v123 v124 v109
  let c2_i32_67 : BitVec 32 := 2#32
  let c0_i32_68 : BitVec 32 := 0#32
  let v136 : BitVec 1 := Scalar.cmpi .eq c2_i32_67 c0_i32_68
  let c1_i32_69 : BitVec 32 := 1#32
  let v137 : BitVec 32 := Scalar.select v136 c1_i32_69 c2_i32_67
  let v138 : BitVec 32 := Scalar.remsi v125 v137
  let c0_i32_71 : BitVec 32 := 0#32
  let v140 : BitVec 1 := Scalar.cmpi .slt v138 c0_i32_71
  let c0_i32_72 : BitVec 32 := 0#32
  let v141 : BitVec 1 := Scalar.cmpi .slt v137 c0_i32_72
  let v142 : BitVec 1 := Scalar.xori v140 v141
  let c0_i32_70 : BitVec 32 := 0#32
  let v139 : BitVec 1 := Scalar.cmpi .ne v138 c0_i32_70
  let v143 : BitVec 1 := Scalar.andi v142 v139
  let v144 : BitVec 32 := Scalar.addi v138 v137
  let v145 : BitVec 32 := Scalar.select v143 v144 v138
  let c0_i32_73 : BitVec 32 := 0#32
  let v146 : BitVec 1 := Scalar.cmpi .eq v145 c0_i32_73
  let c4_i32_61 : BitVec 32 := 4#32
  let c0_i32_62 : BitVec 32 := 0#32
  let v126 : BitVec 1 := Scalar.cmpi .eq c4_i32_61 c0_i32_62
  let c1_i32_63 : BitVec 32 := 1#32
  let v127 : BitVec 32 := Scalar.select v126 c1_i32_63 c4_i32_61
  let v128 : BitVec 32 := Scalar.remsi v108 v127
  let c0_i32_65 : BitVec 32 := 0#32
  let v130 : BitVec 1 := Scalar.cmpi .slt v128 c0_i32_65
  let c0_i32_66 : BitVec 32 := 0#32
  let v131 : BitVec 1 := Scalar.cmpi .slt v127 c0_i32_66
  let v132 : BitVec 1 := Scalar.xori v130 v131
  let c0_i32_64 : BitVec 32 := 0#32
  let v129 : BitVec 1 := Scalar.cmpi .ne v128 c0_i32_64
  let v133 : BitVec 1 := Scalar.andi v132 v129
  let v134 : BitVec 32 := Scalar.addi v128 v127
  let v135 : BitVec 32 := Scalar.select v133 v134 v128
  let c3_i32_74 : BitVec 32 := 3#32
  let v147 : BitVec 32 := Scalar.subi c3_i32_74 v135
  let v148 : BitVec 32 := Scalar.select v146 v135 v147
  let v149 : BitVec 32 := Scalar.muli c4_i32_75 v148
  let v150 : BitVec 32 := Scalar.addi v149 v125
  let c1_i32_547 : BitVec 32 := 1#32
  let v825 : BitVec 32 := Scalar.muli v150 c1_i32_547
  let v826 : BitVec 32 := Scalar.addi c0_i32_548 v825
  v826.toNat
def k0_dev15 (d0 : Dev nD) : Nat :=
  let c0_i32_706 : BitVec 32 := 0#32
  let c4_i32_75 : BitVec 32 := 4#32
  let c4_i32_17 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let v43 : BitVec 32 := Scalar.muli c4_i32_17 v12
  let c2_i32 : BitVec 32 := 2#32
  let c0_i32_11 : BitVec 32 := 0#32
  let v30 : BitVec 1 := Scalar.cmpi .eq c2_i32 c0_i32_11
  let c1_i32_12 : BitVec 32 := 1#32
  let v31 : BitVec 32 := Scalar.select v30 c1_i32_12 c2_i32
  let v32 : BitVec 32 := Scalar.remsi v12 v31
  let c0_i32_14 : BitVec 32 := 0#32
  let v34 : BitVec 1 := Scalar.cmpi .slt v32 c0_i32_14
  let c0_i32_15 : BitVec 32 := 0#32
  let v35 : BitVec 1 := Scalar.cmpi .slt v31 c0_i32_15
  let v36 : BitVec 1 := Scalar.xori v34 v35
  let c0_i32_13 : BitVec 32 := 0#32
  let v33 : BitVec 1 := Scalar.cmpi .ne v32 c0_i32_13
  let v37 : BitVec 1 := Scalar.andi v36 v33
  let v38 : BitVec 32 := Scalar.addi v32 v31
  let v39 : BitVec 32 := Scalar.select v37 v38 v32
  let c0_i32_16 : BitVec 32 := 0#32
  let v40 : BitVec 1 := Scalar.cmpi .eq v39 c0_i32_16
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c4_i32_4 : BitVec 32 := 4#32
  let c0_i32_7 : BitVec 32 := 0#32
  let v19 : BitVec 1 := Scalar.cmpi .sgt c4_i32_4 c0_i32_7
  let v20 : BitVec 32 := Scalar.extui v19
  let c0_i32_8 : BitVec 32 := 0#32
  let v21 : BitVec 1 := Scalar.cmpi .slt c4_i32_4 c0_i32_8
  let v22 : BitVec 32 := Scalar.extui v21
  let v23 : BitVec 32 := Scalar.subi v20 v22
  let v24 : BitVec 1 := Scalar.cmpi .ne v18 v23
  let v25 : BitVec 32 := Scalar.remsi v2 c4_i32_4
  let c0_i32_9 : BitVec 32 := 0#32
  let v26 : BitVec 1 := Scalar.cmpi .ne v25 c0_i32_9
  let v27 : BitVec 1 := Scalar.andi v24 v26
  let v13 : BitVec 32 := Scalar.divsi v2 c4_i32_4
  let c1_i32_10 : BitVec 32 := 1#32
  let v28 : BitVec 32 := Scalar.subi v13 c1_i32_10
  let v29 : BitVec 32 := Scalar.select v27 v28 v13
  let c3_i32 : BitVec 32 := 3#32
  let v41 : BitVec 32 := Scalar.subi c3_i32 v29
  let v42 : BitVec 32 := Scalar.select v40 v29 v41
  let v44 : BitVec 32 := Scalar.addi v43 v42
  let c1_i32_47 : BitVec 32 := 1#32
  let v98 : BitVec 32 := Scalar.subi v44 c1_i32_47
  let c16_i32_48 : BitVec 32 := 16#32
  let c0_i32_49 : BitVec 32 := 0#32
  let v99 : BitVec 1 := Scalar.cmpi .eq c16_i32_48 c0_i32_49
  let c1_i32_50 : BitVec 32 := 1#32
  let v100 : BitVec 32 := Scalar.select v99 c1_i32_50 c16_i32_48
  let v101 : BitVec 32 := Scalar.remsi v98 v100
  let c0_i32_52 : BitVec 32 := 0#32
  let v103 : BitVec 1 := Scalar.cmpi .slt v101 c0_i32_52
  let c0_i32_53 : BitVec 32 := 0#32
  let v104 : BitVec 1 := Scalar.cmpi .slt v100 c0_i32_53
  let v105 : BitVec 1 := Scalar.xori v103 v104
  let c0_i32_51 : BitVec 32 := 0#32
  let v102 : BitVec 1 := Scalar.cmpi .ne v101 c0_i32_51
  let v106 : BitVec 1 := Scalar.andi v105 v102
  let v107 : BitVec 32 := Scalar.addi v101 v100
  let v108 : BitVec 32 := Scalar.select v106 v107 v101
  let c0_i32_55 : BitVec 32 := 0#32
  let v110 : BitVec 1 := Scalar.cmpi .sgt v108 c0_i32_55
  let v111 : BitVec 32 := Scalar.extui v110
  let c0_i32_56 : BitVec 32 := 0#32
  let v112 : BitVec 1 := Scalar.cmpi .slt v108 c0_i32_56
  let v113 : BitVec 32 := Scalar.extui v112
  let v114 : BitVec 32 := Scalar.subi v111 v113
  let c4_i32_54 : BitVec 32 := 4#32
  let c0_i32_57 : BitVec 32 := 0#32
  let v115 : BitVec 1 := Scalar.cmpi .sgt c4_i32_54 c0_i32_57
  let v116 : BitVec 32 := Scalar.extui v115
  let c0_i32_58 : BitVec 32 := 0#32
  let v117 : BitVec 1 := Scalar.cmpi .slt c4_i32_54 c0_i32_58
  let v118 : BitVec 32 := Scalar.extui v117
  let v119 : BitVec 32 := Scalar.subi v116 v118
  let v120 : BitVec 1 := Scalar.cmpi .ne v114 v119
  let v121 : BitVec 32 := Scalar.remsi v108 c4_i32_54
  let c0_i32_59 : BitVec 32 := 0#32
  let v122 : BitVec 1 := Scalar.cmpi .ne v121 c0_i32_59
  let v123 : BitVec 1 := Scalar.andi v120 v122
  let v109 : BitVec 32 := Scalar.divsi v108 c4_i32_54
  let c1_i32_60 : BitVec 32 := 1#32
  let v124 : BitVec 32 := Scalar.subi v109 c1_i32_60
  let v125 : BitVec 32 := Scalar.select v123 v124 v109
  let c2_i32_67 : BitVec 32 := 2#32
  let c0_i32_68 : BitVec 32 := 0#32
  let v136 : BitVec 1 := Scalar.cmpi .eq c2_i32_67 c0_i32_68
  let c1_i32_69 : BitVec 32 := 1#32
  let v137 : BitVec 32 := Scalar.select v136 c1_i32_69 c2_i32_67
  let v138 : BitVec 32 := Scalar.remsi v125 v137
  let c0_i32_71 : BitVec 32 := 0#32
  let v140 : BitVec 1 := Scalar.cmpi .slt v138 c0_i32_71
  let c0_i32_72 : BitVec 32 := 0#32
  let v141 : BitVec 1 := Scalar.cmpi .slt v137 c0_i32_72
  let v142 : BitVec 1 := Scalar.xori v140 v141
  let c0_i32_70 : BitVec 32 := 0#32
  let v139 : BitVec 1 := Scalar.cmpi .ne v138 c0_i32_70
  let v143 : BitVec 1 := Scalar.andi v142 v139
  let v144 : BitVec 32 := Scalar.addi v138 v137
  let v145 : BitVec 32 := Scalar.select v143 v144 v138
  let c0_i32_73 : BitVec 32 := 0#32
  let v146 : BitVec 1 := Scalar.cmpi .eq v145 c0_i32_73
  let c4_i32_61 : BitVec 32 := 4#32
  let c0_i32_62 : BitVec 32 := 0#32
  let v126 : BitVec 1 := Scalar.cmpi .eq c4_i32_61 c0_i32_62
  let c1_i32_63 : BitVec 32 := 1#32
  let v127 : BitVec 32 := Scalar.select v126 c1_i32_63 c4_i32_61
  let v128 : BitVec 32 := Scalar.remsi v108 v127
  let c0_i32_65 : BitVec 32 := 0#32
  let v130 : BitVec 1 := Scalar.cmpi .slt v128 c0_i32_65
  let c0_i32_66 : BitVec 32 := 0#32
  let v131 : BitVec 1 := Scalar.cmpi .slt v127 c0_i32_66
  let v132 : BitVec 1 := Scalar.xori v130 v131
  let c0_i32_64 : BitVec 32 := 0#32
  let v129 : BitVec 1 := Scalar.cmpi .ne v128 c0_i32_64
  let v133 : BitVec 1 := Scalar.andi v132 v129
  let v134 : BitVec 32 := Scalar.addi v128 v127
  let v135 : BitVec 32 := Scalar.select v133 v134 v128
  let c3_i32_74 : BitVec 32 := 3#32
  let v147 : BitVec 32 := Scalar.subi c3_i32_74 v135
  let v148 : BitVec 32 := Scalar.select v146 v135 v147
  let v149 : BitVec 32 := Scalar.muli c4_i32_75 v148
  let v150 : BitVec 32 := Scalar.addi v149 v125
  let c1_i32_705 : BitVec 32 := 1#32
  let v1093 : BitVec 32 := Scalar.muli v150 c1_i32_705
  let v1094 : BitVec 32 := Scalar.addi c0_i32_706 v1093
  v1094.toNat
def k0_dev16 (d0 : Dev nD) : Nat :=
  let c0_i32_734 : BitVec 32 := 0#32
  let c4_i32_46 : BitVec 32 := 4#32
  let c4_i32_17 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let v43 : BitVec 32 := Scalar.muli c4_i32_17 v12
  let c2_i32 : BitVec 32 := 2#32
  let c0_i32_11 : BitVec 32 := 0#32
  let v30 : BitVec 1 := Scalar.cmpi .eq c2_i32 c0_i32_11
  let c1_i32_12 : BitVec 32 := 1#32
  let v31 : BitVec 32 := Scalar.select v30 c1_i32_12 c2_i32
  let v32 : BitVec 32 := Scalar.remsi v12 v31
  let c0_i32_14 : BitVec 32 := 0#32
  let v34 : BitVec 1 := Scalar.cmpi .slt v32 c0_i32_14
  let c0_i32_15 : BitVec 32 := 0#32
  let v35 : BitVec 1 := Scalar.cmpi .slt v31 c0_i32_15
  let v36 : BitVec 1 := Scalar.xori v34 v35
  let c0_i32_13 : BitVec 32 := 0#32
  let v33 : BitVec 1 := Scalar.cmpi .ne v32 c0_i32_13
  let v37 : BitVec 1 := Scalar.andi v36 v33
  let v38 : BitVec 32 := Scalar.addi v32 v31
  let v39 : BitVec 32 := Scalar.select v37 v38 v32
  let c0_i32_16 : BitVec 32 := 0#32
  let v40 : BitVec 1 := Scalar.cmpi .eq v39 c0_i32_16
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c4_i32_4 : BitVec 32 := 4#32
  let c0_i32_7 : BitVec 32 := 0#32
  let v19 : BitVec 1 := Scalar.cmpi .sgt c4_i32_4 c0_i32_7
  let v20 : BitVec 32 := Scalar.extui v19
  let c0_i32_8 : BitVec 32 := 0#32
  let v21 : BitVec 1 := Scalar.cmpi .slt c4_i32_4 c0_i32_8
  let v22 : BitVec 32 := Scalar.extui v21
  let v23 : BitVec 32 := Scalar.subi v20 v22
  let v24 : BitVec 1 := Scalar.cmpi .ne v18 v23
  let v25 : BitVec 32 := Scalar.remsi v2 c4_i32_4
  let c0_i32_9 : BitVec 32 := 0#32
  let v26 : BitVec 1 := Scalar.cmpi .ne v25 c0_i32_9
  let v27 : BitVec 1 := Scalar.andi v24 v26
  let v13 : BitVec 32 := Scalar.divsi v2 c4_i32_4
  let c1_i32_10 : BitVec 32 := 1#32
  let v28 : BitVec 32 := Scalar.subi v13 c1_i32_10
  let v29 : BitVec 32 := Scalar.select v27 v28 v13
  let c3_i32 : BitVec 32 := 3#32
  let v41 : BitVec 32 := Scalar.subi c3_i32 v29
  let v42 : BitVec 32 := Scalar.select v40 v29 v41
  let v44 : BitVec 32 := Scalar.addi v43 v42
  let c1_i32_18 : BitVec 32 := 1#32
  let v45 : BitVec 32 := Scalar.addi v44 c1_i32_18
  let c16_i32_19 : BitVec 32 := 16#32
  let c0_i32_20 : BitVec 32 := 0#32
  let v46 : BitVec 1 := Scalar.cmpi .eq c16_i32_19 c0_i32_20
  let c1_i32_21 : BitVec 32 := 1#32
  let v47 : BitVec 32 := Scalar.select v46 c1_i32_21 c16_i32_19
  let v48 : BitVec 32 := Scalar.remsi v45 v47
  let c0_i32_23 : BitVec 32 := 0#32
  let v50 : BitVec 1 := Scalar.cmpi .slt v48 c0_i32_23
  let c0_i32_24 : BitVec 32 := 0#32
  let v51 : BitVec 1 := Scalar.cmpi .slt v47 c0_i32_24
  let v52 : BitVec 1 := Scalar.xori v50 v51
  let c0_i32_22 : BitVec 32 := 0#32
  let v49 : BitVec 1 := Scalar.cmpi .ne v48 c0_i32_22
  let v53 : BitVec 1 := Scalar.andi v52 v49
  let v54 : BitVec 32 := Scalar.addi v48 v47
  let v55 : BitVec 32 := Scalar.select v53 v54 v48
  let c0_i32_26 : BitVec 32 := 0#32
  let v57 : BitVec 1 := Scalar.cmpi .sgt v55 c0_i32_26
  let v58 : BitVec 32 := Scalar.extui v57
  let c0_i32_27 : BitVec 32 := 0#32
  let v59 : BitVec 1 := Scalar.cmpi .slt v55 c0_i32_27
  let v60 : BitVec 32 := Scalar.extui v59
  let v61 : BitVec 32 := Scalar.subi v58 v60
  let c4_i32_25 : BitVec 32 := 4#32
  let c0_i32_28 : BitVec 32 := 0#32
  let v62 : BitVec 1 := Scalar.cmpi .sgt c4_i32_25 c0_i32_28
  let v63 : BitVec 32 := Scalar.extui v62
  let c0_i32_29 : BitVec 32 := 0#32
  let v64 : BitVec 1 := Scalar.cmpi .slt c4_i32_25 c0_i32_29
  let v65 : BitVec 32 := Scalar.extui v64
  let v66 : BitVec 32 := Scalar.subi v63 v65
  let v67 : BitVec 1 := Scalar.cmpi .ne v61 v66
  let v68 : BitVec 32 := Scalar.remsi v55 c4_i32_25
  let c0_i32_30 : BitVec 32 := 0#32
  let v69 : BitVec 1 := Scalar.cmpi .ne v68 c0_i32_30
  let v70 : BitVec 1 := Scalar.andi v67 v69
  let v56 : BitVec 32 := Scalar.divsi v55 c4_i32_25
  let c1_i32_31 : BitVec 32 := 1#32
  let v71 : BitVec 32 := Scalar.subi v56 c1_i32_31
  let v72 : BitVec 32 := Scalar.select v70 v71 v56
  let c2_i32_38 : BitVec 32 := 2#32
  let c0_i32_39 : BitVec 32 := 0#32
  let v83 : BitVec 1 := Scalar.cmpi .eq c2_i32_38 c0_i32_39
  let c1_i32_40 : BitVec 32 := 1#32
  let v84 : BitVec 32 := Scalar.select v83 c1_i32_40 c2_i32_38
  let v85 : BitVec 32 := Scalar.remsi v72 v84
  let c0_i32_42 : BitVec 32 := 0#32
  let v87 : BitVec 1 := Scalar.cmpi .slt v85 c0_i32_42
  let c0_i32_43 : BitVec 32 := 0#32
  let v88 : BitVec 1 := Scalar.cmpi .slt v84 c0_i32_43
  let v89 : BitVec 1 := Scalar.xori v87 v88
  let c0_i32_41 : BitVec 32 := 0#32
  let v86 : BitVec 1 := Scalar.cmpi .ne v85 c0_i32_41
  let v90 : BitVec 1 := Scalar.andi v89 v86
  let v91 : BitVec 32 := Scalar.addi v85 v84
  let v92 : BitVec 32 := Scalar.select v90 v91 v85
  let c0_i32_44 : BitVec 32 := 0#32
  let v93 : BitVec 1 := Scalar.cmpi .eq v92 c0_i32_44
  let c4_i32_32 : BitVec 32 := 4#32
  let c0_i32_33 : BitVec 32 := 0#32
  let v73 : BitVec 1 := Scalar.cmpi .eq c4_i32_32 c0_i32_33
  let c1_i32_34 : BitVec 32 := 1#32
  let v74 : BitVec 32 := Scalar.select v73 c1_i32_34 c4_i32_32
  let v75 : BitVec 32 := Scalar.remsi v55 v74
  let c0_i32_36 : BitVec 32 := 0#32
  let v77 : BitVec 1 := Scalar.cmpi .slt v75 c0_i32_36
  let c0_i32_37 : BitVec 32 := 0#32
  let v78 : BitVec 1 := Scalar.cmpi .slt v74 c0_i32_37
  let v79 : BitVec 1 := Scalar.xori v77 v78
  let c0_i32_35 : BitVec 32 := 0#32
  let v76 : BitVec 1 := Scalar.cmpi .ne v75 c0_i32_35
  let v80 : BitVec 1 := Scalar.andi v79 v76
  let v81 : BitVec 32 := Scalar.addi v75 v74
  let v82 : BitVec 32 := Scalar.select v80 v81 v75
  let c3_i32_45 : BitVec 32 := 3#32
  let v94 : BitVec 32 := Scalar.subi c3_i32_45 v82
  let v95 : BitVec 32 := Scalar.select v93 v82 v94
  let v96 : BitVec 32 := Scalar.muli c4_i32_46 v95
  let v97 : BitVec 32 := Scalar.addi v96 v72
  let c1_i32_733 : BitVec 32 := 1#32
  let v1117 : BitVec 32 := Scalar.muli v97 c1_i32_733
  let v1118 : BitVec 32 := Scalar.addi c0_i32_734 v1117
  v1118.toNat
def k0_dev17 (d0 : Dev nD) : Nat :=
  let c0_i32_748 : BitVec 32 := 0#32
  let c4_i32_46 : BitVec 32 := 4#32
  let c4_i32_17 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let v43 : BitVec 32 := Scalar.muli c4_i32_17 v12
  let c2_i32 : BitVec 32 := 2#32
  let c0_i32_11 : BitVec 32 := 0#32
  let v30 : BitVec 1 := Scalar.cmpi .eq c2_i32 c0_i32_11
  let c1_i32_12 : BitVec 32 := 1#32
  let v31 : BitVec 32 := Scalar.select v30 c1_i32_12 c2_i32
  let v32 : BitVec 32 := Scalar.remsi v12 v31
  let c0_i32_14 : BitVec 32 := 0#32
  let v34 : BitVec 1 := Scalar.cmpi .slt v32 c0_i32_14
  let c0_i32_15 : BitVec 32 := 0#32
  let v35 : BitVec 1 := Scalar.cmpi .slt v31 c0_i32_15
  let v36 : BitVec 1 := Scalar.xori v34 v35
  let c0_i32_13 : BitVec 32 := 0#32
  let v33 : BitVec 1 := Scalar.cmpi .ne v32 c0_i32_13
  let v37 : BitVec 1 := Scalar.andi v36 v33
  let v38 : BitVec 32 := Scalar.addi v32 v31
  let v39 : BitVec 32 := Scalar.select v37 v38 v32
  let c0_i32_16 : BitVec 32 := 0#32
  let v40 : BitVec 1 := Scalar.cmpi .eq v39 c0_i32_16
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c4_i32_4 : BitVec 32 := 4#32
  let c0_i32_7 : BitVec 32 := 0#32
  let v19 : BitVec 1 := Scalar.cmpi .sgt c4_i32_4 c0_i32_7
  let v20 : BitVec 32 := Scalar.extui v19
  let c0_i32_8 : BitVec 32 := 0#32
  let v21 : BitVec 1 := Scalar.cmpi .slt c4_i32_4 c0_i32_8
  let v22 : BitVec 32 := Scalar.extui v21
  let v23 : BitVec 32 := Scalar.subi v20 v22
  let v24 : BitVec 1 := Scalar.cmpi .ne v18 v23
  let v25 : BitVec 32 := Scalar.remsi v2 c4_i32_4
  let c0_i32_9 : BitVec 32 := 0#32
  let v26 : BitVec 1 := Scalar.cmpi .ne v25 c0_i32_9
  let v27 : BitVec 1 := Scalar.andi v24 v26
  let v13 : BitVec 32 := Scalar.divsi v2 c4_i32_4
  let c1_i32_10 : BitVec 32 := 1#32
  let v28 : BitVec 32 := Scalar.subi v13 c1_i32_10
  let v29 : BitVec 32 := Scalar.select v27 v28 v13
  let c3_i32 : BitVec 32 := 3#32
  let v41 : BitVec 32 := Scalar.subi c3_i32 v29
  let v42 : BitVec 32 := Scalar.select v40 v29 v41
  let v44 : BitVec 32 := Scalar.addi v43 v42
  let c1_i32_18 : BitVec 32 := 1#32
  let v45 : BitVec 32 := Scalar.addi v44 c1_i32_18
  let c16_i32_19 : BitVec 32 := 16#32
  let c0_i32_20 : BitVec 32 := 0#32
  let v46 : BitVec 1 := Scalar.cmpi .eq c16_i32_19 c0_i32_20
  let c1_i32_21 : BitVec 32 := 1#32
  let v47 : BitVec 32 := Scalar.select v46 c1_i32_21 c16_i32_19
  let v48 : BitVec 32 := Scalar.remsi v45 v47
  let c0_i32_23 : BitVec 32 := 0#32
  let v50 : BitVec 1 := Scalar.cmpi .slt v48 c0_i32_23
  let c0_i32_24 : BitVec 32 := 0#32
  let v51 : BitVec 1 := Scalar.cmpi .slt v47 c0_i32_24
  let v52 : BitVec 1 := Scalar.xori v50 v51
  let c0_i32_22 : BitVec 32 := 0#32
  let v49 : BitVec 1 := Scalar.cmpi .ne v48 c0_i32_22
  let v53 : BitVec 1 := Scalar.andi v52 v49
  let v54 : BitVec 32 := Scalar.addi v48 v47
  let v55 : BitVec 32 := Scalar.select v53 v54 v48
  let c0_i32_26 : BitVec 32 := 0#32
  let v57 : BitVec 1 := Scalar.cmpi .sgt v55 c0_i32_26
  let v58 : BitVec 32 := Scalar.extui v57
  let c0_i32_27 : BitVec 32 := 0#32
  let v59 : BitVec 1 := Scalar.cmpi .slt v55 c0_i32_27
  let v60 : BitVec 32 := Scalar.extui v59
  let v61 : BitVec 32 := Scalar.subi v58 v60
  let c4_i32_25 : BitVec 32 := 4#32
  let c0_i32_28 : BitVec 32 := 0#32
  let v62 : BitVec 1 := Scalar.cmpi .sgt c4_i32_25 c0_i32_28
  let v63 : BitVec 32 := Scalar.extui v62
  let c0_i32_29 : BitVec 32 := 0#32
  let v64 : BitVec 1 := Scalar.cmpi .slt c4_i32_25 c0_i32_29
  let v65 : BitVec 32 := Scalar.extui v64
  let v66 : BitVec 32 := Scalar.subi v63 v65
  let v67 : BitVec 1 := Scalar.cmpi .ne v61 v66
  let v68 : BitVec 32 := Scalar.remsi v55 c4_i32_25
  let c0_i32_30 : BitVec 32 := 0#32
  let v69 : BitVec 1 := Scalar.cmpi .ne v68 c0_i32_30
  let v70 : BitVec 1 := Scalar.andi v67 v69
  let v56 : BitVec 32 := Scalar.divsi v55 c4_i32_25
  let c1_i32_31 : BitVec 32 := 1#32
  let v71 : BitVec 32 := Scalar.subi v56 c1_i32_31
  let v72 : BitVec 32 := Scalar.select v70 v71 v56
  let c2_i32_38 : BitVec 32 := 2#32
  let c0_i32_39 : BitVec 32 := 0#32
  let v83 : BitVec 1 := Scalar.cmpi .eq c2_i32_38 c0_i32_39
  let c1_i32_40 : BitVec 32 := 1#32
  let v84 : BitVec 32 := Scalar.select v83 c1_i32_40 c2_i32_38
  let v85 : BitVec 32 := Scalar.remsi v72 v84
  let c0_i32_42 : BitVec 32 := 0#32
  let v87 : BitVec 1 := Scalar.cmpi .slt v85 c0_i32_42
  let c0_i32_43 : BitVec 32 := 0#32
  let v88 : BitVec 1 := Scalar.cmpi .slt v84 c0_i32_43
  let v89 : BitVec 1 := Scalar.xori v87 v88
  let c0_i32_41 : BitVec 32 := 0#32
  let v86 : BitVec 1 := Scalar.cmpi .ne v85 c0_i32_41
  let v90 : BitVec 1 := Scalar.andi v89 v86
  let v91 : BitVec 32 := Scalar.addi v85 v84
  let v92 : BitVec 32 := Scalar.select v90 v91 v85
  let c0_i32_44 : BitVec 32 := 0#32
  let v93 : BitVec 1 := Scalar.cmpi .eq v92 c0_i32_44
  let c4_i32_32 : BitVec 32 := 4#32
  let c0_i32_33 : BitVec 32 := 0#32
  let v73 : BitVec 1 := Scalar.cmpi .eq c4_i32_32 c0_i32_33
  let c1_i32_34 : BitVec 32 := 1#32
  let v74 : BitVec 32 := Scalar.select v73 c1_i32_34 c4_i32_32
  let v75 : BitVec 32 := Scalar.remsi v55 v74
  let c0_i32_36 : BitVec 32 := 0#32
  let v77 : BitVec 1 := Scalar.cmpi .slt v75 c0_i32_36
  let c0_i32_37 : BitVec 32 := 0#32
  let v78 : BitVec 1 := Scalar.cmpi .slt v74 c0_i32_37
  let v79 : BitVec 1 := Scalar.xori v77 v78
  let c0_i32_35 : BitVec 32 := 0#32
  let v76 : BitVec 1 := Scalar.cmpi .ne v75 c0_i32_35
  let v80 : BitVec 1 := Scalar.andi v79 v76
  let v81 : BitVec 32 := Scalar.addi v75 v74
  let v82 : BitVec 32 := Scalar.select v80 v81 v75
  let c3_i32_45 : BitVec 32 := 3#32
  let v94 : BitVec 32 := Scalar.subi c3_i32_45 v82
  let v95 : BitVec 32 := Scalar.select v93 v82 v94
  let v96 : BitVec 32 := Scalar.muli c4_i32_46 v95
  let v97 : BitVec 32 := Scalar.addi v96 v72
  let c1_i32_747 : BitVec 32 := 1#32
  let v1127 : BitVec 32 := Scalar.muli v97 c1_i32_747
  let v1128 : BitVec 32 := Scalar.addi c0_i32_748 v1127
  v1128.toNat
def k0_dev18 (d0 : Dev nD) : Nat :=
  let c0_i32_760 : BitVec 32 := 0#32
  let c4_i32_75 : BitVec 32 := 4#32
  let c4_i32_17 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let v43 : BitVec 32 := Scalar.muli c4_i32_17 v12
  let c2_i32 : BitVec 32 := 2#32
  let c0_i32_11 : BitVec 32 := 0#32
  let v30 : BitVec 1 := Scalar.cmpi .eq c2_i32 c0_i32_11
  let c1_i32_12 : BitVec 32 := 1#32
  let v31 : BitVec 32 := Scalar.select v30 c1_i32_12 c2_i32
  let v32 : BitVec 32 := Scalar.remsi v12 v31
  let c0_i32_14 : BitVec 32 := 0#32
  let v34 : BitVec 1 := Scalar.cmpi .slt v32 c0_i32_14
  let c0_i32_15 : BitVec 32 := 0#32
  let v35 : BitVec 1 := Scalar.cmpi .slt v31 c0_i32_15
  let v36 : BitVec 1 := Scalar.xori v34 v35
  let c0_i32_13 : BitVec 32 := 0#32
  let v33 : BitVec 1 := Scalar.cmpi .ne v32 c0_i32_13
  let v37 : BitVec 1 := Scalar.andi v36 v33
  let v38 : BitVec 32 := Scalar.addi v32 v31
  let v39 : BitVec 32 := Scalar.select v37 v38 v32
  let c0_i32_16 : BitVec 32 := 0#32
  let v40 : BitVec 1 := Scalar.cmpi .eq v39 c0_i32_16
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c4_i32_4 : BitVec 32 := 4#32
  let c0_i32_7 : BitVec 32 := 0#32
  let v19 : BitVec 1 := Scalar.cmpi .sgt c4_i32_4 c0_i32_7
  let v20 : BitVec 32 := Scalar.extui v19
  let c0_i32_8 : BitVec 32 := 0#32
  let v21 : BitVec 1 := Scalar.cmpi .slt c4_i32_4 c0_i32_8
  let v22 : BitVec 32 := Scalar.extui v21
  let v23 : BitVec 32 := Scalar.subi v20 v22
  let v24 : BitVec 1 := Scalar.cmpi .ne v18 v23
  let v25 : BitVec 32 := Scalar.remsi v2 c4_i32_4
  let c0_i32_9 : BitVec 32 := 0#32
  let v26 : BitVec 1 := Scalar.cmpi .ne v25 c0_i32_9
  let v27 : BitVec 1 := Scalar.andi v24 v26
  let v13 : BitVec 32 := Scalar.divsi v2 c4_i32_4
  let c1_i32_10 : BitVec 32 := 1#32
  let v28 : BitVec 32 := Scalar.subi v13 c1_i32_10
  let v29 : BitVec 32 := Scalar.select v27 v28 v13
  let c3_i32 : BitVec 32 := 3#32
  let v41 : BitVec 32 := Scalar.subi c3_i32 v29
  let v42 : BitVec 32 := Scalar.select v40 v29 v41
  let v44 : BitVec 32 := Scalar.addi v43 v42
  let c1_i32_47 : BitVec 32 := 1#32
  let v98 : BitVec 32 := Scalar.subi v44 c1_i32_47
  let c16_i32_48 : BitVec 32 := 16#32
  let c0_i32_49 : BitVec 32 := 0#32
  let v99 : BitVec 1 := Scalar.cmpi .eq c16_i32_48 c0_i32_49
  let c1_i32_50 : BitVec 32 := 1#32
  let v100 : BitVec 32 := Scalar.select v99 c1_i32_50 c16_i32_48
  let v101 : BitVec 32 := Scalar.remsi v98 v100
  let c0_i32_52 : BitVec 32 := 0#32
  let v103 : BitVec 1 := Scalar.cmpi .slt v101 c0_i32_52
  let c0_i32_53 : BitVec 32 := 0#32
  let v104 : BitVec 1 := Scalar.cmpi .slt v100 c0_i32_53
  let v105 : BitVec 1 := Scalar.xori v103 v104
  let c0_i32_51 : BitVec 32 := 0#32
  let v102 : BitVec 1 := Scalar.cmpi .ne v101 c0_i32_51
  let v106 : BitVec 1 := Scalar.andi v105 v102
  let v107 : BitVec 32 := Scalar.addi v101 v100
  let v108 : BitVec 32 := Scalar.select v106 v107 v101
  let c0_i32_55 : BitVec 32 := 0#32
  let v110 : BitVec 1 := Scalar.cmpi .sgt v108 c0_i32_55
  let v111 : BitVec 32 := Scalar.extui v110
  let c0_i32_56 : BitVec 32 := 0#32
  let v112 : BitVec 1 := Scalar.cmpi .slt v108 c0_i32_56
  let v113 : BitVec 32 := Scalar.extui v112
  let v114 : BitVec 32 := Scalar.subi v111 v113
  let c4_i32_54 : BitVec 32 := 4#32
  let c0_i32_57 : BitVec 32 := 0#32
  let v115 : BitVec 1 := Scalar.cmpi .sgt c4_i32_54 c0_i32_57
  let v116 : BitVec 32 := Scalar.extui v115
  let c0_i32_58 : BitVec 32 := 0#32
  let v117 : BitVec 1 := Scalar.cmpi .slt c4_i32_54 c0_i32_58
  let v118 : BitVec 32 := Scalar.extui v117
  let v119 : BitVec 32 := Scalar.subi v116 v118
  let v120 : BitVec 1 := Scalar.cmpi .ne v114 v119
  let v121 : BitVec 32 := Scalar.remsi v108 c4_i32_54
  let c0_i32_59 : BitVec 32 := 0#32
  let v122 : BitVec 1 := Scalar.cmpi .ne v121 c0_i32_59
  let v123 : BitVec 1 := Scalar.andi v120 v122
  let v109 : BitVec 32 := Scalar.divsi v108 c4_i32_54
  let c1_i32_60 : BitVec 32 := 1#32
  let v124 : BitVec 32 := Scalar.subi v109 c1_i32_60
  let v125 : BitVec 32 := Scalar.select v123 v124 v109
  let c2_i32_67 : BitVec 32 := 2#32
  let c0_i32_68 : BitVec 32 := 0#32
  let v136 : BitVec 1 := Scalar.cmpi .eq c2_i32_67 c0_i32_68
  let c1_i32_69 : BitVec 32 := 1#32
  let v137 : BitVec 32 := Scalar.select v136 c1_i32_69 c2_i32_67
  let v138 : BitVec 32 := Scalar.remsi v125 v137
  let c0_i32_71 : BitVec 32 := 0#32
  let v140 : BitVec 1 := Scalar.cmpi .slt v138 c0_i32_71
  let c0_i32_72 : BitVec 32 := 0#32
  let v141 : BitVec 1 := Scalar.cmpi .slt v137 c0_i32_72
  let v142 : BitVec 1 := Scalar.xori v140 v141
  let c0_i32_70 : BitVec 32 := 0#32
  let v139 : BitVec 1 := Scalar.cmpi .ne v138 c0_i32_70
  let v143 : BitVec 1 := Scalar.andi v142 v139
  let v144 : BitVec 32 := Scalar.addi v138 v137
  let v145 : BitVec 32 := Scalar.select v143 v144 v138
  let c0_i32_73 : BitVec 32 := 0#32
  let v146 : BitVec 1 := Scalar.cmpi .eq v145 c0_i32_73
  let c4_i32_61 : BitVec 32 := 4#32
  let c0_i32_62 : BitVec 32 := 0#32
  let v126 : BitVec 1 := Scalar.cmpi .eq c4_i32_61 c0_i32_62
  let c1_i32_63 : BitVec 32 := 1#32
  let v127 : BitVec 32 := Scalar.select v126 c1_i32_63 c4_i32_61
  let v128 : BitVec 32 := Scalar.remsi v108 v127
  let c0_i32_65 : BitVec 32 := 0#32
  let v130 : BitVec 1 := Scalar.cmpi .slt v128 c0_i32_65
  let c0_i32_66 : BitVec 32 := 0#32
  let v131 : BitVec 1 := Scalar.cmpi .slt v127 c0_i32_66
  let v132 : BitVec 1 := Scalar.xori v130 v131
  let c0_i32_64 : BitVec 32 := 0#32
  let v129 : BitVec 1 := Scalar.cmpi .ne v128 c0_i32_64
  let v133 : BitVec 1 := Scalar.andi v132 v129
  let v134 : BitVec 32 := Scalar.addi v128 v127
  let v135 : BitVec 32 := Scalar.select v133 v134 v128
  let c3_i32_74 : BitVec 32 := 3#32
  let v147 : BitVec 32 := Scalar.subi c3_i32_74 v135
  let v148 : BitVec 32 := Scalar.select v146 v135 v147
  let v149 : BitVec 32 := Scalar.muli c4_i32_75 v148
  let v150 : BitVec 32 := Scalar.addi v149 v125
  let c1_i32_759 : BitVec 32 := 1#32
  let v1137 : BitVec 32 := Scalar.muli v150 c1_i32_759
  let v1138 : BitVec 32 := Scalar.addi c0_i32_760 v1137
  v1138.toNat
def k0_dev19 (d0 : Dev nD) : Nat :=
  let c0_i32_786 : BitVec 32 := 0#32
  let c4_i32_75 : BitVec 32 := 4#32
  let c4_i32_17 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let v43 : BitVec 32 := Scalar.muli c4_i32_17 v12
  let c2_i32 : BitVec 32 := 2#32
  let c0_i32_11 : BitVec 32 := 0#32
  let v30 : BitVec 1 := Scalar.cmpi .eq c2_i32 c0_i32_11
  let c1_i32_12 : BitVec 32 := 1#32
  let v31 : BitVec 32 := Scalar.select v30 c1_i32_12 c2_i32
  let v32 : BitVec 32 := Scalar.remsi v12 v31
  let c0_i32_14 : BitVec 32 := 0#32
  let v34 : BitVec 1 := Scalar.cmpi .slt v32 c0_i32_14
  let c0_i32_15 : BitVec 32 := 0#32
  let v35 : BitVec 1 := Scalar.cmpi .slt v31 c0_i32_15
  let v36 : BitVec 1 := Scalar.xori v34 v35
  let c0_i32_13 : BitVec 32 := 0#32
  let v33 : BitVec 1 := Scalar.cmpi .ne v32 c0_i32_13
  let v37 : BitVec 1 := Scalar.andi v36 v33
  let v38 : BitVec 32 := Scalar.addi v32 v31
  let v39 : BitVec 32 := Scalar.select v37 v38 v32
  let c0_i32_16 : BitVec 32 := 0#32
  let v40 : BitVec 1 := Scalar.cmpi .eq v39 c0_i32_16
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c4_i32_4 : BitVec 32 := 4#32
  let c0_i32_7 : BitVec 32 := 0#32
  let v19 : BitVec 1 := Scalar.cmpi .sgt c4_i32_4 c0_i32_7
  let v20 : BitVec 32 := Scalar.extui v19
  let c0_i32_8 : BitVec 32 := 0#32
  let v21 : BitVec 1 := Scalar.cmpi .slt c4_i32_4 c0_i32_8
  let v22 : BitVec 32 := Scalar.extui v21
  let v23 : BitVec 32 := Scalar.subi v20 v22
  let v24 : BitVec 1 := Scalar.cmpi .ne v18 v23
  let v25 : BitVec 32 := Scalar.remsi v2 c4_i32_4
  let c0_i32_9 : BitVec 32 := 0#32
  let v26 : BitVec 1 := Scalar.cmpi .ne v25 c0_i32_9
  let v27 : BitVec 1 := Scalar.andi v24 v26
  let v13 : BitVec 32 := Scalar.divsi v2 c4_i32_4
  let c1_i32_10 : BitVec 32 := 1#32
  let v28 : BitVec 32 := Scalar.subi v13 c1_i32_10
  let v29 : BitVec 32 := Scalar.select v27 v28 v13
  let c3_i32 : BitVec 32 := 3#32
  let v41 : BitVec 32 := Scalar.subi c3_i32 v29
  let v42 : BitVec 32 := Scalar.select v40 v29 v41
  let v44 : BitVec 32 := Scalar.addi v43 v42
  let c1_i32_47 : BitVec 32 := 1#32
  let v98 : BitVec 32 := Scalar.subi v44 c1_i32_47
  let c16_i32_48 : BitVec 32 := 16#32
  let c0_i32_49 : BitVec 32 := 0#32
  let v99 : BitVec 1 := Scalar.cmpi .eq c16_i32_48 c0_i32_49
  let c1_i32_50 : BitVec 32 := 1#32
  let v100 : BitVec 32 := Scalar.select v99 c1_i32_50 c16_i32_48
  let v101 : BitVec 32 := Scalar.remsi v98 v100
  let c0_i32_52 : BitVec 32 := 0#32
  let v103 : BitVec 1 := Scalar.cmpi .slt v101 c0_i32_52
  let c0_i32_53 : BitVec 32 := 0#32
  let v104 : BitVec 1 := Scalar.cmpi .slt v100 c0_i32_53
  let v105 : BitVec 1 := Scalar.xori v103 v104
  let c0_i32_51 : BitVec 32 := 0#32
  let v102 : BitVec 1 := Scalar.cmpi .ne v101 c0_i32_51
  let v106 : BitVec 1 := Scalar.andi v105 v102
  let v107 : BitVec 32 := Scalar.addi v101 v100
  let v108 : BitVec 32 := Scalar.select v106 v107 v101
  let c0_i32_55 : BitVec 32 := 0#32
  let v110 : BitVec 1 := Scalar.cmpi .sgt v108 c0_i32_55
  let v111 : BitVec 32 := Scalar.extui v110
  let c0_i32_56 : BitVec 32 := 0#32
  let v112 : BitVec 1 := Scalar.cmpi .slt v108 c0_i32_56
  let v113 : BitVec 32 := Scalar.extui v112
  let v114 : BitVec 32 := Scalar.subi v111 v113
  let c4_i32_54 : BitVec 32 := 4#32
  let c0_i32_57 : BitVec 32 := 0#32
  let v115 : BitVec 1 := Scalar.cmpi .sgt c4_i32_54 c0_i32_57
  let v116 : BitVec 32 := Scalar.extui v115
  let c0_i32_58 : BitVec 32 := 0#32
  let v117 : BitVec 1 := Scalar.cmpi .slt c4_i32_54 c0_i32_58
  let v118 : BitVec 32 := Scalar.extui v117
  let v119 : BitVec 32 := Scalar.subi v116 v118
  let v120 : BitVec 1 := Scalar.cmpi .ne v114 v119
  let v121 : BitVec 32 := Scalar.remsi v108 c4_i32_54
  let c0_i32_59 : BitVec 32 := 0#32
  let v122 : BitVec 1 := Scalar.cmpi .ne v121 c0_i32_59
  let v123 : BitVec 1 := Scalar.andi v120 v122
  let v109 : BitVec 32 := Scalar.divsi v108 c4_i32_54
  let c1_i32_60 : BitVec 32 := 1#32
  let v124 : BitVec 32 := Scalar.subi v109 c1_i32_60
  let v125 : BitVec 32 := Scalar.select v123 v124 v109
  let c2_i32_67 : BitVec 32 := 2#32
  let c0_i32_68 : BitVec 32 := 0#32
  let v136 : BitVec 1 := Scalar.cmpi .eq c2_i32_67 c0_i32_68
  let c1_i32_69 : BitVec 32 := 1#32
  let v137 : BitVec 32 := Scalar.select v136 c1_i32_69 c2_i32_67
  let v138 : BitVec 32 := Scalar.remsi v125 v137
  let c0_i32_71 : BitVec 32 := 0#32
  let v140 : BitVec 1 := Scalar.cmpi .slt v138 c0_i32_71
  let c0_i32_72 : BitVec 32 := 0#32
  let v141 : BitVec 1 := Scalar.cmpi .slt v137 c0_i32_72
  let v142 : BitVec 1 := Scalar.xori v140 v141
  let c0_i32_70 : BitVec 32 := 0#32
  let v139 : BitVec 1 := Scalar.cmpi .ne v138 c0_i32_70
  let v143 : BitVec 1 := Scalar.andi v142 v139
  let v144 : BitVec 32 := Scalar.addi v138 v137
  let v145 : BitVec 32 := Scalar.select v143 v144 v138
  let c0_i32_73 : BitVec 32 := 0#32
  let v146 : BitVec 1 := Scalar.cmpi .eq v145 c0_i32_73
  let c4_i32_61 : BitVec 32 := 4#32
  let c0_i32_62 : BitVec 32 := 0#32
  let v126 : BitVec 1 := Scalar.cmpi .eq c4_i32_61 c0_i32_62
  let c1_i32_63 : BitVec 32 := 1#32
  let v127 : BitVec 32 := Scalar.select v126 c1_i32_63 c4_i32_61
  let v128 : BitVec 32 := Scalar.remsi v108 v127
  let c0_i32_65 : BitVec 32 := 0#32
  let v130 : BitVec 1 := Scalar.cmpi .slt v128 c0_i32_65
  let c0_i32_66 : BitVec 32 := 0#32
  let v131 : BitVec 1 := Scalar.cmpi .slt v127 c0_i32_66
  let v132 : BitVec 1 := Scalar.xori v130 v131
  let c0_i32_64 : BitVec 32 := 0#32
  let v129 : BitVec 1 := Scalar.cmpi .ne v128 c0_i32_64
  let v133 : BitVec 1 := Scalar.andi v132 v129
  let v134 : BitVec 32 := Scalar.addi v128 v127
  let v135 : BitVec 32 := Scalar.select v133 v134 v128
  let c3_i32_74 : BitVec 32 := 3#32
  let v147 : BitVec 32 := Scalar.subi c3_i32_74 v135
  let v148 : BitVec 32 := Scalar.select v146 v135 v147
  let v149 : BitVec 32 := Scalar.muli c4_i32_75 v148
  let v150 : BitVec 32 := Scalar.addi v149 v125
  let c1_i32_785 : BitVec 32 := 1#32
  let v1161 : BitVec 32 := Scalar.muli v150 c1_i32_785
  let v1162 : BitVec 32 := Scalar.addi c0_i32_786 v1161
  v1162.toNat
def k0_dev20 (d0 : Dev nD) : Nat :=
  let c0_i32_814 : BitVec 32 := 0#32
  let c4_i32_46 : BitVec 32 := 4#32
  let c4_i32_17 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let v43 : BitVec 32 := Scalar.muli c4_i32_17 v12
  let c2_i32 : BitVec 32 := 2#32
  let c0_i32_11 : BitVec 32 := 0#32
  let v30 : BitVec 1 := Scalar.cmpi .eq c2_i32 c0_i32_11
  let c1_i32_12 : BitVec 32 := 1#32
  let v31 : BitVec 32 := Scalar.select v30 c1_i32_12 c2_i32
  let v32 : BitVec 32 := Scalar.remsi v12 v31
  let c0_i32_14 : BitVec 32 := 0#32
  let v34 : BitVec 1 := Scalar.cmpi .slt v32 c0_i32_14
  let c0_i32_15 : BitVec 32 := 0#32
  let v35 : BitVec 1 := Scalar.cmpi .slt v31 c0_i32_15
  let v36 : BitVec 1 := Scalar.xori v34 v35
  let c0_i32_13 : BitVec 32 := 0#32
  let v33 : BitVec 1 := Scalar.cmpi .ne v32 c0_i32_13
  let v37 : BitVec 1 := Scalar.andi v36 v33
  let v38 : BitVec 32 := Scalar.addi v32 v31
  let v39 : BitVec 32 := Scalar.select v37 v38 v32
  let c0_i32_16 : BitVec 32 := 0#32
  let v40 : BitVec 1 := Scalar.cmpi .eq v39 c0_i32_16
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c4_i32_4 : BitVec 32 := 4#32
  let c0_i32_7 : BitVec 32 := 0#32
  let v19 : BitVec 1 := Scalar.cmpi .sgt c4_i32_4 c0_i32_7
  let v20 : BitVec 32 := Scalar.extui v19
  let c0_i32_8 : BitVec 32 := 0#32
  let v21 : BitVec 1 := Scalar.cmpi .slt c4_i32_4 c0_i32_8
  let v22 : BitVec 32 := Scalar.extui v21
  let v23 : BitVec 32 := Scalar.subi v20 v22
  let v24 : BitVec 1 := Scalar.cmpi .ne v18 v23
  let v25 : BitVec 32 := Scalar.remsi v2 c4_i32_4
  let c0_i32_9 : BitVec 32 := 0#32
  let v26 : BitVec 1 := Scalar.cmpi .ne v25 c0_i32_9
  let v27 : BitVec 1 := Scalar.andi v24 v26
  let v13 : BitVec 32 := Scalar.divsi v2 c4_i32_4
  let c1_i32_10 : BitVec 32 := 1#32
  let v28 : BitVec 32 := Scalar.subi v13 c1_i32_10
  let v29 : BitVec 32 := Scalar.select v27 v28 v13
  let c3_i32 : BitVec 32 := 3#32
  let v41 : BitVec 32 := Scalar.subi c3_i32 v29
  let v42 : BitVec 32 := Scalar.select v40 v29 v41
  let v44 : BitVec 32 := Scalar.addi v43 v42
  let c1_i32_18 : BitVec 32 := 1#32
  let v45 : BitVec 32 := Scalar.addi v44 c1_i32_18
  let c16_i32_19 : BitVec 32 := 16#32
  let c0_i32_20 : BitVec 32 := 0#32
  let v46 : BitVec 1 := Scalar.cmpi .eq c16_i32_19 c0_i32_20
  let c1_i32_21 : BitVec 32 := 1#32
  let v47 : BitVec 32 := Scalar.select v46 c1_i32_21 c16_i32_19
  let v48 : BitVec 32 := Scalar.remsi v45 v47
  let c0_i32_23 : BitVec 32 := 0#32
  let v50 : BitVec 1 := Scalar.cmpi .slt v48 c0_i32_23
  let c0_i32_24 : BitVec 32 := 0#32
  let v51 : BitVec 1 := Scalar.cmpi .slt v47 c0_i32_24
  let v52 : BitVec 1 := Scalar.xori v50 v51
  let c0_i32_22 : BitVec 32 := 0#32
  let v49 : BitVec 1 := Scalar.cmpi .ne v48 c0_i32_22
  let v53 : BitVec 1 := Scalar.andi v52 v49
  let v54 : BitVec 32 := Scalar.addi v48 v47
  let v55 : BitVec 32 := Scalar.select v53 v54 v48
  let c0_i32_26 : BitVec 32 := 0#32
  let v57 : BitVec 1 := Scalar.cmpi .sgt v55 c0_i32_26
  let v58 : BitVec 32 := Scalar.extui v57
  let c0_i32_27 : BitVec 32 := 0#32
  let v59 : BitVec 1 := Scalar.cmpi .slt v55 c0_i32_27
  let v60 : BitVec 32 := Scalar.extui v59
  let v61 : BitVec 32 := Scalar.subi v58 v60
  let c4_i32_25 : BitVec 32 := 4#32
  let c0_i32_28 : BitVec 32 := 0#32
  let v62 : BitVec 1 := Scalar.cmpi .sgt c4_i32_25 c0_i32_28
  let v63 : BitVec 32 := Scalar.extui v62
  let c0_i32_29 : BitVec 32 := 0#32
  let v64 : BitVec 1 := Scalar.cmpi .slt c4_i32_25 c0_i32_29
  let v65 : BitVec 32 := Scalar.extui v64
  let v66 : BitVec 32 := Scalar.subi v63 v65
  let v67 : BitVec 1 := Scalar.cmpi .ne v61 v66
  let v68 : BitVec 32 := Scalar.remsi v55 c4_i32_25
  let c0_i32_30 : BitVec 32 := 0#32
  let v69 : BitVec 1 := Scalar.cmpi .ne v68 c0_i32_30
  let v70 : BitVec 1 := Scalar.andi v67 v69
  let v56 : BitVec 32 := Scalar.divsi v55 c4_i32_25
  let c1_i32_31 : BitVec 32 := 1#32
  let v71 : BitVec 32 := Scalar.subi v56 c1_i32_31
  let v72 : BitVec 32 := Scalar.select v70 v71 v56
  let c2_i32_38 : BitVec 32 := 2#32
  let c0_i32_39 : BitVec 32 := 0#32
  let v83 : BitVec 1 := Scalar.cmpi .eq c2_i32_38 c0_i32_39
  let c1_i32_40 : BitVec 32 := 1#32
  let v84 : BitVec 32 := Scalar.select v83 c1_i32_40 c2_i32_38
  let v85 : BitVec 32 := Scalar.remsi v72 v84
  let c0_i32_42 : BitVec 32 := 0#32
  let v87 : BitVec 1 := Scalar.cmpi .slt v85 c0_i32_42
  let c0_i32_43 : BitVec 32 := 0#32
  let v88 : BitVec 1 := Scalar.cmpi .slt v84 c0_i32_43
  let v89 : BitVec 1 := Scalar.xori v87 v88
  let c0_i32_41 : BitVec 32 := 0#32
  let v86 : BitVec 1 := Scalar.cmpi .ne v85 c0_i32_41
  let v90 : BitVec 1 := Scalar.andi v89 v86
  let v91 : BitVec 32 := Scalar.addi v85 v84
  let v92 : BitVec 32 := Scalar.select v90 v91 v85
  let c0_i32_44 : BitVec 32 := 0#32
  let v93 : BitVec 1 := Scalar.cmpi .eq v92 c0_i32_44
  let c4_i32_32 : BitVec 32 := 4#32
  let c0_i32_33 : BitVec 32 := 0#32
  let v73 : BitVec 1 := Scalar.cmpi .eq c4_i32_32 c0_i32_33
  let c1_i32_34 : BitVec 32 := 1#32
  let v74 : BitVec 32 := Scalar.select v73 c1_i32_34 c4_i32_32
  let v75 : BitVec 32 := Scalar.remsi v55 v74
  let c0_i32_36 : BitVec 32 := 0#32
  let v77 : BitVec 1 := Scalar.cmpi .slt v75 c0_i32_36
  let c0_i32_37 : BitVec 32 := 0#32
  let v78 : BitVec 1 := Scalar.cmpi .slt v74 c0_i32_37
  let v79 : BitVec 1 := Scalar.xori v77 v78
  let c0_i32_35 : BitVec 32 := 0#32
  let v76 : BitVec 1 := Scalar.cmpi .ne v75 c0_i32_35
  let v80 : BitVec 1 := Scalar.andi v79 v76
  let v81 : BitVec 32 := Scalar.addi v75 v74
  let v82 : BitVec 32 := Scalar.select v80 v81 v75
  let c3_i32_45 : BitVec 32 := 3#32
  let v94 : BitVec 32 := Scalar.subi c3_i32_45 v82
  let v95 : BitVec 32 := Scalar.select v93 v82 v94
  let v96 : BitVec 32 := Scalar.muli c4_i32_46 v95
  let v97 : BitVec 32 := Scalar.addi v96 v72
  let c1_i32_813 : BitVec 32 := 1#32
  let v1185 : BitVec 32 := Scalar.muli v97 c1_i32_813
  let v1186 : BitVec 32 := Scalar.addi c0_i32_814 v1185
  v1186.toNat
def k0_dev21 (d0 : Dev nD) : Nat :=
  let c0_i32_828 : BitVec 32 := 0#32
  let c4_i32_46 : BitVec 32 := 4#32
  let c4_i32_17 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let v43 : BitVec 32 := Scalar.muli c4_i32_17 v12
  let c2_i32 : BitVec 32 := 2#32
  let c0_i32_11 : BitVec 32 := 0#32
  let v30 : BitVec 1 := Scalar.cmpi .eq c2_i32 c0_i32_11
  let c1_i32_12 : BitVec 32 := 1#32
  let v31 : BitVec 32 := Scalar.select v30 c1_i32_12 c2_i32
  let v32 : BitVec 32 := Scalar.remsi v12 v31
  let c0_i32_14 : BitVec 32 := 0#32
  let v34 : BitVec 1 := Scalar.cmpi .slt v32 c0_i32_14
  let c0_i32_15 : BitVec 32 := 0#32
  let v35 : BitVec 1 := Scalar.cmpi .slt v31 c0_i32_15
  let v36 : BitVec 1 := Scalar.xori v34 v35
  let c0_i32_13 : BitVec 32 := 0#32
  let v33 : BitVec 1 := Scalar.cmpi .ne v32 c0_i32_13
  let v37 : BitVec 1 := Scalar.andi v36 v33
  let v38 : BitVec 32 := Scalar.addi v32 v31
  let v39 : BitVec 32 := Scalar.select v37 v38 v32
  let c0_i32_16 : BitVec 32 := 0#32
  let v40 : BitVec 1 := Scalar.cmpi .eq v39 c0_i32_16
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c4_i32_4 : BitVec 32 := 4#32
  let c0_i32_7 : BitVec 32 := 0#32
  let v19 : BitVec 1 := Scalar.cmpi .sgt c4_i32_4 c0_i32_7
  let v20 : BitVec 32 := Scalar.extui v19
  let c0_i32_8 : BitVec 32 := 0#32
  let v21 : BitVec 1 := Scalar.cmpi .slt c4_i32_4 c0_i32_8
  let v22 : BitVec 32 := Scalar.extui v21
  let v23 : BitVec 32 := Scalar.subi v20 v22
  let v24 : BitVec 1 := Scalar.cmpi .ne v18 v23
  let v25 : BitVec 32 := Scalar.remsi v2 c4_i32_4
  let c0_i32_9 : BitVec 32 := 0#32
  let v26 : BitVec 1 := Scalar.cmpi .ne v25 c0_i32_9
  let v27 : BitVec 1 := Scalar.andi v24 v26
  let v13 : BitVec 32 := Scalar.divsi v2 c4_i32_4
  let c1_i32_10 : BitVec 32 := 1#32
  let v28 : BitVec 32 := Scalar.subi v13 c1_i32_10
  let v29 : BitVec 32 := Scalar.select v27 v28 v13
  let c3_i32 : BitVec 32 := 3#32
  let v41 : BitVec 32 := Scalar.subi c3_i32 v29
  let v42 : BitVec 32 := Scalar.select v40 v29 v41
  let v44 : BitVec 32 := Scalar.addi v43 v42
  let c1_i32_18 : BitVec 32 := 1#32
  let v45 : BitVec 32 := Scalar.addi v44 c1_i32_18
  let c16_i32_19 : BitVec 32 := 16#32
  let c0_i32_20 : BitVec 32 := 0#32
  let v46 : BitVec 1 := Scalar.cmpi .eq c16_i32_19 c0_i32_20
  let c1_i32_21 : BitVec 32 := 1#32
  let v47 : BitVec 32 := Scalar.select v46 c1_i32_21 c16_i32_19
  let v48 : BitVec 32 := Scalar.remsi v45 v47
  let c0_i32_23 : BitVec 32 := 0#32
  let v50 : BitVec 1 := Scalar.cmpi .slt v48 c0_i32_23
  let c0_i32_24 : BitVec 32 := 0#32
  let v51 : BitVec 1 := Scalar.cmpi .slt v47 c0_i32_24
  let v52 : BitVec 1 := Scalar.xori v50 v51
  let c0_i32_22 : BitVec 32 := 0#32
  let v49 : BitVec 1 := Scalar.cmpi .ne v48 c0_i32_22
  let v53 : BitVec 1 := Scalar.andi v52 v49
  let v54 : BitVec 32 := Scalar.addi v48 v47
  let v55 : BitVec 32 := Scalar.select v53 v54 v48
  let c0_i32_26 : BitVec 32 := 0#32
  let v57 : BitVec 1 := Scalar.cmpi .sgt v55 c0_i32_26
  let v58 : BitVec 32 := Scalar.extui v57
  let c0_i32_27 : BitVec 32 := 0#32
  let v59 : BitVec 1 := Scalar.cmpi .slt v55 c0_i32_27
  let v60 : BitVec 32 := Scalar.extui v59
  let v61 : BitVec 32 := Scalar.subi v58 v60
  let c4_i32_25 : BitVec 32 := 4#32
  let c0_i32_28 : BitVec 32 := 0#32
  let v62 : BitVec 1 := Scalar.cmpi .sgt c4_i32_25 c0_i32_28
  let v63 : BitVec 32 := Scalar.extui v62
  let c0_i32_29 : BitVec 32 := 0#32
  let v64 : BitVec 1 := Scalar.cmpi .slt c4_i32_25 c0_i32_29
  let v65 : BitVec 32 := Scalar.extui v64
  let v66 : BitVec 32 := Scalar.subi v63 v65
  let v67 : BitVec 1 := Scalar.cmpi .ne v61 v66
  let v68 : BitVec 32 := Scalar.remsi v55 c4_i32_25
  let c0_i32_30 : BitVec 32 := 0#32
  let v69 : BitVec 1 := Scalar.cmpi .ne v68 c0_i32_30
  let v70 : BitVec 1 := Scalar.andi v67 v69
  let v56 : BitVec 32 := Scalar.divsi v55 c4_i32_25
  let c1_i32_31 : BitVec 32 := 1#32
  let v71 : BitVec 32 := Scalar.subi v56 c1_i32_31
  let v72 : BitVec 32 := Scalar.select v70 v71 v56
  let c2_i32_38 : BitVec 32 := 2#32
  let c0_i32_39 : BitVec 32 := 0#32
  let v83 : BitVec 1 := Scalar.cmpi .eq c2_i32_38 c0_i32_39
  let c1_i32_40 : BitVec 32 := 1#32
  let v84 : BitVec 32 := Scalar.select v83 c1_i32_40 c2_i32_38
  let v85 : BitVec 32 := Scalar.remsi v72 v84
  let c0_i32_42 : BitVec 32 := 0#32
  let v87 : BitVec 1 := Scalar.cmpi .slt v85 c0_i32_42
  let c0_i32_43 : BitVec 32 := 0#32
  let v88 : BitVec 1 := Scalar.cmpi .slt v84 c0_i32_43
  let v89 : BitVec 1 := Scalar.xori v87 v88
  let c0_i32_41 : BitVec 32 := 0#32
  let v86 : BitVec 1 := Scalar.cmpi .ne v85 c0_i32_41
  let v90 : BitVec 1 := Scalar.andi v89 v86
  let v91 : BitVec 32 := Scalar.addi v85 v84
  let v92 : BitVec 32 := Scalar.select v90 v91 v85
  let c0_i32_44 : BitVec 32 := 0#32
  let v93 : BitVec 1 := Scalar.cmpi .eq v92 c0_i32_44
  let c4_i32_32 : BitVec 32 := 4#32
  let c0_i32_33 : BitVec 32 := 0#32
  let v73 : BitVec 1 := Scalar.cmpi .eq c4_i32_32 c0_i32_33
  let c1_i32_34 : BitVec 32 := 1#32
  let v74 : BitVec 32 := Scalar.select v73 c1_i32_34 c4_i32_32
  let v75 : BitVec 32 := Scalar.remsi v55 v74
  let c0_i32_36 : BitVec 32 := 0#32
  let v77 : BitVec 1 := Scalar.cmpi .slt v75 c0_i32_36
  let c0_i32_37 : BitVec 32 := 0#32
  let v78 : BitVec 1 := Scalar.cmpi .slt v74 c0_i32_37
  let v79 : BitVec 1 := Scalar.xori v77 v78
  let c0_i32_35 : BitVec 32 := 0#32
  let v76 : BitVec 1 := Scalar.cmpi .ne v75 c0_i32_35
  let v80 : BitVec 1 := Scalar.andi v79 v76
  let v81 : BitVec 32 := Scalar.addi v75 v74
  let v82 : BitVec 32 := Scalar.select v80 v81 v75
  let c3_i32_45 : BitVec 32 := 3#32
  let v94 : BitVec 32 := Scalar.subi c3_i32_45 v82
  let v95 : BitVec 32 := Scalar.select v93 v82 v94
  let v96 : BitVec 32 := Scalar.muli c4_i32_46 v95
  let v97 : BitVec 32 := Scalar.addi v96 v72
  let c1_i32_827 : BitVec 32 := 1#32
  let v1195 : BitVec 32 := Scalar.muli v97 c1_i32_827
  let v1196 : BitVec 32 := Scalar.addi c0_i32_828 v1195
  v1196.toNat
def k0_dev22 (d0 : Dev nD) : Nat :=
  let c0_i32_840 : BitVec 32 := 0#32
  let c4_i32_75 : BitVec 32 := 4#32
  let c4_i32_17 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let v43 : BitVec 32 := Scalar.muli c4_i32_17 v12
  let c2_i32 : BitVec 32 := 2#32
  let c0_i32_11 : BitVec 32 := 0#32
  let v30 : BitVec 1 := Scalar.cmpi .eq c2_i32 c0_i32_11
  let c1_i32_12 : BitVec 32 := 1#32
  let v31 : BitVec 32 := Scalar.select v30 c1_i32_12 c2_i32
  let v32 : BitVec 32 := Scalar.remsi v12 v31
  let c0_i32_14 : BitVec 32 := 0#32
  let v34 : BitVec 1 := Scalar.cmpi .slt v32 c0_i32_14
  let c0_i32_15 : BitVec 32 := 0#32
  let v35 : BitVec 1 := Scalar.cmpi .slt v31 c0_i32_15
  let v36 : BitVec 1 := Scalar.xori v34 v35
  let c0_i32_13 : BitVec 32 := 0#32
  let v33 : BitVec 1 := Scalar.cmpi .ne v32 c0_i32_13
  let v37 : BitVec 1 := Scalar.andi v36 v33
  let v38 : BitVec 32 := Scalar.addi v32 v31
  let v39 : BitVec 32 := Scalar.select v37 v38 v32
  let c0_i32_16 : BitVec 32 := 0#32
  let v40 : BitVec 1 := Scalar.cmpi .eq v39 c0_i32_16
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c4_i32_4 : BitVec 32 := 4#32
  let c0_i32_7 : BitVec 32 := 0#32
  let v19 : BitVec 1 := Scalar.cmpi .sgt c4_i32_4 c0_i32_7
  let v20 : BitVec 32 := Scalar.extui v19
  let c0_i32_8 : BitVec 32 := 0#32
  let v21 : BitVec 1 := Scalar.cmpi .slt c4_i32_4 c0_i32_8
  let v22 : BitVec 32 := Scalar.extui v21
  let v23 : BitVec 32 := Scalar.subi v20 v22
  let v24 : BitVec 1 := Scalar.cmpi .ne v18 v23
  let v25 : BitVec 32 := Scalar.remsi v2 c4_i32_4
  let c0_i32_9 : BitVec 32 := 0#32
  let v26 : BitVec 1 := Scalar.cmpi .ne v25 c0_i32_9
  let v27 : BitVec 1 := Scalar.andi v24 v26
  let v13 : BitVec 32 := Scalar.divsi v2 c4_i32_4
  let c1_i32_10 : BitVec 32 := 1#32
  let v28 : BitVec 32 := Scalar.subi v13 c1_i32_10
  let v29 : BitVec 32 := Scalar.select v27 v28 v13
  let c3_i32 : BitVec 32 := 3#32
  let v41 : BitVec 32 := Scalar.subi c3_i32 v29
  let v42 : BitVec 32 := Scalar.select v40 v29 v41
  let v44 : BitVec 32 := Scalar.addi v43 v42
  let c1_i32_47 : BitVec 32 := 1#32
  let v98 : BitVec 32 := Scalar.subi v44 c1_i32_47
  let c16_i32_48 : BitVec 32 := 16#32
  let c0_i32_49 : BitVec 32 := 0#32
  let v99 : BitVec 1 := Scalar.cmpi .eq c16_i32_48 c0_i32_49
  let c1_i32_50 : BitVec 32 := 1#32
  let v100 : BitVec 32 := Scalar.select v99 c1_i32_50 c16_i32_48
  let v101 : BitVec 32 := Scalar.remsi v98 v100
  let c0_i32_52 : BitVec 32 := 0#32
  let v103 : BitVec 1 := Scalar.cmpi .slt v101 c0_i32_52
  let c0_i32_53 : BitVec 32 := 0#32
  let v104 : BitVec 1 := Scalar.cmpi .slt v100 c0_i32_53
  let v105 : BitVec 1 := Scalar.xori v103 v104
  let c0_i32_51 : BitVec 32 := 0#32
  let v102 : BitVec 1 := Scalar.cmpi .ne v101 c0_i32_51
  let v106 : BitVec 1 := Scalar.andi v105 v102
  let v107 : BitVec 32 := Scalar.addi v101 v100
  let v108 : BitVec 32 := Scalar.select v106 v107 v101
  let c0_i32_55 : BitVec 32 := 0#32
  let v110 : BitVec 1 := Scalar.cmpi .sgt v108 c0_i32_55
  let v111 : BitVec 32 := Scalar.extui v110
  let c0_i32_56 : BitVec 32 := 0#32
  let v112 : BitVec 1 := Scalar.cmpi .slt v108 c0_i32_56
  let v113 : BitVec 32 := Scalar.extui v112
  let v114 : BitVec 32 := Scalar.subi v111 v113
  let c4_i32_54 : BitVec 32 := 4#32
  let c0_i32_57 : BitVec 32 := 0#32
  let v115 : BitVec 1 := Scalar.cmpi .sgt c4_i32_54 c0_i32_57
  let v116 : BitVec 32 := Scalar.extui v115
  let c0_i32_58 : BitVec 32 := 0#32
  let v117 : BitVec 1 := Scalar.cmpi .slt c4_i32_54 c0_i32_58
  let v118 : BitVec 32 := Scalar.extui v117
  let v119 : BitVec 32 := Scalar.subi v116 v118
  let v120 : BitVec 1 := Scalar.cmpi .ne v114 v119
  let v121 : BitVec 32 := Scalar.remsi v108 c4_i32_54
  let c0_i32_59 : BitVec 32 := 0#32
  let v122 : BitVec 1 := Scalar.cmpi .ne v121 c0_i32_59
  let v123 : BitVec 1 := Scalar.andi v120 v122
  let v109 : BitVec 32 := Scalar.divsi v108 c4_i32_54
  let c1_i32_60 : BitVec 32 := 1#32
  let v124 : BitVec 32 := Scalar.subi v109 c1_i32_60
  let v125 : BitVec 32 := Scalar.select v123 v124 v109
  let c2_i32_67 : BitVec 32 := 2#32
  let c0_i32_68 : BitVec 32 := 0#32
  let v136 : BitVec 1 := Scalar.cmpi .eq c2_i32_67 c0_i32_68
  let c1_i32_69 : BitVec 32 := 1#32
  let v137 : BitVec 32 := Scalar.select v136 c1_i32_69 c2_i32_67
  let v138 : BitVec 32 := Scalar.remsi v125 v137
  let c0_i32_71 : BitVec 32 := 0#32
  let v140 : BitVec 1 := Scalar.cmpi .slt v138 c0_i32_71
  let c0_i32_72 : BitVec 32 := 0#32
  let v141 : BitVec 1 := Scalar.cmpi .slt v137 c0_i32_72
  let v142 : BitVec 1 := Scalar.xori v140 v141
  let c0_i32_70 : BitVec 32 := 0#32
  let v139 : BitVec 1 := Scalar.cmpi .ne v138 c0_i32_70
  let v143 : BitVec 1 := Scalar.andi v142 v139
  let v144 : BitVec 32 := Scalar.addi v138 v137
  let v145 : BitVec 32 := Scalar.select v143 v144 v138
  let c0_i32_73 : BitVec 32 := 0#32
  let v146 : BitVec 1 := Scalar.cmpi .eq v145 c0_i32_73
  let c4_i32_61 : BitVec 32 := 4#32
  let c0_i32_62 : BitVec 32 := 0#32
  let v126 : BitVec 1 := Scalar.cmpi .eq c4_i32_61 c0_i32_62
  let c1_i32_63 : BitVec 32 := 1#32
  let v127 : BitVec 32 := Scalar.select v126 c1_i32_63 c4_i32_61
  let v128 : BitVec 32 := Scalar.remsi v108 v127
  let c0_i32_65 : BitVec 32 := 0#32
  let v130 : BitVec 1 := Scalar.cmpi .slt v128 c0_i32_65
  let c0_i32_66 : BitVec 32 := 0#32
  let v131 : BitVec 1 := Scalar.cmpi .slt v127 c0_i32_66
  let v132 : BitVec 1 := Scalar.xori v130 v131
  let c0_i32_64 : BitVec 32 := 0#32
  let v129 : BitVec 1 := Scalar.cmpi .ne v128 c0_i32_64
  let v133 : BitVec 1 := Scalar.andi v132 v129
  let v134 : BitVec 32 := Scalar.addi v128 v127
  let v135 : BitVec 32 := Scalar.select v133 v134 v128
  let c3_i32_74 : BitVec 32 := 3#32
  let v147 : BitVec 32 := Scalar.subi c3_i32_74 v135
  let v148 : BitVec 32 := Scalar.select v146 v135 v147
  let v149 : BitVec 32 := Scalar.muli c4_i32_75 v148
  let v150 : BitVec 32 := Scalar.addi v149 v125
  let c1_i32_839 : BitVec 32 := 1#32
  let v1205 : BitVec 32 := Scalar.muli v150 c1_i32_839
  let v1206 : BitVec 32 := Scalar.addi c0_i32_840 v1205
  v1206.toNat
def k0_dev23 (d0 : Dev nD) : Nat :=
  let c0_i32_998 : BitVec 32 := 0#32
  let c4_i32_75 : BitVec 32 := 4#32
  let c4_i32_17 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let v43 : BitVec 32 := Scalar.muli c4_i32_17 v12
  let c2_i32 : BitVec 32 := 2#32
  let c0_i32_11 : BitVec 32 := 0#32
  let v30 : BitVec 1 := Scalar.cmpi .eq c2_i32 c0_i32_11
  let c1_i32_12 : BitVec 32 := 1#32
  let v31 : BitVec 32 := Scalar.select v30 c1_i32_12 c2_i32
  let v32 : BitVec 32 := Scalar.remsi v12 v31
  let c0_i32_14 : BitVec 32 := 0#32
  let v34 : BitVec 1 := Scalar.cmpi .slt v32 c0_i32_14
  let c0_i32_15 : BitVec 32 := 0#32
  let v35 : BitVec 1 := Scalar.cmpi .slt v31 c0_i32_15
  let v36 : BitVec 1 := Scalar.xori v34 v35
  let c0_i32_13 : BitVec 32 := 0#32
  let v33 : BitVec 1 := Scalar.cmpi .ne v32 c0_i32_13
  let v37 : BitVec 1 := Scalar.andi v36 v33
  let v38 : BitVec 32 := Scalar.addi v32 v31
  let v39 : BitVec 32 := Scalar.select v37 v38 v32
  let c0_i32_16 : BitVec 32 := 0#32
  let v40 : BitVec 1 := Scalar.cmpi .eq v39 c0_i32_16
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c4_i32_4 : BitVec 32 := 4#32
  let c0_i32_7 : BitVec 32 := 0#32
  let v19 : BitVec 1 := Scalar.cmpi .sgt c4_i32_4 c0_i32_7
  let v20 : BitVec 32 := Scalar.extui v19
  let c0_i32_8 : BitVec 32 := 0#32
  let v21 : BitVec 1 := Scalar.cmpi .slt c4_i32_4 c0_i32_8
  let v22 : BitVec 32 := Scalar.extui v21
  let v23 : BitVec 32 := Scalar.subi v20 v22
  let v24 : BitVec 1 := Scalar.cmpi .ne v18 v23
  let v25 : BitVec 32 := Scalar.remsi v2 c4_i32_4
  let c0_i32_9 : BitVec 32 := 0#32
  let v26 : BitVec 1 := Scalar.cmpi .ne v25 c0_i32_9
  let v27 : BitVec 1 := Scalar.andi v24 v26
  let v13 : BitVec 32 := Scalar.divsi v2 c4_i32_4
  let c1_i32_10 : BitVec 32 := 1#32
  let v28 : BitVec 32 := Scalar.subi v13 c1_i32_10
  let v29 : BitVec 32 := Scalar.select v27 v28 v13
  let c3_i32 : BitVec 32 := 3#32
  let v41 : BitVec 32 := Scalar.subi c3_i32 v29
  let v42 : BitVec 32 := Scalar.select v40 v29 v41
  let v44 : BitVec 32 := Scalar.addi v43 v42
  let c1_i32_47 : BitVec 32 := 1#32
  let v98 : BitVec 32 := Scalar.subi v44 c1_i32_47
  let c16_i32_48 : BitVec 32 := 16#32
  let c0_i32_49 : BitVec 32 := 0#32
  let v99 : BitVec 1 := Scalar.cmpi .eq c16_i32_48 c0_i32_49
  let c1_i32_50 : BitVec 32 := 1#32
  let v100 : BitVec 32 := Scalar.select v99 c1_i32_50 c16_i32_48
  let v101 : BitVec 32 := Scalar.remsi v98 v100
  let c0_i32_52 : BitVec 32 := 0#32
  let v103 : BitVec 1 := Scalar.cmpi .slt v101 c0_i32_52
  let c0_i32_53 : BitVec 32 := 0#32
  let v104 : BitVec 1 := Scalar.cmpi .slt v100 c0_i32_53
  let v105 : BitVec 1 := Scalar.xori v103 v104
  let c0_i32_51 : BitVec 32 := 0#32
  let v102 : BitVec 1 := Scalar.cmpi .ne v101 c0_i32_51
  let v106 : BitVec 1 := Scalar.andi v105 v102
  let v107 : BitVec 32 := Scalar.addi v101 v100
  let v108 : BitVec 32 := Scalar.select v106 v107 v101
  let c0_i32_55 : BitVec 32 := 0#32
  let v110 : BitVec 1 := Scalar.cmpi .sgt v108 c0_i32_55
  let v111 : BitVec 32 := Scalar.extui v110
  let c0_i32_56 : BitVec 32 := 0#32
  let v112 : BitVec 1 := Scalar.cmpi .slt v108 c0_i32_56
  let v113 : BitVec 32 := Scalar.extui v112
  let v114 : BitVec 32 := Scalar.subi v111 v113
  let c4_i32_54 : BitVec 32 := 4#32
  let c0_i32_57 : BitVec 32 := 0#32
  let v115 : BitVec 1 := Scalar.cmpi .sgt c4_i32_54 c0_i32_57
  let v116 : BitVec 32 := Scalar.extui v115
  let c0_i32_58 : BitVec 32 := 0#32
  let v117 : BitVec 1 := Scalar.cmpi .slt c4_i32_54 c0_i32_58
  let v118 : BitVec 32 := Scalar.extui v117
  let v119 : BitVec 32 := Scalar.subi v116 v118
  let v120 : BitVec 1 := Scalar.cmpi .ne v114 v119
  let v121 : BitVec 32 := Scalar.remsi v108 c4_i32_54
  let c0_i32_59 : BitVec 32 := 0#32
  let v122 : BitVec 1 := Scalar.cmpi .ne v121 c0_i32_59
  let v123 : BitVec 1 := Scalar.andi v120 v122
  let v109 : BitVec 32 := Scalar.divsi v108 c4_i32_54
  let c1_i32_60 : BitVec 32 := 1#32
  let v124 : BitVec 32 := Scalar.subi v109 c1_i32_60
  let v125 : BitVec 32 := Scalar.select v123 v124 v109
  let c2_i32_67 : BitVec 32 := 2#32
  let c0_i32_68 : BitVec 32 := 0#32
  let v136 : BitVec 1 := Scalar.cmpi .eq c2_i32_67 c0_i32_68
  let c1_i32_69 : BitVec 32 := 1#32
  let v137 : BitVec 32 := Scalar.select v136 c1_i32_69 c2_i32_67
  let v138 : BitVec 32 := Scalar.remsi v125 v137
  let c0_i32_71 : BitVec 32 := 0#32
  let v140 : BitVec 1 := Scalar.cmpi .slt v138 c0_i32_71
  let c0_i32_72 : BitVec 32 := 0#32
  let v141 : BitVec 1 := Scalar.cmpi .slt v137 c0_i32_72
  let v142 : BitVec 1 := Scalar.xori v140 v141
  let c0_i32_70 : BitVec 32 := 0#32
  let v139 : BitVec 1 := Scalar.cmpi .ne v138 c0_i32_70
  let v143 : BitVec 1 := Scalar.andi v142 v139
  let v144 : BitVec 32 := Scalar.addi v138 v137
  let v145 : BitVec 32 := Scalar.select v143 v144 v138
  let c0_i32_73 : BitVec 32 := 0#32
  let v146 : BitVec 1 := Scalar.cmpi .eq v145 c0_i32_73
  let c4_i32_61 : BitVec 32 := 4#32
  let c0_i32_62 : BitVec 32 := 0#32
  let v126 : BitVec 1 := Scalar.cmpi .eq c4_i32_61 c0_i32_62
  let c1_i32_63 : BitVec 32 := 1#32
  let v127 : BitVec 32 := Scalar.select v126 c1_i32_63 c4_i32_61
  let v128 : BitVec 32 := Scalar.remsi v108 v127
  let c0_i32_65 : BitVec 32 := 0#32
  let v130 : BitVec 1 := Scalar.cmpi .slt v128 c0_i32_65
  let c0_i32_66 : BitVec 32 := 0#32
  let v131 : BitVec 1 := Scalar.cmpi .slt v127 c0_i32_66
  let v132 : BitVec 1 := Scalar.xori v130 v131
  let c0_i32_64 : BitVec 32 := 0#32
  let v129 : BitVec 1 := Scalar.cmpi .ne v128 c0_i32_64
  let v133 : BitVec 1 := Scalar.andi v132 v129
  let v134 : BitVec 32 := Scalar.addi v128 v127
  let v135 : BitVec 32 := Scalar.select v133 v134 v128
  let c3_i32_74 : BitVec 32 := 3#32
  let v147 : BitVec 32 := Scalar.subi c3_i32_74 v135
  let v148 : BitVec 32 := Scalar.select v146 v135 v147
  let v149 : BitVec 32 := Scalar.muli c4_i32_75 v148
  let v150 : BitVec 32 := Scalar.addi v149 v125
  let c1_i32_997 : BitVec 32 := 1#32
  let v1473 : BitVec 32 := Scalar.muli v150 c1_i32_997
  let v1474 : BitVec 32 := Scalar.addi c0_i32_998 v1473
  v1474.toNat
def k0_dev24 (d0 : Dev nD) : Nat :=
  let c0_i32_1026 : BitVec 32 := 0#32
  let c4_i32_46 : BitVec 32 := 4#32
  let c4_i32_17 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let v43 : BitVec 32 := Scalar.muli c4_i32_17 v12
  let c2_i32 : BitVec 32 := 2#32
  let c0_i32_11 : BitVec 32 := 0#32
  let v30 : BitVec 1 := Scalar.cmpi .eq c2_i32 c0_i32_11
  let c1_i32_12 : BitVec 32 := 1#32
  let v31 : BitVec 32 := Scalar.select v30 c1_i32_12 c2_i32
  let v32 : BitVec 32 := Scalar.remsi v12 v31
  let c0_i32_14 : BitVec 32 := 0#32
  let v34 : BitVec 1 := Scalar.cmpi .slt v32 c0_i32_14
  let c0_i32_15 : BitVec 32 := 0#32
  let v35 : BitVec 1 := Scalar.cmpi .slt v31 c0_i32_15
  let v36 : BitVec 1 := Scalar.xori v34 v35
  let c0_i32_13 : BitVec 32 := 0#32
  let v33 : BitVec 1 := Scalar.cmpi .ne v32 c0_i32_13
  let v37 : BitVec 1 := Scalar.andi v36 v33
  let v38 : BitVec 32 := Scalar.addi v32 v31
  let v39 : BitVec 32 := Scalar.select v37 v38 v32
  let c0_i32_16 : BitVec 32 := 0#32
  let v40 : BitVec 1 := Scalar.cmpi .eq v39 c0_i32_16
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c4_i32_4 : BitVec 32 := 4#32
  let c0_i32_7 : BitVec 32 := 0#32
  let v19 : BitVec 1 := Scalar.cmpi .sgt c4_i32_4 c0_i32_7
  let v20 : BitVec 32 := Scalar.extui v19
  let c0_i32_8 : BitVec 32 := 0#32
  let v21 : BitVec 1 := Scalar.cmpi .slt c4_i32_4 c0_i32_8
  let v22 : BitVec 32 := Scalar.extui v21
  let v23 : BitVec 32 := Scalar.subi v20 v22
  let v24 : BitVec 1 := Scalar.cmpi .ne v18 v23
  let v25 : BitVec 32 := Scalar.remsi v2 c4_i32_4
  let c0_i32_9 : BitVec 32 := 0#32
  let v26 : BitVec 1 := Scalar.cmpi .ne v25 c0_i32_9
  let v27 : BitVec 1 := Scalar.andi v24 v26
  let v13 : BitVec 32 := Scalar.divsi v2 c4_i32_4
  let c1_i32_10 : BitVec 32 := 1#32
  let v28 : BitVec 32 := Scalar.subi v13 c1_i32_10
  let v29 : BitVec 32 := Scalar.select v27 v28 v13
  let c3_i32 : BitVec 32 := 3#32
  let v41 : BitVec 32 := Scalar.subi c3_i32 v29
  let v42 : BitVec 32 := Scalar.select v40 v29 v41
  let v44 : BitVec 32 := Scalar.addi v43 v42
  let c1_i32_18 : BitVec 32 := 1#32
  let v45 : BitVec 32 := Scalar.addi v44 c1_i32_18
  let c16_i32_19 : BitVec 32 := 16#32
  let c0_i32_20 : BitVec 32 := 0#32
  let v46 : BitVec 1 := Scalar.cmpi .eq c16_i32_19 c0_i32_20
  let c1_i32_21 : BitVec 32 := 1#32
  let v47 : BitVec 32 := Scalar.select v46 c1_i32_21 c16_i32_19
  let v48 : BitVec 32 := Scalar.remsi v45 v47
  let c0_i32_23 : BitVec 32 := 0#32
  let v50 : BitVec 1 := Scalar.cmpi .slt v48 c0_i32_23
  let c0_i32_24 : BitVec 32 := 0#32
  let v51 : BitVec 1 := Scalar.cmpi .slt v47 c0_i32_24
  let v52 : BitVec 1 := Scalar.xori v50 v51
  let c0_i32_22 : BitVec 32 := 0#32
  let v49 : BitVec 1 := Scalar.cmpi .ne v48 c0_i32_22
  let v53 : BitVec 1 := Scalar.andi v52 v49
  let v54 : BitVec 32 := Scalar.addi v48 v47
  let v55 : BitVec 32 := Scalar.select v53 v54 v48
  let c0_i32_26 : BitVec 32 := 0#32
  let v57 : BitVec 1 := Scalar.cmpi .sgt v55 c0_i32_26
  let v58 : BitVec 32 := Scalar.extui v57
  let c0_i32_27 : BitVec 32 := 0#32
  let v59 : BitVec 1 := Scalar.cmpi .slt v55 c0_i32_27
  let v60 : BitVec 32 := Scalar.extui v59
  let v61 : BitVec 32 := Scalar.subi v58 v60
  let c4_i32_25 : BitVec 32 := 4#32
  let c0_i32_28 : BitVec 32 := 0#32
  let v62 : BitVec 1 := Scalar.cmpi .sgt c4_i32_25 c0_i32_28
  let v63 : BitVec 32 := Scalar.extui v62
  let c0_i32_29 : BitVec 32 := 0#32
  let v64 : BitVec 1 := Scalar.cmpi .slt c4_i32_25 c0_i32_29
  let v65 : BitVec 32 := Scalar.extui v64
  let v66 : BitVec 32 := Scalar.subi v63 v65
  let v67 : BitVec 1 := Scalar.cmpi .ne v61 v66
  let v68 : BitVec 32 := Scalar.remsi v55 c4_i32_25
  let c0_i32_30 : BitVec 32 := 0#32
  let v69 : BitVec 1 := Scalar.cmpi .ne v68 c0_i32_30
  let v70 : BitVec 1 := Scalar.andi v67 v69
  let v56 : BitVec 32 := Scalar.divsi v55 c4_i32_25
  let c1_i32_31 : BitVec 32 := 1#32
  let v71 : BitVec 32 := Scalar.subi v56 c1_i32_31
  let v72 : BitVec 32 := Scalar.select v70 v71 v56
  let c2_i32_38 : BitVec 32 := 2#32
  let c0_i32_39 : BitVec 32 := 0#32
  let v83 : BitVec 1 := Scalar.cmpi .eq c2_i32_38 c0_i32_39
  let c1_i32_40 : BitVec 32 := 1#32
  let v84 : BitVec 32 := Scalar.select v83 c1_i32_40 c2_i32_38
  let v85 : BitVec 32 := Scalar.remsi v72 v84
  let c0_i32_42 : BitVec 32 := 0#32
  let v87 : BitVec 1 := Scalar.cmpi .slt v85 c0_i32_42
  let c0_i32_43 : BitVec 32 := 0#32
  let v88 : BitVec 1 := Scalar.cmpi .slt v84 c0_i32_43
  let v89 : BitVec 1 := Scalar.xori v87 v88
  let c0_i32_41 : BitVec 32 := 0#32
  let v86 : BitVec 1 := Scalar.cmpi .ne v85 c0_i32_41
  let v90 : BitVec 1 := Scalar.andi v89 v86
  let v91 : BitVec 32 := Scalar.addi v85 v84
  let v92 : BitVec 32 := Scalar.select v90 v91 v85
  let c0_i32_44 : BitVec 32 := 0#32
  let v93 : BitVec 1 := Scalar.cmpi .eq v92 c0_i32_44
  let c4_i32_32 : BitVec 32 := 4#32
  let c0_i32_33 : BitVec 32 := 0#32
  let v73 : BitVec 1 := Scalar.cmpi .eq c4_i32_32 c0_i32_33
  let c1_i32_34 : BitVec 32 := 1#32
  let v74 : BitVec 32 := Scalar.select v73 c1_i32_34 c4_i32_32
  let v75 : BitVec 32 := Scalar.remsi v55 v74
  let c0_i32_36 : BitVec 32 := 0#32
  let v77 : BitVec 1 := Scalar.cmpi .slt v75 c0_i32_36
  let c0_i32_37 : BitVec 32 := 0#32
  let v78 : BitVec 1 := Scalar.cmpi .slt v74 c0_i32_37
  let v79 : BitVec 1 := Scalar.xori v77 v78
  let c0_i32_35 : BitVec 32 := 0#32
  let v76 : BitVec 1 := Scalar.cmpi .ne v75 c0_i32_35
  let v80 : BitVec 1 := Scalar.andi v79 v76
  let v81 : BitVec 32 := Scalar.addi v75 v74
  let v82 : BitVec 32 := Scalar.select v80 v81 v75
  let c3_i32_45 : BitVec 32 := 3#32
  let v94 : BitVec 32 := Scalar.subi c3_i32_45 v82
  let v95 : BitVec 32 := Scalar.select v93 v82 v94
  let v96 : BitVec 32 := Scalar.muli c4_i32_46 v95
  let v97 : BitVec 32 := Scalar.addi v96 v72
  let c1_i32_1025 : BitVec 32 := 1#32
  let v1497 : BitVec 32 := Scalar.muli v97 c1_i32_1025
  let v1498 : BitVec 32 := Scalar.addi c0_i32_1026 v1497
  v1498.toNat
def k0_dev25 (d0 : Dev nD) : Nat :=
  let c0_i32_1040 : BitVec 32 := 0#32
  let c4_i32_46 : BitVec 32 := 4#32
  let c4_i32_17 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let v43 : BitVec 32 := Scalar.muli c4_i32_17 v12
  let c2_i32 : BitVec 32 := 2#32
  let c0_i32_11 : BitVec 32 := 0#32
  let v30 : BitVec 1 := Scalar.cmpi .eq c2_i32 c0_i32_11
  let c1_i32_12 : BitVec 32 := 1#32
  let v31 : BitVec 32 := Scalar.select v30 c1_i32_12 c2_i32
  let v32 : BitVec 32 := Scalar.remsi v12 v31
  let c0_i32_14 : BitVec 32 := 0#32
  let v34 : BitVec 1 := Scalar.cmpi .slt v32 c0_i32_14
  let c0_i32_15 : BitVec 32 := 0#32
  let v35 : BitVec 1 := Scalar.cmpi .slt v31 c0_i32_15
  let v36 : BitVec 1 := Scalar.xori v34 v35
  let c0_i32_13 : BitVec 32 := 0#32
  let v33 : BitVec 1 := Scalar.cmpi .ne v32 c0_i32_13
  let v37 : BitVec 1 := Scalar.andi v36 v33
  let v38 : BitVec 32 := Scalar.addi v32 v31
  let v39 : BitVec 32 := Scalar.select v37 v38 v32
  let c0_i32_16 : BitVec 32 := 0#32
  let v40 : BitVec 1 := Scalar.cmpi .eq v39 c0_i32_16
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c4_i32_4 : BitVec 32 := 4#32
  let c0_i32_7 : BitVec 32 := 0#32
  let v19 : BitVec 1 := Scalar.cmpi .sgt c4_i32_4 c0_i32_7
  let v20 : BitVec 32 := Scalar.extui v19
  let c0_i32_8 : BitVec 32 := 0#32
  let v21 : BitVec 1 := Scalar.cmpi .slt c4_i32_4 c0_i32_8
  let v22 : BitVec 32 := Scalar.extui v21
  let v23 : BitVec 32 := Scalar.subi v20 v22
  let v24 : BitVec 1 := Scalar.cmpi .ne v18 v23
  let v25 : BitVec 32 := Scalar.remsi v2 c4_i32_4
  let c0_i32_9 : BitVec 32 := 0#32
  let v26 : BitVec 1 := Scalar.cmpi .ne v25 c0_i32_9
  let v27 : BitVec 1 := Scalar.andi v24 v26
  let v13 : BitVec 32 := Scalar.divsi v2 c4_i32_4
  let c1_i32_10 : BitVec 32 := 1#32
  let v28 : BitVec 32 := Scalar.subi v13 c1_i32_10
  let v29 : BitVec 32 := Scalar.select v27 v28 v13
  let c3_i32 : BitVec 32 := 3#32
  let v41 : BitVec 32 := Scalar.subi c3_i32 v29
  let v42 : BitVec 32 := Scalar.select v40 v29 v41
  let v44 : BitVec 32 := Scalar.addi v43 v42
  let c1_i32_18 : BitVec 32 := 1#32
  let v45 : BitVec 32 := Scalar.addi v44 c1_i32_18
  let c16_i32_19 : BitVec 32 := 16#32
  let c0_i32_20 : BitVec 32 := 0#32
  let v46 : BitVec 1 := Scalar.cmpi .eq c16_i32_19 c0_i32_20
  let c1_i32_21 : BitVec 32 := 1#32
  let v47 : BitVec 32 := Scalar.select v46 c1_i32_21 c16_i32_19
  let v48 : BitVec 32 := Scalar.remsi v45 v47
  let c0_i32_23 : BitVec 32 := 0#32
  let v50 : BitVec 1 := Scalar.cmpi .slt v48 c0_i32_23
  let c0_i32_24 : BitVec 32 := 0#32
  let v51 : BitVec 1 := Scalar.cmpi .slt v47 c0_i32_24
  let v52 : BitVec 1 := Scalar.xori v50 v51
  let c0_i32_22 : BitVec 32 := 0#32
  let v49 : BitVec 1 := Scalar.cmpi .ne v48 c0_i32_22
  let v53 : BitVec 1 := Scalar.andi v52 v49
  let v54 : BitVec 32 := Scalar.addi v48 v47
  let v55 : BitVec 32 := Scalar.select v53 v54 v48
  let c0_i32_26 : BitVec 32 := 0#32
  let v57 : BitVec 1 := Scalar.cmpi .sgt v55 c0_i32_26
  let v58 : BitVec 32 := Scalar.extui v57
  let c0_i32_27 : BitVec 32 := 0#32
  let v59 : BitVec 1 := Scalar.cmpi .slt v55 c0_i32_27
  let v60 : BitVec 32 := Scalar.extui v59
  let v61 : BitVec 32 := Scalar.subi v58 v60
  let c4_i32_25 : BitVec 32 := 4#32
  let c0_i32_28 : BitVec 32 := 0#32
  let v62 : BitVec 1 := Scalar.cmpi .sgt c4_i32_25 c0_i32_28
  let v63 : BitVec 32 := Scalar.extui v62
  let c0_i32_29 : BitVec 32 := 0#32
  let v64 : BitVec 1 := Scalar.cmpi .slt c4_i32_25 c0_i32_29
  let v65 : BitVec 32 := Scalar.extui v64
  let v66 : BitVec 32 := Scalar.subi v63 v65
  let v67 : BitVec 1 := Scalar.cmpi .ne v61 v66
  let v68 : BitVec 32 := Scalar.remsi v55 c4_i32_25
  let c0_i32_30 : BitVec 32 := 0#32
  let v69 : BitVec 1 := Scalar.cmpi .ne v68 c0_i32_30
  let v70 : BitVec 1 := Scalar.andi v67 v69
  let v56 : BitVec 32 := Scalar.divsi v55 c4_i32_25
  let c1_i32_31 : BitVec 32 := 1#32
  let v71 : BitVec 32 := Scalar.subi v56 c1_i32_31
  let v72 : BitVec 32 := Scalar.select v70 v71 v56
  let c2_i32_38 : BitVec 32 := 2#32
  let c0_i32_39 : BitVec 32 := 0#32
  let v83 : BitVec 1 := Scalar.cmpi .eq c2_i32_38 c0_i32_39
  let c1_i32_40 : BitVec 32 := 1#32
  let v84 : BitVec 32 := Scalar.select v83 c1_i32_40 c2_i32_38
  let v85 : BitVec 32 := Scalar.remsi v72 v84
  let c0_i32_42 : BitVec 32 := 0#32
  let v87 : BitVec 1 := Scalar.cmpi .slt v85 c0_i32_42
  let c0_i32_43 : BitVec 32 := 0#32
  let v88 : BitVec 1 := Scalar.cmpi .slt v84 c0_i32_43
  let v89 : BitVec 1 := Scalar.xori v87 v88
  let c0_i32_41 : BitVec 32 := 0#32
  let v86 : BitVec 1 := Scalar.cmpi .ne v85 c0_i32_41
  let v90 : BitVec 1 := Scalar.andi v89 v86
  let v91 : BitVec 32 := Scalar.addi v85 v84
  let v92 : BitVec 32 := Scalar.select v90 v91 v85
  let c0_i32_44 : BitVec 32 := 0#32
  let v93 : BitVec 1 := Scalar.cmpi .eq v92 c0_i32_44
  let c4_i32_32 : BitVec 32 := 4#32
  let c0_i32_33 : BitVec 32 := 0#32
  let v73 : BitVec 1 := Scalar.cmpi .eq c4_i32_32 c0_i32_33
  let c1_i32_34 : BitVec 32 := 1#32
  let v74 : BitVec 32 := Scalar.select v73 c1_i32_34 c4_i32_32
  let v75 : BitVec 32 := Scalar.remsi v55 v74
  let c0_i32_36 : BitVec 32 := 0#32
  let v77 : BitVec 1 := Scalar.cmpi .slt v75 c0_i32_36
  let c0_i32_37 : BitVec 32 := 0#32
  let v78 : BitVec 1 := Scalar.cmpi .slt v74 c0_i32_37
  let v79 : BitVec 1 := Scalar.xori v77 v78
  let c0_i32_35 : BitVec 32 := 0#32
  let v76 : BitVec 1 := Scalar.cmpi .ne v75 c0_i32_35
  let v80 : BitVec 1 := Scalar.andi v79 v76
  let v81 : BitVec 32 := Scalar.addi v75 v74
  let v82 : BitVec 32 := Scalar.select v80 v81 v75
  let c3_i32_45 : BitVec 32 := 3#32
  let v94 : BitVec 32 := Scalar.subi c3_i32_45 v82
  let v95 : BitVec 32 := Scalar.select v93 v82 v94
  let v96 : BitVec 32 := Scalar.muli c4_i32_46 v95
  let v97 : BitVec 32 := Scalar.addi v96 v72
  let c1_i32_1039 : BitVec 32 := 1#32
  let v1507 : BitVec 32 := Scalar.muli v97 c1_i32_1039
  let v1508 : BitVec 32 := Scalar.addi c0_i32_1040 v1507
  v1508.toNat
def k0_dev26 (d0 : Dev nD) : Nat :=
  let c0_i32_1052 : BitVec 32 := 0#32
  let c4_i32_75 : BitVec 32 := 4#32
  let c4_i32_17 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let v43 : BitVec 32 := Scalar.muli c4_i32_17 v12
  let c2_i32 : BitVec 32 := 2#32
  let c0_i32_11 : BitVec 32 := 0#32
  let v30 : BitVec 1 := Scalar.cmpi .eq c2_i32 c0_i32_11
  let c1_i32_12 : BitVec 32 := 1#32
  let v31 : BitVec 32 := Scalar.select v30 c1_i32_12 c2_i32
  let v32 : BitVec 32 := Scalar.remsi v12 v31
  let c0_i32_14 : BitVec 32 := 0#32
  let v34 : BitVec 1 := Scalar.cmpi .slt v32 c0_i32_14
  let c0_i32_15 : BitVec 32 := 0#32
  let v35 : BitVec 1 := Scalar.cmpi .slt v31 c0_i32_15
  let v36 : BitVec 1 := Scalar.xori v34 v35
  let c0_i32_13 : BitVec 32 := 0#32
  let v33 : BitVec 1 := Scalar.cmpi .ne v32 c0_i32_13
  let v37 : BitVec 1 := Scalar.andi v36 v33
  let v38 : BitVec 32 := Scalar.addi v32 v31
  let v39 : BitVec 32 := Scalar.select v37 v38 v32
  let c0_i32_16 : BitVec 32 := 0#32
  let v40 : BitVec 1 := Scalar.cmpi .eq v39 c0_i32_16
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c4_i32_4 : BitVec 32 := 4#32
  let c0_i32_7 : BitVec 32 := 0#32
  let v19 : BitVec 1 := Scalar.cmpi .sgt c4_i32_4 c0_i32_7
  let v20 : BitVec 32 := Scalar.extui v19
  let c0_i32_8 : BitVec 32 := 0#32
  let v21 : BitVec 1 := Scalar.cmpi .slt c4_i32_4 c0_i32_8
  let v22 : BitVec 32 := Scalar.extui v21
  let v23 : BitVec 32 := Scalar.subi v20 v22
  let v24 : BitVec 1 := Scalar.cmpi .ne v18 v23
  let v25 : BitVec 32 := Scalar.remsi v2 c4_i32_4
  let c0_i32_9 : BitVec 32 := 0#32
  let v26 : BitVec 1 := Scalar.cmpi .ne v25 c0_i32_9
  let v27 : BitVec 1 := Scalar.andi v24 v26
  let v13 : BitVec 32 := Scalar.divsi v2 c4_i32_4
  let c1_i32_10 : BitVec 32 := 1#32
  let v28 : BitVec 32 := Scalar.subi v13 c1_i32_10
  let v29 : BitVec 32 := Scalar.select v27 v28 v13
  let c3_i32 : BitVec 32 := 3#32
  let v41 : BitVec 32 := Scalar.subi c3_i32 v29
  let v42 : BitVec 32 := Scalar.select v40 v29 v41
  let v44 : BitVec 32 := Scalar.addi v43 v42
  let c1_i32_47 : BitVec 32 := 1#32
  let v98 : BitVec 32 := Scalar.subi v44 c1_i32_47
  let c16_i32_48 : BitVec 32 := 16#32
  let c0_i32_49 : BitVec 32 := 0#32
  let v99 : BitVec 1 := Scalar.cmpi .eq c16_i32_48 c0_i32_49
  let c1_i32_50 : BitVec 32 := 1#32
  let v100 : BitVec 32 := Scalar.select v99 c1_i32_50 c16_i32_48
  let v101 : BitVec 32 := Scalar.remsi v98 v100
  let c0_i32_52 : BitVec 32 := 0#32
  let v103 : BitVec 1 := Scalar.cmpi .slt v101 c0_i32_52
  let c0_i32_53 : BitVec 32 := 0#32
  let v104 : BitVec 1 := Scalar.cmpi .slt v100 c0_i32_53
  let v105 : BitVec 1 := Scalar.xori v103 v104
  let c0_i32_51 : BitVec 32 := 0#32
  let v102 : BitVec 1 := Scalar.cmpi .ne v101 c0_i32_51
  let v106 : BitVec 1 := Scalar.andi v105 v102
  let v107 : BitVec 32 := Scalar.addi v101 v100
  let v108 : BitVec 32 := Scalar.select v106 v107 v101
  let c0_i32_55 : BitVec 32 := 0#32
  let v110 : BitVec 1 := Scalar.cmpi .sgt v108 c0_i32_55
  let v111 : BitVec 32 := Scalar.extui v110
  let c0_i32_56 : BitVec 32 := 0#32
  let v112 : BitVec 1 := Scalar.cmpi .slt v108 c0_i32_56
  let v113 : BitVec 32 := Scalar.extui v112
  let v114 : BitVec 32 := Scalar.subi v111 v113
  let c4_i32_54 : BitVec 32 := 4#32
  let c0_i32_57 : BitVec 32 := 0#32
  let v115 : BitVec 1 := Scalar.cmpi .sgt c4_i32_54 c0_i32_57
  let v116 : BitVec 32 := Scalar.extui v115
  let c0_i32_58 : BitVec 32 := 0#32
  let v117 : BitVec 1 := Scalar.cmpi .slt c4_i32_54 c0_i32_58
  let v118 : BitVec 32 := Scalar.extui v117
  let v119 : BitVec 32 := Scalar.subi v116 v118
  let v120 : BitVec 1 := Scalar.cmpi .ne v114 v119
  let v121 : BitVec 32 := Scalar.remsi v108 c4_i32_54
  let c0_i32_59 : BitVec 32 := 0#32
  let v122 : BitVec 1 := Scalar.cmpi .ne v121 c0_i32_59
  let v123 : BitVec 1 := Scalar.andi v120 v122
  let v109 : BitVec 32 := Scalar.divsi v108 c4_i32_54
  let c1_i32_60 : BitVec 32 := 1#32
  let v124 : BitVec 32 := Scalar.subi v109 c1_i32_60
  let v125 : BitVec 32 := Scalar.select v123 v124 v109
  let c2_i32_67 : BitVec 32 := 2#32
  let c0_i32_68 : BitVec 32 := 0#32
  let v136 : BitVec 1 := Scalar.cmpi .eq c2_i32_67 c0_i32_68
  let c1_i32_69 : BitVec 32 := 1#32
  let v137 : BitVec 32 := Scalar.select v136 c1_i32_69 c2_i32_67
  let v138 : BitVec 32 := Scalar.remsi v125 v137
  let c0_i32_71 : BitVec 32 := 0#32
  let v140 : BitVec 1 := Scalar.cmpi .slt v138 c0_i32_71
  let c0_i32_72 : BitVec 32 := 0#32
  let v141 : BitVec 1 := Scalar.cmpi .slt v137 c0_i32_72
  let v142 : BitVec 1 := Scalar.xori v140 v141
  let c0_i32_70 : BitVec 32 := 0#32
  let v139 : BitVec 1 := Scalar.cmpi .ne v138 c0_i32_70
  let v143 : BitVec 1 := Scalar.andi v142 v139
  let v144 : BitVec 32 := Scalar.addi v138 v137
  let v145 : BitVec 32 := Scalar.select v143 v144 v138
  let c0_i32_73 : BitVec 32 := 0#32
  let v146 : BitVec 1 := Scalar.cmpi .eq v145 c0_i32_73
  let c4_i32_61 : BitVec 32 := 4#32
  let c0_i32_62 : BitVec 32 := 0#32
  let v126 : BitVec 1 := Scalar.cmpi .eq c4_i32_61 c0_i32_62
  let c1_i32_63 : BitVec 32 := 1#32
  let v127 : BitVec 32 := Scalar.select v126 c1_i32_63 c4_i32_61
  let v128 : BitVec 32 := Scalar.remsi v108 v127
  let c0_i32_65 : BitVec 32 := 0#32
  let v130 : BitVec 1 := Scalar.cmpi .slt v128 c0_i32_65
  let c0_i32_66 : BitVec 32 := 0#32
  let v131 : BitVec 1 := Scalar.cmpi .slt v127 c0_i32_66
  let v132 : BitVec 1 := Scalar.xori v130 v131
  let c0_i32_64 : BitVec 32 := 0#32
  let v129 : BitVec 1 := Scalar.cmpi .ne v128 c0_i32_64
  let v133 : BitVec 1 := Scalar.andi v132 v129
  let v134 : BitVec 32 := Scalar.addi v128 v127
  let v135 : BitVec 32 := Scalar.select v133 v134 v128
  let c3_i32_74 : BitVec 32 := 3#32
  let v147 : BitVec 32 := Scalar.subi c3_i32_74 v135
  let v148 : BitVec 32 := Scalar.select v146 v135 v147
  let v149 : BitVec 32 := Scalar.muli c4_i32_75 v148
  let v150 : BitVec 32 := Scalar.addi v149 v125
  let c1_i32_1051 : BitVec 32 := 1#32
  let v1517 : BitVec 32 := Scalar.muli v150 c1_i32_1051
  let v1518 : BitVec 32 := Scalar.addi c0_i32_1052 v1517
  v1518.toNat
def k0_dev27 (d0 : Dev nD) : Nat :=
  let c0_i32_1078 : BitVec 32 := 0#32
  let c4_i32_75 : BitVec 32 := 4#32
  let c4_i32_17 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let v43 : BitVec 32 := Scalar.muli c4_i32_17 v12
  let c2_i32 : BitVec 32 := 2#32
  let c0_i32_11 : BitVec 32 := 0#32
  let v30 : BitVec 1 := Scalar.cmpi .eq c2_i32 c0_i32_11
  let c1_i32_12 : BitVec 32 := 1#32
  let v31 : BitVec 32 := Scalar.select v30 c1_i32_12 c2_i32
  let v32 : BitVec 32 := Scalar.remsi v12 v31
  let c0_i32_14 : BitVec 32 := 0#32
  let v34 : BitVec 1 := Scalar.cmpi .slt v32 c0_i32_14
  let c0_i32_15 : BitVec 32 := 0#32
  let v35 : BitVec 1 := Scalar.cmpi .slt v31 c0_i32_15
  let v36 : BitVec 1 := Scalar.xori v34 v35
  let c0_i32_13 : BitVec 32 := 0#32
  let v33 : BitVec 1 := Scalar.cmpi .ne v32 c0_i32_13
  let v37 : BitVec 1 := Scalar.andi v36 v33
  let v38 : BitVec 32 := Scalar.addi v32 v31
  let v39 : BitVec 32 := Scalar.select v37 v38 v32
  let c0_i32_16 : BitVec 32 := 0#32
  let v40 : BitVec 1 := Scalar.cmpi .eq v39 c0_i32_16
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c4_i32_4 : BitVec 32 := 4#32
  let c0_i32_7 : BitVec 32 := 0#32
  let v19 : BitVec 1 := Scalar.cmpi .sgt c4_i32_4 c0_i32_7
  let v20 : BitVec 32 := Scalar.extui v19
  let c0_i32_8 : BitVec 32 := 0#32
  let v21 : BitVec 1 := Scalar.cmpi .slt c4_i32_4 c0_i32_8
  let v22 : BitVec 32 := Scalar.extui v21
  let v23 : BitVec 32 := Scalar.subi v20 v22
  let v24 : BitVec 1 := Scalar.cmpi .ne v18 v23
  let v25 : BitVec 32 := Scalar.remsi v2 c4_i32_4
  let c0_i32_9 : BitVec 32 := 0#32
  let v26 : BitVec 1 := Scalar.cmpi .ne v25 c0_i32_9
  let v27 : BitVec 1 := Scalar.andi v24 v26
  let v13 : BitVec 32 := Scalar.divsi v2 c4_i32_4
  let c1_i32_10 : BitVec 32 := 1#32
  let v28 : BitVec 32 := Scalar.subi v13 c1_i32_10
  let v29 : BitVec 32 := Scalar.select v27 v28 v13
  let c3_i32 : BitVec 32 := 3#32
  let v41 : BitVec 32 := Scalar.subi c3_i32 v29
  let v42 : BitVec 32 := Scalar.select v40 v29 v41
  let v44 : BitVec 32 := Scalar.addi v43 v42
  let c1_i32_47 : BitVec 32 := 1#32
  let v98 : BitVec 32 := Scalar.subi v44 c1_i32_47
  let c16_i32_48 : BitVec 32 := 16#32
  let c0_i32_49 : BitVec 32 := 0#32
  let v99 : BitVec 1 := Scalar.cmpi .eq c16_i32_48 c0_i32_49
  let c1_i32_50 : BitVec 32 := 1#32
  let v100 : BitVec 32 := Scalar.select v99 c1_i32_50 c16_i32_48
  let v101 : BitVec 32 := Scalar.remsi v98 v100
  let c0_i32_52 : BitVec 32 := 0#32
  let v103 : BitVec 1 := Scalar.cmpi .slt v101 c0_i32_52
  let c0_i32_53 : BitVec 32 := 0#32
  let v104 : BitVec 1 := Scalar.cmpi .slt v100 c0_i32_53
  let v105 : BitVec 1 := Scalar.xori v103 v104
  let c0_i32_51 : BitVec 32 := 0#32
  let v102 : BitVec 1 := Scalar.cmpi .ne v101 c0_i32_51
  let v106 : BitVec 1 := Scalar.andi v105 v102
  let v107 : BitVec 32 := Scalar.addi v101 v100
  let v108 : BitVec 32 := Scalar.select v106 v107 v101
  let c0_i32_55 : BitVec 32 := 0#32
  let v110 : BitVec 1 := Scalar.cmpi .sgt v108 c0_i32_55
  let v111 : BitVec 32 := Scalar.extui v110
  let c0_i32_56 : BitVec 32 := 0#32
  let v112 : BitVec 1 := Scalar.cmpi .slt v108 c0_i32_56
  let v113 : BitVec 32 := Scalar.extui v112
  let v114 : BitVec 32 := Scalar.subi v111 v113
  let c4_i32_54 : BitVec 32 := 4#32
  let c0_i32_57 : BitVec 32 := 0#32
  let v115 : BitVec 1 := Scalar.cmpi .sgt c4_i32_54 c0_i32_57
  let v116 : BitVec 32 := Scalar.extui v115
  let c0_i32_58 : BitVec 32 := 0#32
  let v117 : BitVec 1 := Scalar.cmpi .slt c4_i32_54 c0_i32_58
  let v118 : BitVec 32 := Scalar.extui v117
  let v119 : BitVec 32 := Scalar.subi v116 v118
  let v120 : BitVec 1 := Scalar.cmpi .ne v114 v119
  let v121 : BitVec 32 := Scalar.remsi v108 c4_i32_54
  let c0_i32_59 : BitVec 32 := 0#32
  let v122 : BitVec 1 := Scalar.cmpi .ne v121 c0_i32_59
  let v123 : BitVec 1 := Scalar.andi v120 v122
  let v109 : BitVec 32 := Scalar.divsi v108 c4_i32_54
  let c1_i32_60 : BitVec 32 := 1#32
  let v124 : BitVec 32 := Scalar.subi v109 c1_i32_60
  let v125 : BitVec 32 := Scalar.select v123 v124 v109
  let c2_i32_67 : BitVec 32 := 2#32
  let c0_i32_68 : BitVec 32 := 0#32
  let v136 : BitVec 1 := Scalar.cmpi .eq c2_i32_67 c0_i32_68
  let c1_i32_69 : BitVec 32 := 1#32
  let v137 : BitVec 32 := Scalar.select v136 c1_i32_69 c2_i32_67
  let v138 : BitVec 32 := Scalar.remsi v125 v137
  let c0_i32_71 : BitVec 32 := 0#32
  let v140 : BitVec 1 := Scalar.cmpi .slt v138 c0_i32_71
  let c0_i32_72 : BitVec 32 := 0#32
  let v141 : BitVec 1 := Scalar.cmpi .slt v137 c0_i32_72
  let v142 : BitVec 1 := Scalar.xori v140 v141
  let c0_i32_70 : BitVec 32 := 0#32
  let v139 : BitVec 1 := Scalar.cmpi .ne v138 c0_i32_70
  let v143 : BitVec 1 := Scalar.andi v142 v139
  let v144 : BitVec 32 := Scalar.addi v138 v137
  let v145 : BitVec 32 := Scalar.select v143 v144 v138
  let c0_i32_73 : BitVec 32 := 0#32
  let v146 : BitVec 1 := Scalar.cmpi .eq v145 c0_i32_73
  let c4_i32_61 : BitVec 32 := 4#32
  let c0_i32_62 : BitVec 32 := 0#32
  let v126 : BitVec 1 := Scalar.cmpi .eq c4_i32_61 c0_i32_62
  let c1_i32_63 : BitVec 32 := 1#32
  let v127 : BitVec 32 := Scalar.select v126 c1_i32_63 c4_i32_61
  let v128 : BitVec 32 := Scalar.remsi v108 v127
  let c0_i32_65 : BitVec 32 := 0#32
  let v130 : BitVec 1 := Scalar.cmpi .slt v128 c0_i32_65
  let c0_i32_66 : BitVec 32 := 0#32
  let v131 : BitVec 1 := Scalar.cmpi .slt v127 c0_i32_66
  let v132 : BitVec 1 := Scalar.xori v130 v131
  let c0_i32_64 : BitVec 32 := 0#32
  let v129 : BitVec 1 := Scalar.cmpi .ne v128 c0_i32_64
  let v133 : BitVec 1 := Scalar.andi v132 v129
  let v134 : BitVec 32 := Scalar.addi v128 v127
  let v135 : BitVec 32 := Scalar.select v133 v134 v128
  let c3_i32_74 : BitVec 32 := 3#32
  let v147 : BitVec 32 := Scalar.subi c3_i32_74 v135
  let v148 : BitVec 32 := Scalar.select v146 v135 v147
  let v149 : BitVec 32 := Scalar.muli c4_i32_75 v148
  let v150 : BitVec 32 := Scalar.addi v149 v125
  let c1_i32_1077 : BitVec 32 := 1#32
  let v1541 : BitVec 32 := Scalar.muli v150 c1_i32_1077
  let v1542 : BitVec 32 := Scalar.addi c0_i32_1078 v1541
  v1542.toNat
def k0_dev28 (d0 : Dev nD) : Nat :=
  let c0_i32_1106 : BitVec 32 := 0#32
  let c4_i32_46 : BitVec 32 := 4#32
  let c4_i32_17 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let v43 : BitVec 32 := Scalar.muli c4_i32_17 v12
  let c2_i32 : BitVec 32 := 2#32
  let c0_i32_11 : BitVec 32 := 0#32
  let v30 : BitVec 1 := Scalar.cmpi .eq c2_i32 c0_i32_11
  let c1_i32_12 : BitVec 32 := 1#32
  let v31 : BitVec 32 := Scalar.select v30 c1_i32_12 c2_i32
  let v32 : BitVec 32 := Scalar.remsi v12 v31
  let c0_i32_14 : BitVec 32 := 0#32
  let v34 : BitVec 1 := Scalar.cmpi .slt v32 c0_i32_14
  let c0_i32_15 : BitVec 32 := 0#32
  let v35 : BitVec 1 := Scalar.cmpi .slt v31 c0_i32_15
  let v36 : BitVec 1 := Scalar.xori v34 v35
  let c0_i32_13 : BitVec 32 := 0#32
  let v33 : BitVec 1 := Scalar.cmpi .ne v32 c0_i32_13
  let v37 : BitVec 1 := Scalar.andi v36 v33
  let v38 : BitVec 32 := Scalar.addi v32 v31
  let v39 : BitVec 32 := Scalar.select v37 v38 v32
  let c0_i32_16 : BitVec 32 := 0#32
  let v40 : BitVec 1 := Scalar.cmpi .eq v39 c0_i32_16
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c4_i32_4 : BitVec 32 := 4#32
  let c0_i32_7 : BitVec 32 := 0#32
  let v19 : BitVec 1 := Scalar.cmpi .sgt c4_i32_4 c0_i32_7
  let v20 : BitVec 32 := Scalar.extui v19
  let c0_i32_8 : BitVec 32 := 0#32
  let v21 : BitVec 1 := Scalar.cmpi .slt c4_i32_4 c0_i32_8
  let v22 : BitVec 32 := Scalar.extui v21
  let v23 : BitVec 32 := Scalar.subi v20 v22
  let v24 : BitVec 1 := Scalar.cmpi .ne v18 v23
  let v25 : BitVec 32 := Scalar.remsi v2 c4_i32_4
  let c0_i32_9 : BitVec 32 := 0#32
  let v26 : BitVec 1 := Scalar.cmpi .ne v25 c0_i32_9
  let v27 : BitVec 1 := Scalar.andi v24 v26
  let v13 : BitVec 32 := Scalar.divsi v2 c4_i32_4
  let c1_i32_10 : BitVec 32 := 1#32
  let v28 : BitVec 32 := Scalar.subi v13 c1_i32_10
  let v29 : BitVec 32 := Scalar.select v27 v28 v13
  let c3_i32 : BitVec 32 := 3#32
  let v41 : BitVec 32 := Scalar.subi c3_i32 v29
  let v42 : BitVec 32 := Scalar.select v40 v29 v41
  let v44 : BitVec 32 := Scalar.addi v43 v42
  let c1_i32_18 : BitVec 32 := 1#32
  let v45 : BitVec 32 := Scalar.addi v44 c1_i32_18
  let c16_i32_19 : BitVec 32 := 16#32
  let c0_i32_20 : BitVec 32 := 0#32
  let v46 : BitVec 1 := Scalar.cmpi .eq c16_i32_19 c0_i32_20
  let c1_i32_21 : BitVec 32 := 1#32
  let v47 : BitVec 32 := Scalar.select v46 c1_i32_21 c16_i32_19
  let v48 : BitVec 32 := Scalar.remsi v45 v47
  let c0_i32_23 : BitVec 32 := 0#32
  let v50 : BitVec 1 := Scalar.cmpi .slt v48 c0_i32_23
  let c0_i32_24 : BitVec 32 := 0#32
  let v51 : BitVec 1 := Scalar.cmpi .slt v47 c0_i32_24
  let v52 : BitVec 1 := Scalar.xori v50 v51
  let c0_i32_22 : BitVec 32 := 0#32
  let v49 : BitVec 1 := Scalar.cmpi .ne v48 c0_i32_22
  let v53 : BitVec 1 := Scalar.andi v52 v49
  let v54 : BitVec 32 := Scalar.addi v48 v47
  let v55 : BitVec 32 := Scalar.select v53 v54 v48
  let c0_i32_26 : BitVec 32 := 0#32
  let v57 : BitVec 1 := Scalar.cmpi .sgt v55 c0_i32_26
  let v58 : BitVec 32 := Scalar.extui v57
  let c0_i32_27 : BitVec 32 := 0#32
  let v59 : BitVec 1 := Scalar.cmpi .slt v55 c0_i32_27
  let v60 : BitVec 32 := Scalar.extui v59
  let v61 : BitVec 32 := Scalar.subi v58 v60
  let c4_i32_25 : BitVec 32 := 4#32
  let c0_i32_28 : BitVec 32 := 0#32
  let v62 : BitVec 1 := Scalar.cmpi .sgt c4_i32_25 c0_i32_28
  let v63 : BitVec 32 := Scalar.extui v62
  let c0_i32_29 : BitVec 32 := 0#32
  let v64 : BitVec 1 := Scalar.cmpi .slt c4_i32_25 c0_i32_29
  let v65 : BitVec 32 := Scalar.extui v64
  let v66 : BitVec 32 := Scalar.subi v63 v65
  let v67 : BitVec 1 := Scalar.cmpi .ne v61 v66
  let v68 : BitVec 32 := Scalar.remsi v55 c4_i32_25
  let c0_i32_30 : BitVec 32 := 0#32
  let v69 : BitVec 1 := Scalar.cmpi .ne v68 c0_i32_30
  let v70 : BitVec 1 := Scalar.andi v67 v69
  let v56 : BitVec 32 := Scalar.divsi v55 c4_i32_25
  let c1_i32_31 : BitVec 32 := 1#32
  let v71 : BitVec 32 := Scalar.subi v56 c1_i32_31
  let v72 : BitVec 32 := Scalar.select v70 v71 v56
  let c2_i32_38 : BitVec 32 := 2#32
  let c0_i32_39 : BitVec 32 := 0#32
  let v83 : BitVec 1 := Scalar.cmpi .eq c2_i32_38 c0_i32_39
  let c1_i32_40 : BitVec 32 := 1#32
  let v84 : BitVec 32 := Scalar.select v83 c1_i32_40 c2_i32_38
  let v85 : BitVec 32 := Scalar.remsi v72 v84
  let c0_i32_42 : BitVec 32 := 0#32
  let v87 : BitVec 1 := Scalar.cmpi .slt v85 c0_i32_42
  let c0_i32_43 : BitVec 32 := 0#32
  let v88 : BitVec 1 := Scalar.cmpi .slt v84 c0_i32_43
  let v89 : BitVec 1 := Scalar.xori v87 v88
  let c0_i32_41 : BitVec 32 := 0#32
  let v86 : BitVec 1 := Scalar.cmpi .ne v85 c0_i32_41
  let v90 : BitVec 1 := Scalar.andi v89 v86
  let v91 : BitVec 32 := Scalar.addi v85 v84
  let v92 : BitVec 32 := Scalar.select v90 v91 v85
  let c0_i32_44 : BitVec 32 := 0#32
  let v93 : BitVec 1 := Scalar.cmpi .eq v92 c0_i32_44
  let c4_i32_32 : BitVec 32 := 4#32
  let c0_i32_33 : BitVec 32 := 0#32
  let v73 : BitVec 1 := Scalar.cmpi .eq c4_i32_32 c0_i32_33
  let c1_i32_34 : BitVec 32 := 1#32
  let v74 : BitVec 32 := Scalar.select v73 c1_i32_34 c4_i32_32
  let v75 : BitVec 32 := Scalar.remsi v55 v74
  let c0_i32_36 : BitVec 32 := 0#32
  let v77 : BitVec 1 := Scalar.cmpi .slt v75 c0_i32_36
  let c0_i32_37 : BitVec 32 := 0#32
  let v78 : BitVec 1 := Scalar.cmpi .slt v74 c0_i32_37
  let v79 : BitVec 1 := Scalar.xori v77 v78
  let c0_i32_35 : BitVec 32 := 0#32
  let v76 : BitVec 1 := Scalar.cmpi .ne v75 c0_i32_35
  let v80 : BitVec 1 := Scalar.andi v79 v76
  let v81 : BitVec 32 := Scalar.addi v75 v74
  let v82 : BitVec 32 := Scalar.select v80 v81 v75
  let c3_i32_45 : BitVec 32 := 3#32
  let v94 : BitVec 32 := Scalar.subi c3_i32_45 v82
  let v95 : BitVec 32 := Scalar.select v93 v82 v94
  let v96 : BitVec 32 := Scalar.muli c4_i32_46 v95
  let v97 : BitVec 32 := Scalar.addi v96 v72
  let c1_i32_1105 : BitVec 32 := 1#32
  let v1565 : BitVec 32 := Scalar.muli v97 c1_i32_1105
  let v1566 : BitVec 32 := Scalar.addi c0_i32_1106 v1565
  v1566.toNat
def k0_dev29 (d0 : Dev nD) : Nat :=
  let c0_i32_1120 : BitVec 32 := 0#32
  let c4_i32_46 : BitVec 32 := 4#32
  let c4_i32_17 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let v43 : BitVec 32 := Scalar.muli c4_i32_17 v12
  let c2_i32 : BitVec 32 := 2#32
  let c0_i32_11 : BitVec 32 := 0#32
  let v30 : BitVec 1 := Scalar.cmpi .eq c2_i32 c0_i32_11
  let c1_i32_12 : BitVec 32 := 1#32
  let v31 : BitVec 32 := Scalar.select v30 c1_i32_12 c2_i32
  let v32 : BitVec 32 := Scalar.remsi v12 v31
  let c0_i32_14 : BitVec 32 := 0#32
  let v34 : BitVec 1 := Scalar.cmpi .slt v32 c0_i32_14
  let c0_i32_15 : BitVec 32 := 0#32
  let v35 : BitVec 1 := Scalar.cmpi .slt v31 c0_i32_15
  let v36 : BitVec 1 := Scalar.xori v34 v35
  let c0_i32_13 : BitVec 32 := 0#32
  let v33 : BitVec 1 := Scalar.cmpi .ne v32 c0_i32_13
  let v37 : BitVec 1 := Scalar.andi v36 v33
  let v38 : BitVec 32 := Scalar.addi v32 v31
  let v39 : BitVec 32 := Scalar.select v37 v38 v32
  let c0_i32_16 : BitVec 32 := 0#32
  let v40 : BitVec 1 := Scalar.cmpi .eq v39 c0_i32_16
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c4_i32_4 : BitVec 32 := 4#32
  let c0_i32_7 : BitVec 32 := 0#32
  let v19 : BitVec 1 := Scalar.cmpi .sgt c4_i32_4 c0_i32_7
  let v20 : BitVec 32 := Scalar.extui v19
  let c0_i32_8 : BitVec 32 := 0#32
  let v21 : BitVec 1 := Scalar.cmpi .slt c4_i32_4 c0_i32_8
  let v22 : BitVec 32 := Scalar.extui v21
  let v23 : BitVec 32 := Scalar.subi v20 v22
  let v24 : BitVec 1 := Scalar.cmpi .ne v18 v23
  let v25 : BitVec 32 := Scalar.remsi v2 c4_i32_4
  let c0_i32_9 : BitVec 32 := 0#32
  let v26 : BitVec 1 := Scalar.cmpi .ne v25 c0_i32_9
  let v27 : BitVec 1 := Scalar.andi v24 v26
  let v13 : BitVec 32 := Scalar.divsi v2 c4_i32_4
  let c1_i32_10 : BitVec 32 := 1#32
  let v28 : BitVec 32 := Scalar.subi v13 c1_i32_10
  let v29 : BitVec 32 := Scalar.select v27 v28 v13
  let c3_i32 : BitVec 32 := 3#32
  let v41 : BitVec 32 := Scalar.subi c3_i32 v29
  let v42 : BitVec 32 := Scalar.select v40 v29 v41
  let v44 : BitVec 32 := Scalar.addi v43 v42
  let c1_i32_18 : BitVec 32 := 1#32
  let v45 : BitVec 32 := Scalar.addi v44 c1_i32_18
  let c16_i32_19 : BitVec 32 := 16#32
  let c0_i32_20 : BitVec 32 := 0#32
  let v46 : BitVec 1 := Scalar.cmpi .eq c16_i32_19 c0_i32_20
  let c1_i32_21 : BitVec 32 := 1#32
  let v47 : BitVec 32 := Scalar.select v46 c1_i32_21 c16_i32_19
  let v48 : BitVec 32 := Scalar.remsi v45 v47
  let c0_i32_23 : BitVec 32 := 0#32
  let v50 : BitVec 1 := Scalar.cmpi .slt v48 c0_i32_23
  let c0_i32_24 : BitVec 32 := 0#32
  let v51 : BitVec 1 := Scalar.cmpi .slt v47 c0_i32_24
  let v52 : BitVec 1 := Scalar.xori v50 v51
  let c0_i32_22 : BitVec 32 := 0#32
  let v49 : BitVec 1 := Scalar.cmpi .ne v48 c0_i32_22
  let v53 : BitVec 1 := Scalar.andi v52 v49
  let v54 : BitVec 32 := Scalar.addi v48 v47
  let v55 : BitVec 32 := Scalar.select v53 v54 v48
  let c0_i32_26 : BitVec 32 := 0#32
  let v57 : BitVec 1 := Scalar.cmpi .sgt v55 c0_i32_26
  let v58 : BitVec 32 := Scalar.extui v57
  let c0_i32_27 : BitVec 32 := 0#32
  let v59 : BitVec 1 := Scalar.cmpi .slt v55 c0_i32_27
  let v60 : BitVec 32 := Scalar.extui v59
  let v61 : BitVec 32 := Scalar.subi v58 v60
  let c4_i32_25 : BitVec 32 := 4#32
  let c0_i32_28 : BitVec 32 := 0#32
  let v62 : BitVec 1 := Scalar.cmpi .sgt c4_i32_25 c0_i32_28
  let v63 : BitVec 32 := Scalar.extui v62
  let c0_i32_29 : BitVec 32 := 0#32
  let v64 : BitVec 1 := Scalar.cmpi .slt c4_i32_25 c0_i32_29
  let v65 : BitVec 32 := Scalar.extui v64
  let v66 : BitVec 32 := Scalar.subi v63 v65
  let v67 : BitVec 1 := Scalar.cmpi .ne v61 v66
  let v68 : BitVec 32 := Scalar.remsi v55 c4_i32_25
  let c0_i32_30 : BitVec 32 := 0#32
  let v69 : BitVec 1 := Scalar.cmpi .ne v68 c0_i32_30
  let v70 : BitVec 1 := Scalar.andi v67 v69
  let v56 : BitVec 32 := Scalar.divsi v55 c4_i32_25
  let c1_i32_31 : BitVec 32 := 1#32
  let v71 : BitVec 32 := Scalar.subi v56 c1_i32_31
  let v72 : BitVec 32 := Scalar.select v70 v71 v56
  let c2_i32_38 : BitVec 32 := 2#32
  let c0_i32_39 : BitVec 32 := 0#32
  let v83 : BitVec 1 := Scalar.cmpi .eq c2_i32_38 c0_i32_39
  let c1_i32_40 : BitVec 32 := 1#32
  let v84 : BitVec 32 := Scalar.select v83 c1_i32_40 c2_i32_38
  let v85 : BitVec 32 := Scalar.remsi v72 v84
  let c0_i32_42 : BitVec 32 := 0#32
  let v87 : BitVec 1 := Scalar.cmpi .slt v85 c0_i32_42
  let c0_i32_43 : BitVec 32 := 0#32
  let v88 : BitVec 1 := Scalar.cmpi .slt v84 c0_i32_43
  let v89 : BitVec 1 := Scalar.xori v87 v88
  let c0_i32_41 : BitVec 32 := 0#32
  let v86 : BitVec 1 := Scalar.cmpi .ne v85 c0_i32_41
  let v90 : BitVec 1 := Scalar.andi v89 v86
  let v91 : BitVec 32 := Scalar.addi v85 v84
  let v92 : BitVec 32 := Scalar.select v90 v91 v85
  let c0_i32_44 : BitVec 32 := 0#32
  let v93 : BitVec 1 := Scalar.cmpi .eq v92 c0_i32_44
  let c4_i32_32 : BitVec 32 := 4#32
  let c0_i32_33 : BitVec 32 := 0#32
  let v73 : BitVec 1 := Scalar.cmpi .eq c4_i32_32 c0_i32_33
  let c1_i32_34 : BitVec 32 := 1#32
  let v74 : BitVec 32 := Scalar.select v73 c1_i32_34 c4_i32_32
  let v75 : BitVec 32 := Scalar.remsi v55 v74
  let c0_i32_36 : BitVec 32 := 0#32
  let v77 : BitVec 1 := Scalar.cmpi .slt v75 c0_i32_36
  let c0_i32_37 : BitVec 32 := 0#32
  let v78 : BitVec 1 := Scalar.cmpi .slt v74 c0_i32_37
  let v79 : BitVec 1 := Scalar.xori v77 v78
  let c0_i32_35 : BitVec 32 := 0#32
  let v76 : BitVec 1 := Scalar.cmpi .ne v75 c0_i32_35
  let v80 : BitVec 1 := Scalar.andi v79 v76
  let v81 : BitVec 32 := Scalar.addi v75 v74
  let v82 : BitVec 32 := Scalar.select v80 v81 v75
  let c3_i32_45 : BitVec 32 := 3#32
  let v94 : BitVec 32 := Scalar.subi c3_i32_45 v82
  let v95 : BitVec 32 := Scalar.select v93 v82 v94
  let v96 : BitVec 32 := Scalar.muli c4_i32_46 v95
  let v97 : BitVec 32 := Scalar.addi v96 v72
  let c1_i32_1119 : BitVec 32 := 1#32
  let v1575 : BitVec 32 := Scalar.muli v97 c1_i32_1119
  let v1576 : BitVec 32 := Scalar.addi c0_i32_1120 v1575
  v1576.toNat
def k0_dev30 (d0 : Dev nD) : Nat :=
  let c0_i32_1132 : BitVec 32 := 0#32
  let c4_i32_75 : BitVec 32 := 4#32
  let c4_i32_17 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let v43 : BitVec 32 := Scalar.muli c4_i32_17 v12
  let c2_i32 : BitVec 32 := 2#32
  let c0_i32_11 : BitVec 32 := 0#32
  let v30 : BitVec 1 := Scalar.cmpi .eq c2_i32 c0_i32_11
  let c1_i32_12 : BitVec 32 := 1#32
  let v31 : BitVec 32 := Scalar.select v30 c1_i32_12 c2_i32
  let v32 : BitVec 32 := Scalar.remsi v12 v31
  let c0_i32_14 : BitVec 32 := 0#32
  let v34 : BitVec 1 := Scalar.cmpi .slt v32 c0_i32_14
  let c0_i32_15 : BitVec 32 := 0#32
  let v35 : BitVec 1 := Scalar.cmpi .slt v31 c0_i32_15
  let v36 : BitVec 1 := Scalar.xori v34 v35
  let c0_i32_13 : BitVec 32 := 0#32
  let v33 : BitVec 1 := Scalar.cmpi .ne v32 c0_i32_13
  let v37 : BitVec 1 := Scalar.andi v36 v33
  let v38 : BitVec 32 := Scalar.addi v32 v31
  let v39 : BitVec 32 := Scalar.select v37 v38 v32
  let c0_i32_16 : BitVec 32 := 0#32
  let v40 : BitVec 1 := Scalar.cmpi .eq v39 c0_i32_16
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c4_i32_4 : BitVec 32 := 4#32
  let c0_i32_7 : BitVec 32 := 0#32
  let v19 : BitVec 1 := Scalar.cmpi .sgt c4_i32_4 c0_i32_7
  let v20 : BitVec 32 := Scalar.extui v19
  let c0_i32_8 : BitVec 32 := 0#32
  let v21 : BitVec 1 := Scalar.cmpi .slt c4_i32_4 c0_i32_8
  let v22 : BitVec 32 := Scalar.extui v21
  let v23 : BitVec 32 := Scalar.subi v20 v22
  let v24 : BitVec 1 := Scalar.cmpi .ne v18 v23
  let v25 : BitVec 32 := Scalar.remsi v2 c4_i32_4
  let c0_i32_9 : BitVec 32 := 0#32
  let v26 : BitVec 1 := Scalar.cmpi .ne v25 c0_i32_9
  let v27 : BitVec 1 := Scalar.andi v24 v26
  let v13 : BitVec 32 := Scalar.divsi v2 c4_i32_4
  let c1_i32_10 : BitVec 32 := 1#32
  let v28 : BitVec 32 := Scalar.subi v13 c1_i32_10
  let v29 : BitVec 32 := Scalar.select v27 v28 v13
  let c3_i32 : BitVec 32 := 3#32
  let v41 : BitVec 32 := Scalar.subi c3_i32 v29
  let v42 : BitVec 32 := Scalar.select v40 v29 v41
  let v44 : BitVec 32 := Scalar.addi v43 v42
  let c1_i32_47 : BitVec 32 := 1#32
  let v98 : BitVec 32 := Scalar.subi v44 c1_i32_47
  let c16_i32_48 : BitVec 32 := 16#32
  let c0_i32_49 : BitVec 32 := 0#32
  let v99 : BitVec 1 := Scalar.cmpi .eq c16_i32_48 c0_i32_49
  let c1_i32_50 : BitVec 32 := 1#32
  let v100 : BitVec 32 := Scalar.select v99 c1_i32_50 c16_i32_48
  let v101 : BitVec 32 := Scalar.remsi v98 v100
  let c0_i32_52 : BitVec 32 := 0#32
  let v103 : BitVec 1 := Scalar.cmpi .slt v101 c0_i32_52
  let c0_i32_53 : BitVec 32 := 0#32
  let v104 : BitVec 1 := Scalar.cmpi .slt v100 c0_i32_53
  let v105 : BitVec 1 := Scalar.xori v103 v104
  let c0_i32_51 : BitVec 32 := 0#32
  let v102 : BitVec 1 := Scalar.cmpi .ne v101 c0_i32_51
  let v106 : BitVec 1 := Scalar.andi v105 v102
  let v107 : BitVec 32 := Scalar.addi v101 v100
  let v108 : BitVec 32 := Scalar.select v106 v107 v101
  let c0_i32_55 : BitVec 32 := 0#32
  let v110 : BitVec 1 := Scalar.cmpi .sgt v108 c0_i32_55
  let v111 : BitVec 32 := Scalar.extui v110
  let c0_i32_56 : BitVec 32 := 0#32
  let v112 : BitVec 1 := Scalar.cmpi .slt v108 c0_i32_56
  let v113 : BitVec 32 := Scalar.extui v112
  let v114 : BitVec 32 := Scalar.subi v111 v113
  let c4_i32_54 : BitVec 32 := 4#32
  let c0_i32_57 : BitVec 32 := 0#32
  let v115 : BitVec 1 := Scalar.cmpi .sgt c4_i32_54 c0_i32_57
  let v116 : BitVec 32 := Scalar.extui v115
  let c0_i32_58 : BitVec 32 := 0#32
  let v117 : BitVec 1 := Scalar.cmpi .slt c4_i32_54 c0_i32_58
  let v118 : BitVec 32 := Scalar.extui v117
  let v119 : BitVec 32 := Scalar.subi v116 v118
  let v120 : BitVec 1 := Scalar.cmpi .ne v114 v119
  let v121 : BitVec 32 := Scalar.remsi v108 c4_i32_54
  let c0_i32_59 : BitVec 32 := 0#32
  let v122 : BitVec 1 := Scalar.cmpi .ne v121 c0_i32_59
  let v123 : BitVec 1 := Scalar.andi v120 v122
  let v109 : BitVec 32 := Scalar.divsi v108 c4_i32_54
  let c1_i32_60 : BitVec 32 := 1#32
  let v124 : BitVec 32 := Scalar.subi v109 c1_i32_60
  let v125 : BitVec 32 := Scalar.select v123 v124 v109
  let c2_i32_67 : BitVec 32 := 2#32
  let c0_i32_68 : BitVec 32 := 0#32
  let v136 : BitVec 1 := Scalar.cmpi .eq c2_i32_67 c0_i32_68
  let c1_i32_69 : BitVec 32 := 1#32
  let v137 : BitVec 32 := Scalar.select v136 c1_i32_69 c2_i32_67
  let v138 : BitVec 32 := Scalar.remsi v125 v137
  let c0_i32_71 : BitVec 32 := 0#32
  let v140 : BitVec 1 := Scalar.cmpi .slt v138 c0_i32_71
  let c0_i32_72 : BitVec 32 := 0#32
  let v141 : BitVec 1 := Scalar.cmpi .slt v137 c0_i32_72
  let v142 : BitVec 1 := Scalar.xori v140 v141
  let c0_i32_70 : BitVec 32 := 0#32
  let v139 : BitVec 1 := Scalar.cmpi .ne v138 c0_i32_70
  let v143 : BitVec 1 := Scalar.andi v142 v139
  let v144 : BitVec 32 := Scalar.addi v138 v137
  let v145 : BitVec 32 := Scalar.select v143 v144 v138
  let c0_i32_73 : BitVec 32 := 0#32
  let v146 : BitVec 1 := Scalar.cmpi .eq v145 c0_i32_73
  let c4_i32_61 : BitVec 32 := 4#32
  let c0_i32_62 : BitVec 32 := 0#32
  let v126 : BitVec 1 := Scalar.cmpi .eq c4_i32_61 c0_i32_62
  let c1_i32_63 : BitVec 32 := 1#32
  let v127 : BitVec 32 := Scalar.select v126 c1_i32_63 c4_i32_61
  let v128 : BitVec 32 := Scalar.remsi v108 v127
  let c0_i32_65 : BitVec 32 := 0#32
  let v130 : BitVec 1 := Scalar.cmpi .slt v128 c0_i32_65
  let c0_i32_66 : BitVec 32 := 0#32
  let v131 : BitVec 1 := Scalar.cmpi .slt v127 c0_i32_66
  let v132 : BitVec 1 := Scalar.xori v130 v131
  let c0_i32_64 : BitVec 32 := 0#32
  let v129 : BitVec 1 := Scalar.cmpi .ne v128 c0_i32_64
  let v133 : BitVec 1 := Scalar.andi v132 v129
  let v134 : BitVec 32 := Scalar.addi v128 v127
  let v135 : BitVec 32 := Scalar.select v133 v134 v128
  let c3_i32_74 : BitVec 32 := 3#32
  let v147 : BitVec 32 := Scalar.subi c3_i32_74 v135
  let v148 : BitVec 32 := Scalar.select v146 v135 v147
  let v149 : BitVec 32 := Scalar.muli c4_i32_75 v148
  let v150 : BitVec 32 := Scalar.addi v149 v125
  let c1_i32_1131 : BitVec 32 := 1#32
  let v1585 : BitVec 32 := Scalar.muli v150 c1_i32_1131
  let v1586 : BitVec 32 := Scalar.addi c0_i32_1132 v1585
  v1586.toNat
def k0_dev31 (d0 : Dev nD) : Nat :=
  let c0_i32_1290 : BitVec 32 := 0#32
  let c4_i32_75 : BitVec 32 := 4#32
  let c4_i32_17 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let v43 : BitVec 32 := Scalar.muli c4_i32_17 v12
  let c2_i32 : BitVec 32 := 2#32
  let c0_i32_11 : BitVec 32 := 0#32
  let v30 : BitVec 1 := Scalar.cmpi .eq c2_i32 c0_i32_11
  let c1_i32_12 : BitVec 32 := 1#32
  let v31 : BitVec 32 := Scalar.select v30 c1_i32_12 c2_i32
  let v32 : BitVec 32 := Scalar.remsi v12 v31
  let c0_i32_14 : BitVec 32 := 0#32
  let v34 : BitVec 1 := Scalar.cmpi .slt v32 c0_i32_14
  let c0_i32_15 : BitVec 32 := 0#32
  let v35 : BitVec 1 := Scalar.cmpi .slt v31 c0_i32_15
  let v36 : BitVec 1 := Scalar.xori v34 v35
  let c0_i32_13 : BitVec 32 := 0#32
  let v33 : BitVec 1 := Scalar.cmpi .ne v32 c0_i32_13
  let v37 : BitVec 1 := Scalar.andi v36 v33
  let v38 : BitVec 32 := Scalar.addi v32 v31
  let v39 : BitVec 32 := Scalar.select v37 v38 v32
  let c0_i32_16 : BitVec 32 := 0#32
  let v40 : BitVec 1 := Scalar.cmpi .eq v39 c0_i32_16
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c4_i32_4 : BitVec 32 := 4#32
  let c0_i32_7 : BitVec 32 := 0#32
  let v19 : BitVec 1 := Scalar.cmpi .sgt c4_i32_4 c0_i32_7
  let v20 : BitVec 32 := Scalar.extui v19
  let c0_i32_8 : BitVec 32 := 0#32
  let v21 : BitVec 1 := Scalar.cmpi .slt c4_i32_4 c0_i32_8
  let v22 : BitVec 32 := Scalar.extui v21
  let v23 : BitVec 32 := Scalar.subi v20 v22
  let v24 : BitVec 1 := Scalar.cmpi .ne v18 v23
  let v25 : BitVec 32 := Scalar.remsi v2 c4_i32_4
  let c0_i32_9 : BitVec 32 := 0#32
  let v26 : BitVec 1 := Scalar.cmpi .ne v25 c0_i32_9
  let v27 : BitVec 1 := Scalar.andi v24 v26
  let v13 : BitVec 32 := Scalar.divsi v2 c4_i32_4
  let c1_i32_10 : BitVec 32 := 1#32
  let v28 : BitVec 32 := Scalar.subi v13 c1_i32_10
  let v29 : BitVec 32 := Scalar.select v27 v28 v13
  let c3_i32 : BitVec 32 := 3#32
  let v41 : BitVec 32 := Scalar.subi c3_i32 v29
  let v42 : BitVec 32 := Scalar.select v40 v29 v41
  let v44 : BitVec 32 := Scalar.addi v43 v42
  let c1_i32_47 : BitVec 32 := 1#32
  let v98 : BitVec 32 := Scalar.subi v44 c1_i32_47
  let c16_i32_48 : BitVec 32 := 16#32
  let c0_i32_49 : BitVec 32 := 0#32
  let v99 : BitVec 1 := Scalar.cmpi .eq c16_i32_48 c0_i32_49
  let c1_i32_50 : BitVec 32 := 1#32
  let v100 : BitVec 32 := Scalar.select v99 c1_i32_50 c16_i32_48
  let v101 : BitVec 32 := Scalar.remsi v98 v100
  let c0_i32_52 : BitVec 32 := 0#32
  let v103 : BitVec 1 := Scalar.cmpi .slt v101 c0_i32_52
  let c0_i32_53 : BitVec 32 := 0#32
  let v104 : BitVec 1 := Scalar.cmpi .slt v100 c0_i32_53
  let v105 : BitVec 1 := Scalar.xori v103 v104
  let c0_i32_51 : BitVec 32 := 0#32
  let v102 : BitVec 1 := Scalar.cmpi .ne v101 c0_i32_51
  let v106 : BitVec 1 := Scalar.andi v105 v102
  let v107 : BitVec 32 := Scalar.addi v101 v100
  let v108 : BitVec 32 := Scalar.select v106 v107 v101
  let c0_i32_55 : BitVec 32 := 0#32
  let v110 : BitVec 1 := Scalar.cmpi .sgt v108 c0_i32_55
  let v111 : BitVec 32 := Scalar.extui v110
  let c0_i32_56 : BitVec 32 := 0#32
  let v112 : BitVec 1 := Scalar.cmpi .slt v108 c0_i32_56
  let v113 : BitVec 32 := Scalar.extui v112
  let v114 : BitVec 32 := Scalar.subi v111 v113
  let c4_i32_54 : BitVec 32 := 4#32
  let c0_i32_57 : BitVec 32 := 0#32
  let v115 : BitVec 1 := Scalar.cmpi .sgt c4_i32_54 c0_i32_57
  let v116 : BitVec 32 := Scalar.extui v115
  let c0_i32_58 : BitVec 32 := 0#32
  let v117 : BitVec 1 := Scalar.cmpi .slt c4_i32_54 c0_i32_58
  let v118 : BitVec 32 := Scalar.extui v117
  let v119 : BitVec 32 := Scalar.subi v116 v118
  let v120 : BitVec 1 := Scalar.cmpi .ne v114 v119
  let v121 : BitVec 32 := Scalar.remsi v108 c4_i32_54
  let c0_i32_59 : BitVec 32 := 0#32
  let v122 : BitVec 1 := Scalar.cmpi .ne v121 c0_i32_59
  let v123 : BitVec 1 := Scalar.andi v120 v122
  let v109 : BitVec 32 := Scalar.divsi v108 c4_i32_54
  let c1_i32_60 : BitVec 32 := 1#32
  let v124 : BitVec 32 := Scalar.subi v109 c1_i32_60
  let v125 : BitVec 32 := Scalar.select v123 v124 v109
  let c2_i32_67 : BitVec 32 := 2#32
  let c0_i32_68 : BitVec 32 := 0#32
  let v136 : BitVec 1 := Scalar.cmpi .eq c2_i32_67 c0_i32_68
  let c1_i32_69 : BitVec 32 := 1#32
  let v137 : BitVec 32 := Scalar.select v136 c1_i32_69 c2_i32_67
  let v138 : BitVec 32 := Scalar.remsi v125 v137
  let c0_i32_71 : BitVec 32 := 0#32
  let v140 : BitVec 1 := Scalar.cmpi .slt v138 c0_i32_71
  let c0_i32_72 : BitVec 32 := 0#32
  let v141 : BitVec 1 := Scalar.cmpi .slt v137 c0_i32_72
  let v142 : BitVec 1 := Scalar.xori v140 v141
  let c0_i32_70 : BitVec 32 := 0#32
  let v139 : BitVec 1 := Scalar.cmpi .ne v138 c0_i32_70
  let v143 : BitVec 1 := Scalar.andi v142 v139
  let v144 : BitVec 32 := Scalar.addi v138 v137
  let v145 : BitVec 32 := Scalar.select v143 v144 v138
  let c0_i32_73 : BitVec 32 := 0#32
  let v146 : BitVec 1 := Scalar.cmpi .eq v145 c0_i32_73
  let c4_i32_61 : BitVec 32 := 4#32
  let c0_i32_62 : BitVec 32 := 0#32
  let v126 : BitVec 1 := Scalar.cmpi .eq c4_i32_61 c0_i32_62
  let c1_i32_63 : BitVec 32 := 1#32
  let v127 : BitVec 32 := Scalar.select v126 c1_i32_63 c4_i32_61
  let v128 : BitVec 32 := Scalar.remsi v108 v127
  let c0_i32_65 : BitVec 32 := 0#32
  let v130 : BitVec 1 := Scalar.cmpi .slt v128 c0_i32_65
  let c0_i32_66 : BitVec 32 := 0#32
  let v131 : BitVec 1 := Scalar.cmpi .slt v127 c0_i32_66
  let v132 : BitVec 1 := Scalar.xori v130 v131
  let c0_i32_64 : BitVec 32 := 0#32
  let v129 : BitVec 1 := Scalar.cmpi .ne v128 c0_i32_64
  let v133 : BitVec 1 := Scalar.andi v132 v129
  let v134 : BitVec 32 := Scalar.addi v128 v127
  let v135 : BitVec 32 := Scalar.select v133 v134 v128
  let c3_i32_74 : BitVec 32 := 3#32
  let v147 : BitVec 32 := Scalar.subi c3_i32_74 v135
  let v148 : BitVec 32 := Scalar.select v146 v135 v147
  let v149 : BitVec 32 := Scalar.muli c4_i32_75 v148
  let v150 : BitVec 32 := Scalar.addi v149 v125
  let c1_i32_1289 : BitVec 32 := 1#32
  let v1853 : BitVec 32 := Scalar.muli v150 c1_i32_1289
  let v1854 : BitVec 32 := Scalar.addi c0_i32_1290 v1853
  v1854.toNat
def k0_dev32 (d0 : Dev nD) : Nat :=
  let c0_i32_1318 : BitVec 32 := 0#32
  let c4_i32_46 : BitVec 32 := 4#32
  let c4_i32_17 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let v43 : BitVec 32 := Scalar.muli c4_i32_17 v12
  let c2_i32 : BitVec 32 := 2#32
  let c0_i32_11 : BitVec 32 := 0#32
  let v30 : BitVec 1 := Scalar.cmpi .eq c2_i32 c0_i32_11
  let c1_i32_12 : BitVec 32 := 1#32
  let v31 : BitVec 32 := Scalar.select v30 c1_i32_12 c2_i32
  let v32 : BitVec 32 := Scalar.remsi v12 v31
  let c0_i32_14 : BitVec 32 := 0#32
  let v34 : BitVec 1 := Scalar.cmpi .slt v32 c0_i32_14
  let c0_i32_15 : BitVec 32 := 0#32
  let v35 : BitVec 1 := Scalar.cmpi .slt v31 c0_i32_15
  let v36 : BitVec 1 := Scalar.xori v34 v35
  let c0_i32_13 : BitVec 32 := 0#32
  let v33 : BitVec 1 := Scalar.cmpi .ne v32 c0_i32_13
  let v37 : BitVec 1 := Scalar.andi v36 v33
  let v38 : BitVec 32 := Scalar.addi v32 v31
  let v39 : BitVec 32 := Scalar.select v37 v38 v32
  let c0_i32_16 : BitVec 32 := 0#32
  let v40 : BitVec 1 := Scalar.cmpi .eq v39 c0_i32_16
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c4_i32_4 : BitVec 32 := 4#32
  let c0_i32_7 : BitVec 32 := 0#32
  let v19 : BitVec 1 := Scalar.cmpi .sgt c4_i32_4 c0_i32_7
  let v20 : BitVec 32 := Scalar.extui v19
  let c0_i32_8 : BitVec 32 := 0#32
  let v21 : BitVec 1 := Scalar.cmpi .slt c4_i32_4 c0_i32_8
  let v22 : BitVec 32 := Scalar.extui v21
  let v23 : BitVec 32 := Scalar.subi v20 v22
  let v24 : BitVec 1 := Scalar.cmpi .ne v18 v23
  let v25 : BitVec 32 := Scalar.remsi v2 c4_i32_4
  let c0_i32_9 : BitVec 32 := 0#32
  let v26 : BitVec 1 := Scalar.cmpi .ne v25 c0_i32_9
  let v27 : BitVec 1 := Scalar.andi v24 v26
  let v13 : BitVec 32 := Scalar.divsi v2 c4_i32_4
  let c1_i32_10 : BitVec 32 := 1#32
  let v28 : BitVec 32 := Scalar.subi v13 c1_i32_10
  let v29 : BitVec 32 := Scalar.select v27 v28 v13
  let c3_i32 : BitVec 32 := 3#32
  let v41 : BitVec 32 := Scalar.subi c3_i32 v29
  let v42 : BitVec 32 := Scalar.select v40 v29 v41
  let v44 : BitVec 32 := Scalar.addi v43 v42
  let c1_i32_18 : BitVec 32 := 1#32
  let v45 : BitVec 32 := Scalar.addi v44 c1_i32_18
  let c16_i32_19 : BitVec 32 := 16#32
  let c0_i32_20 : BitVec 32 := 0#32
  let v46 : BitVec 1 := Scalar.cmpi .eq c16_i32_19 c0_i32_20
  let c1_i32_21 : BitVec 32 := 1#32
  let v47 : BitVec 32 := Scalar.select v46 c1_i32_21 c16_i32_19
  let v48 : BitVec 32 := Scalar.remsi v45 v47
  let c0_i32_23 : BitVec 32 := 0#32
  let v50 : BitVec 1 := Scalar.cmpi .slt v48 c0_i32_23
  let c0_i32_24 : BitVec 32 := 0#32
  let v51 : BitVec 1 := Scalar.cmpi .slt v47 c0_i32_24
  let v52 : BitVec 1 := Scalar.xori v50 v51
  let c0_i32_22 : BitVec 32 := 0#32
  let v49 : BitVec 1 := Scalar.cmpi .ne v48 c0_i32_22
  let v53 : BitVec 1 := Scalar.andi v52 v49
  let v54 : BitVec 32 := Scalar.addi v48 v47
  let v55 : BitVec 32 := Scalar.select v53 v54 v48
  let c0_i32_26 : BitVec 32 := 0#32
  let v57 : BitVec 1 := Scalar.cmpi .sgt v55 c0_i32_26
  let v58 : BitVec 32 := Scalar.extui v57
  let c0_i32_27 : BitVec 32 := 0#32
  let v59 : BitVec 1 := Scalar.cmpi .slt v55 c0_i32_27
  let v60 : BitVec 32 := Scalar.extui v59
  let v61 : BitVec 32 := Scalar.subi v58 v60
  let c4_i32_25 : BitVec 32 := 4#32
  let c0_i32_28 : BitVec 32 := 0#32
  let v62 : BitVec 1 := Scalar.cmpi .sgt c4_i32_25 c0_i32_28
  let v63 : BitVec 32 := Scalar.extui v62
  let c0_i32_29 : BitVec 32 := 0#32
  let v64 : BitVec 1 := Scalar.cmpi .slt c4_i32_25 c0_i32_29
  let v65 : BitVec 32 := Scalar.extui v64
  let v66 : BitVec 32 := Scalar.subi v63 v65
  let v67 : BitVec 1 := Scalar.cmpi .ne v61 v66
  let v68 : BitVec 32 := Scalar.remsi v55 c4_i32_25
  let c0_i32_30 : BitVec 32 := 0#32
  let v69 : BitVec 1 := Scalar.cmpi .ne v68 c0_i32_30
  let v70 : BitVec 1 := Scalar.andi v67 v69
  let v56 : BitVec 32 := Scalar.divsi v55 c4_i32_25
  let c1_i32_31 : BitVec 32 := 1#32
  let v71 : BitVec 32 := Scalar.subi v56 c1_i32_31
  let v72 : BitVec 32 := Scalar.select v70 v71 v56
  let c2_i32_38 : BitVec 32 := 2#32
  let c0_i32_39 : BitVec 32 := 0#32
  let v83 : BitVec 1 := Scalar.cmpi .eq c2_i32_38 c0_i32_39
  let c1_i32_40 : BitVec 32 := 1#32
  let v84 : BitVec 32 := Scalar.select v83 c1_i32_40 c2_i32_38
  let v85 : BitVec 32 := Scalar.remsi v72 v84
  let c0_i32_42 : BitVec 32 := 0#32
  let v87 : BitVec 1 := Scalar.cmpi .slt v85 c0_i32_42
  let c0_i32_43 : BitVec 32 := 0#32
  let v88 : BitVec 1 := Scalar.cmpi .slt v84 c0_i32_43
  let v89 : BitVec 1 := Scalar.xori v87 v88
  let c0_i32_41 : BitVec 32 := 0#32
  let v86 : BitVec 1 := Scalar.cmpi .ne v85 c0_i32_41
  let v90 : BitVec 1 := Scalar.andi v89 v86
  let v91 : BitVec 32 := Scalar.addi v85 v84
  let v92 : BitVec 32 := Scalar.select v90 v91 v85
  let c0_i32_44 : BitVec 32 := 0#32
  let v93 : BitVec 1 := Scalar.cmpi .eq v92 c0_i32_44
  let c4_i32_32 : BitVec 32 := 4#32
  let c0_i32_33 : BitVec 32 := 0#32
  let v73 : BitVec 1 := Scalar.cmpi .eq c4_i32_32 c0_i32_33
  let c1_i32_34 : BitVec 32 := 1#32
  let v74 : BitVec 32 := Scalar.select v73 c1_i32_34 c4_i32_32
  let v75 : BitVec 32 := Scalar.remsi v55 v74
  let c0_i32_36 : BitVec 32 := 0#32
  let v77 : BitVec 1 := Scalar.cmpi .slt v75 c0_i32_36
  let c0_i32_37 : BitVec 32 := 0#32
  let v78 : BitVec 1 := Scalar.cmpi .slt v74 c0_i32_37
  let v79 : BitVec 1 := Scalar.xori v77 v78
  let c0_i32_35 : BitVec 32 := 0#32
  let v76 : BitVec 1 := Scalar.cmpi .ne v75 c0_i32_35
  let v80 : BitVec 1 := Scalar.andi v79 v76
  let v81 : BitVec 32 := Scalar.addi v75 v74
  let v82 : BitVec 32 := Scalar.select v80 v81 v75
  let c3_i32_45 : BitVec 32 := 3#32
  let v94 : BitVec 32 := Scalar.subi c3_i32_45 v82
  let v95 : BitVec 32 := Scalar.select v93 v82 v94
  let v96 : BitVec 32 := Scalar.muli c4_i32_46 v95
  let v97 : BitVec 32 := Scalar.addi v96 v72
  let c1_i32_1317 : BitVec 32 := 1#32
  let v1877 : BitVec 32 := Scalar.muli v97 c1_i32_1317
  let v1878 : BitVec 32 := Scalar.addi c0_i32_1318 v1877
  v1878.toNat
def k0_dev33 (d0 : Dev nD) : Nat :=
  let c0_i32_1332 : BitVec 32 := 0#32
  let c4_i32_46 : BitVec 32 := 4#32
  let c4_i32_17 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let v43 : BitVec 32 := Scalar.muli c4_i32_17 v12
  let c2_i32 : BitVec 32 := 2#32
  let c0_i32_11 : BitVec 32 := 0#32
  let v30 : BitVec 1 := Scalar.cmpi .eq c2_i32 c0_i32_11
  let c1_i32_12 : BitVec 32 := 1#32
  let v31 : BitVec 32 := Scalar.select v30 c1_i32_12 c2_i32
  let v32 : BitVec 32 := Scalar.remsi v12 v31
  let c0_i32_14 : BitVec 32 := 0#32
  let v34 : BitVec 1 := Scalar.cmpi .slt v32 c0_i32_14
  let c0_i32_15 : BitVec 32 := 0#32
  let v35 : BitVec 1 := Scalar.cmpi .slt v31 c0_i32_15
  let v36 : BitVec 1 := Scalar.xori v34 v35
  let c0_i32_13 : BitVec 32 := 0#32
  let v33 : BitVec 1 := Scalar.cmpi .ne v32 c0_i32_13
  let v37 : BitVec 1 := Scalar.andi v36 v33
  let v38 : BitVec 32 := Scalar.addi v32 v31
  let v39 : BitVec 32 := Scalar.select v37 v38 v32
  let c0_i32_16 : BitVec 32 := 0#32
  let v40 : BitVec 1 := Scalar.cmpi .eq v39 c0_i32_16
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c4_i32_4 : BitVec 32 := 4#32
  let c0_i32_7 : BitVec 32 := 0#32
  let v19 : BitVec 1 := Scalar.cmpi .sgt c4_i32_4 c0_i32_7
  let v20 : BitVec 32 := Scalar.extui v19
  let c0_i32_8 : BitVec 32 := 0#32
  let v21 : BitVec 1 := Scalar.cmpi .slt c4_i32_4 c0_i32_8
  let v22 : BitVec 32 := Scalar.extui v21
  let v23 : BitVec 32 := Scalar.subi v20 v22
  let v24 : BitVec 1 := Scalar.cmpi .ne v18 v23
  let v25 : BitVec 32 := Scalar.remsi v2 c4_i32_4
  let c0_i32_9 : BitVec 32 := 0#32
  let v26 : BitVec 1 := Scalar.cmpi .ne v25 c0_i32_9
  let v27 : BitVec 1 := Scalar.andi v24 v26
  let v13 : BitVec 32 := Scalar.divsi v2 c4_i32_4
  let c1_i32_10 : BitVec 32 := 1#32
  let v28 : BitVec 32 := Scalar.subi v13 c1_i32_10
  let v29 : BitVec 32 := Scalar.select v27 v28 v13
  let c3_i32 : BitVec 32 := 3#32
  let v41 : BitVec 32 := Scalar.subi c3_i32 v29
  let v42 : BitVec 32 := Scalar.select v40 v29 v41
  let v44 : BitVec 32 := Scalar.addi v43 v42
  let c1_i32_18 : BitVec 32 := 1#32
  let v45 : BitVec 32 := Scalar.addi v44 c1_i32_18
  let c16_i32_19 : BitVec 32 := 16#32
  let c0_i32_20 : BitVec 32 := 0#32
  let v46 : BitVec 1 := Scalar.cmpi .eq c16_i32_19 c0_i32_20
  let c1_i32_21 : BitVec 32 := 1#32
  let v47 : BitVec 32 := Scalar.select v46 c1_i32_21 c16_i32_19
  let v48 : BitVec 32 := Scalar.remsi v45 v47
  let c0_i32_23 : BitVec 32 := 0#32
  let v50 : BitVec 1 := Scalar.cmpi .slt v48 c0_i32_23
  let c0_i32_24 : BitVec 32 := 0#32
  let v51 : BitVec 1 := Scalar.cmpi .slt v47 c0_i32_24
  let v52 : BitVec 1 := Scalar.xori v50 v51
  let c0_i32_22 : BitVec 32 := 0#32
  let v49 : BitVec 1 := Scalar.cmpi .ne v48 c0_i32_22
  let v53 : BitVec 1 := Scalar.andi v52 v49
  let v54 : BitVec 32 := Scalar.addi v48 v47
  let v55 : BitVec 32 := Scalar.select v53 v54 v48
  let c0_i32_26 : BitVec 32 := 0#32
  let v57 : BitVec 1 := Scalar.cmpi .sgt v55 c0_i32_26
  let v58 : BitVec 32 := Scalar.extui v57
  let c0_i32_27 : BitVec 32 := 0#32
  let v59 : BitVec 1 := Scalar.cmpi .slt v55 c0_i32_27
  let v60 : BitVec 32 := Scalar.extui v59
  let v61 : BitVec 32 := Scalar.subi v58 v60
  let c4_i32_25 : BitVec 32 := 4#32
  let c0_i32_28 : BitVec 32 := 0#32
  let v62 : BitVec 1 := Scalar.cmpi .sgt c4_i32_25 c0_i32_28
  let v63 : BitVec 32 := Scalar.extui v62
  let c0_i32_29 : BitVec 32 := 0#32
  let v64 : BitVec 1 := Scalar.cmpi .slt c4_i32_25 c0_i32_29
  let v65 : BitVec 32 := Scalar.extui v64
  let v66 : BitVec 32 := Scalar.subi v63 v65
  let v67 : BitVec 1 := Scalar.cmpi .ne v61 v66
  let v68 : BitVec 32 := Scalar.remsi v55 c4_i32_25
  let c0_i32_30 : BitVec 32 := 0#32
  let v69 : BitVec 1 := Scalar.cmpi .ne v68 c0_i32_30
  let v70 : BitVec 1 := Scalar.andi v67 v69
  let v56 : BitVec 32 := Scalar.divsi v55 c4_i32_25
  let c1_i32_31 : BitVec 32 := 1#32
  let v71 : BitVec 32 := Scalar.subi v56 c1_i32_31
  let v72 : BitVec 32 := Scalar.select v70 v71 v56
  let c2_i32_38 : BitVec 32 := 2#32
  let c0_i32_39 : BitVec 32 := 0#32
  let v83 : BitVec 1 := Scalar.cmpi .eq c2_i32_38 c0_i32_39
  let c1_i32_40 : BitVec 32 := 1#32
  let v84 : BitVec 32 := Scalar.select v83 c1_i32_40 c2_i32_38
  let v85 : BitVec 32 := Scalar.remsi v72 v84
  let c0_i32_42 : BitVec 32 := 0#32
  let v87 : BitVec 1 := Scalar.cmpi .slt v85 c0_i32_42
  let c0_i32_43 : BitVec 32 := 0#32
  let v88 : BitVec 1 := Scalar.cmpi .slt v84 c0_i32_43
  let v89 : BitVec 1 := Scalar.xori v87 v88
  let c0_i32_41 : BitVec 32 := 0#32
  let v86 : BitVec 1 := Scalar.cmpi .ne v85 c0_i32_41
  let v90 : BitVec 1 := Scalar.andi v89 v86
  let v91 : BitVec 32 := Scalar.addi v85 v84
  let v92 : BitVec 32 := Scalar.select v90 v91 v85
  let c0_i32_44 : BitVec 32 := 0#32
  let v93 : BitVec 1 := Scalar.cmpi .eq v92 c0_i32_44
  let c4_i32_32 : BitVec 32 := 4#32
  let c0_i32_33 : BitVec 32 := 0#32
  let v73 : BitVec 1 := Scalar.cmpi .eq c4_i32_32 c0_i32_33
  let c1_i32_34 : BitVec 32 := 1#32
  let v74 : BitVec 32 := Scalar.select v73 c1_i32_34 c4_i32_32
  let v75 : BitVec 32 := Scalar.remsi v55 v74
  let c0_i32_36 : BitVec 32 := 0#32
  let v77 : BitVec 1 := Scalar.cmpi .slt v75 c0_i32_36
  let c0_i32_37 : BitVec 32 := 0#32
  let v78 : BitVec 1 := Scalar.cmpi .slt v74 c0_i32_37
  let v79 : BitVec 1 := Scalar.xori v77 v78
  let c0_i32_35 : BitVec 32 := 0#32
  let v76 : BitVec 1 := Scalar.cmpi .ne v75 c0_i32_35
  let v80 : BitVec 1 := Scalar.andi v79 v76
  let v81 : BitVec 32 := Scalar.addi v75 v74
  let v82 : BitVec 32 := Scalar.select v80 v81 v75
  let c3_i32_45 : BitVec 32 := 3#32
  let v94 : BitVec 32 := Scalar.subi c3_i32_45 v82
  let v95 : BitVec 32 := Scalar.select v93 v82 v94
  let v96 : BitVec 32 := Scalar.muli c4_i32_46 v95
  let v97 : BitVec 32 := Scalar.addi v96 v72
  let c1_i32_1331 : BitVec 32 := 1#32
  let v1887 : BitVec 32 := Scalar.muli v97 c1_i32_1331
  let v1888 : BitVec 32 := Scalar.addi c0_i32_1332 v1887
  v1888.toNat
def k0_dev34 (d0 : Dev nD) : Nat :=
  let c0_i32_1344 : BitVec 32 := 0#32
  let c4_i32_75 : BitVec 32 := 4#32
  let c4_i32_17 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let v43 : BitVec 32 := Scalar.muli c4_i32_17 v12
  let c2_i32 : BitVec 32 := 2#32
  let c0_i32_11 : BitVec 32 := 0#32
  let v30 : BitVec 1 := Scalar.cmpi .eq c2_i32 c0_i32_11
  let c1_i32_12 : BitVec 32 := 1#32
  let v31 : BitVec 32 := Scalar.select v30 c1_i32_12 c2_i32
  let v32 : BitVec 32 := Scalar.remsi v12 v31
  let c0_i32_14 : BitVec 32 := 0#32
  let v34 : BitVec 1 := Scalar.cmpi .slt v32 c0_i32_14
  let c0_i32_15 : BitVec 32 := 0#32
  let v35 : BitVec 1 := Scalar.cmpi .slt v31 c0_i32_15
  let v36 : BitVec 1 := Scalar.xori v34 v35
  let c0_i32_13 : BitVec 32 := 0#32
  let v33 : BitVec 1 := Scalar.cmpi .ne v32 c0_i32_13
  let v37 : BitVec 1 := Scalar.andi v36 v33
  let v38 : BitVec 32 := Scalar.addi v32 v31
  let v39 : BitVec 32 := Scalar.select v37 v38 v32
  let c0_i32_16 : BitVec 32 := 0#32
  let v40 : BitVec 1 := Scalar.cmpi .eq v39 c0_i32_16
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c4_i32_4 : BitVec 32 := 4#32
  let c0_i32_7 : BitVec 32 := 0#32
  let v19 : BitVec 1 := Scalar.cmpi .sgt c4_i32_4 c0_i32_7
  let v20 : BitVec 32 := Scalar.extui v19
  let c0_i32_8 : BitVec 32 := 0#32
  let v21 : BitVec 1 := Scalar.cmpi .slt c4_i32_4 c0_i32_8
  let v22 : BitVec 32 := Scalar.extui v21
  let v23 : BitVec 32 := Scalar.subi v20 v22
  let v24 : BitVec 1 := Scalar.cmpi .ne v18 v23
  let v25 : BitVec 32 := Scalar.remsi v2 c4_i32_4
  let c0_i32_9 : BitVec 32 := 0#32
  let v26 : BitVec 1 := Scalar.cmpi .ne v25 c0_i32_9
  let v27 : BitVec 1 := Scalar.andi v24 v26
  let v13 : BitVec 32 := Scalar.divsi v2 c4_i32_4
  let c1_i32_10 : BitVec 32 := 1#32
  let v28 : BitVec 32 := Scalar.subi v13 c1_i32_10
  let v29 : BitVec 32 := Scalar.select v27 v28 v13
  let c3_i32 : BitVec 32 := 3#32
  let v41 : BitVec 32 := Scalar.subi c3_i32 v29
  let v42 : BitVec 32 := Scalar.select v40 v29 v41
  let v44 : BitVec 32 := Scalar.addi v43 v42
  let c1_i32_47 : BitVec 32 := 1#32
  let v98 : BitVec 32 := Scalar.subi v44 c1_i32_47
  let c16_i32_48 : BitVec 32 := 16#32
  let c0_i32_49 : BitVec 32 := 0#32
  let v99 : BitVec 1 := Scalar.cmpi .eq c16_i32_48 c0_i32_49
  let c1_i32_50 : BitVec 32 := 1#32
  let v100 : BitVec 32 := Scalar.select v99 c1_i32_50 c16_i32_48
  let v101 : BitVec 32 := Scalar.remsi v98 v100
  let c0_i32_52 : BitVec 32 := 0#32
  let v103 : BitVec 1 := Scalar.cmpi .slt v101 c0_i32_52
  let c0_i32_53 : BitVec 32 := 0#32
  let v104 : BitVec 1 := Scalar.cmpi .slt v100 c0_i32_53
  let v105 : BitVec 1 := Scalar.xori v103 v104
  let c0_i32_51 : BitVec 32 := 0#32
  let v102 : BitVec 1 := Scalar.cmpi .ne v101 c0_i32_51
  let v106 : BitVec 1 := Scalar.andi v105 v102
  let v107 : BitVec 32 := Scalar.addi v101 v100
  let v108 : BitVec 32 := Scalar.select v106 v107 v101
  let c0_i32_55 : BitVec 32 := 0#32
  let v110 : BitVec 1 := Scalar.cmpi .sgt v108 c0_i32_55
  let v111 : BitVec 32 := Scalar.extui v110
  let c0_i32_56 : BitVec 32 := 0#32
  let v112 : BitVec 1 := Scalar.cmpi .slt v108 c0_i32_56
  let v113 : BitVec 32 := Scalar.extui v112
  let v114 : BitVec 32 := Scalar.subi v111 v113
  let c4_i32_54 : BitVec 32 := 4#32
  let c0_i32_57 : BitVec 32 := 0#32
  let v115 : BitVec 1 := Scalar.cmpi .sgt c4_i32_54 c0_i32_57
  let v116 : BitVec 32 := Scalar.extui v115
  let c0_i32_58 : BitVec 32 := 0#32
  let v117 : BitVec 1 := Scalar.cmpi .slt c4_i32_54 c0_i32_58
  let v118 : BitVec 32 := Scalar.extui v117
  let v119 : BitVec 32 := Scalar.subi v116 v118
  let v120 : BitVec 1 := Scalar.cmpi .ne v114 v119
  let v121 : BitVec 32 := Scalar.remsi v108 c4_i32_54
  let c0_i32_59 : BitVec 32 := 0#32
  let v122 : BitVec 1 := Scalar.cmpi .ne v121 c0_i32_59
  let v123 : BitVec 1 := Scalar.andi v120 v122
  let v109 : BitVec 32 := Scalar.divsi v108 c4_i32_54
  let c1_i32_60 : BitVec 32 := 1#32
  let v124 : BitVec 32 := Scalar.subi v109 c1_i32_60
  let v125 : BitVec 32 := Scalar.select v123 v124 v109
  let c2_i32_67 : BitVec 32 := 2#32
  let c0_i32_68 : BitVec 32 := 0#32
  let v136 : BitVec 1 := Scalar.cmpi .eq c2_i32_67 c0_i32_68
  let c1_i32_69 : BitVec 32 := 1#32
  let v137 : BitVec 32 := Scalar.select v136 c1_i32_69 c2_i32_67
  let v138 : BitVec 32 := Scalar.remsi v125 v137
  let c0_i32_71 : BitVec 32 := 0#32
  let v140 : BitVec 1 := Scalar.cmpi .slt v138 c0_i32_71
  let c0_i32_72 : BitVec 32 := 0#32
  let v141 : BitVec 1 := Scalar.cmpi .slt v137 c0_i32_72
  let v142 : BitVec 1 := Scalar.xori v140 v141
  let c0_i32_70 : BitVec 32 := 0#32
  let v139 : BitVec 1 := Scalar.cmpi .ne v138 c0_i32_70
  let v143 : BitVec 1 := Scalar.andi v142 v139
  let v144 : BitVec 32 := Scalar.addi v138 v137
  let v145 : BitVec 32 := Scalar.select v143 v144 v138
  let c0_i32_73 : BitVec 32 := 0#32
  let v146 : BitVec 1 := Scalar.cmpi .eq v145 c0_i32_73
  let c4_i32_61 : BitVec 32 := 4#32
  let c0_i32_62 : BitVec 32 := 0#32
  let v126 : BitVec 1 := Scalar.cmpi .eq c4_i32_61 c0_i32_62
  let c1_i32_63 : BitVec 32 := 1#32
  let v127 : BitVec 32 := Scalar.select v126 c1_i32_63 c4_i32_61
  let v128 : BitVec 32 := Scalar.remsi v108 v127
  let c0_i32_65 : BitVec 32 := 0#32
  let v130 : BitVec 1 := Scalar.cmpi .slt v128 c0_i32_65
  let c0_i32_66 : BitVec 32 := 0#32
  let v131 : BitVec 1 := Scalar.cmpi .slt v127 c0_i32_66
  let v132 : BitVec 1 := Scalar.xori v130 v131
  let c0_i32_64 : BitVec 32 := 0#32
  let v129 : BitVec 1 := Scalar.cmpi .ne v128 c0_i32_64
  let v133 : BitVec 1 := Scalar.andi v132 v129
  let v134 : BitVec 32 := Scalar.addi v128 v127
  let v135 : BitVec 32 := Scalar.select v133 v134 v128
  let c3_i32_74 : BitVec 32 := 3#32
  let v147 : BitVec 32 := Scalar.subi c3_i32_74 v135
  let v148 : BitVec 32 := Scalar.select v146 v135 v147
  let v149 : BitVec 32 := Scalar.muli c4_i32_75 v148
  let v150 : BitVec 32 := Scalar.addi v149 v125
  let c1_i32_1343 : BitVec 32 := 1#32
  let v1897 : BitVec 32 := Scalar.muli v150 c1_i32_1343
  let v1898 : BitVec 32 := Scalar.addi c0_i32_1344 v1897
  v1898.toNat
def k0_dev35 (d0 : Dev nD) : Nat :=
  let c0_i32_1370 : BitVec 32 := 0#32
  let c4_i32_75 : BitVec 32 := 4#32
  let c4_i32_17 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let v43 : BitVec 32 := Scalar.muli c4_i32_17 v12
  let c2_i32 : BitVec 32 := 2#32
  let c0_i32_11 : BitVec 32 := 0#32
  let v30 : BitVec 1 := Scalar.cmpi .eq c2_i32 c0_i32_11
  let c1_i32_12 : BitVec 32 := 1#32
  let v31 : BitVec 32 := Scalar.select v30 c1_i32_12 c2_i32
  let v32 : BitVec 32 := Scalar.remsi v12 v31
  let c0_i32_14 : BitVec 32 := 0#32
  let v34 : BitVec 1 := Scalar.cmpi .slt v32 c0_i32_14
  let c0_i32_15 : BitVec 32 := 0#32
  let v35 : BitVec 1 := Scalar.cmpi .slt v31 c0_i32_15
  let v36 : BitVec 1 := Scalar.xori v34 v35
  let c0_i32_13 : BitVec 32 := 0#32
  let v33 : BitVec 1 := Scalar.cmpi .ne v32 c0_i32_13
  let v37 : BitVec 1 := Scalar.andi v36 v33
  let v38 : BitVec 32 := Scalar.addi v32 v31
  let v39 : BitVec 32 := Scalar.select v37 v38 v32
  let c0_i32_16 : BitVec 32 := 0#32
  let v40 : BitVec 1 := Scalar.cmpi .eq v39 c0_i32_16
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c4_i32_4 : BitVec 32 := 4#32
  let c0_i32_7 : BitVec 32 := 0#32
  let v19 : BitVec 1 := Scalar.cmpi .sgt c4_i32_4 c0_i32_7
  let v20 : BitVec 32 := Scalar.extui v19
  let c0_i32_8 : BitVec 32 := 0#32
  let v21 : BitVec 1 := Scalar.cmpi .slt c4_i32_4 c0_i32_8
  let v22 : BitVec 32 := Scalar.extui v21
  let v23 : BitVec 32 := Scalar.subi v20 v22
  let v24 : BitVec 1 := Scalar.cmpi .ne v18 v23
  let v25 : BitVec 32 := Scalar.remsi v2 c4_i32_4
  let c0_i32_9 : BitVec 32 := 0#32
  let v26 : BitVec 1 := Scalar.cmpi .ne v25 c0_i32_9
  let v27 : BitVec 1 := Scalar.andi v24 v26
  let v13 : BitVec 32 := Scalar.divsi v2 c4_i32_4
  let c1_i32_10 : BitVec 32 := 1#32
  let v28 : BitVec 32 := Scalar.subi v13 c1_i32_10
  let v29 : BitVec 32 := Scalar.select v27 v28 v13
  let c3_i32 : BitVec 32 := 3#32
  let v41 : BitVec 32 := Scalar.subi c3_i32 v29
  let v42 : BitVec 32 := Scalar.select v40 v29 v41
  let v44 : BitVec 32 := Scalar.addi v43 v42
  let c1_i32_47 : BitVec 32 := 1#32
  let v98 : BitVec 32 := Scalar.subi v44 c1_i32_47
  let c16_i32_48 : BitVec 32 := 16#32
  let c0_i32_49 : BitVec 32 := 0#32
  let v99 : BitVec 1 := Scalar.cmpi .eq c16_i32_48 c0_i32_49
  let c1_i32_50 : BitVec 32 := 1#32
  let v100 : BitVec 32 := Scalar.select v99 c1_i32_50 c16_i32_48
  let v101 : BitVec 32 := Scalar.remsi v98 v100
  let c0_i32_52 : BitVec 32 := 0#32
  let v103 : BitVec 1 := Scalar.cmpi .slt v101 c0_i32_52
  let c0_i32_53 : BitVec 32 := 0#32
  let v104 : BitVec 1 := Scalar.cmpi .slt v100 c0_i32_53
  let v105 : BitVec 1 := Scalar.xori v103 v104
  let c0_i32_51 : BitVec 32 := 0#32
  let v102 : BitVec 1 := Scalar.cmpi .ne v101 c0_i32_51
  let v106 : BitVec 1 := Scalar.andi v105 v102
  let v107 : BitVec 32 := Scalar.addi v101 v100
  let v108 : BitVec 32 := Scalar.select v106 v107 v101
  let c0_i32_55 : BitVec 32 := 0#32
  let v110 : BitVec 1 := Scalar.cmpi .sgt v108 c0_i32_55
  let v111 : BitVec 32 := Scalar.extui v110
  let c0_i32_56 : BitVec 32 := 0#32
  let v112 : BitVec 1 := Scalar.cmpi .slt v108 c0_i32_56
  let v113 : BitVec 32 := Scalar.extui v112
  let v114 : BitVec 32 := Scalar.subi v111 v113
  let c4_i32_54 : BitVec 32 := 4#32
  let c0_i32_57 : BitVec 32 := 0#32
  let v115 : BitVec 1 := Scalar.cmpi .sgt c4_i32_54 c0_i32_57
  let v116 : BitVec 32 := Scalar.extui v115
  let c0_i32_58 : BitVec 32 := 0#32
  let v117 : BitVec 1 := Scalar.cmpi .slt c4_i32_54 c0_i32_58
  let v118 : BitVec 32 := Scalar.extui v117
  let v119 : BitVec 32 := Scalar.subi v116 v118
  let v120 : BitVec 1 := Scalar.cmpi .ne v114 v119
  let v121 : BitVec 32 := Scalar.remsi v108 c4_i32_54
  let c0_i32_59 : BitVec 32 := 0#32
  let v122 : BitVec 1 := Scalar.cmpi .ne v121 c0_i32_59
  let v123 : BitVec 1 := Scalar.andi v120 v122
  let v109 : BitVec 32 := Scalar.divsi v108 c4_i32_54
  let c1_i32_60 : BitVec 32 := 1#32
  let v124 : BitVec 32 := Scalar.subi v109 c1_i32_60
  let v125 : BitVec 32 := Scalar.select v123 v124 v109
  let c2_i32_67 : BitVec 32 := 2#32
  let c0_i32_68 : BitVec 32 := 0#32
  let v136 : BitVec 1 := Scalar.cmpi .eq c2_i32_67 c0_i32_68
  let c1_i32_69 : BitVec 32 := 1#32
  let v137 : BitVec 32 := Scalar.select v136 c1_i32_69 c2_i32_67
  let v138 : BitVec 32 := Scalar.remsi v125 v137
  let c0_i32_71 : BitVec 32 := 0#32
  let v140 : BitVec 1 := Scalar.cmpi .slt v138 c0_i32_71
  let c0_i32_72 : BitVec 32 := 0#32
  let v141 : BitVec 1 := Scalar.cmpi .slt v137 c0_i32_72
  let v142 : BitVec 1 := Scalar.xori v140 v141
  let c0_i32_70 : BitVec 32 := 0#32
  let v139 : BitVec 1 := Scalar.cmpi .ne v138 c0_i32_70
  let v143 : BitVec 1 := Scalar.andi v142 v139
  let v144 : BitVec 32 := Scalar.addi v138 v137
  let v145 : BitVec 32 := Scalar.select v143 v144 v138
  let c0_i32_73 : BitVec 32 := 0#32
  let v146 : BitVec 1 := Scalar.cmpi .eq v145 c0_i32_73
  let c4_i32_61 : BitVec 32 := 4#32
  let c0_i32_62 : BitVec 32 := 0#32
  let v126 : BitVec 1 := Scalar.cmpi .eq c4_i32_61 c0_i32_62
  let c1_i32_63 : BitVec 32 := 1#32
  let v127 : BitVec 32 := Scalar.select v126 c1_i32_63 c4_i32_61
  let v128 : BitVec 32 := Scalar.remsi v108 v127
  let c0_i32_65 : BitVec 32 := 0#32
  let v130 : BitVec 1 := Scalar.cmpi .slt v128 c0_i32_65
  let c0_i32_66 : BitVec 32 := 0#32
  let v131 : BitVec 1 := Scalar.cmpi .slt v127 c0_i32_66
  let v132 : BitVec 1 := Scalar.xori v130 v131
  let c0_i32_64 : BitVec 32 := 0#32
  let v129 : BitVec 1 := Scalar.cmpi .ne v128 c0_i32_64
  let v133 : BitVec 1 := Scalar.andi v132 v129
  let v134 : BitVec 32 := Scalar.addi v128 v127
  let v135 : BitVec 32 := Scalar.select v133 v134 v128
  let c3_i32_74 : BitVec 32 := 3#32
  let v147 : BitVec 32 := Scalar.subi c3_i32_74 v135
  let v148 : BitVec 32 := Scalar.select v146 v135 v147
  let v149 : BitVec 32 := Scalar.muli c4_i32_75 v148
  let v150 : BitVec 32 := Scalar.addi v149 v125
  let c1_i32_1369 : BitVec 32 := 1#32
  let v1921 : BitVec 32 := Scalar.muli v150 c1_i32_1369
  let v1922 : BitVec 32 := Scalar.addi c0_i32_1370 v1921
  v1922.toNat
def k0_dev36 (d0 : Dev nD) : Nat :=
  let c0_i32_1398 : BitVec 32 := 0#32
  let c4_i32_46 : BitVec 32 := 4#32
  let c4_i32_17 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let v43 : BitVec 32 := Scalar.muli c4_i32_17 v12
  let c2_i32 : BitVec 32 := 2#32
  let c0_i32_11 : BitVec 32 := 0#32
  let v30 : BitVec 1 := Scalar.cmpi .eq c2_i32 c0_i32_11
  let c1_i32_12 : BitVec 32 := 1#32
  let v31 : BitVec 32 := Scalar.select v30 c1_i32_12 c2_i32
  let v32 : BitVec 32 := Scalar.remsi v12 v31
  let c0_i32_14 : BitVec 32 := 0#32
  let v34 : BitVec 1 := Scalar.cmpi .slt v32 c0_i32_14
  let c0_i32_15 : BitVec 32 := 0#32
  let v35 : BitVec 1 := Scalar.cmpi .slt v31 c0_i32_15
  let v36 : BitVec 1 := Scalar.xori v34 v35
  let c0_i32_13 : BitVec 32 := 0#32
  let v33 : BitVec 1 := Scalar.cmpi .ne v32 c0_i32_13
  let v37 : BitVec 1 := Scalar.andi v36 v33
  let v38 : BitVec 32 := Scalar.addi v32 v31
  let v39 : BitVec 32 := Scalar.select v37 v38 v32
  let c0_i32_16 : BitVec 32 := 0#32
  let v40 : BitVec 1 := Scalar.cmpi .eq v39 c0_i32_16
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c4_i32_4 : BitVec 32 := 4#32
  let c0_i32_7 : BitVec 32 := 0#32
  let v19 : BitVec 1 := Scalar.cmpi .sgt c4_i32_4 c0_i32_7
  let v20 : BitVec 32 := Scalar.extui v19
  let c0_i32_8 : BitVec 32 := 0#32
  let v21 : BitVec 1 := Scalar.cmpi .slt c4_i32_4 c0_i32_8
  let v22 : BitVec 32 := Scalar.extui v21
  let v23 : BitVec 32 := Scalar.subi v20 v22
  let v24 : BitVec 1 := Scalar.cmpi .ne v18 v23
  let v25 : BitVec 32 := Scalar.remsi v2 c4_i32_4
  let c0_i32_9 : BitVec 32 := 0#32
  let v26 : BitVec 1 := Scalar.cmpi .ne v25 c0_i32_9
  let v27 : BitVec 1 := Scalar.andi v24 v26
  let v13 : BitVec 32 := Scalar.divsi v2 c4_i32_4
  let c1_i32_10 : BitVec 32 := 1#32
  let v28 : BitVec 32 := Scalar.subi v13 c1_i32_10
  let v29 : BitVec 32 := Scalar.select v27 v28 v13
  let c3_i32 : BitVec 32 := 3#32
  let v41 : BitVec 32 := Scalar.subi c3_i32 v29
  let v42 : BitVec 32 := Scalar.select v40 v29 v41
  let v44 : BitVec 32 := Scalar.addi v43 v42
  let c1_i32_18 : BitVec 32 := 1#32
  let v45 : BitVec 32 := Scalar.addi v44 c1_i32_18
  let c16_i32_19 : BitVec 32 := 16#32
  let c0_i32_20 : BitVec 32 := 0#32
  let v46 : BitVec 1 := Scalar.cmpi .eq c16_i32_19 c0_i32_20
  let c1_i32_21 : BitVec 32 := 1#32
  let v47 : BitVec 32 := Scalar.select v46 c1_i32_21 c16_i32_19
  let v48 : BitVec 32 := Scalar.remsi v45 v47
  let c0_i32_23 : BitVec 32 := 0#32
  let v50 : BitVec 1 := Scalar.cmpi .slt v48 c0_i32_23
  let c0_i32_24 : BitVec 32 := 0#32
  let v51 : BitVec 1 := Scalar.cmpi .slt v47 c0_i32_24
  let v52 : BitVec 1 := Scalar.xori v50 v51
  let c0_i32_22 : BitVec 32 := 0#32
  let v49 : BitVec 1 := Scalar.cmpi .ne v48 c0_i32_22
  let v53 : BitVec 1 := Scalar.andi v52 v49
  let v54 : BitVec 32 := Scalar.addi v48 v47
  let v55 : BitVec 32 := Scalar.select v53 v54 v48
  let c0_i32_26 : BitVec 32 := 0#32
  let v57 : BitVec 1 := Scalar.cmpi .sgt v55 c0_i32_26
  let v58 : BitVec 32 := Scalar.extui v57
  let c0_i32_27 : BitVec 32 := 0#32
  let v59 : BitVec 1 := Scalar.cmpi .slt v55 c0_i32_27
  let v60 : BitVec 32 := Scalar.extui v59
  let v61 : BitVec 32 := Scalar.subi v58 v60
  let c4_i32_25 : BitVec 32 := 4#32
  let c0_i32_28 : BitVec 32 := 0#32
  let v62 : BitVec 1 := Scalar.cmpi .sgt c4_i32_25 c0_i32_28
  let v63 : BitVec 32 := Scalar.extui v62
  let c0_i32_29 : BitVec 32 := 0#32
  let v64 : BitVec 1 := Scalar.cmpi .slt c4_i32_25 c0_i32_29
  let v65 : BitVec 32 := Scalar.extui v64
  let v66 : BitVec 32 := Scalar.subi v63 v65
  let v67 : BitVec 1 := Scalar.cmpi .ne v61 v66
  let v68 : BitVec 32 := Scalar.remsi v55 c4_i32_25
  let c0_i32_30 : BitVec 32 := 0#32
  let v69 : BitVec 1 := Scalar.cmpi .ne v68 c0_i32_30
  let v70 : BitVec 1 := Scalar.andi v67 v69
  let v56 : BitVec 32 := Scalar.divsi v55 c4_i32_25
  let c1_i32_31 : BitVec 32 := 1#32
  let v71 : BitVec 32 := Scalar.subi v56 c1_i32_31
  let v72 : BitVec 32 := Scalar.select v70 v71 v56
  let c2_i32_38 : BitVec 32 := 2#32
  let c0_i32_39 : BitVec 32 := 0#32
  let v83 : BitVec 1 := Scalar.cmpi .eq c2_i32_38 c0_i32_39
  let c1_i32_40 : BitVec 32 := 1#32
  let v84 : BitVec 32 := Scalar.select v83 c1_i32_40 c2_i32_38
  let v85 : BitVec 32 := Scalar.remsi v72 v84
  let c0_i32_42 : BitVec 32 := 0#32
  let v87 : BitVec 1 := Scalar.cmpi .slt v85 c0_i32_42
  let c0_i32_43 : BitVec 32 := 0#32
  let v88 : BitVec 1 := Scalar.cmpi .slt v84 c0_i32_43
  let v89 : BitVec 1 := Scalar.xori v87 v88
  let c0_i32_41 : BitVec 32 := 0#32
  let v86 : BitVec 1 := Scalar.cmpi .ne v85 c0_i32_41
  let v90 : BitVec 1 := Scalar.andi v89 v86
  let v91 : BitVec 32 := Scalar.addi v85 v84
  let v92 : BitVec 32 := Scalar.select v90 v91 v85
  let c0_i32_44 : BitVec 32 := 0#32
  let v93 : BitVec 1 := Scalar.cmpi .eq v92 c0_i32_44
  let c4_i32_32 : BitVec 32 := 4#32
  let c0_i32_33 : BitVec 32 := 0#32
  let v73 : BitVec 1 := Scalar.cmpi .eq c4_i32_32 c0_i32_33
  let c1_i32_34 : BitVec 32 := 1#32
  let v74 : BitVec 32 := Scalar.select v73 c1_i32_34 c4_i32_32
  let v75 : BitVec 32 := Scalar.remsi v55 v74
  let c0_i32_36 : BitVec 32 := 0#32
  let v77 : BitVec 1 := Scalar.cmpi .slt v75 c0_i32_36
  let c0_i32_37 : BitVec 32 := 0#32
  let v78 : BitVec 1 := Scalar.cmpi .slt v74 c0_i32_37
  let v79 : BitVec 1 := Scalar.xori v77 v78
  let c0_i32_35 : BitVec 32 := 0#32
  let v76 : BitVec 1 := Scalar.cmpi .ne v75 c0_i32_35
  let v80 : BitVec 1 := Scalar.andi v79 v76
  let v81 : BitVec 32 := Scalar.addi v75 v74
  let v82 : BitVec 32 := Scalar.select v80 v81 v75
  let c3_i32_45 : BitVec 32 := 3#32
  let v94 : BitVec 32 := Scalar.subi c3_i32_45 v82
  let v95 : BitVec 32 := Scalar.select v93 v82 v94
  let v96 : BitVec 32 := Scalar.muli c4_i32_46 v95
  let v97 : BitVec 32 := Scalar.addi v96 v72
  let c1_i32_1397 : BitVec 32 := 1#32
  let v1945 : BitVec 32 := Scalar.muli v97 c1_i32_1397
  let v1946 : BitVec 32 := Scalar.addi c0_i32_1398 v1945
  v1946.toNat
def k0_dev37 (d0 : Dev nD) : Nat :=
  let c0_i32_1412 : BitVec 32 := 0#32
  let c4_i32_46 : BitVec 32 := 4#32
  let c4_i32_17 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let v43 : BitVec 32 := Scalar.muli c4_i32_17 v12
  let c2_i32 : BitVec 32 := 2#32
  let c0_i32_11 : BitVec 32 := 0#32
  let v30 : BitVec 1 := Scalar.cmpi .eq c2_i32 c0_i32_11
  let c1_i32_12 : BitVec 32 := 1#32
  let v31 : BitVec 32 := Scalar.select v30 c1_i32_12 c2_i32
  let v32 : BitVec 32 := Scalar.remsi v12 v31
  let c0_i32_14 : BitVec 32 := 0#32
  let v34 : BitVec 1 := Scalar.cmpi .slt v32 c0_i32_14
  let c0_i32_15 : BitVec 32 := 0#32
  let v35 : BitVec 1 := Scalar.cmpi .slt v31 c0_i32_15
  let v36 : BitVec 1 := Scalar.xori v34 v35
  let c0_i32_13 : BitVec 32 := 0#32
  let v33 : BitVec 1 := Scalar.cmpi .ne v32 c0_i32_13
  let v37 : BitVec 1 := Scalar.andi v36 v33
  let v38 : BitVec 32 := Scalar.addi v32 v31
  let v39 : BitVec 32 := Scalar.select v37 v38 v32
  let c0_i32_16 : BitVec 32 := 0#32
  let v40 : BitVec 1 := Scalar.cmpi .eq v39 c0_i32_16
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c4_i32_4 : BitVec 32 := 4#32
  let c0_i32_7 : BitVec 32 := 0#32
  let v19 : BitVec 1 := Scalar.cmpi .sgt c4_i32_4 c0_i32_7
  let v20 : BitVec 32 := Scalar.extui v19
  let c0_i32_8 : BitVec 32 := 0#32
  let v21 : BitVec 1 := Scalar.cmpi .slt c4_i32_4 c0_i32_8
  let v22 : BitVec 32 := Scalar.extui v21
  let v23 : BitVec 32 := Scalar.subi v20 v22
  let v24 : BitVec 1 := Scalar.cmpi .ne v18 v23
  let v25 : BitVec 32 := Scalar.remsi v2 c4_i32_4
  let c0_i32_9 : BitVec 32 := 0#32
  let v26 : BitVec 1 := Scalar.cmpi .ne v25 c0_i32_9
  let v27 : BitVec 1 := Scalar.andi v24 v26
  let v13 : BitVec 32 := Scalar.divsi v2 c4_i32_4
  let c1_i32_10 : BitVec 32 := 1#32
  let v28 : BitVec 32 := Scalar.subi v13 c1_i32_10
  let v29 : BitVec 32 := Scalar.select v27 v28 v13
  let c3_i32 : BitVec 32 := 3#32
  let v41 : BitVec 32 := Scalar.subi c3_i32 v29
  let v42 : BitVec 32 := Scalar.select v40 v29 v41
  let v44 : BitVec 32 := Scalar.addi v43 v42
  let c1_i32_18 : BitVec 32 := 1#32
  let v45 : BitVec 32 := Scalar.addi v44 c1_i32_18
  let c16_i32_19 : BitVec 32 := 16#32
  let c0_i32_20 : BitVec 32 := 0#32
  let v46 : BitVec 1 := Scalar.cmpi .eq c16_i32_19 c0_i32_20
  let c1_i32_21 : BitVec 32 := 1#32
  let v47 : BitVec 32 := Scalar.select v46 c1_i32_21 c16_i32_19
  let v48 : BitVec 32 := Scalar.remsi v45 v47
  let c0_i32_23 : BitVec 32 := 0#32
  let v50 : BitVec 1 := Scalar.cmpi .slt v48 c0_i32_23
  let c0_i32_24 : BitVec 32 := 0#32
  let v51 : BitVec 1 := Scalar.cmpi .slt v47 c0_i32_24
  let v52 : BitVec 1 := Scalar.xori v50 v51
  let c0_i32_22 : BitVec 32 := 0#32
  let v49 : BitVec 1 := Scalar.cmpi .ne v48 c0_i32_22
  let v53 : BitVec 1 := Scalar.andi v52 v49
  let v54 : BitVec 32 := Scalar.addi v48 v47
  let v55 : BitVec 32 := Scalar.select v53 v54 v48
  let c0_i32_26 : BitVec 32 := 0#32
  let v57 : BitVec 1 := Scalar.cmpi .sgt v55 c0_i32_26
  let v58 : BitVec 32 := Scalar.extui v57
  let c0_i32_27 : BitVec 32 := 0#32
  let v59 : BitVec 1 := Scalar.cmpi .slt v55 c0_i32_27
  let v60 : BitVec 32 := Scalar.extui v59
  let v61 : BitVec 32 := Scalar.subi v58 v60
  let c4_i32_25 : BitVec 32 := 4#32
  let c0_i32_28 : BitVec 32 := 0#32
  let v62 : BitVec 1 := Scalar.cmpi .sgt c4_i32_25 c0_i32_28
  let v63 : BitVec 32 := Scalar.extui v62
  let c0_i32_29 : BitVec 32 := 0#32
  let v64 : BitVec 1 := Scalar.cmpi .slt c4_i32_25 c0_i32_29
  let v65 : BitVec 32 := Scalar.extui v64
  let v66 : BitVec 32 := Scalar.subi v63 v65
  let v67 : BitVec 1 := Scalar.cmpi .ne v61 v66
  let v68 : BitVec 32 := Scalar.remsi v55 c4_i32_25
  let c0_i32_30 : BitVec 32 := 0#32
  let v69 : BitVec 1 := Scalar.cmpi .ne v68 c0_i32_30
  let v70 : BitVec 1 := Scalar.andi v67 v69
  let v56 : BitVec 32 := Scalar.divsi v55 c4_i32_25
  let c1_i32_31 : BitVec 32 := 1#32
  let v71 : BitVec 32 := Scalar.subi v56 c1_i32_31
  let v72 : BitVec 32 := Scalar.select v70 v71 v56
  let c2_i32_38 : BitVec 32 := 2#32
  let c0_i32_39 : BitVec 32 := 0#32
  let v83 : BitVec 1 := Scalar.cmpi .eq c2_i32_38 c0_i32_39
  let c1_i32_40 : BitVec 32 := 1#32
  let v84 : BitVec 32 := Scalar.select v83 c1_i32_40 c2_i32_38
  let v85 : BitVec 32 := Scalar.remsi v72 v84
  let c0_i32_42 : BitVec 32 := 0#32
  let v87 : BitVec 1 := Scalar.cmpi .slt v85 c0_i32_42
  let c0_i32_43 : BitVec 32 := 0#32
  let v88 : BitVec 1 := Scalar.cmpi .slt v84 c0_i32_43
  let v89 : BitVec 1 := Scalar.xori v87 v88
  let c0_i32_41 : BitVec 32 := 0#32
  let v86 : BitVec 1 := Scalar.cmpi .ne v85 c0_i32_41
  let v90 : BitVec 1 := Scalar.andi v89 v86
  let v91 : BitVec 32 := Scalar.addi v85 v84
  let v92 : BitVec 32 := Scalar.select v90 v91 v85
  let c0_i32_44 : BitVec 32 := 0#32
  let v93 : BitVec 1 := Scalar.cmpi .eq v92 c0_i32_44
  let c4_i32_32 : BitVec 32 := 4#32
  let c0_i32_33 : BitVec 32 := 0#32
  let v73 : BitVec 1 := Scalar.cmpi .eq c4_i32_32 c0_i32_33
  let c1_i32_34 : BitVec 32 := 1#32
  let v74 : BitVec 32 := Scalar.select v73 c1_i32_34 c4_i32_32
  let v75 : BitVec 32 := Scalar.remsi v55 v74
  let c0_i32_36 : BitVec 32 := 0#32
  let v77 : BitVec 1 := Scalar.cmpi .slt v75 c0_i32_36
  let c0_i32_37 : BitVec 32 := 0#32
  let v78 : BitVec 1 := Scalar.cmpi .slt v74 c0_i32_37
  let v79 : BitVec 1 := Scalar.xori v77 v78
  let c0_i32_35 : BitVec 32 := 0#32
  let v76 : BitVec 1 := Scalar.cmpi .ne v75 c0_i32_35
  let v80 : BitVec 1 := Scalar.andi v79 v76
  let v81 : BitVec 32 := Scalar.addi v75 v74
  let v82 : BitVec 32 := Scalar.select v80 v81 v75
  let c3_i32_45 : BitVec 32 := 3#32
  let v94 : BitVec 32 := Scalar.subi c3_i32_45 v82
  let v95 : BitVec 32 := Scalar.select v93 v82 v94
  let v96 : BitVec 32 := Scalar.muli c4_i32_46 v95
  let v97 : BitVec 32 := Scalar.addi v96 v72
  let c1_i32_1411 : BitVec 32 := 1#32
  let v1955 : BitVec 32 := Scalar.muli v97 c1_i32_1411
  let v1956 : BitVec 32 := Scalar.addi c0_i32_1412 v1955
  v1956.toNat
def k0_dev38 (d0 : Dev nD) : Nat :=
  let c0_i32_1424 : BitVec 32 := 0#32
  let c4_i32_75 : BitVec 32 := 4#32
  let c4_i32_17 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let v43 : BitVec 32 := Scalar.muli c4_i32_17 v12
  let c2_i32 : BitVec 32 := 2#32
  let c0_i32_11 : BitVec 32 := 0#32
  let v30 : BitVec 1 := Scalar.cmpi .eq c2_i32 c0_i32_11
  let c1_i32_12 : BitVec 32 := 1#32
  let v31 : BitVec 32 := Scalar.select v30 c1_i32_12 c2_i32
  let v32 : BitVec 32 := Scalar.remsi v12 v31
  let c0_i32_14 : BitVec 32 := 0#32
  let v34 : BitVec 1 := Scalar.cmpi .slt v32 c0_i32_14
  let c0_i32_15 : BitVec 32 := 0#32
  let v35 : BitVec 1 := Scalar.cmpi .slt v31 c0_i32_15
  let v36 : BitVec 1 := Scalar.xori v34 v35
  let c0_i32_13 : BitVec 32 := 0#32
  let v33 : BitVec 1 := Scalar.cmpi .ne v32 c0_i32_13
  let v37 : BitVec 1 := Scalar.andi v36 v33
  let v38 : BitVec 32 := Scalar.addi v32 v31
  let v39 : BitVec 32 := Scalar.select v37 v38 v32
  let c0_i32_16 : BitVec 32 := 0#32
  let v40 : BitVec 1 := Scalar.cmpi .eq v39 c0_i32_16
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c4_i32_4 : BitVec 32 := 4#32
  let c0_i32_7 : BitVec 32 := 0#32
  let v19 : BitVec 1 := Scalar.cmpi .sgt c4_i32_4 c0_i32_7
  let v20 : BitVec 32 := Scalar.extui v19
  let c0_i32_8 : BitVec 32 := 0#32
  let v21 : BitVec 1 := Scalar.cmpi .slt c4_i32_4 c0_i32_8
  let v22 : BitVec 32 := Scalar.extui v21
  let v23 : BitVec 32 := Scalar.subi v20 v22
  let v24 : BitVec 1 := Scalar.cmpi .ne v18 v23
  let v25 : BitVec 32 := Scalar.remsi v2 c4_i32_4
  let c0_i32_9 : BitVec 32 := 0#32
  let v26 : BitVec 1 := Scalar.cmpi .ne v25 c0_i32_9
  let v27 : BitVec 1 := Scalar.andi v24 v26
  let v13 : BitVec 32 := Scalar.divsi v2 c4_i32_4
  let c1_i32_10 : BitVec 32 := 1#32
  let v28 : BitVec 32 := Scalar.subi v13 c1_i32_10
  let v29 : BitVec 32 := Scalar.select v27 v28 v13
  let c3_i32 : BitVec 32 := 3#32
  let v41 : BitVec 32 := Scalar.subi c3_i32 v29
  let v42 : BitVec 32 := Scalar.select v40 v29 v41
  let v44 : BitVec 32 := Scalar.addi v43 v42
  let c1_i32_47 : BitVec 32 := 1#32
  let v98 : BitVec 32 := Scalar.subi v44 c1_i32_47
  let c16_i32_48 : BitVec 32 := 16#32
  let c0_i32_49 : BitVec 32 := 0#32
  let v99 : BitVec 1 := Scalar.cmpi .eq c16_i32_48 c0_i32_49
  let c1_i32_50 : BitVec 32 := 1#32
  let v100 : BitVec 32 := Scalar.select v99 c1_i32_50 c16_i32_48
  let v101 : BitVec 32 := Scalar.remsi v98 v100
  let c0_i32_52 : BitVec 32 := 0#32
  let v103 : BitVec 1 := Scalar.cmpi .slt v101 c0_i32_52
  let c0_i32_53 : BitVec 32 := 0#32
  let v104 : BitVec 1 := Scalar.cmpi .slt v100 c0_i32_53
  let v105 : BitVec 1 := Scalar.xori v103 v104
  let c0_i32_51 : BitVec 32 := 0#32
  let v102 : BitVec 1 := Scalar.cmpi .ne v101 c0_i32_51
  let v106 : BitVec 1 := Scalar.andi v105 v102
  let v107 : BitVec 32 := Scalar.addi v101 v100
  let v108 : BitVec 32 := Scalar.select v106 v107 v101
  let c0_i32_55 : BitVec 32 := 0#32
  let v110 : BitVec 1 := Scalar.cmpi .sgt v108 c0_i32_55
  let v111 : BitVec 32 := Scalar.extui v110
  let c0_i32_56 : BitVec 32 := 0#32
  let v112 : BitVec 1 := Scalar.cmpi .slt v108 c0_i32_56
  let v113 : BitVec 32 := Scalar.extui v112
  let v114 : BitVec 32 := Scalar.subi v111 v113
  let c4_i32_54 : BitVec 32 := 4#32
  let c0_i32_57 : BitVec 32 := 0#32
  let v115 : BitVec 1 := Scalar.cmpi .sgt c4_i32_54 c0_i32_57
  let v116 : BitVec 32 := Scalar.extui v115
  let c0_i32_58 : BitVec 32 := 0#32
  let v117 : BitVec 1 := Scalar.cmpi .slt c4_i32_54 c0_i32_58
  let v118 : BitVec 32 := Scalar.extui v117
  let v119 : BitVec 32 := Scalar.subi v116 v118
  let v120 : BitVec 1 := Scalar.cmpi .ne v114 v119
  let v121 : BitVec 32 := Scalar.remsi v108 c4_i32_54
  let c0_i32_59 : BitVec 32 := 0#32
  let v122 : BitVec 1 := Scalar.cmpi .ne v121 c0_i32_59
  let v123 : BitVec 1 := Scalar.andi v120 v122
  let v109 : BitVec 32 := Scalar.divsi v108 c4_i32_54
  let c1_i32_60 : BitVec 32 := 1#32
  let v124 : BitVec 32 := Scalar.subi v109 c1_i32_60
  let v125 : BitVec 32 := Scalar.select v123 v124 v109
  let c2_i32_67 : BitVec 32 := 2#32
  let c0_i32_68 : BitVec 32 := 0#32
  let v136 : BitVec 1 := Scalar.cmpi .eq c2_i32_67 c0_i32_68
  let c1_i32_69 : BitVec 32 := 1#32
  let v137 : BitVec 32 := Scalar.select v136 c1_i32_69 c2_i32_67
  let v138 : BitVec 32 := Scalar.remsi v125 v137
  let c0_i32_71 : BitVec 32 := 0#32
  let v140 : BitVec 1 := Scalar.cmpi .slt v138 c0_i32_71
  let c0_i32_72 : BitVec 32 := 0#32
  let v141 : BitVec 1 := Scalar.cmpi .slt v137 c0_i32_72
  let v142 : BitVec 1 := Scalar.xori v140 v141
  let c0_i32_70 : BitVec 32 := 0#32
  let v139 : BitVec 1 := Scalar.cmpi .ne v138 c0_i32_70
  let v143 : BitVec 1 := Scalar.andi v142 v139
  let v144 : BitVec 32 := Scalar.addi v138 v137
  let v145 : BitVec 32 := Scalar.select v143 v144 v138
  let c0_i32_73 : BitVec 32 := 0#32
  let v146 : BitVec 1 := Scalar.cmpi .eq v145 c0_i32_73
  let c4_i32_61 : BitVec 32 := 4#32
  let c0_i32_62 : BitVec 32 := 0#32
  let v126 : BitVec 1 := Scalar.cmpi .eq c4_i32_61 c0_i32_62
  let c1_i32_63 : BitVec 32 := 1#32
  let v127 : BitVec 32 := Scalar.select v126 c1_i32_63 c4_i32_61
  let v128 : BitVec 32 := Scalar.remsi v108 v127
  let c0_i32_65 : BitVec 32 := 0#32
  let v130 : BitVec 1 := Scalar.cmpi .slt v128 c0_i32_65
  let c0_i32_66 : BitVec 32 := 0#32
  let v131 : BitVec 1 := Scalar.cmpi .slt v127 c0_i32_66
  let v132 : BitVec 1 := Scalar.xori v130 v131
  let c0_i32_64 : BitVec 32 := 0#32
  let v129 : BitVec 1 := Scalar.cmpi .ne v128 c0_i32_64
  let v133 : BitVec 1 := Scalar.andi v132 v129
  let v134 : BitVec 32 := Scalar.addi v128 v127
  let v135 : BitVec 32 := Scalar.select v133 v134 v128
  let c3_i32_74 : BitVec 32 := 3#32
  let v147 : BitVec 32 := Scalar.subi c3_i32_74 v135
  let v148 : BitVec 32 := Scalar.select v146 v135 v147
  let v149 : BitVec 32 := Scalar.muli c4_i32_75 v148
  let v150 : BitVec 32 := Scalar.addi v149 v125
  let c1_i32_1423 : BitVec 32 := 1#32
  let v1965 : BitVec 32 := Scalar.muli v150 c1_i32_1423
  let v1966 : BitVec 32 := Scalar.addi c0_i32_1424 v1965
  v1966.toNat
def k0_dev39 (d0 : Dev nD) : Nat :=
  let c0_i32_1582 : BitVec 32 := 0#32
  let c4_i32_75 : BitVec 32 := 4#32
  let c4_i32_17 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let v43 : BitVec 32 := Scalar.muli c4_i32_17 v12
  let c2_i32 : BitVec 32 := 2#32
  let c0_i32_11 : BitVec 32 := 0#32
  let v30 : BitVec 1 := Scalar.cmpi .eq c2_i32 c0_i32_11
  let c1_i32_12 : BitVec 32 := 1#32
  let v31 : BitVec 32 := Scalar.select v30 c1_i32_12 c2_i32
  let v32 : BitVec 32 := Scalar.remsi v12 v31
  let c0_i32_14 : BitVec 32 := 0#32
  let v34 : BitVec 1 := Scalar.cmpi .slt v32 c0_i32_14
  let c0_i32_15 : BitVec 32 := 0#32
  let v35 : BitVec 1 := Scalar.cmpi .slt v31 c0_i32_15
  let v36 : BitVec 1 := Scalar.xori v34 v35
  let c0_i32_13 : BitVec 32 := 0#32
  let v33 : BitVec 1 := Scalar.cmpi .ne v32 c0_i32_13
  let v37 : BitVec 1 := Scalar.andi v36 v33
  let v38 : BitVec 32 := Scalar.addi v32 v31
  let v39 : BitVec 32 := Scalar.select v37 v38 v32
  let c0_i32_16 : BitVec 32 := 0#32
  let v40 : BitVec 1 := Scalar.cmpi .eq v39 c0_i32_16
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c4_i32_4 : BitVec 32 := 4#32
  let c0_i32_7 : BitVec 32 := 0#32
  let v19 : BitVec 1 := Scalar.cmpi .sgt c4_i32_4 c0_i32_7
  let v20 : BitVec 32 := Scalar.extui v19
  let c0_i32_8 : BitVec 32 := 0#32
  let v21 : BitVec 1 := Scalar.cmpi .slt c4_i32_4 c0_i32_8
  let v22 : BitVec 32 := Scalar.extui v21
  let v23 : BitVec 32 := Scalar.subi v20 v22
  let v24 : BitVec 1 := Scalar.cmpi .ne v18 v23
  let v25 : BitVec 32 := Scalar.remsi v2 c4_i32_4
  let c0_i32_9 : BitVec 32 := 0#32
  let v26 : BitVec 1 := Scalar.cmpi .ne v25 c0_i32_9
  let v27 : BitVec 1 := Scalar.andi v24 v26
  let v13 : BitVec 32 := Scalar.divsi v2 c4_i32_4
  let c1_i32_10 : BitVec 32 := 1#32
  let v28 : BitVec 32 := Scalar.subi v13 c1_i32_10
  let v29 : BitVec 32 := Scalar.select v27 v28 v13
  let c3_i32 : BitVec 32 := 3#32
  let v41 : BitVec 32 := Scalar.subi c3_i32 v29
  let v42 : BitVec 32 := Scalar.select v40 v29 v41
  let v44 : BitVec 32 := Scalar.addi v43 v42
  let c1_i32_47 : BitVec 32 := 1#32
  let v98 : BitVec 32 := Scalar.subi v44 c1_i32_47
  let c16_i32_48 : BitVec 32 := 16#32
  let c0_i32_49 : BitVec 32 := 0#32
  let v99 : BitVec 1 := Scalar.cmpi .eq c16_i32_48 c0_i32_49
  let c1_i32_50 : BitVec 32 := 1#32
  let v100 : BitVec 32 := Scalar.select v99 c1_i32_50 c16_i32_48
  let v101 : BitVec 32 := Scalar.remsi v98 v100
  let c0_i32_52 : BitVec 32 := 0#32
  let v103 : BitVec 1 := Scalar.cmpi .slt v101 c0_i32_52
  let c0_i32_53 : BitVec 32 := 0#32
  let v104 : BitVec 1 := Scalar.cmpi .slt v100 c0_i32_53
  let v105 : BitVec 1 := Scalar.xori v103 v104
  let c0_i32_51 : BitVec 32 := 0#32
  let v102 : BitVec 1 := Scalar.cmpi .ne v101 c0_i32_51
  let v106 : BitVec 1 := Scalar.andi v105 v102
  let v107 : BitVec 32 := Scalar.addi v101 v100
  let v108 : BitVec 32 := Scalar.select v106 v107 v101
  let c0_i32_55 : BitVec 32 := 0#32
  let v110 : BitVec 1 := Scalar.cmpi .sgt v108 c0_i32_55
  let v111 : BitVec 32 := Scalar.extui v110
  let c0_i32_56 : BitVec 32 := 0#32
  let v112 : BitVec 1 := Scalar.cmpi .slt v108 c0_i32_56
  let v113 : BitVec 32 := Scalar.extui v112
  let v114 : BitVec 32 := Scalar.subi v111 v113
  let c4_i32_54 : BitVec 32 := 4#32
  let c0_i32_57 : BitVec 32 := 0#32
  let v115 : BitVec 1 := Scalar.cmpi .sgt c4_i32_54 c0_i32_57
  let v116 : BitVec 32 := Scalar.extui v115
  let c0_i32_58 : BitVec 32 := 0#32
  let v117 : BitVec 1 := Scalar.cmpi .slt c4_i32_54 c0_i32_58
  let v118 : BitVec 32 := Scalar.extui v117
  let v119 : BitVec 32 := Scalar.subi v116 v118
  let v120 : BitVec 1 := Scalar.cmpi .ne v114 v119
  let v121 : BitVec 32 := Scalar.remsi v108 c4_i32_54
  let c0_i32_59 : BitVec 32 := 0#32
  let v122 : BitVec 1 := Scalar.cmpi .ne v121 c0_i32_59
  let v123 : BitVec 1 := Scalar.andi v120 v122
  let v109 : BitVec 32 := Scalar.divsi v108 c4_i32_54
  let c1_i32_60 : BitVec 32 := 1#32
  let v124 : BitVec 32 := Scalar.subi v109 c1_i32_60
  let v125 : BitVec 32 := Scalar.select v123 v124 v109
  let c2_i32_67 : BitVec 32 := 2#32
  let c0_i32_68 : BitVec 32 := 0#32
  let v136 : BitVec 1 := Scalar.cmpi .eq c2_i32_67 c0_i32_68
  let c1_i32_69 : BitVec 32 := 1#32
  let v137 : BitVec 32 := Scalar.select v136 c1_i32_69 c2_i32_67
  let v138 : BitVec 32 := Scalar.remsi v125 v137
  let c0_i32_71 : BitVec 32 := 0#32
  let v140 : BitVec 1 := Scalar.cmpi .slt v138 c0_i32_71
  let c0_i32_72 : BitVec 32 := 0#32
  let v141 : BitVec 1 := Scalar.cmpi .slt v137 c0_i32_72
  let v142 : BitVec 1 := Scalar.xori v140 v141
  let c0_i32_70 : BitVec 32 := 0#32
  let v139 : BitVec 1 := Scalar.cmpi .ne v138 c0_i32_70
  let v143 : BitVec 1 := Scalar.andi v142 v139
  let v144 : BitVec 32 := Scalar.addi v138 v137
  let v145 : BitVec 32 := Scalar.select v143 v144 v138
  let c0_i32_73 : BitVec 32 := 0#32
  let v146 : BitVec 1 := Scalar.cmpi .eq v145 c0_i32_73
  let c4_i32_61 : BitVec 32 := 4#32
  let c0_i32_62 : BitVec 32 := 0#32
  let v126 : BitVec 1 := Scalar.cmpi .eq c4_i32_61 c0_i32_62
  let c1_i32_63 : BitVec 32 := 1#32
  let v127 : BitVec 32 := Scalar.select v126 c1_i32_63 c4_i32_61
  let v128 : BitVec 32 := Scalar.remsi v108 v127
  let c0_i32_65 : BitVec 32 := 0#32
  let v130 : BitVec 1 := Scalar.cmpi .slt v128 c0_i32_65
  let c0_i32_66 : BitVec 32 := 0#32
  let v131 : BitVec 1 := Scalar.cmpi .slt v127 c0_i32_66
  let v132 : BitVec 1 := Scalar.xori v130 v131
  let c0_i32_64 : BitVec 32 := 0#32
  let v129 : BitVec 1 := Scalar.cmpi .ne v128 c0_i32_64
  let v133 : BitVec 1 := Scalar.andi v132 v129
  let v134 : BitVec 32 := Scalar.addi v128 v127
  let v135 : BitVec 32 := Scalar.select v133 v134 v128
  let c3_i32_74 : BitVec 32 := 3#32
  let v147 : BitVec 32 := Scalar.subi c3_i32_74 v135
  let v148 : BitVec 32 := Scalar.select v146 v135 v147
  let v149 : BitVec 32 := Scalar.muli c4_i32_75 v148
  let v150 : BitVec 32 := Scalar.addi v149 v125
  let c1_i32_1581 : BitVec 32 := 1#32
  let v2233 : BitVec 32 := Scalar.muli v150 c1_i32_1581
  let v2234 : BitVec 32 := Scalar.addi c0_i32_1582 v2233
  v2234.toNat
def k0_dev40 (d0 : Dev nD) : Nat :=
  let c0_i32_1610 : BitVec 32 := 0#32
  let c4_i32_46 : BitVec 32 := 4#32
  let c4_i32_17 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let v43 : BitVec 32 := Scalar.muli c4_i32_17 v12
  let c2_i32 : BitVec 32 := 2#32
  let c0_i32_11 : BitVec 32 := 0#32
  let v30 : BitVec 1 := Scalar.cmpi .eq c2_i32 c0_i32_11
  let c1_i32_12 : BitVec 32 := 1#32
  let v31 : BitVec 32 := Scalar.select v30 c1_i32_12 c2_i32
  let v32 : BitVec 32 := Scalar.remsi v12 v31
  let c0_i32_14 : BitVec 32 := 0#32
  let v34 : BitVec 1 := Scalar.cmpi .slt v32 c0_i32_14
  let c0_i32_15 : BitVec 32 := 0#32
  let v35 : BitVec 1 := Scalar.cmpi .slt v31 c0_i32_15
  let v36 : BitVec 1 := Scalar.xori v34 v35
  let c0_i32_13 : BitVec 32 := 0#32
  let v33 : BitVec 1 := Scalar.cmpi .ne v32 c0_i32_13
  let v37 : BitVec 1 := Scalar.andi v36 v33
  let v38 : BitVec 32 := Scalar.addi v32 v31
  let v39 : BitVec 32 := Scalar.select v37 v38 v32
  let c0_i32_16 : BitVec 32 := 0#32
  let v40 : BitVec 1 := Scalar.cmpi .eq v39 c0_i32_16
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c4_i32_4 : BitVec 32 := 4#32
  let c0_i32_7 : BitVec 32 := 0#32
  let v19 : BitVec 1 := Scalar.cmpi .sgt c4_i32_4 c0_i32_7
  let v20 : BitVec 32 := Scalar.extui v19
  let c0_i32_8 : BitVec 32 := 0#32
  let v21 : BitVec 1 := Scalar.cmpi .slt c4_i32_4 c0_i32_8
  let v22 : BitVec 32 := Scalar.extui v21
  let v23 : BitVec 32 := Scalar.subi v20 v22
  let v24 : BitVec 1 := Scalar.cmpi .ne v18 v23
  let v25 : BitVec 32 := Scalar.remsi v2 c4_i32_4
  let c0_i32_9 : BitVec 32 := 0#32
  let v26 : BitVec 1 := Scalar.cmpi .ne v25 c0_i32_9
  let v27 : BitVec 1 := Scalar.andi v24 v26
  let v13 : BitVec 32 := Scalar.divsi v2 c4_i32_4
  let c1_i32_10 : BitVec 32 := 1#32
  let v28 : BitVec 32 := Scalar.subi v13 c1_i32_10
  let v29 : BitVec 32 := Scalar.select v27 v28 v13
  let c3_i32 : BitVec 32 := 3#32
  let v41 : BitVec 32 := Scalar.subi c3_i32 v29
  let v42 : BitVec 32 := Scalar.select v40 v29 v41
  let v44 : BitVec 32 := Scalar.addi v43 v42
  let c1_i32_18 : BitVec 32 := 1#32
  let v45 : BitVec 32 := Scalar.addi v44 c1_i32_18
  let c16_i32_19 : BitVec 32 := 16#32
  let c0_i32_20 : BitVec 32 := 0#32
  let v46 : BitVec 1 := Scalar.cmpi .eq c16_i32_19 c0_i32_20
  let c1_i32_21 : BitVec 32 := 1#32
  let v47 : BitVec 32 := Scalar.select v46 c1_i32_21 c16_i32_19
  let v48 : BitVec 32 := Scalar.remsi v45 v47
  let c0_i32_23 : BitVec 32 := 0#32
  let v50 : BitVec 1 := Scalar.cmpi .slt v48 c0_i32_23
  let c0_i32_24 : BitVec 32 := 0#32
  let v51 : BitVec 1 := Scalar.cmpi .slt v47 c0_i32_24
  let v52 : BitVec 1 := Scalar.xori v50 v51
  let c0_i32_22 : BitVec 32 := 0#32
  let v49 : BitVec 1 := Scalar.cmpi .ne v48 c0_i32_22
  let v53 : BitVec 1 := Scalar.andi v52 v49
  let v54 : BitVec 32 := Scalar.addi v48 v47
  let v55 : BitVec 32 := Scalar.select v53 v54 v48
  let c0_i32_26 : BitVec 32 := 0#32
  let v57 : BitVec 1 := Scalar.cmpi .sgt v55 c0_i32_26
  let v58 : BitVec 32 := Scalar.extui v57
  let c0_i32_27 : BitVec 32 := 0#32
  let v59 : BitVec 1 := Scalar.cmpi .slt v55 c0_i32_27
  let v60 : BitVec 32 := Scalar.extui v59
  let v61 : BitVec 32 := Scalar.subi v58 v60
  let c4_i32_25 : BitVec 32 := 4#32
  let c0_i32_28 : BitVec 32 := 0#32
  let v62 : BitVec 1 := Scalar.cmpi .sgt c4_i32_25 c0_i32_28
  let v63 : BitVec 32 := Scalar.extui v62
  let c0_i32_29 : BitVec 32 := 0#32
  let v64 : BitVec 1 := Scalar.cmpi .slt c4_i32_25 c0_i32_29
  let v65 : BitVec 32 := Scalar.extui v64
  let v66 : BitVec 32 := Scalar.subi v63 v65
  let v67 : BitVec 1 := Scalar.cmpi .ne v61 v66
  let v68 : BitVec 32 := Scalar.remsi v55 c4_i32_25
  let c0_i32_30 : BitVec 32 := 0#32
  let v69 : BitVec 1 := Scalar.cmpi .ne v68 c0_i32_30
  let v70 : BitVec 1 := Scalar.andi v67 v69
  let v56 : BitVec 32 := Scalar.divsi v55 c4_i32_25
  let c1_i32_31 : BitVec 32 := 1#32
  let v71 : BitVec 32 := Scalar.subi v56 c1_i32_31
  let v72 : BitVec 32 := Scalar.select v70 v71 v56
  let c2_i32_38 : BitVec 32 := 2#32
  let c0_i32_39 : BitVec 32 := 0#32
  let v83 : BitVec 1 := Scalar.cmpi .eq c2_i32_38 c0_i32_39
  let c1_i32_40 : BitVec 32 := 1#32
  let v84 : BitVec 32 := Scalar.select v83 c1_i32_40 c2_i32_38
  let v85 : BitVec 32 := Scalar.remsi v72 v84
  let c0_i32_42 : BitVec 32 := 0#32
  let v87 : BitVec 1 := Scalar.cmpi .slt v85 c0_i32_42
  let c0_i32_43 : BitVec 32 := 0#32
  let v88 : BitVec 1 := Scalar.cmpi .slt v84 c0_i32_43
  let v89 : BitVec 1 := Scalar.xori v87 v88
  let c0_i32_41 : BitVec 32 := 0#32
  let v86 : BitVec 1 := Scalar.cmpi .ne v85 c0_i32_41
  let v90 : BitVec 1 := Scalar.andi v89 v86
  let v91 : BitVec 32 := Scalar.addi v85 v84
  let v92 : BitVec 32 := Scalar.select v90 v91 v85
  let c0_i32_44 : BitVec 32 := 0#32
  let v93 : BitVec 1 := Scalar.cmpi .eq v92 c0_i32_44
  let c4_i32_32 : BitVec 32 := 4#32
  let c0_i32_33 : BitVec 32 := 0#32
  let v73 : BitVec 1 := Scalar.cmpi .eq c4_i32_32 c0_i32_33
  let c1_i32_34 : BitVec 32 := 1#32
  let v74 : BitVec 32 := Scalar.select v73 c1_i32_34 c4_i32_32
  let v75 : BitVec 32 := Scalar.remsi v55 v74
  let c0_i32_36 : BitVec 32 := 0#32
  let v77 : BitVec 1 := Scalar.cmpi .slt v75 c0_i32_36
  let c0_i32_37 : BitVec 32 := 0#32
  let v78 : BitVec 1 := Scalar.cmpi .slt v74 c0_i32_37
  let v79 : BitVec 1 := Scalar.xori v77 v78
  let c0_i32_35 : BitVec 32 := 0#32
  let v76 : BitVec 1 := Scalar.cmpi .ne v75 c0_i32_35
  let v80 : BitVec 1 := Scalar.andi v79 v76
  let v81 : BitVec 32 := Scalar.addi v75 v74
  let v82 : BitVec 32 := Scalar.select v80 v81 v75
  let c3_i32_45 : BitVec 32 := 3#32
  let v94 : BitVec 32 := Scalar.subi c3_i32_45 v82
  let v95 : BitVec 32 := Scalar.select v93 v82 v94
  let v96 : BitVec 32 := Scalar.muli c4_i32_46 v95
  let v97 : BitVec 32 := Scalar.addi v96 v72
  let c1_i32_1609 : BitVec 32 := 1#32
  let v2257 : BitVec 32 := Scalar.muli v97 c1_i32_1609
  let v2258 : BitVec 32 := Scalar.addi c0_i32_1610 v2257
  v2258.toNat
def k0_dev41 (d0 : Dev nD) : Nat :=
  let c0_i32_1624 : BitVec 32 := 0#32
  let c4_i32_46 : BitVec 32 := 4#32
  let c4_i32_17 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let v43 : BitVec 32 := Scalar.muli c4_i32_17 v12
  let c2_i32 : BitVec 32 := 2#32
  let c0_i32_11 : BitVec 32 := 0#32
  let v30 : BitVec 1 := Scalar.cmpi .eq c2_i32 c0_i32_11
  let c1_i32_12 : BitVec 32 := 1#32
  let v31 : BitVec 32 := Scalar.select v30 c1_i32_12 c2_i32
  let v32 : BitVec 32 := Scalar.remsi v12 v31
  let c0_i32_14 : BitVec 32 := 0#32
  let v34 : BitVec 1 := Scalar.cmpi .slt v32 c0_i32_14
  let c0_i32_15 : BitVec 32 := 0#32
  let v35 : BitVec 1 := Scalar.cmpi .slt v31 c0_i32_15
  let v36 : BitVec 1 := Scalar.xori v34 v35
  let c0_i32_13 : BitVec 32 := 0#32
  let v33 : BitVec 1 := Scalar.cmpi .ne v32 c0_i32_13
  let v37 : BitVec 1 := Scalar.andi v36 v33
  let v38 : BitVec 32 := Scalar.addi v32 v31
  let v39 : BitVec 32 := Scalar.select v37 v38 v32
  let c0_i32_16 : BitVec 32 := 0#32
  let v40 : BitVec 1 := Scalar.cmpi .eq v39 c0_i32_16
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c4_i32_4 : BitVec 32 := 4#32
  let c0_i32_7 : BitVec 32 := 0#32
  let v19 : BitVec 1 := Scalar.cmpi .sgt c4_i32_4 c0_i32_7
  let v20 : BitVec 32 := Scalar.extui v19
  let c0_i32_8 : BitVec 32 := 0#32
  let v21 : BitVec 1 := Scalar.cmpi .slt c4_i32_4 c0_i32_8
  let v22 : BitVec 32 := Scalar.extui v21
  let v23 : BitVec 32 := Scalar.subi v20 v22
  let v24 : BitVec 1 := Scalar.cmpi .ne v18 v23
  let v25 : BitVec 32 := Scalar.remsi v2 c4_i32_4
  let c0_i32_9 : BitVec 32 := 0#32
  let v26 : BitVec 1 := Scalar.cmpi .ne v25 c0_i32_9
  let v27 : BitVec 1 := Scalar.andi v24 v26
  let v13 : BitVec 32 := Scalar.divsi v2 c4_i32_4
  let c1_i32_10 : BitVec 32 := 1#32
  let v28 : BitVec 32 := Scalar.subi v13 c1_i32_10
  let v29 : BitVec 32 := Scalar.select v27 v28 v13
  let c3_i32 : BitVec 32 := 3#32
  let v41 : BitVec 32 := Scalar.subi c3_i32 v29
  let v42 : BitVec 32 := Scalar.select v40 v29 v41
  let v44 : BitVec 32 := Scalar.addi v43 v42
  let c1_i32_18 : BitVec 32 := 1#32
  let v45 : BitVec 32 := Scalar.addi v44 c1_i32_18
  let c16_i32_19 : BitVec 32 := 16#32
  let c0_i32_20 : BitVec 32 := 0#32
  let v46 : BitVec 1 := Scalar.cmpi .eq c16_i32_19 c0_i32_20
  let c1_i32_21 : BitVec 32 := 1#32
  let v47 : BitVec 32 := Scalar.select v46 c1_i32_21 c16_i32_19
  let v48 : BitVec 32 := Scalar.remsi v45 v47
  let c0_i32_23 : BitVec 32 := 0#32
  let v50 : BitVec 1 := Scalar.cmpi .slt v48 c0_i32_23
  let c0_i32_24 : BitVec 32 := 0#32
  let v51 : BitVec 1 := Scalar.cmpi .slt v47 c0_i32_24
  let v52 : BitVec 1 := Scalar.xori v50 v51
  let c0_i32_22 : BitVec 32 := 0#32
  let v49 : BitVec 1 := Scalar.cmpi .ne v48 c0_i32_22
  let v53 : BitVec 1 := Scalar.andi v52 v49
  let v54 : BitVec 32 := Scalar.addi v48 v47
  let v55 : BitVec 32 := Scalar.select v53 v54 v48
  let c0_i32_26 : BitVec 32 := 0#32
  let v57 : BitVec 1 := Scalar.cmpi .sgt v55 c0_i32_26
  let v58 : BitVec 32 := Scalar.extui v57
  let c0_i32_27 : BitVec 32 := 0#32
  let v59 : BitVec 1 := Scalar.cmpi .slt v55 c0_i32_27
  let v60 : BitVec 32 := Scalar.extui v59
  let v61 : BitVec 32 := Scalar.subi v58 v60
  let c4_i32_25 : BitVec 32 := 4#32
  let c0_i32_28 : BitVec 32 := 0#32
  let v62 : BitVec 1 := Scalar.cmpi .sgt c4_i32_25 c0_i32_28
  let v63 : BitVec 32 := Scalar.extui v62
  let c0_i32_29 : BitVec 32 := 0#32
  let v64 : BitVec 1 := Scalar.cmpi .slt c4_i32_25 c0_i32_29
  let v65 : BitVec 32 := Scalar.extui v64
  let v66 : BitVec 32 := Scalar.subi v63 v65
  let v67 : BitVec 1 := Scalar.cmpi .ne v61 v66
  let v68 : BitVec 32 := Scalar.remsi v55 c4_i32_25
  let c0_i32_30 : BitVec 32 := 0#32
  let v69 : BitVec 1 := Scalar.cmpi .ne v68 c0_i32_30
  let v70 : BitVec 1 := Scalar.andi v67 v69
  let v56 : BitVec 32 := Scalar.divsi v55 c4_i32_25
  let c1_i32_31 : BitVec 32 := 1#32
  let v71 : BitVec 32 := Scalar.subi v56 c1_i32_31
  let v72 : BitVec 32 := Scalar.select v70 v71 v56
  let c2_i32_38 : BitVec 32 := 2#32
  let c0_i32_39 : BitVec 32 := 0#32
  let v83 : BitVec 1 := Scalar.cmpi .eq c2_i32_38 c0_i32_39
  let c1_i32_40 : BitVec 32 := 1#32
  let v84 : BitVec 32 := Scalar.select v83 c1_i32_40 c2_i32_38
  let v85 : BitVec 32 := Scalar.remsi v72 v84
  let c0_i32_42 : BitVec 32 := 0#32
  let v87 : BitVec 1 := Scalar.cmpi .slt v85 c0_i32_42
  let c0_i32_43 : BitVec 32 := 0#32
  let v88 : BitVec 1 := Scalar.cmpi .slt v84 c0_i32_43
  let v89 : BitVec 1 := Scalar.xori v87 v88
  let c0_i32_41 : BitVec 32 := 0#32
  let v86 : BitVec 1 := Scalar.cmpi .ne v85 c0_i32_41
  let v90 : BitVec 1 := Scalar.andi v89 v86
  let v91 : BitVec 32 := Scalar.addi v85 v84
  let v92 : BitVec 32 := Scalar.select v90 v91 v85
  let c0_i32_44 : BitVec 32 := 0#32
  let v93 : BitVec 1 := Scalar.cmpi .eq v92 c0_i32_44
  let c4_i32_32 : BitVec 32 := 4#32
  let c0_i32_33 : BitVec 32 := 0#32
  let v73 : BitVec 1 := Scalar.cmpi .eq c4_i32_32 c0_i32_33
  let c1_i32_34 : BitVec 32 := 1#32
  let v74 : BitVec 32 := Scalar.select v73 c1_i32_34 c4_i32_32
  let v75 : BitVec 32 := Scalar.remsi v55 v74
  let c0_i32_36 : BitVec 32 := 0#32
  let v77 : BitVec 1 := Scalar.cmpi .slt v75 c0_i32_36
  let c0_i32_37 : BitVec 32 := 0#32
  let v78 : BitVec 1 := Scalar.cmpi .slt v74 c0_i32_37
  let v79 : BitVec 1 := Scalar.xori v77 v78
  let c0_i32_35 : BitVec 32 := 0#32
  let v76 : BitVec 1 := Scalar.cmpi .ne v75 c0_i32_35
  let v80 : BitVec 1 := Scalar.andi v79 v76
  let v81 : BitVec 32 := Scalar.addi v75 v74
  let v82 : BitVec 32 := Scalar.select v80 v81 v75
  let c3_i32_45 : BitVec 32 := 3#32
  let v94 : BitVec 32 := Scalar.subi c3_i32_45 v82
  let v95 : BitVec 32 := Scalar.select v93 v82 v94
  let v96 : BitVec 32 := Scalar.muli c4_i32_46 v95
  let v97 : BitVec 32 := Scalar.addi v96 v72
  let c1_i32_1623 : BitVec 32 := 1#32
  let v2267 : BitVec 32 := Scalar.muli v97 c1_i32_1623
  let v2268 : BitVec 32 := Scalar.addi c0_i32_1624 v2267
  v2268.toNat
def k0_dev42 (d0 : Dev nD) : Nat :=
  let c0_i32_1636 : BitVec 32 := 0#32
  let c4_i32_75 : BitVec 32 := 4#32
  let c4_i32_17 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let v43 : BitVec 32 := Scalar.muli c4_i32_17 v12
  let c2_i32 : BitVec 32 := 2#32
  let c0_i32_11 : BitVec 32 := 0#32
  let v30 : BitVec 1 := Scalar.cmpi .eq c2_i32 c0_i32_11
  let c1_i32_12 : BitVec 32 := 1#32
  let v31 : BitVec 32 := Scalar.select v30 c1_i32_12 c2_i32
  let v32 : BitVec 32 := Scalar.remsi v12 v31
  let c0_i32_14 : BitVec 32 := 0#32
  let v34 : BitVec 1 := Scalar.cmpi .slt v32 c0_i32_14
  let c0_i32_15 : BitVec 32 := 0#32
  let v35 : BitVec 1 := Scalar.cmpi .slt v31 c0_i32_15
  let v36 : BitVec 1 := Scalar.xori v34 v35
  let c0_i32_13 : BitVec 32 := 0#32
  let v33 : BitVec 1 := Scalar.cmpi .ne v32 c0_i32_13
  let v37 : BitVec 1 := Scalar.andi v36 v33
  let v38 : BitVec 32 := Scalar.addi v32 v31
  let v39 : BitVec 32 := Scalar.select v37 v38 v32
  let c0_i32_16 : BitVec 32 := 0#32
  let v40 : BitVec 1 := Scalar.cmpi .eq v39 c0_i32_16
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c4_i32_4 : BitVec 32 := 4#32
  let c0_i32_7 : BitVec 32 := 0#32
  let v19 : BitVec 1 := Scalar.cmpi .sgt c4_i32_4 c0_i32_7
  let v20 : BitVec 32 := Scalar.extui v19
  let c0_i32_8 : BitVec 32 := 0#32
  let v21 : BitVec 1 := Scalar.cmpi .slt c4_i32_4 c0_i32_8
  let v22 : BitVec 32 := Scalar.extui v21
  let v23 : BitVec 32 := Scalar.subi v20 v22
  let v24 : BitVec 1 := Scalar.cmpi .ne v18 v23
  let v25 : BitVec 32 := Scalar.remsi v2 c4_i32_4
  let c0_i32_9 : BitVec 32 := 0#32
  let v26 : BitVec 1 := Scalar.cmpi .ne v25 c0_i32_9
  let v27 : BitVec 1 := Scalar.andi v24 v26
  let v13 : BitVec 32 := Scalar.divsi v2 c4_i32_4
  let c1_i32_10 : BitVec 32 := 1#32
  let v28 : BitVec 32 := Scalar.subi v13 c1_i32_10
  let v29 : BitVec 32 := Scalar.select v27 v28 v13
  let c3_i32 : BitVec 32 := 3#32
  let v41 : BitVec 32 := Scalar.subi c3_i32 v29
  let v42 : BitVec 32 := Scalar.select v40 v29 v41
  let v44 : BitVec 32 := Scalar.addi v43 v42
  let c1_i32_47 : BitVec 32 := 1#32
  let v98 : BitVec 32 := Scalar.subi v44 c1_i32_47
  let c16_i32_48 : BitVec 32 := 16#32
  let c0_i32_49 : BitVec 32 := 0#32
  let v99 : BitVec 1 := Scalar.cmpi .eq c16_i32_48 c0_i32_49
  let c1_i32_50 : BitVec 32 := 1#32
  let v100 : BitVec 32 := Scalar.select v99 c1_i32_50 c16_i32_48
  let v101 : BitVec 32 := Scalar.remsi v98 v100
  let c0_i32_52 : BitVec 32 := 0#32
  let v103 : BitVec 1 := Scalar.cmpi .slt v101 c0_i32_52
  let c0_i32_53 : BitVec 32 := 0#32
  let v104 : BitVec 1 := Scalar.cmpi .slt v100 c0_i32_53
  let v105 : BitVec 1 := Scalar.xori v103 v104
  let c0_i32_51 : BitVec 32 := 0#32
  let v102 : BitVec 1 := Scalar.cmpi .ne v101 c0_i32_51
  let v106 : BitVec 1 := Scalar.andi v105 v102
  let v107 : BitVec 32 := Scalar.addi v101 v100
  let v108 : BitVec 32 := Scalar.select v106 v107 v101
  let c0_i32_55 : BitVec 32 := 0#32
  let v110 : BitVec 1 := Scalar.cmpi .sgt v108 c0_i32_55
  let v111 : BitVec 32 := Scalar.extui v110
  let c0_i32_56 : BitVec 32 := 0#32
  let v112 : BitVec 1 := Scalar.cmpi .slt v108 c0_i32_56
  let v113 : BitVec 32 := Scalar.extui v112
  let v114 : BitVec 32 := Scalar.subi v111 v113
  let c4_i32_54 : BitVec 32 := 4#32
  let c0_i32_57 : BitVec 32 := 0#32
  let v115 : BitVec 1 := Scalar.cmpi .sgt c4_i32_54 c0_i32_57
  let v116 : BitVec 32 := Scalar.extui v115
  let c0_i32_58 : BitVec 32 := 0#32
  let v117 : BitVec 1 := Scalar.cmpi .slt c4_i32_54 c0_i32_58
  let v118 : BitVec 32 := Scalar.extui v117
  let v119 : BitVec 32 := Scalar.subi v116 v118
  let v120 : BitVec 1 := Scalar.cmpi .ne v114 v119
  let v121 : BitVec 32 := Scalar.remsi v108 c4_i32_54
  let c0_i32_59 : BitVec 32 := 0#32
  let v122 : BitVec 1 := Scalar.cmpi .ne v121 c0_i32_59
  let v123 : BitVec 1 := Scalar.andi v120 v122
  let v109 : BitVec 32 := Scalar.divsi v108 c4_i32_54
  let c1_i32_60 : BitVec 32 := 1#32
  let v124 : BitVec 32 := Scalar.subi v109 c1_i32_60
  let v125 : BitVec 32 := Scalar.select v123 v124 v109
  let c2_i32_67 : BitVec 32 := 2#32
  let c0_i32_68 : BitVec 32 := 0#32
  let v136 : BitVec 1 := Scalar.cmpi .eq c2_i32_67 c0_i32_68
  let c1_i32_69 : BitVec 32 := 1#32
  let v137 : BitVec 32 := Scalar.select v136 c1_i32_69 c2_i32_67
  let v138 : BitVec 32 := Scalar.remsi v125 v137
  let c0_i32_71 : BitVec 32 := 0#32
  let v140 : BitVec 1 := Scalar.cmpi .slt v138 c0_i32_71
  let c0_i32_72 : BitVec 32 := 0#32
  let v141 : BitVec 1 := Scalar.cmpi .slt v137 c0_i32_72
  let v142 : BitVec 1 := Scalar.xori v140 v141
  let c0_i32_70 : BitVec 32 := 0#32
  let v139 : BitVec 1 := Scalar.cmpi .ne v138 c0_i32_70
  let v143 : BitVec 1 := Scalar.andi v142 v139
  let v144 : BitVec 32 := Scalar.addi v138 v137
  let v145 : BitVec 32 := Scalar.select v143 v144 v138
  let c0_i32_73 : BitVec 32 := 0#32
  let v146 : BitVec 1 := Scalar.cmpi .eq v145 c0_i32_73
  let c4_i32_61 : BitVec 32 := 4#32
  let c0_i32_62 : BitVec 32 := 0#32
  let v126 : BitVec 1 := Scalar.cmpi .eq c4_i32_61 c0_i32_62
  let c1_i32_63 : BitVec 32 := 1#32
  let v127 : BitVec 32 := Scalar.select v126 c1_i32_63 c4_i32_61
  let v128 : BitVec 32 := Scalar.remsi v108 v127
  let c0_i32_65 : BitVec 32 := 0#32
  let v130 : BitVec 1 := Scalar.cmpi .slt v128 c0_i32_65
  let c0_i32_66 : BitVec 32 := 0#32
  let v131 : BitVec 1 := Scalar.cmpi .slt v127 c0_i32_66
  let v132 : BitVec 1 := Scalar.xori v130 v131
  let c0_i32_64 : BitVec 32 := 0#32
  let v129 : BitVec 1 := Scalar.cmpi .ne v128 c0_i32_64
  let v133 : BitVec 1 := Scalar.andi v132 v129
  let v134 : BitVec 32 := Scalar.addi v128 v127
  let v135 : BitVec 32 := Scalar.select v133 v134 v128
  let c3_i32_74 : BitVec 32 := 3#32
  let v147 : BitVec 32 := Scalar.subi c3_i32_74 v135
  let v148 : BitVec 32 := Scalar.select v146 v135 v147
  let v149 : BitVec 32 := Scalar.muli c4_i32_75 v148
  let v150 : BitVec 32 := Scalar.addi v149 v125
  let c1_i32_1635 : BitVec 32 := 1#32
  let v2277 : BitVec 32 := Scalar.muli v150 c1_i32_1635
  let v2278 : BitVec 32 := Scalar.addi c0_i32_1636 v2277
  v2278.toNat
def k0_dev43 (d0 : Dev nD) : Nat :=
  let c0_i32_1662 : BitVec 32 := 0#32
  let c4_i32_75 : BitVec 32 := 4#32
  let c4_i32_17 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let v43 : BitVec 32 := Scalar.muli c4_i32_17 v12
  let c2_i32 : BitVec 32 := 2#32
  let c0_i32_11 : BitVec 32 := 0#32
  let v30 : BitVec 1 := Scalar.cmpi .eq c2_i32 c0_i32_11
  let c1_i32_12 : BitVec 32 := 1#32
  let v31 : BitVec 32 := Scalar.select v30 c1_i32_12 c2_i32
  let v32 : BitVec 32 := Scalar.remsi v12 v31
  let c0_i32_14 : BitVec 32 := 0#32
  let v34 : BitVec 1 := Scalar.cmpi .slt v32 c0_i32_14
  let c0_i32_15 : BitVec 32 := 0#32
  let v35 : BitVec 1 := Scalar.cmpi .slt v31 c0_i32_15
  let v36 : BitVec 1 := Scalar.xori v34 v35
  let c0_i32_13 : BitVec 32 := 0#32
  let v33 : BitVec 1 := Scalar.cmpi .ne v32 c0_i32_13
  let v37 : BitVec 1 := Scalar.andi v36 v33
  let v38 : BitVec 32 := Scalar.addi v32 v31
  let v39 : BitVec 32 := Scalar.select v37 v38 v32
  let c0_i32_16 : BitVec 32 := 0#32
  let v40 : BitVec 1 := Scalar.cmpi .eq v39 c0_i32_16
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c4_i32_4 : BitVec 32 := 4#32
  let c0_i32_7 : BitVec 32 := 0#32
  let v19 : BitVec 1 := Scalar.cmpi .sgt c4_i32_4 c0_i32_7
  let v20 : BitVec 32 := Scalar.extui v19
  let c0_i32_8 : BitVec 32 := 0#32
  let v21 : BitVec 1 := Scalar.cmpi .slt c4_i32_4 c0_i32_8
  let v22 : BitVec 32 := Scalar.extui v21
  let v23 : BitVec 32 := Scalar.subi v20 v22
  let v24 : BitVec 1 := Scalar.cmpi .ne v18 v23
  let v25 : BitVec 32 := Scalar.remsi v2 c4_i32_4
  let c0_i32_9 : BitVec 32 := 0#32
  let v26 : BitVec 1 := Scalar.cmpi .ne v25 c0_i32_9
  let v27 : BitVec 1 := Scalar.andi v24 v26
  let v13 : BitVec 32 := Scalar.divsi v2 c4_i32_4
  let c1_i32_10 : BitVec 32 := 1#32
  let v28 : BitVec 32 := Scalar.subi v13 c1_i32_10
  let v29 : BitVec 32 := Scalar.select v27 v28 v13
  let c3_i32 : BitVec 32 := 3#32
  let v41 : BitVec 32 := Scalar.subi c3_i32 v29
  let v42 : BitVec 32 := Scalar.select v40 v29 v41
  let v44 : BitVec 32 := Scalar.addi v43 v42
  let c1_i32_47 : BitVec 32 := 1#32
  let v98 : BitVec 32 := Scalar.subi v44 c1_i32_47
  let c16_i32_48 : BitVec 32 := 16#32
  let c0_i32_49 : BitVec 32 := 0#32
  let v99 : BitVec 1 := Scalar.cmpi .eq c16_i32_48 c0_i32_49
  let c1_i32_50 : BitVec 32 := 1#32
  let v100 : BitVec 32 := Scalar.select v99 c1_i32_50 c16_i32_48
  let v101 : BitVec 32 := Scalar.remsi v98 v100
  let c0_i32_52 : BitVec 32 := 0#32
  let v103 : BitVec 1 := Scalar.cmpi .slt v101 c0_i32_52
  let c0_i32_53 : BitVec 32 := 0#32
  let v104 : BitVec 1 := Scalar.cmpi .slt v100 c0_i32_53
  let v105 : BitVec 1 := Scalar.xori v103 v104
  let c0_i32_51 : BitVec 32 := 0#32
  let v102 : BitVec 1 := Scalar.cmpi .ne v101 c0_i32_51
  let v106 : BitVec 1 := Scalar.andi v105 v102
  let v107 : BitVec 32 := Scalar.addi v101 v100
  let v108 : BitVec 32 := Scalar.select v106 v107 v101
  let c0_i32_55 : BitVec 32 := 0#32
  let v110 : BitVec 1 := Scalar.cmpi .sgt v108 c0_i32_55
  let v111 : BitVec 32 := Scalar.extui v110
  let c0_i32_56 : BitVec 32 := 0#32
  let v112 : BitVec 1 := Scalar.cmpi .slt v108 c0_i32_56
  let v113 : BitVec 32 := Scalar.extui v112
  let v114 : BitVec 32 := Scalar.subi v111 v113
  let c4_i32_54 : BitVec 32 := 4#32
  let c0_i32_57 : BitVec 32 := 0#32
  let v115 : BitVec 1 := Scalar.cmpi .sgt c4_i32_54 c0_i32_57
  let v116 : BitVec 32 := Scalar.extui v115
  let c0_i32_58 : BitVec 32 := 0#32
  let v117 : BitVec 1 := Scalar.cmpi .slt c4_i32_54 c0_i32_58
  let v118 : BitVec 32 := Scalar.extui v117
  let v119 : BitVec 32 := Scalar.subi v116 v118
  let v120 : BitVec 1 := Scalar.cmpi .ne v114 v119
  let v121 : BitVec 32 := Scalar.remsi v108 c4_i32_54
  let c0_i32_59 : BitVec 32 := 0#32
  let v122 : BitVec 1 := Scalar.cmpi .ne v121 c0_i32_59
  let v123 : BitVec 1 := Scalar.andi v120 v122
  let v109 : BitVec 32 := Scalar.divsi v108 c4_i32_54
  let c1_i32_60 : BitVec 32 := 1#32
  let v124 : BitVec 32 := Scalar.subi v109 c1_i32_60
  let v125 : BitVec 32 := Scalar.select v123 v124 v109
  let c2_i32_67 : BitVec 32 := 2#32
  let c0_i32_68 : BitVec 32 := 0#32
  let v136 : BitVec 1 := Scalar.cmpi .eq c2_i32_67 c0_i32_68
  let c1_i32_69 : BitVec 32 := 1#32
  let v137 : BitVec 32 := Scalar.select v136 c1_i32_69 c2_i32_67
  let v138 : BitVec 32 := Scalar.remsi v125 v137
  let c0_i32_71 : BitVec 32 := 0#32
  let v140 : BitVec 1 := Scalar.cmpi .slt v138 c0_i32_71
  let c0_i32_72 : BitVec 32 := 0#32
  let v141 : BitVec 1 := Scalar.cmpi .slt v137 c0_i32_72
  let v142 : BitVec 1 := Scalar.xori v140 v141
  let c0_i32_70 : BitVec 32 := 0#32
  let v139 : BitVec 1 := Scalar.cmpi .ne v138 c0_i32_70
  let v143 : BitVec 1 := Scalar.andi v142 v139
  let v144 : BitVec 32 := Scalar.addi v138 v137
  let v145 : BitVec 32 := Scalar.select v143 v144 v138
  let c0_i32_73 : BitVec 32 := 0#32
  let v146 : BitVec 1 := Scalar.cmpi .eq v145 c0_i32_73
  let c4_i32_61 : BitVec 32 := 4#32
  let c0_i32_62 : BitVec 32 := 0#32
  let v126 : BitVec 1 := Scalar.cmpi .eq c4_i32_61 c0_i32_62
  let c1_i32_63 : BitVec 32 := 1#32
  let v127 : BitVec 32 := Scalar.select v126 c1_i32_63 c4_i32_61
  let v128 : BitVec 32 := Scalar.remsi v108 v127
  let c0_i32_65 : BitVec 32 := 0#32
  let v130 : BitVec 1 := Scalar.cmpi .slt v128 c0_i32_65
  let c0_i32_66 : BitVec 32 := 0#32
  let v131 : BitVec 1 := Scalar.cmpi .slt v127 c0_i32_66
  let v132 : BitVec 1 := Scalar.xori v130 v131
  let c0_i32_64 : BitVec 32 := 0#32
  let v129 : BitVec 1 := Scalar.cmpi .ne v128 c0_i32_64
  let v133 : BitVec 1 := Scalar.andi v132 v129
  let v134 : BitVec 32 := Scalar.addi v128 v127
  let v135 : BitVec 32 := Scalar.select v133 v134 v128
  let c3_i32_74 : BitVec 32 := 3#32
  let v147 : BitVec 32 := Scalar.subi c3_i32_74 v135
  let v148 : BitVec 32 := Scalar.select v146 v135 v147
  let v149 : BitVec 32 := Scalar.muli c4_i32_75 v148
  let v150 : BitVec 32 := Scalar.addi v149 v125
  let c1_i32_1661 : BitVec 32 := 1#32
  let v2301 : BitVec 32 := Scalar.muli v150 c1_i32_1661
  let v2302 : BitVec 32 := Scalar.addi c0_i32_1662 v2301
  v2302.toNat
def k0_dev44 (d0 : Dev nD) : Nat :=
  let c0_i32_1690 : BitVec 32 := 0#32
  let c4_i32_46 : BitVec 32 := 4#32
  let c4_i32_17 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let v43 : BitVec 32 := Scalar.muli c4_i32_17 v12
  let c2_i32 : BitVec 32 := 2#32
  let c0_i32_11 : BitVec 32 := 0#32
  let v30 : BitVec 1 := Scalar.cmpi .eq c2_i32 c0_i32_11
  let c1_i32_12 : BitVec 32 := 1#32
  let v31 : BitVec 32 := Scalar.select v30 c1_i32_12 c2_i32
  let v32 : BitVec 32 := Scalar.remsi v12 v31
  let c0_i32_14 : BitVec 32 := 0#32
  let v34 : BitVec 1 := Scalar.cmpi .slt v32 c0_i32_14
  let c0_i32_15 : BitVec 32 := 0#32
  let v35 : BitVec 1 := Scalar.cmpi .slt v31 c0_i32_15
  let v36 : BitVec 1 := Scalar.xori v34 v35
  let c0_i32_13 : BitVec 32 := 0#32
  let v33 : BitVec 1 := Scalar.cmpi .ne v32 c0_i32_13
  let v37 : BitVec 1 := Scalar.andi v36 v33
  let v38 : BitVec 32 := Scalar.addi v32 v31
  let v39 : BitVec 32 := Scalar.select v37 v38 v32
  let c0_i32_16 : BitVec 32 := 0#32
  let v40 : BitVec 1 := Scalar.cmpi .eq v39 c0_i32_16
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c4_i32_4 : BitVec 32 := 4#32
  let c0_i32_7 : BitVec 32 := 0#32
  let v19 : BitVec 1 := Scalar.cmpi .sgt c4_i32_4 c0_i32_7
  let v20 : BitVec 32 := Scalar.extui v19
  let c0_i32_8 : BitVec 32 := 0#32
  let v21 : BitVec 1 := Scalar.cmpi .slt c4_i32_4 c0_i32_8
  let v22 : BitVec 32 := Scalar.extui v21
  let v23 : BitVec 32 := Scalar.subi v20 v22
  let v24 : BitVec 1 := Scalar.cmpi .ne v18 v23
  let v25 : BitVec 32 := Scalar.remsi v2 c4_i32_4
  let c0_i32_9 : BitVec 32 := 0#32
  let v26 : BitVec 1 := Scalar.cmpi .ne v25 c0_i32_9
  let v27 : BitVec 1 := Scalar.andi v24 v26
  let v13 : BitVec 32 := Scalar.divsi v2 c4_i32_4
  let c1_i32_10 : BitVec 32 := 1#32
  let v28 : BitVec 32 := Scalar.subi v13 c1_i32_10
  let v29 : BitVec 32 := Scalar.select v27 v28 v13
  let c3_i32 : BitVec 32 := 3#32
  let v41 : BitVec 32 := Scalar.subi c3_i32 v29
  let v42 : BitVec 32 := Scalar.select v40 v29 v41
  let v44 : BitVec 32 := Scalar.addi v43 v42
  let c1_i32_18 : BitVec 32 := 1#32
  let v45 : BitVec 32 := Scalar.addi v44 c1_i32_18
  let c16_i32_19 : BitVec 32 := 16#32
  let c0_i32_20 : BitVec 32 := 0#32
  let v46 : BitVec 1 := Scalar.cmpi .eq c16_i32_19 c0_i32_20
  let c1_i32_21 : BitVec 32 := 1#32
  let v47 : BitVec 32 := Scalar.select v46 c1_i32_21 c16_i32_19
  let v48 : BitVec 32 := Scalar.remsi v45 v47
  let c0_i32_23 : BitVec 32 := 0#32
  let v50 : BitVec 1 := Scalar.cmpi .slt v48 c0_i32_23
  let c0_i32_24 : BitVec 32 := 0#32
  let v51 : BitVec 1 := Scalar.cmpi .slt v47 c0_i32_24
  let v52 : BitVec 1 := Scalar.xori v50 v51
  let c0_i32_22 : BitVec 32 := 0#32
  let v49 : BitVec 1 := Scalar.cmpi .ne v48 c0_i32_22
  let v53 : BitVec 1 := Scalar.andi v52 v49
  let v54 : BitVec 32 := Scalar.addi v48 v47
  let v55 : BitVec 32 := Scalar.select v53 v54 v48
  let c0_i32_26 : BitVec 32 := 0#32
  let v57 : BitVec 1 := Scalar.cmpi .sgt v55 c0_i32_26
  let v58 : BitVec 32 := Scalar.extui v57
  let c0_i32_27 : BitVec 32 := 0#32
  let v59 : BitVec 1 := Scalar.cmpi .slt v55 c0_i32_27
  let v60 : BitVec 32 := Scalar.extui v59
  let v61 : BitVec 32 := Scalar.subi v58 v60
  let c4_i32_25 : BitVec 32 := 4#32
  let c0_i32_28 : BitVec 32 := 0#32
  let v62 : BitVec 1 := Scalar.cmpi .sgt c4_i32_25 c0_i32_28
  let v63 : BitVec 32 := Scalar.extui v62
  let c0_i32_29 : BitVec 32 := 0#32
  let v64 : BitVec 1 := Scalar.cmpi .slt c4_i32_25 c0_i32_29
  let v65 : BitVec 32 := Scalar.extui v64
  let v66 : BitVec 32 := Scalar.subi v63 v65
  let v67 : BitVec 1 := Scalar.cmpi .ne v61 v66
  let v68 : BitVec 32 := Scalar.remsi v55 c4_i32_25
  let c0_i32_30 : BitVec 32 := 0#32
  let v69 : BitVec 1 := Scalar.cmpi .ne v68 c0_i32_30
  let v70 : BitVec 1 := Scalar.andi v67 v69
  let v56 : BitVec 32 := Scalar.divsi v55 c4_i32_25
  let c1_i32_31 : BitVec 32 := 1#32
  let v71 : BitVec 32 := Scalar.subi v56 c1_i32_31
  let v72 : BitVec 32 := Scalar.select v70 v71 v56
  let c2_i32_38 : BitVec 32 := 2#32
  let c0_i32_39 : BitVec 32 := 0#32
  let v83 : BitVec 1 := Scalar.cmpi .eq c2_i32_38 c0_i32_39
  let c1_i32_40 : BitVec 32 := 1#32
  let v84 : BitVec 32 := Scalar.select v83 c1_i32_40 c2_i32_38
  let v85 : BitVec 32 := Scalar.remsi v72 v84
  let c0_i32_42 : BitVec 32 := 0#32
  let v87 : BitVec 1 := Scalar.cmpi .slt v85 c0_i32_42
  let c0_i32_43 : BitVec 32 := 0#32
  let v88 : BitVec 1 := Scalar.cmpi .slt v84 c0_i32_43
  let v89 : BitVec 1 := Scalar.xori v87 v88
  let c0_i32_41 : BitVec 32 := 0#32
  let v86 : BitVec 1 := Scalar.cmpi .ne v85 c0_i32_41
  let v90 : BitVec 1 := Scalar.andi v89 v86
  let v91 : BitVec 32 := Scalar.addi v85 v84
  let v92 : BitVec 32 := Scalar.select v90 v91 v85
  let c0_i32_44 : BitVec 32 := 0#32
  let v93 : BitVec 1 := Scalar.cmpi .eq v92 c0_i32_44
  let c4_i32_32 : BitVec 32 := 4#32
  let c0_i32_33 : BitVec 32 := 0#32
  let v73 : BitVec 1 := Scalar.cmpi .eq c4_i32_32 c0_i32_33
  let c1_i32_34 : BitVec 32 := 1#32
  let v74 : BitVec 32 := Scalar.select v73 c1_i32_34 c4_i32_32
  let v75 : BitVec 32 := Scalar.remsi v55 v74
  let c0_i32_36 : BitVec 32 := 0#32
  let v77 : BitVec 1 := Scalar.cmpi .slt v75 c0_i32_36
  let c0_i32_37 : BitVec 32 := 0#32
  let v78 : BitVec 1 := Scalar.cmpi .slt v74 c0_i32_37
  let v79 : BitVec 1 := Scalar.xori v77 v78
  let c0_i32_35 : BitVec 32 := 0#32
  let v76 : BitVec 1 := Scalar.cmpi .ne v75 c0_i32_35
  let v80 : BitVec 1 := Scalar.andi v79 v76
  let v81 : BitVec 32 := Scalar.addi v75 v74
  let v82 : BitVec 32 := Scalar.select v80 v81 v75
  let c3_i32_45 : BitVec 32 := 3#32
  let v94 : BitVec 32 := Scalar.subi c3_i32_45 v82
  let v95 : BitVec 32 := Scalar.select v93 v82 v94
  let v96 : BitVec 32 := Scalar.muli c4_i32_46 v95
  let v97 : BitVec 32 := Scalar.addi v96 v72
  let c1_i32_1689 : BitVec 32 := 1#32
  let v2325 : BitVec 32 := Scalar.muli v97 c1_i32_1689
  let v2326 : BitVec 32 := Scalar.addi c0_i32_1690 v2325
  v2326.toNat
def k0_dev45 (d0 : Dev nD) : Nat :=
  let c0_i32_1704 : BitVec 32 := 0#32
  let c4_i32_46 : BitVec 32 := 4#32
  let c4_i32_17 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let v43 : BitVec 32 := Scalar.muli c4_i32_17 v12
  let c2_i32 : BitVec 32 := 2#32
  let c0_i32_11 : BitVec 32 := 0#32
  let v30 : BitVec 1 := Scalar.cmpi .eq c2_i32 c0_i32_11
  let c1_i32_12 : BitVec 32 := 1#32
  let v31 : BitVec 32 := Scalar.select v30 c1_i32_12 c2_i32
  let v32 : BitVec 32 := Scalar.remsi v12 v31
  let c0_i32_14 : BitVec 32 := 0#32
  let v34 : BitVec 1 := Scalar.cmpi .slt v32 c0_i32_14
  let c0_i32_15 : BitVec 32 := 0#32
  let v35 : BitVec 1 := Scalar.cmpi .slt v31 c0_i32_15
  let v36 : BitVec 1 := Scalar.xori v34 v35
  let c0_i32_13 : BitVec 32 := 0#32
  let v33 : BitVec 1 := Scalar.cmpi .ne v32 c0_i32_13
  let v37 : BitVec 1 := Scalar.andi v36 v33
  let v38 : BitVec 32 := Scalar.addi v32 v31
  let v39 : BitVec 32 := Scalar.select v37 v38 v32
  let c0_i32_16 : BitVec 32 := 0#32
  let v40 : BitVec 1 := Scalar.cmpi .eq v39 c0_i32_16
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c4_i32_4 : BitVec 32 := 4#32
  let c0_i32_7 : BitVec 32 := 0#32
  let v19 : BitVec 1 := Scalar.cmpi .sgt c4_i32_4 c0_i32_7
  let v20 : BitVec 32 := Scalar.extui v19
  let c0_i32_8 : BitVec 32 := 0#32
  let v21 : BitVec 1 := Scalar.cmpi .slt c4_i32_4 c0_i32_8
  let v22 : BitVec 32 := Scalar.extui v21
  let v23 : BitVec 32 := Scalar.subi v20 v22
  let v24 : BitVec 1 := Scalar.cmpi .ne v18 v23
  let v25 : BitVec 32 := Scalar.remsi v2 c4_i32_4
  let c0_i32_9 : BitVec 32 := 0#32
  let v26 : BitVec 1 := Scalar.cmpi .ne v25 c0_i32_9
  let v27 : BitVec 1 := Scalar.andi v24 v26
  let v13 : BitVec 32 := Scalar.divsi v2 c4_i32_4
  let c1_i32_10 : BitVec 32 := 1#32
  let v28 : BitVec 32 := Scalar.subi v13 c1_i32_10
  let v29 : BitVec 32 := Scalar.select v27 v28 v13
  let c3_i32 : BitVec 32 := 3#32
  let v41 : BitVec 32 := Scalar.subi c3_i32 v29
  let v42 : BitVec 32 := Scalar.select v40 v29 v41
  let v44 : BitVec 32 := Scalar.addi v43 v42
  let c1_i32_18 : BitVec 32 := 1#32
  let v45 : BitVec 32 := Scalar.addi v44 c1_i32_18
  let c16_i32_19 : BitVec 32 := 16#32
  let c0_i32_20 : BitVec 32 := 0#32
  let v46 : BitVec 1 := Scalar.cmpi .eq c16_i32_19 c0_i32_20
  let c1_i32_21 : BitVec 32 := 1#32
  let v47 : BitVec 32 := Scalar.select v46 c1_i32_21 c16_i32_19
  let v48 : BitVec 32 := Scalar.remsi v45 v47
  let c0_i32_23 : BitVec 32 := 0#32
  let v50 : BitVec 1 := Scalar.cmpi .slt v48 c0_i32_23
  let c0_i32_24 : BitVec 32 := 0#32
  let v51 : BitVec 1 := Scalar.cmpi .slt v47 c0_i32_24
  let v52 : BitVec 1 := Scalar.xori v50 v51
  let c0_i32_22 : BitVec 32 := 0#32
  let v49 : BitVec 1 := Scalar.cmpi .ne v48 c0_i32_22
  let v53 : BitVec 1 := Scalar.andi v52 v49
  let v54 : BitVec 32 := Scalar.addi v48 v47
  let v55 : BitVec 32 := Scalar.select v53 v54 v48
  let c0_i32_26 : BitVec 32 := 0#32
  let v57 : BitVec 1 := Scalar.cmpi .sgt v55 c0_i32_26
  let v58 : BitVec 32 := Scalar.extui v57
  let c0_i32_27 : BitVec 32 := 0#32
  let v59 : BitVec 1 := Scalar.cmpi .slt v55 c0_i32_27
  let v60 : BitVec 32 := Scalar.extui v59
  let v61 : BitVec 32 := Scalar.subi v58 v60
  let c4_i32_25 : BitVec 32 := 4#32
  let c0_i32_28 : BitVec 32 := 0#32
  let v62 : BitVec 1 := Scalar.cmpi .sgt c4_i32_25 c0_i32_28
  let v63 : BitVec 32 := Scalar.extui v62
  let c0_i32_29 : BitVec 32 := 0#32
  let v64 : BitVec 1 := Scalar.cmpi .slt c4_i32_25 c0_i32_29
  let v65 : BitVec 32 := Scalar.extui v64
  let v66 : BitVec 32 := Scalar.subi v63 v65
  let v67 : BitVec 1 := Scalar.cmpi .ne v61 v66
  let v68 : BitVec 32 := Scalar.remsi v55 c4_i32_25
  let c0_i32_30 : BitVec 32 := 0#32
  let v69 : BitVec 1 := Scalar.cmpi .ne v68 c0_i32_30
  let v70 : BitVec 1 := Scalar.andi v67 v69
  let v56 : BitVec 32 := Scalar.divsi v55 c4_i32_25
  let c1_i32_31 : BitVec 32 := 1#32
  let v71 : BitVec 32 := Scalar.subi v56 c1_i32_31
  let v72 : BitVec 32 := Scalar.select v70 v71 v56
  let c2_i32_38 : BitVec 32 := 2#32
  let c0_i32_39 : BitVec 32 := 0#32
  let v83 : BitVec 1 := Scalar.cmpi .eq c2_i32_38 c0_i32_39
  let c1_i32_40 : BitVec 32 := 1#32
  let v84 : BitVec 32 := Scalar.select v83 c1_i32_40 c2_i32_38
  let v85 : BitVec 32 := Scalar.remsi v72 v84
  let c0_i32_42 : BitVec 32 := 0#32
  let v87 : BitVec 1 := Scalar.cmpi .slt v85 c0_i32_42
  let c0_i32_43 : BitVec 32 := 0#32
  let v88 : BitVec 1 := Scalar.cmpi .slt v84 c0_i32_43
  let v89 : BitVec 1 := Scalar.xori v87 v88
  let c0_i32_41 : BitVec 32 := 0#32
  let v86 : BitVec 1 := Scalar.cmpi .ne v85 c0_i32_41
  let v90 : BitVec 1 := Scalar.andi v89 v86
  let v91 : BitVec 32 := Scalar.addi v85 v84
  let v92 : BitVec 32 := Scalar.select v90 v91 v85
  let c0_i32_44 : BitVec 32 := 0#32
  let v93 : BitVec 1 := Scalar.cmpi .eq v92 c0_i32_44
  let c4_i32_32 : BitVec 32 := 4#32
  let c0_i32_33 : BitVec 32 := 0#32
  let v73 : BitVec 1 := Scalar.cmpi .eq c4_i32_32 c0_i32_33
  let c1_i32_34 : BitVec 32 := 1#32
  let v74 : BitVec 32 := Scalar.select v73 c1_i32_34 c4_i32_32
  let v75 : BitVec 32 := Scalar.remsi v55 v74
  let c0_i32_36 : BitVec 32 := 0#32
  let v77 : BitVec 1 := Scalar.cmpi .slt v75 c0_i32_36
  let c0_i32_37 : BitVec 32 := 0#32
  let v78 : BitVec 1 := Scalar.cmpi .slt v74 c0_i32_37
  let v79 : BitVec 1 := Scalar.xori v77 v78
  let c0_i32_35 : BitVec 32 := 0#32
  let v76 : BitVec 1 := Scalar.cmpi .ne v75 c0_i32_35
  let v80 : BitVec 1 := Scalar.andi v79 v76
  let v81 : BitVec 32 := Scalar.addi v75 v74
  let v82 : BitVec 32 := Scalar.select v80 v81 v75
  let c3_i32_45 : BitVec 32 := 3#32
  let v94 : BitVec 32 := Scalar.subi c3_i32_45 v82
  let v95 : BitVec 32 := Scalar.select v93 v82 v94
  let v96 : BitVec 32 := Scalar.muli c4_i32_46 v95
  let v97 : BitVec 32 := Scalar.addi v96 v72
  let c1_i32_1703 : BitVec 32 := 1#32
  let v2335 : BitVec 32 := Scalar.muli v97 c1_i32_1703
  let v2336 : BitVec 32 := Scalar.addi c0_i32_1704 v2335
  v2336.toNat
def k0_dev46 (d0 : Dev nD) : Nat :=
  let c0_i32_1716 : BitVec 32 := 0#32
  let c4_i32_75 : BitVec 32 := 4#32
  let c4_i32_17 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let v43 : BitVec 32 := Scalar.muli c4_i32_17 v12
  let c2_i32 : BitVec 32 := 2#32
  let c0_i32_11 : BitVec 32 := 0#32
  let v30 : BitVec 1 := Scalar.cmpi .eq c2_i32 c0_i32_11
  let c1_i32_12 : BitVec 32 := 1#32
  let v31 : BitVec 32 := Scalar.select v30 c1_i32_12 c2_i32
  let v32 : BitVec 32 := Scalar.remsi v12 v31
  let c0_i32_14 : BitVec 32 := 0#32
  let v34 : BitVec 1 := Scalar.cmpi .slt v32 c0_i32_14
  let c0_i32_15 : BitVec 32 := 0#32
  let v35 : BitVec 1 := Scalar.cmpi .slt v31 c0_i32_15
  let v36 : BitVec 1 := Scalar.xori v34 v35
  let c0_i32_13 : BitVec 32 := 0#32
  let v33 : BitVec 1 := Scalar.cmpi .ne v32 c0_i32_13
  let v37 : BitVec 1 := Scalar.andi v36 v33
  let v38 : BitVec 32 := Scalar.addi v32 v31
  let v39 : BitVec 32 := Scalar.select v37 v38 v32
  let c0_i32_16 : BitVec 32 := 0#32
  let v40 : BitVec 1 := Scalar.cmpi .eq v39 c0_i32_16
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c4_i32_4 : BitVec 32 := 4#32
  let c0_i32_7 : BitVec 32 := 0#32
  let v19 : BitVec 1 := Scalar.cmpi .sgt c4_i32_4 c0_i32_7
  let v20 : BitVec 32 := Scalar.extui v19
  let c0_i32_8 : BitVec 32 := 0#32
  let v21 : BitVec 1 := Scalar.cmpi .slt c4_i32_4 c0_i32_8
  let v22 : BitVec 32 := Scalar.extui v21
  let v23 : BitVec 32 := Scalar.subi v20 v22
  let v24 : BitVec 1 := Scalar.cmpi .ne v18 v23
  let v25 : BitVec 32 := Scalar.remsi v2 c4_i32_4
  let c0_i32_9 : BitVec 32 := 0#32
  let v26 : BitVec 1 := Scalar.cmpi .ne v25 c0_i32_9
  let v27 : BitVec 1 := Scalar.andi v24 v26
  let v13 : BitVec 32 := Scalar.divsi v2 c4_i32_4
  let c1_i32_10 : BitVec 32 := 1#32
  let v28 : BitVec 32 := Scalar.subi v13 c1_i32_10
  let v29 : BitVec 32 := Scalar.select v27 v28 v13
  let c3_i32 : BitVec 32 := 3#32
  let v41 : BitVec 32 := Scalar.subi c3_i32 v29
  let v42 : BitVec 32 := Scalar.select v40 v29 v41
  let v44 : BitVec 32 := Scalar.addi v43 v42
  let c1_i32_47 : BitVec 32 := 1#32
  let v98 : BitVec 32 := Scalar.subi v44 c1_i32_47
  let c16_i32_48 : BitVec 32 := 16#32
  let c0_i32_49 : BitVec 32 := 0#32
  let v99 : BitVec 1 := Scalar.cmpi .eq c16_i32_48 c0_i32_49
  let c1_i32_50 : BitVec 32 := 1#32
  let v100 : BitVec 32 := Scalar.select v99 c1_i32_50 c16_i32_48
  let v101 : BitVec 32 := Scalar.remsi v98 v100
  let c0_i32_52 : BitVec 32 := 0#32
  let v103 : BitVec 1 := Scalar.cmpi .slt v101 c0_i32_52
  let c0_i32_53 : BitVec 32 := 0#32
  let v104 : BitVec 1 := Scalar.cmpi .slt v100 c0_i32_53
  let v105 : BitVec 1 := Scalar.xori v103 v104
  let c0_i32_51 : BitVec 32 := 0#32
  let v102 : BitVec 1 := Scalar.cmpi .ne v101 c0_i32_51
  let v106 : BitVec 1 := Scalar.andi v105 v102
  let v107 : BitVec 32 := Scalar.addi v101 v100
  let v108 : BitVec 32 := Scalar.select v106 v107 v101
  let c0_i32_55 : BitVec 32 := 0#32
  let v110 : BitVec 1 := Scalar.cmpi .sgt v108 c0_i32_55
  let v111 : BitVec 32 := Scalar.extui v110
  let c0_i32_56 : BitVec 32 := 0#32
  let v112 : BitVec 1 := Scalar.cmpi .slt v108 c0_i32_56
  let v113 : BitVec 32 := Scalar.extui v112
  let v114 : BitVec 32 := Scalar.subi v111 v113
  let c4_i32_54 : BitVec 32 := 4#32
  let c0_i32_57 : BitVec 32 := 0#32
  let v115 : BitVec 1 := Scalar.cmpi .sgt c4_i32_54 c0_i32_57
  let v116 : BitVec 32 := Scalar.extui v115
  let c0_i32_58 : BitVec 32 := 0#32
  let v117 : BitVec 1 := Scalar.cmpi .slt c4_i32_54 c0_i32_58
  let v118 : BitVec 32 := Scalar.extui v117
  let v119 : BitVec 32 := Scalar.subi v116 v118
  let v120 : BitVec 1 := Scalar.cmpi .ne v114 v119
  let v121 : BitVec 32 := Scalar.remsi v108 c4_i32_54
  let c0_i32_59 : BitVec 32 := 0#32
  let v122 : BitVec 1 := Scalar.cmpi .ne v121 c0_i32_59
  let v123 : BitVec 1 := Scalar.andi v120 v122
  let v109 : BitVec 32 := Scalar.divsi v108 c4_i32_54
  let c1_i32_60 : BitVec 32 := 1#32
  let v124 : BitVec 32 := Scalar.subi v109 c1_i32_60
  let v125 : BitVec 32 := Scalar.select v123 v124 v109
  let c2_i32_67 : BitVec 32 := 2#32
  let c0_i32_68 : BitVec 32 := 0#32
  let v136 : BitVec 1 := Scalar.cmpi .eq c2_i32_67 c0_i32_68
  let c1_i32_69 : BitVec 32 := 1#32
  let v137 : BitVec 32 := Scalar.select v136 c1_i32_69 c2_i32_67
  let v138 : BitVec 32 := Scalar.remsi v125 v137
  let c0_i32_71 : BitVec 32 := 0#32
  let v140 : BitVec 1 := Scalar.cmpi .slt v138 c0_i32_71
  let c0_i32_72 : BitVec 32 := 0#32
  let v141 : BitVec 1 := Scalar.cmpi .slt v137 c0_i32_72
  let v142 : BitVec 1 := Scalar.xori v140 v141
  let c0_i32_70 : BitVec 32 := 0#32
  let v139 : BitVec 1 := Scalar.cmpi .ne v138 c0_i32_70
  let v143 : BitVec 1 := Scalar.andi v142 v139
  let v144 : BitVec 32 := Scalar.addi v138 v137
  let v145 : BitVec 32 := Scalar.select v143 v144 v138
  let c0_i32_73 : BitVec 32 := 0#32
  let v146 : BitVec 1 := Scalar.cmpi .eq v145 c0_i32_73
  let c4_i32_61 : BitVec 32 := 4#32
  let c0_i32_62 : BitVec 32 := 0#32
  let v126 : BitVec 1 := Scalar.cmpi .eq c4_i32_61 c0_i32_62
  let c1_i32_63 : BitVec 32 := 1#32
  let v127 : BitVec 32 := Scalar.select v126 c1_i32_63 c4_i32_61
  let v128 : BitVec 32 := Scalar.remsi v108 v127
  let c0_i32_65 : BitVec 32 := 0#32
  let v130 : BitVec 1 := Scalar.cmpi .slt v128 c0_i32_65
  let c0_i32_66 : BitVec 32 := 0#32
  let v131 : BitVec 1 := Scalar.cmpi .slt v127 c0_i32_66
  let v132 : BitVec 1 := Scalar.xori v130 v131
  let c0_i32_64 : BitVec 32 := 0#32
  let v129 : BitVec 1 := Scalar.cmpi .ne v128 c0_i32_64
  let v133 : BitVec 1 := Scalar.andi v132 v129
  let v134 : BitVec 32 := Scalar.addi v128 v127
  let v135 : BitVec 32 := Scalar.select v133 v134 v128
  let c3_i32_74 : BitVec 32 := 3#32
  let v147 : BitVec 32 := Scalar.subi c3_i32_74 v135
  let v148 : BitVec 32 := Scalar.select v146 v135 v147
  let v149 : BitVec 32 := Scalar.muli c4_i32_75 v148
  let v150 : BitVec 32 := Scalar.addi v149 v125
  let c1_i32_1715 : BitVec 32 := 1#32
  let v2345 : BitVec 32 := Scalar.muli v150 c1_i32_1715
  let v2346 : BitVec 32 := Scalar.addi c0_i32_1716 v2345
  v2346.toNat
def k0_dev47 (d0 : Dev nD) : Nat :=
  let c0_i32_1873 : BitVec 32 := 0#32
  let c4_i32_75 : BitVec 32 := 4#32
  let c4_i32_17 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let v43 : BitVec 32 := Scalar.muli c4_i32_17 v12
  let c2_i32 : BitVec 32 := 2#32
  let c0_i32_11 : BitVec 32 := 0#32
  let v30 : BitVec 1 := Scalar.cmpi .eq c2_i32 c0_i32_11
  let c1_i32_12 : BitVec 32 := 1#32
  let v31 : BitVec 32 := Scalar.select v30 c1_i32_12 c2_i32
  let v32 : BitVec 32 := Scalar.remsi v12 v31
  let c0_i32_14 : BitVec 32 := 0#32
  let v34 : BitVec 1 := Scalar.cmpi .slt v32 c0_i32_14
  let c0_i32_15 : BitVec 32 := 0#32
  let v35 : BitVec 1 := Scalar.cmpi .slt v31 c0_i32_15
  let v36 : BitVec 1 := Scalar.xori v34 v35
  let c0_i32_13 : BitVec 32 := 0#32
  let v33 : BitVec 1 := Scalar.cmpi .ne v32 c0_i32_13
  let v37 : BitVec 1 := Scalar.andi v36 v33
  let v38 : BitVec 32 := Scalar.addi v32 v31
  let v39 : BitVec 32 := Scalar.select v37 v38 v32
  let c0_i32_16 : BitVec 32 := 0#32
  let v40 : BitVec 1 := Scalar.cmpi .eq v39 c0_i32_16
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c4_i32_4 : BitVec 32 := 4#32
  let c0_i32_7 : BitVec 32 := 0#32
  let v19 : BitVec 1 := Scalar.cmpi .sgt c4_i32_4 c0_i32_7
  let v20 : BitVec 32 := Scalar.extui v19
  let c0_i32_8 : BitVec 32 := 0#32
  let v21 : BitVec 1 := Scalar.cmpi .slt c4_i32_4 c0_i32_8
  let v22 : BitVec 32 := Scalar.extui v21
  let v23 : BitVec 32 := Scalar.subi v20 v22
  let v24 : BitVec 1 := Scalar.cmpi .ne v18 v23
  let v25 : BitVec 32 := Scalar.remsi v2 c4_i32_4
  let c0_i32_9 : BitVec 32 := 0#32
  let v26 : BitVec 1 := Scalar.cmpi .ne v25 c0_i32_9
  let v27 : BitVec 1 := Scalar.andi v24 v26
  let v13 : BitVec 32 := Scalar.divsi v2 c4_i32_4
  let c1_i32_10 : BitVec 32 := 1#32
  let v28 : BitVec 32 := Scalar.subi v13 c1_i32_10
  let v29 : BitVec 32 := Scalar.select v27 v28 v13
  let c3_i32 : BitVec 32 := 3#32
  let v41 : BitVec 32 := Scalar.subi c3_i32 v29
  let v42 : BitVec 32 := Scalar.select v40 v29 v41
  let v44 : BitVec 32 := Scalar.addi v43 v42
  let c1_i32_47 : BitVec 32 := 1#32
  let v98 : BitVec 32 := Scalar.subi v44 c1_i32_47
  let c16_i32_48 : BitVec 32 := 16#32
  let c0_i32_49 : BitVec 32 := 0#32
  let v99 : BitVec 1 := Scalar.cmpi .eq c16_i32_48 c0_i32_49
  let c1_i32_50 : BitVec 32 := 1#32
  let v100 : BitVec 32 := Scalar.select v99 c1_i32_50 c16_i32_48
  let v101 : BitVec 32 := Scalar.remsi v98 v100
  let c0_i32_52 : BitVec 32 := 0#32
  let v103 : BitVec 1 := Scalar.cmpi .slt v101 c0_i32_52
  let c0_i32_53 : BitVec 32 := 0#32
  let v104 : BitVec 1 := Scalar.cmpi .slt v100 c0_i32_53
  let v105 : BitVec 1 := Scalar.xori v103 v104
  let c0_i32_51 : BitVec 32 := 0#32
  let v102 : BitVec 1 := Scalar.cmpi .ne v101 c0_i32_51
  let v106 : BitVec 1 := Scalar.andi v105 v102
  let v107 : BitVec 32 := Scalar.addi v101 v100
  let v108 : BitVec 32 := Scalar.select v106 v107 v101
  let c0_i32_55 : BitVec 32 := 0#32
  let v110 : BitVec 1 := Scalar.cmpi .sgt v108 c0_i32_55
  let v111 : BitVec 32 := Scalar.extui v110
  let c0_i32_56 : BitVec 32 := 0#32
  let v112 : BitVec 1 := Scalar.cmpi .slt v108 c0_i32_56
  let v113 : BitVec 32 := Scalar.extui v112
  let v114 : BitVec 32 := Scalar.subi v111 v113
  let c4_i32_54 : BitVec 32 := 4#32
  let c0_i32_57 : BitVec 32 := 0#32
  let v115 : BitVec 1 := Scalar.cmpi .sgt c4_i32_54 c0_i32_57
  let v116 : BitVec 32 := Scalar.extui v115
  let c0_i32_58 : BitVec 32 := 0#32
  let v117 : BitVec 1 := Scalar.cmpi .slt c4_i32_54 c0_i32_58
  let v118 : BitVec 32 := Scalar.extui v117
  let v119 : BitVec 32 := Scalar.subi v116 v118
  let v120 : BitVec 1 := Scalar.cmpi .ne v114 v119
  let v121 : BitVec 32 := Scalar.remsi v108 c4_i32_54
  let c0_i32_59 : BitVec 32 := 0#32
  let v122 : BitVec 1 := Scalar.cmpi .ne v121 c0_i32_59
  let v123 : BitVec 1 := Scalar.andi v120 v122
  let v109 : BitVec 32 := Scalar.divsi v108 c4_i32_54
  let c1_i32_60 : BitVec 32 := 1#32
  let v124 : BitVec 32 := Scalar.subi v109 c1_i32_60
  let v125 : BitVec 32 := Scalar.select v123 v124 v109
  let c2_i32_67 : BitVec 32 := 2#32
  let c0_i32_68 : BitVec 32 := 0#32
  let v136 : BitVec 1 := Scalar.cmpi .eq c2_i32_67 c0_i32_68
  let c1_i32_69 : BitVec 32 := 1#32
  let v137 : BitVec 32 := Scalar.select v136 c1_i32_69 c2_i32_67
  let v138 : BitVec 32 := Scalar.remsi v125 v137
  let c0_i32_71 : BitVec 32 := 0#32
  let v140 : BitVec 1 := Scalar.cmpi .slt v138 c0_i32_71
  let c0_i32_72 : BitVec 32 := 0#32
  let v141 : BitVec 1 := Scalar.cmpi .slt v137 c0_i32_72
  let v142 : BitVec 1 := Scalar.xori v140 v141
  let c0_i32_70 : BitVec 32 := 0#32
  let v139 : BitVec 1 := Scalar.cmpi .ne v138 c0_i32_70
  let v143 : BitVec 1 := Scalar.andi v142 v139
  let v144 : BitVec 32 := Scalar.addi v138 v137
  let v145 : BitVec 32 := Scalar.select v143 v144 v138
  let c0_i32_73 : BitVec 32 := 0#32
  let v146 : BitVec 1 := Scalar.cmpi .eq v145 c0_i32_73
  let c4_i32_61 : BitVec 32 := 4#32
  let c0_i32_62 : BitVec 32 := 0#32
  let v126 : BitVec 1 := Scalar.cmpi .eq c4_i32_61 c0_i32_62
  let c1_i32_63 : BitVec 32 := 1#32
  let v127 : BitVec 32 := Scalar.select v126 c1_i32_63 c4_i32_61
  let v128 : BitVec 32 := Scalar.remsi v108 v127
  let c0_i32_65 : BitVec 32 := 0#32
  let v130 : BitVec 1 := Scalar.cmpi .slt v128 c0_i32_65
  let c0_i32_66 : BitVec 32 := 0#32
  let v131 : BitVec 1 := Scalar.cmpi .slt v127 c0_i32_66
  let v132 : BitVec 1 := Scalar.xori v130 v131
  let c0_i32_64 : BitVec 32 := 0#32
  let v129 : BitVec 1 := Scalar.cmpi .ne v128 c0_i32_64
  let v133 : BitVec 1 := Scalar.andi v132 v129
  let v134 : BitVec 32 := Scalar.addi v128 v127
  let v135 : BitVec 32 := Scalar.select v133 v134 v128
  let c3_i32_74 : BitVec 32 := 3#32
  let v147 : BitVec 32 := Scalar.subi c3_i32_74 v135
  let v148 : BitVec 32 := Scalar.select v146 v135 v147
  let v149 : BitVec 32 := Scalar.muli c4_i32_75 v148
  let v150 : BitVec 32 := Scalar.addi v149 v125
  let c1_i32_1872 : BitVec 32 := 1#32
  let v2613 : BitVec 32 := Scalar.muli v150 c1_i32_1872
  let v2614 : BitVec 32 := Scalar.addi c0_i32_1873 v2613
  v2614.toNat
def k0_dev48 (d0 : Dev nD) : Nat :=
  let c0_i32_1901 : BitVec 32 := 0#32
  let c4_i32_46 : BitVec 32 := 4#32
  let c4_i32_17 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let v43 : BitVec 32 := Scalar.muli c4_i32_17 v12
  let c2_i32 : BitVec 32 := 2#32
  let c0_i32_11 : BitVec 32 := 0#32
  let v30 : BitVec 1 := Scalar.cmpi .eq c2_i32 c0_i32_11
  let c1_i32_12 : BitVec 32 := 1#32
  let v31 : BitVec 32 := Scalar.select v30 c1_i32_12 c2_i32
  let v32 : BitVec 32 := Scalar.remsi v12 v31
  let c0_i32_14 : BitVec 32 := 0#32
  let v34 : BitVec 1 := Scalar.cmpi .slt v32 c0_i32_14
  let c0_i32_15 : BitVec 32 := 0#32
  let v35 : BitVec 1 := Scalar.cmpi .slt v31 c0_i32_15
  let v36 : BitVec 1 := Scalar.xori v34 v35
  let c0_i32_13 : BitVec 32 := 0#32
  let v33 : BitVec 1 := Scalar.cmpi .ne v32 c0_i32_13
  let v37 : BitVec 1 := Scalar.andi v36 v33
  let v38 : BitVec 32 := Scalar.addi v32 v31
  let v39 : BitVec 32 := Scalar.select v37 v38 v32
  let c0_i32_16 : BitVec 32 := 0#32
  let v40 : BitVec 1 := Scalar.cmpi .eq v39 c0_i32_16
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c4_i32_4 : BitVec 32 := 4#32
  let c0_i32_7 : BitVec 32 := 0#32
  let v19 : BitVec 1 := Scalar.cmpi .sgt c4_i32_4 c0_i32_7
  let v20 : BitVec 32 := Scalar.extui v19
  let c0_i32_8 : BitVec 32 := 0#32
  let v21 : BitVec 1 := Scalar.cmpi .slt c4_i32_4 c0_i32_8
  let v22 : BitVec 32 := Scalar.extui v21
  let v23 : BitVec 32 := Scalar.subi v20 v22
  let v24 : BitVec 1 := Scalar.cmpi .ne v18 v23
  let v25 : BitVec 32 := Scalar.remsi v2 c4_i32_4
  let c0_i32_9 : BitVec 32 := 0#32
  let v26 : BitVec 1 := Scalar.cmpi .ne v25 c0_i32_9
  let v27 : BitVec 1 := Scalar.andi v24 v26
  let v13 : BitVec 32 := Scalar.divsi v2 c4_i32_4
  let c1_i32_10 : BitVec 32 := 1#32
  let v28 : BitVec 32 := Scalar.subi v13 c1_i32_10
  let v29 : BitVec 32 := Scalar.select v27 v28 v13
  let c3_i32 : BitVec 32 := 3#32
  let v41 : BitVec 32 := Scalar.subi c3_i32 v29
  let v42 : BitVec 32 := Scalar.select v40 v29 v41
  let v44 : BitVec 32 := Scalar.addi v43 v42
  let c1_i32_18 : BitVec 32 := 1#32
  let v45 : BitVec 32 := Scalar.addi v44 c1_i32_18
  let c16_i32_19 : BitVec 32 := 16#32
  let c0_i32_20 : BitVec 32 := 0#32
  let v46 : BitVec 1 := Scalar.cmpi .eq c16_i32_19 c0_i32_20
  let c1_i32_21 : BitVec 32 := 1#32
  let v47 : BitVec 32 := Scalar.select v46 c1_i32_21 c16_i32_19
  let v48 : BitVec 32 := Scalar.remsi v45 v47
  let c0_i32_23 : BitVec 32 := 0#32
  let v50 : BitVec 1 := Scalar.cmpi .slt v48 c0_i32_23
  let c0_i32_24 : BitVec 32 := 0#32
  let v51 : BitVec 1 := Scalar.cmpi .slt v47 c0_i32_24
  let v52 : BitVec 1 := Scalar.xori v50 v51
  let c0_i32_22 : BitVec 32 := 0#32
  let v49 : BitVec 1 := Scalar.cmpi .ne v48 c0_i32_22
  let v53 : BitVec 1 := Scalar.andi v52 v49
  let v54 : BitVec 32 := Scalar.addi v48 v47
  let v55 : BitVec 32 := Scalar.select v53 v54 v48
  let c0_i32_26 : BitVec 32 := 0#32
  let v57 : BitVec 1 := Scalar.cmpi .sgt v55 c0_i32_26
  let v58 : BitVec 32 := Scalar.extui v57
  let c0_i32_27 : BitVec 32 := 0#32
  let v59 : BitVec 1 := Scalar.cmpi .slt v55 c0_i32_27
  let v60 : BitVec 32 := Scalar.extui v59
  let v61 : BitVec 32 := Scalar.subi v58 v60
  let c4_i32_25 : BitVec 32 := 4#32
  let c0_i32_28 : BitVec 32 := 0#32
  let v62 : BitVec 1 := Scalar.cmpi .sgt c4_i32_25 c0_i32_28
  let v63 : BitVec 32 := Scalar.extui v62
  let c0_i32_29 : BitVec 32 := 0#32
  let v64 : BitVec 1 := Scalar.cmpi .slt c4_i32_25 c0_i32_29
  let v65 : BitVec 32 := Scalar.extui v64
  let v66 : BitVec 32 := Scalar.subi v63 v65
  let v67 : BitVec 1 := Scalar.cmpi .ne v61 v66
  let v68 : BitVec 32 := Scalar.remsi v55 c4_i32_25
  let c0_i32_30 : BitVec 32 := 0#32
  let v69 : BitVec 1 := Scalar.cmpi .ne v68 c0_i32_30
  let v70 : BitVec 1 := Scalar.andi v67 v69
  let v56 : BitVec 32 := Scalar.divsi v55 c4_i32_25
  let c1_i32_31 : BitVec 32 := 1#32
  let v71 : BitVec 32 := Scalar.subi v56 c1_i32_31
  let v72 : BitVec 32 := Scalar.select v70 v71 v56
  let c2_i32_38 : BitVec 32 := 2#32
  let c0_i32_39 : BitVec 32 := 0#32
  let v83 : BitVec 1 := Scalar.cmpi .eq c2_i32_38 c0_i32_39
  let c1_i32_40 : BitVec 32 := 1#32
  let v84 : BitVec 32 := Scalar.select v83 c1_i32_40 c2_i32_38
  let v85 : BitVec 32 := Scalar.remsi v72 v84
  let c0_i32_42 : BitVec 32 := 0#32
  let v87 : BitVec 1 := Scalar.cmpi .slt v85 c0_i32_42
  let c0_i32_43 : BitVec 32 := 0#32
  let v88 : BitVec 1 := Scalar.cmpi .slt v84 c0_i32_43
  let v89 : BitVec 1 := Scalar.xori v87 v88
  let c0_i32_41 : BitVec 32 := 0#32
  let v86 : BitVec 1 := Scalar.cmpi .ne v85 c0_i32_41
  let v90 : BitVec 1 := Scalar.andi v89 v86
  let v91 : BitVec 32 := Scalar.addi v85 v84
  let v92 : BitVec 32 := Scalar.select v90 v91 v85
  let c0_i32_44 : BitVec 32 := 0#32
  let v93 : BitVec 1 := Scalar.cmpi .eq v92 c0_i32_44
  let c4_i32_32 : BitVec 32 := 4#32
  let c0_i32_33 : BitVec 32 := 0#32
  let v73 : BitVec 1 := Scalar.cmpi .eq c4_i32_32 c0_i32_33
  let c1_i32_34 : BitVec 32 := 1#32
  let v74 : BitVec 32 := Scalar.select v73 c1_i32_34 c4_i32_32
  let v75 : BitVec 32 := Scalar.remsi v55 v74
  let c0_i32_36 : BitVec 32 := 0#32
  let v77 : BitVec 1 := Scalar.cmpi .slt v75 c0_i32_36
  let c0_i32_37 : BitVec 32 := 0#32
  let v78 : BitVec 1 := Scalar.cmpi .slt v74 c0_i32_37
  let v79 : BitVec 1 := Scalar.xori v77 v78
  let c0_i32_35 : BitVec 32 := 0#32
  let v76 : BitVec 1 := Scalar.cmpi .ne v75 c0_i32_35
  let v80 : BitVec 1 := Scalar.andi v79 v76
  let v81 : BitVec 32 := Scalar.addi v75 v74
  let v82 : BitVec 32 := Scalar.select v80 v81 v75
  let c3_i32_45 : BitVec 32 := 3#32
  let v94 : BitVec 32 := Scalar.subi c3_i32_45 v82
  let v95 : BitVec 32 := Scalar.select v93 v82 v94
  let v96 : BitVec 32 := Scalar.muli c4_i32_46 v95
  let v97 : BitVec 32 := Scalar.addi v96 v72
  let c1_i32_1900 : BitVec 32 := 1#32
  let v2637 : BitVec 32 := Scalar.muli v97 c1_i32_1900
  let v2638 : BitVec 32 := Scalar.addi c0_i32_1901 v2637
  v2638.toNat
def k0_dev49 (d0 : Dev nD) : Nat :=
  let c0_i32_1915 : BitVec 32 := 0#32
  let c4_i32_46 : BitVec 32 := 4#32
  let c4_i32_17 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let v43 : BitVec 32 := Scalar.muli c4_i32_17 v12
  let c2_i32 : BitVec 32 := 2#32
  let c0_i32_11 : BitVec 32 := 0#32
  let v30 : BitVec 1 := Scalar.cmpi .eq c2_i32 c0_i32_11
  let c1_i32_12 : BitVec 32 := 1#32
  let v31 : BitVec 32 := Scalar.select v30 c1_i32_12 c2_i32
  let v32 : BitVec 32 := Scalar.remsi v12 v31
  let c0_i32_14 : BitVec 32 := 0#32
  let v34 : BitVec 1 := Scalar.cmpi .slt v32 c0_i32_14
  let c0_i32_15 : BitVec 32 := 0#32
  let v35 : BitVec 1 := Scalar.cmpi .slt v31 c0_i32_15
  let v36 : BitVec 1 := Scalar.xori v34 v35
  let c0_i32_13 : BitVec 32 := 0#32
  let v33 : BitVec 1 := Scalar.cmpi .ne v32 c0_i32_13
  let v37 : BitVec 1 := Scalar.andi v36 v33
  let v38 : BitVec 32 := Scalar.addi v32 v31
  let v39 : BitVec 32 := Scalar.select v37 v38 v32
  let c0_i32_16 : BitVec 32 := 0#32
  let v40 : BitVec 1 := Scalar.cmpi .eq v39 c0_i32_16
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c4_i32_4 : BitVec 32 := 4#32
  let c0_i32_7 : BitVec 32 := 0#32
  let v19 : BitVec 1 := Scalar.cmpi .sgt c4_i32_4 c0_i32_7
  let v20 : BitVec 32 := Scalar.extui v19
  let c0_i32_8 : BitVec 32 := 0#32
  let v21 : BitVec 1 := Scalar.cmpi .slt c4_i32_4 c0_i32_8
  let v22 : BitVec 32 := Scalar.extui v21
  let v23 : BitVec 32 := Scalar.subi v20 v22
  let v24 : BitVec 1 := Scalar.cmpi .ne v18 v23
  let v25 : BitVec 32 := Scalar.remsi v2 c4_i32_4
  let c0_i32_9 : BitVec 32 := 0#32
  let v26 : BitVec 1 := Scalar.cmpi .ne v25 c0_i32_9
  let v27 : BitVec 1 := Scalar.andi v24 v26
  let v13 : BitVec 32 := Scalar.divsi v2 c4_i32_4
  let c1_i32_10 : BitVec 32 := 1#32
  let v28 : BitVec 32 := Scalar.subi v13 c1_i32_10
  let v29 : BitVec 32 := Scalar.select v27 v28 v13
  let c3_i32 : BitVec 32 := 3#32
  let v41 : BitVec 32 := Scalar.subi c3_i32 v29
  let v42 : BitVec 32 := Scalar.select v40 v29 v41
  let v44 : BitVec 32 := Scalar.addi v43 v42
  let c1_i32_18 : BitVec 32 := 1#32
  let v45 : BitVec 32 := Scalar.addi v44 c1_i32_18
  let c16_i32_19 : BitVec 32 := 16#32
  let c0_i32_20 : BitVec 32 := 0#32
  let v46 : BitVec 1 := Scalar.cmpi .eq c16_i32_19 c0_i32_20
  let c1_i32_21 : BitVec 32 := 1#32
  let v47 : BitVec 32 := Scalar.select v46 c1_i32_21 c16_i32_19
  let v48 : BitVec 32 := Scalar.remsi v45 v47
  let c0_i32_23 : BitVec 32 := 0#32
  let v50 : BitVec 1 := Scalar.cmpi .slt v48 c0_i32_23
  let c0_i32_24 : BitVec 32 := 0#32
  let v51 : BitVec 1 := Scalar.cmpi .slt v47 c0_i32_24
  let v52 : BitVec 1 := Scalar.xori v50 v51
  let c0_i32_22 : BitVec 32 := 0#32
  let v49 : BitVec 1 := Scalar.cmpi .ne v48 c0_i32_22
  let v53 : BitVec 1 := Scalar.andi v52 v49
  let v54 : BitVec 32 := Scalar.addi v48 v47
  let v55 : BitVec 32 := Scalar.select v53 v54 v48
  let c0_i32_26 : BitVec 32 := 0#32
  let v57 : BitVec 1 := Scalar.cmpi .sgt v55 c0_i32_26
  let v58 : BitVec 32 := Scalar.extui v57
  let c0_i32_27 : BitVec 32 := 0#32
  let v59 : BitVec 1 := Scalar.cmpi .slt v55 c0_i32_27
  let v60 : BitVec 32 := Scalar.extui v59
  let v61 : BitVec 32 := Scalar.subi v58 v60
  let c4_i32_25 : BitVec 32 := 4#32
  let c0_i32_28 : BitVec 32 := 0#32
  let v62 : BitVec 1 := Scalar.cmpi .sgt c4_i32_25 c0_i32_28
  let v63 : BitVec 32 := Scalar.extui v62
  let c0_i32_29 : BitVec 32 := 0#32
  let v64 : BitVec 1 := Scalar.cmpi .slt c4_i32_25 c0_i32_29
  let v65 : BitVec 32 := Scalar.extui v64
  let v66 : BitVec 32 := Scalar.subi v63 v65
  let v67 : BitVec 1 := Scalar.cmpi .ne v61 v66
  let v68 : BitVec 32 := Scalar.remsi v55 c4_i32_25
  let c0_i32_30 : BitVec 32 := 0#32
  let v69 : BitVec 1 := Scalar.cmpi .ne v68 c0_i32_30
  let v70 : BitVec 1 := Scalar.andi v67 v69
  let v56 : BitVec 32 := Scalar.divsi v55 c4_i32_25
  let c1_i32_31 : BitVec 32 := 1#32
  let v71 : BitVec 32 := Scalar.subi v56 c1_i32_31
  let v72 : BitVec 32 := Scalar.select v70 v71 v56
  let c2_i32_38 : BitVec 32 := 2#32
  let c0_i32_39 : BitVec 32 := 0#32
  let v83 : BitVec 1 := Scalar.cmpi .eq c2_i32_38 c0_i32_39
  let c1_i32_40 : BitVec 32 := 1#32
  let v84 : BitVec 32 := Scalar.select v83 c1_i32_40 c2_i32_38
  let v85 : BitVec 32 := Scalar.remsi v72 v84
  let c0_i32_42 : BitVec 32 := 0#32
  let v87 : BitVec 1 := Scalar.cmpi .slt v85 c0_i32_42
  let c0_i32_43 : BitVec 32 := 0#32
  let v88 : BitVec 1 := Scalar.cmpi .slt v84 c0_i32_43
  let v89 : BitVec 1 := Scalar.xori v87 v88
  let c0_i32_41 : BitVec 32 := 0#32
  let v86 : BitVec 1 := Scalar.cmpi .ne v85 c0_i32_41
  let v90 : BitVec 1 := Scalar.andi v89 v86
  let v91 : BitVec 32 := Scalar.addi v85 v84
  let v92 : BitVec 32 := Scalar.select v90 v91 v85
  let c0_i32_44 : BitVec 32 := 0#32
  let v93 : BitVec 1 := Scalar.cmpi .eq v92 c0_i32_44
  let c4_i32_32 : BitVec 32 := 4#32
  let c0_i32_33 : BitVec 32 := 0#32
  let v73 : BitVec 1 := Scalar.cmpi .eq c4_i32_32 c0_i32_33
  let c1_i32_34 : BitVec 32 := 1#32
  let v74 : BitVec 32 := Scalar.select v73 c1_i32_34 c4_i32_32
  let v75 : BitVec 32 := Scalar.remsi v55 v74
  let c0_i32_36 : BitVec 32 := 0#32
  let v77 : BitVec 1 := Scalar.cmpi .slt v75 c0_i32_36
  let c0_i32_37 : BitVec 32 := 0#32
  let v78 : BitVec 1 := Scalar.cmpi .slt v74 c0_i32_37
  let v79 : BitVec 1 := Scalar.xori v77 v78
  let c0_i32_35 : BitVec 32 := 0#32
  let v76 : BitVec 1 := Scalar.cmpi .ne v75 c0_i32_35
  let v80 : BitVec 1 := Scalar.andi v79 v76
  let v81 : BitVec 32 := Scalar.addi v75 v74
  let v82 : BitVec 32 := Scalar.select v80 v81 v75
  let c3_i32_45 : BitVec 32 := 3#32
  let v94 : BitVec 32 := Scalar.subi c3_i32_45 v82
  let v95 : BitVec 32 := Scalar.select v93 v82 v94
  let v96 : BitVec 32 := Scalar.muli c4_i32_46 v95
  let v97 : BitVec 32 := Scalar.addi v96 v72
  let c1_i32_1914 : BitVec 32 := 1#32
  let v2647 : BitVec 32 := Scalar.muli v97 c1_i32_1914
  let v2648 : BitVec 32 := Scalar.addi c0_i32_1915 v2647
  v2648.toNat
def k0_dev50 (d0 : Dev nD) : Nat :=
  let c0_i32_1927 : BitVec 32 := 0#32
  let c4_i32_75 : BitVec 32 := 4#32
  let c4_i32_17 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let v43 : BitVec 32 := Scalar.muli c4_i32_17 v12
  let c2_i32 : BitVec 32 := 2#32
  let c0_i32_11 : BitVec 32 := 0#32
  let v30 : BitVec 1 := Scalar.cmpi .eq c2_i32 c0_i32_11
  let c1_i32_12 : BitVec 32 := 1#32
  let v31 : BitVec 32 := Scalar.select v30 c1_i32_12 c2_i32
  let v32 : BitVec 32 := Scalar.remsi v12 v31
  let c0_i32_14 : BitVec 32 := 0#32
  let v34 : BitVec 1 := Scalar.cmpi .slt v32 c0_i32_14
  let c0_i32_15 : BitVec 32 := 0#32
  let v35 : BitVec 1 := Scalar.cmpi .slt v31 c0_i32_15
  let v36 : BitVec 1 := Scalar.xori v34 v35
  let c0_i32_13 : BitVec 32 := 0#32
  let v33 : BitVec 1 := Scalar.cmpi .ne v32 c0_i32_13
  let v37 : BitVec 1 := Scalar.andi v36 v33
  let v38 : BitVec 32 := Scalar.addi v32 v31
  let v39 : BitVec 32 := Scalar.select v37 v38 v32
  let c0_i32_16 : BitVec 32 := 0#32
  let v40 : BitVec 1 := Scalar.cmpi .eq v39 c0_i32_16
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c4_i32_4 : BitVec 32 := 4#32
  let c0_i32_7 : BitVec 32 := 0#32
  let v19 : BitVec 1 := Scalar.cmpi .sgt c4_i32_4 c0_i32_7
  let v20 : BitVec 32 := Scalar.extui v19
  let c0_i32_8 : BitVec 32 := 0#32
  let v21 : BitVec 1 := Scalar.cmpi .slt c4_i32_4 c0_i32_8
  let v22 : BitVec 32 := Scalar.extui v21
  let v23 : BitVec 32 := Scalar.subi v20 v22
  let v24 : BitVec 1 := Scalar.cmpi .ne v18 v23
  let v25 : BitVec 32 := Scalar.remsi v2 c4_i32_4
  let c0_i32_9 : BitVec 32 := 0#32
  let v26 : BitVec 1 := Scalar.cmpi .ne v25 c0_i32_9
  let v27 : BitVec 1 := Scalar.andi v24 v26
  let v13 : BitVec 32 := Scalar.divsi v2 c4_i32_4
  let c1_i32_10 : BitVec 32 := 1#32
  let v28 : BitVec 32 := Scalar.subi v13 c1_i32_10
  let v29 : BitVec 32 := Scalar.select v27 v28 v13
  let c3_i32 : BitVec 32 := 3#32
  let v41 : BitVec 32 := Scalar.subi c3_i32 v29
  let v42 : BitVec 32 := Scalar.select v40 v29 v41
  let v44 : BitVec 32 := Scalar.addi v43 v42
  let c1_i32_47 : BitVec 32 := 1#32
  let v98 : BitVec 32 := Scalar.subi v44 c1_i32_47
  let c16_i32_48 : BitVec 32 := 16#32
  let c0_i32_49 : BitVec 32 := 0#32
  let v99 : BitVec 1 := Scalar.cmpi .eq c16_i32_48 c0_i32_49
  let c1_i32_50 : BitVec 32 := 1#32
  let v100 : BitVec 32 := Scalar.select v99 c1_i32_50 c16_i32_48
  let v101 : BitVec 32 := Scalar.remsi v98 v100
  let c0_i32_52 : BitVec 32 := 0#32
  let v103 : BitVec 1 := Scalar.cmpi .slt v101 c0_i32_52
  let c0_i32_53 : BitVec 32 := 0#32
  let v104 : BitVec 1 := Scalar.cmpi .slt v100 c0_i32_53
  let v105 : BitVec 1 := Scalar.xori v103 v104
  let c0_i32_51 : BitVec 32 := 0#32
  let v102 : BitVec 1 := Scalar.cmpi .ne v101 c0_i32_51
  let v106 : BitVec 1 := Scalar.andi v105 v102
  let v107 : BitVec 32 := Scalar.addi v101 v100
  let v108 : BitVec 32 := Scalar.select v106 v107 v101
  let c0_i32_55 : BitVec 32 := 0#32
  let v110 : BitVec 1 := Scalar.cmpi .sgt v108 c0_i32_55
  let v111 : BitVec 32 := Scalar.extui v110
  let c0_i32_56 : BitVec 32 := 0#32
  let v112 : BitVec 1 := Scalar.cmpi .slt v108 c0_i32_56
  let v113 : BitVec 32 := Scalar.extui v112
  let v114 : BitVec 32 := Scalar.subi v111 v113
  let c4_i32_54 : BitVec 32 := 4#32
  let c0_i32_57 : BitVec 32 := 0#32
  let v115 : BitVec 1 := Scalar.cmpi .sgt c4_i32_54 c0_i32_57
  let v116 : BitVec 32 := Scalar.extui v115
  let c0_i32_58 : BitVec 32 := 0#32
  let v117 : BitVec 1 := Scalar.cmpi .slt c4_i32_54 c0_i32_58
  let v118 : BitVec 32 := Scalar.extui v117
  let v119 : BitVec 32 := Scalar.subi v116 v118
  let v120 : BitVec 1 := Scalar.cmpi .ne v114 v119
  let v121 : BitVec 32 := Scalar.remsi v108 c4_i32_54
  let c0_i32_59 : BitVec 32 := 0#32
  let v122 : BitVec 1 := Scalar.cmpi .ne v121 c0_i32_59
  let v123 : BitVec 1 := Scalar.andi v120 v122
  let v109 : BitVec 32 := Scalar.divsi v108 c4_i32_54
  let c1_i32_60 : BitVec 32 := 1#32
  let v124 : BitVec 32 := Scalar.subi v109 c1_i32_60
  let v125 : BitVec 32 := Scalar.select v123 v124 v109
  let c2_i32_67 : BitVec 32 := 2#32
  let c0_i32_68 : BitVec 32 := 0#32
  let v136 : BitVec 1 := Scalar.cmpi .eq c2_i32_67 c0_i32_68
  let c1_i32_69 : BitVec 32 := 1#32
  let v137 : BitVec 32 := Scalar.select v136 c1_i32_69 c2_i32_67
  let v138 : BitVec 32 := Scalar.remsi v125 v137
  let c0_i32_71 : BitVec 32 := 0#32
  let v140 : BitVec 1 := Scalar.cmpi .slt v138 c0_i32_71
  let c0_i32_72 : BitVec 32 := 0#32
  let v141 : BitVec 1 := Scalar.cmpi .slt v137 c0_i32_72
  let v142 : BitVec 1 := Scalar.xori v140 v141
  let c0_i32_70 : BitVec 32 := 0#32
  let v139 : BitVec 1 := Scalar.cmpi .ne v138 c0_i32_70
  let v143 : BitVec 1 := Scalar.andi v142 v139
  let v144 : BitVec 32 := Scalar.addi v138 v137
  let v145 : BitVec 32 := Scalar.select v143 v144 v138
  let c0_i32_73 : BitVec 32 := 0#32
  let v146 : BitVec 1 := Scalar.cmpi .eq v145 c0_i32_73
  let c4_i32_61 : BitVec 32 := 4#32
  let c0_i32_62 : BitVec 32 := 0#32
  let v126 : BitVec 1 := Scalar.cmpi .eq c4_i32_61 c0_i32_62
  let c1_i32_63 : BitVec 32 := 1#32
  let v127 : BitVec 32 := Scalar.select v126 c1_i32_63 c4_i32_61
  let v128 : BitVec 32 := Scalar.remsi v108 v127
  let c0_i32_65 : BitVec 32 := 0#32
  let v130 : BitVec 1 := Scalar.cmpi .slt v128 c0_i32_65
  let c0_i32_66 : BitVec 32 := 0#32
  let v131 : BitVec 1 := Scalar.cmpi .slt v127 c0_i32_66
  let v132 : BitVec 1 := Scalar.xori v130 v131
  let c0_i32_64 : BitVec 32 := 0#32
  let v129 : BitVec 1 := Scalar.cmpi .ne v128 c0_i32_64
  let v133 : BitVec 1 := Scalar.andi v132 v129
  let v134 : BitVec 32 := Scalar.addi v128 v127
  let v135 : BitVec 32 := Scalar.select v133 v134 v128
  let c3_i32_74 : BitVec 32 := 3#32
  let v147 : BitVec 32 := Scalar.subi c3_i32_74 v135
  let v148 : BitVec 32 := Scalar.select v146 v135 v147
  let v149 : BitVec 32 := Scalar.muli c4_i32_75 v148
  let v150 : BitVec 32 := Scalar.addi v149 v125
  let c1_i32_1926 : BitVec 32 := 1#32
  let v2657 : BitVec 32 := Scalar.muli v150 c1_i32_1926
  let v2658 : BitVec 32 := Scalar.addi c0_i32_1927 v2657
  v2658.toNat
def k0_dev51 (d0 : Dev nD) : Nat :=
  let c0_i32_1953 : BitVec 32 := 0#32
  let c4_i32_75 : BitVec 32 := 4#32
  let c4_i32_17 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let v43 : BitVec 32 := Scalar.muli c4_i32_17 v12
  let c2_i32 : BitVec 32 := 2#32
  let c0_i32_11 : BitVec 32 := 0#32
  let v30 : BitVec 1 := Scalar.cmpi .eq c2_i32 c0_i32_11
  let c1_i32_12 : BitVec 32 := 1#32
  let v31 : BitVec 32 := Scalar.select v30 c1_i32_12 c2_i32
  let v32 : BitVec 32 := Scalar.remsi v12 v31
  let c0_i32_14 : BitVec 32 := 0#32
  let v34 : BitVec 1 := Scalar.cmpi .slt v32 c0_i32_14
  let c0_i32_15 : BitVec 32 := 0#32
  let v35 : BitVec 1 := Scalar.cmpi .slt v31 c0_i32_15
  let v36 : BitVec 1 := Scalar.xori v34 v35
  let c0_i32_13 : BitVec 32 := 0#32
  let v33 : BitVec 1 := Scalar.cmpi .ne v32 c0_i32_13
  let v37 : BitVec 1 := Scalar.andi v36 v33
  let v38 : BitVec 32 := Scalar.addi v32 v31
  let v39 : BitVec 32 := Scalar.select v37 v38 v32
  let c0_i32_16 : BitVec 32 := 0#32
  let v40 : BitVec 1 := Scalar.cmpi .eq v39 c0_i32_16
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c4_i32_4 : BitVec 32 := 4#32
  let c0_i32_7 : BitVec 32 := 0#32
  let v19 : BitVec 1 := Scalar.cmpi .sgt c4_i32_4 c0_i32_7
  let v20 : BitVec 32 := Scalar.extui v19
  let c0_i32_8 : BitVec 32 := 0#32
  let v21 : BitVec 1 := Scalar.cmpi .slt c4_i32_4 c0_i32_8
  let v22 : BitVec 32 := Scalar.extui v21
  let v23 : BitVec 32 := Scalar.subi v20 v22
  let v24 : BitVec 1 := Scalar.cmpi .ne v18 v23
  let v25 : BitVec 32 := Scalar.remsi v2 c4_i32_4
  let c0_i32_9 : BitVec 32 := 0#32
  let v26 : BitVec 1 := Scalar.cmpi .ne v25 c0_i32_9
  let v27 : BitVec 1 := Scalar.andi v24 v26
  let v13 : BitVec 32 := Scalar.divsi v2 c4_i32_4
  let c1_i32_10 : BitVec 32 := 1#32
  let v28 : BitVec 32 := Scalar.subi v13 c1_i32_10
  let v29 : BitVec 32 := Scalar.select v27 v28 v13
  let c3_i32 : BitVec 32 := 3#32
  let v41 : BitVec 32 := Scalar.subi c3_i32 v29
  let v42 : BitVec 32 := Scalar.select v40 v29 v41
  let v44 : BitVec 32 := Scalar.addi v43 v42
  let c1_i32_47 : BitVec 32 := 1#32
  let v98 : BitVec 32 := Scalar.subi v44 c1_i32_47
  let c16_i32_48 : BitVec 32 := 16#32
  let c0_i32_49 : BitVec 32 := 0#32
  let v99 : BitVec 1 := Scalar.cmpi .eq c16_i32_48 c0_i32_49
  let c1_i32_50 : BitVec 32 := 1#32
  let v100 : BitVec 32 := Scalar.select v99 c1_i32_50 c16_i32_48
  let v101 : BitVec 32 := Scalar.remsi v98 v100
  let c0_i32_52 : BitVec 32 := 0#32
  let v103 : BitVec 1 := Scalar.cmpi .slt v101 c0_i32_52
  let c0_i32_53 : BitVec 32 := 0#32
  let v104 : BitVec 1 := Scalar.cmpi .slt v100 c0_i32_53
  let v105 : BitVec 1 := Scalar.xori v103 v104
  let c0_i32_51 : BitVec 32 := 0#32
  let v102 : BitVec 1 := Scalar.cmpi .ne v101 c0_i32_51
  let v106 : BitVec 1 := Scalar.andi v105 v102
  let v107 : BitVec 32 := Scalar.addi v101 v100
  let v108 : BitVec 32 := Scalar.select v106 v107 v101
  let c0_i32_55 : BitVec 32 := 0#32
  let v110 : BitVec 1 := Scalar.cmpi .sgt v108 c0_i32_55
  let v111 : BitVec 32 := Scalar.extui v110
  let c0_i32_56 : BitVec 32 := 0#32
  let v112 : BitVec 1 := Scalar.cmpi .slt v108 c0_i32_56
  let v113 : BitVec 32 := Scalar.extui v112
  let v114 : BitVec 32 := Scalar.subi v111 v113
  let c4_i32_54 : BitVec 32 := 4#32
  let c0_i32_57 : BitVec 32 := 0#32
  let v115 : BitVec 1 := Scalar.cmpi .sgt c4_i32_54 c0_i32_57
  let v116 : BitVec 32 := Scalar.extui v115
  let c0_i32_58 : BitVec 32 := 0#32
  let v117 : BitVec 1 := Scalar.cmpi .slt c4_i32_54 c0_i32_58
  let v118 : BitVec 32 := Scalar.extui v117
  let v119 : BitVec 32 := Scalar.subi v116 v118
  let v120 : BitVec 1 := Scalar.cmpi .ne v114 v119
  let v121 : BitVec 32 := Scalar.remsi v108 c4_i32_54
  let c0_i32_59 : BitVec 32 := 0#32
  let v122 : BitVec 1 := Scalar.cmpi .ne v121 c0_i32_59
  let v123 : BitVec 1 := Scalar.andi v120 v122
  let v109 : BitVec 32 := Scalar.divsi v108 c4_i32_54
  let c1_i32_60 : BitVec 32 := 1#32
  let v124 : BitVec 32 := Scalar.subi v109 c1_i32_60
  let v125 : BitVec 32 := Scalar.select v123 v124 v109
  let c2_i32_67 : BitVec 32 := 2#32
  let c0_i32_68 : BitVec 32 := 0#32
  let v136 : BitVec 1 := Scalar.cmpi .eq c2_i32_67 c0_i32_68
  let c1_i32_69 : BitVec 32 := 1#32
  let v137 : BitVec 32 := Scalar.select v136 c1_i32_69 c2_i32_67
  let v138 : BitVec 32 := Scalar.remsi v125 v137
  let c0_i32_71 : BitVec 32 := 0#32
  let v140 : BitVec 1 := Scalar.cmpi .slt v138 c0_i32_71
  let c0_i32_72 : BitVec 32 := 0#32
  let v141 : BitVec 1 := Scalar.cmpi .slt v137 c0_i32_72
  let v142 : BitVec 1 := Scalar.xori v140 v141
  let c0_i32_70 : BitVec 32 := 0#32
  let v139 : BitVec 1 := Scalar.cmpi .ne v138 c0_i32_70
  let v143 : BitVec 1 := Scalar.andi v142 v139
  let v144 : BitVec 32 := Scalar.addi v138 v137
  let v145 : BitVec 32 := Scalar.select v143 v144 v138
  let c0_i32_73 : BitVec 32 := 0#32
  let v146 : BitVec 1 := Scalar.cmpi .eq v145 c0_i32_73
  let c4_i32_61 : BitVec 32 := 4#32
  let c0_i32_62 : BitVec 32 := 0#32
  let v126 : BitVec 1 := Scalar.cmpi .eq c4_i32_61 c0_i32_62
  let c1_i32_63 : BitVec 32 := 1#32
  let v127 : BitVec 32 := Scalar.select v126 c1_i32_63 c4_i32_61
  let v128 : BitVec 32 := Scalar.remsi v108 v127
  let c0_i32_65 : BitVec 32 := 0#32
  let v130 : BitVec 1 := Scalar.cmpi .slt v128 c0_i32_65
  let c0_i32_66 : BitVec 32 := 0#32
  let v131 : BitVec 1 := Scalar.cmpi .slt v127 c0_i32_66
  let v132 : BitVec 1 := Scalar.xori v130 v131
  let c0_i32_64 : BitVec 32 := 0#32
  let v129 : BitVec 1 := Scalar.cmpi .ne v128 c0_i32_64
  let v133 : BitVec 1 := Scalar.andi v132 v129
  let v134 : BitVec 32 := Scalar.addi v128 v127
  let v135 : BitVec 32 := Scalar.select v133 v134 v128
  let c3_i32_74 : BitVec 32 := 3#32
  let v147 : BitVec 32 := Scalar.subi c3_i32_74 v135
  let v148 : BitVec 32 := Scalar.select v146 v135 v147
  let v149 : BitVec 32 := Scalar.muli c4_i32_75 v148
  let v150 : BitVec 32 := Scalar.addi v149 v125
  let c1_i32_1952 : BitVec 32 := 1#32
  let v2681 : BitVec 32 := Scalar.muli v150 c1_i32_1952
  let v2682 : BitVec 32 := Scalar.addi c0_i32_1953 v2681
  v2682.toNat
def k0_dev52 (d0 : Dev nD) : Nat :=
  let c0_i32_1981 : BitVec 32 := 0#32
  let c4_i32_46 : BitVec 32 := 4#32
  let c4_i32_17 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let v43 : BitVec 32 := Scalar.muli c4_i32_17 v12
  let c2_i32 : BitVec 32 := 2#32
  let c0_i32_11 : BitVec 32 := 0#32
  let v30 : BitVec 1 := Scalar.cmpi .eq c2_i32 c0_i32_11
  let c1_i32_12 : BitVec 32 := 1#32
  let v31 : BitVec 32 := Scalar.select v30 c1_i32_12 c2_i32
  let v32 : BitVec 32 := Scalar.remsi v12 v31
  let c0_i32_14 : BitVec 32 := 0#32
  let v34 : BitVec 1 := Scalar.cmpi .slt v32 c0_i32_14
  let c0_i32_15 : BitVec 32 := 0#32
  let v35 : BitVec 1 := Scalar.cmpi .slt v31 c0_i32_15
  let v36 : BitVec 1 := Scalar.xori v34 v35
  let c0_i32_13 : BitVec 32 := 0#32
  let v33 : BitVec 1 := Scalar.cmpi .ne v32 c0_i32_13
  let v37 : BitVec 1 := Scalar.andi v36 v33
  let v38 : BitVec 32 := Scalar.addi v32 v31
  let v39 : BitVec 32 := Scalar.select v37 v38 v32
  let c0_i32_16 : BitVec 32 := 0#32
  let v40 : BitVec 1 := Scalar.cmpi .eq v39 c0_i32_16
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c4_i32_4 : BitVec 32 := 4#32
  let c0_i32_7 : BitVec 32 := 0#32
  let v19 : BitVec 1 := Scalar.cmpi .sgt c4_i32_4 c0_i32_7
  let v20 : BitVec 32 := Scalar.extui v19
  let c0_i32_8 : BitVec 32 := 0#32
  let v21 : BitVec 1 := Scalar.cmpi .slt c4_i32_4 c0_i32_8
  let v22 : BitVec 32 := Scalar.extui v21
  let v23 : BitVec 32 := Scalar.subi v20 v22
  let v24 : BitVec 1 := Scalar.cmpi .ne v18 v23
  let v25 : BitVec 32 := Scalar.remsi v2 c4_i32_4
  let c0_i32_9 : BitVec 32 := 0#32
  let v26 : BitVec 1 := Scalar.cmpi .ne v25 c0_i32_9
  let v27 : BitVec 1 := Scalar.andi v24 v26
  let v13 : BitVec 32 := Scalar.divsi v2 c4_i32_4
  let c1_i32_10 : BitVec 32 := 1#32
  let v28 : BitVec 32 := Scalar.subi v13 c1_i32_10
  let v29 : BitVec 32 := Scalar.select v27 v28 v13
  let c3_i32 : BitVec 32 := 3#32
  let v41 : BitVec 32 := Scalar.subi c3_i32 v29
  let v42 : BitVec 32 := Scalar.select v40 v29 v41
  let v44 : BitVec 32 := Scalar.addi v43 v42
  let c1_i32_18 : BitVec 32 := 1#32
  let v45 : BitVec 32 := Scalar.addi v44 c1_i32_18
  let c16_i32_19 : BitVec 32 := 16#32
  let c0_i32_20 : BitVec 32 := 0#32
  let v46 : BitVec 1 := Scalar.cmpi .eq c16_i32_19 c0_i32_20
  let c1_i32_21 : BitVec 32 := 1#32
  let v47 : BitVec 32 := Scalar.select v46 c1_i32_21 c16_i32_19
  let v48 : BitVec 32 := Scalar.remsi v45 v47
  let c0_i32_23 : BitVec 32 := 0#32
  let v50 : BitVec 1 := Scalar.cmpi .slt v48 c0_i32_23
  let c0_i32_24 : BitVec 32 := 0#32
  let v51 : BitVec 1 := Scalar.cmpi .slt v47 c0_i32_24
  let v52 : BitVec 1 := Scalar.xori v50 v51
  let c0_i32_22 : BitVec 32 := 0#32
  let v49 : BitVec 1 := Scalar.cmpi .ne v48 c0_i32_22
  let v53 : BitVec 1 := Scalar.andi v52 v49
  let v54 : BitVec 32 := Scalar.addi v48 v47
  let v55 : BitVec 32 := Scalar.select v53 v54 v48
  let c0_i32_26 : BitVec 32 := 0#32
  let v57 : BitVec 1 := Scalar.cmpi .sgt v55 c0_i32_26
  let v58 : BitVec 32 := Scalar.extui v57
  let c0_i32_27 : BitVec 32 := 0#32
  let v59 : BitVec 1 := Scalar.cmpi .slt v55 c0_i32_27
  let v60 : BitVec 32 := Scalar.extui v59
  let v61 : BitVec 32 := Scalar.subi v58 v60
  let c4_i32_25 : BitVec 32 := 4#32
  let c0_i32_28 : BitVec 32 := 0#32
  let v62 : BitVec 1 := Scalar.cmpi .sgt c4_i32_25 c0_i32_28
  let v63 : BitVec 32 := Scalar.extui v62
  let c0_i32_29 : BitVec 32 := 0#32
  let v64 : BitVec 1 := Scalar.cmpi .slt c4_i32_25 c0_i32_29
  let v65 : BitVec 32 := Scalar.extui v64
  let v66 : BitVec 32 := Scalar.subi v63 v65
  let v67 : BitVec 1 := Scalar.cmpi .ne v61 v66
  let v68 : BitVec 32 := Scalar.remsi v55 c4_i32_25
  let c0_i32_30 : BitVec 32 := 0#32
  let v69 : BitVec 1 := Scalar.cmpi .ne v68 c0_i32_30
  let v70 : BitVec 1 := Scalar.andi v67 v69
  let v56 : BitVec 32 := Scalar.divsi v55 c4_i32_25
  let c1_i32_31 : BitVec 32 := 1#32
  let v71 : BitVec 32 := Scalar.subi v56 c1_i32_31
  let v72 : BitVec 32 := Scalar.select v70 v71 v56
  let c2_i32_38 : BitVec 32 := 2#32
  let c0_i32_39 : BitVec 32 := 0#32
  let v83 : BitVec 1 := Scalar.cmpi .eq c2_i32_38 c0_i32_39
  let c1_i32_40 : BitVec 32 := 1#32
  let v84 : BitVec 32 := Scalar.select v83 c1_i32_40 c2_i32_38
  let v85 : BitVec 32 := Scalar.remsi v72 v84
  let c0_i32_42 : BitVec 32 := 0#32
  let v87 : BitVec 1 := Scalar.cmpi .slt v85 c0_i32_42
  let c0_i32_43 : BitVec 32 := 0#32
  let v88 : BitVec 1 := Scalar.cmpi .slt v84 c0_i32_43
  let v89 : BitVec 1 := Scalar.xori v87 v88
  let c0_i32_41 : BitVec 32 := 0#32
  let v86 : BitVec 1 := Scalar.cmpi .ne v85 c0_i32_41
  let v90 : BitVec 1 := Scalar.andi v89 v86
  let v91 : BitVec 32 := Scalar.addi v85 v84
  let v92 : BitVec 32 := Scalar.select v90 v91 v85
  let c0_i32_44 : BitVec 32 := 0#32
  let v93 : BitVec 1 := Scalar.cmpi .eq v92 c0_i32_44
  let c4_i32_32 : BitVec 32 := 4#32
  let c0_i32_33 : BitVec 32 := 0#32
  let v73 : BitVec 1 := Scalar.cmpi .eq c4_i32_32 c0_i32_33
  let c1_i32_34 : BitVec 32 := 1#32
  let v74 : BitVec 32 := Scalar.select v73 c1_i32_34 c4_i32_32
  let v75 : BitVec 32 := Scalar.remsi v55 v74
  let c0_i32_36 : BitVec 32 := 0#32
  let v77 : BitVec 1 := Scalar.cmpi .slt v75 c0_i32_36
  let c0_i32_37 : BitVec 32 := 0#32
  let v78 : BitVec 1 := Scalar.cmpi .slt v74 c0_i32_37
  let v79 : BitVec 1 := Scalar.xori v77 v78
  let c0_i32_35 : BitVec 32 := 0#32
  let v76 : BitVec 1 := Scalar.cmpi .ne v75 c0_i32_35
  let v80 : BitVec 1 := Scalar.andi v79 v76
  let v81 : BitVec 32 := Scalar.addi v75 v74
  let v82 : BitVec 32 := Scalar.select v80 v81 v75
  let c3_i32_45 : BitVec 32 := 3#32
  let v94 : BitVec 32 := Scalar.subi c3_i32_45 v82
  let v95 : BitVec 32 := Scalar.select v93 v82 v94
  let v96 : BitVec 32 := Scalar.muli c4_i32_46 v95
  let v97 : BitVec 32 := Scalar.addi v96 v72
  let c1_i32_1980 : BitVec 32 := 1#32
  let v2705 : BitVec 32 := Scalar.muli v97 c1_i32_1980
  let v2706 : BitVec 32 := Scalar.addi c0_i32_1981 v2705
  v2706.toNat
def k0_dev53 (d0 : Dev nD) : Nat :=
  let c0_i32_1995 : BitVec 32 := 0#32
  let c4_i32_46 : BitVec 32 := 4#32
  let c4_i32_17 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let v43 : BitVec 32 := Scalar.muli c4_i32_17 v12
  let c2_i32 : BitVec 32 := 2#32
  let c0_i32_11 : BitVec 32 := 0#32
  let v30 : BitVec 1 := Scalar.cmpi .eq c2_i32 c0_i32_11
  let c1_i32_12 : BitVec 32 := 1#32
  let v31 : BitVec 32 := Scalar.select v30 c1_i32_12 c2_i32
  let v32 : BitVec 32 := Scalar.remsi v12 v31
  let c0_i32_14 : BitVec 32 := 0#32
  let v34 : BitVec 1 := Scalar.cmpi .slt v32 c0_i32_14
  let c0_i32_15 : BitVec 32 := 0#32
  let v35 : BitVec 1 := Scalar.cmpi .slt v31 c0_i32_15
  let v36 : BitVec 1 := Scalar.xori v34 v35
  let c0_i32_13 : BitVec 32 := 0#32
  let v33 : BitVec 1 := Scalar.cmpi .ne v32 c0_i32_13
  let v37 : BitVec 1 := Scalar.andi v36 v33
  let v38 : BitVec 32 := Scalar.addi v32 v31
  let v39 : BitVec 32 := Scalar.select v37 v38 v32
  let c0_i32_16 : BitVec 32 := 0#32
  let v40 : BitVec 1 := Scalar.cmpi .eq v39 c0_i32_16
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c4_i32_4 : BitVec 32 := 4#32
  let c0_i32_7 : BitVec 32 := 0#32
  let v19 : BitVec 1 := Scalar.cmpi .sgt c4_i32_4 c0_i32_7
  let v20 : BitVec 32 := Scalar.extui v19
  let c0_i32_8 : BitVec 32 := 0#32
  let v21 : BitVec 1 := Scalar.cmpi .slt c4_i32_4 c0_i32_8
  let v22 : BitVec 32 := Scalar.extui v21
  let v23 : BitVec 32 := Scalar.subi v20 v22
  let v24 : BitVec 1 := Scalar.cmpi .ne v18 v23
  let v25 : BitVec 32 := Scalar.remsi v2 c4_i32_4
  let c0_i32_9 : BitVec 32 := 0#32
  let v26 : BitVec 1 := Scalar.cmpi .ne v25 c0_i32_9
  let v27 : BitVec 1 := Scalar.andi v24 v26
  let v13 : BitVec 32 := Scalar.divsi v2 c4_i32_4
  let c1_i32_10 : BitVec 32 := 1#32
  let v28 : BitVec 32 := Scalar.subi v13 c1_i32_10
  let v29 : BitVec 32 := Scalar.select v27 v28 v13
  let c3_i32 : BitVec 32 := 3#32
  let v41 : BitVec 32 := Scalar.subi c3_i32 v29
  let v42 : BitVec 32 := Scalar.select v40 v29 v41
  let v44 : BitVec 32 := Scalar.addi v43 v42
  let c1_i32_18 : BitVec 32 := 1#32
  let v45 : BitVec 32 := Scalar.addi v44 c1_i32_18
  let c16_i32_19 : BitVec 32 := 16#32
  let c0_i32_20 : BitVec 32 := 0#32
  let v46 : BitVec 1 := Scalar.cmpi .eq c16_i32_19 c0_i32_20
  let c1_i32_21 : BitVec 32 := 1#32
  let v47 : BitVec 32 := Scalar.select v46 c1_i32_21 c16_i32_19
  let v48 : BitVec 32 := Scalar.remsi v45 v47
  let c0_i32_23 : BitVec 32 := 0#32
  let v50 : BitVec 1 := Scalar.cmpi .slt v48 c0_i32_23
  let c0_i32_24 : BitVec 32 := 0#32
  let v51 : BitVec 1 := Scalar.cmpi .slt v47 c0_i32_24
  let v52 : BitVec 1 := Scalar.xori v50 v51
  let c0_i32_22 : BitVec 32 := 0#32
  let v49 : BitVec 1 := Scalar.cmpi .ne v48 c0_i32_22
  let v53 : BitVec 1 := Scalar.andi v52 v49
  let v54 : BitVec 32 := Scalar.addi v48 v47
  let v55 : BitVec 32 := Scalar.select v53 v54 v48
  let c0_i32_26 : BitVec 32 := 0#32
  let v57 : BitVec 1 := Scalar.cmpi .sgt v55 c0_i32_26
  let v58 : BitVec 32 := Scalar.extui v57
  let c0_i32_27 : BitVec 32 := 0#32
  let v59 : BitVec 1 := Scalar.cmpi .slt v55 c0_i32_27
  let v60 : BitVec 32 := Scalar.extui v59
  let v61 : BitVec 32 := Scalar.subi v58 v60
  let c4_i32_25 : BitVec 32 := 4#32
  let c0_i32_28 : BitVec 32 := 0#32
  let v62 : BitVec 1 := Scalar.cmpi .sgt c4_i32_25 c0_i32_28
  let v63 : BitVec 32 := Scalar.extui v62
  let c0_i32_29 : BitVec 32 := 0#32
  let v64 : BitVec 1 := Scalar.cmpi .slt c4_i32_25 c0_i32_29
  let v65 : BitVec 32 := Scalar.extui v64
  let v66 : BitVec 32 := Scalar.subi v63 v65
  let v67 : BitVec 1 := Scalar.cmpi .ne v61 v66
  let v68 : BitVec 32 := Scalar.remsi v55 c4_i32_25
  let c0_i32_30 : BitVec 32 := 0#32
  let v69 : BitVec 1 := Scalar.cmpi .ne v68 c0_i32_30
  let v70 : BitVec 1 := Scalar.andi v67 v69
  let v56 : BitVec 32 := Scalar.divsi v55 c4_i32_25
  let c1_i32_31 : BitVec 32 := 1#32
  let v71 : BitVec 32 := Scalar.subi v56 c1_i32_31
  let v72 : BitVec 32 := Scalar.select v70 v71 v56
  let c2_i32_38 : BitVec 32 := 2#32
  let c0_i32_39 : BitVec 32 := 0#32
  let v83 : BitVec 1 := Scalar.cmpi .eq c2_i32_38 c0_i32_39
  let c1_i32_40 : BitVec 32 := 1#32
  let v84 : BitVec 32 := Scalar.select v83 c1_i32_40 c2_i32_38
  let v85 : BitVec 32 := Scalar.remsi v72 v84
  let c0_i32_42 : BitVec 32 := 0#32
  let v87 : BitVec 1 := Scalar.cmpi .slt v85 c0_i32_42
  let c0_i32_43 : BitVec 32 := 0#32
  let v88 : BitVec 1 := Scalar.cmpi .slt v84 c0_i32_43
  let v89 : BitVec 1 := Scalar.xori v87 v88
  let c0_i32_41 : BitVec 32 := 0#32
  let v86 : BitVec 1 := Scalar.cmpi .ne v85 c0_i32_41
  let v90 : BitVec 1 := Scalar.andi v89 v86
  let v91 : BitVec 32 := Scalar.addi v85 v84
  let v92 : BitVec 32 := Scalar.select v90 v91 v85
  let c0_i32_44 : BitVec 32 := 0#32
  let v93 : BitVec 1 := Scalar.cmpi .eq v92 c0_i32_44
  let c4_i32_32 : BitVec 32 := 4#32
  let c0_i32_33 : BitVec 32 := 0#32
  let v73 : BitVec 1 := Scalar.cmpi .eq c4_i32_32 c0_i32_33
  let c1_i32_34 : BitVec 32 := 1#32
  let v74 : BitVec 32 := Scalar.select v73 c1_i32_34 c4_i32_32
  let v75 : BitVec 32 := Scalar.remsi v55 v74
  let c0_i32_36 : BitVec 32 := 0#32
  let v77 : BitVec 1 := Scalar.cmpi .slt v75 c0_i32_36
  let c0_i32_37 : BitVec 32 := 0#32
  let v78 : BitVec 1 := Scalar.cmpi .slt v74 c0_i32_37
  let v79 : BitVec 1 := Scalar.xori v77 v78
  let c0_i32_35 : BitVec 32 := 0#32
  let v76 : BitVec 1 := Scalar.cmpi .ne v75 c0_i32_35
  let v80 : BitVec 1 := Scalar.andi v79 v76
  let v81 : BitVec 32 := Scalar.addi v75 v74
  let v82 : BitVec 32 := Scalar.select v80 v81 v75
  let c3_i32_45 : BitVec 32 := 3#32
  let v94 : BitVec 32 := Scalar.subi c3_i32_45 v82
  let v95 : BitVec 32 := Scalar.select v93 v82 v94
  let v96 : BitVec 32 := Scalar.muli c4_i32_46 v95
  let v97 : BitVec 32 := Scalar.addi v96 v72
  let c1_i32_1994 : BitVec 32 := 1#32
  let v2715 : BitVec 32 := Scalar.muli v97 c1_i32_1994
  let v2716 : BitVec 32 := Scalar.addi c0_i32_1995 v2715
  v2716.toNat
def k0_dev54 (d0 : Dev nD) : Nat :=
  let c0_i32_2007 : BitVec 32 := 0#32
  let c4_i32_75 : BitVec 32 := 4#32
  let c4_i32_17 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let v43 : BitVec 32 := Scalar.muli c4_i32_17 v12
  let c2_i32 : BitVec 32 := 2#32
  let c0_i32_11 : BitVec 32 := 0#32
  let v30 : BitVec 1 := Scalar.cmpi .eq c2_i32 c0_i32_11
  let c1_i32_12 : BitVec 32 := 1#32
  let v31 : BitVec 32 := Scalar.select v30 c1_i32_12 c2_i32
  let v32 : BitVec 32 := Scalar.remsi v12 v31
  let c0_i32_14 : BitVec 32 := 0#32
  let v34 : BitVec 1 := Scalar.cmpi .slt v32 c0_i32_14
  let c0_i32_15 : BitVec 32 := 0#32
  let v35 : BitVec 1 := Scalar.cmpi .slt v31 c0_i32_15
  let v36 : BitVec 1 := Scalar.xori v34 v35
  let c0_i32_13 : BitVec 32 := 0#32
  let v33 : BitVec 1 := Scalar.cmpi .ne v32 c0_i32_13
  let v37 : BitVec 1 := Scalar.andi v36 v33
  let v38 : BitVec 32 := Scalar.addi v32 v31
  let v39 : BitVec 32 := Scalar.select v37 v38 v32
  let c0_i32_16 : BitVec 32 := 0#32
  let v40 : BitVec 1 := Scalar.cmpi .eq v39 c0_i32_16
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c4_i32_4 : BitVec 32 := 4#32
  let c0_i32_7 : BitVec 32 := 0#32
  let v19 : BitVec 1 := Scalar.cmpi .sgt c4_i32_4 c0_i32_7
  let v20 : BitVec 32 := Scalar.extui v19
  let c0_i32_8 : BitVec 32 := 0#32
  let v21 : BitVec 1 := Scalar.cmpi .slt c4_i32_4 c0_i32_8
  let v22 : BitVec 32 := Scalar.extui v21
  let v23 : BitVec 32 := Scalar.subi v20 v22
  let v24 : BitVec 1 := Scalar.cmpi .ne v18 v23
  let v25 : BitVec 32 := Scalar.remsi v2 c4_i32_4
  let c0_i32_9 : BitVec 32 := 0#32
  let v26 : BitVec 1 := Scalar.cmpi .ne v25 c0_i32_9
  let v27 : BitVec 1 := Scalar.andi v24 v26
  let v13 : BitVec 32 := Scalar.divsi v2 c4_i32_4
  let c1_i32_10 : BitVec 32 := 1#32
  let v28 : BitVec 32 := Scalar.subi v13 c1_i32_10
  let v29 : BitVec 32 := Scalar.select v27 v28 v13
  let c3_i32 : BitVec 32 := 3#32
  let v41 : BitVec 32 := Scalar.subi c3_i32 v29
  let v42 : BitVec 32 := Scalar.select v40 v29 v41
  let v44 : BitVec 32 := Scalar.addi v43 v42
  let c1_i32_47 : BitVec 32 := 1#32
  let v98 : BitVec 32 := Scalar.subi v44 c1_i32_47
  let c16_i32_48 : BitVec 32 := 16#32
  let c0_i32_49 : BitVec 32 := 0#32
  let v99 : BitVec 1 := Scalar.cmpi .eq c16_i32_48 c0_i32_49
  let c1_i32_50 : BitVec 32 := 1#32
  let v100 : BitVec 32 := Scalar.select v99 c1_i32_50 c16_i32_48
  let v101 : BitVec 32 := Scalar.remsi v98 v100
  let c0_i32_52 : BitVec 32 := 0#32
  let v103 : BitVec 1 := Scalar.cmpi .slt v101 c0_i32_52
  let c0_i32_53 : BitVec 32 := 0#32
  let v104 : BitVec 1 := Scalar.cmpi .slt v100 c0_i32_53
  let v105 : BitVec 1 := Scalar.xori v103 v104
  let c0_i32_51 : BitVec 32 := 0#32
  let v102 : BitVec 1 := Scalar.cmpi .ne v101 c0_i32_51
  let v106 : BitVec 1 := Scalar.andi v105 v102
  let v107 : BitVec 32 := Scalar.addi v101 v100
  let v108 : BitVec 32 := Scalar.select v106 v107 v101
  let c0_i32_55 : BitVec 32 := 0#32
  let v110 : BitVec 1 := Scalar.cmpi .sgt v108 c0_i32_55
  let v111 : BitVec 32 := Scalar.extui v110
  let c0_i32_56 : BitVec 32 := 0#32
  let v112 : BitVec 1 := Scalar.cmpi .slt v108 c0_i32_56
  let v113 : BitVec 32 := Scalar.extui v112
  let v114 : BitVec 32 := Scalar.subi v111 v113
  let c4_i32_54 : BitVec 32 := 4#32
  let c0_i32_57 : BitVec 32 := 0#32
  let v115 : BitVec 1 := Scalar.cmpi .sgt c4_i32_54 c0_i32_57
  let v116 : BitVec 32 := Scalar.extui v115
  let c0_i32_58 : BitVec 32 := 0#32
  let v117 : BitVec 1 := Scalar.cmpi .slt c4_i32_54 c0_i32_58
  let v118 : BitVec 32 := Scalar.extui v117
  let v119 : BitVec 32 := Scalar.subi v116 v118
  let v120 : BitVec 1 := Scalar.cmpi .ne v114 v119
  let v121 : BitVec 32 := Scalar.remsi v108 c4_i32_54
  let c0_i32_59 : BitVec 32 := 0#32
  let v122 : BitVec 1 := Scalar.cmpi .ne v121 c0_i32_59
  let v123 : BitVec 1 := Scalar.andi v120 v122
  let v109 : BitVec 32 := Scalar.divsi v108 c4_i32_54
  let c1_i32_60 : BitVec 32 := 1#32
  let v124 : BitVec 32 := Scalar.subi v109 c1_i32_60
  let v125 : BitVec 32 := Scalar.select v123 v124 v109
  let c2_i32_67 : BitVec 32 := 2#32
  let c0_i32_68 : BitVec 32 := 0#32
  let v136 : BitVec 1 := Scalar.cmpi .eq c2_i32_67 c0_i32_68
  let c1_i32_69 : BitVec 32 := 1#32
  let v137 : BitVec 32 := Scalar.select v136 c1_i32_69 c2_i32_67
  let v138 : BitVec 32 := Scalar.remsi v125 v137
  let c0_i32_71 : BitVec 32 := 0#32
  let v140 : BitVec 1 := Scalar.cmpi .slt v138 c0_i32_71
  let c0_i32_72 : BitVec 32 := 0#32
  let v141 : BitVec 1 := Scalar.cmpi .slt v137 c0_i32_72
  let v142 : BitVec 1 := Scalar.xori v140 v141
  let c0_i32_70 : BitVec 32 := 0#32
  let v139 : BitVec 1 := Scalar.cmpi .ne v138 c0_i32_70
  let v143 : BitVec 1 := Scalar.andi v142 v139
  let v144 : BitVec 32 := Scalar.addi v138 v137
  let v145 : BitVec 32 := Scalar.select v143 v144 v138
  let c0_i32_73 : BitVec 32 := 0#32
  let v146 : BitVec 1 := Scalar.cmpi .eq v145 c0_i32_73
  let c4_i32_61 : BitVec 32 := 4#32
  let c0_i32_62 : BitVec 32 := 0#32
  let v126 : BitVec 1 := Scalar.cmpi .eq c4_i32_61 c0_i32_62
  let c1_i32_63 : BitVec 32 := 1#32
  let v127 : BitVec 32 := Scalar.select v126 c1_i32_63 c4_i32_61
  let v128 : BitVec 32 := Scalar.remsi v108 v127
  let c0_i32_65 : BitVec 32 := 0#32
  let v130 : BitVec 1 := Scalar.cmpi .slt v128 c0_i32_65
  let c0_i32_66 : BitVec 32 := 0#32
  let v131 : BitVec 1 := Scalar.cmpi .slt v127 c0_i32_66
  let v132 : BitVec 1 := Scalar.xori v130 v131
  let c0_i32_64 : BitVec 32 := 0#32
  let v129 : BitVec 1 := Scalar.cmpi .ne v128 c0_i32_64
  let v133 : BitVec 1 := Scalar.andi v132 v129
  let v134 : BitVec 32 := Scalar.addi v128 v127
  let v135 : BitVec 32 := Scalar.select v133 v134 v128
  let c3_i32_74 : BitVec 32 := 3#32
  let v147 : BitVec 32 := Scalar.subi c3_i32_74 v135
  let v148 : BitVec 32 := Scalar.select v146 v135 v147
  let v149 : BitVec 32 := Scalar.muli c4_i32_75 v148
  let v150 : BitVec 32 := Scalar.addi v149 v125
  let c1_i32_2006 : BitVec 32 := 1#32
  let v2725 : BitVec 32 := Scalar.muli v150 c1_i32_2006
  let v2726 : BitVec 32 := Scalar.addi c0_i32_2007 v2725
  v2726.toNat
def k0_dev55 (d0 : Dev nD) : Nat :=
  let c0_i32_2164 : BitVec 32 := 0#32
  let c4_i32_75 : BitVec 32 := 4#32
  let c4_i32_17 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let v43 : BitVec 32 := Scalar.muli c4_i32_17 v12
  let c2_i32 : BitVec 32 := 2#32
  let c0_i32_11 : BitVec 32 := 0#32
  let v30 : BitVec 1 := Scalar.cmpi .eq c2_i32 c0_i32_11
  let c1_i32_12 : BitVec 32 := 1#32
  let v31 : BitVec 32 := Scalar.select v30 c1_i32_12 c2_i32
  let v32 : BitVec 32 := Scalar.remsi v12 v31
  let c0_i32_14 : BitVec 32 := 0#32
  let v34 : BitVec 1 := Scalar.cmpi .slt v32 c0_i32_14
  let c0_i32_15 : BitVec 32 := 0#32
  let v35 : BitVec 1 := Scalar.cmpi .slt v31 c0_i32_15
  let v36 : BitVec 1 := Scalar.xori v34 v35
  let c0_i32_13 : BitVec 32 := 0#32
  let v33 : BitVec 1 := Scalar.cmpi .ne v32 c0_i32_13
  let v37 : BitVec 1 := Scalar.andi v36 v33
  let v38 : BitVec 32 := Scalar.addi v32 v31
  let v39 : BitVec 32 := Scalar.select v37 v38 v32
  let c0_i32_16 : BitVec 32 := 0#32
  let v40 : BitVec 1 := Scalar.cmpi .eq v39 c0_i32_16
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c4_i32_4 : BitVec 32 := 4#32
  let c0_i32_7 : BitVec 32 := 0#32
  let v19 : BitVec 1 := Scalar.cmpi .sgt c4_i32_4 c0_i32_7
  let v20 : BitVec 32 := Scalar.extui v19
  let c0_i32_8 : BitVec 32 := 0#32
  let v21 : BitVec 1 := Scalar.cmpi .slt c4_i32_4 c0_i32_8
  let v22 : BitVec 32 := Scalar.extui v21
  let v23 : BitVec 32 := Scalar.subi v20 v22
  let v24 : BitVec 1 := Scalar.cmpi .ne v18 v23
  let v25 : BitVec 32 := Scalar.remsi v2 c4_i32_4
  let c0_i32_9 : BitVec 32 := 0#32
  let v26 : BitVec 1 := Scalar.cmpi .ne v25 c0_i32_9
  let v27 : BitVec 1 := Scalar.andi v24 v26
  let v13 : BitVec 32 := Scalar.divsi v2 c4_i32_4
  let c1_i32_10 : BitVec 32 := 1#32
  let v28 : BitVec 32 := Scalar.subi v13 c1_i32_10
  let v29 : BitVec 32 := Scalar.select v27 v28 v13
  let c3_i32 : BitVec 32 := 3#32
  let v41 : BitVec 32 := Scalar.subi c3_i32 v29
  let v42 : BitVec 32 := Scalar.select v40 v29 v41
  let v44 : BitVec 32 := Scalar.addi v43 v42
  let c1_i32_47 : BitVec 32 := 1#32
  let v98 : BitVec 32 := Scalar.subi v44 c1_i32_47
  let c16_i32_48 : BitVec 32 := 16#32
  let c0_i32_49 : BitVec 32 := 0#32
  let v99 : BitVec 1 := Scalar.cmpi .eq c16_i32_48 c0_i32_49
  let c1_i32_50 : BitVec 32 := 1#32
  let v100 : BitVec 32 := Scalar.select v99 c1_i32_50 c16_i32_48
  let v101 : BitVec 32 := Scalar.remsi v98 v100
  let c0_i32_52 : BitVec 32 := 0#32
  let v103 : BitVec 1 := Scalar.cmpi .slt v101 c0_i32_52
  let c0_i32_53 : BitVec 32 := 0#32
  let v104 : BitVec 1 := Scalar.cmpi .slt v100 c0_i32_53
  let v105 : BitVec 1 := Scalar.xori v103 v104
  let c0_i32_51 : BitVec 32 := 0#32
  let v102 : BitVec 1 := Scalar.cmpi .ne v101 c0_i32_51
  let v106 : BitVec 1 := Scalar.andi v105 v102
  let v107 : BitVec 32 := Scalar.addi v101 v100
  let v108 : BitVec 32 := Scalar.select v106 v107 v101
  let c0_i32_55 : BitVec 32 := 0#32
  let v110 : BitVec 1 := Scalar.cmpi .sgt v108 c0_i32_55
  let v111 : BitVec 32 := Scalar.extui v110
  let c0_i32_56 : BitVec 32 := 0#32
  let v112 : BitVec 1 := Scalar.cmpi .slt v108 c0_i32_56
  let v113 : BitVec 32 := Scalar.extui v112
  let v114 : BitVec 32 := Scalar.subi v111 v113
  let c4_i32_54 : BitVec 32 := 4#32
  let c0_i32_57 : BitVec 32 := 0#32
  let v115 : BitVec 1 := Scalar.cmpi .sgt c4_i32_54 c0_i32_57
  let v116 : BitVec 32 := Scalar.extui v115
  let c0_i32_58 : BitVec 32 := 0#32
  let v117 : BitVec 1 := Scalar.cmpi .slt c4_i32_54 c0_i32_58
  let v118 : BitVec 32 := Scalar.extui v117
  let v119 : BitVec 32 := Scalar.subi v116 v118
  let v120 : BitVec 1 := Scalar.cmpi .ne v114 v119
  let v121 : BitVec 32 := Scalar.remsi v108 c4_i32_54
  let c0_i32_59 : BitVec 32 := 0#32
  let v122 : BitVec 1 := Scalar.cmpi .ne v121 c0_i32_59
  let v123 : BitVec 1 := Scalar.andi v120 v122
  let v109 : BitVec 32 := Scalar.divsi v108 c4_i32_54
  let c1_i32_60 : BitVec 32 := 1#32
  let v124 : BitVec 32 := Scalar.subi v109 c1_i32_60
  let v125 : BitVec 32 := Scalar.select v123 v124 v109
  let c2_i32_67 : BitVec 32 := 2#32
  let c0_i32_68 : BitVec 32 := 0#32
  let v136 : BitVec 1 := Scalar.cmpi .eq c2_i32_67 c0_i32_68
  let c1_i32_69 : BitVec 32 := 1#32
  let v137 : BitVec 32 := Scalar.select v136 c1_i32_69 c2_i32_67
  let v138 : BitVec 32 := Scalar.remsi v125 v137
  let c0_i32_71 : BitVec 32 := 0#32
  let v140 : BitVec 1 := Scalar.cmpi .slt v138 c0_i32_71
  let c0_i32_72 : BitVec 32 := 0#32
  let v141 : BitVec 1 := Scalar.cmpi .slt v137 c0_i32_72
  let v142 : BitVec 1 := Scalar.xori v140 v141
  let c0_i32_70 : BitVec 32 := 0#32
  let v139 : BitVec 1 := Scalar.cmpi .ne v138 c0_i32_70
  let v143 : BitVec 1 := Scalar.andi v142 v139
  let v144 : BitVec 32 := Scalar.addi v138 v137
  let v145 : BitVec 32 := Scalar.select v143 v144 v138
  let c0_i32_73 : BitVec 32 := 0#32
  let v146 : BitVec 1 := Scalar.cmpi .eq v145 c0_i32_73
  let c4_i32_61 : BitVec 32 := 4#32
  let c0_i32_62 : BitVec 32 := 0#32
  let v126 : BitVec 1 := Scalar.cmpi .eq c4_i32_61 c0_i32_62
  let c1_i32_63 : BitVec 32 := 1#32
  let v127 : BitVec 32 := Scalar.select v126 c1_i32_63 c4_i32_61
  let v128 : BitVec 32 := Scalar.remsi v108 v127
  let c0_i32_65 : BitVec 32 := 0#32
  let v130 : BitVec 1 := Scalar.cmpi .slt v128 c0_i32_65
  let c0_i32_66 : BitVec 32 := 0#32
  let v131 : BitVec 1 := Scalar.cmpi .slt v127 c0_i32_66
  let v132 : BitVec 1 := Scalar.xori v130 v131
  let c0_i32_64 : BitVec 32 := 0#32
  let v129 : BitVec 1 := Scalar.cmpi .ne v128 c0_i32_64
  let v133 : BitVec 1 := Scalar.andi v132 v129
  let v134 : BitVec 32 := Scalar.addi v128 v127
  let v135 : BitVec 32 := Scalar.select v133 v134 v128
  let c3_i32_74 : BitVec 32 := 3#32
  let v147 : BitVec 32 := Scalar.subi c3_i32_74 v135
  let v148 : BitVec 32 := Scalar.select v146 v135 v147
  let v149 : BitVec 32 := Scalar.muli c4_i32_75 v148
  let v150 : BitVec 32 := Scalar.addi v149 v125
  let c1_i32_2163 : BitVec 32 := 1#32
  let v2993 : BitVec 32 := Scalar.muli v150 c1_i32_2163
  let v2994 : BitVec 32 := Scalar.addi c0_i32_2164 v2993
  v2994.toNat
def k0_dev56 (d0 : Dev nD) : Nat :=
  let c0_i32_2192 : BitVec 32 := 0#32
  let c4_i32_46 : BitVec 32 := 4#32
  let c4_i32_17 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let v43 : BitVec 32 := Scalar.muli c4_i32_17 v12
  let c2_i32 : BitVec 32 := 2#32
  let c0_i32_11 : BitVec 32 := 0#32
  let v30 : BitVec 1 := Scalar.cmpi .eq c2_i32 c0_i32_11
  let c1_i32_12 : BitVec 32 := 1#32
  let v31 : BitVec 32 := Scalar.select v30 c1_i32_12 c2_i32
  let v32 : BitVec 32 := Scalar.remsi v12 v31
  let c0_i32_14 : BitVec 32 := 0#32
  let v34 : BitVec 1 := Scalar.cmpi .slt v32 c0_i32_14
  let c0_i32_15 : BitVec 32 := 0#32
  let v35 : BitVec 1 := Scalar.cmpi .slt v31 c0_i32_15
  let v36 : BitVec 1 := Scalar.xori v34 v35
  let c0_i32_13 : BitVec 32 := 0#32
  let v33 : BitVec 1 := Scalar.cmpi .ne v32 c0_i32_13
  let v37 : BitVec 1 := Scalar.andi v36 v33
  let v38 : BitVec 32 := Scalar.addi v32 v31
  let v39 : BitVec 32 := Scalar.select v37 v38 v32
  let c0_i32_16 : BitVec 32 := 0#32
  let v40 : BitVec 1 := Scalar.cmpi .eq v39 c0_i32_16
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c4_i32_4 : BitVec 32 := 4#32
  let c0_i32_7 : BitVec 32 := 0#32
  let v19 : BitVec 1 := Scalar.cmpi .sgt c4_i32_4 c0_i32_7
  let v20 : BitVec 32 := Scalar.extui v19
  let c0_i32_8 : BitVec 32 := 0#32
  let v21 : BitVec 1 := Scalar.cmpi .slt c4_i32_4 c0_i32_8
  let v22 : BitVec 32 := Scalar.extui v21
  let v23 : BitVec 32 := Scalar.subi v20 v22
  let v24 : BitVec 1 := Scalar.cmpi .ne v18 v23
  let v25 : BitVec 32 := Scalar.remsi v2 c4_i32_4
  let c0_i32_9 : BitVec 32 := 0#32
  let v26 : BitVec 1 := Scalar.cmpi .ne v25 c0_i32_9
  let v27 : BitVec 1 := Scalar.andi v24 v26
  let v13 : BitVec 32 := Scalar.divsi v2 c4_i32_4
  let c1_i32_10 : BitVec 32 := 1#32
  let v28 : BitVec 32 := Scalar.subi v13 c1_i32_10
  let v29 : BitVec 32 := Scalar.select v27 v28 v13
  let c3_i32 : BitVec 32 := 3#32
  let v41 : BitVec 32 := Scalar.subi c3_i32 v29
  let v42 : BitVec 32 := Scalar.select v40 v29 v41
  let v44 : BitVec 32 := Scalar.addi v43 v42
  let c1_i32_18 : BitVec 32 := 1#32
  let v45 : BitVec 32 := Scalar.addi v44 c1_i32_18
  let c16_i32_19 : BitVec 32 := 16#32
  let c0_i32_20 : BitVec 32 := 0#32
  let v46 : BitVec 1 := Scalar.cmpi .eq c16_i32_19 c0_i32_20
  let c1_i32_21 : BitVec 32 := 1#32
  let v47 : BitVec 32 := Scalar.select v46 c1_i32_21 c16_i32_19
  let v48 : BitVec 32 := Scalar.remsi v45 v47
  let c0_i32_23 : BitVec 32 := 0#32
  let v50 : BitVec 1 := Scalar.cmpi .slt v48 c0_i32_23
  let c0_i32_24 : BitVec 32 := 0#32
  let v51 : BitVec 1 := Scalar.cmpi .slt v47 c0_i32_24
  let v52 : BitVec 1 := Scalar.xori v50 v51
  let c0_i32_22 : BitVec 32 := 0#32
  let v49 : BitVec 1 := Scalar.cmpi .ne v48 c0_i32_22
  let v53 : BitVec 1 := Scalar.andi v52 v49
  let v54 : BitVec 32 := Scalar.addi v48 v47
  let v55 : BitVec 32 := Scalar.select v53 v54 v48
  let c0_i32_26 : BitVec 32 := 0#32
  let v57 : BitVec 1 := Scalar.cmpi .sgt v55 c0_i32_26
  let v58 : BitVec 32 := Scalar.extui v57
  let c0_i32_27 : BitVec 32 := 0#32
  let v59 : BitVec 1 := Scalar.cmpi .slt v55 c0_i32_27
  let v60 : BitVec 32 := Scalar.extui v59
  let v61 : BitVec 32 := Scalar.subi v58 v60
  let c4_i32_25 : BitVec 32 := 4#32
  let c0_i32_28 : BitVec 32 := 0#32
  let v62 : BitVec 1 := Scalar.cmpi .sgt c4_i32_25 c0_i32_28
  let v63 : BitVec 32 := Scalar.extui v62
  let c0_i32_29 : BitVec 32 := 0#32
  let v64 : BitVec 1 := Scalar.cmpi .slt c4_i32_25 c0_i32_29
  let v65 : BitVec 32 := Scalar.extui v64
  let v66 : BitVec 32 := Scalar.subi v63 v65
  let v67 : BitVec 1 := Scalar.cmpi .ne v61 v66
  let v68 : BitVec 32 := Scalar.remsi v55 c4_i32_25
  let c0_i32_30 : BitVec 32 := 0#32
  let v69 : BitVec 1 := Scalar.cmpi .ne v68 c0_i32_30
  let v70 : BitVec 1 := Scalar.andi v67 v69
  let v56 : BitVec 32 := Scalar.divsi v55 c4_i32_25
  let c1_i32_31 : BitVec 32 := 1#32
  let v71 : BitVec 32 := Scalar.subi v56 c1_i32_31
  let v72 : BitVec 32 := Scalar.select v70 v71 v56
  let c2_i32_38 : BitVec 32 := 2#32
  let c0_i32_39 : BitVec 32 := 0#32
  let v83 : BitVec 1 := Scalar.cmpi .eq c2_i32_38 c0_i32_39
  let c1_i32_40 : BitVec 32 := 1#32
  let v84 : BitVec 32 := Scalar.select v83 c1_i32_40 c2_i32_38
  let v85 : BitVec 32 := Scalar.remsi v72 v84
  let c0_i32_42 : BitVec 32 := 0#32
  let v87 : BitVec 1 := Scalar.cmpi .slt v85 c0_i32_42
  let c0_i32_43 : BitVec 32 := 0#32
  let v88 : BitVec 1 := Scalar.cmpi .slt v84 c0_i32_43
  let v89 : BitVec 1 := Scalar.xori v87 v88
  let c0_i32_41 : BitVec 32 := 0#32
  let v86 : BitVec 1 := Scalar.cmpi .ne v85 c0_i32_41
  let v90 : BitVec 1 := Scalar.andi v89 v86
  let v91 : BitVec 32 := Scalar.addi v85 v84
  let v92 : BitVec 32 := Scalar.select v90 v91 v85
  let c0_i32_44 : BitVec 32 := 0#32
  let v93 : BitVec 1 := Scalar.cmpi .eq v92 c0_i32_44
  let c4_i32_32 : BitVec 32 := 4#32
  let c0_i32_33 : BitVec 32 := 0#32
  let v73 : BitVec 1 := Scalar.cmpi .eq c4_i32_32 c0_i32_33
  let c1_i32_34 : BitVec 32 := 1#32
  let v74 : BitVec 32 := Scalar.select v73 c1_i32_34 c4_i32_32
  let v75 : BitVec 32 := Scalar.remsi v55 v74
  let c0_i32_36 : BitVec 32 := 0#32
  let v77 : BitVec 1 := Scalar.cmpi .slt v75 c0_i32_36
  let c0_i32_37 : BitVec 32 := 0#32
  let v78 : BitVec 1 := Scalar.cmpi .slt v74 c0_i32_37
  let v79 : BitVec 1 := Scalar.xori v77 v78
  let c0_i32_35 : BitVec 32 := 0#32
  let v76 : BitVec 1 := Scalar.cmpi .ne v75 c0_i32_35
  let v80 : BitVec 1 := Scalar.andi v79 v76
  let v81 : BitVec 32 := Scalar.addi v75 v74
  let v82 : BitVec 32 := Scalar.select v80 v81 v75
  let c3_i32_45 : BitVec 32 := 3#32
  let v94 : BitVec 32 := Scalar.subi c3_i32_45 v82
  let v95 : BitVec 32 := Scalar.select v93 v82 v94
  let v96 : BitVec 32 := Scalar.muli c4_i32_46 v95
  let v97 : BitVec 32 := Scalar.addi v96 v72
  let c1_i32_2191 : BitVec 32 := 1#32
  let v3017 : BitVec 32 := Scalar.muli v97 c1_i32_2191
  let v3018 : BitVec 32 := Scalar.addi c0_i32_2192 v3017
  v3018.toNat
def k0_dev57 (d0 : Dev nD) : Nat :=
  let c0_i32_2206 : BitVec 32 := 0#32
  let c4_i32_46 : BitVec 32 := 4#32
  let c4_i32_17 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let v43 : BitVec 32 := Scalar.muli c4_i32_17 v12
  let c2_i32 : BitVec 32 := 2#32
  let c0_i32_11 : BitVec 32 := 0#32
  let v30 : BitVec 1 := Scalar.cmpi .eq c2_i32 c0_i32_11
  let c1_i32_12 : BitVec 32 := 1#32
  let v31 : BitVec 32 := Scalar.select v30 c1_i32_12 c2_i32
  let v32 : BitVec 32 := Scalar.remsi v12 v31
  let c0_i32_14 : BitVec 32 := 0#32
  let v34 : BitVec 1 := Scalar.cmpi .slt v32 c0_i32_14
  let c0_i32_15 : BitVec 32 := 0#32
  let v35 : BitVec 1 := Scalar.cmpi .slt v31 c0_i32_15
  let v36 : BitVec 1 := Scalar.xori v34 v35
  let c0_i32_13 : BitVec 32 := 0#32
  let v33 : BitVec 1 := Scalar.cmpi .ne v32 c0_i32_13
  let v37 : BitVec 1 := Scalar.andi v36 v33
  let v38 : BitVec 32 := Scalar.addi v32 v31
  let v39 : BitVec 32 := Scalar.select v37 v38 v32
  let c0_i32_16 : BitVec 32 := 0#32
  let v40 : BitVec 1 := Scalar.cmpi .eq v39 c0_i32_16
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c4_i32_4 : BitVec 32 := 4#32
  let c0_i32_7 : BitVec 32 := 0#32
  let v19 : BitVec 1 := Scalar.cmpi .sgt c4_i32_4 c0_i32_7
  let v20 : BitVec 32 := Scalar.extui v19
  let c0_i32_8 : BitVec 32 := 0#32
  let v21 : BitVec 1 := Scalar.cmpi .slt c4_i32_4 c0_i32_8
  let v22 : BitVec 32 := Scalar.extui v21
  let v23 : BitVec 32 := Scalar.subi v20 v22
  let v24 : BitVec 1 := Scalar.cmpi .ne v18 v23
  let v25 : BitVec 32 := Scalar.remsi v2 c4_i32_4
  let c0_i32_9 : BitVec 32 := 0#32
  let v26 : BitVec 1 := Scalar.cmpi .ne v25 c0_i32_9
  let v27 : BitVec 1 := Scalar.andi v24 v26
  let v13 : BitVec 32 := Scalar.divsi v2 c4_i32_4
  let c1_i32_10 : BitVec 32 := 1#32
  let v28 : BitVec 32 := Scalar.subi v13 c1_i32_10
  let v29 : BitVec 32 := Scalar.select v27 v28 v13
  let c3_i32 : BitVec 32 := 3#32
  let v41 : BitVec 32 := Scalar.subi c3_i32 v29
  let v42 : BitVec 32 := Scalar.select v40 v29 v41
  let v44 : BitVec 32 := Scalar.addi v43 v42
  let c1_i32_18 : BitVec 32 := 1#32
  let v45 : BitVec 32 := Scalar.addi v44 c1_i32_18
  let c16_i32_19 : BitVec 32 := 16#32
  let c0_i32_20 : BitVec 32 := 0#32
  let v46 : BitVec 1 := Scalar.cmpi .eq c16_i32_19 c0_i32_20
  let c1_i32_21 : BitVec 32 := 1#32
  let v47 : BitVec 32 := Scalar.select v46 c1_i32_21 c16_i32_19
  let v48 : BitVec 32 := Scalar.remsi v45 v47
  let c0_i32_23 : BitVec 32 := 0#32
  let v50 : BitVec 1 := Scalar.cmpi .slt v48 c0_i32_23
  let c0_i32_24 : BitVec 32 := 0#32
  let v51 : BitVec 1 := Scalar.cmpi .slt v47 c0_i32_24
  let v52 : BitVec 1 := Scalar.xori v50 v51
  let c0_i32_22 : BitVec 32 := 0#32
  let v49 : BitVec 1 := Scalar.cmpi .ne v48 c0_i32_22
  let v53 : BitVec 1 := Scalar.andi v52 v49
  let v54 : BitVec 32 := Scalar.addi v48 v47
  let v55 : BitVec 32 := Scalar.select v53 v54 v48
  let c0_i32_26 : BitVec 32 := 0#32
  let v57 : BitVec 1 := Scalar.cmpi .sgt v55 c0_i32_26
  let v58 : BitVec 32 := Scalar.extui v57
  let c0_i32_27 : BitVec 32 := 0#32
  let v59 : BitVec 1 := Scalar.cmpi .slt v55 c0_i32_27
  let v60 : BitVec 32 := Scalar.extui v59
  let v61 : BitVec 32 := Scalar.subi v58 v60
  let c4_i32_25 : BitVec 32 := 4#32
  let c0_i32_28 : BitVec 32 := 0#32
  let v62 : BitVec 1 := Scalar.cmpi .sgt c4_i32_25 c0_i32_28
  let v63 : BitVec 32 := Scalar.extui v62
  let c0_i32_29 : BitVec 32 := 0#32
  let v64 : BitVec 1 := Scalar.cmpi .slt c4_i32_25 c0_i32_29
  let v65 : BitVec 32 := Scalar.extui v64
  let v66 : BitVec 32 := Scalar.subi v63 v65
  let v67 : BitVec 1 := Scalar.cmpi .ne v61 v66
  let v68 : BitVec 32 := Scalar.remsi v55 c4_i32_25
  let c0_i32_30 : BitVec 32 := 0#32
  let v69 : BitVec 1 := Scalar.cmpi .ne v68 c0_i32_30
  let v70 : BitVec 1 := Scalar.andi v67 v69
  let v56 : BitVec 32 := Scalar.divsi v55 c4_i32_25
  let c1_i32_31 : BitVec 32 := 1#32
  let v71 : BitVec 32 := Scalar.subi v56 c1_i32_31
  let v72 : BitVec 32 := Scalar.select v70 v71 v56
  let c2_i32_38 : BitVec 32 := 2#32
  let c0_i32_39 : BitVec 32 := 0#32
  let v83 : BitVec 1 := Scalar.cmpi .eq c2_i32_38 c0_i32_39
  let c1_i32_40 : BitVec 32 := 1#32
  let v84 : BitVec 32 := Scalar.select v83 c1_i32_40 c2_i32_38
  let v85 : BitVec 32 := Scalar.remsi v72 v84
  let c0_i32_42 : BitVec 32 := 0#32
  let v87 : BitVec 1 := Scalar.cmpi .slt v85 c0_i32_42
  let c0_i32_43 : BitVec 32 := 0#32
  let v88 : BitVec 1 := Scalar.cmpi .slt v84 c0_i32_43
  let v89 : BitVec 1 := Scalar.xori v87 v88
  let c0_i32_41 : BitVec 32 := 0#32
  let v86 : BitVec 1 := Scalar.cmpi .ne v85 c0_i32_41
  let v90 : BitVec 1 := Scalar.andi v89 v86
  let v91 : BitVec 32 := Scalar.addi v85 v84
  let v92 : BitVec 32 := Scalar.select v90 v91 v85
  let c0_i32_44 : BitVec 32 := 0#32
  let v93 : BitVec 1 := Scalar.cmpi .eq v92 c0_i32_44
  let c4_i32_32 : BitVec 32 := 4#32
  let c0_i32_33 : BitVec 32 := 0#32
  let v73 : BitVec 1 := Scalar.cmpi .eq c4_i32_32 c0_i32_33
  let c1_i32_34 : BitVec 32 := 1#32
  let v74 : BitVec 32 := Scalar.select v73 c1_i32_34 c4_i32_32
  let v75 : BitVec 32 := Scalar.remsi v55 v74
  let c0_i32_36 : BitVec 32 := 0#32
  let v77 : BitVec 1 := Scalar.cmpi .slt v75 c0_i32_36
  let c0_i32_37 : BitVec 32 := 0#32
  let v78 : BitVec 1 := Scalar.cmpi .slt v74 c0_i32_37
  let v79 : BitVec 1 := Scalar.xori v77 v78
  let c0_i32_35 : BitVec 32 := 0#32
  let v76 : BitVec 1 := Scalar.cmpi .ne v75 c0_i32_35
  let v80 : BitVec 1 := Scalar.andi v79 v76
  let v81 : BitVec 32 := Scalar.addi v75 v74
  let v82 : BitVec 32 := Scalar.select v80 v81 v75
  let c3_i32_45 : BitVec 32 := 3#32
  let v94 : BitVec 32 := Scalar.subi c3_i32_45 v82
  let v95 : BitVec 32 := Scalar.select v93 v82 v94
  let v96 : BitVec 32 := Scalar.muli c4_i32_46 v95
  let v97 : BitVec 32 := Scalar.addi v96 v72
  let c1_i32_2205 : BitVec 32 := 1#32
  let v3027 : BitVec 32 := Scalar.muli v97 c1_i32_2205
  let v3028 : BitVec 32 := Scalar.addi c0_i32_2206 v3027
  v3028.toNat
def k0_dev58 (d0 : Dev nD) : Nat :=
  let c0_i32_2218 : BitVec 32 := 0#32
  let c4_i32_75 : BitVec 32 := 4#32
  let c4_i32_17 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let v43 : BitVec 32 := Scalar.muli c4_i32_17 v12
  let c2_i32 : BitVec 32 := 2#32
  let c0_i32_11 : BitVec 32 := 0#32
  let v30 : BitVec 1 := Scalar.cmpi .eq c2_i32 c0_i32_11
  let c1_i32_12 : BitVec 32 := 1#32
  let v31 : BitVec 32 := Scalar.select v30 c1_i32_12 c2_i32
  let v32 : BitVec 32 := Scalar.remsi v12 v31
  let c0_i32_14 : BitVec 32 := 0#32
  let v34 : BitVec 1 := Scalar.cmpi .slt v32 c0_i32_14
  let c0_i32_15 : BitVec 32 := 0#32
  let v35 : BitVec 1 := Scalar.cmpi .slt v31 c0_i32_15
  let v36 : BitVec 1 := Scalar.xori v34 v35
  let c0_i32_13 : BitVec 32 := 0#32
  let v33 : BitVec 1 := Scalar.cmpi .ne v32 c0_i32_13
  let v37 : BitVec 1 := Scalar.andi v36 v33
  let v38 : BitVec 32 := Scalar.addi v32 v31
  let v39 : BitVec 32 := Scalar.select v37 v38 v32
  let c0_i32_16 : BitVec 32 := 0#32
  let v40 : BitVec 1 := Scalar.cmpi .eq v39 c0_i32_16
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c4_i32_4 : BitVec 32 := 4#32
  let c0_i32_7 : BitVec 32 := 0#32
  let v19 : BitVec 1 := Scalar.cmpi .sgt c4_i32_4 c0_i32_7
  let v20 : BitVec 32 := Scalar.extui v19
  let c0_i32_8 : BitVec 32 := 0#32
  let v21 : BitVec 1 := Scalar.cmpi .slt c4_i32_4 c0_i32_8
  let v22 : BitVec 32 := Scalar.extui v21
  let v23 : BitVec 32 := Scalar.subi v20 v22
  let v24 : BitVec 1 := Scalar.cmpi .ne v18 v23
  let v25 : BitVec 32 := Scalar.remsi v2 c4_i32_4
  let c0_i32_9 : BitVec 32 := 0#32
  let v26 : BitVec 1 := Scalar.cmpi .ne v25 c0_i32_9
  let v27 : BitVec 1 := Scalar.andi v24 v26
  let v13 : BitVec 32 := Scalar.divsi v2 c4_i32_4
  let c1_i32_10 : BitVec 32 := 1#32
  let v28 : BitVec 32 := Scalar.subi v13 c1_i32_10
  let v29 : BitVec 32 := Scalar.select v27 v28 v13
  let c3_i32 : BitVec 32 := 3#32
  let v41 : BitVec 32 := Scalar.subi c3_i32 v29
  let v42 : BitVec 32 := Scalar.select v40 v29 v41
  let v44 : BitVec 32 := Scalar.addi v43 v42
  let c1_i32_47 : BitVec 32 := 1#32
  let v98 : BitVec 32 := Scalar.subi v44 c1_i32_47
  let c16_i32_48 : BitVec 32 := 16#32
  let c0_i32_49 : BitVec 32 := 0#32
  let v99 : BitVec 1 := Scalar.cmpi .eq c16_i32_48 c0_i32_49
  let c1_i32_50 : BitVec 32 := 1#32
  let v100 : BitVec 32 := Scalar.select v99 c1_i32_50 c16_i32_48
  let v101 : BitVec 32 := Scalar.remsi v98 v100
  let c0_i32_52 : BitVec 32 := 0#32
  let v103 : BitVec 1 := Scalar.cmpi .slt v101 c0_i32_52
  let c0_i32_53 : BitVec 32 := 0#32
  let v104 : BitVec 1 := Scalar.cmpi .slt v100 c0_i32_53
  let v105 : BitVec 1 := Scalar.xori v103 v104
  let c0_i32_51 : BitVec 32 := 0#32
  let v102 : BitVec 1 := Scalar.cmpi .ne v101 c0_i32_51
  let v106 : BitVec 1 := Scalar.andi v105 v102
  let v107 : BitVec 32 := Scalar.addi v101 v100
  let v108 : BitVec 32 := Scalar.select v106 v107 v101
  let c0_i32_55 : BitVec 32 := 0#32
  let v110 : BitVec 1 := Scalar.cmpi .sgt v108 c0_i32_55
  let v111 : BitVec 32 := Scalar.extui v110
  let c0_i32_56 : BitVec 32 := 0#32
  let v112 : BitVec 1 := Scalar.cmpi .slt v108 c0_i32_56
  let v113 : BitVec 32 := Scalar.extui v112
  let v114 : BitVec 32 := Scalar.subi v111 v113
  let c4_i32_54 : BitVec 32 := 4#32
  let c0_i32_57 : BitVec 32 := 0#32
  let v115 : BitVec 1 := Scalar.cmpi .sgt c4_i32_54 c0_i32_57
  let v116 : BitVec 32 := Scalar.extui v115
  let c0_i32_58 : BitVec 32 := 0#32
  let v117 : BitVec 1 := Scalar.cmpi .slt c4_i32_54 c0_i32_58
  let v118 : BitVec 32 := Scalar.extui v117
  let v119 : BitVec 32 := Scalar.subi v116 v118
  let v120 : BitVec 1 := Scalar.cmpi .ne v114 v119
  let v121 : BitVec 32 := Scalar.remsi v108 c4_i32_54
  let c0_i32_59 : BitVec 32 := 0#32
  let v122 : BitVec 1 := Scalar.cmpi .ne v121 c0_i32_59
  let v123 : BitVec 1 := Scalar.andi v120 v122
  let v109 : BitVec 32 := Scalar.divsi v108 c4_i32_54
  let c1_i32_60 : BitVec 32 := 1#32
  let v124 : BitVec 32 := Scalar.subi v109 c1_i32_60
  let v125 : BitVec 32 := Scalar.select v123 v124 v109
  let c2_i32_67 : BitVec 32 := 2#32
  let c0_i32_68 : BitVec 32 := 0#32
  let v136 : BitVec 1 := Scalar.cmpi .eq c2_i32_67 c0_i32_68
  let c1_i32_69 : BitVec 32 := 1#32
  let v137 : BitVec 32 := Scalar.select v136 c1_i32_69 c2_i32_67
  let v138 : BitVec 32 := Scalar.remsi v125 v137
  let c0_i32_71 : BitVec 32 := 0#32
  let v140 : BitVec 1 := Scalar.cmpi .slt v138 c0_i32_71
  let c0_i32_72 : BitVec 32 := 0#32
  let v141 : BitVec 1 := Scalar.cmpi .slt v137 c0_i32_72
  let v142 : BitVec 1 := Scalar.xori v140 v141
  let c0_i32_70 : BitVec 32 := 0#32
  let v139 : BitVec 1 := Scalar.cmpi .ne v138 c0_i32_70
  let v143 : BitVec 1 := Scalar.andi v142 v139
  let v144 : BitVec 32 := Scalar.addi v138 v137
  let v145 : BitVec 32 := Scalar.select v143 v144 v138
  let c0_i32_73 : BitVec 32 := 0#32
  let v146 : BitVec 1 := Scalar.cmpi .eq v145 c0_i32_73
  let c4_i32_61 : BitVec 32 := 4#32
  let c0_i32_62 : BitVec 32 := 0#32
  let v126 : BitVec 1 := Scalar.cmpi .eq c4_i32_61 c0_i32_62
  let c1_i32_63 : BitVec 32 := 1#32
  let v127 : BitVec 32 := Scalar.select v126 c1_i32_63 c4_i32_61
  let v128 : BitVec 32 := Scalar.remsi v108 v127
  let c0_i32_65 : BitVec 32 := 0#32
  let v130 : BitVec 1 := Scalar.cmpi .slt v128 c0_i32_65
  let c0_i32_66 : BitVec 32 := 0#32
  let v131 : BitVec 1 := Scalar.cmpi .slt v127 c0_i32_66
  let v132 : BitVec 1 := Scalar.xori v130 v131
  let c0_i32_64 : BitVec 32 := 0#32
  let v129 : BitVec 1 := Scalar.cmpi .ne v128 c0_i32_64
  let v133 : BitVec 1 := Scalar.andi v132 v129
  let v134 : BitVec 32 := Scalar.addi v128 v127
  let v135 : BitVec 32 := Scalar.select v133 v134 v128
  let c3_i32_74 : BitVec 32 := 3#32
  let v147 : BitVec 32 := Scalar.subi c3_i32_74 v135
  let v148 : BitVec 32 := Scalar.select v146 v135 v147
  let v149 : BitVec 32 := Scalar.muli c4_i32_75 v148
  let v150 : BitVec 32 := Scalar.addi v149 v125
  let c1_i32_2217 : BitVec 32 := 1#32
  let v3037 : BitVec 32 := Scalar.muli v150 c1_i32_2217
  let v3038 : BitVec 32 := Scalar.addi c0_i32_2218 v3037
  v3038.toNat
def k0_dev59 (d0 : Dev nD) : Nat :=
  let c0_i32_2244 : BitVec 32 := 0#32
  let c4_i32_75 : BitVec 32 := 4#32
  let c4_i32_17 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let v43 : BitVec 32 := Scalar.muli c4_i32_17 v12
  let c2_i32 : BitVec 32 := 2#32
  let c0_i32_11 : BitVec 32 := 0#32
  let v30 : BitVec 1 := Scalar.cmpi .eq c2_i32 c0_i32_11
  let c1_i32_12 : BitVec 32 := 1#32
  let v31 : BitVec 32 := Scalar.select v30 c1_i32_12 c2_i32
  let v32 : BitVec 32 := Scalar.remsi v12 v31
  let c0_i32_14 : BitVec 32 := 0#32
  let v34 : BitVec 1 := Scalar.cmpi .slt v32 c0_i32_14
  let c0_i32_15 : BitVec 32 := 0#32
  let v35 : BitVec 1 := Scalar.cmpi .slt v31 c0_i32_15
  let v36 : BitVec 1 := Scalar.xori v34 v35
  let c0_i32_13 : BitVec 32 := 0#32
  let v33 : BitVec 1 := Scalar.cmpi .ne v32 c0_i32_13
  let v37 : BitVec 1 := Scalar.andi v36 v33
  let v38 : BitVec 32 := Scalar.addi v32 v31
  let v39 : BitVec 32 := Scalar.select v37 v38 v32
  let c0_i32_16 : BitVec 32 := 0#32
  let v40 : BitVec 1 := Scalar.cmpi .eq v39 c0_i32_16
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c4_i32_4 : BitVec 32 := 4#32
  let c0_i32_7 : BitVec 32 := 0#32
  let v19 : BitVec 1 := Scalar.cmpi .sgt c4_i32_4 c0_i32_7
  let v20 : BitVec 32 := Scalar.extui v19
  let c0_i32_8 : BitVec 32 := 0#32
  let v21 : BitVec 1 := Scalar.cmpi .slt c4_i32_4 c0_i32_8
  let v22 : BitVec 32 := Scalar.extui v21
  let v23 : BitVec 32 := Scalar.subi v20 v22
  let v24 : BitVec 1 := Scalar.cmpi .ne v18 v23
  let v25 : BitVec 32 := Scalar.remsi v2 c4_i32_4
  let c0_i32_9 : BitVec 32 := 0#32
  let v26 : BitVec 1 := Scalar.cmpi .ne v25 c0_i32_9
  let v27 : BitVec 1 := Scalar.andi v24 v26
  let v13 : BitVec 32 := Scalar.divsi v2 c4_i32_4
  let c1_i32_10 : BitVec 32 := 1#32
  let v28 : BitVec 32 := Scalar.subi v13 c1_i32_10
  let v29 : BitVec 32 := Scalar.select v27 v28 v13
  let c3_i32 : BitVec 32 := 3#32
  let v41 : BitVec 32 := Scalar.subi c3_i32 v29
  let v42 : BitVec 32 := Scalar.select v40 v29 v41
  let v44 : BitVec 32 := Scalar.addi v43 v42
  let c1_i32_47 : BitVec 32 := 1#32
  let v98 : BitVec 32 := Scalar.subi v44 c1_i32_47
  let c16_i32_48 : BitVec 32 := 16#32
  let c0_i32_49 : BitVec 32 := 0#32
  let v99 : BitVec 1 := Scalar.cmpi .eq c16_i32_48 c0_i32_49
  let c1_i32_50 : BitVec 32 := 1#32
  let v100 : BitVec 32 := Scalar.select v99 c1_i32_50 c16_i32_48
  let v101 : BitVec 32 := Scalar.remsi v98 v100
  let c0_i32_52 : BitVec 32 := 0#32
  let v103 : BitVec 1 := Scalar.cmpi .slt v101 c0_i32_52
  let c0_i32_53 : BitVec 32 := 0#32
  let v104 : BitVec 1 := Scalar.cmpi .slt v100 c0_i32_53
  let v105 : BitVec 1 := Scalar.xori v103 v104
  let c0_i32_51 : BitVec 32 := 0#32
  let v102 : BitVec 1 := Scalar.cmpi .ne v101 c0_i32_51
  let v106 : BitVec 1 := Scalar.andi v105 v102
  let v107 : BitVec 32 := Scalar.addi v101 v100
  let v108 : BitVec 32 := Scalar.select v106 v107 v101
  let c0_i32_55 : BitVec 32 := 0#32
  let v110 : BitVec 1 := Scalar.cmpi .sgt v108 c0_i32_55
  let v111 : BitVec 32 := Scalar.extui v110
  let c0_i32_56 : BitVec 32 := 0#32
  let v112 : BitVec 1 := Scalar.cmpi .slt v108 c0_i32_56
  let v113 : BitVec 32 := Scalar.extui v112
  let v114 : BitVec 32 := Scalar.subi v111 v113
  let c4_i32_54 : BitVec 32 := 4#32
  let c0_i32_57 : BitVec 32 := 0#32
  let v115 : BitVec 1 := Scalar.cmpi .sgt c4_i32_54 c0_i32_57
  let v116 : BitVec 32 := Scalar.extui v115
  let c0_i32_58 : BitVec 32 := 0#32
  let v117 : BitVec 1 := Scalar.cmpi .slt c4_i32_54 c0_i32_58
  let v118 : BitVec 32 := Scalar.extui v117
  let v119 : BitVec 32 := Scalar.subi v116 v118
  let v120 : BitVec 1 := Scalar.cmpi .ne v114 v119
  let v121 : BitVec 32 := Scalar.remsi v108 c4_i32_54
  let c0_i32_59 : BitVec 32 := 0#32
  let v122 : BitVec 1 := Scalar.cmpi .ne v121 c0_i32_59
  let v123 : BitVec 1 := Scalar.andi v120 v122
  let v109 : BitVec 32 := Scalar.divsi v108 c4_i32_54
  let c1_i32_60 : BitVec 32 := 1#32
  let v124 : BitVec 32 := Scalar.subi v109 c1_i32_60
  let v125 : BitVec 32 := Scalar.select v123 v124 v109
  let c2_i32_67 : BitVec 32 := 2#32
  let c0_i32_68 : BitVec 32 := 0#32
  let v136 : BitVec 1 := Scalar.cmpi .eq c2_i32_67 c0_i32_68
  let c1_i32_69 : BitVec 32 := 1#32
  let v137 : BitVec 32 := Scalar.select v136 c1_i32_69 c2_i32_67
  let v138 : BitVec 32 := Scalar.remsi v125 v137
  let c0_i32_71 : BitVec 32 := 0#32
  let v140 : BitVec 1 := Scalar.cmpi .slt v138 c0_i32_71
  let c0_i32_72 : BitVec 32 := 0#32
  let v141 : BitVec 1 := Scalar.cmpi .slt v137 c0_i32_72
  let v142 : BitVec 1 := Scalar.xori v140 v141
  let c0_i32_70 : BitVec 32 := 0#32
  let v139 : BitVec 1 := Scalar.cmpi .ne v138 c0_i32_70
  let v143 : BitVec 1 := Scalar.andi v142 v139
  let v144 : BitVec 32 := Scalar.addi v138 v137
  let v145 : BitVec 32 := Scalar.select v143 v144 v138
  let c0_i32_73 : BitVec 32 := 0#32
  let v146 : BitVec 1 := Scalar.cmpi .eq v145 c0_i32_73
  let c4_i32_61 : BitVec 32 := 4#32
  let c0_i32_62 : BitVec 32 := 0#32
  let v126 : BitVec 1 := Scalar.cmpi .eq c4_i32_61 c0_i32_62
  let c1_i32_63 : BitVec 32 := 1#32
  let v127 : BitVec 32 := Scalar.select v126 c1_i32_63 c4_i32_61
  let v128 : BitVec 32 := Scalar.remsi v108 v127
  let c0_i32_65 : BitVec 32 := 0#32
  let v130 : BitVec 1 := Scalar.cmpi .slt v128 c0_i32_65
  let c0_i32_66 : BitVec 32 := 0#32
  let v131 : BitVec 1 := Scalar.cmpi .slt v127 c0_i32_66
  let v132 : BitVec 1 := Scalar.xori v130 v131
  let c0_i32_64 : BitVec 32 := 0#32
  let v129 : BitVec 1 := Scalar.cmpi .ne v128 c0_i32_64
  let v133 : BitVec 1 := Scalar.andi v132 v129
  let v134 : BitVec 32 := Scalar.addi v128 v127
  let v135 : BitVec 32 := Scalar.select v133 v134 v128
  let c3_i32_74 : BitVec 32 := 3#32
  let v147 : BitVec 32 := Scalar.subi c3_i32_74 v135
  let v148 : BitVec 32 := Scalar.select v146 v135 v147
  let v149 : BitVec 32 := Scalar.muli c4_i32_75 v148
  let v150 : BitVec 32 := Scalar.addi v149 v125
  let c1_i32_2243 : BitVec 32 := 1#32
  let v3061 : BitVec 32 := Scalar.muli v150 c1_i32_2243
  let v3062 : BitVec 32 := Scalar.addi c0_i32_2244 v3061
  v3062.toNat
def k0_dev60 (d0 : Dev nD) : Nat :=
  let c0_i32_2272 : BitVec 32 := 0#32
  let c4_i32_46 : BitVec 32 := 4#32
  let c4_i32_17 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let v43 : BitVec 32 := Scalar.muli c4_i32_17 v12
  let c2_i32 : BitVec 32 := 2#32
  let c0_i32_11 : BitVec 32 := 0#32
  let v30 : BitVec 1 := Scalar.cmpi .eq c2_i32 c0_i32_11
  let c1_i32_12 : BitVec 32 := 1#32
  let v31 : BitVec 32 := Scalar.select v30 c1_i32_12 c2_i32
  let v32 : BitVec 32 := Scalar.remsi v12 v31
  let c0_i32_14 : BitVec 32 := 0#32
  let v34 : BitVec 1 := Scalar.cmpi .slt v32 c0_i32_14
  let c0_i32_15 : BitVec 32 := 0#32
  let v35 : BitVec 1 := Scalar.cmpi .slt v31 c0_i32_15
  let v36 : BitVec 1 := Scalar.xori v34 v35
  let c0_i32_13 : BitVec 32 := 0#32
  let v33 : BitVec 1 := Scalar.cmpi .ne v32 c0_i32_13
  let v37 : BitVec 1 := Scalar.andi v36 v33
  let v38 : BitVec 32 := Scalar.addi v32 v31
  let v39 : BitVec 32 := Scalar.select v37 v38 v32
  let c0_i32_16 : BitVec 32 := 0#32
  let v40 : BitVec 1 := Scalar.cmpi .eq v39 c0_i32_16
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c4_i32_4 : BitVec 32 := 4#32
  let c0_i32_7 : BitVec 32 := 0#32
  let v19 : BitVec 1 := Scalar.cmpi .sgt c4_i32_4 c0_i32_7
  let v20 : BitVec 32 := Scalar.extui v19
  let c0_i32_8 : BitVec 32 := 0#32
  let v21 : BitVec 1 := Scalar.cmpi .slt c4_i32_4 c0_i32_8
  let v22 : BitVec 32 := Scalar.extui v21
  let v23 : BitVec 32 := Scalar.subi v20 v22
  let v24 : BitVec 1 := Scalar.cmpi .ne v18 v23
  let v25 : BitVec 32 := Scalar.remsi v2 c4_i32_4
  let c0_i32_9 : BitVec 32 := 0#32
  let v26 : BitVec 1 := Scalar.cmpi .ne v25 c0_i32_9
  let v27 : BitVec 1 := Scalar.andi v24 v26
  let v13 : BitVec 32 := Scalar.divsi v2 c4_i32_4
  let c1_i32_10 : BitVec 32 := 1#32
  let v28 : BitVec 32 := Scalar.subi v13 c1_i32_10
  let v29 : BitVec 32 := Scalar.select v27 v28 v13
  let c3_i32 : BitVec 32 := 3#32
  let v41 : BitVec 32 := Scalar.subi c3_i32 v29
  let v42 : BitVec 32 := Scalar.select v40 v29 v41
  let v44 : BitVec 32 := Scalar.addi v43 v42
  let c1_i32_18 : BitVec 32 := 1#32
  let v45 : BitVec 32 := Scalar.addi v44 c1_i32_18
  let c16_i32_19 : BitVec 32 := 16#32
  let c0_i32_20 : BitVec 32 := 0#32
  let v46 : BitVec 1 := Scalar.cmpi .eq c16_i32_19 c0_i32_20
  let c1_i32_21 : BitVec 32 := 1#32
  let v47 : BitVec 32 := Scalar.select v46 c1_i32_21 c16_i32_19
  let v48 : BitVec 32 := Scalar.remsi v45 v47
  let c0_i32_23 : BitVec 32 := 0#32
  let v50 : BitVec 1 := Scalar.cmpi .slt v48 c0_i32_23
  let c0_i32_24 : BitVec 32 := 0#32
  let v51 : BitVec 1 := Scalar.cmpi .slt v47 c0_i32_24
  let v52 : BitVec 1 := Scalar.xori v50 v51
  let c0_i32_22 : BitVec 32 := 0#32
  let v49 : BitVec 1 := Scalar.cmpi .ne v48 c0_i32_22
  let v53 : BitVec 1 := Scalar.andi v52 v49
  let v54 : BitVec 32 := Scalar.addi v48 v47
  let v55 : BitVec 32 := Scalar.select v53 v54 v48
  let c0_i32_26 : BitVec 32 := 0#32
  let v57 : BitVec 1 := Scalar.cmpi .sgt v55 c0_i32_26
  let v58 : BitVec 32 := Scalar.extui v57
  let c0_i32_27 : BitVec 32 := 0#32
  let v59 : BitVec 1 := Scalar.cmpi .slt v55 c0_i32_27
  let v60 : BitVec 32 := Scalar.extui v59
  let v61 : BitVec 32 := Scalar.subi v58 v60
  let c4_i32_25 : BitVec 32 := 4#32
  let c0_i32_28 : BitVec 32 := 0#32
  let v62 : BitVec 1 := Scalar.cmpi .sgt c4_i32_25 c0_i32_28
  let v63 : BitVec 32 := Scalar.extui v62
  let c0_i32_29 : BitVec 32 := 0#32
  let v64 : BitVec 1 := Scalar.cmpi .slt c4_i32_25 c0_i32_29
  let v65 : BitVec 32 := Scalar.extui v64
  let v66 : BitVec 32 := Scalar.subi v63 v65
  let v67 : BitVec 1 := Scalar.cmpi .ne v61 v66
  let v68 : BitVec 32 := Scalar.remsi v55 c4_i32_25
  let c0_i32_30 : BitVec 32 := 0#32
  let v69 : BitVec 1 := Scalar.cmpi .ne v68 c0_i32_30
  let v70 : BitVec 1 := Scalar.andi v67 v69
  let v56 : BitVec 32 := Scalar.divsi v55 c4_i32_25
  let c1_i32_31 : BitVec 32 := 1#32
  let v71 : BitVec 32 := Scalar.subi v56 c1_i32_31
  let v72 : BitVec 32 := Scalar.select v70 v71 v56
  let c2_i32_38 : BitVec 32 := 2#32
  let c0_i32_39 : BitVec 32 := 0#32
  let v83 : BitVec 1 := Scalar.cmpi .eq c2_i32_38 c0_i32_39
  let c1_i32_40 : BitVec 32 := 1#32
  let v84 : BitVec 32 := Scalar.select v83 c1_i32_40 c2_i32_38
  let v85 : BitVec 32 := Scalar.remsi v72 v84
  let c0_i32_42 : BitVec 32 := 0#32
  let v87 : BitVec 1 := Scalar.cmpi .slt v85 c0_i32_42
  let c0_i32_43 : BitVec 32 := 0#32
  let v88 : BitVec 1 := Scalar.cmpi .slt v84 c0_i32_43
  let v89 : BitVec 1 := Scalar.xori v87 v88
  let c0_i32_41 : BitVec 32 := 0#32
  let v86 : BitVec 1 := Scalar.cmpi .ne v85 c0_i32_41
  let v90 : BitVec 1 := Scalar.andi v89 v86
  let v91 : BitVec 32 := Scalar.addi v85 v84
  let v92 : BitVec 32 := Scalar.select v90 v91 v85
  let c0_i32_44 : BitVec 32 := 0#32
  let v93 : BitVec 1 := Scalar.cmpi .eq v92 c0_i32_44
  let c4_i32_32 : BitVec 32 := 4#32
  let c0_i32_33 : BitVec 32 := 0#32
  let v73 : BitVec 1 := Scalar.cmpi .eq c4_i32_32 c0_i32_33
  let c1_i32_34 : BitVec 32 := 1#32
  let v74 : BitVec 32 := Scalar.select v73 c1_i32_34 c4_i32_32
  let v75 : BitVec 32 := Scalar.remsi v55 v74
  let c0_i32_36 : BitVec 32 := 0#32
  let v77 : BitVec 1 := Scalar.cmpi .slt v75 c0_i32_36
  let c0_i32_37 : BitVec 32 := 0#32
  let v78 : BitVec 1 := Scalar.cmpi .slt v74 c0_i32_37
  let v79 : BitVec 1 := Scalar.xori v77 v78
  let c0_i32_35 : BitVec 32 := 0#32
  let v76 : BitVec 1 := Scalar.cmpi .ne v75 c0_i32_35
  let v80 : BitVec 1 := Scalar.andi v79 v76
  let v81 : BitVec 32 := Scalar.addi v75 v74
  let v82 : BitVec 32 := Scalar.select v80 v81 v75
  let c3_i32_45 : BitVec 32 := 3#32
  let v94 : BitVec 32 := Scalar.subi c3_i32_45 v82
  let v95 : BitVec 32 := Scalar.select v93 v82 v94
  let v96 : BitVec 32 := Scalar.muli c4_i32_46 v95
  let v97 : BitVec 32 := Scalar.addi v96 v72
  let c1_i32_2271 : BitVec 32 := 1#32
  let v3085 : BitVec 32 := Scalar.muli v97 c1_i32_2271
  let v3086 : BitVec 32 := Scalar.addi c0_i32_2272 v3085
  v3086.toNat
def k0_dev61 (d0 : Dev nD) : Nat :=
  let c0_i32_2286 : BitVec 32 := 0#32
  let c4_i32_46 : BitVec 32 := 4#32
  let c4_i32_17 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let v43 : BitVec 32 := Scalar.muli c4_i32_17 v12
  let c2_i32 : BitVec 32 := 2#32
  let c0_i32_11 : BitVec 32 := 0#32
  let v30 : BitVec 1 := Scalar.cmpi .eq c2_i32 c0_i32_11
  let c1_i32_12 : BitVec 32 := 1#32
  let v31 : BitVec 32 := Scalar.select v30 c1_i32_12 c2_i32
  let v32 : BitVec 32 := Scalar.remsi v12 v31
  let c0_i32_14 : BitVec 32 := 0#32
  let v34 : BitVec 1 := Scalar.cmpi .slt v32 c0_i32_14
  let c0_i32_15 : BitVec 32 := 0#32
  let v35 : BitVec 1 := Scalar.cmpi .slt v31 c0_i32_15
  let v36 : BitVec 1 := Scalar.xori v34 v35
  let c0_i32_13 : BitVec 32 := 0#32
  let v33 : BitVec 1 := Scalar.cmpi .ne v32 c0_i32_13
  let v37 : BitVec 1 := Scalar.andi v36 v33
  let v38 : BitVec 32 := Scalar.addi v32 v31
  let v39 : BitVec 32 := Scalar.select v37 v38 v32
  let c0_i32_16 : BitVec 32 := 0#32
  let v40 : BitVec 1 := Scalar.cmpi .eq v39 c0_i32_16
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c4_i32_4 : BitVec 32 := 4#32
  let c0_i32_7 : BitVec 32 := 0#32
  let v19 : BitVec 1 := Scalar.cmpi .sgt c4_i32_4 c0_i32_7
  let v20 : BitVec 32 := Scalar.extui v19
  let c0_i32_8 : BitVec 32 := 0#32
  let v21 : BitVec 1 := Scalar.cmpi .slt c4_i32_4 c0_i32_8
  let v22 : BitVec 32 := Scalar.extui v21
  let v23 : BitVec 32 := Scalar.subi v20 v22
  let v24 : BitVec 1 := Scalar.cmpi .ne v18 v23
  let v25 : BitVec 32 := Scalar.remsi v2 c4_i32_4
  let c0_i32_9 : BitVec 32 := 0#32
  let v26 : BitVec 1 := Scalar.cmpi .ne v25 c0_i32_9
  let v27 : BitVec 1 := Scalar.andi v24 v26
  let v13 : BitVec 32 := Scalar.divsi v2 c4_i32_4
  let c1_i32_10 : BitVec 32 := 1#32
  let v28 : BitVec 32 := Scalar.subi v13 c1_i32_10
  let v29 : BitVec 32 := Scalar.select v27 v28 v13
  let c3_i32 : BitVec 32 := 3#32
  let v41 : BitVec 32 := Scalar.subi c3_i32 v29
  let v42 : BitVec 32 := Scalar.select v40 v29 v41
  let v44 : BitVec 32 := Scalar.addi v43 v42
  let c1_i32_18 : BitVec 32 := 1#32
  let v45 : BitVec 32 := Scalar.addi v44 c1_i32_18
  let c16_i32_19 : BitVec 32 := 16#32
  let c0_i32_20 : BitVec 32 := 0#32
  let v46 : BitVec 1 := Scalar.cmpi .eq c16_i32_19 c0_i32_20
  let c1_i32_21 : BitVec 32 := 1#32
  let v47 : BitVec 32 := Scalar.select v46 c1_i32_21 c16_i32_19
  let v48 : BitVec 32 := Scalar.remsi v45 v47
  let c0_i32_23 : BitVec 32 := 0#32
  let v50 : BitVec 1 := Scalar.cmpi .slt v48 c0_i32_23
  let c0_i32_24 : BitVec 32 := 0#32
  let v51 : BitVec 1 := Scalar.cmpi .slt v47 c0_i32_24
  let v52 : BitVec 1 := Scalar.xori v50 v51
  let c0_i32_22 : BitVec 32 := 0#32
  let v49 : BitVec 1 := Scalar.cmpi .ne v48 c0_i32_22
  let v53 : BitVec 1 := Scalar.andi v52 v49
  let v54 : BitVec 32 := Scalar.addi v48 v47
  let v55 : BitVec 32 := Scalar.select v53 v54 v48
  let c0_i32_26 : BitVec 32 := 0#32
  let v57 : BitVec 1 := Scalar.cmpi .sgt v55 c0_i32_26
  let v58 : BitVec 32 := Scalar.extui v57
  let c0_i32_27 : BitVec 32 := 0#32
  let v59 : BitVec 1 := Scalar.cmpi .slt v55 c0_i32_27
  let v60 : BitVec 32 := Scalar.extui v59
  let v61 : BitVec 32 := Scalar.subi v58 v60
  let c4_i32_25 : BitVec 32 := 4#32
  let c0_i32_28 : BitVec 32 := 0#32
  let v62 : BitVec 1 := Scalar.cmpi .sgt c4_i32_25 c0_i32_28
  let v63 : BitVec 32 := Scalar.extui v62
  let c0_i32_29 : BitVec 32 := 0#32
  let v64 : BitVec 1 := Scalar.cmpi .slt c4_i32_25 c0_i32_29
  let v65 : BitVec 32 := Scalar.extui v64
  let v66 : BitVec 32 := Scalar.subi v63 v65
  let v67 : BitVec 1 := Scalar.cmpi .ne v61 v66
  let v68 : BitVec 32 := Scalar.remsi v55 c4_i32_25
  let c0_i32_30 : BitVec 32 := 0#32
  let v69 : BitVec 1 := Scalar.cmpi .ne v68 c0_i32_30
  let v70 : BitVec 1 := Scalar.andi v67 v69
  let v56 : BitVec 32 := Scalar.divsi v55 c4_i32_25
  let c1_i32_31 : BitVec 32 := 1#32
  let v71 : BitVec 32 := Scalar.subi v56 c1_i32_31
  let v72 : BitVec 32 := Scalar.select v70 v71 v56
  let c2_i32_38 : BitVec 32 := 2#32
  let c0_i32_39 : BitVec 32 := 0#32
  let v83 : BitVec 1 := Scalar.cmpi .eq c2_i32_38 c0_i32_39
  let c1_i32_40 : BitVec 32 := 1#32
  let v84 : BitVec 32 := Scalar.select v83 c1_i32_40 c2_i32_38
  let v85 : BitVec 32 := Scalar.remsi v72 v84
  let c0_i32_42 : BitVec 32 := 0#32
  let v87 : BitVec 1 := Scalar.cmpi .slt v85 c0_i32_42
  let c0_i32_43 : BitVec 32 := 0#32
  let v88 : BitVec 1 := Scalar.cmpi .slt v84 c0_i32_43
  let v89 : BitVec 1 := Scalar.xori v87 v88
  let c0_i32_41 : BitVec 32 := 0#32
  let v86 : BitVec 1 := Scalar.cmpi .ne v85 c0_i32_41
  let v90 : BitVec 1 := Scalar.andi v89 v86
  let v91 : BitVec 32 := Scalar.addi v85 v84
  let v92 : BitVec 32 := Scalar.select v90 v91 v85
  let c0_i32_44 : BitVec 32 := 0#32
  let v93 : BitVec 1 := Scalar.cmpi .eq v92 c0_i32_44
  let c4_i32_32 : BitVec 32 := 4#32
  let c0_i32_33 : BitVec 32 := 0#32
  let v73 : BitVec 1 := Scalar.cmpi .eq c4_i32_32 c0_i32_33
  let c1_i32_34 : BitVec 32 := 1#32
  let v74 : BitVec 32 := Scalar.select v73 c1_i32_34 c4_i32_32
  let v75 : BitVec 32 := Scalar.remsi v55 v74
  let c0_i32_36 : BitVec 32 := 0#32
  let v77 : BitVec 1 := Scalar.cmpi .slt v75 c0_i32_36
  let c0_i32_37 : BitVec 32 := 0#32
  let v78 : BitVec 1 := Scalar.cmpi .slt v74 c0_i32_37
  let v79 : BitVec 1 := Scalar.xori v77 v78
  let c0_i32_35 : BitVec 32 := 0#32
  let v76 : BitVec 1 := Scalar.cmpi .ne v75 c0_i32_35
  let v80 : BitVec 1 := Scalar.andi v79 v76
  let v81 : BitVec 32 := Scalar.addi v75 v74
  let v82 : BitVec 32 := Scalar.select v80 v81 v75
  let c3_i32_45 : BitVec 32 := 3#32
  let v94 : BitVec 32 := Scalar.subi c3_i32_45 v82
  let v95 : BitVec 32 := Scalar.select v93 v82 v94
  let v96 : BitVec 32 := Scalar.muli c4_i32_46 v95
  let v97 : BitVec 32 := Scalar.addi v96 v72
  let c1_i32_2285 : BitVec 32 := 1#32
  let v3095 : BitVec 32 := Scalar.muli v97 c1_i32_2285
  let v3096 : BitVec 32 := Scalar.addi c0_i32_2286 v3095
  v3096.toNat
def k0_dev62 (d0 : Dev nD) : Nat :=
  let c0_i32_2298 : BitVec 32 := 0#32
  let c4_i32_75 : BitVec 32 := 4#32
  let c4_i32_17 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let v43 : BitVec 32 := Scalar.muli c4_i32_17 v12
  let c2_i32 : BitVec 32 := 2#32
  let c0_i32_11 : BitVec 32 := 0#32
  let v30 : BitVec 1 := Scalar.cmpi .eq c2_i32 c0_i32_11
  let c1_i32_12 : BitVec 32 := 1#32
  let v31 : BitVec 32 := Scalar.select v30 c1_i32_12 c2_i32
  let v32 : BitVec 32 := Scalar.remsi v12 v31
  let c0_i32_14 : BitVec 32 := 0#32
  let v34 : BitVec 1 := Scalar.cmpi .slt v32 c0_i32_14
  let c0_i32_15 : BitVec 32 := 0#32
  let v35 : BitVec 1 := Scalar.cmpi .slt v31 c0_i32_15
  let v36 : BitVec 1 := Scalar.xori v34 v35
  let c0_i32_13 : BitVec 32 := 0#32
  let v33 : BitVec 1 := Scalar.cmpi .ne v32 c0_i32_13
  let v37 : BitVec 1 := Scalar.andi v36 v33
  let v38 : BitVec 32 := Scalar.addi v32 v31
  let v39 : BitVec 32 := Scalar.select v37 v38 v32
  let c0_i32_16 : BitVec 32 := 0#32
  let v40 : BitVec 1 := Scalar.cmpi .eq v39 c0_i32_16
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c4_i32_4 : BitVec 32 := 4#32
  let c0_i32_7 : BitVec 32 := 0#32
  let v19 : BitVec 1 := Scalar.cmpi .sgt c4_i32_4 c0_i32_7
  let v20 : BitVec 32 := Scalar.extui v19
  let c0_i32_8 : BitVec 32 := 0#32
  let v21 : BitVec 1 := Scalar.cmpi .slt c4_i32_4 c0_i32_8
  let v22 : BitVec 32 := Scalar.extui v21
  let v23 : BitVec 32 := Scalar.subi v20 v22
  let v24 : BitVec 1 := Scalar.cmpi .ne v18 v23
  let v25 : BitVec 32 := Scalar.remsi v2 c4_i32_4
  let c0_i32_9 : BitVec 32 := 0#32
  let v26 : BitVec 1 := Scalar.cmpi .ne v25 c0_i32_9
  let v27 : BitVec 1 := Scalar.andi v24 v26
  let v13 : BitVec 32 := Scalar.divsi v2 c4_i32_4
  let c1_i32_10 : BitVec 32 := 1#32
  let v28 : BitVec 32 := Scalar.subi v13 c1_i32_10
  let v29 : BitVec 32 := Scalar.select v27 v28 v13
  let c3_i32 : BitVec 32 := 3#32
  let v41 : BitVec 32 := Scalar.subi c3_i32 v29
  let v42 : BitVec 32 := Scalar.select v40 v29 v41
  let v44 : BitVec 32 := Scalar.addi v43 v42
  let c1_i32_47 : BitVec 32 := 1#32
  let v98 : BitVec 32 := Scalar.subi v44 c1_i32_47
  let c16_i32_48 : BitVec 32 := 16#32
  let c0_i32_49 : BitVec 32 := 0#32
  let v99 : BitVec 1 := Scalar.cmpi .eq c16_i32_48 c0_i32_49
  let c1_i32_50 : BitVec 32 := 1#32
  let v100 : BitVec 32 := Scalar.select v99 c1_i32_50 c16_i32_48
  let v101 : BitVec 32 := Scalar.remsi v98 v100
  let c0_i32_52 : BitVec 32 := 0#32
  let v103 : BitVec 1 := Scalar.cmpi .slt v101 c0_i32_52
  let c0_i32_53 : BitVec 32 := 0#32
  let v104 : BitVec 1 := Scalar.cmpi .slt v100 c0_i32_53
  let v105 : BitVec 1 := Scalar.xori v103 v104
  let c0_i32_51 : BitVec 32 := 0#32
  let v102 : BitVec 1 := Scalar.cmpi .ne v101 c0_i32_51
  let v106 : BitVec 1 := Scalar.andi v105 v102
  let v107 : BitVec 32 := Scalar.addi v101 v100
  let v108 : BitVec 32 := Scalar.select v106 v107 v101
  let c0_i32_55 : BitVec 32 := 0#32
  let v110 : BitVec 1 := Scalar.cmpi .sgt v108 c0_i32_55
  let v111 : BitVec 32 := Scalar.extui v110
  let c0_i32_56 : BitVec 32 := 0#32
  let v112 : BitVec 1 := Scalar.cmpi .slt v108 c0_i32_56
  let v113 : BitVec 32 := Scalar.extui v112
  let v114 : BitVec 32 := Scalar.subi v111 v113
  let c4_i32_54 : BitVec 32 := 4#32
  let c0_i32_57 : BitVec 32 := 0#32
  let v115 : BitVec 1 := Scalar.cmpi .sgt c4_i32_54 c0_i32_57
  let v116 : BitVec 32 := Scalar.extui v115
  let c0_i32_58 : BitVec 32 := 0#32
  let v117 : BitVec 1 := Scalar.cmpi .slt c4_i32_54 c0_i32_58
  let v118 : BitVec 32 := Scalar.extui v117
  let v119 : BitVec 32 := Scalar.subi v116 v118
  let v120 : BitVec 1 := Scalar.cmpi .ne v114 v119
  let v121 : BitVec 32 := Scalar.remsi v108 c4_i32_54
  let c0_i32_59 : BitVec 32 := 0#32
  let v122 : BitVec 1 := Scalar.cmpi .ne v121 c0_i32_59
  let v123 : BitVec 1 := Scalar.andi v120 v122
  let v109 : BitVec 32 := Scalar.divsi v108 c4_i32_54
  let c1_i32_60 : BitVec 32 := 1#32
  let v124 : BitVec 32 := Scalar.subi v109 c1_i32_60
  let v125 : BitVec 32 := Scalar.select v123 v124 v109
  let c2_i32_67 : BitVec 32 := 2#32
  let c0_i32_68 : BitVec 32 := 0#32
  let v136 : BitVec 1 := Scalar.cmpi .eq c2_i32_67 c0_i32_68
  let c1_i32_69 : BitVec 32 := 1#32
  let v137 : BitVec 32 := Scalar.select v136 c1_i32_69 c2_i32_67
  let v138 : BitVec 32 := Scalar.remsi v125 v137
  let c0_i32_71 : BitVec 32 := 0#32
  let v140 : BitVec 1 := Scalar.cmpi .slt v138 c0_i32_71
  let c0_i32_72 : BitVec 32 := 0#32
  let v141 : BitVec 1 := Scalar.cmpi .slt v137 c0_i32_72
  let v142 : BitVec 1 := Scalar.xori v140 v141
  let c0_i32_70 : BitVec 32 := 0#32
  let v139 : BitVec 1 := Scalar.cmpi .ne v138 c0_i32_70
  let v143 : BitVec 1 := Scalar.andi v142 v139
  let v144 : BitVec 32 := Scalar.addi v138 v137
  let v145 : BitVec 32 := Scalar.select v143 v144 v138
  let c0_i32_73 : BitVec 32 := 0#32
  let v146 : BitVec 1 := Scalar.cmpi .eq v145 c0_i32_73
  let c4_i32_61 : BitVec 32 := 4#32
  let c0_i32_62 : BitVec 32 := 0#32
  let v126 : BitVec 1 := Scalar.cmpi .eq c4_i32_61 c0_i32_62
  let c1_i32_63 : BitVec 32 := 1#32
  let v127 : BitVec 32 := Scalar.select v126 c1_i32_63 c4_i32_61
  let v128 : BitVec 32 := Scalar.remsi v108 v127
  let c0_i32_65 : BitVec 32 := 0#32
  let v130 : BitVec 1 := Scalar.cmpi .slt v128 c0_i32_65
  let c0_i32_66 : BitVec 32 := 0#32
  let v131 : BitVec 1 := Scalar.cmpi .slt v127 c0_i32_66
  let v132 : BitVec 1 := Scalar.xori v130 v131
  let c0_i32_64 : BitVec 32 := 0#32
  let v129 : BitVec 1 := Scalar.cmpi .ne v128 c0_i32_64
  let v133 : BitVec 1 := Scalar.andi v132 v129
  let v134 : BitVec 32 := Scalar.addi v128 v127
  let v135 : BitVec 32 := Scalar.select v133 v134 v128
  let c3_i32_74 : BitVec 32 := 3#32
  let v147 : BitVec 32 := Scalar.subi c3_i32_74 v135
  let v148 : BitVec 32 := Scalar.select v146 v135 v147
  let v149 : BitVec 32 := Scalar.muli c4_i32_75 v148
  let v150 : BitVec 32 := Scalar.addi v149 v125
  let c1_i32_2297 : BitVec 32 := 1#32
  let v3105 : BitVec 32 := Scalar.muli v150 c1_i32_2297
  let v3106 : BitVec 32 := Scalar.addi c0_i32_2298 v3105
  v3106.toNat
def k0_dev63 (d0 : Dev nD) : Nat :=
  let c0_i32_2455 : BitVec 32 := 0#32
  let c4_i32_75 : BitVec 32 := 4#32
  let c4_i32_17 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let v43 : BitVec 32 := Scalar.muli c4_i32_17 v12
  let c2_i32 : BitVec 32 := 2#32
  let c0_i32_11 : BitVec 32 := 0#32
  let v30 : BitVec 1 := Scalar.cmpi .eq c2_i32 c0_i32_11
  let c1_i32_12 : BitVec 32 := 1#32
  let v31 : BitVec 32 := Scalar.select v30 c1_i32_12 c2_i32
  let v32 : BitVec 32 := Scalar.remsi v12 v31
  let c0_i32_14 : BitVec 32 := 0#32
  let v34 : BitVec 1 := Scalar.cmpi .slt v32 c0_i32_14
  let c0_i32_15 : BitVec 32 := 0#32
  let v35 : BitVec 1 := Scalar.cmpi .slt v31 c0_i32_15
  let v36 : BitVec 1 := Scalar.xori v34 v35
  let c0_i32_13 : BitVec 32 := 0#32
  let v33 : BitVec 1 := Scalar.cmpi .ne v32 c0_i32_13
  let v37 : BitVec 1 := Scalar.andi v36 v33
  let v38 : BitVec 32 := Scalar.addi v32 v31
  let v39 : BitVec 32 := Scalar.select v37 v38 v32
  let c0_i32_16 : BitVec 32 := 0#32
  let v40 : BitVec 1 := Scalar.cmpi .eq v39 c0_i32_16
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c4_i32_4 : BitVec 32 := 4#32
  let c0_i32_7 : BitVec 32 := 0#32
  let v19 : BitVec 1 := Scalar.cmpi .sgt c4_i32_4 c0_i32_7
  let v20 : BitVec 32 := Scalar.extui v19
  let c0_i32_8 : BitVec 32 := 0#32
  let v21 : BitVec 1 := Scalar.cmpi .slt c4_i32_4 c0_i32_8
  let v22 : BitVec 32 := Scalar.extui v21
  let v23 : BitVec 32 := Scalar.subi v20 v22
  let v24 : BitVec 1 := Scalar.cmpi .ne v18 v23
  let v25 : BitVec 32 := Scalar.remsi v2 c4_i32_4
  let c0_i32_9 : BitVec 32 := 0#32
  let v26 : BitVec 1 := Scalar.cmpi .ne v25 c0_i32_9
  let v27 : BitVec 1 := Scalar.andi v24 v26
  let v13 : BitVec 32 := Scalar.divsi v2 c4_i32_4
  let c1_i32_10 : BitVec 32 := 1#32
  let v28 : BitVec 32 := Scalar.subi v13 c1_i32_10
  let v29 : BitVec 32 := Scalar.select v27 v28 v13
  let c3_i32 : BitVec 32 := 3#32
  let v41 : BitVec 32 := Scalar.subi c3_i32 v29
  let v42 : BitVec 32 := Scalar.select v40 v29 v41
  let v44 : BitVec 32 := Scalar.addi v43 v42
  let c1_i32_47 : BitVec 32 := 1#32
  let v98 : BitVec 32 := Scalar.subi v44 c1_i32_47
  let c16_i32_48 : BitVec 32 := 16#32
  let c0_i32_49 : BitVec 32 := 0#32
  let v99 : BitVec 1 := Scalar.cmpi .eq c16_i32_48 c0_i32_49
  let c1_i32_50 : BitVec 32 := 1#32
  let v100 : BitVec 32 := Scalar.select v99 c1_i32_50 c16_i32_48
  let v101 : BitVec 32 := Scalar.remsi v98 v100
  let c0_i32_52 : BitVec 32 := 0#32
  let v103 : BitVec 1 := Scalar.cmpi .slt v101 c0_i32_52
  let c0_i32_53 : BitVec 32 := 0#32
  let v104 : BitVec 1 := Scalar.cmpi .slt v100 c0_i32_53
  let v105 : BitVec 1 := Scalar.xori v103 v104
  let c0_i32_51 : BitVec 32 := 0#32
  let v102 : BitVec 1 := Scalar.cmpi .ne v101 c0_i32_51
  let v106 : BitVec 1 := Scalar.andi v105 v102
  let v107 : BitVec 32 := Scalar.addi v101 v100
  let v108 : BitVec 32 := Scalar.select v106 v107 v101
  let c0_i32_55 : BitVec 32 := 0#32
  let v110 : BitVec 1 := Scalar.cmpi .sgt v108 c0_i32_55
  let v111 : BitVec 32 := Scalar.extui v110
  let c0_i32_56 : BitVec 32 := 0#32
  let v112 : BitVec 1 := Scalar.cmpi .slt v108 c0_i32_56
  let v113 : BitVec 32 := Scalar.extui v112
  let v114 : BitVec 32 := Scalar.subi v111 v113
  let c4_i32_54 : BitVec 32 := 4#32
  let c0_i32_57 : BitVec 32 := 0#32
  let v115 : BitVec 1 := Scalar.cmpi .sgt c4_i32_54 c0_i32_57
  let v116 : BitVec 32 := Scalar.extui v115
  let c0_i32_58 : BitVec 32 := 0#32
  let v117 : BitVec 1 := Scalar.cmpi .slt c4_i32_54 c0_i32_58
  let v118 : BitVec 32 := Scalar.extui v117
  let v119 : BitVec 32 := Scalar.subi v116 v118
  let v120 : BitVec 1 := Scalar.cmpi .ne v114 v119
  let v121 : BitVec 32 := Scalar.remsi v108 c4_i32_54
  let c0_i32_59 : BitVec 32 := 0#32
  let v122 : BitVec 1 := Scalar.cmpi .ne v121 c0_i32_59
  let v123 : BitVec 1 := Scalar.andi v120 v122
  let v109 : BitVec 32 := Scalar.divsi v108 c4_i32_54
  let c1_i32_60 : BitVec 32 := 1#32
  let v124 : BitVec 32 := Scalar.subi v109 c1_i32_60
  let v125 : BitVec 32 := Scalar.select v123 v124 v109
  let c2_i32_67 : BitVec 32 := 2#32
  let c0_i32_68 : BitVec 32 := 0#32
  let v136 : BitVec 1 := Scalar.cmpi .eq c2_i32_67 c0_i32_68
  let c1_i32_69 : BitVec 32 := 1#32
  let v137 : BitVec 32 := Scalar.select v136 c1_i32_69 c2_i32_67
  let v138 : BitVec 32 := Scalar.remsi v125 v137
  let c0_i32_71 : BitVec 32 := 0#32
  let v140 : BitVec 1 := Scalar.cmpi .slt v138 c0_i32_71
  let c0_i32_72 : BitVec 32 := 0#32
  let v141 : BitVec 1 := Scalar.cmpi .slt v137 c0_i32_72
  let v142 : BitVec 1 := Scalar.xori v140 v141
  let c0_i32_70 : BitVec 32 := 0#32
  let v139 : BitVec 1 := Scalar.cmpi .ne v138 c0_i32_70
  let v143 : BitVec 1 := Scalar.andi v142 v139
  let v144 : BitVec 32 := Scalar.addi v138 v137
  let v145 : BitVec 32 := Scalar.select v143 v144 v138
  let c0_i32_73 : BitVec 32 := 0#32
  let v146 : BitVec 1 := Scalar.cmpi .eq v145 c0_i32_73
  let c4_i32_61 : BitVec 32 := 4#32
  let c0_i32_62 : BitVec 32 := 0#32
  let v126 : BitVec 1 := Scalar.cmpi .eq c4_i32_61 c0_i32_62
  let c1_i32_63 : BitVec 32 := 1#32
  let v127 : BitVec 32 := Scalar.select v126 c1_i32_63 c4_i32_61
  let v128 : BitVec 32 := Scalar.remsi v108 v127
  let c0_i32_65 : BitVec 32 := 0#32
  let v130 : BitVec 1 := Scalar.cmpi .slt v128 c0_i32_65
  let c0_i32_66 : BitVec 32 := 0#32
  let v131 : BitVec 1 := Scalar.cmpi .slt v127 c0_i32_66
  let v132 : BitVec 1 := Scalar.xori v130 v131
  let c0_i32_64 : BitVec 32 := 0#32
  let v129 : BitVec 1 := Scalar.cmpi .ne v128 c0_i32_64
  let v133 : BitVec 1 := Scalar.andi v132 v129
  let v134 : BitVec 32 := Scalar.addi v128 v127
  let v135 : BitVec 32 := Scalar.select v133 v134 v128
  let c3_i32_74 : BitVec 32 := 3#32
  let v147 : BitVec 32 := Scalar.subi c3_i32_74 v135
  let v148 : BitVec 32 := Scalar.select v146 v135 v147
  let v149 : BitVec 32 := Scalar.muli c4_i32_75 v148
  let v150 : BitVec 32 := Scalar.addi v149 v125
  let c1_i32_2454 : BitVec 32 := 1#32
  let v3373 : BitVec 32 := Scalar.muli v150 c1_i32_2454
  let v3374 : BitVec 32 := Scalar.addi c0_i32_2455 v3373
  v3374.toNat
def k0_dev64 (d0 : Dev nD) : Nat :=
  let c0_i32_2483 : BitVec 32 := 0#32
  let c4_i32_46 : BitVec 32 := 4#32
  let c4_i32_17 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let v43 : BitVec 32 := Scalar.muli c4_i32_17 v12
  let c2_i32 : BitVec 32 := 2#32
  let c0_i32_11 : BitVec 32 := 0#32
  let v30 : BitVec 1 := Scalar.cmpi .eq c2_i32 c0_i32_11
  let c1_i32_12 : BitVec 32 := 1#32
  let v31 : BitVec 32 := Scalar.select v30 c1_i32_12 c2_i32
  let v32 : BitVec 32 := Scalar.remsi v12 v31
  let c0_i32_14 : BitVec 32 := 0#32
  let v34 : BitVec 1 := Scalar.cmpi .slt v32 c0_i32_14
  let c0_i32_15 : BitVec 32 := 0#32
  let v35 : BitVec 1 := Scalar.cmpi .slt v31 c0_i32_15
  let v36 : BitVec 1 := Scalar.xori v34 v35
  let c0_i32_13 : BitVec 32 := 0#32
  let v33 : BitVec 1 := Scalar.cmpi .ne v32 c0_i32_13
  let v37 : BitVec 1 := Scalar.andi v36 v33
  let v38 : BitVec 32 := Scalar.addi v32 v31
  let v39 : BitVec 32 := Scalar.select v37 v38 v32
  let c0_i32_16 : BitVec 32 := 0#32
  let v40 : BitVec 1 := Scalar.cmpi .eq v39 c0_i32_16
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c4_i32_4 : BitVec 32 := 4#32
  let c0_i32_7 : BitVec 32 := 0#32
  let v19 : BitVec 1 := Scalar.cmpi .sgt c4_i32_4 c0_i32_7
  let v20 : BitVec 32 := Scalar.extui v19
  let c0_i32_8 : BitVec 32 := 0#32
  let v21 : BitVec 1 := Scalar.cmpi .slt c4_i32_4 c0_i32_8
  let v22 : BitVec 32 := Scalar.extui v21
  let v23 : BitVec 32 := Scalar.subi v20 v22
  let v24 : BitVec 1 := Scalar.cmpi .ne v18 v23
  let v25 : BitVec 32 := Scalar.remsi v2 c4_i32_4
  let c0_i32_9 : BitVec 32 := 0#32
  let v26 : BitVec 1 := Scalar.cmpi .ne v25 c0_i32_9
  let v27 : BitVec 1 := Scalar.andi v24 v26
  let v13 : BitVec 32 := Scalar.divsi v2 c4_i32_4
  let c1_i32_10 : BitVec 32 := 1#32
  let v28 : BitVec 32 := Scalar.subi v13 c1_i32_10
  let v29 : BitVec 32 := Scalar.select v27 v28 v13
  let c3_i32 : BitVec 32 := 3#32
  let v41 : BitVec 32 := Scalar.subi c3_i32 v29
  let v42 : BitVec 32 := Scalar.select v40 v29 v41
  let v44 : BitVec 32 := Scalar.addi v43 v42
  let c1_i32_18 : BitVec 32 := 1#32
  let v45 : BitVec 32 := Scalar.addi v44 c1_i32_18
  let c16_i32_19 : BitVec 32 := 16#32
  let c0_i32_20 : BitVec 32 := 0#32
  let v46 : BitVec 1 := Scalar.cmpi .eq c16_i32_19 c0_i32_20
  let c1_i32_21 : BitVec 32 := 1#32
  let v47 : BitVec 32 := Scalar.select v46 c1_i32_21 c16_i32_19
  let v48 : BitVec 32 := Scalar.remsi v45 v47
  let c0_i32_23 : BitVec 32 := 0#32
  let v50 : BitVec 1 := Scalar.cmpi .slt v48 c0_i32_23
  let c0_i32_24 : BitVec 32 := 0#32
  let v51 : BitVec 1 := Scalar.cmpi .slt v47 c0_i32_24
  let v52 : BitVec 1 := Scalar.xori v50 v51
  let c0_i32_22 : BitVec 32 := 0#32
  let v49 : BitVec 1 := Scalar.cmpi .ne v48 c0_i32_22
  let v53 : BitVec 1 := Scalar.andi v52 v49
  let v54 : BitVec 32 := Scalar.addi v48 v47
  let v55 : BitVec 32 := Scalar.select v53 v54 v48
  let c0_i32_26 : BitVec 32 := 0#32
  let v57 : BitVec 1 := Scalar.cmpi .sgt v55 c0_i32_26
  let v58 : BitVec 32 := Scalar.extui v57
  let c0_i32_27 : BitVec 32 := 0#32
  let v59 : BitVec 1 := Scalar.cmpi .slt v55 c0_i32_27
  let v60 : BitVec 32 := Scalar.extui v59
  let v61 : BitVec 32 := Scalar.subi v58 v60
  let c4_i32_25 : BitVec 32 := 4#32
  let c0_i32_28 : BitVec 32 := 0#32
  let v62 : BitVec 1 := Scalar.cmpi .sgt c4_i32_25 c0_i32_28
  let v63 : BitVec 32 := Scalar.extui v62
  let c0_i32_29 : BitVec 32 := 0#32
  let v64 : BitVec 1 := Scalar.cmpi .slt c4_i32_25 c0_i32_29
  let v65 : BitVec 32 := Scalar.extui v64
  let v66 : BitVec 32 := Scalar.subi v63 v65
  let v67 : BitVec 1 := Scalar.cmpi .ne v61 v66
  let v68 : BitVec 32 := Scalar.remsi v55 c4_i32_25
  let c0_i32_30 : BitVec 32 := 0#32
  let v69 : BitVec 1 := Scalar.cmpi .ne v68 c0_i32_30
  let v70 : BitVec 1 := Scalar.andi v67 v69
  let v56 : BitVec 32 := Scalar.divsi v55 c4_i32_25
  let c1_i32_31 : BitVec 32 := 1#32
  let v71 : BitVec 32 := Scalar.subi v56 c1_i32_31
  let v72 : BitVec 32 := Scalar.select v70 v71 v56
  let c2_i32_38 : BitVec 32 := 2#32
  let c0_i32_39 : BitVec 32 := 0#32
  let v83 : BitVec 1 := Scalar.cmpi .eq c2_i32_38 c0_i32_39
  let c1_i32_40 : BitVec 32 := 1#32
  let v84 : BitVec 32 := Scalar.select v83 c1_i32_40 c2_i32_38
  let v85 : BitVec 32 := Scalar.remsi v72 v84
  let c0_i32_42 : BitVec 32 := 0#32
  let v87 : BitVec 1 := Scalar.cmpi .slt v85 c0_i32_42
  let c0_i32_43 : BitVec 32 := 0#32
  let v88 : BitVec 1 := Scalar.cmpi .slt v84 c0_i32_43
  let v89 : BitVec 1 := Scalar.xori v87 v88
  let c0_i32_41 : BitVec 32 := 0#32
  let v86 : BitVec 1 := Scalar.cmpi .ne v85 c0_i32_41
  let v90 : BitVec 1 := Scalar.andi v89 v86
  let v91 : BitVec 32 := Scalar.addi v85 v84
  let v92 : BitVec 32 := Scalar.select v90 v91 v85
  let c0_i32_44 : BitVec 32 := 0#32
  let v93 : BitVec 1 := Scalar.cmpi .eq v92 c0_i32_44
  let c4_i32_32 : BitVec 32 := 4#32
  let c0_i32_33 : BitVec 32 := 0#32
  let v73 : BitVec 1 := Scalar.cmpi .eq c4_i32_32 c0_i32_33
  let c1_i32_34 : BitVec 32 := 1#32
  let v74 : BitVec 32 := Scalar.select v73 c1_i32_34 c4_i32_32
  let v75 : BitVec 32 := Scalar.remsi v55 v74
  let c0_i32_36 : BitVec 32 := 0#32
  let v77 : BitVec 1 := Scalar.cmpi .slt v75 c0_i32_36
  let c0_i32_37 : BitVec 32 := 0#32
  let v78 : BitVec 1 := Scalar.cmpi .slt v74 c0_i32_37
  let v79 : BitVec 1 := Scalar.xori v77 v78
  let c0_i32_35 : BitVec 32 := 0#32
  let v76 : BitVec 1 := Scalar.cmpi .ne v75 c0_i32_35
  let v80 : BitVec 1 := Scalar.andi v79 v76
  let v81 : BitVec 32 := Scalar.addi v75 v74
  let v82 : BitVec 32 := Scalar.select v80 v81 v75
  let c3_i32_45 : BitVec 32 := 3#32
  let v94 : BitVec 32 := Scalar.subi c3_i32_45 v82
  let v95 : BitVec 32 := Scalar.select v93 v82 v94
  let v96 : BitVec 32 := Scalar.muli c4_i32_46 v95
  let v97 : BitVec 32 := Scalar.addi v96 v72
  let c1_i32_2482 : BitVec 32 := 1#32
  let v3397 : BitVec 32 := Scalar.muli v97 c1_i32_2482
  let v3398 : BitVec 32 := Scalar.addi c0_i32_2483 v3397
  v3398.toNat
def k0_dev65 (d0 : Dev nD) : Nat :=
  let c0_i32_2497 : BitVec 32 := 0#32
  let c4_i32_46 : BitVec 32 := 4#32
  let c4_i32_17 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let v43 : BitVec 32 := Scalar.muli c4_i32_17 v12
  let c2_i32 : BitVec 32 := 2#32
  let c0_i32_11 : BitVec 32 := 0#32
  let v30 : BitVec 1 := Scalar.cmpi .eq c2_i32 c0_i32_11
  let c1_i32_12 : BitVec 32 := 1#32
  let v31 : BitVec 32 := Scalar.select v30 c1_i32_12 c2_i32
  let v32 : BitVec 32 := Scalar.remsi v12 v31
  let c0_i32_14 : BitVec 32 := 0#32
  let v34 : BitVec 1 := Scalar.cmpi .slt v32 c0_i32_14
  let c0_i32_15 : BitVec 32 := 0#32
  let v35 : BitVec 1 := Scalar.cmpi .slt v31 c0_i32_15
  let v36 : BitVec 1 := Scalar.xori v34 v35
  let c0_i32_13 : BitVec 32 := 0#32
  let v33 : BitVec 1 := Scalar.cmpi .ne v32 c0_i32_13
  let v37 : BitVec 1 := Scalar.andi v36 v33
  let v38 : BitVec 32 := Scalar.addi v32 v31
  let v39 : BitVec 32 := Scalar.select v37 v38 v32
  let c0_i32_16 : BitVec 32 := 0#32
  let v40 : BitVec 1 := Scalar.cmpi .eq v39 c0_i32_16
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c4_i32_4 : BitVec 32 := 4#32
  let c0_i32_7 : BitVec 32 := 0#32
  let v19 : BitVec 1 := Scalar.cmpi .sgt c4_i32_4 c0_i32_7
  let v20 : BitVec 32 := Scalar.extui v19
  let c0_i32_8 : BitVec 32 := 0#32
  let v21 : BitVec 1 := Scalar.cmpi .slt c4_i32_4 c0_i32_8
  let v22 : BitVec 32 := Scalar.extui v21
  let v23 : BitVec 32 := Scalar.subi v20 v22
  let v24 : BitVec 1 := Scalar.cmpi .ne v18 v23
  let v25 : BitVec 32 := Scalar.remsi v2 c4_i32_4
  let c0_i32_9 : BitVec 32 := 0#32
  let v26 : BitVec 1 := Scalar.cmpi .ne v25 c0_i32_9
  let v27 : BitVec 1 := Scalar.andi v24 v26
  let v13 : BitVec 32 := Scalar.divsi v2 c4_i32_4
  let c1_i32_10 : BitVec 32 := 1#32
  let v28 : BitVec 32 := Scalar.subi v13 c1_i32_10
  let v29 : BitVec 32 := Scalar.select v27 v28 v13
  let c3_i32 : BitVec 32 := 3#32
  let v41 : BitVec 32 := Scalar.subi c3_i32 v29
  let v42 : BitVec 32 := Scalar.select v40 v29 v41
  let v44 : BitVec 32 := Scalar.addi v43 v42
  let c1_i32_18 : BitVec 32 := 1#32
  let v45 : BitVec 32 := Scalar.addi v44 c1_i32_18
  let c16_i32_19 : BitVec 32 := 16#32
  let c0_i32_20 : BitVec 32 := 0#32
  let v46 : BitVec 1 := Scalar.cmpi .eq c16_i32_19 c0_i32_20
  let c1_i32_21 : BitVec 32 := 1#32
  let v47 : BitVec 32 := Scalar.select v46 c1_i32_21 c16_i32_19
  let v48 : BitVec 32 := Scalar.remsi v45 v47
  let c0_i32_23 : BitVec 32 := 0#32
  let v50 : BitVec 1 := Scalar.cmpi .slt v48 c0_i32_23
  let c0_i32_24 : BitVec 32 := 0#32
  let v51 : BitVec 1 := Scalar.cmpi .slt v47 c0_i32_24
  let v52 : BitVec 1 := Scalar.xori v50 v51
  let c0_i32_22 : BitVec 32 := 0#32
  let v49 : BitVec 1 := Scalar.cmpi .ne v48 c0_i32_22
  let v53 : BitVec 1 := Scalar.andi v52 v49
  let v54 : BitVec 32 := Scalar.addi v48 v47
  let v55 : BitVec 32 := Scalar.select v53 v54 v48
  let c0_i32_26 : BitVec 32 := 0#32
  let v57 : BitVec 1 := Scalar.cmpi .sgt v55 c0_i32_26
  let v58 : BitVec 32 := Scalar.extui v57
  let c0_i32_27 : BitVec 32 := 0#32
  let v59 : BitVec 1 := Scalar.cmpi .slt v55 c0_i32_27
  let v60 : BitVec 32 := Scalar.extui v59
  let v61 : BitVec 32 := Scalar.subi v58 v60
  let c4_i32_25 : BitVec 32 := 4#32
  let c0_i32_28 : BitVec 32 := 0#32
  let v62 : BitVec 1 := Scalar.cmpi .sgt c4_i32_25 c0_i32_28
  let v63 : BitVec 32 := Scalar.extui v62
  let c0_i32_29 : BitVec 32 := 0#32
  let v64 : BitVec 1 := Scalar.cmpi .slt c4_i32_25 c0_i32_29
  let v65 : BitVec 32 := Scalar.extui v64
  let v66 : BitVec 32 := Scalar.subi v63 v65
  let v67 : BitVec 1 := Scalar.cmpi .ne v61 v66
  let v68 : BitVec 32 := Scalar.remsi v55 c4_i32_25
  let c0_i32_30 : BitVec 32 := 0#32
  let v69 : BitVec 1 := Scalar.cmpi .ne v68 c0_i32_30
  let v70 : BitVec 1 := Scalar.andi v67 v69
  let v56 : BitVec 32 := Scalar.divsi v55 c4_i32_25
  let c1_i32_31 : BitVec 32 := 1#32
  let v71 : BitVec 32 := Scalar.subi v56 c1_i32_31
  let v72 : BitVec 32 := Scalar.select v70 v71 v56
  let c2_i32_38 : BitVec 32 := 2#32
  let c0_i32_39 : BitVec 32 := 0#32
  let v83 : BitVec 1 := Scalar.cmpi .eq c2_i32_38 c0_i32_39
  let c1_i32_40 : BitVec 32 := 1#32
  let v84 : BitVec 32 := Scalar.select v83 c1_i32_40 c2_i32_38
  let v85 : BitVec 32 := Scalar.remsi v72 v84
  let c0_i32_42 : BitVec 32 := 0#32
  let v87 : BitVec 1 := Scalar.cmpi .slt v85 c0_i32_42
  let c0_i32_43 : BitVec 32 := 0#32
  let v88 : BitVec 1 := Scalar.cmpi .slt v84 c0_i32_43
  let v89 : BitVec 1 := Scalar.xori v87 v88
  let c0_i32_41 : BitVec 32 := 0#32
  let v86 : BitVec 1 := Scalar.cmpi .ne v85 c0_i32_41
  let v90 : BitVec 1 := Scalar.andi v89 v86
  let v91 : BitVec 32 := Scalar.addi v85 v84
  let v92 : BitVec 32 := Scalar.select v90 v91 v85
  let c0_i32_44 : BitVec 32 := 0#32
  let v93 : BitVec 1 := Scalar.cmpi .eq v92 c0_i32_44
  let c4_i32_32 : BitVec 32 := 4#32
  let c0_i32_33 : BitVec 32 := 0#32
  let v73 : BitVec 1 := Scalar.cmpi .eq c4_i32_32 c0_i32_33
  let c1_i32_34 : BitVec 32 := 1#32
  let v74 : BitVec 32 := Scalar.select v73 c1_i32_34 c4_i32_32
  let v75 : BitVec 32 := Scalar.remsi v55 v74
  let c0_i32_36 : BitVec 32 := 0#32
  let v77 : BitVec 1 := Scalar.cmpi .slt v75 c0_i32_36
  let c0_i32_37 : BitVec 32 := 0#32
  let v78 : BitVec 1 := Scalar.cmpi .slt v74 c0_i32_37
  let v79 : BitVec 1 := Scalar.xori v77 v78
  let c0_i32_35 : BitVec 32 := 0#32
  let v76 : BitVec 1 := Scalar.cmpi .ne v75 c0_i32_35
  let v80 : BitVec 1 := Scalar.andi v79 v76
  let v81 : BitVec 32 := Scalar.addi v75 v74
  let v82 : BitVec 32 := Scalar.select v80 v81 v75
  let c3_i32_45 : BitVec 32 := 3#32
  let v94 : BitVec 32 := Scalar.subi c3_i32_45 v82
  let v95 : BitVec 32 := Scalar.select v93 v82 v94
  let v96 : BitVec 32 := Scalar.muli c4_i32_46 v95
  let v97 : BitVec 32 := Scalar.addi v96 v72
  let c1_i32_2496 : BitVec 32 := 1#32
  let v3407 : BitVec 32 := Scalar.muli v97 c1_i32_2496
  let v3408 : BitVec 32 := Scalar.addi c0_i32_2497 v3407
  v3408.toNat
def k0_dev66 (d0 : Dev nD) : Nat :=
  let c0_i32_2509 : BitVec 32 := 0#32
  let c4_i32_75 : BitVec 32 := 4#32
  let c4_i32_17 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let v43 : BitVec 32 := Scalar.muli c4_i32_17 v12
  let c2_i32 : BitVec 32 := 2#32
  let c0_i32_11 : BitVec 32 := 0#32
  let v30 : BitVec 1 := Scalar.cmpi .eq c2_i32 c0_i32_11
  let c1_i32_12 : BitVec 32 := 1#32
  let v31 : BitVec 32 := Scalar.select v30 c1_i32_12 c2_i32
  let v32 : BitVec 32 := Scalar.remsi v12 v31
  let c0_i32_14 : BitVec 32 := 0#32
  let v34 : BitVec 1 := Scalar.cmpi .slt v32 c0_i32_14
  let c0_i32_15 : BitVec 32 := 0#32
  let v35 : BitVec 1 := Scalar.cmpi .slt v31 c0_i32_15
  let v36 : BitVec 1 := Scalar.xori v34 v35
  let c0_i32_13 : BitVec 32 := 0#32
  let v33 : BitVec 1 := Scalar.cmpi .ne v32 c0_i32_13
  let v37 : BitVec 1 := Scalar.andi v36 v33
  let v38 : BitVec 32 := Scalar.addi v32 v31
  let v39 : BitVec 32 := Scalar.select v37 v38 v32
  let c0_i32_16 : BitVec 32 := 0#32
  let v40 : BitVec 1 := Scalar.cmpi .eq v39 c0_i32_16
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c4_i32_4 : BitVec 32 := 4#32
  let c0_i32_7 : BitVec 32 := 0#32
  let v19 : BitVec 1 := Scalar.cmpi .sgt c4_i32_4 c0_i32_7
  let v20 : BitVec 32 := Scalar.extui v19
  let c0_i32_8 : BitVec 32 := 0#32
  let v21 : BitVec 1 := Scalar.cmpi .slt c4_i32_4 c0_i32_8
  let v22 : BitVec 32 := Scalar.extui v21
  let v23 : BitVec 32 := Scalar.subi v20 v22
  let v24 : BitVec 1 := Scalar.cmpi .ne v18 v23
  let v25 : BitVec 32 := Scalar.remsi v2 c4_i32_4
  let c0_i32_9 : BitVec 32 := 0#32
  let v26 : BitVec 1 := Scalar.cmpi .ne v25 c0_i32_9
  let v27 : BitVec 1 := Scalar.andi v24 v26
  let v13 : BitVec 32 := Scalar.divsi v2 c4_i32_4
  let c1_i32_10 : BitVec 32 := 1#32
  let v28 : BitVec 32 := Scalar.subi v13 c1_i32_10
  let v29 : BitVec 32 := Scalar.select v27 v28 v13
  let c3_i32 : BitVec 32 := 3#32
  let v41 : BitVec 32 := Scalar.subi c3_i32 v29
  let v42 : BitVec 32 := Scalar.select v40 v29 v41
  let v44 : BitVec 32 := Scalar.addi v43 v42
  let c1_i32_47 : BitVec 32 := 1#32
  let v98 : BitVec 32 := Scalar.subi v44 c1_i32_47
  let c16_i32_48 : BitVec 32 := 16#32
  let c0_i32_49 : BitVec 32 := 0#32
  let v99 : BitVec 1 := Scalar.cmpi .eq c16_i32_48 c0_i32_49
  let c1_i32_50 : BitVec 32 := 1#32
  let v100 : BitVec 32 := Scalar.select v99 c1_i32_50 c16_i32_48
  let v101 : BitVec 32 := Scalar.remsi v98 v100
  let c0_i32_52 : BitVec 32 := 0#32
  let v103 : BitVec 1 := Scalar.cmpi .slt v101 c0_i32_52
  let c0_i32_53 : BitVec 32 := 0#32
  let v104 : BitVec 1 := Scalar.cmpi .slt v100 c0_i32_53
  let v105 : BitVec 1 := Scalar.xori v103 v104
  let c0_i32_51 : BitVec 32 := 0#32
  let v102 : BitVec 1 := Scalar.cmpi .ne v101 c0_i32_51
  let v106 : BitVec 1 := Scalar.andi v105 v102
  let v107 : BitVec 32 := Scalar.addi v101 v100
  let v108 : BitVec 32 := Scalar.select v106 v107 v101
  let c0_i32_55 : BitVec 32 := 0#32
  let v110 : BitVec 1 := Scalar.cmpi .sgt v108 c0_i32_55
  let v111 : BitVec 32 := Scalar.extui v110
  let c0_i32_56 : BitVec 32 := 0#32
  let v112 : BitVec 1 := Scalar.cmpi .slt v108 c0_i32_56
  let v113 : BitVec 32 := Scalar.extui v112
  let v114 : BitVec 32 := Scalar.subi v111 v113
  let c4_i32_54 : BitVec 32 := 4#32
  let c0_i32_57 : BitVec 32 := 0#32
  let v115 : BitVec 1 := Scalar.cmpi .sgt c4_i32_54 c0_i32_57
  let v116 : BitVec 32 := Scalar.extui v115
  let c0_i32_58 : BitVec 32 := 0#32
  let v117 : BitVec 1 := Scalar.cmpi .slt c4_i32_54 c0_i32_58
  let v118 : BitVec 32 := Scalar.extui v117
  let v119 : BitVec 32 := Scalar.subi v116 v118
  let v120 : BitVec 1 := Scalar.cmpi .ne v114 v119
  let v121 : BitVec 32 := Scalar.remsi v108 c4_i32_54
  let c0_i32_59 : BitVec 32 := 0#32
  let v122 : BitVec 1 := Scalar.cmpi .ne v121 c0_i32_59
  let v123 : BitVec 1 := Scalar.andi v120 v122
  let v109 : BitVec 32 := Scalar.divsi v108 c4_i32_54
  let c1_i32_60 : BitVec 32 := 1#32
  let v124 : BitVec 32 := Scalar.subi v109 c1_i32_60
  let v125 : BitVec 32 := Scalar.select v123 v124 v109
  let c2_i32_67 : BitVec 32 := 2#32
  let c0_i32_68 : BitVec 32 := 0#32
  let v136 : BitVec 1 := Scalar.cmpi .eq c2_i32_67 c0_i32_68
  let c1_i32_69 : BitVec 32 := 1#32
  let v137 : BitVec 32 := Scalar.select v136 c1_i32_69 c2_i32_67
  let v138 : BitVec 32 := Scalar.remsi v125 v137
  let c0_i32_71 : BitVec 32 := 0#32
  let v140 : BitVec 1 := Scalar.cmpi .slt v138 c0_i32_71
  let c0_i32_72 : BitVec 32 := 0#32
  let v141 : BitVec 1 := Scalar.cmpi .slt v137 c0_i32_72
  let v142 : BitVec 1 := Scalar.xori v140 v141
  let c0_i32_70 : BitVec 32 := 0#32
  let v139 : BitVec 1 := Scalar.cmpi .ne v138 c0_i32_70
  let v143 : BitVec 1 := Scalar.andi v142 v139
  let v144 : BitVec 32 := Scalar.addi v138 v137
  let v145 : BitVec 32 := Scalar.select v143 v144 v138
  let c0_i32_73 : BitVec 32 := 0#32
  let v146 : BitVec 1 := Scalar.cmpi .eq v145 c0_i32_73
  let c4_i32_61 : BitVec 32 := 4#32
  let c0_i32_62 : BitVec 32 := 0#32
  let v126 : BitVec 1 := Scalar.cmpi .eq c4_i32_61 c0_i32_62
  let c1_i32_63 : BitVec 32 := 1#32
  let v127 : BitVec 32 := Scalar.select v126 c1_i32_63 c4_i32_61
  let v128 : BitVec 32 := Scalar.remsi v108 v127
  let c0_i32_65 : BitVec 32 := 0#32
  let v130 : BitVec 1 := Scalar.cmpi .slt v128 c0_i32_65
  let c0_i32_66 : BitVec 32 := 0#32
  let v131 : BitVec 1 := Scalar.cmpi .slt v127 c0_i32_66
  let v132 : BitVec 1 := Scalar.xori v130 v131
  let c0_i32_64 : BitVec 32 := 0#32
  let v129 : BitVec 1 := Scalar.cmpi .ne v128 c0_i32_64
  let v133 : BitVec 1 := Scalar.andi v132 v129
  let v134 : BitVec 32 := Scalar.addi v128 v127
  let v135 : BitVec 32 := Scalar.select v133 v134 v128
  let c3_i32_74 : BitVec 32 := 3#32
  let v147 : BitVec 32 := Scalar.subi c3_i32_74 v135
  let v148 : BitVec 32 := Scalar.select v146 v135 v147
  let v149 : BitVec 32 := Scalar.muli c4_i32_75 v148
  let v150 : BitVec 32 := Scalar.addi v149 v125
  let c1_i32_2508 : BitVec 32 := 1#32
  let v3417 : BitVec 32 := Scalar.muli v150 c1_i32_2508
  let v3418 : BitVec 32 := Scalar.addi c0_i32_2509 v3417
  v3418.toNat
def k0_dev67 (d0 : Dev nD) : Nat :=
  let c0_i32_2535 : BitVec 32 := 0#32
  let c4_i32_75 : BitVec 32 := 4#32
  let c4_i32_17 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let v43 : BitVec 32 := Scalar.muli c4_i32_17 v12
  let c2_i32 : BitVec 32 := 2#32
  let c0_i32_11 : BitVec 32 := 0#32
  let v30 : BitVec 1 := Scalar.cmpi .eq c2_i32 c0_i32_11
  let c1_i32_12 : BitVec 32 := 1#32
  let v31 : BitVec 32 := Scalar.select v30 c1_i32_12 c2_i32
  let v32 : BitVec 32 := Scalar.remsi v12 v31
  let c0_i32_14 : BitVec 32 := 0#32
  let v34 : BitVec 1 := Scalar.cmpi .slt v32 c0_i32_14
  let c0_i32_15 : BitVec 32 := 0#32
  let v35 : BitVec 1 := Scalar.cmpi .slt v31 c0_i32_15
  let v36 : BitVec 1 := Scalar.xori v34 v35
  let c0_i32_13 : BitVec 32 := 0#32
  let v33 : BitVec 1 := Scalar.cmpi .ne v32 c0_i32_13
  let v37 : BitVec 1 := Scalar.andi v36 v33
  let v38 : BitVec 32 := Scalar.addi v32 v31
  let v39 : BitVec 32 := Scalar.select v37 v38 v32
  let c0_i32_16 : BitVec 32 := 0#32
  let v40 : BitVec 1 := Scalar.cmpi .eq v39 c0_i32_16
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c4_i32_4 : BitVec 32 := 4#32
  let c0_i32_7 : BitVec 32 := 0#32
  let v19 : BitVec 1 := Scalar.cmpi .sgt c4_i32_4 c0_i32_7
  let v20 : BitVec 32 := Scalar.extui v19
  let c0_i32_8 : BitVec 32 := 0#32
  let v21 : BitVec 1 := Scalar.cmpi .slt c4_i32_4 c0_i32_8
  let v22 : BitVec 32 := Scalar.extui v21
  let v23 : BitVec 32 := Scalar.subi v20 v22
  let v24 : BitVec 1 := Scalar.cmpi .ne v18 v23
  let v25 : BitVec 32 := Scalar.remsi v2 c4_i32_4
  let c0_i32_9 : BitVec 32 := 0#32
  let v26 : BitVec 1 := Scalar.cmpi .ne v25 c0_i32_9
  let v27 : BitVec 1 := Scalar.andi v24 v26
  let v13 : BitVec 32 := Scalar.divsi v2 c4_i32_4
  let c1_i32_10 : BitVec 32 := 1#32
  let v28 : BitVec 32 := Scalar.subi v13 c1_i32_10
  let v29 : BitVec 32 := Scalar.select v27 v28 v13
  let c3_i32 : BitVec 32 := 3#32
  let v41 : BitVec 32 := Scalar.subi c3_i32 v29
  let v42 : BitVec 32 := Scalar.select v40 v29 v41
  let v44 : BitVec 32 := Scalar.addi v43 v42
  let c1_i32_47 : BitVec 32 := 1#32
  let v98 : BitVec 32 := Scalar.subi v44 c1_i32_47
  let c16_i32_48 : BitVec 32 := 16#32
  let c0_i32_49 : BitVec 32 := 0#32
  let v99 : BitVec 1 := Scalar.cmpi .eq c16_i32_48 c0_i32_49
  let c1_i32_50 : BitVec 32 := 1#32
  let v100 : BitVec 32 := Scalar.select v99 c1_i32_50 c16_i32_48
  let v101 : BitVec 32 := Scalar.remsi v98 v100
  let c0_i32_52 : BitVec 32 := 0#32
  let v103 : BitVec 1 := Scalar.cmpi .slt v101 c0_i32_52
  let c0_i32_53 : BitVec 32 := 0#32
  let v104 : BitVec 1 := Scalar.cmpi .slt v100 c0_i32_53
  let v105 : BitVec 1 := Scalar.xori v103 v104
  let c0_i32_51 : BitVec 32 := 0#32
  let v102 : BitVec 1 := Scalar.cmpi .ne v101 c0_i32_51
  let v106 : BitVec 1 := Scalar.andi v105 v102
  let v107 : BitVec 32 := Scalar.addi v101 v100
  let v108 : BitVec 32 := Scalar.select v106 v107 v101
  let c0_i32_55 : BitVec 32 := 0#32
  let v110 : BitVec 1 := Scalar.cmpi .sgt v108 c0_i32_55
  let v111 : BitVec 32 := Scalar.extui v110
  let c0_i32_56 : BitVec 32 := 0#32
  let v112 : BitVec 1 := Scalar.cmpi .slt v108 c0_i32_56
  let v113 : BitVec 32 := Scalar.extui v112
  let v114 : BitVec 32 := Scalar.subi v111 v113
  let c4_i32_54 : BitVec 32 := 4#32
  let c0_i32_57 : BitVec 32 := 0#32
  let v115 : BitVec 1 := Scalar.cmpi .sgt c4_i32_54 c0_i32_57
  let v116 : BitVec 32 := Scalar.extui v115
  let c0_i32_58 : BitVec 32 := 0#32
  let v117 : BitVec 1 := Scalar.cmpi .slt c4_i32_54 c0_i32_58
  let v118 : BitVec 32 := Scalar.extui v117
  let v119 : BitVec 32 := Scalar.subi v116 v118
  let v120 : BitVec 1 := Scalar.cmpi .ne v114 v119
  let v121 : BitVec 32 := Scalar.remsi v108 c4_i32_54
  let c0_i32_59 : BitVec 32 := 0#32
  let v122 : BitVec 1 := Scalar.cmpi .ne v121 c0_i32_59
  let v123 : BitVec 1 := Scalar.andi v120 v122
  let v109 : BitVec 32 := Scalar.divsi v108 c4_i32_54
  let c1_i32_60 : BitVec 32 := 1#32
  let v124 : BitVec 32 := Scalar.subi v109 c1_i32_60
  let v125 : BitVec 32 := Scalar.select v123 v124 v109
  let c2_i32_67 : BitVec 32 := 2#32
  let c0_i32_68 : BitVec 32 := 0#32
  let v136 : BitVec 1 := Scalar.cmpi .eq c2_i32_67 c0_i32_68
  let c1_i32_69 : BitVec 32 := 1#32
  let v137 : BitVec 32 := Scalar.select v136 c1_i32_69 c2_i32_67
  let v138 : BitVec 32 := Scalar.remsi v125 v137
  let c0_i32_71 : BitVec 32 := 0#32
  let v140 : BitVec 1 := Scalar.cmpi .slt v138 c0_i32_71
  let c0_i32_72 : BitVec 32 := 0#32
  let v141 : BitVec 1 := Scalar.cmpi .slt v137 c0_i32_72
  let v142 : BitVec 1 := Scalar.xori v140 v141
  let c0_i32_70 : BitVec 32 := 0#32
  let v139 : BitVec 1 := Scalar.cmpi .ne v138 c0_i32_70
  let v143 : BitVec 1 := Scalar.andi v142 v139
  let v144 : BitVec 32 := Scalar.addi v138 v137
  let v145 : BitVec 32 := Scalar.select v143 v144 v138
  let c0_i32_73 : BitVec 32 := 0#32
  let v146 : BitVec 1 := Scalar.cmpi .eq v145 c0_i32_73
  let c4_i32_61 : BitVec 32 := 4#32
  let c0_i32_62 : BitVec 32 := 0#32
  let v126 : BitVec 1 := Scalar.cmpi .eq c4_i32_61 c0_i32_62
  let c1_i32_63 : BitVec 32 := 1#32
  let v127 : BitVec 32 := Scalar.select v126 c1_i32_63 c4_i32_61
  let v128 : BitVec 32 := Scalar.remsi v108 v127
  let c0_i32_65 : BitVec 32 := 0#32
  let v130 : BitVec 1 := Scalar.cmpi .slt v128 c0_i32_65
  let c0_i32_66 : BitVec 32 := 0#32
  let v131 : BitVec 1 := Scalar.cmpi .slt v127 c0_i32_66
  let v132 : BitVec 1 := Scalar.xori v130 v131
  let c0_i32_64 : BitVec 32 := 0#32
  let v129 : BitVec 1 := Scalar.cmpi .ne v128 c0_i32_64
  let v133 : BitVec 1 := Scalar.andi v132 v129
  let v134 : BitVec 32 := Scalar.addi v128 v127
  let v135 : BitVec 32 := Scalar.select v133 v134 v128
  let c3_i32_74 : BitVec 32 := 3#32
  let v147 : BitVec 32 := Scalar.subi c3_i32_74 v135
  let v148 : BitVec 32 := Scalar.select v146 v135 v147
  let v149 : BitVec 32 := Scalar.muli c4_i32_75 v148
  let v150 : BitVec 32 := Scalar.addi v149 v125
  let c1_i32_2534 : BitVec 32 := 1#32
  let v3441 : BitVec 32 := Scalar.muli v150 c1_i32_2534
  let v3442 : BitVec 32 := Scalar.addi c0_i32_2535 v3441
  v3442.toNat
def k0_dev68 (d0 : Dev nD) : Nat :=
  let c0_i32_2563 : BitVec 32 := 0#32
  let c4_i32_46 : BitVec 32 := 4#32
  let c4_i32_17 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let v43 : BitVec 32 := Scalar.muli c4_i32_17 v12
  let c2_i32 : BitVec 32 := 2#32
  let c0_i32_11 : BitVec 32 := 0#32
  let v30 : BitVec 1 := Scalar.cmpi .eq c2_i32 c0_i32_11
  let c1_i32_12 : BitVec 32 := 1#32
  let v31 : BitVec 32 := Scalar.select v30 c1_i32_12 c2_i32
  let v32 : BitVec 32 := Scalar.remsi v12 v31
  let c0_i32_14 : BitVec 32 := 0#32
  let v34 : BitVec 1 := Scalar.cmpi .slt v32 c0_i32_14
  let c0_i32_15 : BitVec 32 := 0#32
  let v35 : BitVec 1 := Scalar.cmpi .slt v31 c0_i32_15
  let v36 : BitVec 1 := Scalar.xori v34 v35
  let c0_i32_13 : BitVec 32 := 0#32
  let v33 : BitVec 1 := Scalar.cmpi .ne v32 c0_i32_13
  let v37 : BitVec 1 := Scalar.andi v36 v33
  let v38 : BitVec 32 := Scalar.addi v32 v31
  let v39 : BitVec 32 := Scalar.select v37 v38 v32
  let c0_i32_16 : BitVec 32 := 0#32
  let v40 : BitVec 1 := Scalar.cmpi .eq v39 c0_i32_16
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c4_i32_4 : BitVec 32 := 4#32
  let c0_i32_7 : BitVec 32 := 0#32
  let v19 : BitVec 1 := Scalar.cmpi .sgt c4_i32_4 c0_i32_7
  let v20 : BitVec 32 := Scalar.extui v19
  let c0_i32_8 : BitVec 32 := 0#32
  let v21 : BitVec 1 := Scalar.cmpi .slt c4_i32_4 c0_i32_8
  let v22 : BitVec 32 := Scalar.extui v21
  let v23 : BitVec 32 := Scalar.subi v20 v22
  let v24 : BitVec 1 := Scalar.cmpi .ne v18 v23
  let v25 : BitVec 32 := Scalar.remsi v2 c4_i32_4
  let c0_i32_9 : BitVec 32 := 0#32
  let v26 : BitVec 1 := Scalar.cmpi .ne v25 c0_i32_9
  let v27 : BitVec 1 := Scalar.andi v24 v26
  let v13 : BitVec 32 := Scalar.divsi v2 c4_i32_4
  let c1_i32_10 : BitVec 32 := 1#32
  let v28 : BitVec 32 := Scalar.subi v13 c1_i32_10
  let v29 : BitVec 32 := Scalar.select v27 v28 v13
  let c3_i32 : BitVec 32 := 3#32
  let v41 : BitVec 32 := Scalar.subi c3_i32 v29
  let v42 : BitVec 32 := Scalar.select v40 v29 v41
  let v44 : BitVec 32 := Scalar.addi v43 v42
  let c1_i32_18 : BitVec 32 := 1#32
  let v45 : BitVec 32 := Scalar.addi v44 c1_i32_18
  let c16_i32_19 : BitVec 32 := 16#32
  let c0_i32_20 : BitVec 32 := 0#32
  let v46 : BitVec 1 := Scalar.cmpi .eq c16_i32_19 c0_i32_20
  let c1_i32_21 : BitVec 32 := 1#32
  let v47 : BitVec 32 := Scalar.select v46 c1_i32_21 c16_i32_19
  let v48 : BitVec 32 := Scalar.remsi v45 v47
  let c0_i32_23 : BitVec 32 := 0#32
  let v50 : BitVec 1 := Scalar.cmpi .slt v48 c0_i32_23
  let c0_i32_24 : BitVec 32 := 0#32
  let v51 : BitVec 1 := Scalar.cmpi .slt v47 c0_i32_24
  let v52 : BitVec 1 := Scalar.xori v50 v51
  let c0_i32_22 : BitVec 32 := 0#32
  let v49 : BitVec 1 := Scalar.cmpi .ne v48 c0_i32_22
  let v53 : BitVec 1 := Scalar.andi v52 v49
  let v54 : BitVec 32 := Scalar.addi v48 v47
  let v55 : BitVec 32 := Scalar.select v53 v54 v48
  let c0_i32_26 : BitVec 32 := 0#32
  let v57 : BitVec 1 := Scalar.cmpi .sgt v55 c0_i32_26
  let v58 : BitVec 32 := Scalar.extui v57
  let c0_i32_27 : BitVec 32 := 0#32
  let v59 : BitVec 1 := Scalar.cmpi .slt v55 c0_i32_27
  let v60 : BitVec 32 := Scalar.extui v59
  let v61 : BitVec 32 := Scalar.subi v58 v60
  let c4_i32_25 : BitVec 32 := 4#32
  let c0_i32_28 : BitVec 32 := 0#32
  let v62 : BitVec 1 := Scalar.cmpi .sgt c4_i32_25 c0_i32_28
  let v63 : BitVec 32 := Scalar.extui v62
  let c0_i32_29 : BitVec 32 := 0#32
  let v64 : BitVec 1 := Scalar.cmpi .slt c4_i32_25 c0_i32_29
  let v65 : BitVec 32 := Scalar.extui v64
  let v66 : BitVec 32 := Scalar.subi v63 v65
  let v67 : BitVec 1 := Scalar.cmpi .ne v61 v66
  let v68 : BitVec 32 := Scalar.remsi v55 c4_i32_25
  let c0_i32_30 : BitVec 32 := 0#32
  let v69 : BitVec 1 := Scalar.cmpi .ne v68 c0_i32_30
  let v70 : BitVec 1 := Scalar.andi v67 v69
  let v56 : BitVec 32 := Scalar.divsi v55 c4_i32_25
  let c1_i32_31 : BitVec 32 := 1#32
  let v71 : BitVec 32 := Scalar.subi v56 c1_i32_31
  let v72 : BitVec 32 := Scalar.select v70 v71 v56
  let c2_i32_38 : BitVec 32 := 2#32
  let c0_i32_39 : BitVec 32 := 0#32
  let v83 : BitVec 1 := Scalar.cmpi .eq c2_i32_38 c0_i32_39
  let c1_i32_40 : BitVec 32 := 1#32
  let v84 : BitVec 32 := Scalar.select v83 c1_i32_40 c2_i32_38
  let v85 : BitVec 32 := Scalar.remsi v72 v84
  let c0_i32_42 : BitVec 32 := 0#32
  let v87 : BitVec 1 := Scalar.cmpi .slt v85 c0_i32_42
  let c0_i32_43 : BitVec 32 := 0#32
  let v88 : BitVec 1 := Scalar.cmpi .slt v84 c0_i32_43
  let v89 : BitVec 1 := Scalar.xori v87 v88
  let c0_i32_41 : BitVec 32 := 0#32
  let v86 : BitVec 1 := Scalar.cmpi .ne v85 c0_i32_41
  let v90 : BitVec 1 := Scalar.andi v89 v86
  let v91 : BitVec 32 := Scalar.addi v85 v84
  let v92 : BitVec 32 := Scalar.select v90 v91 v85
  let c0_i32_44 : BitVec 32 := 0#32
  let v93 : BitVec 1 := Scalar.cmpi .eq v92 c0_i32_44
  let c4_i32_32 : BitVec 32 := 4#32
  let c0_i32_33 : BitVec 32 := 0#32
  let v73 : BitVec 1 := Scalar.cmpi .eq c4_i32_32 c0_i32_33
  let c1_i32_34 : BitVec 32 := 1#32
  let v74 : BitVec 32 := Scalar.select v73 c1_i32_34 c4_i32_32
  let v75 : BitVec 32 := Scalar.remsi v55 v74
  let c0_i32_36 : BitVec 32 := 0#32
  let v77 : BitVec 1 := Scalar.cmpi .slt v75 c0_i32_36
  let c0_i32_37 : BitVec 32 := 0#32
  let v78 : BitVec 1 := Scalar.cmpi .slt v74 c0_i32_37
  let v79 : BitVec 1 := Scalar.xori v77 v78
  let c0_i32_35 : BitVec 32 := 0#32
  let v76 : BitVec 1 := Scalar.cmpi .ne v75 c0_i32_35
  let v80 : BitVec 1 := Scalar.andi v79 v76
  let v81 : BitVec 32 := Scalar.addi v75 v74
  let v82 : BitVec 32 := Scalar.select v80 v81 v75
  let c3_i32_45 : BitVec 32 := 3#32
  let v94 : BitVec 32 := Scalar.subi c3_i32_45 v82
  let v95 : BitVec 32 := Scalar.select v93 v82 v94
  let v96 : BitVec 32 := Scalar.muli c4_i32_46 v95
  let v97 : BitVec 32 := Scalar.addi v96 v72
  let c1_i32_2562 : BitVec 32 := 1#32
  let v3465 : BitVec 32 := Scalar.muli v97 c1_i32_2562
  let v3466 : BitVec 32 := Scalar.addi c0_i32_2563 v3465
  v3466.toNat
def k0_dev69 (d0 : Dev nD) : Nat :=
  let c0_i32_2577 : BitVec 32 := 0#32
  let c4_i32_46 : BitVec 32 := 4#32
  let c4_i32_17 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let v43 : BitVec 32 := Scalar.muli c4_i32_17 v12
  let c2_i32 : BitVec 32 := 2#32
  let c0_i32_11 : BitVec 32 := 0#32
  let v30 : BitVec 1 := Scalar.cmpi .eq c2_i32 c0_i32_11
  let c1_i32_12 : BitVec 32 := 1#32
  let v31 : BitVec 32 := Scalar.select v30 c1_i32_12 c2_i32
  let v32 : BitVec 32 := Scalar.remsi v12 v31
  let c0_i32_14 : BitVec 32 := 0#32
  let v34 : BitVec 1 := Scalar.cmpi .slt v32 c0_i32_14
  let c0_i32_15 : BitVec 32 := 0#32
  let v35 : BitVec 1 := Scalar.cmpi .slt v31 c0_i32_15
  let v36 : BitVec 1 := Scalar.xori v34 v35
  let c0_i32_13 : BitVec 32 := 0#32
  let v33 : BitVec 1 := Scalar.cmpi .ne v32 c0_i32_13
  let v37 : BitVec 1 := Scalar.andi v36 v33
  let v38 : BitVec 32 := Scalar.addi v32 v31
  let v39 : BitVec 32 := Scalar.select v37 v38 v32
  let c0_i32_16 : BitVec 32 := 0#32
  let v40 : BitVec 1 := Scalar.cmpi .eq v39 c0_i32_16
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c4_i32_4 : BitVec 32 := 4#32
  let c0_i32_7 : BitVec 32 := 0#32
  let v19 : BitVec 1 := Scalar.cmpi .sgt c4_i32_4 c0_i32_7
  let v20 : BitVec 32 := Scalar.extui v19
  let c0_i32_8 : BitVec 32 := 0#32
  let v21 : BitVec 1 := Scalar.cmpi .slt c4_i32_4 c0_i32_8
  let v22 : BitVec 32 := Scalar.extui v21
  let v23 : BitVec 32 := Scalar.subi v20 v22
  let v24 : BitVec 1 := Scalar.cmpi .ne v18 v23
  let v25 : BitVec 32 := Scalar.remsi v2 c4_i32_4
  let c0_i32_9 : BitVec 32 := 0#32
  let v26 : BitVec 1 := Scalar.cmpi .ne v25 c0_i32_9
  let v27 : BitVec 1 := Scalar.andi v24 v26
  let v13 : BitVec 32 := Scalar.divsi v2 c4_i32_4
  let c1_i32_10 : BitVec 32 := 1#32
  let v28 : BitVec 32 := Scalar.subi v13 c1_i32_10
  let v29 : BitVec 32 := Scalar.select v27 v28 v13
  let c3_i32 : BitVec 32 := 3#32
  let v41 : BitVec 32 := Scalar.subi c3_i32 v29
  let v42 : BitVec 32 := Scalar.select v40 v29 v41
  let v44 : BitVec 32 := Scalar.addi v43 v42
  let c1_i32_18 : BitVec 32 := 1#32
  let v45 : BitVec 32 := Scalar.addi v44 c1_i32_18
  let c16_i32_19 : BitVec 32 := 16#32
  let c0_i32_20 : BitVec 32 := 0#32
  let v46 : BitVec 1 := Scalar.cmpi .eq c16_i32_19 c0_i32_20
  let c1_i32_21 : BitVec 32 := 1#32
  let v47 : BitVec 32 := Scalar.select v46 c1_i32_21 c16_i32_19
  let v48 : BitVec 32 := Scalar.remsi v45 v47
  let c0_i32_23 : BitVec 32 := 0#32
  let v50 : BitVec 1 := Scalar.cmpi .slt v48 c0_i32_23
  let c0_i32_24 : BitVec 32 := 0#32
  let v51 : BitVec 1 := Scalar.cmpi .slt v47 c0_i32_24
  let v52 : BitVec 1 := Scalar.xori v50 v51
  let c0_i32_22 : BitVec 32 := 0#32
  let v49 : BitVec 1 := Scalar.cmpi .ne v48 c0_i32_22
  let v53 : BitVec 1 := Scalar.andi v52 v49
  let v54 : BitVec 32 := Scalar.addi v48 v47
  let v55 : BitVec 32 := Scalar.select v53 v54 v48
  let c0_i32_26 : BitVec 32 := 0#32
  let v57 : BitVec 1 := Scalar.cmpi .sgt v55 c0_i32_26
  let v58 : BitVec 32 := Scalar.extui v57
  let c0_i32_27 : BitVec 32 := 0#32
  let v59 : BitVec 1 := Scalar.cmpi .slt v55 c0_i32_27
  let v60 : BitVec 32 := Scalar.extui v59
  let v61 : BitVec 32 := Scalar.subi v58 v60
  let c4_i32_25 : BitVec 32 := 4#32
  let c0_i32_28 : BitVec 32 := 0#32
  let v62 : BitVec 1 := Scalar.cmpi .sgt c4_i32_25 c0_i32_28
  let v63 : BitVec 32 := Scalar.extui v62
  let c0_i32_29 : BitVec 32 := 0#32
  let v64 : BitVec 1 := Scalar.cmpi .slt c4_i32_25 c0_i32_29
  let v65 : BitVec 32 := Scalar.extui v64
  let v66 : BitVec 32 := Scalar.subi v63 v65
  let v67 : BitVec 1 := Scalar.cmpi .ne v61 v66
  let v68 : BitVec 32 := Scalar.remsi v55 c4_i32_25
  let c0_i32_30 : BitVec 32 := 0#32
  let v69 : BitVec 1 := Scalar.cmpi .ne v68 c0_i32_30
  let v70 : BitVec 1 := Scalar.andi v67 v69
  let v56 : BitVec 32 := Scalar.divsi v55 c4_i32_25
  let c1_i32_31 : BitVec 32 := 1#32
  let v71 : BitVec 32 := Scalar.subi v56 c1_i32_31
  let v72 : BitVec 32 := Scalar.select v70 v71 v56
  let c2_i32_38 : BitVec 32 := 2#32
  let c0_i32_39 : BitVec 32 := 0#32
  let v83 : BitVec 1 := Scalar.cmpi .eq c2_i32_38 c0_i32_39
  let c1_i32_40 : BitVec 32 := 1#32
  let v84 : BitVec 32 := Scalar.select v83 c1_i32_40 c2_i32_38
  let v85 : BitVec 32 := Scalar.remsi v72 v84
  let c0_i32_42 : BitVec 32 := 0#32
  let v87 : BitVec 1 := Scalar.cmpi .slt v85 c0_i32_42
  let c0_i32_43 : BitVec 32 := 0#32
  let v88 : BitVec 1 := Scalar.cmpi .slt v84 c0_i32_43
  let v89 : BitVec 1 := Scalar.xori v87 v88
  let c0_i32_41 : BitVec 32 := 0#32
  let v86 : BitVec 1 := Scalar.cmpi .ne v85 c0_i32_41
  let v90 : BitVec 1 := Scalar.andi v89 v86
  let v91 : BitVec 32 := Scalar.addi v85 v84
  let v92 : BitVec 32 := Scalar.select v90 v91 v85
  let c0_i32_44 : BitVec 32 := 0#32
  let v93 : BitVec 1 := Scalar.cmpi .eq v92 c0_i32_44
  let c4_i32_32 : BitVec 32 := 4#32
  let c0_i32_33 : BitVec 32 := 0#32
  let v73 : BitVec 1 := Scalar.cmpi .eq c4_i32_32 c0_i32_33
  let c1_i32_34 : BitVec 32 := 1#32
  let v74 : BitVec 32 := Scalar.select v73 c1_i32_34 c4_i32_32
  let v75 : BitVec 32 := Scalar.remsi v55 v74
  let c0_i32_36 : BitVec 32 := 0#32
  let v77 : BitVec 1 := Scalar.cmpi .slt v75 c0_i32_36
  let c0_i32_37 : BitVec 32 := 0#32
  let v78 : BitVec 1 := Scalar.cmpi .slt v74 c0_i32_37
  let v79 : BitVec 1 := Scalar.xori v77 v78
  let c0_i32_35 : BitVec 32 := 0#32
  let v76 : BitVec 1 := Scalar.cmpi .ne v75 c0_i32_35
  let v80 : BitVec 1 := Scalar.andi v79 v76
  let v81 : BitVec 32 := Scalar.addi v75 v74
  let v82 : BitVec 32 := Scalar.select v80 v81 v75
  let c3_i32_45 : BitVec 32 := 3#32
  let v94 : BitVec 32 := Scalar.subi c3_i32_45 v82
  let v95 : BitVec 32 := Scalar.select v93 v82 v94
  let v96 : BitVec 32 := Scalar.muli c4_i32_46 v95
  let v97 : BitVec 32 := Scalar.addi v96 v72
  let c1_i32_2576 : BitVec 32 := 1#32
  let v3475 : BitVec 32 := Scalar.muli v97 c1_i32_2576
  let v3476 : BitVec 32 := Scalar.addi c0_i32_2577 v3475
  v3476.toNat
def k0_dev70 (d0 : Dev nD) : Nat :=
  let c0_i32_2589 : BitVec 32 := 0#32
  let c4_i32_75 : BitVec 32 := 4#32
  let c4_i32_17 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let v43 : BitVec 32 := Scalar.muli c4_i32_17 v12
  let c2_i32 : BitVec 32 := 2#32
  let c0_i32_11 : BitVec 32 := 0#32
  let v30 : BitVec 1 := Scalar.cmpi .eq c2_i32 c0_i32_11
  let c1_i32_12 : BitVec 32 := 1#32
  let v31 : BitVec 32 := Scalar.select v30 c1_i32_12 c2_i32
  let v32 : BitVec 32 := Scalar.remsi v12 v31
  let c0_i32_14 : BitVec 32 := 0#32
  let v34 : BitVec 1 := Scalar.cmpi .slt v32 c0_i32_14
  let c0_i32_15 : BitVec 32 := 0#32
  let v35 : BitVec 1 := Scalar.cmpi .slt v31 c0_i32_15
  let v36 : BitVec 1 := Scalar.xori v34 v35
  let c0_i32_13 : BitVec 32 := 0#32
  let v33 : BitVec 1 := Scalar.cmpi .ne v32 c0_i32_13
  let v37 : BitVec 1 := Scalar.andi v36 v33
  let v38 : BitVec 32 := Scalar.addi v32 v31
  let v39 : BitVec 32 := Scalar.select v37 v38 v32
  let c0_i32_16 : BitVec 32 := 0#32
  let v40 : BitVec 1 := Scalar.cmpi .eq v39 c0_i32_16
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c4_i32_4 : BitVec 32 := 4#32
  let c0_i32_7 : BitVec 32 := 0#32
  let v19 : BitVec 1 := Scalar.cmpi .sgt c4_i32_4 c0_i32_7
  let v20 : BitVec 32 := Scalar.extui v19
  let c0_i32_8 : BitVec 32 := 0#32
  let v21 : BitVec 1 := Scalar.cmpi .slt c4_i32_4 c0_i32_8
  let v22 : BitVec 32 := Scalar.extui v21
  let v23 : BitVec 32 := Scalar.subi v20 v22
  let v24 : BitVec 1 := Scalar.cmpi .ne v18 v23
  let v25 : BitVec 32 := Scalar.remsi v2 c4_i32_4
  let c0_i32_9 : BitVec 32 := 0#32
  let v26 : BitVec 1 := Scalar.cmpi .ne v25 c0_i32_9
  let v27 : BitVec 1 := Scalar.andi v24 v26
  let v13 : BitVec 32 := Scalar.divsi v2 c4_i32_4
  let c1_i32_10 : BitVec 32 := 1#32
  let v28 : BitVec 32 := Scalar.subi v13 c1_i32_10
  let v29 : BitVec 32 := Scalar.select v27 v28 v13
  let c3_i32 : BitVec 32 := 3#32
  let v41 : BitVec 32 := Scalar.subi c3_i32 v29
  let v42 : BitVec 32 := Scalar.select v40 v29 v41
  let v44 : BitVec 32 := Scalar.addi v43 v42
  let c1_i32_47 : BitVec 32 := 1#32
  let v98 : BitVec 32 := Scalar.subi v44 c1_i32_47
  let c16_i32_48 : BitVec 32 := 16#32
  let c0_i32_49 : BitVec 32 := 0#32
  let v99 : BitVec 1 := Scalar.cmpi .eq c16_i32_48 c0_i32_49
  let c1_i32_50 : BitVec 32 := 1#32
  let v100 : BitVec 32 := Scalar.select v99 c1_i32_50 c16_i32_48
  let v101 : BitVec 32 := Scalar.remsi v98 v100
  let c0_i32_52 : BitVec 32 := 0#32
  let v103 : BitVec 1 := Scalar.cmpi .slt v101 c0_i32_52
  let c0_i32_53 : BitVec 32 := 0#32
  let v104 : BitVec 1 := Scalar.cmpi .slt v100 c0_i32_53
  let v105 : BitVec 1 := Scalar.xori v103 v104
  let c0_i32_51 : BitVec 32 := 0#32
  let v102 : BitVec 1 := Scalar.cmpi .ne v101 c0_i32_51
  let v106 : BitVec 1 := Scalar.andi v105 v102
  let v107 : BitVec 32 := Scalar.addi v101 v100
  let v108 : BitVec 32 := Scalar.select v106 v107 v101
  let c0_i32_55 : BitVec 32 := 0#32
  let v110 : BitVec 1 := Scalar.cmpi .sgt v108 c0_i32_55
  let v111 : BitVec 32 := Scalar.extui v110
  let c0_i32_56 : BitVec 32 := 0#32
  let v112 : BitVec 1 := Scalar.cmpi .slt v108 c0_i32_56
  let v113 : BitVec 32 := Scalar.extui v112
  let v114 : BitVec 32 := Scalar.subi v111 v113
  let c4_i32_54 : BitVec 32 := 4#32
  let c0_i32_57 : BitVec 32 := 0#32
  let v115 : BitVec 1 := Scalar.cmpi .sgt c4_i32_54 c0_i32_57
  let v116 : BitVec 32 := Scalar.extui v115
  let c0_i32_58 : BitVec 32 := 0#32
  let v117 : BitVec 1 := Scalar.cmpi .slt c4_i32_54 c0_i32_58
  let v118 : BitVec 32 := Scalar.extui v117
  let v119 : BitVec 32 := Scalar.subi v116 v118
  let v120 : BitVec 1 := Scalar.cmpi .ne v114 v119
  let v121 : BitVec 32 := Scalar.remsi v108 c4_i32_54
  let c0_i32_59 : BitVec 32 := 0#32
  let v122 : BitVec 1 := Scalar.cmpi .ne v121 c0_i32_59
  let v123 : BitVec 1 := Scalar.andi v120 v122
  let v109 : BitVec 32 := Scalar.divsi v108 c4_i32_54
  let c1_i32_60 : BitVec 32 := 1#32
  let v124 : BitVec 32 := Scalar.subi v109 c1_i32_60
  let v125 : BitVec 32 := Scalar.select v123 v124 v109
  let c2_i32_67 : BitVec 32 := 2#32
  let c0_i32_68 : BitVec 32 := 0#32
  let v136 : BitVec 1 := Scalar.cmpi .eq c2_i32_67 c0_i32_68
  let c1_i32_69 : BitVec 32 := 1#32
  let v137 : BitVec 32 := Scalar.select v136 c1_i32_69 c2_i32_67
  let v138 : BitVec 32 := Scalar.remsi v125 v137
  let c0_i32_71 : BitVec 32 := 0#32
  let v140 : BitVec 1 := Scalar.cmpi .slt v138 c0_i32_71
  let c0_i32_72 : BitVec 32 := 0#32
  let v141 : BitVec 1 := Scalar.cmpi .slt v137 c0_i32_72
  let v142 : BitVec 1 := Scalar.xori v140 v141
  let c0_i32_70 : BitVec 32 := 0#32
  let v139 : BitVec 1 := Scalar.cmpi .ne v138 c0_i32_70
  let v143 : BitVec 1 := Scalar.andi v142 v139
  let v144 : BitVec 32 := Scalar.addi v138 v137
  let v145 : BitVec 32 := Scalar.select v143 v144 v138
  let c0_i32_73 : BitVec 32 := 0#32
  let v146 : BitVec 1 := Scalar.cmpi .eq v145 c0_i32_73
  let c4_i32_61 : BitVec 32 := 4#32
  let c0_i32_62 : BitVec 32 := 0#32
  let v126 : BitVec 1 := Scalar.cmpi .eq c4_i32_61 c0_i32_62
  let c1_i32_63 : BitVec 32 := 1#32
  let v127 : BitVec 32 := Scalar.select v126 c1_i32_63 c4_i32_61
  let v128 : BitVec 32 := Scalar.remsi v108 v127
  let c0_i32_65 : BitVec 32 := 0#32
  let v130 : BitVec 1 := Scalar.cmpi .slt v128 c0_i32_65
  let c0_i32_66 : BitVec 32 := 0#32
  let v131 : BitVec 1 := Scalar.cmpi .slt v127 c0_i32_66
  let v132 : BitVec 1 := Scalar.xori v130 v131
  let c0_i32_64 : BitVec 32 := 0#32
  let v129 : BitVec 1 := Scalar.cmpi .ne v128 c0_i32_64
  let v133 : BitVec 1 := Scalar.andi v132 v129
  let v134 : BitVec 32 := Scalar.addi v128 v127
  let v135 : BitVec 32 := Scalar.select v133 v134 v128
  let c3_i32_74 : BitVec 32 := 3#32
  let v147 : BitVec 32 := Scalar.subi c3_i32_74 v135
  let v148 : BitVec 32 := Scalar.select v146 v135 v147
  let v149 : BitVec 32 := Scalar.muli c4_i32_75 v148
  let v150 : BitVec 32 := Scalar.addi v149 v125
  let c1_i32_2588 : BitVec 32 := 1#32
  let v3485 : BitVec 32 := Scalar.muli v150 c1_i32_2588
  let v3486 : BitVec 32 := Scalar.addi c0_i32_2589 v3485
  v3486.toNat
def k0_dev71 (d0 : Dev nD) : Nat :=
  let c0_i32_2746 : BitVec 32 := 0#32
  let c4_i32_75 : BitVec 32 := 4#32
  let c4_i32_17 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let v43 : BitVec 32 := Scalar.muli c4_i32_17 v12
  let c2_i32 : BitVec 32 := 2#32
  let c0_i32_11 : BitVec 32 := 0#32
  let v30 : BitVec 1 := Scalar.cmpi .eq c2_i32 c0_i32_11
  let c1_i32_12 : BitVec 32 := 1#32
  let v31 : BitVec 32 := Scalar.select v30 c1_i32_12 c2_i32
  let v32 : BitVec 32 := Scalar.remsi v12 v31
  let c0_i32_14 : BitVec 32 := 0#32
  let v34 : BitVec 1 := Scalar.cmpi .slt v32 c0_i32_14
  let c0_i32_15 : BitVec 32 := 0#32
  let v35 : BitVec 1 := Scalar.cmpi .slt v31 c0_i32_15
  let v36 : BitVec 1 := Scalar.xori v34 v35
  let c0_i32_13 : BitVec 32 := 0#32
  let v33 : BitVec 1 := Scalar.cmpi .ne v32 c0_i32_13
  let v37 : BitVec 1 := Scalar.andi v36 v33
  let v38 : BitVec 32 := Scalar.addi v32 v31
  let v39 : BitVec 32 := Scalar.select v37 v38 v32
  let c0_i32_16 : BitVec 32 := 0#32
  let v40 : BitVec 1 := Scalar.cmpi .eq v39 c0_i32_16
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c4_i32_4 : BitVec 32 := 4#32
  let c0_i32_7 : BitVec 32 := 0#32
  let v19 : BitVec 1 := Scalar.cmpi .sgt c4_i32_4 c0_i32_7
  let v20 : BitVec 32 := Scalar.extui v19
  let c0_i32_8 : BitVec 32 := 0#32
  let v21 : BitVec 1 := Scalar.cmpi .slt c4_i32_4 c0_i32_8
  let v22 : BitVec 32 := Scalar.extui v21
  let v23 : BitVec 32 := Scalar.subi v20 v22
  let v24 : BitVec 1 := Scalar.cmpi .ne v18 v23
  let v25 : BitVec 32 := Scalar.remsi v2 c4_i32_4
  let c0_i32_9 : BitVec 32 := 0#32
  let v26 : BitVec 1 := Scalar.cmpi .ne v25 c0_i32_9
  let v27 : BitVec 1 := Scalar.andi v24 v26
  let v13 : BitVec 32 := Scalar.divsi v2 c4_i32_4
  let c1_i32_10 : BitVec 32 := 1#32
  let v28 : BitVec 32 := Scalar.subi v13 c1_i32_10
  let v29 : BitVec 32 := Scalar.select v27 v28 v13
  let c3_i32 : BitVec 32 := 3#32
  let v41 : BitVec 32 := Scalar.subi c3_i32 v29
  let v42 : BitVec 32 := Scalar.select v40 v29 v41
  let v44 : BitVec 32 := Scalar.addi v43 v42
  let c1_i32_47 : BitVec 32 := 1#32
  let v98 : BitVec 32 := Scalar.subi v44 c1_i32_47
  let c16_i32_48 : BitVec 32 := 16#32
  let c0_i32_49 : BitVec 32 := 0#32
  let v99 : BitVec 1 := Scalar.cmpi .eq c16_i32_48 c0_i32_49
  let c1_i32_50 : BitVec 32 := 1#32
  let v100 : BitVec 32 := Scalar.select v99 c1_i32_50 c16_i32_48
  let v101 : BitVec 32 := Scalar.remsi v98 v100
  let c0_i32_52 : BitVec 32 := 0#32
  let v103 : BitVec 1 := Scalar.cmpi .slt v101 c0_i32_52
  let c0_i32_53 : BitVec 32 := 0#32
  let v104 : BitVec 1 := Scalar.cmpi .slt v100 c0_i32_53
  let v105 : BitVec 1 := Scalar.xori v103 v104
  let c0_i32_51 : BitVec 32 := 0#32
  let v102 : BitVec 1 := Scalar.cmpi .ne v101 c0_i32_51
  let v106 : BitVec 1 := Scalar.andi v105 v102
  let v107 : BitVec 32 := Scalar.addi v101 v100
  let v108 : BitVec 32 := Scalar.select v106 v107 v101
  let c0_i32_55 : BitVec 32 := 0#32
  let v110 : BitVec 1 := Scalar.cmpi .sgt v108 c0_i32_55
  let v111 : BitVec 32 := Scalar.extui v110
  let c0_i32_56 : BitVec 32 := 0#32
  let v112 : BitVec 1 := Scalar.cmpi .slt v108 c0_i32_56
  let v113 : BitVec 32 := Scalar.extui v112
  let v114 : BitVec 32 := Scalar.subi v111 v113
  let c4_i32_54 : BitVec 32 := 4#32
  let c0_i32_57 : BitVec 32 := 0#32
  let v115 : BitVec 1 := Scalar.cmpi .sgt c4_i32_54 c0_i32_57
  let v116 : BitVec 32 := Scalar.extui v115
  let c0_i32_58 : BitVec 32 := 0#32
  let v117 : BitVec 1 := Scalar.cmpi .slt c4_i32_54 c0_i32_58
  let v118 : BitVec 32 := Scalar.extui v117
  let v119 : BitVec 32 := Scalar.subi v116 v118
  let v120 : BitVec 1 := Scalar.cmpi .ne v114 v119
  let v121 : BitVec 32 := Scalar.remsi v108 c4_i32_54
  let c0_i32_59 : BitVec 32 := 0#32
  let v122 : BitVec 1 := Scalar.cmpi .ne v121 c0_i32_59
  let v123 : BitVec 1 := Scalar.andi v120 v122
  let v109 : BitVec 32 := Scalar.divsi v108 c4_i32_54
  let c1_i32_60 : BitVec 32 := 1#32
  let v124 : BitVec 32 := Scalar.subi v109 c1_i32_60
  let v125 : BitVec 32 := Scalar.select v123 v124 v109
  let c2_i32_67 : BitVec 32 := 2#32
  let c0_i32_68 : BitVec 32 := 0#32
  let v136 : BitVec 1 := Scalar.cmpi .eq c2_i32_67 c0_i32_68
  let c1_i32_69 : BitVec 32 := 1#32
  let v137 : BitVec 32 := Scalar.select v136 c1_i32_69 c2_i32_67
  let v138 : BitVec 32 := Scalar.remsi v125 v137
  let c0_i32_71 : BitVec 32 := 0#32
  let v140 : BitVec 1 := Scalar.cmpi .slt v138 c0_i32_71
  let c0_i32_72 : BitVec 32 := 0#32
  let v141 : BitVec 1 := Scalar.cmpi .slt v137 c0_i32_72
  let v142 : BitVec 1 := Scalar.xori v140 v141
  let c0_i32_70 : BitVec 32 := 0#32
  let v139 : BitVec 1 := Scalar.cmpi .ne v138 c0_i32_70
  let v143 : BitVec 1 := Scalar.andi v142 v139
  let v144 : BitVec 32 := Scalar.addi v138 v137
  let v145 : BitVec 32 := Scalar.select v143 v144 v138
  let c0_i32_73 : BitVec 32 := 0#32
  let v146 : BitVec 1 := Scalar.cmpi .eq v145 c0_i32_73
  let c4_i32_61 : BitVec 32 := 4#32
  let c0_i32_62 : BitVec 32 := 0#32
  let v126 : BitVec 1 := Scalar.cmpi .eq c4_i32_61 c0_i32_62
  let c1_i32_63 : BitVec 32 := 1#32
  let v127 : BitVec 32 := Scalar.select v126 c1_i32_63 c4_i32_61
  let v128 : BitVec 32 := Scalar.remsi v108 v127
  let c0_i32_65 : BitVec 32 := 0#32
  let v130 : BitVec 1 := Scalar.cmpi .slt v128 c0_i32_65
  let c0_i32_66 : BitVec 32 := 0#32
  let v131 : BitVec 1 := Scalar.cmpi .slt v127 c0_i32_66
  let v132 : BitVec 1 := Scalar.xori v130 v131
  let c0_i32_64 : BitVec 32 := 0#32
  let v129 : BitVec 1 := Scalar.cmpi .ne v128 c0_i32_64
  let v133 : BitVec 1 := Scalar.andi v132 v129
  let v134 : BitVec 32 := Scalar.addi v128 v127
  let v135 : BitVec 32 := Scalar.select v133 v134 v128
  let c3_i32_74 : BitVec 32 := 3#32
  let v147 : BitVec 32 := Scalar.subi c3_i32_74 v135
  let v148 : BitVec 32 := Scalar.select v146 v135 v147
  let v149 : BitVec 32 := Scalar.muli c4_i32_75 v148
  let v150 : BitVec 32 := Scalar.addi v149 v125
  let c1_i32_2745 : BitVec 32 := 1#32
  let v3753 : BitVec 32 := Scalar.muli v150 c1_i32_2745
  let v3754 : BitVec 32 := Scalar.addi c0_i32_2746 v3753
  v3754.toNat
def k0_dev72 (d0 : Dev nD) : Nat :=
  let c0_i32_2774 : BitVec 32 := 0#32
  let c4_i32_46 : BitVec 32 := 4#32
  let c4_i32_17 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let v43 : BitVec 32 := Scalar.muli c4_i32_17 v12
  let c2_i32 : BitVec 32 := 2#32
  let c0_i32_11 : BitVec 32 := 0#32
  let v30 : BitVec 1 := Scalar.cmpi .eq c2_i32 c0_i32_11
  let c1_i32_12 : BitVec 32 := 1#32
  let v31 : BitVec 32 := Scalar.select v30 c1_i32_12 c2_i32
  let v32 : BitVec 32 := Scalar.remsi v12 v31
  let c0_i32_14 : BitVec 32 := 0#32
  let v34 : BitVec 1 := Scalar.cmpi .slt v32 c0_i32_14
  let c0_i32_15 : BitVec 32 := 0#32
  let v35 : BitVec 1 := Scalar.cmpi .slt v31 c0_i32_15
  let v36 : BitVec 1 := Scalar.xori v34 v35
  let c0_i32_13 : BitVec 32 := 0#32
  let v33 : BitVec 1 := Scalar.cmpi .ne v32 c0_i32_13
  let v37 : BitVec 1 := Scalar.andi v36 v33
  let v38 : BitVec 32 := Scalar.addi v32 v31
  let v39 : BitVec 32 := Scalar.select v37 v38 v32
  let c0_i32_16 : BitVec 32 := 0#32
  let v40 : BitVec 1 := Scalar.cmpi .eq v39 c0_i32_16
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c4_i32_4 : BitVec 32 := 4#32
  let c0_i32_7 : BitVec 32 := 0#32
  let v19 : BitVec 1 := Scalar.cmpi .sgt c4_i32_4 c0_i32_7
  let v20 : BitVec 32 := Scalar.extui v19
  let c0_i32_8 : BitVec 32 := 0#32
  let v21 : BitVec 1 := Scalar.cmpi .slt c4_i32_4 c0_i32_8
  let v22 : BitVec 32 := Scalar.extui v21
  let v23 : BitVec 32 := Scalar.subi v20 v22
  let v24 : BitVec 1 := Scalar.cmpi .ne v18 v23
  let v25 : BitVec 32 := Scalar.remsi v2 c4_i32_4
  let c0_i32_9 : BitVec 32 := 0#32
  let v26 : BitVec 1 := Scalar.cmpi .ne v25 c0_i32_9
  let v27 : BitVec 1 := Scalar.andi v24 v26
  let v13 : BitVec 32 := Scalar.divsi v2 c4_i32_4
  let c1_i32_10 : BitVec 32 := 1#32
  let v28 : BitVec 32 := Scalar.subi v13 c1_i32_10
  let v29 : BitVec 32 := Scalar.select v27 v28 v13
  let c3_i32 : BitVec 32 := 3#32
  let v41 : BitVec 32 := Scalar.subi c3_i32 v29
  let v42 : BitVec 32 := Scalar.select v40 v29 v41
  let v44 : BitVec 32 := Scalar.addi v43 v42
  let c1_i32_18 : BitVec 32 := 1#32
  let v45 : BitVec 32 := Scalar.addi v44 c1_i32_18
  let c16_i32_19 : BitVec 32 := 16#32
  let c0_i32_20 : BitVec 32 := 0#32
  let v46 : BitVec 1 := Scalar.cmpi .eq c16_i32_19 c0_i32_20
  let c1_i32_21 : BitVec 32 := 1#32
  let v47 : BitVec 32 := Scalar.select v46 c1_i32_21 c16_i32_19
  let v48 : BitVec 32 := Scalar.remsi v45 v47
  let c0_i32_23 : BitVec 32 := 0#32
  let v50 : BitVec 1 := Scalar.cmpi .slt v48 c0_i32_23
  let c0_i32_24 : BitVec 32 := 0#32
  let v51 : BitVec 1 := Scalar.cmpi .slt v47 c0_i32_24
  let v52 : BitVec 1 := Scalar.xori v50 v51
  let c0_i32_22 : BitVec 32 := 0#32
  let v49 : BitVec 1 := Scalar.cmpi .ne v48 c0_i32_22
  let v53 : BitVec 1 := Scalar.andi v52 v49
  let v54 : BitVec 32 := Scalar.addi v48 v47
  let v55 : BitVec 32 := Scalar.select v53 v54 v48
  let c0_i32_26 : BitVec 32 := 0#32
  let v57 : BitVec 1 := Scalar.cmpi .sgt v55 c0_i32_26
  let v58 : BitVec 32 := Scalar.extui v57
  let c0_i32_27 : BitVec 32 := 0#32
  let v59 : BitVec 1 := Scalar.cmpi .slt v55 c0_i32_27
  let v60 : BitVec 32 := Scalar.extui v59
  let v61 : BitVec 32 := Scalar.subi v58 v60
  let c4_i32_25 : BitVec 32 := 4#32
  let c0_i32_28 : BitVec 32 := 0#32
  let v62 : BitVec 1 := Scalar.cmpi .sgt c4_i32_25 c0_i32_28
  let v63 : BitVec 32 := Scalar.extui v62
  let c0_i32_29 : BitVec 32 := 0#32
  let v64 : BitVec 1 := Scalar.cmpi .slt c4_i32_25 c0_i32_29
  let v65 : BitVec 32 := Scalar.extui v64
  let v66 : BitVec 32 := Scalar.subi v63 v65
  let v67 : BitVec 1 := Scalar.cmpi .ne v61 v66
  let v68 : BitVec 32 := Scalar.remsi v55 c4_i32_25
  let c0_i32_30 : BitVec 32 := 0#32
  let v69 : BitVec 1 := Scalar.cmpi .ne v68 c0_i32_30
  let v70 : BitVec 1 := Scalar.andi v67 v69
  let v56 : BitVec 32 := Scalar.divsi v55 c4_i32_25
  let c1_i32_31 : BitVec 32 := 1#32
  let v71 : BitVec 32 := Scalar.subi v56 c1_i32_31
  let v72 : BitVec 32 := Scalar.select v70 v71 v56
  let c2_i32_38 : BitVec 32 := 2#32
  let c0_i32_39 : BitVec 32 := 0#32
  let v83 : BitVec 1 := Scalar.cmpi .eq c2_i32_38 c0_i32_39
  let c1_i32_40 : BitVec 32 := 1#32
  let v84 : BitVec 32 := Scalar.select v83 c1_i32_40 c2_i32_38
  let v85 : BitVec 32 := Scalar.remsi v72 v84
  let c0_i32_42 : BitVec 32 := 0#32
  let v87 : BitVec 1 := Scalar.cmpi .slt v85 c0_i32_42
  let c0_i32_43 : BitVec 32 := 0#32
  let v88 : BitVec 1 := Scalar.cmpi .slt v84 c0_i32_43
  let v89 : BitVec 1 := Scalar.xori v87 v88
  let c0_i32_41 : BitVec 32 := 0#32
  let v86 : BitVec 1 := Scalar.cmpi .ne v85 c0_i32_41
  let v90 : BitVec 1 := Scalar.andi v89 v86
  let v91 : BitVec 32 := Scalar.addi v85 v84
  let v92 : BitVec 32 := Scalar.select v90 v91 v85
  let c0_i32_44 : BitVec 32 := 0#32
  let v93 : BitVec 1 := Scalar.cmpi .eq v92 c0_i32_44
  let c4_i32_32 : BitVec 32 := 4#32
  let c0_i32_33 : BitVec 32 := 0#32
  let v73 : BitVec 1 := Scalar.cmpi .eq c4_i32_32 c0_i32_33
  let c1_i32_34 : BitVec 32 := 1#32
  let v74 : BitVec 32 := Scalar.select v73 c1_i32_34 c4_i32_32
  let v75 : BitVec 32 := Scalar.remsi v55 v74
  let c0_i32_36 : BitVec 32 := 0#32
  let v77 : BitVec 1 := Scalar.cmpi .slt v75 c0_i32_36
  let c0_i32_37 : BitVec 32 := 0#32
  let v78 : BitVec 1 := Scalar.cmpi .slt v74 c0_i32_37
  let v79 : BitVec 1 := Scalar.xori v77 v78
  let c0_i32_35 : BitVec 32 := 0#32
  let v76 : BitVec 1 := Scalar.cmpi .ne v75 c0_i32_35
  let v80 : BitVec 1 := Scalar.andi v79 v76
  let v81 : BitVec 32 := Scalar.addi v75 v74
  let v82 : BitVec 32 := Scalar.select v80 v81 v75
  let c3_i32_45 : BitVec 32 := 3#32
  let v94 : BitVec 32 := Scalar.subi c3_i32_45 v82
  let v95 : BitVec 32 := Scalar.select v93 v82 v94
  let v96 : BitVec 32 := Scalar.muli c4_i32_46 v95
  let v97 : BitVec 32 := Scalar.addi v96 v72
  let c1_i32_2773 : BitVec 32 := 1#32
  let v3777 : BitVec 32 := Scalar.muli v97 c1_i32_2773
  let v3778 : BitVec 32 := Scalar.addi c0_i32_2774 v3777
  v3778.toNat
def k0_dev73 (d0 : Dev nD) : Nat :=
  let c0_i32_2788 : BitVec 32 := 0#32
  let c4_i32_46 : BitVec 32 := 4#32
  let c4_i32_17 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let v43 : BitVec 32 := Scalar.muli c4_i32_17 v12
  let c2_i32 : BitVec 32 := 2#32
  let c0_i32_11 : BitVec 32 := 0#32
  let v30 : BitVec 1 := Scalar.cmpi .eq c2_i32 c0_i32_11
  let c1_i32_12 : BitVec 32 := 1#32
  let v31 : BitVec 32 := Scalar.select v30 c1_i32_12 c2_i32
  let v32 : BitVec 32 := Scalar.remsi v12 v31
  let c0_i32_14 : BitVec 32 := 0#32
  let v34 : BitVec 1 := Scalar.cmpi .slt v32 c0_i32_14
  let c0_i32_15 : BitVec 32 := 0#32
  let v35 : BitVec 1 := Scalar.cmpi .slt v31 c0_i32_15
  let v36 : BitVec 1 := Scalar.xori v34 v35
  let c0_i32_13 : BitVec 32 := 0#32
  let v33 : BitVec 1 := Scalar.cmpi .ne v32 c0_i32_13
  let v37 : BitVec 1 := Scalar.andi v36 v33
  let v38 : BitVec 32 := Scalar.addi v32 v31
  let v39 : BitVec 32 := Scalar.select v37 v38 v32
  let c0_i32_16 : BitVec 32 := 0#32
  let v40 : BitVec 1 := Scalar.cmpi .eq v39 c0_i32_16
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c4_i32_4 : BitVec 32 := 4#32
  let c0_i32_7 : BitVec 32 := 0#32
  let v19 : BitVec 1 := Scalar.cmpi .sgt c4_i32_4 c0_i32_7
  let v20 : BitVec 32 := Scalar.extui v19
  let c0_i32_8 : BitVec 32 := 0#32
  let v21 : BitVec 1 := Scalar.cmpi .slt c4_i32_4 c0_i32_8
  let v22 : BitVec 32 := Scalar.extui v21
  let v23 : BitVec 32 := Scalar.subi v20 v22
  let v24 : BitVec 1 := Scalar.cmpi .ne v18 v23
  let v25 : BitVec 32 := Scalar.remsi v2 c4_i32_4
  let c0_i32_9 : BitVec 32 := 0#32
  let v26 : BitVec 1 := Scalar.cmpi .ne v25 c0_i32_9
  let v27 : BitVec 1 := Scalar.andi v24 v26
  let v13 : BitVec 32 := Scalar.divsi v2 c4_i32_4
  let c1_i32_10 : BitVec 32 := 1#32
  let v28 : BitVec 32 := Scalar.subi v13 c1_i32_10
  let v29 : BitVec 32 := Scalar.select v27 v28 v13
  let c3_i32 : BitVec 32 := 3#32
  let v41 : BitVec 32 := Scalar.subi c3_i32 v29
  let v42 : BitVec 32 := Scalar.select v40 v29 v41
  let v44 : BitVec 32 := Scalar.addi v43 v42
  let c1_i32_18 : BitVec 32 := 1#32
  let v45 : BitVec 32 := Scalar.addi v44 c1_i32_18
  let c16_i32_19 : BitVec 32 := 16#32
  let c0_i32_20 : BitVec 32 := 0#32
  let v46 : BitVec 1 := Scalar.cmpi .eq c16_i32_19 c0_i32_20
  let c1_i32_21 : BitVec 32 := 1#32
  let v47 : BitVec 32 := Scalar.select v46 c1_i32_21 c16_i32_19
  let v48 : BitVec 32 := Scalar.remsi v45 v47
  let c0_i32_23 : BitVec 32 := 0#32
  let v50 : BitVec 1 := Scalar.cmpi .slt v48 c0_i32_23
  let c0_i32_24 : BitVec 32 := 0#32
  let v51 : BitVec 1 := Scalar.cmpi .slt v47 c0_i32_24
  let v52 : BitVec 1 := Scalar.xori v50 v51
  let c0_i32_22 : BitVec 32 := 0#32
  let v49 : BitVec 1 := Scalar.cmpi .ne v48 c0_i32_22
  let v53 : BitVec 1 := Scalar.andi v52 v49
  let v54 : BitVec 32 := Scalar.addi v48 v47
  let v55 : BitVec 32 := Scalar.select v53 v54 v48
  let c0_i32_26 : BitVec 32 := 0#32
  let v57 : BitVec 1 := Scalar.cmpi .sgt v55 c0_i32_26
  let v58 : BitVec 32 := Scalar.extui v57
  let c0_i32_27 : BitVec 32 := 0#32
  let v59 : BitVec 1 := Scalar.cmpi .slt v55 c0_i32_27
  let v60 : BitVec 32 := Scalar.extui v59
  let v61 : BitVec 32 := Scalar.subi v58 v60
  let c4_i32_25 : BitVec 32 := 4#32
  let c0_i32_28 : BitVec 32 := 0#32
  let v62 : BitVec 1 := Scalar.cmpi .sgt c4_i32_25 c0_i32_28
  let v63 : BitVec 32 := Scalar.extui v62
  let c0_i32_29 : BitVec 32 := 0#32
  let v64 : BitVec 1 := Scalar.cmpi .slt c4_i32_25 c0_i32_29
  let v65 : BitVec 32 := Scalar.extui v64
  let v66 : BitVec 32 := Scalar.subi v63 v65
  let v67 : BitVec 1 := Scalar.cmpi .ne v61 v66
  let v68 : BitVec 32 := Scalar.remsi v55 c4_i32_25
  let c0_i32_30 : BitVec 32 := 0#32
  let v69 : BitVec 1 := Scalar.cmpi .ne v68 c0_i32_30
  let v70 : BitVec 1 := Scalar.andi v67 v69
  let v56 : BitVec 32 := Scalar.divsi v55 c4_i32_25
  let c1_i32_31 : BitVec 32 := 1#32
  let v71 : BitVec 32 := Scalar.subi v56 c1_i32_31
  let v72 : BitVec 32 := Scalar.select v70 v71 v56
  let c2_i32_38 : BitVec 32 := 2#32
  let c0_i32_39 : BitVec 32 := 0#32
  let v83 : BitVec 1 := Scalar.cmpi .eq c2_i32_38 c0_i32_39
  let c1_i32_40 : BitVec 32 := 1#32
  let v84 : BitVec 32 := Scalar.select v83 c1_i32_40 c2_i32_38
  let v85 : BitVec 32 := Scalar.remsi v72 v84
  let c0_i32_42 : BitVec 32 := 0#32
  let v87 : BitVec 1 := Scalar.cmpi .slt v85 c0_i32_42
  let c0_i32_43 : BitVec 32 := 0#32
  let v88 : BitVec 1 := Scalar.cmpi .slt v84 c0_i32_43
  let v89 : BitVec 1 := Scalar.xori v87 v88
  let c0_i32_41 : BitVec 32 := 0#32
  let v86 : BitVec 1 := Scalar.cmpi .ne v85 c0_i32_41
  let v90 : BitVec 1 := Scalar.andi v89 v86
  let v91 : BitVec 32 := Scalar.addi v85 v84
  let v92 : BitVec 32 := Scalar.select v90 v91 v85
  let c0_i32_44 : BitVec 32 := 0#32
  let v93 : BitVec 1 := Scalar.cmpi .eq v92 c0_i32_44
  let c4_i32_32 : BitVec 32 := 4#32
  let c0_i32_33 : BitVec 32 := 0#32
  let v73 : BitVec 1 := Scalar.cmpi .eq c4_i32_32 c0_i32_33
  let c1_i32_34 : BitVec 32 := 1#32
  let v74 : BitVec 32 := Scalar.select v73 c1_i32_34 c4_i32_32
  let v75 : BitVec 32 := Scalar.remsi v55 v74
  let c0_i32_36 : BitVec 32 := 0#32
  let v77 : BitVec 1 := Scalar.cmpi .slt v75 c0_i32_36
  let c0_i32_37 : BitVec 32 := 0#32
  let v78 : BitVec 1 := Scalar.cmpi .slt v74 c0_i32_37
  let v79 : BitVec 1 := Scalar.xori v77 v78
  let c0_i32_35 : BitVec 32 := 0#32
  let v76 : BitVec 1 := Scalar.cmpi .ne v75 c0_i32_35
  let v80 : BitVec 1 := Scalar.andi v79 v76
  let v81 : BitVec 32 := Scalar.addi v75 v74
  let v82 : BitVec 32 := Scalar.select v80 v81 v75
  let c3_i32_45 : BitVec 32 := 3#32
  let v94 : BitVec 32 := Scalar.subi c3_i32_45 v82
  let v95 : BitVec 32 := Scalar.select v93 v82 v94
  let v96 : BitVec 32 := Scalar.muli c4_i32_46 v95
  let v97 : BitVec 32 := Scalar.addi v96 v72
  let c1_i32_2787 : BitVec 32 := 1#32
  let v3787 : BitVec 32 := Scalar.muli v97 c1_i32_2787
  let v3788 : BitVec 32 := Scalar.addi c0_i32_2788 v3787
  v3788.toNat
def k0_dev74 (d0 : Dev nD) : Nat :=
  let c0_i32_2800 : BitVec 32 := 0#32
  let c4_i32_75 : BitVec 32 := 4#32
  let c4_i32_17 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let v43 : BitVec 32 := Scalar.muli c4_i32_17 v12
  let c2_i32 : BitVec 32 := 2#32
  let c0_i32_11 : BitVec 32 := 0#32
  let v30 : BitVec 1 := Scalar.cmpi .eq c2_i32 c0_i32_11
  let c1_i32_12 : BitVec 32 := 1#32
  let v31 : BitVec 32 := Scalar.select v30 c1_i32_12 c2_i32
  let v32 : BitVec 32 := Scalar.remsi v12 v31
  let c0_i32_14 : BitVec 32 := 0#32
  let v34 : BitVec 1 := Scalar.cmpi .slt v32 c0_i32_14
  let c0_i32_15 : BitVec 32 := 0#32
  let v35 : BitVec 1 := Scalar.cmpi .slt v31 c0_i32_15
  let v36 : BitVec 1 := Scalar.xori v34 v35
  let c0_i32_13 : BitVec 32 := 0#32
  let v33 : BitVec 1 := Scalar.cmpi .ne v32 c0_i32_13
  let v37 : BitVec 1 := Scalar.andi v36 v33
  let v38 : BitVec 32 := Scalar.addi v32 v31
  let v39 : BitVec 32 := Scalar.select v37 v38 v32
  let c0_i32_16 : BitVec 32 := 0#32
  let v40 : BitVec 1 := Scalar.cmpi .eq v39 c0_i32_16
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c4_i32_4 : BitVec 32 := 4#32
  let c0_i32_7 : BitVec 32 := 0#32
  let v19 : BitVec 1 := Scalar.cmpi .sgt c4_i32_4 c0_i32_7
  let v20 : BitVec 32 := Scalar.extui v19
  let c0_i32_8 : BitVec 32 := 0#32
  let v21 : BitVec 1 := Scalar.cmpi .slt c4_i32_4 c0_i32_8
  let v22 : BitVec 32 := Scalar.extui v21
  let v23 : BitVec 32 := Scalar.subi v20 v22
  let v24 : BitVec 1 := Scalar.cmpi .ne v18 v23
  let v25 : BitVec 32 := Scalar.remsi v2 c4_i32_4
  let c0_i32_9 : BitVec 32 := 0#32
  let v26 : BitVec 1 := Scalar.cmpi .ne v25 c0_i32_9
  let v27 : BitVec 1 := Scalar.andi v24 v26
  let v13 : BitVec 32 := Scalar.divsi v2 c4_i32_4
  let c1_i32_10 : BitVec 32 := 1#32
  let v28 : BitVec 32 := Scalar.subi v13 c1_i32_10
  let v29 : BitVec 32 := Scalar.select v27 v28 v13
  let c3_i32 : BitVec 32 := 3#32
  let v41 : BitVec 32 := Scalar.subi c3_i32 v29
  let v42 : BitVec 32 := Scalar.select v40 v29 v41
  let v44 : BitVec 32 := Scalar.addi v43 v42
  let c1_i32_47 : BitVec 32 := 1#32
  let v98 : BitVec 32 := Scalar.subi v44 c1_i32_47
  let c16_i32_48 : BitVec 32 := 16#32
  let c0_i32_49 : BitVec 32 := 0#32
  let v99 : BitVec 1 := Scalar.cmpi .eq c16_i32_48 c0_i32_49
  let c1_i32_50 : BitVec 32 := 1#32
  let v100 : BitVec 32 := Scalar.select v99 c1_i32_50 c16_i32_48
  let v101 : BitVec 32 := Scalar.remsi v98 v100
  let c0_i32_52 : BitVec 32 := 0#32
  let v103 : BitVec 1 := Scalar.cmpi .slt v101 c0_i32_52
  let c0_i32_53 : BitVec 32 := 0#32
  let v104 : BitVec 1 := Scalar.cmpi .slt v100 c0_i32_53
  let v105 : BitVec 1 := Scalar.xori v103 v104
  let c0_i32_51 : BitVec 32 := 0#32
  let v102 : BitVec 1 := Scalar.cmpi .ne v101 c0_i32_51
  let v106 : BitVec 1 := Scalar.andi v105 v102
  let v107 : BitVec 32 := Scalar.addi v101 v100
  let v108 : BitVec 32 := Scalar.select v106 v107 v101
  let c0_i32_55 : BitVec 32 := 0#32
  let v110 : BitVec 1 := Scalar.cmpi .sgt v108 c0_i32_55
  let v111 : BitVec 32 := Scalar.extui v110
  let c0_i32_56 : BitVec 32 := 0#32
  let v112 : BitVec 1 := Scalar.cmpi .slt v108 c0_i32_56
  let v113 : BitVec 32 := Scalar.extui v112
  let v114 : BitVec 32 := Scalar.subi v111 v113
  let c4_i32_54 : BitVec 32 := 4#32
  let c0_i32_57 : BitVec 32 := 0#32
  let v115 : BitVec 1 := Scalar.cmpi .sgt c4_i32_54 c0_i32_57
  let v116 : BitVec 32 := Scalar.extui v115
  let c0_i32_58 : BitVec 32 := 0#32
  let v117 : BitVec 1 := Scalar.cmpi .slt c4_i32_54 c0_i32_58
  let v118 : BitVec 32 := Scalar.extui v117
  let v119 : BitVec 32 := Scalar.subi v116 v118
  let v120 : BitVec 1 := Scalar.cmpi .ne v114 v119
  let v121 : BitVec 32 := Scalar.remsi v108 c4_i32_54
  let c0_i32_59 : BitVec 32 := 0#32
  let v122 : BitVec 1 := Scalar.cmpi .ne v121 c0_i32_59
  let v123 : BitVec 1 := Scalar.andi v120 v122
  let v109 : BitVec 32 := Scalar.divsi v108 c4_i32_54
  let c1_i32_60 : BitVec 32 := 1#32
  let v124 : BitVec 32 := Scalar.subi v109 c1_i32_60
  let v125 : BitVec 32 := Scalar.select v123 v124 v109
  let c2_i32_67 : BitVec 32 := 2#32
  let c0_i32_68 : BitVec 32 := 0#32
  let v136 : BitVec 1 := Scalar.cmpi .eq c2_i32_67 c0_i32_68
  let c1_i32_69 : BitVec 32 := 1#32
  let v137 : BitVec 32 := Scalar.select v136 c1_i32_69 c2_i32_67
  let v138 : BitVec 32 := Scalar.remsi v125 v137
  let c0_i32_71 : BitVec 32 := 0#32
  let v140 : BitVec 1 := Scalar.cmpi .slt v138 c0_i32_71
  let c0_i32_72 : BitVec 32 := 0#32
  let v141 : BitVec 1 := Scalar.cmpi .slt v137 c0_i32_72
  let v142 : BitVec 1 := Scalar.xori v140 v141
  let c0_i32_70 : BitVec 32 := 0#32
  let v139 : BitVec 1 := Scalar.cmpi .ne v138 c0_i32_70
  let v143 : BitVec 1 := Scalar.andi v142 v139
  let v144 : BitVec 32 := Scalar.addi v138 v137
  let v145 : BitVec 32 := Scalar.select v143 v144 v138
  let c0_i32_73 : BitVec 32 := 0#32
  let v146 : BitVec 1 := Scalar.cmpi .eq v145 c0_i32_73
  let c4_i32_61 : BitVec 32 := 4#32
  let c0_i32_62 : BitVec 32 := 0#32
  let v126 : BitVec 1 := Scalar.cmpi .eq c4_i32_61 c0_i32_62
  let c1_i32_63 : BitVec 32 := 1#32
  let v127 : BitVec 32 := Scalar.select v126 c1_i32_63 c4_i32_61
  let v128 : BitVec 32 := Scalar.remsi v108 v127
  let c0_i32_65 : BitVec 32 := 0#32
  let v130 : BitVec 1 := Scalar.cmpi .slt v128 c0_i32_65
  let c0_i32_66 : BitVec 32 := 0#32
  let v131 : BitVec 1 := Scalar.cmpi .slt v127 c0_i32_66
  let v132 : BitVec 1 := Scalar.xori v130 v131
  let c0_i32_64 : BitVec 32 := 0#32
  let v129 : BitVec 1 := Scalar.cmpi .ne v128 c0_i32_64
  let v133 : BitVec 1 := Scalar.andi v132 v129
  let v134 : BitVec 32 := Scalar.addi v128 v127
  let v135 : BitVec 32 := Scalar.select v133 v134 v128
  let c3_i32_74 : BitVec 32 := 3#32
  let v147 : BitVec 32 := Scalar.subi c3_i32_74 v135
  let v148 : BitVec 32 := Scalar.select v146 v135 v147
  let v149 : BitVec 32 := Scalar.muli c4_i32_75 v148
  let v150 : BitVec 32 := Scalar.addi v149 v125
  let c1_i32_2799 : BitVec 32 := 1#32
  let v3797 : BitVec 32 := Scalar.muli v150 c1_i32_2799
  let v3798 : BitVec 32 := Scalar.addi c0_i32_2800 v3797
  v3798.toNat
def k0_dev75 (d0 : Dev nD) : Nat :=
  let c0_i32_2826 : BitVec 32 := 0#32
  let c4_i32_75 : BitVec 32 := 4#32
  let c4_i32_17 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let v43 : BitVec 32 := Scalar.muli c4_i32_17 v12
  let c2_i32 : BitVec 32 := 2#32
  let c0_i32_11 : BitVec 32 := 0#32
  let v30 : BitVec 1 := Scalar.cmpi .eq c2_i32 c0_i32_11
  let c1_i32_12 : BitVec 32 := 1#32
  let v31 : BitVec 32 := Scalar.select v30 c1_i32_12 c2_i32
  let v32 : BitVec 32 := Scalar.remsi v12 v31
  let c0_i32_14 : BitVec 32 := 0#32
  let v34 : BitVec 1 := Scalar.cmpi .slt v32 c0_i32_14
  let c0_i32_15 : BitVec 32 := 0#32
  let v35 : BitVec 1 := Scalar.cmpi .slt v31 c0_i32_15
  let v36 : BitVec 1 := Scalar.xori v34 v35
  let c0_i32_13 : BitVec 32 := 0#32
  let v33 : BitVec 1 := Scalar.cmpi .ne v32 c0_i32_13
  let v37 : BitVec 1 := Scalar.andi v36 v33
  let v38 : BitVec 32 := Scalar.addi v32 v31
  let v39 : BitVec 32 := Scalar.select v37 v38 v32
  let c0_i32_16 : BitVec 32 := 0#32
  let v40 : BitVec 1 := Scalar.cmpi .eq v39 c0_i32_16
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c4_i32_4 : BitVec 32 := 4#32
  let c0_i32_7 : BitVec 32 := 0#32
  let v19 : BitVec 1 := Scalar.cmpi .sgt c4_i32_4 c0_i32_7
  let v20 : BitVec 32 := Scalar.extui v19
  let c0_i32_8 : BitVec 32 := 0#32
  let v21 : BitVec 1 := Scalar.cmpi .slt c4_i32_4 c0_i32_8
  let v22 : BitVec 32 := Scalar.extui v21
  let v23 : BitVec 32 := Scalar.subi v20 v22
  let v24 : BitVec 1 := Scalar.cmpi .ne v18 v23
  let v25 : BitVec 32 := Scalar.remsi v2 c4_i32_4
  let c0_i32_9 : BitVec 32 := 0#32
  let v26 : BitVec 1 := Scalar.cmpi .ne v25 c0_i32_9
  let v27 : BitVec 1 := Scalar.andi v24 v26
  let v13 : BitVec 32 := Scalar.divsi v2 c4_i32_4
  let c1_i32_10 : BitVec 32 := 1#32
  let v28 : BitVec 32 := Scalar.subi v13 c1_i32_10
  let v29 : BitVec 32 := Scalar.select v27 v28 v13
  let c3_i32 : BitVec 32 := 3#32
  let v41 : BitVec 32 := Scalar.subi c3_i32 v29
  let v42 : BitVec 32 := Scalar.select v40 v29 v41
  let v44 : BitVec 32 := Scalar.addi v43 v42
  let c1_i32_47 : BitVec 32 := 1#32
  let v98 : BitVec 32 := Scalar.subi v44 c1_i32_47
  let c16_i32_48 : BitVec 32 := 16#32
  let c0_i32_49 : BitVec 32 := 0#32
  let v99 : BitVec 1 := Scalar.cmpi .eq c16_i32_48 c0_i32_49
  let c1_i32_50 : BitVec 32 := 1#32
  let v100 : BitVec 32 := Scalar.select v99 c1_i32_50 c16_i32_48
  let v101 : BitVec 32 := Scalar.remsi v98 v100
  let c0_i32_52 : BitVec 32 := 0#32
  let v103 : BitVec 1 := Scalar.cmpi .slt v101 c0_i32_52
  let c0_i32_53 : BitVec 32 := 0#32
  let v104 : BitVec 1 := Scalar.cmpi .slt v100 c0_i32_53
  let v105 : BitVec 1 := Scalar.xori v103 v104
  let c0_i32_51 : BitVec 32 := 0#32
  let v102 : BitVec 1 := Scalar.cmpi .ne v101 c0_i32_51
  let v106 : BitVec 1 := Scalar.andi v105 v102
  let v107 : BitVec 32 := Scalar.addi v101 v100
  let v108 : BitVec 32 := Scalar.select v106 v107 v101
  let c0_i32_55 : BitVec 32 := 0#32
  let v110 : BitVec 1 := Scalar.cmpi .sgt v108 c0_i32_55
  let v111 : BitVec 32 := Scalar.extui v110
  let c0_i32_56 : BitVec 32 := 0#32
  let v112 : BitVec 1 := Scalar.cmpi .slt v108 c0_i32_56
  let v113 : BitVec 32 := Scalar.extui v112
  let v114 : BitVec 32 := Scalar.subi v111 v113
  let c4_i32_54 : BitVec 32 := 4#32
  let c0_i32_57 : BitVec 32 := 0#32
  let v115 : BitVec 1 := Scalar.cmpi .sgt c4_i32_54 c0_i32_57
  let v116 : BitVec 32 := Scalar.extui v115
  let c0_i32_58 : BitVec 32 := 0#32
  let v117 : BitVec 1 := Scalar.cmpi .slt c4_i32_54 c0_i32_58
  let v118 : BitVec 32 := Scalar.extui v117
  let v119 : BitVec 32 := Scalar.subi v116 v118
  let v120 : BitVec 1 := Scalar.cmpi .ne v114 v119
  let v121 : BitVec 32 := Scalar.remsi v108 c4_i32_54
  let c0_i32_59 : BitVec 32 := 0#32
  let v122 : BitVec 1 := Scalar.cmpi .ne v121 c0_i32_59
  let v123 : BitVec 1 := Scalar.andi v120 v122
  let v109 : BitVec 32 := Scalar.divsi v108 c4_i32_54
  let c1_i32_60 : BitVec 32 := 1#32
  let v124 : BitVec 32 := Scalar.subi v109 c1_i32_60
  let v125 : BitVec 32 := Scalar.select v123 v124 v109
  let c2_i32_67 : BitVec 32 := 2#32
  let c0_i32_68 : BitVec 32 := 0#32
  let v136 : BitVec 1 := Scalar.cmpi .eq c2_i32_67 c0_i32_68
  let c1_i32_69 : BitVec 32 := 1#32
  let v137 : BitVec 32 := Scalar.select v136 c1_i32_69 c2_i32_67
  let v138 : BitVec 32 := Scalar.remsi v125 v137
  let c0_i32_71 : BitVec 32 := 0#32
  let v140 : BitVec 1 := Scalar.cmpi .slt v138 c0_i32_71
  let c0_i32_72 : BitVec 32 := 0#32
  let v141 : BitVec 1 := Scalar.cmpi .slt v137 c0_i32_72
  let v142 : BitVec 1 := Scalar.xori v140 v141
  let c0_i32_70 : BitVec 32 := 0#32
  let v139 : BitVec 1 := Scalar.cmpi .ne v138 c0_i32_70
  let v143 : BitVec 1 := Scalar.andi v142 v139
  let v144 : BitVec 32 := Scalar.addi v138 v137
  let v145 : BitVec 32 := Scalar.select v143 v144 v138
  let c0_i32_73 : BitVec 32 := 0#32
  let v146 : BitVec 1 := Scalar.cmpi .eq v145 c0_i32_73
  let c4_i32_61 : BitVec 32 := 4#32
  let c0_i32_62 : BitVec 32 := 0#32
  let v126 : BitVec 1 := Scalar.cmpi .eq c4_i32_61 c0_i32_62
  let c1_i32_63 : BitVec 32 := 1#32
  let v127 : BitVec 32 := Scalar.select v126 c1_i32_63 c4_i32_61
  let v128 : BitVec 32 := Scalar.remsi v108 v127
  let c0_i32_65 : BitVec 32 := 0#32
  let v130 : BitVec 1 := Scalar.cmpi .slt v128 c0_i32_65
  let c0_i32_66 : BitVec 32 := 0#32
  let v131 : BitVec 1 := Scalar.cmpi .slt v127 c0_i32_66
  let v132 : BitVec 1 := Scalar.xori v130 v131
  let c0_i32_64 : BitVec 32 := 0#32
  let v129 : BitVec 1 := Scalar.cmpi .ne v128 c0_i32_64
  let v133 : BitVec 1 := Scalar.andi v132 v129
  let v134 : BitVec 32 := Scalar.addi v128 v127
  let v135 : BitVec 32 := Scalar.select v133 v134 v128
  let c3_i32_74 : BitVec 32 := 3#32
  let v147 : BitVec 32 := Scalar.subi c3_i32_74 v135
  let v148 : BitVec 32 := Scalar.select v146 v135 v147
  let v149 : BitVec 32 := Scalar.muli c4_i32_75 v148
  let v150 : BitVec 32 := Scalar.addi v149 v125
  let c1_i32_2825 : BitVec 32 := 1#32
  let v3821 : BitVec 32 := Scalar.muli v150 c1_i32_2825
  let v3822 : BitVec 32 := Scalar.addi c0_i32_2826 v3821
  v3822.toNat
def k0_dev76 (d0 : Dev nD) : Nat :=
  let c0_i32_2854 : BitVec 32 := 0#32
  let c4_i32_46 : BitVec 32 := 4#32
  let c4_i32_17 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let v43 : BitVec 32 := Scalar.muli c4_i32_17 v12
  let c2_i32 : BitVec 32 := 2#32
  let c0_i32_11 : BitVec 32 := 0#32
  let v30 : BitVec 1 := Scalar.cmpi .eq c2_i32 c0_i32_11
  let c1_i32_12 : BitVec 32 := 1#32
  let v31 : BitVec 32 := Scalar.select v30 c1_i32_12 c2_i32
  let v32 : BitVec 32 := Scalar.remsi v12 v31
  let c0_i32_14 : BitVec 32 := 0#32
  let v34 : BitVec 1 := Scalar.cmpi .slt v32 c0_i32_14
  let c0_i32_15 : BitVec 32 := 0#32
  let v35 : BitVec 1 := Scalar.cmpi .slt v31 c0_i32_15
  let v36 : BitVec 1 := Scalar.xori v34 v35
  let c0_i32_13 : BitVec 32 := 0#32
  let v33 : BitVec 1 := Scalar.cmpi .ne v32 c0_i32_13
  let v37 : BitVec 1 := Scalar.andi v36 v33
  let v38 : BitVec 32 := Scalar.addi v32 v31
  let v39 : BitVec 32 := Scalar.select v37 v38 v32
  let c0_i32_16 : BitVec 32 := 0#32
  let v40 : BitVec 1 := Scalar.cmpi .eq v39 c0_i32_16
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c4_i32_4 : BitVec 32 := 4#32
  let c0_i32_7 : BitVec 32 := 0#32
  let v19 : BitVec 1 := Scalar.cmpi .sgt c4_i32_4 c0_i32_7
  let v20 : BitVec 32 := Scalar.extui v19
  let c0_i32_8 : BitVec 32 := 0#32
  let v21 : BitVec 1 := Scalar.cmpi .slt c4_i32_4 c0_i32_8
  let v22 : BitVec 32 := Scalar.extui v21
  let v23 : BitVec 32 := Scalar.subi v20 v22
  let v24 : BitVec 1 := Scalar.cmpi .ne v18 v23
  let v25 : BitVec 32 := Scalar.remsi v2 c4_i32_4
  let c0_i32_9 : BitVec 32 := 0#32
  let v26 : BitVec 1 := Scalar.cmpi .ne v25 c0_i32_9
  let v27 : BitVec 1 := Scalar.andi v24 v26
  let v13 : BitVec 32 := Scalar.divsi v2 c4_i32_4
  let c1_i32_10 : BitVec 32 := 1#32
  let v28 : BitVec 32 := Scalar.subi v13 c1_i32_10
  let v29 : BitVec 32 := Scalar.select v27 v28 v13
  let c3_i32 : BitVec 32 := 3#32
  let v41 : BitVec 32 := Scalar.subi c3_i32 v29
  let v42 : BitVec 32 := Scalar.select v40 v29 v41
  let v44 : BitVec 32 := Scalar.addi v43 v42
  let c1_i32_18 : BitVec 32 := 1#32
  let v45 : BitVec 32 := Scalar.addi v44 c1_i32_18
  let c16_i32_19 : BitVec 32 := 16#32
  let c0_i32_20 : BitVec 32 := 0#32
  let v46 : BitVec 1 := Scalar.cmpi .eq c16_i32_19 c0_i32_20
  let c1_i32_21 : BitVec 32 := 1#32
  let v47 : BitVec 32 := Scalar.select v46 c1_i32_21 c16_i32_19
  let v48 : BitVec 32 := Scalar.remsi v45 v47
  let c0_i32_23 : BitVec 32 := 0#32
  let v50 : BitVec 1 := Scalar.cmpi .slt v48 c0_i32_23
  let c0_i32_24 : BitVec 32 := 0#32
  let v51 : BitVec 1 := Scalar.cmpi .slt v47 c0_i32_24
  let v52 : BitVec 1 := Scalar.xori v50 v51
  let c0_i32_22 : BitVec 32 := 0#32
  let v49 : BitVec 1 := Scalar.cmpi .ne v48 c0_i32_22
  let v53 : BitVec 1 := Scalar.andi v52 v49
  let v54 : BitVec 32 := Scalar.addi v48 v47
  let v55 : BitVec 32 := Scalar.select v53 v54 v48
  let c0_i32_26 : BitVec 32 := 0#32
  let v57 : BitVec 1 := Scalar.cmpi .sgt v55 c0_i32_26
  let v58 : BitVec 32 := Scalar.extui v57
  let c0_i32_27 : BitVec 32 := 0#32
  let v59 : BitVec 1 := Scalar.cmpi .slt v55 c0_i32_27
  let v60 : BitVec 32 := Scalar.extui v59
  let v61 : BitVec 32 := Scalar.subi v58 v60
  let c4_i32_25 : BitVec 32 := 4#32
  let c0_i32_28 : BitVec 32 := 0#32
  let v62 : BitVec 1 := Scalar.cmpi .sgt c4_i32_25 c0_i32_28
  let v63 : BitVec 32 := Scalar.extui v62
  let c0_i32_29 : BitVec 32 := 0#32
  let v64 : BitVec 1 := Scalar.cmpi .slt c4_i32_25 c0_i32_29
  let v65 : BitVec 32 := Scalar.extui v64
  let v66 : BitVec 32 := Scalar.subi v63 v65
  let v67 : BitVec 1 := Scalar.cmpi .ne v61 v66
  let v68 : BitVec 32 := Scalar.remsi v55 c4_i32_25
  let c0_i32_30 : BitVec 32 := 0#32
  let v69 : BitVec 1 := Scalar.cmpi .ne v68 c0_i32_30
  let v70 : BitVec 1 := Scalar.andi v67 v69
  let v56 : BitVec 32 := Scalar.divsi v55 c4_i32_25
  let c1_i32_31 : BitVec 32 := 1#32
  let v71 : BitVec 32 := Scalar.subi v56 c1_i32_31
  let v72 : BitVec 32 := Scalar.select v70 v71 v56
  let c2_i32_38 : BitVec 32 := 2#32
  let c0_i32_39 : BitVec 32 := 0#32
  let v83 : BitVec 1 := Scalar.cmpi .eq c2_i32_38 c0_i32_39
  let c1_i32_40 : BitVec 32 := 1#32
  let v84 : BitVec 32 := Scalar.select v83 c1_i32_40 c2_i32_38
  let v85 : BitVec 32 := Scalar.remsi v72 v84
  let c0_i32_42 : BitVec 32 := 0#32
  let v87 : BitVec 1 := Scalar.cmpi .slt v85 c0_i32_42
  let c0_i32_43 : BitVec 32 := 0#32
  let v88 : BitVec 1 := Scalar.cmpi .slt v84 c0_i32_43
  let v89 : BitVec 1 := Scalar.xori v87 v88
  let c0_i32_41 : BitVec 32 := 0#32
  let v86 : BitVec 1 := Scalar.cmpi .ne v85 c0_i32_41
  let v90 : BitVec 1 := Scalar.andi v89 v86
  let v91 : BitVec 32 := Scalar.addi v85 v84
  let v92 : BitVec 32 := Scalar.select v90 v91 v85
  let c0_i32_44 : BitVec 32 := 0#32
  let v93 : BitVec 1 := Scalar.cmpi .eq v92 c0_i32_44
  let c4_i32_32 : BitVec 32 := 4#32
  let c0_i32_33 : BitVec 32 := 0#32
  let v73 : BitVec 1 := Scalar.cmpi .eq c4_i32_32 c0_i32_33
  let c1_i32_34 : BitVec 32 := 1#32
  let v74 : BitVec 32 := Scalar.select v73 c1_i32_34 c4_i32_32
  let v75 : BitVec 32 := Scalar.remsi v55 v74
  let c0_i32_36 : BitVec 32 := 0#32
  let v77 : BitVec 1 := Scalar.cmpi .slt v75 c0_i32_36
  let c0_i32_37 : BitVec 32 := 0#32
  let v78 : BitVec 1 := Scalar.cmpi .slt v74 c0_i32_37
  let v79 : BitVec 1 := Scalar.xori v77 v78
  let c0_i32_35 : BitVec 32 := 0#32
  let v76 : BitVec 1 := Scalar.cmpi .ne v75 c0_i32_35
  let v80 : BitVec 1 := Scalar.andi v79 v76
  let v81 : BitVec 32 := Scalar.addi v75 v74
  let v82 : BitVec 32 := Scalar.select v80 v81 v75
  let c3_i32_45 : BitVec 32 := 3#32
  let v94 : BitVec 32 := Scalar.subi c3_i32_45 v82
  let v95 : BitVec 32 := Scalar.select v93 v82 v94
  let v96 : BitVec 32 := Scalar.muli c4_i32_46 v95
  let v97 : BitVec 32 := Scalar.addi v96 v72
  let c1_i32_2853 : BitVec 32 := 1#32
  let v3845 : BitVec 32 := Scalar.muli v97 c1_i32_2853
  let v3846 : BitVec 32 := Scalar.addi c0_i32_2854 v3845
  v3846.toNat
def k0_dev77 (d0 : Dev nD) : Nat :=
  let c0_i32_2868 : BitVec 32 := 0#32
  let c4_i32_46 : BitVec 32 := 4#32
  let c4_i32_17 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let v43 : BitVec 32 := Scalar.muli c4_i32_17 v12
  let c2_i32 : BitVec 32 := 2#32
  let c0_i32_11 : BitVec 32 := 0#32
  let v30 : BitVec 1 := Scalar.cmpi .eq c2_i32 c0_i32_11
  let c1_i32_12 : BitVec 32 := 1#32
  let v31 : BitVec 32 := Scalar.select v30 c1_i32_12 c2_i32
  let v32 : BitVec 32 := Scalar.remsi v12 v31
  let c0_i32_14 : BitVec 32 := 0#32
  let v34 : BitVec 1 := Scalar.cmpi .slt v32 c0_i32_14
  let c0_i32_15 : BitVec 32 := 0#32
  let v35 : BitVec 1 := Scalar.cmpi .slt v31 c0_i32_15
  let v36 : BitVec 1 := Scalar.xori v34 v35
  let c0_i32_13 : BitVec 32 := 0#32
  let v33 : BitVec 1 := Scalar.cmpi .ne v32 c0_i32_13
  let v37 : BitVec 1 := Scalar.andi v36 v33
  let v38 : BitVec 32 := Scalar.addi v32 v31
  let v39 : BitVec 32 := Scalar.select v37 v38 v32
  let c0_i32_16 : BitVec 32 := 0#32
  let v40 : BitVec 1 := Scalar.cmpi .eq v39 c0_i32_16
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c4_i32_4 : BitVec 32 := 4#32
  let c0_i32_7 : BitVec 32 := 0#32
  let v19 : BitVec 1 := Scalar.cmpi .sgt c4_i32_4 c0_i32_7
  let v20 : BitVec 32 := Scalar.extui v19
  let c0_i32_8 : BitVec 32 := 0#32
  let v21 : BitVec 1 := Scalar.cmpi .slt c4_i32_4 c0_i32_8
  let v22 : BitVec 32 := Scalar.extui v21
  let v23 : BitVec 32 := Scalar.subi v20 v22
  let v24 : BitVec 1 := Scalar.cmpi .ne v18 v23
  let v25 : BitVec 32 := Scalar.remsi v2 c4_i32_4
  let c0_i32_9 : BitVec 32 := 0#32
  let v26 : BitVec 1 := Scalar.cmpi .ne v25 c0_i32_9
  let v27 : BitVec 1 := Scalar.andi v24 v26
  let v13 : BitVec 32 := Scalar.divsi v2 c4_i32_4
  let c1_i32_10 : BitVec 32 := 1#32
  let v28 : BitVec 32 := Scalar.subi v13 c1_i32_10
  let v29 : BitVec 32 := Scalar.select v27 v28 v13
  let c3_i32 : BitVec 32 := 3#32
  let v41 : BitVec 32 := Scalar.subi c3_i32 v29
  let v42 : BitVec 32 := Scalar.select v40 v29 v41
  let v44 : BitVec 32 := Scalar.addi v43 v42
  let c1_i32_18 : BitVec 32 := 1#32
  let v45 : BitVec 32 := Scalar.addi v44 c1_i32_18
  let c16_i32_19 : BitVec 32 := 16#32
  let c0_i32_20 : BitVec 32 := 0#32
  let v46 : BitVec 1 := Scalar.cmpi .eq c16_i32_19 c0_i32_20
  let c1_i32_21 : BitVec 32 := 1#32
  let v47 : BitVec 32 := Scalar.select v46 c1_i32_21 c16_i32_19
  let v48 : BitVec 32 := Scalar.remsi v45 v47
  let c0_i32_23 : BitVec 32 := 0#32
  let v50 : BitVec 1 := Scalar.cmpi .slt v48 c0_i32_23
  let c0_i32_24 : BitVec 32 := 0#32
  let v51 : BitVec 1 := Scalar.cmpi .slt v47 c0_i32_24
  let v52 : BitVec 1 := Scalar.xori v50 v51
  let c0_i32_22 : BitVec 32 := 0#32
  let v49 : BitVec 1 := Scalar.cmpi .ne v48 c0_i32_22
  let v53 : BitVec 1 := Scalar.andi v52 v49
  let v54 : BitVec 32 := Scalar.addi v48 v47
  let v55 : BitVec 32 := Scalar.select v53 v54 v48
  let c0_i32_26 : BitVec 32 := 0#32
  let v57 : BitVec 1 := Scalar.cmpi .sgt v55 c0_i32_26
  let v58 : BitVec 32 := Scalar.extui v57
  let c0_i32_27 : BitVec 32 := 0#32
  let v59 : BitVec 1 := Scalar.cmpi .slt v55 c0_i32_27
  let v60 : BitVec 32 := Scalar.extui v59
  let v61 : BitVec 32 := Scalar.subi v58 v60
  let c4_i32_25 : BitVec 32 := 4#32
  let c0_i32_28 : BitVec 32 := 0#32
  let v62 : BitVec 1 := Scalar.cmpi .sgt c4_i32_25 c0_i32_28
  let v63 : BitVec 32 := Scalar.extui v62
  let c0_i32_29 : BitVec 32 := 0#32
  let v64 : BitVec 1 := Scalar.cmpi .slt c4_i32_25 c0_i32_29
  let v65 : BitVec 32 := Scalar.extui v64
  let v66 : BitVec 32 := Scalar.subi v63 v65
  let v67 : BitVec 1 := Scalar.cmpi .ne v61 v66
  let v68 : BitVec 32 := Scalar.remsi v55 c4_i32_25
  let c0_i32_30 : BitVec 32 := 0#32
  let v69 : BitVec 1 := Scalar.cmpi .ne v68 c0_i32_30
  let v70 : BitVec 1 := Scalar.andi v67 v69
  let v56 : BitVec 32 := Scalar.divsi v55 c4_i32_25
  let c1_i32_31 : BitVec 32 := 1#32
  let v71 : BitVec 32 := Scalar.subi v56 c1_i32_31
  let v72 : BitVec 32 := Scalar.select v70 v71 v56
  let c2_i32_38 : BitVec 32 := 2#32
  let c0_i32_39 : BitVec 32 := 0#32
  let v83 : BitVec 1 := Scalar.cmpi .eq c2_i32_38 c0_i32_39
  let c1_i32_40 : BitVec 32 := 1#32
  let v84 : BitVec 32 := Scalar.select v83 c1_i32_40 c2_i32_38
  let v85 : BitVec 32 := Scalar.remsi v72 v84
  let c0_i32_42 : BitVec 32 := 0#32
  let v87 : BitVec 1 := Scalar.cmpi .slt v85 c0_i32_42
  let c0_i32_43 : BitVec 32 := 0#32
  let v88 : BitVec 1 := Scalar.cmpi .slt v84 c0_i32_43
  let v89 : BitVec 1 := Scalar.xori v87 v88
  let c0_i32_41 : BitVec 32 := 0#32
  let v86 : BitVec 1 := Scalar.cmpi .ne v85 c0_i32_41
  let v90 : BitVec 1 := Scalar.andi v89 v86
  let v91 : BitVec 32 := Scalar.addi v85 v84
  let v92 : BitVec 32 := Scalar.select v90 v91 v85
  let c0_i32_44 : BitVec 32 := 0#32
  let v93 : BitVec 1 := Scalar.cmpi .eq v92 c0_i32_44
  let c4_i32_32 : BitVec 32 := 4#32
  let c0_i32_33 : BitVec 32 := 0#32
  let v73 : BitVec 1 := Scalar.cmpi .eq c4_i32_32 c0_i32_33
  let c1_i32_34 : BitVec 32 := 1#32
  let v74 : BitVec 32 := Scalar.select v73 c1_i32_34 c4_i32_32
  let v75 : BitVec 32 := Scalar.remsi v55 v74
  let c0_i32_36 : BitVec 32 := 0#32
  let v77 : BitVec 1 := Scalar.cmpi .slt v75 c0_i32_36
  let c0_i32_37 : BitVec 32 := 0#32
  let v78 : BitVec 1 := Scalar.cmpi .slt v74 c0_i32_37
  let v79 : BitVec 1 := Scalar.xori v77 v78
  let c0_i32_35 : BitVec 32 := 0#32
  let v76 : BitVec 1 := Scalar.cmpi .ne v75 c0_i32_35
  let v80 : BitVec 1 := Scalar.andi v79 v76
  let v81 : BitVec 32 := Scalar.addi v75 v74
  let v82 : BitVec 32 := Scalar.select v80 v81 v75
  let c3_i32_45 : BitVec 32 := 3#32
  let v94 : BitVec 32 := Scalar.subi c3_i32_45 v82
  let v95 : BitVec 32 := Scalar.select v93 v82 v94
  let v96 : BitVec 32 := Scalar.muli c4_i32_46 v95
  let v97 : BitVec 32 := Scalar.addi v96 v72
  let c1_i32_2867 : BitVec 32 := 1#32
  let v3855 : BitVec 32 := Scalar.muli v97 c1_i32_2867
  let v3856 : BitVec 32 := Scalar.addi c0_i32_2868 v3855
  v3856.toNat
def k0_dev78 (d0 : Dev nD) : Nat :=
  let c0_i32_2880 : BitVec 32 := 0#32
  let c4_i32_75 : BitVec 32 := 4#32
  let c4_i32_17 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let v43 : BitVec 32 := Scalar.muli c4_i32_17 v12
  let c2_i32 : BitVec 32 := 2#32
  let c0_i32_11 : BitVec 32 := 0#32
  let v30 : BitVec 1 := Scalar.cmpi .eq c2_i32 c0_i32_11
  let c1_i32_12 : BitVec 32 := 1#32
  let v31 : BitVec 32 := Scalar.select v30 c1_i32_12 c2_i32
  let v32 : BitVec 32 := Scalar.remsi v12 v31
  let c0_i32_14 : BitVec 32 := 0#32
  let v34 : BitVec 1 := Scalar.cmpi .slt v32 c0_i32_14
  let c0_i32_15 : BitVec 32 := 0#32
  let v35 : BitVec 1 := Scalar.cmpi .slt v31 c0_i32_15
  let v36 : BitVec 1 := Scalar.xori v34 v35
  let c0_i32_13 : BitVec 32 := 0#32
  let v33 : BitVec 1 := Scalar.cmpi .ne v32 c0_i32_13
  let v37 : BitVec 1 := Scalar.andi v36 v33
  let v38 : BitVec 32 := Scalar.addi v32 v31
  let v39 : BitVec 32 := Scalar.select v37 v38 v32
  let c0_i32_16 : BitVec 32 := 0#32
  let v40 : BitVec 1 := Scalar.cmpi .eq v39 c0_i32_16
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c4_i32_4 : BitVec 32 := 4#32
  let c0_i32_7 : BitVec 32 := 0#32
  let v19 : BitVec 1 := Scalar.cmpi .sgt c4_i32_4 c0_i32_7
  let v20 : BitVec 32 := Scalar.extui v19
  let c0_i32_8 : BitVec 32 := 0#32
  let v21 : BitVec 1 := Scalar.cmpi .slt c4_i32_4 c0_i32_8
  let v22 : BitVec 32 := Scalar.extui v21
  let v23 : BitVec 32 := Scalar.subi v20 v22
  let v24 : BitVec 1 := Scalar.cmpi .ne v18 v23
  let v25 : BitVec 32 := Scalar.remsi v2 c4_i32_4
  let c0_i32_9 : BitVec 32 := 0#32
  let v26 : BitVec 1 := Scalar.cmpi .ne v25 c0_i32_9
  let v27 : BitVec 1 := Scalar.andi v24 v26
  let v13 : BitVec 32 := Scalar.divsi v2 c4_i32_4
  let c1_i32_10 : BitVec 32 := 1#32
  let v28 : BitVec 32 := Scalar.subi v13 c1_i32_10
  let v29 : BitVec 32 := Scalar.select v27 v28 v13
  let c3_i32 : BitVec 32 := 3#32
  let v41 : BitVec 32 := Scalar.subi c3_i32 v29
  let v42 : BitVec 32 := Scalar.select v40 v29 v41
  let v44 : BitVec 32 := Scalar.addi v43 v42
  let c1_i32_47 : BitVec 32 := 1#32
  let v98 : BitVec 32 := Scalar.subi v44 c1_i32_47
  let c16_i32_48 : BitVec 32 := 16#32
  let c0_i32_49 : BitVec 32 := 0#32
  let v99 : BitVec 1 := Scalar.cmpi .eq c16_i32_48 c0_i32_49
  let c1_i32_50 : BitVec 32 := 1#32
  let v100 : BitVec 32 := Scalar.select v99 c1_i32_50 c16_i32_48
  let v101 : BitVec 32 := Scalar.remsi v98 v100
  let c0_i32_52 : BitVec 32 := 0#32
  let v103 : BitVec 1 := Scalar.cmpi .slt v101 c0_i32_52
  let c0_i32_53 : BitVec 32 := 0#32
  let v104 : BitVec 1 := Scalar.cmpi .slt v100 c0_i32_53
  let v105 : BitVec 1 := Scalar.xori v103 v104
  let c0_i32_51 : BitVec 32 := 0#32
  let v102 : BitVec 1 := Scalar.cmpi .ne v101 c0_i32_51
  let v106 : BitVec 1 := Scalar.andi v105 v102
  let v107 : BitVec 32 := Scalar.addi v101 v100
  let v108 : BitVec 32 := Scalar.select v106 v107 v101
  let c0_i32_55 : BitVec 32 := 0#32
  let v110 : BitVec 1 := Scalar.cmpi .sgt v108 c0_i32_55
  let v111 : BitVec 32 := Scalar.extui v110
  let c0_i32_56 : BitVec 32 := 0#32
  let v112 : BitVec 1 := Scalar.cmpi .slt v108 c0_i32_56
  let v113 : BitVec 32 := Scalar.extui v112
  let v114 : BitVec 32 := Scalar.subi v111 v113
  let c4_i32_54 : BitVec 32 := 4#32
  let c0_i32_57 : BitVec 32 := 0#32
  let v115 : BitVec 1 := Scalar.cmpi .sgt c4_i32_54 c0_i32_57
  let v116 : BitVec 32 := Scalar.extui v115
  let c0_i32_58 : BitVec 32 := 0#32
  let v117 : BitVec 1 := Scalar.cmpi .slt c4_i32_54 c0_i32_58
  let v118 : BitVec 32 := Scalar.extui v117
  let v119 : BitVec 32 := Scalar.subi v116 v118
  let v120 : BitVec 1 := Scalar.cmpi .ne v114 v119
  let v121 : BitVec 32 := Scalar.remsi v108 c4_i32_54
  let c0_i32_59 : BitVec 32 := 0#32
  let v122 : BitVec 1 := Scalar.cmpi .ne v121 c0_i32_59
  let v123 : BitVec 1 := Scalar.andi v120 v122
  let v109 : BitVec 32 := Scalar.divsi v108 c4_i32_54
  let c1_i32_60 : BitVec 32 := 1#32
  let v124 : BitVec 32 := Scalar.subi v109 c1_i32_60
  let v125 : BitVec 32 := Scalar.select v123 v124 v109
  let c2_i32_67 : BitVec 32 := 2#32
  let c0_i32_68 : BitVec 32 := 0#32
  let v136 : BitVec 1 := Scalar.cmpi .eq c2_i32_67 c0_i32_68
  let c1_i32_69 : BitVec 32 := 1#32
  let v137 : BitVec 32 := Scalar.select v136 c1_i32_69 c2_i32_67
  let v138 : BitVec 32 := Scalar.remsi v125 v137
  let c0_i32_71 : BitVec 32 := 0#32
  let v140 : BitVec 1 := Scalar.cmpi .slt v138 c0_i32_71
  let c0_i32_72 : BitVec 32 := 0#32
  let v141 : BitVec 1 := Scalar.cmpi .slt v137 c0_i32_72
  let v142 : BitVec 1 := Scalar.xori v140 v141
  let c0_i32_70 : BitVec 32 := 0#32
  let v139 : BitVec 1 := Scalar.cmpi .ne v138 c0_i32_70
  let v143 : BitVec 1 := Scalar.andi v142 v139
  let v144 : BitVec 32 := Scalar.addi v138 v137
  let v145 : BitVec 32 := Scalar.select v143 v144 v138
  let c0_i32_73 : BitVec 32 := 0#32
  let v146 : BitVec 1 := Scalar.cmpi .eq v145 c0_i32_73
  let c4_i32_61 : BitVec 32 := 4#32
  let c0_i32_62 : BitVec 32 := 0#32
  let v126 : BitVec 1 := Scalar.cmpi .eq c4_i32_61 c0_i32_62
  let c1_i32_63 : BitVec 32 := 1#32
  let v127 : BitVec 32 := Scalar.select v126 c1_i32_63 c4_i32_61
  let v128 : BitVec 32 := Scalar.remsi v108 v127
  let c0_i32_65 : BitVec 32 := 0#32
  let v130 : BitVec 1 := Scalar.cmpi .slt v128 c0_i32_65
  let c0_i32_66 : BitVec 32 := 0#32
  let v131 : BitVec 1 := Scalar.cmpi .slt v127 c0_i32_66
  let v132 : BitVec 1 := Scalar.xori v130 v131
  let c0_i32_64 : BitVec 32 := 0#32
  let v129 : BitVec 1 := Scalar.cmpi .ne v128 c0_i32_64
  let v133 : BitVec 1 := Scalar.andi v132 v129
  let v134 : BitVec 32 := Scalar.addi v128 v127
  let v135 : BitVec 32 := Scalar.select v133 v134 v128
  let c3_i32_74 : BitVec 32 := 3#32
  let v147 : BitVec 32 := Scalar.subi c3_i32_74 v135
  let v148 : BitVec 32 := Scalar.select v146 v135 v147
  let v149 : BitVec 32 := Scalar.muli c4_i32_75 v148
  let v150 : BitVec 32 := Scalar.addi v149 v125
  let c1_i32_2879 : BitVec 32 := 1#32
  let v3865 : BitVec 32 := Scalar.muli v150 c1_i32_2879
  let v3866 : BitVec 32 := Scalar.addi c0_i32_2880 v3865
  v3866.toNat
def k0_dev79 (d0 : Dev nD) : Nat :=
  let c0_i32_3037 : BitVec 32 := 0#32
  let c4_i32_75 : BitVec 32 := 4#32
  let c4_i32_17 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let v43 : BitVec 32 := Scalar.muli c4_i32_17 v12
  let c2_i32 : BitVec 32 := 2#32
  let c0_i32_11 : BitVec 32 := 0#32
  let v30 : BitVec 1 := Scalar.cmpi .eq c2_i32 c0_i32_11
  let c1_i32_12 : BitVec 32 := 1#32
  let v31 : BitVec 32 := Scalar.select v30 c1_i32_12 c2_i32
  let v32 : BitVec 32 := Scalar.remsi v12 v31
  let c0_i32_14 : BitVec 32 := 0#32
  let v34 : BitVec 1 := Scalar.cmpi .slt v32 c0_i32_14
  let c0_i32_15 : BitVec 32 := 0#32
  let v35 : BitVec 1 := Scalar.cmpi .slt v31 c0_i32_15
  let v36 : BitVec 1 := Scalar.xori v34 v35
  let c0_i32_13 : BitVec 32 := 0#32
  let v33 : BitVec 1 := Scalar.cmpi .ne v32 c0_i32_13
  let v37 : BitVec 1 := Scalar.andi v36 v33
  let v38 : BitVec 32 := Scalar.addi v32 v31
  let v39 : BitVec 32 := Scalar.select v37 v38 v32
  let c0_i32_16 : BitVec 32 := 0#32
  let v40 : BitVec 1 := Scalar.cmpi .eq v39 c0_i32_16
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c4_i32_4 : BitVec 32 := 4#32
  let c0_i32_7 : BitVec 32 := 0#32
  let v19 : BitVec 1 := Scalar.cmpi .sgt c4_i32_4 c0_i32_7
  let v20 : BitVec 32 := Scalar.extui v19
  let c0_i32_8 : BitVec 32 := 0#32
  let v21 : BitVec 1 := Scalar.cmpi .slt c4_i32_4 c0_i32_8
  let v22 : BitVec 32 := Scalar.extui v21
  let v23 : BitVec 32 := Scalar.subi v20 v22
  let v24 : BitVec 1 := Scalar.cmpi .ne v18 v23
  let v25 : BitVec 32 := Scalar.remsi v2 c4_i32_4
  let c0_i32_9 : BitVec 32 := 0#32
  let v26 : BitVec 1 := Scalar.cmpi .ne v25 c0_i32_9
  let v27 : BitVec 1 := Scalar.andi v24 v26
  let v13 : BitVec 32 := Scalar.divsi v2 c4_i32_4
  let c1_i32_10 : BitVec 32 := 1#32
  let v28 : BitVec 32 := Scalar.subi v13 c1_i32_10
  let v29 : BitVec 32 := Scalar.select v27 v28 v13
  let c3_i32 : BitVec 32 := 3#32
  let v41 : BitVec 32 := Scalar.subi c3_i32 v29
  let v42 : BitVec 32 := Scalar.select v40 v29 v41
  let v44 : BitVec 32 := Scalar.addi v43 v42
  let c1_i32_47 : BitVec 32 := 1#32
  let v98 : BitVec 32 := Scalar.subi v44 c1_i32_47
  let c16_i32_48 : BitVec 32 := 16#32
  let c0_i32_49 : BitVec 32 := 0#32
  let v99 : BitVec 1 := Scalar.cmpi .eq c16_i32_48 c0_i32_49
  let c1_i32_50 : BitVec 32 := 1#32
  let v100 : BitVec 32 := Scalar.select v99 c1_i32_50 c16_i32_48
  let v101 : BitVec 32 := Scalar.remsi v98 v100
  let c0_i32_52 : BitVec 32 := 0#32
  let v103 : BitVec 1 := Scalar.cmpi .slt v101 c0_i32_52
  let c0_i32_53 : BitVec 32 := 0#32
  let v104 : BitVec 1 := Scalar.cmpi .slt v100 c0_i32_53
  let v105 : BitVec 1 := Scalar.xori v103 v104
  let c0_i32_51 : BitVec 32 := 0#32
  let v102 : BitVec 1 := Scalar.cmpi .ne v101 c0_i32_51
  let v106 : BitVec 1 := Scalar.andi v105 v102
  let v107 : BitVec 32 := Scalar.addi v101 v100
  let v108 : BitVec 32 := Scalar.select v106 v107 v101
  let c0_i32_55 : BitVec 32 := 0#32
  let v110 : BitVec 1 := Scalar.cmpi .sgt v108 c0_i32_55
  let v111 : BitVec 32 := Scalar.extui v110
  let c0_i32_56 : BitVec 32 := 0#32
  let v112 : BitVec 1 := Scalar.cmpi .slt v108 c0_i32_56
  let v113 : BitVec 32 := Scalar.extui v112
  let v114 : BitVec 32 := Scalar.subi v111 v113
  let c4_i32_54 : BitVec 32 := 4#32
  let c0_i32_57 : BitVec 32 := 0#32
  let v115 : BitVec 1 := Scalar.cmpi .sgt c4_i32_54 c0_i32_57
  let v116 : BitVec 32 := Scalar.extui v115
  let c0_i32_58 : BitVec 32 := 0#32
  let v117 : BitVec 1 := Scalar.cmpi .slt c4_i32_54 c0_i32_58
  let v118 : BitVec 32 := Scalar.extui v117
  let v119 : BitVec 32 := Scalar.subi v116 v118
  let v120 : BitVec 1 := Scalar.cmpi .ne v114 v119
  let v121 : BitVec 32 := Scalar.remsi v108 c4_i32_54
  let c0_i32_59 : BitVec 32 := 0#32
  let v122 : BitVec 1 := Scalar.cmpi .ne v121 c0_i32_59
  let v123 : BitVec 1 := Scalar.andi v120 v122
  let v109 : BitVec 32 := Scalar.divsi v108 c4_i32_54
  let c1_i32_60 : BitVec 32 := 1#32
  let v124 : BitVec 32 := Scalar.subi v109 c1_i32_60
  let v125 : BitVec 32 := Scalar.select v123 v124 v109
  let c2_i32_67 : BitVec 32 := 2#32
  let c0_i32_68 : BitVec 32 := 0#32
  let v136 : BitVec 1 := Scalar.cmpi .eq c2_i32_67 c0_i32_68
  let c1_i32_69 : BitVec 32 := 1#32
  let v137 : BitVec 32 := Scalar.select v136 c1_i32_69 c2_i32_67
  let v138 : BitVec 32 := Scalar.remsi v125 v137
  let c0_i32_71 : BitVec 32 := 0#32
  let v140 : BitVec 1 := Scalar.cmpi .slt v138 c0_i32_71
  let c0_i32_72 : BitVec 32 := 0#32
  let v141 : BitVec 1 := Scalar.cmpi .slt v137 c0_i32_72
  let v142 : BitVec 1 := Scalar.xori v140 v141
  let c0_i32_70 : BitVec 32 := 0#32
  let v139 : BitVec 1 := Scalar.cmpi .ne v138 c0_i32_70
  let v143 : BitVec 1 := Scalar.andi v142 v139
  let v144 : BitVec 32 := Scalar.addi v138 v137
  let v145 : BitVec 32 := Scalar.select v143 v144 v138
  let c0_i32_73 : BitVec 32 := 0#32
  let v146 : BitVec 1 := Scalar.cmpi .eq v145 c0_i32_73
  let c4_i32_61 : BitVec 32 := 4#32
  let c0_i32_62 : BitVec 32 := 0#32
  let v126 : BitVec 1 := Scalar.cmpi .eq c4_i32_61 c0_i32_62
  let c1_i32_63 : BitVec 32 := 1#32
  let v127 : BitVec 32 := Scalar.select v126 c1_i32_63 c4_i32_61
  let v128 : BitVec 32 := Scalar.remsi v108 v127
  let c0_i32_65 : BitVec 32 := 0#32
  let v130 : BitVec 1 := Scalar.cmpi .slt v128 c0_i32_65
  let c0_i32_66 : BitVec 32 := 0#32
  let v131 : BitVec 1 := Scalar.cmpi .slt v127 c0_i32_66
  let v132 : BitVec 1 := Scalar.xori v130 v131
  let c0_i32_64 : BitVec 32 := 0#32
  let v129 : BitVec 1 := Scalar.cmpi .ne v128 c0_i32_64
  let v133 : BitVec 1 := Scalar.andi v132 v129
  let v134 : BitVec 32 := Scalar.addi v128 v127
  let v135 : BitVec 32 := Scalar.select v133 v134 v128
  let c3_i32_74 : BitVec 32 := 3#32
  let v147 : BitVec 32 := Scalar.subi c3_i32_74 v135
  let v148 : BitVec 32 := Scalar.select v146 v135 v147
  let v149 : BitVec 32 := Scalar.muli c4_i32_75 v148
  let v150 : BitVec 32 := Scalar.addi v149 v125
  let c1_i32_3036 : BitVec 32 := 1#32
  let v4133 : BitVec 32 := Scalar.muli v150 c1_i32_3036
  let v4134 : BitVec 32 := Scalar.addi c0_i32_3037 v4133
  v4134.toNat
def k0_dev80 (d0 : Dev nD) : Nat :=
  let c0_i32_3065 : BitVec 32 := 0#32
  let c4_i32_46 : BitVec 32 := 4#32
  let c4_i32_17 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let v43 : BitVec 32 := Scalar.muli c4_i32_17 v12
  let c2_i32 : BitVec 32 := 2#32
  let c0_i32_11 : BitVec 32 := 0#32
  let v30 : BitVec 1 := Scalar.cmpi .eq c2_i32 c0_i32_11
  let c1_i32_12 : BitVec 32 := 1#32
  let v31 : BitVec 32 := Scalar.select v30 c1_i32_12 c2_i32
  let v32 : BitVec 32 := Scalar.remsi v12 v31
  let c0_i32_14 : BitVec 32 := 0#32
  let v34 : BitVec 1 := Scalar.cmpi .slt v32 c0_i32_14
  let c0_i32_15 : BitVec 32 := 0#32
  let v35 : BitVec 1 := Scalar.cmpi .slt v31 c0_i32_15
  let v36 : BitVec 1 := Scalar.xori v34 v35
  let c0_i32_13 : BitVec 32 := 0#32
  let v33 : BitVec 1 := Scalar.cmpi .ne v32 c0_i32_13
  let v37 : BitVec 1 := Scalar.andi v36 v33
  let v38 : BitVec 32 := Scalar.addi v32 v31
  let v39 : BitVec 32 := Scalar.select v37 v38 v32
  let c0_i32_16 : BitVec 32 := 0#32
  let v40 : BitVec 1 := Scalar.cmpi .eq v39 c0_i32_16
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c4_i32_4 : BitVec 32 := 4#32
  let c0_i32_7 : BitVec 32 := 0#32
  let v19 : BitVec 1 := Scalar.cmpi .sgt c4_i32_4 c0_i32_7
  let v20 : BitVec 32 := Scalar.extui v19
  let c0_i32_8 : BitVec 32 := 0#32
  let v21 : BitVec 1 := Scalar.cmpi .slt c4_i32_4 c0_i32_8
  let v22 : BitVec 32 := Scalar.extui v21
  let v23 : BitVec 32 := Scalar.subi v20 v22
  let v24 : BitVec 1 := Scalar.cmpi .ne v18 v23
  let v25 : BitVec 32 := Scalar.remsi v2 c4_i32_4
  let c0_i32_9 : BitVec 32 := 0#32
  let v26 : BitVec 1 := Scalar.cmpi .ne v25 c0_i32_9
  let v27 : BitVec 1 := Scalar.andi v24 v26
  let v13 : BitVec 32 := Scalar.divsi v2 c4_i32_4
  let c1_i32_10 : BitVec 32 := 1#32
  let v28 : BitVec 32 := Scalar.subi v13 c1_i32_10
  let v29 : BitVec 32 := Scalar.select v27 v28 v13
  let c3_i32 : BitVec 32 := 3#32
  let v41 : BitVec 32 := Scalar.subi c3_i32 v29
  let v42 : BitVec 32 := Scalar.select v40 v29 v41
  let v44 : BitVec 32 := Scalar.addi v43 v42
  let c1_i32_18 : BitVec 32 := 1#32
  let v45 : BitVec 32 := Scalar.addi v44 c1_i32_18
  let c16_i32_19 : BitVec 32 := 16#32
  let c0_i32_20 : BitVec 32 := 0#32
  let v46 : BitVec 1 := Scalar.cmpi .eq c16_i32_19 c0_i32_20
  let c1_i32_21 : BitVec 32 := 1#32
  let v47 : BitVec 32 := Scalar.select v46 c1_i32_21 c16_i32_19
  let v48 : BitVec 32 := Scalar.remsi v45 v47
  let c0_i32_23 : BitVec 32 := 0#32
  let v50 : BitVec 1 := Scalar.cmpi .slt v48 c0_i32_23
  let c0_i32_24 : BitVec 32 := 0#32
  let v51 : BitVec 1 := Scalar.cmpi .slt v47 c0_i32_24
  let v52 : BitVec 1 := Scalar.xori v50 v51
  let c0_i32_22 : BitVec 32 := 0#32
  let v49 : BitVec 1 := Scalar.cmpi .ne v48 c0_i32_22
  let v53 : BitVec 1 := Scalar.andi v52 v49
  let v54 : BitVec 32 := Scalar.addi v48 v47
  let v55 : BitVec 32 := Scalar.select v53 v54 v48
  let c0_i32_26 : BitVec 32 := 0#32
  let v57 : BitVec 1 := Scalar.cmpi .sgt v55 c0_i32_26
  let v58 : BitVec 32 := Scalar.extui v57
  let c0_i32_27 : BitVec 32 := 0#32
  let v59 : BitVec 1 := Scalar.cmpi .slt v55 c0_i32_27
  let v60 : BitVec 32 := Scalar.extui v59
  let v61 : BitVec 32 := Scalar.subi v58 v60
  let c4_i32_25 : BitVec 32 := 4#32
  let c0_i32_28 : BitVec 32 := 0#32
  let v62 : BitVec 1 := Scalar.cmpi .sgt c4_i32_25 c0_i32_28
  let v63 : BitVec 32 := Scalar.extui v62
  let c0_i32_29 : BitVec 32 := 0#32
  let v64 : BitVec 1 := Scalar.cmpi .slt c4_i32_25 c0_i32_29
  let v65 : BitVec 32 := Scalar.extui v64
  let v66 : BitVec 32 := Scalar.subi v63 v65
  let v67 : BitVec 1 := Scalar.cmpi .ne v61 v66
  let v68 : BitVec 32 := Scalar.remsi v55 c4_i32_25
  let c0_i32_30 : BitVec 32 := 0#32
  let v69 : BitVec 1 := Scalar.cmpi .ne v68 c0_i32_30
  let v70 : BitVec 1 := Scalar.andi v67 v69
  let v56 : BitVec 32 := Scalar.divsi v55 c4_i32_25
  let c1_i32_31 : BitVec 32 := 1#32
  let v71 : BitVec 32 := Scalar.subi v56 c1_i32_31
  let v72 : BitVec 32 := Scalar.select v70 v71 v56
  let c2_i32_38 : BitVec 32 := 2#32
  let c0_i32_39 : BitVec 32 := 0#32
  let v83 : BitVec 1 := Scalar.cmpi .eq c2_i32_38 c0_i32_39
  let c1_i32_40 : BitVec 32 := 1#32
  let v84 : BitVec 32 := Scalar.select v83 c1_i32_40 c2_i32_38
  let v85 : BitVec 32 := Scalar.remsi v72 v84
  let c0_i32_42 : BitVec 32 := 0#32
  let v87 : BitVec 1 := Scalar.cmpi .slt v85 c0_i32_42
  let c0_i32_43 : BitVec 32 := 0#32
  let v88 : BitVec 1 := Scalar.cmpi .slt v84 c0_i32_43
  let v89 : BitVec 1 := Scalar.xori v87 v88
  let c0_i32_41 : BitVec 32 := 0#32
  let v86 : BitVec 1 := Scalar.cmpi .ne v85 c0_i32_41
  let v90 : BitVec 1 := Scalar.andi v89 v86
  let v91 : BitVec 32 := Scalar.addi v85 v84
  let v92 : BitVec 32 := Scalar.select v90 v91 v85
  let c0_i32_44 : BitVec 32 := 0#32
  let v93 : BitVec 1 := Scalar.cmpi .eq v92 c0_i32_44
  let c4_i32_32 : BitVec 32 := 4#32
  let c0_i32_33 : BitVec 32 := 0#32
  let v73 : BitVec 1 := Scalar.cmpi .eq c4_i32_32 c0_i32_33
  let c1_i32_34 : BitVec 32 := 1#32
  let v74 : BitVec 32 := Scalar.select v73 c1_i32_34 c4_i32_32
  let v75 : BitVec 32 := Scalar.remsi v55 v74
  let c0_i32_36 : BitVec 32 := 0#32
  let v77 : BitVec 1 := Scalar.cmpi .slt v75 c0_i32_36
  let c0_i32_37 : BitVec 32 := 0#32
  let v78 : BitVec 1 := Scalar.cmpi .slt v74 c0_i32_37
  let v79 : BitVec 1 := Scalar.xori v77 v78
  let c0_i32_35 : BitVec 32 := 0#32
  let v76 : BitVec 1 := Scalar.cmpi .ne v75 c0_i32_35
  let v80 : BitVec 1 := Scalar.andi v79 v76
  let v81 : BitVec 32 := Scalar.addi v75 v74
  let v82 : BitVec 32 := Scalar.select v80 v81 v75
  let c3_i32_45 : BitVec 32 := 3#32
  let v94 : BitVec 32 := Scalar.subi c3_i32_45 v82
  let v95 : BitVec 32 := Scalar.select v93 v82 v94
  let v96 : BitVec 32 := Scalar.muli c4_i32_46 v95
  let v97 : BitVec 32 := Scalar.addi v96 v72
  let c1_i32_3064 : BitVec 32 := 1#32
  let v4157 : BitVec 32 := Scalar.muli v97 c1_i32_3064
  let v4158 : BitVec 32 := Scalar.addi c0_i32_3065 v4157
  v4158.toNat
def k0_dev81 (d0 : Dev nD) : Nat :=
  let c0_i32_3079 : BitVec 32 := 0#32
  let c4_i32_46 : BitVec 32 := 4#32
  let c4_i32_17 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let v43 : BitVec 32 := Scalar.muli c4_i32_17 v12
  let c2_i32 : BitVec 32 := 2#32
  let c0_i32_11 : BitVec 32 := 0#32
  let v30 : BitVec 1 := Scalar.cmpi .eq c2_i32 c0_i32_11
  let c1_i32_12 : BitVec 32 := 1#32
  let v31 : BitVec 32 := Scalar.select v30 c1_i32_12 c2_i32
  let v32 : BitVec 32 := Scalar.remsi v12 v31
  let c0_i32_14 : BitVec 32 := 0#32
  let v34 : BitVec 1 := Scalar.cmpi .slt v32 c0_i32_14
  let c0_i32_15 : BitVec 32 := 0#32
  let v35 : BitVec 1 := Scalar.cmpi .slt v31 c0_i32_15
  let v36 : BitVec 1 := Scalar.xori v34 v35
  let c0_i32_13 : BitVec 32 := 0#32
  let v33 : BitVec 1 := Scalar.cmpi .ne v32 c0_i32_13
  let v37 : BitVec 1 := Scalar.andi v36 v33
  let v38 : BitVec 32 := Scalar.addi v32 v31
  let v39 : BitVec 32 := Scalar.select v37 v38 v32
  let c0_i32_16 : BitVec 32 := 0#32
  let v40 : BitVec 1 := Scalar.cmpi .eq v39 c0_i32_16
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c4_i32_4 : BitVec 32 := 4#32
  let c0_i32_7 : BitVec 32 := 0#32
  let v19 : BitVec 1 := Scalar.cmpi .sgt c4_i32_4 c0_i32_7
  let v20 : BitVec 32 := Scalar.extui v19
  let c0_i32_8 : BitVec 32 := 0#32
  let v21 : BitVec 1 := Scalar.cmpi .slt c4_i32_4 c0_i32_8
  let v22 : BitVec 32 := Scalar.extui v21
  let v23 : BitVec 32 := Scalar.subi v20 v22
  let v24 : BitVec 1 := Scalar.cmpi .ne v18 v23
  let v25 : BitVec 32 := Scalar.remsi v2 c4_i32_4
  let c0_i32_9 : BitVec 32 := 0#32
  let v26 : BitVec 1 := Scalar.cmpi .ne v25 c0_i32_9
  let v27 : BitVec 1 := Scalar.andi v24 v26
  let v13 : BitVec 32 := Scalar.divsi v2 c4_i32_4
  let c1_i32_10 : BitVec 32 := 1#32
  let v28 : BitVec 32 := Scalar.subi v13 c1_i32_10
  let v29 : BitVec 32 := Scalar.select v27 v28 v13
  let c3_i32 : BitVec 32 := 3#32
  let v41 : BitVec 32 := Scalar.subi c3_i32 v29
  let v42 : BitVec 32 := Scalar.select v40 v29 v41
  let v44 : BitVec 32 := Scalar.addi v43 v42
  let c1_i32_18 : BitVec 32 := 1#32
  let v45 : BitVec 32 := Scalar.addi v44 c1_i32_18
  let c16_i32_19 : BitVec 32 := 16#32
  let c0_i32_20 : BitVec 32 := 0#32
  let v46 : BitVec 1 := Scalar.cmpi .eq c16_i32_19 c0_i32_20
  let c1_i32_21 : BitVec 32 := 1#32
  let v47 : BitVec 32 := Scalar.select v46 c1_i32_21 c16_i32_19
  let v48 : BitVec 32 := Scalar.remsi v45 v47
  let c0_i32_23 : BitVec 32 := 0#32
  let v50 : BitVec 1 := Scalar.cmpi .slt v48 c0_i32_23
  let c0_i32_24 : BitVec 32 := 0#32
  let v51 : BitVec 1 := Scalar.cmpi .slt v47 c0_i32_24
  let v52 : BitVec 1 := Scalar.xori v50 v51
  let c0_i32_22 : BitVec 32 := 0#32
  let v49 : BitVec 1 := Scalar.cmpi .ne v48 c0_i32_22
  let v53 : BitVec 1 := Scalar.andi v52 v49
  let v54 : BitVec 32 := Scalar.addi v48 v47
  let v55 : BitVec 32 := Scalar.select v53 v54 v48
  let c0_i32_26 : BitVec 32 := 0#32
  let v57 : BitVec 1 := Scalar.cmpi .sgt v55 c0_i32_26
  let v58 : BitVec 32 := Scalar.extui v57
  let c0_i32_27 : BitVec 32 := 0#32
  let v59 : BitVec 1 := Scalar.cmpi .slt v55 c0_i32_27
  let v60 : BitVec 32 := Scalar.extui v59
  let v61 : BitVec 32 := Scalar.subi v58 v60
  let c4_i32_25 : BitVec 32 := 4#32
  let c0_i32_28 : BitVec 32 := 0#32
  let v62 : BitVec 1 := Scalar.cmpi .sgt c4_i32_25 c0_i32_28
  let v63 : BitVec 32 := Scalar.extui v62
  let c0_i32_29 : BitVec 32 := 0#32
  let v64 : BitVec 1 := Scalar.cmpi .slt c4_i32_25 c0_i32_29
  let v65 : BitVec 32 := Scalar.extui v64
  let v66 : BitVec 32 := Scalar.subi v63 v65
  let v67 : BitVec 1 := Scalar.cmpi .ne v61 v66
  let v68 : BitVec 32 := Scalar.remsi v55 c4_i32_25
  let c0_i32_30 : BitVec 32 := 0#32
  let v69 : BitVec 1 := Scalar.cmpi .ne v68 c0_i32_30
  let v70 : BitVec 1 := Scalar.andi v67 v69
  let v56 : BitVec 32 := Scalar.divsi v55 c4_i32_25
  let c1_i32_31 : BitVec 32 := 1#32
  let v71 : BitVec 32 := Scalar.subi v56 c1_i32_31
  let v72 : BitVec 32 := Scalar.select v70 v71 v56
  let c2_i32_38 : BitVec 32 := 2#32
  let c0_i32_39 : BitVec 32 := 0#32
  let v83 : BitVec 1 := Scalar.cmpi .eq c2_i32_38 c0_i32_39
  let c1_i32_40 : BitVec 32 := 1#32
  let v84 : BitVec 32 := Scalar.select v83 c1_i32_40 c2_i32_38
  let v85 : BitVec 32 := Scalar.remsi v72 v84
  let c0_i32_42 : BitVec 32 := 0#32
  let v87 : BitVec 1 := Scalar.cmpi .slt v85 c0_i32_42
  let c0_i32_43 : BitVec 32 := 0#32
  let v88 : BitVec 1 := Scalar.cmpi .slt v84 c0_i32_43
  let v89 : BitVec 1 := Scalar.xori v87 v88
  let c0_i32_41 : BitVec 32 := 0#32
  let v86 : BitVec 1 := Scalar.cmpi .ne v85 c0_i32_41
  let v90 : BitVec 1 := Scalar.andi v89 v86
  let v91 : BitVec 32 := Scalar.addi v85 v84
  let v92 : BitVec 32 := Scalar.select v90 v91 v85
  let c0_i32_44 : BitVec 32 := 0#32
  let v93 : BitVec 1 := Scalar.cmpi .eq v92 c0_i32_44
  let c4_i32_32 : BitVec 32 := 4#32
  let c0_i32_33 : BitVec 32 := 0#32
  let v73 : BitVec 1 := Scalar.cmpi .eq c4_i32_32 c0_i32_33
  let c1_i32_34 : BitVec 32 := 1#32
  let v74 : BitVec 32 := Scalar.select v73 c1_i32_34 c4_i32_32
  let v75 : BitVec 32 := Scalar.remsi v55 v74
  let c0_i32_36 : BitVec 32 := 0#32
  let v77 : BitVec 1 := Scalar.cmpi .slt v75 c0_i32_36
  let c0_i32_37 : BitVec 32 := 0#32
  let v78 : BitVec 1 := Scalar.cmpi .slt v74 c0_i32_37
  let v79 : BitVec 1 := Scalar.xori v77 v78
  let c0_i32_35 : BitVec 32 := 0#32
  let v76 : BitVec 1 := Scalar.cmpi .ne v75 c0_i32_35
  let v80 : BitVec 1 := Scalar.andi v79 v76
  let v81 : BitVec 32 := Scalar.addi v75 v74
  let v82 : BitVec 32 := Scalar.select v80 v81 v75
  let c3_i32_45 : BitVec 32 := 3#32
  let v94 : BitVec 32 := Scalar.subi c3_i32_45 v82
  let v95 : BitVec 32 := Scalar.select v93 v82 v94
  let v96 : BitVec 32 := Scalar.muli c4_i32_46 v95
  let v97 : BitVec 32 := Scalar.addi v96 v72
  let c1_i32_3078 : BitVec 32 := 1#32
  let v4167 : BitVec 32 := Scalar.muli v97 c1_i32_3078
  let v4168 : BitVec 32 := Scalar.addi c0_i32_3079 v4167
  v4168.toNat
def k0_dev82 (d0 : Dev nD) : Nat :=
  let c0_i32_3091 : BitVec 32 := 0#32
  let c4_i32_75 : BitVec 32 := 4#32
  let c4_i32_17 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let v43 : BitVec 32 := Scalar.muli c4_i32_17 v12
  let c2_i32 : BitVec 32 := 2#32
  let c0_i32_11 : BitVec 32 := 0#32
  let v30 : BitVec 1 := Scalar.cmpi .eq c2_i32 c0_i32_11
  let c1_i32_12 : BitVec 32 := 1#32
  let v31 : BitVec 32 := Scalar.select v30 c1_i32_12 c2_i32
  let v32 : BitVec 32 := Scalar.remsi v12 v31
  let c0_i32_14 : BitVec 32 := 0#32
  let v34 : BitVec 1 := Scalar.cmpi .slt v32 c0_i32_14
  let c0_i32_15 : BitVec 32 := 0#32
  let v35 : BitVec 1 := Scalar.cmpi .slt v31 c0_i32_15
  let v36 : BitVec 1 := Scalar.xori v34 v35
  let c0_i32_13 : BitVec 32 := 0#32
  let v33 : BitVec 1 := Scalar.cmpi .ne v32 c0_i32_13
  let v37 : BitVec 1 := Scalar.andi v36 v33
  let v38 : BitVec 32 := Scalar.addi v32 v31
  let v39 : BitVec 32 := Scalar.select v37 v38 v32
  let c0_i32_16 : BitVec 32 := 0#32
  let v40 : BitVec 1 := Scalar.cmpi .eq v39 c0_i32_16
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c4_i32_4 : BitVec 32 := 4#32
  let c0_i32_7 : BitVec 32 := 0#32
  let v19 : BitVec 1 := Scalar.cmpi .sgt c4_i32_4 c0_i32_7
  let v20 : BitVec 32 := Scalar.extui v19
  let c0_i32_8 : BitVec 32 := 0#32
  let v21 : BitVec 1 := Scalar.cmpi .slt c4_i32_4 c0_i32_8
  let v22 : BitVec 32 := Scalar.extui v21
  let v23 : BitVec 32 := Scalar.subi v20 v22
  let v24 : BitVec 1 := Scalar.cmpi .ne v18 v23
  let v25 : BitVec 32 := Scalar.remsi v2 c4_i32_4
  let c0_i32_9 : BitVec 32 := 0#32
  let v26 : BitVec 1 := Scalar.cmpi .ne v25 c0_i32_9
  let v27 : BitVec 1 := Scalar.andi v24 v26
  let v13 : BitVec 32 := Scalar.divsi v2 c4_i32_4
  let c1_i32_10 : BitVec 32 := 1#32
  let v28 : BitVec 32 := Scalar.subi v13 c1_i32_10
  let v29 : BitVec 32 := Scalar.select v27 v28 v13
  let c3_i32 : BitVec 32 := 3#32
  let v41 : BitVec 32 := Scalar.subi c3_i32 v29
  let v42 : BitVec 32 := Scalar.select v40 v29 v41
  let v44 : BitVec 32 := Scalar.addi v43 v42
  let c1_i32_47 : BitVec 32 := 1#32
  let v98 : BitVec 32 := Scalar.subi v44 c1_i32_47
  let c16_i32_48 : BitVec 32 := 16#32
  let c0_i32_49 : BitVec 32 := 0#32
  let v99 : BitVec 1 := Scalar.cmpi .eq c16_i32_48 c0_i32_49
  let c1_i32_50 : BitVec 32 := 1#32
  let v100 : BitVec 32 := Scalar.select v99 c1_i32_50 c16_i32_48
  let v101 : BitVec 32 := Scalar.remsi v98 v100
  let c0_i32_52 : BitVec 32 := 0#32
  let v103 : BitVec 1 := Scalar.cmpi .slt v101 c0_i32_52
  let c0_i32_53 : BitVec 32 := 0#32
  let v104 : BitVec 1 := Scalar.cmpi .slt v100 c0_i32_53
  let v105 : BitVec 1 := Scalar.xori v103 v104
  let c0_i32_51 : BitVec 32 := 0#32
  let v102 : BitVec 1 := Scalar.cmpi .ne v101 c0_i32_51
  let v106 : BitVec 1 := Scalar.andi v105 v102
  let v107 : BitVec 32 := Scalar.addi v101 v100
  let v108 : BitVec 32 := Scalar.select v106 v107 v101
  let c0_i32_55 : BitVec 32 := 0#32
  let v110 : BitVec 1 := Scalar.cmpi .sgt v108 c0_i32_55
  let v111 : BitVec 32 := Scalar.extui v110
  let c0_i32_56 : BitVec 32 := 0#32
  let v112 : BitVec 1 := Scalar.cmpi .slt v108 c0_i32_56
  let v113 : BitVec 32 := Scalar.extui v112
  let v114 : BitVec 32 := Scalar.subi v111 v113
  let c4_i32_54 : BitVec 32 := 4#32
  let c0_i32_57 : BitVec 32 := 0#32
  let v115 : BitVec 1 := Scalar.cmpi .sgt c4_i32_54 c0_i32_57
  let v116 : BitVec 32 := Scalar.extui v115
  let c0_i32_58 : BitVec 32 := 0#32
  let v117 : BitVec 1 := Scalar.cmpi .slt c4_i32_54 c0_i32_58
  let v118 : BitVec 32 := Scalar.extui v117
  let v119 : BitVec 32 := Scalar.subi v116 v118
  let v120 : BitVec 1 := Scalar.cmpi .ne v114 v119
  let v121 : BitVec 32 := Scalar.remsi v108 c4_i32_54
  let c0_i32_59 : BitVec 32 := 0#32
  let v122 : BitVec 1 := Scalar.cmpi .ne v121 c0_i32_59
  let v123 : BitVec 1 := Scalar.andi v120 v122
  let v109 : BitVec 32 := Scalar.divsi v108 c4_i32_54
  let c1_i32_60 : BitVec 32 := 1#32
  let v124 : BitVec 32 := Scalar.subi v109 c1_i32_60
  let v125 : BitVec 32 := Scalar.select v123 v124 v109
  let c2_i32_67 : BitVec 32 := 2#32
  let c0_i32_68 : BitVec 32 := 0#32
  let v136 : BitVec 1 := Scalar.cmpi .eq c2_i32_67 c0_i32_68
  let c1_i32_69 : BitVec 32 := 1#32
  let v137 : BitVec 32 := Scalar.select v136 c1_i32_69 c2_i32_67
  let v138 : BitVec 32 := Scalar.remsi v125 v137
  let c0_i32_71 : BitVec 32 := 0#32
  let v140 : BitVec 1 := Scalar.cmpi .slt v138 c0_i32_71
  let c0_i32_72 : BitVec 32 := 0#32
  let v141 : BitVec 1 := Scalar.cmpi .slt v137 c0_i32_72
  let v142 : BitVec 1 := Scalar.xori v140 v141
  let c0_i32_70 : BitVec 32 := 0#32
  let v139 : BitVec 1 := Scalar.cmpi .ne v138 c0_i32_70
  let v143 : BitVec 1 := Scalar.andi v142 v139
  let v144 : BitVec 32 := Scalar.addi v138 v137
  let v145 : BitVec 32 := Scalar.select v143 v144 v138
  let c0_i32_73 : BitVec 32 := 0#32
  let v146 : BitVec 1 := Scalar.cmpi .eq v145 c0_i32_73
  let c4_i32_61 : BitVec 32 := 4#32
  let c0_i32_62 : BitVec 32 := 0#32
  let v126 : BitVec 1 := Scalar.cmpi .eq c4_i32_61 c0_i32_62
  let c1_i32_63 : BitVec 32 := 1#32
  let v127 : BitVec 32 := Scalar.select v126 c1_i32_63 c4_i32_61
  let v128 : BitVec 32 := Scalar.remsi v108 v127
  let c0_i32_65 : BitVec 32 := 0#32
  let v130 : BitVec 1 := Scalar.cmpi .slt v128 c0_i32_65
  let c0_i32_66 : BitVec 32 := 0#32
  let v131 : BitVec 1 := Scalar.cmpi .slt v127 c0_i32_66
  let v132 : BitVec 1 := Scalar.xori v130 v131
  let c0_i32_64 : BitVec 32 := 0#32
  let v129 : BitVec 1 := Scalar.cmpi .ne v128 c0_i32_64
  let v133 : BitVec 1 := Scalar.andi v132 v129
  let v134 : BitVec 32 := Scalar.addi v128 v127
  let v135 : BitVec 32 := Scalar.select v133 v134 v128
  let c3_i32_74 : BitVec 32 := 3#32
  let v147 : BitVec 32 := Scalar.subi c3_i32_74 v135
  let v148 : BitVec 32 := Scalar.select v146 v135 v147
  let v149 : BitVec 32 := Scalar.muli c4_i32_75 v148
  let v150 : BitVec 32 := Scalar.addi v149 v125
  let c1_i32_3090 : BitVec 32 := 1#32
  let v4177 : BitVec 32 := Scalar.muli v150 c1_i32_3090
  let v4178 : BitVec 32 := Scalar.addi c0_i32_3091 v4177
  v4178.toNat
def k0_dev83 (d0 : Dev nD) : Nat :=
  let c0_i32_3117 : BitVec 32 := 0#32
  let c4_i32_75 : BitVec 32 := 4#32
  let c4_i32_17 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let v43 : BitVec 32 := Scalar.muli c4_i32_17 v12
  let c2_i32 : BitVec 32 := 2#32
  let c0_i32_11 : BitVec 32 := 0#32
  let v30 : BitVec 1 := Scalar.cmpi .eq c2_i32 c0_i32_11
  let c1_i32_12 : BitVec 32 := 1#32
  let v31 : BitVec 32 := Scalar.select v30 c1_i32_12 c2_i32
  let v32 : BitVec 32 := Scalar.remsi v12 v31
  let c0_i32_14 : BitVec 32 := 0#32
  let v34 : BitVec 1 := Scalar.cmpi .slt v32 c0_i32_14
  let c0_i32_15 : BitVec 32 := 0#32
  let v35 : BitVec 1 := Scalar.cmpi .slt v31 c0_i32_15
  let v36 : BitVec 1 := Scalar.xori v34 v35
  let c0_i32_13 : BitVec 32 := 0#32
  let v33 : BitVec 1 := Scalar.cmpi .ne v32 c0_i32_13
  let v37 : BitVec 1 := Scalar.andi v36 v33
  let v38 : BitVec 32 := Scalar.addi v32 v31
  let v39 : BitVec 32 := Scalar.select v37 v38 v32
  let c0_i32_16 : BitVec 32 := 0#32
  let v40 : BitVec 1 := Scalar.cmpi .eq v39 c0_i32_16
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c4_i32_4 : BitVec 32 := 4#32
  let c0_i32_7 : BitVec 32 := 0#32
  let v19 : BitVec 1 := Scalar.cmpi .sgt c4_i32_4 c0_i32_7
  let v20 : BitVec 32 := Scalar.extui v19
  let c0_i32_8 : BitVec 32 := 0#32
  let v21 : BitVec 1 := Scalar.cmpi .slt c4_i32_4 c0_i32_8
  let v22 : BitVec 32 := Scalar.extui v21
  let v23 : BitVec 32 := Scalar.subi v20 v22
  let v24 : BitVec 1 := Scalar.cmpi .ne v18 v23
  let v25 : BitVec 32 := Scalar.remsi v2 c4_i32_4
  let c0_i32_9 : BitVec 32 := 0#32
  let v26 : BitVec 1 := Scalar.cmpi .ne v25 c0_i32_9
  let v27 : BitVec 1 := Scalar.andi v24 v26
  let v13 : BitVec 32 := Scalar.divsi v2 c4_i32_4
  let c1_i32_10 : BitVec 32 := 1#32
  let v28 : BitVec 32 := Scalar.subi v13 c1_i32_10
  let v29 : BitVec 32 := Scalar.select v27 v28 v13
  let c3_i32 : BitVec 32 := 3#32
  let v41 : BitVec 32 := Scalar.subi c3_i32 v29
  let v42 : BitVec 32 := Scalar.select v40 v29 v41
  let v44 : BitVec 32 := Scalar.addi v43 v42
  let c1_i32_47 : BitVec 32 := 1#32
  let v98 : BitVec 32 := Scalar.subi v44 c1_i32_47
  let c16_i32_48 : BitVec 32 := 16#32
  let c0_i32_49 : BitVec 32 := 0#32
  let v99 : BitVec 1 := Scalar.cmpi .eq c16_i32_48 c0_i32_49
  let c1_i32_50 : BitVec 32 := 1#32
  let v100 : BitVec 32 := Scalar.select v99 c1_i32_50 c16_i32_48
  let v101 : BitVec 32 := Scalar.remsi v98 v100
  let c0_i32_52 : BitVec 32 := 0#32
  let v103 : BitVec 1 := Scalar.cmpi .slt v101 c0_i32_52
  let c0_i32_53 : BitVec 32 := 0#32
  let v104 : BitVec 1 := Scalar.cmpi .slt v100 c0_i32_53
  let v105 : BitVec 1 := Scalar.xori v103 v104
  let c0_i32_51 : BitVec 32 := 0#32
  let v102 : BitVec 1 := Scalar.cmpi .ne v101 c0_i32_51
  let v106 : BitVec 1 := Scalar.andi v105 v102
  let v107 : BitVec 32 := Scalar.addi v101 v100
  let v108 : BitVec 32 := Scalar.select v106 v107 v101
  let c0_i32_55 : BitVec 32 := 0#32
  let v110 : BitVec 1 := Scalar.cmpi .sgt v108 c0_i32_55
  let v111 : BitVec 32 := Scalar.extui v110
  let c0_i32_56 : BitVec 32 := 0#32
  let v112 : BitVec 1 := Scalar.cmpi .slt v108 c0_i32_56
  let v113 : BitVec 32 := Scalar.extui v112
  let v114 : BitVec 32 := Scalar.subi v111 v113
  let c4_i32_54 : BitVec 32 := 4#32
  let c0_i32_57 : BitVec 32 := 0#32
  let v115 : BitVec 1 := Scalar.cmpi .sgt c4_i32_54 c0_i32_57
  let v116 : BitVec 32 := Scalar.extui v115
  let c0_i32_58 : BitVec 32 := 0#32
  let v117 : BitVec 1 := Scalar.cmpi .slt c4_i32_54 c0_i32_58
  let v118 : BitVec 32 := Scalar.extui v117
  let v119 : BitVec 32 := Scalar.subi v116 v118
  let v120 : BitVec 1 := Scalar.cmpi .ne v114 v119
  let v121 : BitVec 32 := Scalar.remsi v108 c4_i32_54
  let c0_i32_59 : BitVec 32 := 0#32
  let v122 : BitVec 1 := Scalar.cmpi .ne v121 c0_i32_59
  let v123 : BitVec 1 := Scalar.andi v120 v122
  let v109 : BitVec 32 := Scalar.divsi v108 c4_i32_54
  let c1_i32_60 : BitVec 32 := 1#32
  let v124 : BitVec 32 := Scalar.subi v109 c1_i32_60
  let v125 : BitVec 32 := Scalar.select v123 v124 v109
  let c2_i32_67 : BitVec 32 := 2#32
  let c0_i32_68 : BitVec 32 := 0#32
  let v136 : BitVec 1 := Scalar.cmpi .eq c2_i32_67 c0_i32_68
  let c1_i32_69 : BitVec 32 := 1#32
  let v137 : BitVec 32 := Scalar.select v136 c1_i32_69 c2_i32_67
  let v138 : BitVec 32 := Scalar.remsi v125 v137
  let c0_i32_71 : BitVec 32 := 0#32
  let v140 : BitVec 1 := Scalar.cmpi .slt v138 c0_i32_71
  let c0_i32_72 : BitVec 32 := 0#32
  let v141 : BitVec 1 := Scalar.cmpi .slt v137 c0_i32_72
  let v142 : BitVec 1 := Scalar.xori v140 v141
  let c0_i32_70 : BitVec 32 := 0#32
  let v139 : BitVec 1 := Scalar.cmpi .ne v138 c0_i32_70
  let v143 : BitVec 1 := Scalar.andi v142 v139
  let v144 : BitVec 32 := Scalar.addi v138 v137
  let v145 : BitVec 32 := Scalar.select v143 v144 v138
  let c0_i32_73 : BitVec 32 := 0#32
  let v146 : BitVec 1 := Scalar.cmpi .eq v145 c0_i32_73
  let c4_i32_61 : BitVec 32 := 4#32
  let c0_i32_62 : BitVec 32 := 0#32
  let v126 : BitVec 1 := Scalar.cmpi .eq c4_i32_61 c0_i32_62
  let c1_i32_63 : BitVec 32 := 1#32
  let v127 : BitVec 32 := Scalar.select v126 c1_i32_63 c4_i32_61
  let v128 : BitVec 32 := Scalar.remsi v108 v127
  let c0_i32_65 : BitVec 32 := 0#32
  let v130 : BitVec 1 := Scalar.cmpi .slt v128 c0_i32_65
  let c0_i32_66 : BitVec 32 := 0#32
  let v131 : BitVec 1 := Scalar.cmpi .slt v127 c0_i32_66
  let v132 : BitVec 1 := Scalar.xori v130 v131
  let c0_i32_64 : BitVec 32 := 0#32
  let v129 : BitVec 1 := Scalar.cmpi .ne v128 c0_i32_64
  let v133 : BitVec 1 := Scalar.andi v132 v129
  let v134 : BitVec 32 := Scalar.addi v128 v127
  let v135 : BitVec 32 := Scalar.select v133 v134 v128
  let c3_i32_74 : BitVec 32 := 3#32
  let v147 : BitVec 32 := Scalar.subi c3_i32_74 v135
  let v148 : BitVec 32 := Scalar.select v146 v135 v147
  let v149 : BitVec 32 := Scalar.muli c4_i32_75 v148
  let v150 : BitVec 32 := Scalar.addi v149 v125
  let c1_i32_3116 : BitVec 32 := 1#32
  let v4201 : BitVec 32 := Scalar.muli v150 c1_i32_3116
  let v4202 : BitVec 32 := Scalar.addi c0_i32_3117 v4201
  v4202.toNat
def k0_dev84 (d0 : Dev nD) : Nat :=
  let c0_i32_3145 : BitVec 32 := 0#32
  let c4_i32_46 : BitVec 32 := 4#32
  let c4_i32_17 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let v43 : BitVec 32 := Scalar.muli c4_i32_17 v12
  let c2_i32 : BitVec 32 := 2#32
  let c0_i32_11 : BitVec 32 := 0#32
  let v30 : BitVec 1 := Scalar.cmpi .eq c2_i32 c0_i32_11
  let c1_i32_12 : BitVec 32 := 1#32
  let v31 : BitVec 32 := Scalar.select v30 c1_i32_12 c2_i32
  let v32 : BitVec 32 := Scalar.remsi v12 v31
  let c0_i32_14 : BitVec 32 := 0#32
  let v34 : BitVec 1 := Scalar.cmpi .slt v32 c0_i32_14
  let c0_i32_15 : BitVec 32 := 0#32
  let v35 : BitVec 1 := Scalar.cmpi .slt v31 c0_i32_15
  let v36 : BitVec 1 := Scalar.xori v34 v35
  let c0_i32_13 : BitVec 32 := 0#32
  let v33 : BitVec 1 := Scalar.cmpi .ne v32 c0_i32_13
  let v37 : BitVec 1 := Scalar.andi v36 v33
  let v38 : BitVec 32 := Scalar.addi v32 v31
  let v39 : BitVec 32 := Scalar.select v37 v38 v32
  let c0_i32_16 : BitVec 32 := 0#32
  let v40 : BitVec 1 := Scalar.cmpi .eq v39 c0_i32_16
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c4_i32_4 : BitVec 32 := 4#32
  let c0_i32_7 : BitVec 32 := 0#32
  let v19 : BitVec 1 := Scalar.cmpi .sgt c4_i32_4 c0_i32_7
  let v20 : BitVec 32 := Scalar.extui v19
  let c0_i32_8 : BitVec 32 := 0#32
  let v21 : BitVec 1 := Scalar.cmpi .slt c4_i32_4 c0_i32_8
  let v22 : BitVec 32 := Scalar.extui v21
  let v23 : BitVec 32 := Scalar.subi v20 v22
  let v24 : BitVec 1 := Scalar.cmpi .ne v18 v23
  let v25 : BitVec 32 := Scalar.remsi v2 c4_i32_4
  let c0_i32_9 : BitVec 32 := 0#32
  let v26 : BitVec 1 := Scalar.cmpi .ne v25 c0_i32_9
  let v27 : BitVec 1 := Scalar.andi v24 v26
  let v13 : BitVec 32 := Scalar.divsi v2 c4_i32_4
  let c1_i32_10 : BitVec 32 := 1#32
  let v28 : BitVec 32 := Scalar.subi v13 c1_i32_10
  let v29 : BitVec 32 := Scalar.select v27 v28 v13
  let c3_i32 : BitVec 32 := 3#32
  let v41 : BitVec 32 := Scalar.subi c3_i32 v29
  let v42 : BitVec 32 := Scalar.select v40 v29 v41
  let v44 : BitVec 32 := Scalar.addi v43 v42
  let c1_i32_18 : BitVec 32 := 1#32
  let v45 : BitVec 32 := Scalar.addi v44 c1_i32_18
  let c16_i32_19 : BitVec 32 := 16#32
  let c0_i32_20 : BitVec 32 := 0#32
  let v46 : BitVec 1 := Scalar.cmpi .eq c16_i32_19 c0_i32_20
  let c1_i32_21 : BitVec 32 := 1#32
  let v47 : BitVec 32 := Scalar.select v46 c1_i32_21 c16_i32_19
  let v48 : BitVec 32 := Scalar.remsi v45 v47
  let c0_i32_23 : BitVec 32 := 0#32
  let v50 : BitVec 1 := Scalar.cmpi .slt v48 c0_i32_23
  let c0_i32_24 : BitVec 32 := 0#32
  let v51 : BitVec 1 := Scalar.cmpi .slt v47 c0_i32_24
  let v52 : BitVec 1 := Scalar.xori v50 v51
  let c0_i32_22 : BitVec 32 := 0#32
  let v49 : BitVec 1 := Scalar.cmpi .ne v48 c0_i32_22
  let v53 : BitVec 1 := Scalar.andi v52 v49
  let v54 : BitVec 32 := Scalar.addi v48 v47
  let v55 : BitVec 32 := Scalar.select v53 v54 v48
  let c0_i32_26 : BitVec 32 := 0#32
  let v57 : BitVec 1 := Scalar.cmpi .sgt v55 c0_i32_26
  let v58 : BitVec 32 := Scalar.extui v57
  let c0_i32_27 : BitVec 32 := 0#32
  let v59 : BitVec 1 := Scalar.cmpi .slt v55 c0_i32_27
  let v60 : BitVec 32 := Scalar.extui v59
  let v61 : BitVec 32 := Scalar.subi v58 v60
  let c4_i32_25 : BitVec 32 := 4#32
  let c0_i32_28 : BitVec 32 := 0#32
  let v62 : BitVec 1 := Scalar.cmpi .sgt c4_i32_25 c0_i32_28
  let v63 : BitVec 32 := Scalar.extui v62
  let c0_i32_29 : BitVec 32 := 0#32
  let v64 : BitVec 1 := Scalar.cmpi .slt c4_i32_25 c0_i32_29
  let v65 : BitVec 32 := Scalar.extui v64
  let v66 : BitVec 32 := Scalar.subi v63 v65
  let v67 : BitVec 1 := Scalar.cmpi .ne v61 v66
  let v68 : BitVec 32 := Scalar.remsi v55 c4_i32_25
  let c0_i32_30 : BitVec 32 := 0#32
  let v69 : BitVec 1 := Scalar.cmpi .ne v68 c0_i32_30
  let v70 : BitVec 1 := Scalar.andi v67 v69
  let v56 : BitVec 32 := Scalar.divsi v55 c4_i32_25
  let c1_i32_31 : BitVec 32 := 1#32
  let v71 : BitVec 32 := Scalar.subi v56 c1_i32_31
  let v72 : BitVec 32 := Scalar.select v70 v71 v56
  let c2_i32_38 : BitVec 32 := 2#32
  let c0_i32_39 : BitVec 32 := 0#32
  let v83 : BitVec 1 := Scalar.cmpi .eq c2_i32_38 c0_i32_39
  let c1_i32_40 : BitVec 32 := 1#32
  let v84 : BitVec 32 := Scalar.select v83 c1_i32_40 c2_i32_38
  let v85 : BitVec 32 := Scalar.remsi v72 v84
  let c0_i32_42 : BitVec 32 := 0#32
  let v87 : BitVec 1 := Scalar.cmpi .slt v85 c0_i32_42
  let c0_i32_43 : BitVec 32 := 0#32
  let v88 : BitVec 1 := Scalar.cmpi .slt v84 c0_i32_43
  let v89 : BitVec 1 := Scalar.xori v87 v88
  let c0_i32_41 : BitVec 32 := 0#32
  let v86 : BitVec 1 := Scalar.cmpi .ne v85 c0_i32_41
  let v90 : BitVec 1 := Scalar.andi v89 v86
  let v91 : BitVec 32 := Scalar.addi v85 v84
  let v92 : BitVec 32 := Scalar.select v90 v91 v85
  let c0_i32_44 : BitVec 32 := 0#32
  let v93 : BitVec 1 := Scalar.cmpi .eq v92 c0_i32_44
  let c4_i32_32 : BitVec 32 := 4#32
  let c0_i32_33 : BitVec 32 := 0#32
  let v73 : BitVec 1 := Scalar.cmpi .eq c4_i32_32 c0_i32_33
  let c1_i32_34 : BitVec 32 := 1#32
  let v74 : BitVec 32 := Scalar.select v73 c1_i32_34 c4_i32_32
  let v75 : BitVec 32 := Scalar.remsi v55 v74
  let c0_i32_36 : BitVec 32 := 0#32
  let v77 : BitVec 1 := Scalar.cmpi .slt v75 c0_i32_36
  let c0_i32_37 : BitVec 32 := 0#32
  let v78 : BitVec 1 := Scalar.cmpi .slt v74 c0_i32_37
  let v79 : BitVec 1 := Scalar.xori v77 v78
  let c0_i32_35 : BitVec 32 := 0#32
  let v76 : BitVec 1 := Scalar.cmpi .ne v75 c0_i32_35
  let v80 : BitVec 1 := Scalar.andi v79 v76
  let v81 : BitVec 32 := Scalar.addi v75 v74
  let v82 : BitVec 32 := Scalar.select v80 v81 v75
  let c3_i32_45 : BitVec 32 := 3#32
  let v94 : BitVec 32 := Scalar.subi c3_i32_45 v82
  let v95 : BitVec 32 := Scalar.select v93 v82 v94
  let v96 : BitVec 32 := Scalar.muli c4_i32_46 v95
  let v97 : BitVec 32 := Scalar.addi v96 v72
  let c1_i32_3144 : BitVec 32 := 1#32
  let v4225 : BitVec 32 := Scalar.muli v97 c1_i32_3144
  let v4226 : BitVec 32 := Scalar.addi c0_i32_3145 v4225
  v4226.toNat
def k0_dev85 (d0 : Dev nD) : Nat :=
  let c0_i32_3159 : BitVec 32 := 0#32
  let c4_i32_46 : BitVec 32 := 4#32
  let c4_i32_17 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let v43 : BitVec 32 := Scalar.muli c4_i32_17 v12
  let c2_i32 : BitVec 32 := 2#32
  let c0_i32_11 : BitVec 32 := 0#32
  let v30 : BitVec 1 := Scalar.cmpi .eq c2_i32 c0_i32_11
  let c1_i32_12 : BitVec 32 := 1#32
  let v31 : BitVec 32 := Scalar.select v30 c1_i32_12 c2_i32
  let v32 : BitVec 32 := Scalar.remsi v12 v31
  let c0_i32_14 : BitVec 32 := 0#32
  let v34 : BitVec 1 := Scalar.cmpi .slt v32 c0_i32_14
  let c0_i32_15 : BitVec 32 := 0#32
  let v35 : BitVec 1 := Scalar.cmpi .slt v31 c0_i32_15
  let v36 : BitVec 1 := Scalar.xori v34 v35
  let c0_i32_13 : BitVec 32 := 0#32
  let v33 : BitVec 1 := Scalar.cmpi .ne v32 c0_i32_13
  let v37 : BitVec 1 := Scalar.andi v36 v33
  let v38 : BitVec 32 := Scalar.addi v32 v31
  let v39 : BitVec 32 := Scalar.select v37 v38 v32
  let c0_i32_16 : BitVec 32 := 0#32
  let v40 : BitVec 1 := Scalar.cmpi .eq v39 c0_i32_16
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c4_i32_4 : BitVec 32 := 4#32
  let c0_i32_7 : BitVec 32 := 0#32
  let v19 : BitVec 1 := Scalar.cmpi .sgt c4_i32_4 c0_i32_7
  let v20 : BitVec 32 := Scalar.extui v19
  let c0_i32_8 : BitVec 32 := 0#32
  let v21 : BitVec 1 := Scalar.cmpi .slt c4_i32_4 c0_i32_8
  let v22 : BitVec 32 := Scalar.extui v21
  let v23 : BitVec 32 := Scalar.subi v20 v22
  let v24 : BitVec 1 := Scalar.cmpi .ne v18 v23
  let v25 : BitVec 32 := Scalar.remsi v2 c4_i32_4
  let c0_i32_9 : BitVec 32 := 0#32
  let v26 : BitVec 1 := Scalar.cmpi .ne v25 c0_i32_9
  let v27 : BitVec 1 := Scalar.andi v24 v26
  let v13 : BitVec 32 := Scalar.divsi v2 c4_i32_4
  let c1_i32_10 : BitVec 32 := 1#32
  let v28 : BitVec 32 := Scalar.subi v13 c1_i32_10
  let v29 : BitVec 32 := Scalar.select v27 v28 v13
  let c3_i32 : BitVec 32 := 3#32
  let v41 : BitVec 32 := Scalar.subi c3_i32 v29
  let v42 : BitVec 32 := Scalar.select v40 v29 v41
  let v44 : BitVec 32 := Scalar.addi v43 v42
  let c1_i32_18 : BitVec 32 := 1#32
  let v45 : BitVec 32 := Scalar.addi v44 c1_i32_18
  let c16_i32_19 : BitVec 32 := 16#32
  let c0_i32_20 : BitVec 32 := 0#32
  let v46 : BitVec 1 := Scalar.cmpi .eq c16_i32_19 c0_i32_20
  let c1_i32_21 : BitVec 32 := 1#32
  let v47 : BitVec 32 := Scalar.select v46 c1_i32_21 c16_i32_19
  let v48 : BitVec 32 := Scalar.remsi v45 v47
  let c0_i32_23 : BitVec 32 := 0#32
  let v50 : BitVec 1 := Scalar.cmpi .slt v48 c0_i32_23
  let c0_i32_24 : BitVec 32 := 0#32
  let v51 : BitVec 1 := Scalar.cmpi .slt v47 c0_i32_24
  let v52 : BitVec 1 := Scalar.xori v50 v51
  let c0_i32_22 : BitVec 32 := 0#32
  let v49 : BitVec 1 := Scalar.cmpi .ne v48 c0_i32_22
  let v53 : BitVec 1 := Scalar.andi v52 v49
  let v54 : BitVec 32 := Scalar.addi v48 v47
  let v55 : BitVec 32 := Scalar.select v53 v54 v48
  let c0_i32_26 : BitVec 32 := 0#32
  let v57 : BitVec 1 := Scalar.cmpi .sgt v55 c0_i32_26
  let v58 : BitVec 32 := Scalar.extui v57
  let c0_i32_27 : BitVec 32 := 0#32
  let v59 : BitVec 1 := Scalar.cmpi .slt v55 c0_i32_27
  let v60 : BitVec 32 := Scalar.extui v59
  let v61 : BitVec 32 := Scalar.subi v58 v60
  let c4_i32_25 : BitVec 32 := 4#32
  let c0_i32_28 : BitVec 32 := 0#32
  let v62 : BitVec 1 := Scalar.cmpi .sgt c4_i32_25 c0_i32_28
  let v63 : BitVec 32 := Scalar.extui v62
  let c0_i32_29 : BitVec 32 := 0#32
  let v64 : BitVec 1 := Scalar.cmpi .slt c4_i32_25 c0_i32_29
  let v65 : BitVec 32 := Scalar.extui v64
  let v66 : BitVec 32 := Scalar.subi v63 v65
  let v67 : BitVec 1 := Scalar.cmpi .ne v61 v66
  let v68 : BitVec 32 := Scalar.remsi v55 c4_i32_25
  let c0_i32_30 : BitVec 32 := 0#32
  let v69 : BitVec 1 := Scalar.cmpi .ne v68 c0_i32_30
  let v70 : BitVec 1 := Scalar.andi v67 v69
  let v56 : BitVec 32 := Scalar.divsi v55 c4_i32_25
  let c1_i32_31 : BitVec 32 := 1#32
  let v71 : BitVec 32 := Scalar.subi v56 c1_i32_31
  let v72 : BitVec 32 := Scalar.select v70 v71 v56
  let c2_i32_38 : BitVec 32 := 2#32
  let c0_i32_39 : BitVec 32 := 0#32
  let v83 : BitVec 1 := Scalar.cmpi .eq c2_i32_38 c0_i32_39
  let c1_i32_40 : BitVec 32 := 1#32
  let v84 : BitVec 32 := Scalar.select v83 c1_i32_40 c2_i32_38
  let v85 : BitVec 32 := Scalar.remsi v72 v84
  let c0_i32_42 : BitVec 32 := 0#32
  let v87 : BitVec 1 := Scalar.cmpi .slt v85 c0_i32_42
  let c0_i32_43 : BitVec 32 := 0#32
  let v88 : BitVec 1 := Scalar.cmpi .slt v84 c0_i32_43
  let v89 : BitVec 1 := Scalar.xori v87 v88
  let c0_i32_41 : BitVec 32 := 0#32
  let v86 : BitVec 1 := Scalar.cmpi .ne v85 c0_i32_41
  let v90 : BitVec 1 := Scalar.andi v89 v86
  let v91 : BitVec 32 := Scalar.addi v85 v84
  let v92 : BitVec 32 := Scalar.select v90 v91 v85
  let c0_i32_44 : BitVec 32 := 0#32
  let v93 : BitVec 1 := Scalar.cmpi .eq v92 c0_i32_44
  let c4_i32_32 : BitVec 32 := 4#32
  let c0_i32_33 : BitVec 32 := 0#32
  let v73 : BitVec 1 := Scalar.cmpi .eq c4_i32_32 c0_i32_33
  let c1_i32_34 : BitVec 32 := 1#32
  let v74 : BitVec 32 := Scalar.select v73 c1_i32_34 c4_i32_32
  let v75 : BitVec 32 := Scalar.remsi v55 v74
  let c0_i32_36 : BitVec 32 := 0#32
  let v77 : BitVec 1 := Scalar.cmpi .slt v75 c0_i32_36
  let c0_i32_37 : BitVec 32 := 0#32
  let v78 : BitVec 1 := Scalar.cmpi .slt v74 c0_i32_37
  let v79 : BitVec 1 := Scalar.xori v77 v78
  let c0_i32_35 : BitVec 32 := 0#32
  let v76 : BitVec 1 := Scalar.cmpi .ne v75 c0_i32_35
  let v80 : BitVec 1 := Scalar.andi v79 v76
  let v81 : BitVec 32 := Scalar.addi v75 v74
  let v82 : BitVec 32 := Scalar.select v80 v81 v75
  let c3_i32_45 : BitVec 32 := 3#32
  let v94 : BitVec 32 := Scalar.subi c3_i32_45 v82
  let v95 : BitVec 32 := Scalar.select v93 v82 v94
  let v96 : BitVec 32 := Scalar.muli c4_i32_46 v95
  let v97 : BitVec 32 := Scalar.addi v96 v72
  let c1_i32_3158 : BitVec 32 := 1#32
  let v4235 : BitVec 32 := Scalar.muli v97 c1_i32_3158
  let v4236 : BitVec 32 := Scalar.addi c0_i32_3159 v4235
  v4236.toNat
def k0_dev86 (d0 : Dev nD) : Nat :=
  let c0_i32_3171 : BitVec 32 := 0#32
  let c4_i32_75 : BitVec 32 := 4#32
  let c4_i32_17 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let v43 : BitVec 32 := Scalar.muli c4_i32_17 v12
  let c2_i32 : BitVec 32 := 2#32
  let c0_i32_11 : BitVec 32 := 0#32
  let v30 : BitVec 1 := Scalar.cmpi .eq c2_i32 c0_i32_11
  let c1_i32_12 : BitVec 32 := 1#32
  let v31 : BitVec 32 := Scalar.select v30 c1_i32_12 c2_i32
  let v32 : BitVec 32 := Scalar.remsi v12 v31
  let c0_i32_14 : BitVec 32 := 0#32
  let v34 : BitVec 1 := Scalar.cmpi .slt v32 c0_i32_14
  let c0_i32_15 : BitVec 32 := 0#32
  let v35 : BitVec 1 := Scalar.cmpi .slt v31 c0_i32_15
  let v36 : BitVec 1 := Scalar.xori v34 v35
  let c0_i32_13 : BitVec 32 := 0#32
  let v33 : BitVec 1 := Scalar.cmpi .ne v32 c0_i32_13
  let v37 : BitVec 1 := Scalar.andi v36 v33
  let v38 : BitVec 32 := Scalar.addi v32 v31
  let v39 : BitVec 32 := Scalar.select v37 v38 v32
  let c0_i32_16 : BitVec 32 := 0#32
  let v40 : BitVec 1 := Scalar.cmpi .eq v39 c0_i32_16
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c4_i32_4 : BitVec 32 := 4#32
  let c0_i32_7 : BitVec 32 := 0#32
  let v19 : BitVec 1 := Scalar.cmpi .sgt c4_i32_4 c0_i32_7
  let v20 : BitVec 32 := Scalar.extui v19
  let c0_i32_8 : BitVec 32 := 0#32
  let v21 : BitVec 1 := Scalar.cmpi .slt c4_i32_4 c0_i32_8
  let v22 : BitVec 32 := Scalar.extui v21
  let v23 : BitVec 32 := Scalar.subi v20 v22
  let v24 : BitVec 1 := Scalar.cmpi .ne v18 v23
  let v25 : BitVec 32 := Scalar.remsi v2 c4_i32_4
  let c0_i32_9 : BitVec 32 := 0#32
  let v26 : BitVec 1 := Scalar.cmpi .ne v25 c0_i32_9
  let v27 : BitVec 1 := Scalar.andi v24 v26
  let v13 : BitVec 32 := Scalar.divsi v2 c4_i32_4
  let c1_i32_10 : BitVec 32 := 1#32
  let v28 : BitVec 32 := Scalar.subi v13 c1_i32_10
  let v29 : BitVec 32 := Scalar.select v27 v28 v13
  let c3_i32 : BitVec 32 := 3#32
  let v41 : BitVec 32 := Scalar.subi c3_i32 v29
  let v42 : BitVec 32 := Scalar.select v40 v29 v41
  let v44 : BitVec 32 := Scalar.addi v43 v42
  let c1_i32_47 : BitVec 32 := 1#32
  let v98 : BitVec 32 := Scalar.subi v44 c1_i32_47
  let c16_i32_48 : BitVec 32 := 16#32
  let c0_i32_49 : BitVec 32 := 0#32
  let v99 : BitVec 1 := Scalar.cmpi .eq c16_i32_48 c0_i32_49
  let c1_i32_50 : BitVec 32 := 1#32
  let v100 : BitVec 32 := Scalar.select v99 c1_i32_50 c16_i32_48
  let v101 : BitVec 32 := Scalar.remsi v98 v100
  let c0_i32_52 : BitVec 32 := 0#32
  let v103 : BitVec 1 := Scalar.cmpi .slt v101 c0_i32_52
  let c0_i32_53 : BitVec 32 := 0#32
  let v104 : BitVec 1 := Scalar.cmpi .slt v100 c0_i32_53
  let v105 : BitVec 1 := Scalar.xori v103 v104
  let c0_i32_51 : BitVec 32 := 0#32
  let v102 : BitVec 1 := Scalar.cmpi .ne v101 c0_i32_51
  let v106 : BitVec 1 := Scalar.andi v105 v102
  let v107 : BitVec 32 := Scalar.addi v101 v100
  let v108 : BitVec 32 := Scalar.select v106 v107 v101
  let c0_i32_55 : BitVec 32 := 0#32
  let v110 : BitVec 1 := Scalar.cmpi .sgt v108 c0_i32_55
  let v111 : BitVec 32 := Scalar.extui v110
  let c0_i32_56 : BitVec 32 := 0#32
  let v112 : BitVec 1 := Scalar.cmpi .slt v108 c0_i32_56
  let v113 : BitVec 32 := Scalar.extui v112
  let v114 : BitVec 32 := Scalar.subi v111 v113
  let c4_i32_54 : BitVec 32 := 4#32
  let c0_i32_57 : BitVec 32 := 0#32
  let v115 : BitVec 1 := Scalar.cmpi .sgt c4_i32_54 c0_i32_57
  let v116 : BitVec 32 := Scalar.extui v115
  let c0_i32_58 : BitVec 32 := 0#32
  let v117 : BitVec 1 := Scalar.cmpi .slt c4_i32_54 c0_i32_58
  let v118 : BitVec 32 := Scalar.extui v117
  let v119 : BitVec 32 := Scalar.subi v116 v118
  let v120 : BitVec 1 := Scalar.cmpi .ne v114 v119
  let v121 : BitVec 32 := Scalar.remsi v108 c4_i32_54
  let c0_i32_59 : BitVec 32 := 0#32
  let v122 : BitVec 1 := Scalar.cmpi .ne v121 c0_i32_59
  let v123 : BitVec 1 := Scalar.andi v120 v122
  let v109 : BitVec 32 := Scalar.divsi v108 c4_i32_54
  let c1_i32_60 : BitVec 32 := 1#32
  let v124 : BitVec 32 := Scalar.subi v109 c1_i32_60
  let v125 : BitVec 32 := Scalar.select v123 v124 v109
  let c2_i32_67 : BitVec 32 := 2#32
  let c0_i32_68 : BitVec 32 := 0#32
  let v136 : BitVec 1 := Scalar.cmpi .eq c2_i32_67 c0_i32_68
  let c1_i32_69 : BitVec 32 := 1#32
  let v137 : BitVec 32 := Scalar.select v136 c1_i32_69 c2_i32_67
  let v138 : BitVec 32 := Scalar.remsi v125 v137
  let c0_i32_71 : BitVec 32 := 0#32
  let v140 : BitVec 1 := Scalar.cmpi .slt v138 c0_i32_71
  let c0_i32_72 : BitVec 32 := 0#32
  let v141 : BitVec 1 := Scalar.cmpi .slt v137 c0_i32_72
  let v142 : BitVec 1 := Scalar.xori v140 v141
  let c0_i32_70 : BitVec 32 := 0#32
  let v139 : BitVec 1 := Scalar.cmpi .ne v138 c0_i32_70
  let v143 : BitVec 1 := Scalar.andi v142 v139
  let v144 : BitVec 32 := Scalar.addi v138 v137
  let v145 : BitVec 32 := Scalar.select v143 v144 v138
  let c0_i32_73 : BitVec 32 := 0#32
  let v146 : BitVec 1 := Scalar.cmpi .eq v145 c0_i32_73
  let c4_i32_61 : BitVec 32 := 4#32
  let c0_i32_62 : BitVec 32 := 0#32
  let v126 : BitVec 1 := Scalar.cmpi .eq c4_i32_61 c0_i32_62
  let c1_i32_63 : BitVec 32 := 1#32
  let v127 : BitVec 32 := Scalar.select v126 c1_i32_63 c4_i32_61
  let v128 : BitVec 32 := Scalar.remsi v108 v127
  let c0_i32_65 : BitVec 32 := 0#32
  let v130 : BitVec 1 := Scalar.cmpi .slt v128 c0_i32_65
  let c0_i32_66 : BitVec 32 := 0#32
  let v131 : BitVec 1 := Scalar.cmpi .slt v127 c0_i32_66
  let v132 : BitVec 1 := Scalar.xori v130 v131
  let c0_i32_64 : BitVec 32 := 0#32
  let v129 : BitVec 1 := Scalar.cmpi .ne v128 c0_i32_64
  let v133 : BitVec 1 := Scalar.andi v132 v129
  let v134 : BitVec 32 := Scalar.addi v128 v127
  let v135 : BitVec 32 := Scalar.select v133 v134 v128
  let c3_i32_74 : BitVec 32 := 3#32
  let v147 : BitVec 32 := Scalar.subi c3_i32_74 v135
  let v148 : BitVec 32 := Scalar.select v146 v135 v147
  let v149 : BitVec 32 := Scalar.muli c4_i32_75 v148
  let v150 : BitVec 32 := Scalar.addi v149 v125
  let c1_i32_3170 : BitVec 32 := 1#32
  let v4245 : BitVec 32 := Scalar.muli v150 c1_i32_3170
  let v4246 : BitVec 32 := Scalar.addi c0_i32_3171 v4245
  v4246.toNat
def k0_dev87 (d0 : Dev nD) : Nat :=
  let c0_i32_3328 : BitVec 32 := 0#32
  let c4_i32_75 : BitVec 32 := 4#32
  let c4_i32_17 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let v43 : BitVec 32 := Scalar.muli c4_i32_17 v12
  let c2_i32 : BitVec 32 := 2#32
  let c0_i32_11 : BitVec 32 := 0#32
  let v30 : BitVec 1 := Scalar.cmpi .eq c2_i32 c0_i32_11
  let c1_i32_12 : BitVec 32 := 1#32
  let v31 : BitVec 32 := Scalar.select v30 c1_i32_12 c2_i32
  let v32 : BitVec 32 := Scalar.remsi v12 v31
  let c0_i32_14 : BitVec 32 := 0#32
  let v34 : BitVec 1 := Scalar.cmpi .slt v32 c0_i32_14
  let c0_i32_15 : BitVec 32 := 0#32
  let v35 : BitVec 1 := Scalar.cmpi .slt v31 c0_i32_15
  let v36 : BitVec 1 := Scalar.xori v34 v35
  let c0_i32_13 : BitVec 32 := 0#32
  let v33 : BitVec 1 := Scalar.cmpi .ne v32 c0_i32_13
  let v37 : BitVec 1 := Scalar.andi v36 v33
  let v38 : BitVec 32 := Scalar.addi v32 v31
  let v39 : BitVec 32 := Scalar.select v37 v38 v32
  let c0_i32_16 : BitVec 32 := 0#32
  let v40 : BitVec 1 := Scalar.cmpi .eq v39 c0_i32_16
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c4_i32_4 : BitVec 32 := 4#32
  let c0_i32_7 : BitVec 32 := 0#32
  let v19 : BitVec 1 := Scalar.cmpi .sgt c4_i32_4 c0_i32_7
  let v20 : BitVec 32 := Scalar.extui v19
  let c0_i32_8 : BitVec 32 := 0#32
  let v21 : BitVec 1 := Scalar.cmpi .slt c4_i32_4 c0_i32_8
  let v22 : BitVec 32 := Scalar.extui v21
  let v23 : BitVec 32 := Scalar.subi v20 v22
  let v24 : BitVec 1 := Scalar.cmpi .ne v18 v23
  let v25 : BitVec 32 := Scalar.remsi v2 c4_i32_4
  let c0_i32_9 : BitVec 32 := 0#32
  let v26 : BitVec 1 := Scalar.cmpi .ne v25 c0_i32_9
  let v27 : BitVec 1 := Scalar.andi v24 v26
  let v13 : BitVec 32 := Scalar.divsi v2 c4_i32_4
  let c1_i32_10 : BitVec 32 := 1#32
  let v28 : BitVec 32 := Scalar.subi v13 c1_i32_10
  let v29 : BitVec 32 := Scalar.select v27 v28 v13
  let c3_i32 : BitVec 32 := 3#32
  let v41 : BitVec 32 := Scalar.subi c3_i32 v29
  let v42 : BitVec 32 := Scalar.select v40 v29 v41
  let v44 : BitVec 32 := Scalar.addi v43 v42
  let c1_i32_47 : BitVec 32 := 1#32
  let v98 : BitVec 32 := Scalar.subi v44 c1_i32_47
  let c16_i32_48 : BitVec 32 := 16#32
  let c0_i32_49 : BitVec 32 := 0#32
  let v99 : BitVec 1 := Scalar.cmpi .eq c16_i32_48 c0_i32_49
  let c1_i32_50 : BitVec 32 := 1#32
  let v100 : BitVec 32 := Scalar.select v99 c1_i32_50 c16_i32_48
  let v101 : BitVec 32 := Scalar.remsi v98 v100
  let c0_i32_52 : BitVec 32 := 0#32
  let v103 : BitVec 1 := Scalar.cmpi .slt v101 c0_i32_52
  let c0_i32_53 : BitVec 32 := 0#32
  let v104 : BitVec 1 := Scalar.cmpi .slt v100 c0_i32_53
  let v105 : BitVec 1 := Scalar.xori v103 v104
  let c0_i32_51 : BitVec 32 := 0#32
  let v102 : BitVec 1 := Scalar.cmpi .ne v101 c0_i32_51
  let v106 : BitVec 1 := Scalar.andi v105 v102
  let v107 : BitVec 32 := Scalar.addi v101 v100
  let v108 : BitVec 32 := Scalar.select v106 v107 v101
  let c0_i32_55 : BitVec 32 := 0#32
  let v110 : BitVec 1 := Scalar.cmpi .sgt v108 c0_i32_55
  let v111 : BitVec 32 := Scalar.extui v110
  let c0_i32_56 : BitVec 32 := 0#32
  let v112 : BitVec 1 := Scalar.cmpi .slt v108 c0_i32_56
  let v113 : BitVec 32 := Scalar.extui v112
  let v114 : BitVec 32 := Scalar.subi v111 v113
  let c4_i32_54 : BitVec 32 := 4#32
  let c0_i32_57 : BitVec 32 := 0#32
  let v115 : BitVec 1 := Scalar.cmpi .sgt c4_i32_54 c0_i32_57
  let v116 : BitVec 32 := Scalar.extui v115
  let c0_i32_58 : BitVec 32 := 0#32
  let v117 : BitVec 1 := Scalar.cmpi .slt c4_i32_54 c0_i32_58
  let v118 : BitVec 32 := Scalar.extui v117
  let v119 : BitVec 32 := Scalar.subi v116 v118
  let v120 : BitVec 1 := Scalar.cmpi .ne v114 v119
  let v121 : BitVec 32 := Scalar.remsi v108 c4_i32_54
  let c0_i32_59 : BitVec 32 := 0#32
  let v122 : BitVec 1 := Scalar.cmpi .ne v121 c0_i32_59
  let v123 : BitVec 1 := Scalar.andi v120 v122
  let v109 : BitVec 32 := Scalar.divsi v108 c4_i32_54
  let c1_i32_60 : BitVec 32 := 1#32
  let v124 : BitVec 32 := Scalar.subi v109 c1_i32_60
  let v125 : BitVec 32 := Scalar.select v123 v124 v109
  let c2_i32_67 : BitVec 32 := 2#32
  let c0_i32_68 : BitVec 32 := 0#32
  let v136 : BitVec 1 := Scalar.cmpi .eq c2_i32_67 c0_i32_68
  let c1_i32_69 : BitVec 32 := 1#32
  let v137 : BitVec 32 := Scalar.select v136 c1_i32_69 c2_i32_67
  let v138 : BitVec 32 := Scalar.remsi v125 v137
  let c0_i32_71 : BitVec 32 := 0#32
  let v140 : BitVec 1 := Scalar.cmpi .slt v138 c0_i32_71
  let c0_i32_72 : BitVec 32 := 0#32
  let v141 : BitVec 1 := Scalar.cmpi .slt v137 c0_i32_72
  let v142 : BitVec 1 := Scalar.xori v140 v141
  let c0_i32_70 : BitVec 32 := 0#32
  let v139 : BitVec 1 := Scalar.cmpi .ne v138 c0_i32_70
  let v143 : BitVec 1 := Scalar.andi v142 v139
  let v144 : BitVec 32 := Scalar.addi v138 v137
  let v145 : BitVec 32 := Scalar.select v143 v144 v138
  let c0_i32_73 : BitVec 32 := 0#32
  let v146 : BitVec 1 := Scalar.cmpi .eq v145 c0_i32_73
  let c4_i32_61 : BitVec 32 := 4#32
  let c0_i32_62 : BitVec 32 := 0#32
  let v126 : BitVec 1 := Scalar.cmpi .eq c4_i32_61 c0_i32_62
  let c1_i32_63 : BitVec 32 := 1#32
  let v127 : BitVec 32 := Scalar.select v126 c1_i32_63 c4_i32_61
  let v128 : BitVec 32 := Scalar.remsi v108 v127
  let c0_i32_65 : BitVec 32 := 0#32
  let v130 : BitVec 1 := Scalar.cmpi .slt v128 c0_i32_65
  let c0_i32_66 : BitVec 32 := 0#32
  let v131 : BitVec 1 := Scalar.cmpi .slt v127 c0_i32_66
  let v132 : BitVec 1 := Scalar.xori v130 v131
  let c0_i32_64 : BitVec 32 := 0#32
  let v129 : BitVec 1 := Scalar.cmpi .ne v128 c0_i32_64
  let v133 : BitVec 1 := Scalar.andi v132 v129
  let v134 : BitVec 32 := Scalar.addi v128 v127
  let v135 : BitVec 32 := Scalar.select v133 v134 v128
  let c3_i32_74 : BitVec 32 := 3#32
  let v147 : BitVec 32 := Scalar.subi c3_i32_74 v135
  let v148 : BitVec 32 := Scalar.select v146 v135 v147
  let v149 : BitVec 32 := Scalar.muli c4_i32_75 v148
  let v150 : BitVec 32 := Scalar.addi v149 v125
  let c1_i32_3327 : BitVec 32 := 1#32
  let v4513 : BitVec 32 := Scalar.muli v150 c1_i32_3327
  let v4514 : BitVec 32 := Scalar.addi c0_i32_3328 v4513
  v4514.toNat
def k0_dev88 (d0 : Dev nD) : Nat :=
  let c0_i32_3356 : BitVec 32 := 0#32
  let c4_i32_46 : BitVec 32 := 4#32
  let c4_i32_17 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let v43 : BitVec 32 := Scalar.muli c4_i32_17 v12
  let c2_i32 : BitVec 32 := 2#32
  let c0_i32_11 : BitVec 32 := 0#32
  let v30 : BitVec 1 := Scalar.cmpi .eq c2_i32 c0_i32_11
  let c1_i32_12 : BitVec 32 := 1#32
  let v31 : BitVec 32 := Scalar.select v30 c1_i32_12 c2_i32
  let v32 : BitVec 32 := Scalar.remsi v12 v31
  let c0_i32_14 : BitVec 32 := 0#32
  let v34 : BitVec 1 := Scalar.cmpi .slt v32 c0_i32_14
  let c0_i32_15 : BitVec 32 := 0#32
  let v35 : BitVec 1 := Scalar.cmpi .slt v31 c0_i32_15
  let v36 : BitVec 1 := Scalar.xori v34 v35
  let c0_i32_13 : BitVec 32 := 0#32
  let v33 : BitVec 1 := Scalar.cmpi .ne v32 c0_i32_13
  let v37 : BitVec 1 := Scalar.andi v36 v33
  let v38 : BitVec 32 := Scalar.addi v32 v31
  let v39 : BitVec 32 := Scalar.select v37 v38 v32
  let c0_i32_16 : BitVec 32 := 0#32
  let v40 : BitVec 1 := Scalar.cmpi .eq v39 c0_i32_16
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c4_i32_4 : BitVec 32 := 4#32
  let c0_i32_7 : BitVec 32 := 0#32
  let v19 : BitVec 1 := Scalar.cmpi .sgt c4_i32_4 c0_i32_7
  let v20 : BitVec 32 := Scalar.extui v19
  let c0_i32_8 : BitVec 32 := 0#32
  let v21 : BitVec 1 := Scalar.cmpi .slt c4_i32_4 c0_i32_8
  let v22 : BitVec 32 := Scalar.extui v21
  let v23 : BitVec 32 := Scalar.subi v20 v22
  let v24 : BitVec 1 := Scalar.cmpi .ne v18 v23
  let v25 : BitVec 32 := Scalar.remsi v2 c4_i32_4
  let c0_i32_9 : BitVec 32 := 0#32
  let v26 : BitVec 1 := Scalar.cmpi .ne v25 c0_i32_9
  let v27 : BitVec 1 := Scalar.andi v24 v26
  let v13 : BitVec 32 := Scalar.divsi v2 c4_i32_4
  let c1_i32_10 : BitVec 32 := 1#32
  let v28 : BitVec 32 := Scalar.subi v13 c1_i32_10
  let v29 : BitVec 32 := Scalar.select v27 v28 v13
  let c3_i32 : BitVec 32 := 3#32
  let v41 : BitVec 32 := Scalar.subi c3_i32 v29
  let v42 : BitVec 32 := Scalar.select v40 v29 v41
  let v44 : BitVec 32 := Scalar.addi v43 v42
  let c1_i32_18 : BitVec 32 := 1#32
  let v45 : BitVec 32 := Scalar.addi v44 c1_i32_18
  let c16_i32_19 : BitVec 32 := 16#32
  let c0_i32_20 : BitVec 32 := 0#32
  let v46 : BitVec 1 := Scalar.cmpi .eq c16_i32_19 c0_i32_20
  let c1_i32_21 : BitVec 32 := 1#32
  let v47 : BitVec 32 := Scalar.select v46 c1_i32_21 c16_i32_19
  let v48 : BitVec 32 := Scalar.remsi v45 v47
  let c0_i32_23 : BitVec 32 := 0#32
  let v50 : BitVec 1 := Scalar.cmpi .slt v48 c0_i32_23
  let c0_i32_24 : BitVec 32 := 0#32
  let v51 : BitVec 1 := Scalar.cmpi .slt v47 c0_i32_24
  let v52 : BitVec 1 := Scalar.xori v50 v51
  let c0_i32_22 : BitVec 32 := 0#32
  let v49 : BitVec 1 := Scalar.cmpi .ne v48 c0_i32_22
  let v53 : BitVec 1 := Scalar.andi v52 v49
  let v54 : BitVec 32 := Scalar.addi v48 v47
  let v55 : BitVec 32 := Scalar.select v53 v54 v48
  let c0_i32_26 : BitVec 32 := 0#32
  let v57 : BitVec 1 := Scalar.cmpi .sgt v55 c0_i32_26
  let v58 : BitVec 32 := Scalar.extui v57
  let c0_i32_27 : BitVec 32 := 0#32
  let v59 : BitVec 1 := Scalar.cmpi .slt v55 c0_i32_27
  let v60 : BitVec 32 := Scalar.extui v59
  let v61 : BitVec 32 := Scalar.subi v58 v60
  let c4_i32_25 : BitVec 32 := 4#32
  let c0_i32_28 : BitVec 32 := 0#32
  let v62 : BitVec 1 := Scalar.cmpi .sgt c4_i32_25 c0_i32_28
  let v63 : BitVec 32 := Scalar.extui v62
  let c0_i32_29 : BitVec 32 := 0#32
  let v64 : BitVec 1 := Scalar.cmpi .slt c4_i32_25 c0_i32_29
  let v65 : BitVec 32 := Scalar.extui v64
  let v66 : BitVec 32 := Scalar.subi v63 v65
  let v67 : BitVec 1 := Scalar.cmpi .ne v61 v66
  let v68 : BitVec 32 := Scalar.remsi v55 c4_i32_25
  let c0_i32_30 : BitVec 32 := 0#32
  let v69 : BitVec 1 := Scalar.cmpi .ne v68 c0_i32_30
  let v70 : BitVec 1 := Scalar.andi v67 v69
  let v56 : BitVec 32 := Scalar.divsi v55 c4_i32_25
  let c1_i32_31 : BitVec 32 := 1#32
  let v71 : BitVec 32 := Scalar.subi v56 c1_i32_31
  let v72 : BitVec 32 := Scalar.select v70 v71 v56
  let c2_i32_38 : BitVec 32 := 2#32
  let c0_i32_39 : BitVec 32 := 0#32
  let v83 : BitVec 1 := Scalar.cmpi .eq c2_i32_38 c0_i32_39
  let c1_i32_40 : BitVec 32 := 1#32
  let v84 : BitVec 32 := Scalar.select v83 c1_i32_40 c2_i32_38
  let v85 : BitVec 32 := Scalar.remsi v72 v84
  let c0_i32_42 : BitVec 32 := 0#32
  let v87 : BitVec 1 := Scalar.cmpi .slt v85 c0_i32_42
  let c0_i32_43 : BitVec 32 := 0#32
  let v88 : BitVec 1 := Scalar.cmpi .slt v84 c0_i32_43
  let v89 : BitVec 1 := Scalar.xori v87 v88
  let c0_i32_41 : BitVec 32 := 0#32
  let v86 : BitVec 1 := Scalar.cmpi .ne v85 c0_i32_41
  let v90 : BitVec 1 := Scalar.andi v89 v86
  let v91 : BitVec 32 := Scalar.addi v85 v84
  let v92 : BitVec 32 := Scalar.select v90 v91 v85
  let c0_i32_44 : BitVec 32 := 0#32
  let v93 : BitVec 1 := Scalar.cmpi .eq v92 c0_i32_44
  let c4_i32_32 : BitVec 32 := 4#32
  let c0_i32_33 : BitVec 32 := 0#32
  let v73 : BitVec 1 := Scalar.cmpi .eq c4_i32_32 c0_i32_33
  let c1_i32_34 : BitVec 32 := 1#32
  let v74 : BitVec 32 := Scalar.select v73 c1_i32_34 c4_i32_32
  let v75 : BitVec 32 := Scalar.remsi v55 v74
  let c0_i32_36 : BitVec 32 := 0#32
  let v77 : BitVec 1 := Scalar.cmpi .slt v75 c0_i32_36
  let c0_i32_37 : BitVec 32 := 0#32
  let v78 : BitVec 1 := Scalar.cmpi .slt v74 c0_i32_37
  let v79 : BitVec 1 := Scalar.xori v77 v78
  let c0_i32_35 : BitVec 32 := 0#32
  let v76 : BitVec 1 := Scalar.cmpi .ne v75 c0_i32_35
  let v80 : BitVec 1 := Scalar.andi v79 v76
  let v81 : BitVec 32 := Scalar.addi v75 v74
  let v82 : BitVec 32 := Scalar.select v80 v81 v75
  let c3_i32_45 : BitVec 32 := 3#32
  let v94 : BitVec 32 := Scalar.subi c3_i32_45 v82
  let v95 : BitVec 32 := Scalar.select v93 v82 v94
  let v96 : BitVec 32 := Scalar.muli c4_i32_46 v95
  let v97 : BitVec 32 := Scalar.addi v96 v72
  let c1_i32_3355 : BitVec 32 := 1#32
  let v4537 : BitVec 32 := Scalar.muli v97 c1_i32_3355
  let v4538 : BitVec 32 := Scalar.addi c0_i32_3356 v4537
  v4538.toNat
def k0_dev89 (d0 : Dev nD) : Nat :=
  let c0_i32_3370 : BitVec 32 := 0#32
  let c4_i32_46 : BitVec 32 := 4#32
  let c4_i32_17 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let v43 : BitVec 32 := Scalar.muli c4_i32_17 v12
  let c2_i32 : BitVec 32 := 2#32
  let c0_i32_11 : BitVec 32 := 0#32
  let v30 : BitVec 1 := Scalar.cmpi .eq c2_i32 c0_i32_11
  let c1_i32_12 : BitVec 32 := 1#32
  let v31 : BitVec 32 := Scalar.select v30 c1_i32_12 c2_i32
  let v32 : BitVec 32 := Scalar.remsi v12 v31
  let c0_i32_14 : BitVec 32 := 0#32
  let v34 : BitVec 1 := Scalar.cmpi .slt v32 c0_i32_14
  let c0_i32_15 : BitVec 32 := 0#32
  let v35 : BitVec 1 := Scalar.cmpi .slt v31 c0_i32_15
  let v36 : BitVec 1 := Scalar.xori v34 v35
  let c0_i32_13 : BitVec 32 := 0#32
  let v33 : BitVec 1 := Scalar.cmpi .ne v32 c0_i32_13
  let v37 : BitVec 1 := Scalar.andi v36 v33
  let v38 : BitVec 32 := Scalar.addi v32 v31
  let v39 : BitVec 32 := Scalar.select v37 v38 v32
  let c0_i32_16 : BitVec 32 := 0#32
  let v40 : BitVec 1 := Scalar.cmpi .eq v39 c0_i32_16
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c4_i32_4 : BitVec 32 := 4#32
  let c0_i32_7 : BitVec 32 := 0#32
  let v19 : BitVec 1 := Scalar.cmpi .sgt c4_i32_4 c0_i32_7
  let v20 : BitVec 32 := Scalar.extui v19
  let c0_i32_8 : BitVec 32 := 0#32
  let v21 : BitVec 1 := Scalar.cmpi .slt c4_i32_4 c0_i32_8
  let v22 : BitVec 32 := Scalar.extui v21
  let v23 : BitVec 32 := Scalar.subi v20 v22
  let v24 : BitVec 1 := Scalar.cmpi .ne v18 v23
  let v25 : BitVec 32 := Scalar.remsi v2 c4_i32_4
  let c0_i32_9 : BitVec 32 := 0#32
  let v26 : BitVec 1 := Scalar.cmpi .ne v25 c0_i32_9
  let v27 : BitVec 1 := Scalar.andi v24 v26
  let v13 : BitVec 32 := Scalar.divsi v2 c4_i32_4
  let c1_i32_10 : BitVec 32 := 1#32
  let v28 : BitVec 32 := Scalar.subi v13 c1_i32_10
  let v29 : BitVec 32 := Scalar.select v27 v28 v13
  let c3_i32 : BitVec 32 := 3#32
  let v41 : BitVec 32 := Scalar.subi c3_i32 v29
  let v42 : BitVec 32 := Scalar.select v40 v29 v41
  let v44 : BitVec 32 := Scalar.addi v43 v42
  let c1_i32_18 : BitVec 32 := 1#32
  let v45 : BitVec 32 := Scalar.addi v44 c1_i32_18
  let c16_i32_19 : BitVec 32 := 16#32
  let c0_i32_20 : BitVec 32 := 0#32
  let v46 : BitVec 1 := Scalar.cmpi .eq c16_i32_19 c0_i32_20
  let c1_i32_21 : BitVec 32 := 1#32
  let v47 : BitVec 32 := Scalar.select v46 c1_i32_21 c16_i32_19
  let v48 : BitVec 32 := Scalar.remsi v45 v47
  let c0_i32_23 : BitVec 32 := 0#32
  let v50 : BitVec 1 := Scalar.cmpi .slt v48 c0_i32_23
  let c0_i32_24 : BitVec 32 := 0#32
  let v51 : BitVec 1 := Scalar.cmpi .slt v47 c0_i32_24
  let v52 : BitVec 1 := Scalar.xori v50 v51
  let c0_i32_22 : BitVec 32 := 0#32
  let v49 : BitVec 1 := Scalar.cmpi .ne v48 c0_i32_22
  let v53 : BitVec 1 := Scalar.andi v52 v49
  let v54 : BitVec 32 := Scalar.addi v48 v47
  let v55 : BitVec 32 := Scalar.select v53 v54 v48
  let c0_i32_26 : BitVec 32 := 0#32
  let v57 : BitVec 1 := Scalar.cmpi .sgt v55 c0_i32_26
  let v58 : BitVec 32 := Scalar.extui v57
  let c0_i32_27 : BitVec 32 := 0#32
  let v59 : BitVec 1 := Scalar.cmpi .slt v55 c0_i32_27
  let v60 : BitVec 32 := Scalar.extui v59
  let v61 : BitVec 32 := Scalar.subi v58 v60
  let c4_i32_25 : BitVec 32 := 4#32
  let c0_i32_28 : BitVec 32 := 0#32
  let v62 : BitVec 1 := Scalar.cmpi .sgt c4_i32_25 c0_i32_28
  let v63 : BitVec 32 := Scalar.extui v62
  let c0_i32_29 : BitVec 32 := 0#32
  let v64 : BitVec 1 := Scalar.cmpi .slt c4_i32_25 c0_i32_29
  let v65 : BitVec 32 := Scalar.extui v64
  let v66 : BitVec 32 := Scalar.subi v63 v65
  let v67 : BitVec 1 := Scalar.cmpi .ne v61 v66
  let v68 : BitVec 32 := Scalar.remsi v55 c4_i32_25
  let c0_i32_30 : BitVec 32 := 0#32
  let v69 : BitVec 1 := Scalar.cmpi .ne v68 c0_i32_30
  let v70 : BitVec 1 := Scalar.andi v67 v69
  let v56 : BitVec 32 := Scalar.divsi v55 c4_i32_25
  let c1_i32_31 : BitVec 32 := 1#32
  let v71 : BitVec 32 := Scalar.subi v56 c1_i32_31
  let v72 : BitVec 32 := Scalar.select v70 v71 v56
  let c2_i32_38 : BitVec 32 := 2#32
  let c0_i32_39 : BitVec 32 := 0#32
  let v83 : BitVec 1 := Scalar.cmpi .eq c2_i32_38 c0_i32_39
  let c1_i32_40 : BitVec 32 := 1#32
  let v84 : BitVec 32 := Scalar.select v83 c1_i32_40 c2_i32_38
  let v85 : BitVec 32 := Scalar.remsi v72 v84
  let c0_i32_42 : BitVec 32 := 0#32
  let v87 : BitVec 1 := Scalar.cmpi .slt v85 c0_i32_42
  let c0_i32_43 : BitVec 32 := 0#32
  let v88 : BitVec 1 := Scalar.cmpi .slt v84 c0_i32_43
  let v89 : BitVec 1 := Scalar.xori v87 v88
  let c0_i32_41 : BitVec 32 := 0#32
  let v86 : BitVec 1 := Scalar.cmpi .ne v85 c0_i32_41
  let v90 : BitVec 1 := Scalar.andi v89 v86
  let v91 : BitVec 32 := Scalar.addi v85 v84
  let v92 : BitVec 32 := Scalar.select v90 v91 v85
  let c0_i32_44 : BitVec 32 := 0#32
  let v93 : BitVec 1 := Scalar.cmpi .eq v92 c0_i32_44
  let c4_i32_32 : BitVec 32 := 4#32
  let c0_i32_33 : BitVec 32 := 0#32
  let v73 : BitVec 1 := Scalar.cmpi .eq c4_i32_32 c0_i32_33
  let c1_i32_34 : BitVec 32 := 1#32
  let v74 : BitVec 32 := Scalar.select v73 c1_i32_34 c4_i32_32
  let v75 : BitVec 32 := Scalar.remsi v55 v74
  let c0_i32_36 : BitVec 32 := 0#32
  let v77 : BitVec 1 := Scalar.cmpi .slt v75 c0_i32_36
  let c0_i32_37 : BitVec 32 := 0#32
  let v78 : BitVec 1 := Scalar.cmpi .slt v74 c0_i32_37
  let v79 : BitVec 1 := Scalar.xori v77 v78
  let c0_i32_35 : BitVec 32 := 0#32
  let v76 : BitVec 1 := Scalar.cmpi .ne v75 c0_i32_35
  let v80 : BitVec 1 := Scalar.andi v79 v76
  let v81 : BitVec 32 := Scalar.addi v75 v74
  let v82 : BitVec 32 := Scalar.select v80 v81 v75
  let c3_i32_45 : BitVec 32 := 3#32
  let v94 : BitVec 32 := Scalar.subi c3_i32_45 v82
  let v95 : BitVec 32 := Scalar.select v93 v82 v94
  let v96 : BitVec 32 := Scalar.muli c4_i32_46 v95
  let v97 : BitVec 32 := Scalar.addi v96 v72
  let c1_i32_3369 : BitVec 32 := 1#32
  let v4547 : BitVec 32 := Scalar.muli v97 c1_i32_3369
  let v4548 : BitVec 32 := Scalar.addi c0_i32_3370 v4547
  v4548.toNat
def k0_dev90 (d0 : Dev nD) : Nat :=
  let c0_i32_3382 : BitVec 32 := 0#32
  let c4_i32_75 : BitVec 32 := 4#32
  let c4_i32_17 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let v43 : BitVec 32 := Scalar.muli c4_i32_17 v12
  let c2_i32 : BitVec 32 := 2#32
  let c0_i32_11 : BitVec 32 := 0#32
  let v30 : BitVec 1 := Scalar.cmpi .eq c2_i32 c0_i32_11
  let c1_i32_12 : BitVec 32 := 1#32
  let v31 : BitVec 32 := Scalar.select v30 c1_i32_12 c2_i32
  let v32 : BitVec 32 := Scalar.remsi v12 v31
  let c0_i32_14 : BitVec 32 := 0#32
  let v34 : BitVec 1 := Scalar.cmpi .slt v32 c0_i32_14
  let c0_i32_15 : BitVec 32 := 0#32
  let v35 : BitVec 1 := Scalar.cmpi .slt v31 c0_i32_15
  let v36 : BitVec 1 := Scalar.xori v34 v35
  let c0_i32_13 : BitVec 32 := 0#32
  let v33 : BitVec 1 := Scalar.cmpi .ne v32 c0_i32_13
  let v37 : BitVec 1 := Scalar.andi v36 v33
  let v38 : BitVec 32 := Scalar.addi v32 v31
  let v39 : BitVec 32 := Scalar.select v37 v38 v32
  let c0_i32_16 : BitVec 32 := 0#32
  let v40 : BitVec 1 := Scalar.cmpi .eq v39 c0_i32_16
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c4_i32_4 : BitVec 32 := 4#32
  let c0_i32_7 : BitVec 32 := 0#32
  let v19 : BitVec 1 := Scalar.cmpi .sgt c4_i32_4 c0_i32_7
  let v20 : BitVec 32 := Scalar.extui v19
  let c0_i32_8 : BitVec 32 := 0#32
  let v21 : BitVec 1 := Scalar.cmpi .slt c4_i32_4 c0_i32_8
  let v22 : BitVec 32 := Scalar.extui v21
  let v23 : BitVec 32 := Scalar.subi v20 v22
  let v24 : BitVec 1 := Scalar.cmpi .ne v18 v23
  let v25 : BitVec 32 := Scalar.remsi v2 c4_i32_4
  let c0_i32_9 : BitVec 32 := 0#32
  let v26 : BitVec 1 := Scalar.cmpi .ne v25 c0_i32_9
  let v27 : BitVec 1 := Scalar.andi v24 v26
  let v13 : BitVec 32 := Scalar.divsi v2 c4_i32_4
  let c1_i32_10 : BitVec 32 := 1#32
  let v28 : BitVec 32 := Scalar.subi v13 c1_i32_10
  let v29 : BitVec 32 := Scalar.select v27 v28 v13
  let c3_i32 : BitVec 32 := 3#32
  let v41 : BitVec 32 := Scalar.subi c3_i32 v29
  let v42 : BitVec 32 := Scalar.select v40 v29 v41
  let v44 : BitVec 32 := Scalar.addi v43 v42
  let c1_i32_47 : BitVec 32 := 1#32
  let v98 : BitVec 32 := Scalar.subi v44 c1_i32_47
  let c16_i32_48 : BitVec 32 := 16#32
  let c0_i32_49 : BitVec 32 := 0#32
  let v99 : BitVec 1 := Scalar.cmpi .eq c16_i32_48 c0_i32_49
  let c1_i32_50 : BitVec 32 := 1#32
  let v100 : BitVec 32 := Scalar.select v99 c1_i32_50 c16_i32_48
  let v101 : BitVec 32 := Scalar.remsi v98 v100
  let c0_i32_52 : BitVec 32 := 0#32
  let v103 : BitVec 1 := Scalar.cmpi .slt v101 c0_i32_52
  let c0_i32_53 : BitVec 32 := 0#32
  let v104 : BitVec 1 := Scalar.cmpi .slt v100 c0_i32_53
  let v105 : BitVec 1 := Scalar.xori v103 v104
  let c0_i32_51 : BitVec 32 := 0#32
  let v102 : BitVec 1 := Scalar.cmpi .ne v101 c0_i32_51
  let v106 : BitVec 1 := Scalar.andi v105 v102
  let v107 : BitVec 32 := Scalar.addi v101 v100
  let v108 : BitVec 32 := Scalar.select v106 v107 v101
  let c0_i32_55 : BitVec 32 := 0#32
  let v110 : BitVec 1 := Scalar.cmpi .sgt v108 c0_i32_55
  let v111 : BitVec 32 := Scalar.extui v110
  let c0_i32_56 : BitVec 32 := 0#32
  let v112 : BitVec 1 := Scalar.cmpi .slt v108 c0_i32_56
  let v113 : BitVec 32 := Scalar.extui v112
  let v114 : BitVec 32 := Scalar.subi v111 v113
  let c4_i32_54 : BitVec 32 := 4#32
  let c0_i32_57 : BitVec 32 := 0#32
  let v115 : BitVec 1 := Scalar.cmpi .sgt c4_i32_54 c0_i32_57
  let v116 : BitVec 32 := Scalar.extui v115
  let c0_i32_58 : BitVec 32 := 0#32
  let v117 : BitVec 1 := Scalar.cmpi .slt c4_i32_54 c0_i32_58
  let v118 : BitVec 32 := Scalar.extui v117
  let v119 : BitVec 32 := Scalar.subi v116 v118
  let v120 : BitVec 1 := Scalar.cmpi .ne v114 v119
  let v121 : BitVec 32 := Scalar.remsi v108 c4_i32_54
  let c0_i32_59 : BitVec 32 := 0#32
  let v122 : BitVec 1 := Scalar.cmpi .ne v121 c0_i32_59
  let v123 : BitVec 1 := Scalar.andi v120 v122
  let v109 : BitVec 32 := Scalar.divsi v108 c4_i32_54
  let c1_i32_60 : BitVec 32 := 1#32
  let v124 : BitVec 32 := Scalar.subi v109 c1_i32_60
  let v125 : BitVec 32 := Scalar.select v123 v124 v109
  let c2_i32_67 : BitVec 32 := 2#32
  let c0_i32_68 : BitVec 32 := 0#32
  let v136 : BitVec 1 := Scalar.cmpi .eq c2_i32_67 c0_i32_68
  let c1_i32_69 : BitVec 32 := 1#32
  let v137 : BitVec 32 := Scalar.select v136 c1_i32_69 c2_i32_67
  let v138 : BitVec 32 := Scalar.remsi v125 v137
  let c0_i32_71 : BitVec 32 := 0#32
  let v140 : BitVec 1 := Scalar.cmpi .slt v138 c0_i32_71
  let c0_i32_72 : BitVec 32 := 0#32
  let v141 : BitVec 1 := Scalar.cmpi .slt v137 c0_i32_72
  let v142 : BitVec 1 := Scalar.xori v140 v141
  let c0_i32_70 : BitVec 32 := 0#32
  let v139 : BitVec 1 := Scalar.cmpi .ne v138 c0_i32_70
  let v143 : BitVec 1 := Scalar.andi v142 v139
  let v144 : BitVec 32 := Scalar.addi v138 v137
  let v145 : BitVec 32 := Scalar.select v143 v144 v138
  let c0_i32_73 : BitVec 32 := 0#32
  let v146 : BitVec 1 := Scalar.cmpi .eq v145 c0_i32_73
  let c4_i32_61 : BitVec 32 := 4#32
  let c0_i32_62 : BitVec 32 := 0#32
  let v126 : BitVec 1 := Scalar.cmpi .eq c4_i32_61 c0_i32_62
  let c1_i32_63 : BitVec 32 := 1#32
  let v127 : BitVec 32 := Scalar.select v126 c1_i32_63 c4_i32_61
  let v128 : BitVec 32 := Scalar.remsi v108 v127
  let c0_i32_65 : BitVec 32 := 0#32
  let v130 : BitVec 1 := Scalar.cmpi .slt v128 c0_i32_65
  let c0_i32_66 : BitVec 32 := 0#32
  let v131 : BitVec 1 := Scalar.cmpi .slt v127 c0_i32_66
  let v132 : BitVec 1 := Scalar.xori v130 v131
  let c0_i32_64 : BitVec 32 := 0#32
  let v129 : BitVec 1 := Scalar.cmpi .ne v128 c0_i32_64
  let v133 : BitVec 1 := Scalar.andi v132 v129
  let v134 : BitVec 32 := Scalar.addi v128 v127
  let v135 : BitVec 32 := Scalar.select v133 v134 v128
  let c3_i32_74 : BitVec 32 := 3#32
  let v147 : BitVec 32 := Scalar.subi c3_i32_74 v135
  let v148 : BitVec 32 := Scalar.select v146 v135 v147
  let v149 : BitVec 32 := Scalar.muli c4_i32_75 v148
  let v150 : BitVec 32 := Scalar.addi v149 v125
  let c1_i32_3381 : BitVec 32 := 1#32
  let v4557 : BitVec 32 := Scalar.muli v150 c1_i32_3381
  let v4558 : BitVec 32 := Scalar.addi c0_i32_3382 v4557
  v4558.toNat
def k0_dev91 (d0 : Dev nD) : Nat :=
  let c0_i32_3408 : BitVec 32 := 0#32
  let c4_i32_75 : BitVec 32 := 4#32
  let c4_i32_17 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let v43 : BitVec 32 := Scalar.muli c4_i32_17 v12
  let c2_i32 : BitVec 32 := 2#32
  let c0_i32_11 : BitVec 32 := 0#32
  let v30 : BitVec 1 := Scalar.cmpi .eq c2_i32 c0_i32_11
  let c1_i32_12 : BitVec 32 := 1#32
  let v31 : BitVec 32 := Scalar.select v30 c1_i32_12 c2_i32
  let v32 : BitVec 32 := Scalar.remsi v12 v31
  let c0_i32_14 : BitVec 32 := 0#32
  let v34 : BitVec 1 := Scalar.cmpi .slt v32 c0_i32_14
  let c0_i32_15 : BitVec 32 := 0#32
  let v35 : BitVec 1 := Scalar.cmpi .slt v31 c0_i32_15
  let v36 : BitVec 1 := Scalar.xori v34 v35
  let c0_i32_13 : BitVec 32 := 0#32
  let v33 : BitVec 1 := Scalar.cmpi .ne v32 c0_i32_13
  let v37 : BitVec 1 := Scalar.andi v36 v33
  let v38 : BitVec 32 := Scalar.addi v32 v31
  let v39 : BitVec 32 := Scalar.select v37 v38 v32
  let c0_i32_16 : BitVec 32 := 0#32
  let v40 : BitVec 1 := Scalar.cmpi .eq v39 c0_i32_16
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c4_i32_4 : BitVec 32 := 4#32
  let c0_i32_7 : BitVec 32 := 0#32
  let v19 : BitVec 1 := Scalar.cmpi .sgt c4_i32_4 c0_i32_7
  let v20 : BitVec 32 := Scalar.extui v19
  let c0_i32_8 : BitVec 32 := 0#32
  let v21 : BitVec 1 := Scalar.cmpi .slt c4_i32_4 c0_i32_8
  let v22 : BitVec 32 := Scalar.extui v21
  let v23 : BitVec 32 := Scalar.subi v20 v22
  let v24 : BitVec 1 := Scalar.cmpi .ne v18 v23
  let v25 : BitVec 32 := Scalar.remsi v2 c4_i32_4
  let c0_i32_9 : BitVec 32 := 0#32
  let v26 : BitVec 1 := Scalar.cmpi .ne v25 c0_i32_9
  let v27 : BitVec 1 := Scalar.andi v24 v26
  let v13 : BitVec 32 := Scalar.divsi v2 c4_i32_4
  let c1_i32_10 : BitVec 32 := 1#32
  let v28 : BitVec 32 := Scalar.subi v13 c1_i32_10
  let v29 : BitVec 32 := Scalar.select v27 v28 v13
  let c3_i32 : BitVec 32 := 3#32
  let v41 : BitVec 32 := Scalar.subi c3_i32 v29
  let v42 : BitVec 32 := Scalar.select v40 v29 v41
  let v44 : BitVec 32 := Scalar.addi v43 v42
  let c1_i32_47 : BitVec 32 := 1#32
  let v98 : BitVec 32 := Scalar.subi v44 c1_i32_47
  let c16_i32_48 : BitVec 32 := 16#32
  let c0_i32_49 : BitVec 32 := 0#32
  let v99 : BitVec 1 := Scalar.cmpi .eq c16_i32_48 c0_i32_49
  let c1_i32_50 : BitVec 32 := 1#32
  let v100 : BitVec 32 := Scalar.select v99 c1_i32_50 c16_i32_48
  let v101 : BitVec 32 := Scalar.remsi v98 v100
  let c0_i32_52 : BitVec 32 := 0#32
  let v103 : BitVec 1 := Scalar.cmpi .slt v101 c0_i32_52
  let c0_i32_53 : BitVec 32 := 0#32
  let v104 : BitVec 1 := Scalar.cmpi .slt v100 c0_i32_53
  let v105 : BitVec 1 := Scalar.xori v103 v104
  let c0_i32_51 : BitVec 32 := 0#32
  let v102 : BitVec 1 := Scalar.cmpi .ne v101 c0_i32_51
  let v106 : BitVec 1 := Scalar.andi v105 v102
  let v107 : BitVec 32 := Scalar.addi v101 v100
  let v108 : BitVec 32 := Scalar.select v106 v107 v101
  let c0_i32_55 : BitVec 32 := 0#32
  let v110 : BitVec 1 := Scalar.cmpi .sgt v108 c0_i32_55
  let v111 : BitVec 32 := Scalar.extui v110
  let c0_i32_56 : BitVec 32 := 0#32
  let v112 : BitVec 1 := Scalar.cmpi .slt v108 c0_i32_56
  let v113 : BitVec 32 := Scalar.extui v112
  let v114 : BitVec 32 := Scalar.subi v111 v113
  let c4_i32_54 : BitVec 32 := 4#32
  let c0_i32_57 : BitVec 32 := 0#32
  let v115 : BitVec 1 := Scalar.cmpi .sgt c4_i32_54 c0_i32_57
  let v116 : BitVec 32 := Scalar.extui v115
  let c0_i32_58 : BitVec 32 := 0#32
  let v117 : BitVec 1 := Scalar.cmpi .slt c4_i32_54 c0_i32_58
  let v118 : BitVec 32 := Scalar.extui v117
  let v119 : BitVec 32 := Scalar.subi v116 v118
  let v120 : BitVec 1 := Scalar.cmpi .ne v114 v119
  let v121 : BitVec 32 := Scalar.remsi v108 c4_i32_54
  let c0_i32_59 : BitVec 32 := 0#32
  let v122 : BitVec 1 := Scalar.cmpi .ne v121 c0_i32_59
  let v123 : BitVec 1 := Scalar.andi v120 v122
  let v109 : BitVec 32 := Scalar.divsi v108 c4_i32_54
  let c1_i32_60 : BitVec 32 := 1#32
  let v124 : BitVec 32 := Scalar.subi v109 c1_i32_60
  let v125 : BitVec 32 := Scalar.select v123 v124 v109
  let c2_i32_67 : BitVec 32 := 2#32
  let c0_i32_68 : BitVec 32 := 0#32
  let v136 : BitVec 1 := Scalar.cmpi .eq c2_i32_67 c0_i32_68
  let c1_i32_69 : BitVec 32 := 1#32
  let v137 : BitVec 32 := Scalar.select v136 c1_i32_69 c2_i32_67
  let v138 : BitVec 32 := Scalar.remsi v125 v137
  let c0_i32_71 : BitVec 32 := 0#32
  let v140 : BitVec 1 := Scalar.cmpi .slt v138 c0_i32_71
  let c0_i32_72 : BitVec 32 := 0#32
  let v141 : BitVec 1 := Scalar.cmpi .slt v137 c0_i32_72
  let v142 : BitVec 1 := Scalar.xori v140 v141
  let c0_i32_70 : BitVec 32 := 0#32
  let v139 : BitVec 1 := Scalar.cmpi .ne v138 c0_i32_70
  let v143 : BitVec 1 := Scalar.andi v142 v139
  let v144 : BitVec 32 := Scalar.addi v138 v137
  let v145 : BitVec 32 := Scalar.select v143 v144 v138
  let c0_i32_73 : BitVec 32 := 0#32
  let v146 : BitVec 1 := Scalar.cmpi .eq v145 c0_i32_73
  let c4_i32_61 : BitVec 32 := 4#32
  let c0_i32_62 : BitVec 32 := 0#32
  let v126 : BitVec 1 := Scalar.cmpi .eq c4_i32_61 c0_i32_62
  let c1_i32_63 : BitVec 32 := 1#32
  let v127 : BitVec 32 := Scalar.select v126 c1_i32_63 c4_i32_61
  let v128 : BitVec 32 := Scalar.remsi v108 v127
  let c0_i32_65 : BitVec 32 := 0#32
  let v130 : BitVec 1 := Scalar.cmpi .slt v128 c0_i32_65
  let c0_i32_66 : BitVec 32 := 0#32
  let v131 : BitVec 1 := Scalar.cmpi .slt v127 c0_i32_66
  let v132 : BitVec 1 := Scalar.xori v130 v131
  let c0_i32_64 : BitVec 32 := 0#32
  let v129 : BitVec 1 := Scalar.cmpi .ne v128 c0_i32_64
  let v133 : BitVec 1 := Scalar.andi v132 v129
  let v134 : BitVec 32 := Scalar.addi v128 v127
  let v135 : BitVec 32 := Scalar.select v133 v134 v128
  let c3_i32_74 : BitVec 32 := 3#32
  let v147 : BitVec 32 := Scalar.subi c3_i32_74 v135
  let v148 : BitVec 32 := Scalar.select v146 v135 v147
  let v149 : BitVec 32 := Scalar.muli c4_i32_75 v148
  let v150 : BitVec 32 := Scalar.addi v149 v125
  let c1_i32_3407 : BitVec 32 := 1#32
  let v4581 : BitVec 32 := Scalar.muli v150 c1_i32_3407
  let v4582 : BitVec 32 := Scalar.addi c0_i32_3408 v4581
  v4582.toNat
def k0_dev92 (d0 : Dev nD) : Nat :=
  let c0_i32_3436 : BitVec 32 := 0#32
  let c4_i32_46 : BitVec 32 := 4#32
  let c4_i32_17 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let v43 : BitVec 32 := Scalar.muli c4_i32_17 v12
  let c2_i32 : BitVec 32 := 2#32
  let c0_i32_11 : BitVec 32 := 0#32
  let v30 : BitVec 1 := Scalar.cmpi .eq c2_i32 c0_i32_11
  let c1_i32_12 : BitVec 32 := 1#32
  let v31 : BitVec 32 := Scalar.select v30 c1_i32_12 c2_i32
  let v32 : BitVec 32 := Scalar.remsi v12 v31
  let c0_i32_14 : BitVec 32 := 0#32
  let v34 : BitVec 1 := Scalar.cmpi .slt v32 c0_i32_14
  let c0_i32_15 : BitVec 32 := 0#32
  let v35 : BitVec 1 := Scalar.cmpi .slt v31 c0_i32_15
  let v36 : BitVec 1 := Scalar.xori v34 v35
  let c0_i32_13 : BitVec 32 := 0#32
  let v33 : BitVec 1 := Scalar.cmpi .ne v32 c0_i32_13
  let v37 : BitVec 1 := Scalar.andi v36 v33
  let v38 : BitVec 32 := Scalar.addi v32 v31
  let v39 : BitVec 32 := Scalar.select v37 v38 v32
  let c0_i32_16 : BitVec 32 := 0#32
  let v40 : BitVec 1 := Scalar.cmpi .eq v39 c0_i32_16
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c4_i32_4 : BitVec 32 := 4#32
  let c0_i32_7 : BitVec 32 := 0#32
  let v19 : BitVec 1 := Scalar.cmpi .sgt c4_i32_4 c0_i32_7
  let v20 : BitVec 32 := Scalar.extui v19
  let c0_i32_8 : BitVec 32 := 0#32
  let v21 : BitVec 1 := Scalar.cmpi .slt c4_i32_4 c0_i32_8
  let v22 : BitVec 32 := Scalar.extui v21
  let v23 : BitVec 32 := Scalar.subi v20 v22
  let v24 : BitVec 1 := Scalar.cmpi .ne v18 v23
  let v25 : BitVec 32 := Scalar.remsi v2 c4_i32_4
  let c0_i32_9 : BitVec 32 := 0#32
  let v26 : BitVec 1 := Scalar.cmpi .ne v25 c0_i32_9
  let v27 : BitVec 1 := Scalar.andi v24 v26
  let v13 : BitVec 32 := Scalar.divsi v2 c4_i32_4
  let c1_i32_10 : BitVec 32 := 1#32
  let v28 : BitVec 32 := Scalar.subi v13 c1_i32_10
  let v29 : BitVec 32 := Scalar.select v27 v28 v13
  let c3_i32 : BitVec 32 := 3#32
  let v41 : BitVec 32 := Scalar.subi c3_i32 v29
  let v42 : BitVec 32 := Scalar.select v40 v29 v41
  let v44 : BitVec 32 := Scalar.addi v43 v42
  let c1_i32_18 : BitVec 32 := 1#32
  let v45 : BitVec 32 := Scalar.addi v44 c1_i32_18
  let c16_i32_19 : BitVec 32 := 16#32
  let c0_i32_20 : BitVec 32 := 0#32
  let v46 : BitVec 1 := Scalar.cmpi .eq c16_i32_19 c0_i32_20
  let c1_i32_21 : BitVec 32 := 1#32
  let v47 : BitVec 32 := Scalar.select v46 c1_i32_21 c16_i32_19
  let v48 : BitVec 32 := Scalar.remsi v45 v47
  let c0_i32_23 : BitVec 32 := 0#32
  let v50 : BitVec 1 := Scalar.cmpi .slt v48 c0_i32_23
  let c0_i32_24 : BitVec 32 := 0#32
  let v51 : BitVec 1 := Scalar.cmpi .slt v47 c0_i32_24
  let v52 : BitVec 1 := Scalar.xori v50 v51
  let c0_i32_22 : BitVec 32 := 0#32
  let v49 : BitVec 1 := Scalar.cmpi .ne v48 c0_i32_22
  let v53 : BitVec 1 := Scalar.andi v52 v49
  let v54 : BitVec 32 := Scalar.addi v48 v47
  let v55 : BitVec 32 := Scalar.select v53 v54 v48
  let c0_i32_26 : BitVec 32 := 0#32
  let v57 : BitVec 1 := Scalar.cmpi .sgt v55 c0_i32_26
  let v58 : BitVec 32 := Scalar.extui v57
  let c0_i32_27 : BitVec 32 := 0#32
  let v59 : BitVec 1 := Scalar.cmpi .slt v55 c0_i32_27
  let v60 : BitVec 32 := Scalar.extui v59
  let v61 : BitVec 32 := Scalar.subi v58 v60
  let c4_i32_25 : BitVec 32 := 4#32
  let c0_i32_28 : BitVec 32 := 0#32
  let v62 : BitVec 1 := Scalar.cmpi .sgt c4_i32_25 c0_i32_28
  let v63 : BitVec 32 := Scalar.extui v62
  let c0_i32_29 : BitVec 32 := 0#32
  let v64 : BitVec 1 := Scalar.cmpi .slt c4_i32_25 c0_i32_29
  let v65 : BitVec 32 := Scalar.extui v64
  let v66 : BitVec 32 := Scalar.subi v63 v65
  let v67 : BitVec 1 := Scalar.cmpi .ne v61 v66
  let v68 : BitVec 32 := Scalar.remsi v55 c4_i32_25
  let c0_i32_30 : BitVec 32 := 0#32
  let v69 : BitVec 1 := Scalar.cmpi .ne v68 c0_i32_30
  let v70 : BitVec 1 := Scalar.andi v67 v69
  let v56 : BitVec 32 := Scalar.divsi v55 c4_i32_25
  let c1_i32_31 : BitVec 32 := 1#32
  let v71 : BitVec 32 := Scalar.subi v56 c1_i32_31
  let v72 : BitVec 32 := Scalar.select v70 v71 v56
  let c2_i32_38 : BitVec 32 := 2#32
  let c0_i32_39 : BitVec 32 := 0#32
  let v83 : BitVec 1 := Scalar.cmpi .eq c2_i32_38 c0_i32_39
  let c1_i32_40 : BitVec 32 := 1#32
  let v84 : BitVec 32 := Scalar.select v83 c1_i32_40 c2_i32_38
  let v85 : BitVec 32 := Scalar.remsi v72 v84
  let c0_i32_42 : BitVec 32 := 0#32
  let v87 : BitVec 1 := Scalar.cmpi .slt v85 c0_i32_42
  let c0_i32_43 : BitVec 32 := 0#32
  let v88 : BitVec 1 := Scalar.cmpi .slt v84 c0_i32_43
  let v89 : BitVec 1 := Scalar.xori v87 v88
  let c0_i32_41 : BitVec 32 := 0#32
  let v86 : BitVec 1 := Scalar.cmpi .ne v85 c0_i32_41
  let v90 : BitVec 1 := Scalar.andi v89 v86
  let v91 : BitVec 32 := Scalar.addi v85 v84
  let v92 : BitVec 32 := Scalar.select v90 v91 v85
  let c0_i32_44 : BitVec 32 := 0#32
  let v93 : BitVec 1 := Scalar.cmpi .eq v92 c0_i32_44
  let c4_i32_32 : BitVec 32 := 4#32
  let c0_i32_33 : BitVec 32 := 0#32
  let v73 : BitVec 1 := Scalar.cmpi .eq c4_i32_32 c0_i32_33
  let c1_i32_34 : BitVec 32 := 1#32
  let v74 : BitVec 32 := Scalar.select v73 c1_i32_34 c4_i32_32
  let v75 : BitVec 32 := Scalar.remsi v55 v74
  let c0_i32_36 : BitVec 32 := 0#32
  let v77 : BitVec 1 := Scalar.cmpi .slt v75 c0_i32_36
  let c0_i32_37 : BitVec 32 := 0#32
  let v78 : BitVec 1 := Scalar.cmpi .slt v74 c0_i32_37
  let v79 : BitVec 1 := Scalar.xori v77 v78
  let c0_i32_35 : BitVec 32 := 0#32
  let v76 : BitVec 1 := Scalar.cmpi .ne v75 c0_i32_35
  let v80 : BitVec 1 := Scalar.andi v79 v76
  let v81 : BitVec 32 := Scalar.addi v75 v74
  let v82 : BitVec 32 := Scalar.select v80 v81 v75
  let c3_i32_45 : BitVec 32 := 3#32
  let v94 : BitVec 32 := Scalar.subi c3_i32_45 v82
  let v95 : BitVec 32 := Scalar.select v93 v82 v94
  let v96 : BitVec 32 := Scalar.muli c4_i32_46 v95
  let v97 : BitVec 32 := Scalar.addi v96 v72
  let c1_i32_3435 : BitVec 32 := 1#32
  let v4605 : BitVec 32 := Scalar.muli v97 c1_i32_3435
  let v4606 : BitVec 32 := Scalar.addi c0_i32_3436 v4605
  v4606.toNat
def k0_dev93 (d0 : Dev nD) : Nat :=
  let c0_i32_3450 : BitVec 32 := 0#32
  let c4_i32_46 : BitVec 32 := 4#32
  let c4_i32_17 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let v43 : BitVec 32 := Scalar.muli c4_i32_17 v12
  let c2_i32 : BitVec 32 := 2#32
  let c0_i32_11 : BitVec 32 := 0#32
  let v30 : BitVec 1 := Scalar.cmpi .eq c2_i32 c0_i32_11
  let c1_i32_12 : BitVec 32 := 1#32
  let v31 : BitVec 32 := Scalar.select v30 c1_i32_12 c2_i32
  let v32 : BitVec 32 := Scalar.remsi v12 v31
  let c0_i32_14 : BitVec 32 := 0#32
  let v34 : BitVec 1 := Scalar.cmpi .slt v32 c0_i32_14
  let c0_i32_15 : BitVec 32 := 0#32
  let v35 : BitVec 1 := Scalar.cmpi .slt v31 c0_i32_15
  let v36 : BitVec 1 := Scalar.xori v34 v35
  let c0_i32_13 : BitVec 32 := 0#32
  let v33 : BitVec 1 := Scalar.cmpi .ne v32 c0_i32_13
  let v37 : BitVec 1 := Scalar.andi v36 v33
  let v38 : BitVec 32 := Scalar.addi v32 v31
  let v39 : BitVec 32 := Scalar.select v37 v38 v32
  let c0_i32_16 : BitVec 32 := 0#32
  let v40 : BitVec 1 := Scalar.cmpi .eq v39 c0_i32_16
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c4_i32_4 : BitVec 32 := 4#32
  let c0_i32_7 : BitVec 32 := 0#32
  let v19 : BitVec 1 := Scalar.cmpi .sgt c4_i32_4 c0_i32_7
  let v20 : BitVec 32 := Scalar.extui v19
  let c0_i32_8 : BitVec 32 := 0#32
  let v21 : BitVec 1 := Scalar.cmpi .slt c4_i32_4 c0_i32_8
  let v22 : BitVec 32 := Scalar.extui v21
  let v23 : BitVec 32 := Scalar.subi v20 v22
  let v24 : BitVec 1 := Scalar.cmpi .ne v18 v23
  let v25 : BitVec 32 := Scalar.remsi v2 c4_i32_4
  let c0_i32_9 : BitVec 32 := 0#32
  let v26 : BitVec 1 := Scalar.cmpi .ne v25 c0_i32_9
  let v27 : BitVec 1 := Scalar.andi v24 v26
  let v13 : BitVec 32 := Scalar.divsi v2 c4_i32_4
  let c1_i32_10 : BitVec 32 := 1#32
  let v28 : BitVec 32 := Scalar.subi v13 c1_i32_10
  let v29 : BitVec 32 := Scalar.select v27 v28 v13
  let c3_i32 : BitVec 32 := 3#32
  let v41 : BitVec 32 := Scalar.subi c3_i32 v29
  let v42 : BitVec 32 := Scalar.select v40 v29 v41
  let v44 : BitVec 32 := Scalar.addi v43 v42
  let c1_i32_18 : BitVec 32 := 1#32
  let v45 : BitVec 32 := Scalar.addi v44 c1_i32_18
  let c16_i32_19 : BitVec 32 := 16#32
  let c0_i32_20 : BitVec 32 := 0#32
  let v46 : BitVec 1 := Scalar.cmpi .eq c16_i32_19 c0_i32_20
  let c1_i32_21 : BitVec 32 := 1#32
  let v47 : BitVec 32 := Scalar.select v46 c1_i32_21 c16_i32_19
  let v48 : BitVec 32 := Scalar.remsi v45 v47
  let c0_i32_23 : BitVec 32 := 0#32
  let v50 : BitVec 1 := Scalar.cmpi .slt v48 c0_i32_23
  let c0_i32_24 : BitVec 32 := 0#32
  let v51 : BitVec 1 := Scalar.cmpi .slt v47 c0_i32_24
  let v52 : BitVec 1 := Scalar.xori v50 v51
  let c0_i32_22 : BitVec 32 := 0#32
  let v49 : BitVec 1 := Scalar.cmpi .ne v48 c0_i32_22
  let v53 : BitVec 1 := Scalar.andi v52 v49
  let v54 : BitVec 32 := Scalar.addi v48 v47
  let v55 : BitVec 32 := Scalar.select v53 v54 v48
  let c0_i32_26 : BitVec 32 := 0#32
  let v57 : BitVec 1 := Scalar.cmpi .sgt v55 c0_i32_26
  let v58 : BitVec 32 := Scalar.extui v57
  let c0_i32_27 : BitVec 32 := 0#32
  let v59 : BitVec 1 := Scalar.cmpi .slt v55 c0_i32_27
  let v60 : BitVec 32 := Scalar.extui v59
  let v61 : BitVec 32 := Scalar.subi v58 v60
  let c4_i32_25 : BitVec 32 := 4#32
  let c0_i32_28 : BitVec 32 := 0#32
  let v62 : BitVec 1 := Scalar.cmpi .sgt c4_i32_25 c0_i32_28
  let v63 : BitVec 32 := Scalar.extui v62
  let c0_i32_29 : BitVec 32 := 0#32
  let v64 : BitVec 1 := Scalar.cmpi .slt c4_i32_25 c0_i32_29
  let v65 : BitVec 32 := Scalar.extui v64
  let v66 : BitVec 32 := Scalar.subi v63 v65
  let v67 : BitVec 1 := Scalar.cmpi .ne v61 v66
  let v68 : BitVec 32 := Scalar.remsi v55 c4_i32_25
  let c0_i32_30 : BitVec 32 := 0#32
  let v69 : BitVec 1 := Scalar.cmpi .ne v68 c0_i32_30
  let v70 : BitVec 1 := Scalar.andi v67 v69
  let v56 : BitVec 32 := Scalar.divsi v55 c4_i32_25
  let c1_i32_31 : BitVec 32 := 1#32
  let v71 : BitVec 32 := Scalar.subi v56 c1_i32_31
  let v72 : BitVec 32 := Scalar.select v70 v71 v56
  let c2_i32_38 : BitVec 32 := 2#32
  let c0_i32_39 : BitVec 32 := 0#32
  let v83 : BitVec 1 := Scalar.cmpi .eq c2_i32_38 c0_i32_39
  let c1_i32_40 : BitVec 32 := 1#32
  let v84 : BitVec 32 := Scalar.select v83 c1_i32_40 c2_i32_38
  let v85 : BitVec 32 := Scalar.remsi v72 v84
  let c0_i32_42 : BitVec 32 := 0#32
  let v87 : BitVec 1 := Scalar.cmpi .slt v85 c0_i32_42
  let c0_i32_43 : BitVec 32 := 0#32
  let v88 : BitVec 1 := Scalar.cmpi .slt v84 c0_i32_43
  let v89 : BitVec 1 := Scalar.xori v87 v88
  let c0_i32_41 : BitVec 32 := 0#32
  let v86 : BitVec 1 := Scalar.cmpi .ne v85 c0_i32_41
  let v90 : BitVec 1 := Scalar.andi v89 v86
  let v91 : BitVec 32 := Scalar.addi v85 v84
  let v92 : BitVec 32 := Scalar.select v90 v91 v85
  let c0_i32_44 : BitVec 32 := 0#32
  let v93 : BitVec 1 := Scalar.cmpi .eq v92 c0_i32_44
  let c4_i32_32 : BitVec 32 := 4#32
  let c0_i32_33 : BitVec 32 := 0#32
  let v73 : BitVec 1 := Scalar.cmpi .eq c4_i32_32 c0_i32_33
  let c1_i32_34 : BitVec 32 := 1#32
  let v74 : BitVec 32 := Scalar.select v73 c1_i32_34 c4_i32_32
  let v75 : BitVec 32 := Scalar.remsi v55 v74
  let c0_i32_36 : BitVec 32 := 0#32
  let v77 : BitVec 1 := Scalar.cmpi .slt v75 c0_i32_36
  let c0_i32_37 : BitVec 32 := 0#32
  let v78 : BitVec 1 := Scalar.cmpi .slt v74 c0_i32_37
  let v79 : BitVec 1 := Scalar.xori v77 v78
  let c0_i32_35 : BitVec 32 := 0#32
  let v76 : BitVec 1 := Scalar.cmpi .ne v75 c0_i32_35
  let v80 : BitVec 1 := Scalar.andi v79 v76
  let v81 : BitVec 32 := Scalar.addi v75 v74
  let v82 : BitVec 32 := Scalar.select v80 v81 v75
  let c3_i32_45 : BitVec 32 := 3#32
  let v94 : BitVec 32 := Scalar.subi c3_i32_45 v82
  let v95 : BitVec 32 := Scalar.select v93 v82 v94
  let v96 : BitVec 32 := Scalar.muli c4_i32_46 v95
  let v97 : BitVec 32 := Scalar.addi v96 v72
  let c1_i32_3449 : BitVec 32 := 1#32
  let v4615 : BitVec 32 := Scalar.muli v97 c1_i32_3449
  let v4616 : BitVec 32 := Scalar.addi c0_i32_3450 v4615
  v4616.toNat
def k0_dev94 (d0 : Dev nD) : Nat :=
  let c0_i32_3462 : BitVec 32 := 0#32
  let c4_i32_75 : BitVec 32 := 4#32
  let c4_i32_17 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let v43 : BitVec 32 := Scalar.muli c4_i32_17 v12
  let c2_i32 : BitVec 32 := 2#32
  let c0_i32_11 : BitVec 32 := 0#32
  let v30 : BitVec 1 := Scalar.cmpi .eq c2_i32 c0_i32_11
  let c1_i32_12 : BitVec 32 := 1#32
  let v31 : BitVec 32 := Scalar.select v30 c1_i32_12 c2_i32
  let v32 : BitVec 32 := Scalar.remsi v12 v31
  let c0_i32_14 : BitVec 32 := 0#32
  let v34 : BitVec 1 := Scalar.cmpi .slt v32 c0_i32_14
  let c0_i32_15 : BitVec 32 := 0#32
  let v35 : BitVec 1 := Scalar.cmpi .slt v31 c0_i32_15
  let v36 : BitVec 1 := Scalar.xori v34 v35
  let c0_i32_13 : BitVec 32 := 0#32
  let v33 : BitVec 1 := Scalar.cmpi .ne v32 c0_i32_13
  let v37 : BitVec 1 := Scalar.andi v36 v33
  let v38 : BitVec 32 := Scalar.addi v32 v31
  let v39 : BitVec 32 := Scalar.select v37 v38 v32
  let c0_i32_16 : BitVec 32 := 0#32
  let v40 : BitVec 1 := Scalar.cmpi .eq v39 c0_i32_16
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c4_i32_4 : BitVec 32 := 4#32
  let c0_i32_7 : BitVec 32 := 0#32
  let v19 : BitVec 1 := Scalar.cmpi .sgt c4_i32_4 c0_i32_7
  let v20 : BitVec 32 := Scalar.extui v19
  let c0_i32_8 : BitVec 32 := 0#32
  let v21 : BitVec 1 := Scalar.cmpi .slt c4_i32_4 c0_i32_8
  let v22 : BitVec 32 := Scalar.extui v21
  let v23 : BitVec 32 := Scalar.subi v20 v22
  let v24 : BitVec 1 := Scalar.cmpi .ne v18 v23
  let v25 : BitVec 32 := Scalar.remsi v2 c4_i32_4
  let c0_i32_9 : BitVec 32 := 0#32
  let v26 : BitVec 1 := Scalar.cmpi .ne v25 c0_i32_9
  let v27 : BitVec 1 := Scalar.andi v24 v26
  let v13 : BitVec 32 := Scalar.divsi v2 c4_i32_4
  let c1_i32_10 : BitVec 32 := 1#32
  let v28 : BitVec 32 := Scalar.subi v13 c1_i32_10
  let v29 : BitVec 32 := Scalar.select v27 v28 v13
  let c3_i32 : BitVec 32 := 3#32
  let v41 : BitVec 32 := Scalar.subi c3_i32 v29
  let v42 : BitVec 32 := Scalar.select v40 v29 v41
  let v44 : BitVec 32 := Scalar.addi v43 v42
  let c1_i32_47 : BitVec 32 := 1#32
  let v98 : BitVec 32 := Scalar.subi v44 c1_i32_47
  let c16_i32_48 : BitVec 32 := 16#32
  let c0_i32_49 : BitVec 32 := 0#32
  let v99 : BitVec 1 := Scalar.cmpi .eq c16_i32_48 c0_i32_49
  let c1_i32_50 : BitVec 32 := 1#32
  let v100 : BitVec 32 := Scalar.select v99 c1_i32_50 c16_i32_48
  let v101 : BitVec 32 := Scalar.remsi v98 v100
  let c0_i32_52 : BitVec 32 := 0#32
  let v103 : BitVec 1 := Scalar.cmpi .slt v101 c0_i32_52
  let c0_i32_53 : BitVec 32 := 0#32
  let v104 : BitVec 1 := Scalar.cmpi .slt v100 c0_i32_53
  let v105 : BitVec 1 := Scalar.xori v103 v104
  let c0_i32_51 : BitVec 32 := 0#32
  let v102 : BitVec 1 := Scalar.cmpi .ne v101 c0_i32_51
  let v106 : BitVec 1 := Scalar.andi v105 v102
  let v107 : BitVec 32 := Scalar.addi v101 v100
  let v108 : BitVec 32 := Scalar.select v106 v107 v101
  let c0_i32_55 : BitVec 32 := 0#32
  let v110 : BitVec 1 := Scalar.cmpi .sgt v108 c0_i32_55
  let v111 : BitVec 32 := Scalar.extui v110
  let c0_i32_56 : BitVec 32 := 0#32
  let v112 : BitVec 1 := Scalar.cmpi .slt v108 c0_i32_56
  let v113 : BitVec 32 := Scalar.extui v112
  let v114 : BitVec 32 := Scalar.subi v111 v113
  let c4_i32_54 : BitVec 32 := 4#32
  let c0_i32_57 : BitVec 32 := 0#32
  let v115 : BitVec 1 := Scalar.cmpi .sgt c4_i32_54 c0_i32_57
  let v116 : BitVec 32 := Scalar.extui v115
  let c0_i32_58 : BitVec 32 := 0#32
  let v117 : BitVec 1 := Scalar.cmpi .slt c4_i32_54 c0_i32_58
  let v118 : BitVec 32 := Scalar.extui v117
  let v119 : BitVec 32 := Scalar.subi v116 v118
  let v120 : BitVec 1 := Scalar.cmpi .ne v114 v119
  let v121 : BitVec 32 := Scalar.remsi v108 c4_i32_54
  let c0_i32_59 : BitVec 32 := 0#32
  let v122 : BitVec 1 := Scalar.cmpi .ne v121 c0_i32_59
  let v123 : BitVec 1 := Scalar.andi v120 v122
  let v109 : BitVec 32 := Scalar.divsi v108 c4_i32_54
  let c1_i32_60 : BitVec 32 := 1#32
  let v124 : BitVec 32 := Scalar.subi v109 c1_i32_60
  let v125 : BitVec 32 := Scalar.select v123 v124 v109
  let c2_i32_67 : BitVec 32 := 2#32
  let c0_i32_68 : BitVec 32 := 0#32
  let v136 : BitVec 1 := Scalar.cmpi .eq c2_i32_67 c0_i32_68
  let c1_i32_69 : BitVec 32 := 1#32
  let v137 : BitVec 32 := Scalar.select v136 c1_i32_69 c2_i32_67
  let v138 : BitVec 32 := Scalar.remsi v125 v137
  let c0_i32_71 : BitVec 32 := 0#32
  let v140 : BitVec 1 := Scalar.cmpi .slt v138 c0_i32_71
  let c0_i32_72 : BitVec 32 := 0#32
  let v141 : BitVec 1 := Scalar.cmpi .slt v137 c0_i32_72
  let v142 : BitVec 1 := Scalar.xori v140 v141
  let c0_i32_70 : BitVec 32 := 0#32
  let v139 : BitVec 1 := Scalar.cmpi .ne v138 c0_i32_70
  let v143 : BitVec 1 := Scalar.andi v142 v139
  let v144 : BitVec 32 := Scalar.addi v138 v137
  let v145 : BitVec 32 := Scalar.select v143 v144 v138
  let c0_i32_73 : BitVec 32 := 0#32
  let v146 : BitVec 1 := Scalar.cmpi .eq v145 c0_i32_73
  let c4_i32_61 : BitVec 32 := 4#32
  let c0_i32_62 : BitVec 32 := 0#32
  let v126 : BitVec 1 := Scalar.cmpi .eq c4_i32_61 c0_i32_62
  let c1_i32_63 : BitVec 32 := 1#32
  let v127 : BitVec 32 := Scalar.select v126 c1_i32_63 c4_i32_61
  let v128 : BitVec 32 := Scalar.remsi v108 v127
  let c0_i32_65 : BitVec 32 := 0#32
  let v130 : BitVec 1 := Scalar.cmpi .slt v128 c0_i32_65
  let c0_i32_66 : BitVec 32 := 0#32
  let v131 : BitVec 1 := Scalar.cmpi .slt v127 c0_i32_66
  let v132 : BitVec 1 := Scalar.xori v130 v131
  let c0_i32_64 : BitVec 32 := 0#32
  let v129 : BitVec 1 := Scalar.cmpi .ne v128 c0_i32_64
  let v133 : BitVec 1 := Scalar.andi v132 v129
  let v134 : BitVec 32 := Scalar.addi v128 v127
  let v135 : BitVec 32 := Scalar.select v133 v134 v128
  let c3_i32_74 : BitVec 32 := 3#32
  let v147 : BitVec 32 := Scalar.subi c3_i32_74 v135
  let v148 : BitVec 32 := Scalar.select v146 v135 v147
  let v149 : BitVec 32 := Scalar.muli c4_i32_75 v148
  let v150 : BitVec 32 := Scalar.addi v149 v125
  let c1_i32_3461 : BitVec 32 := 1#32
  let v4625 : BitVec 32 := Scalar.muli v150 c1_i32_3461
  let v4626 : BitVec 32 := Scalar.addi c0_i32_3462 v4625
  v4626.toNat
def k0_dev95 (d0 : Dev nD) : Nat :=
  let c0_i32_3619 : BitVec 32 := 0#32
  let c4_i32_75 : BitVec 32 := 4#32
  let c4_i32_17 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let v43 : BitVec 32 := Scalar.muli c4_i32_17 v12
  let c2_i32 : BitVec 32 := 2#32
  let c0_i32_11 : BitVec 32 := 0#32
  let v30 : BitVec 1 := Scalar.cmpi .eq c2_i32 c0_i32_11
  let c1_i32_12 : BitVec 32 := 1#32
  let v31 : BitVec 32 := Scalar.select v30 c1_i32_12 c2_i32
  let v32 : BitVec 32 := Scalar.remsi v12 v31
  let c0_i32_14 : BitVec 32 := 0#32
  let v34 : BitVec 1 := Scalar.cmpi .slt v32 c0_i32_14
  let c0_i32_15 : BitVec 32 := 0#32
  let v35 : BitVec 1 := Scalar.cmpi .slt v31 c0_i32_15
  let v36 : BitVec 1 := Scalar.xori v34 v35
  let c0_i32_13 : BitVec 32 := 0#32
  let v33 : BitVec 1 := Scalar.cmpi .ne v32 c0_i32_13
  let v37 : BitVec 1 := Scalar.andi v36 v33
  let v38 : BitVec 32 := Scalar.addi v32 v31
  let v39 : BitVec 32 := Scalar.select v37 v38 v32
  let c0_i32_16 : BitVec 32 := 0#32
  let v40 : BitVec 1 := Scalar.cmpi .eq v39 c0_i32_16
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c4_i32_4 : BitVec 32 := 4#32
  let c0_i32_7 : BitVec 32 := 0#32
  let v19 : BitVec 1 := Scalar.cmpi .sgt c4_i32_4 c0_i32_7
  let v20 : BitVec 32 := Scalar.extui v19
  let c0_i32_8 : BitVec 32 := 0#32
  let v21 : BitVec 1 := Scalar.cmpi .slt c4_i32_4 c0_i32_8
  let v22 : BitVec 32 := Scalar.extui v21
  let v23 : BitVec 32 := Scalar.subi v20 v22
  let v24 : BitVec 1 := Scalar.cmpi .ne v18 v23
  let v25 : BitVec 32 := Scalar.remsi v2 c4_i32_4
  let c0_i32_9 : BitVec 32 := 0#32
  let v26 : BitVec 1 := Scalar.cmpi .ne v25 c0_i32_9
  let v27 : BitVec 1 := Scalar.andi v24 v26
  let v13 : BitVec 32 := Scalar.divsi v2 c4_i32_4
  let c1_i32_10 : BitVec 32 := 1#32
  let v28 : BitVec 32 := Scalar.subi v13 c1_i32_10
  let v29 : BitVec 32 := Scalar.select v27 v28 v13
  let c3_i32 : BitVec 32 := 3#32
  let v41 : BitVec 32 := Scalar.subi c3_i32 v29
  let v42 : BitVec 32 := Scalar.select v40 v29 v41
  let v44 : BitVec 32 := Scalar.addi v43 v42
  let c1_i32_47 : BitVec 32 := 1#32
  let v98 : BitVec 32 := Scalar.subi v44 c1_i32_47
  let c16_i32_48 : BitVec 32 := 16#32
  let c0_i32_49 : BitVec 32 := 0#32
  let v99 : BitVec 1 := Scalar.cmpi .eq c16_i32_48 c0_i32_49
  let c1_i32_50 : BitVec 32 := 1#32
  let v100 : BitVec 32 := Scalar.select v99 c1_i32_50 c16_i32_48
  let v101 : BitVec 32 := Scalar.remsi v98 v100
  let c0_i32_52 : BitVec 32 := 0#32
  let v103 : BitVec 1 := Scalar.cmpi .slt v101 c0_i32_52
  let c0_i32_53 : BitVec 32 := 0#32
  let v104 : BitVec 1 := Scalar.cmpi .slt v100 c0_i32_53
  let v105 : BitVec 1 := Scalar.xori v103 v104
  let c0_i32_51 : BitVec 32 := 0#32
  let v102 : BitVec 1 := Scalar.cmpi .ne v101 c0_i32_51
  let v106 : BitVec 1 := Scalar.andi v105 v102
  let v107 : BitVec 32 := Scalar.addi v101 v100
  let v108 : BitVec 32 := Scalar.select v106 v107 v101
  let c0_i32_55 : BitVec 32 := 0#32
  let v110 : BitVec 1 := Scalar.cmpi .sgt v108 c0_i32_55
  let v111 : BitVec 32 := Scalar.extui v110
  let c0_i32_56 : BitVec 32 := 0#32
  let v112 : BitVec 1 := Scalar.cmpi .slt v108 c0_i32_56
  let v113 : BitVec 32 := Scalar.extui v112
  let v114 : BitVec 32 := Scalar.subi v111 v113
  let c4_i32_54 : BitVec 32 := 4#32
  let c0_i32_57 : BitVec 32 := 0#32
  let v115 : BitVec 1 := Scalar.cmpi .sgt c4_i32_54 c0_i32_57
  let v116 : BitVec 32 := Scalar.extui v115
  let c0_i32_58 : BitVec 32 := 0#32
  let v117 : BitVec 1 := Scalar.cmpi .slt c4_i32_54 c0_i32_58
  let v118 : BitVec 32 := Scalar.extui v117
  let v119 : BitVec 32 := Scalar.subi v116 v118
  let v120 : BitVec 1 := Scalar.cmpi .ne v114 v119
  let v121 : BitVec 32 := Scalar.remsi v108 c4_i32_54
  let c0_i32_59 : BitVec 32 := 0#32
  let v122 : BitVec 1 := Scalar.cmpi .ne v121 c0_i32_59
  let v123 : BitVec 1 := Scalar.andi v120 v122
  let v109 : BitVec 32 := Scalar.divsi v108 c4_i32_54
  let c1_i32_60 : BitVec 32 := 1#32
  let v124 : BitVec 32 := Scalar.subi v109 c1_i32_60
  let v125 : BitVec 32 := Scalar.select v123 v124 v109
  let c2_i32_67 : BitVec 32 := 2#32
  let c0_i32_68 : BitVec 32 := 0#32
  let v136 : BitVec 1 := Scalar.cmpi .eq c2_i32_67 c0_i32_68
  let c1_i32_69 : BitVec 32 := 1#32
  let v137 : BitVec 32 := Scalar.select v136 c1_i32_69 c2_i32_67
  let v138 : BitVec 32 := Scalar.remsi v125 v137
  let c0_i32_71 : BitVec 32 := 0#32
  let v140 : BitVec 1 := Scalar.cmpi .slt v138 c0_i32_71
  let c0_i32_72 : BitVec 32 := 0#32
  let v141 : BitVec 1 := Scalar.cmpi .slt v137 c0_i32_72
  let v142 : BitVec 1 := Scalar.xori v140 v141
  let c0_i32_70 : BitVec 32 := 0#32
  let v139 : BitVec 1 := Scalar.cmpi .ne v138 c0_i32_70
  let v143 : BitVec 1 := Scalar.andi v142 v139
  let v144 : BitVec 32 := Scalar.addi v138 v137
  let v145 : BitVec 32 := Scalar.select v143 v144 v138
  let c0_i32_73 : BitVec 32 := 0#32
  let v146 : BitVec 1 := Scalar.cmpi .eq v145 c0_i32_73
  let c4_i32_61 : BitVec 32 := 4#32
  let c0_i32_62 : BitVec 32 := 0#32
  let v126 : BitVec 1 := Scalar.cmpi .eq c4_i32_61 c0_i32_62
  let c1_i32_63 : BitVec 32 := 1#32
  let v127 : BitVec 32 := Scalar.select v126 c1_i32_63 c4_i32_61
  let v128 : BitVec 32 := Scalar.remsi v108 v127
  let c0_i32_65 : BitVec 32 := 0#32
  let v130 : BitVec 1 := Scalar.cmpi .slt v128 c0_i32_65
  let c0_i32_66 : BitVec 32 := 0#32
  let v131 : BitVec 1 := Scalar.cmpi .slt v127 c0_i32_66
  let v132 : BitVec 1 := Scalar.xori v130 v131
  let c0_i32_64 : BitVec 32 := 0#32
  let v129 : BitVec 1 := Scalar.cmpi .ne v128 c0_i32_64
  let v133 : BitVec 1 := Scalar.andi v132 v129
  let v134 : BitVec 32 := Scalar.addi v128 v127
  let v135 : BitVec 32 := Scalar.select v133 v134 v128
  let c3_i32_74 : BitVec 32 := 3#32
  let v147 : BitVec 32 := Scalar.subi c3_i32_74 v135
  let v148 : BitVec 32 := Scalar.select v146 v135 v147
  let v149 : BitVec 32 := Scalar.muli c4_i32_75 v148
  let v150 : BitVec 32 := Scalar.addi v149 v125
  let c1_i32_3618 : BitVec 32 := 1#32
  let v4893 : BitVec 32 := Scalar.muli v150 c1_i32_3618
  let v4894 : BitVec 32 := Scalar.addi c0_i32_3619 v4893
  v4894.toNat
def k0_dev96 (d0 : Dev nD) : Nat :=
  let c0_i32_3647 : BitVec 32 := 0#32
  let c4_i32_46 : BitVec 32 := 4#32
  let c4_i32_17 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let v43 : BitVec 32 := Scalar.muli c4_i32_17 v12
  let c2_i32 : BitVec 32 := 2#32
  let c0_i32_11 : BitVec 32 := 0#32
  let v30 : BitVec 1 := Scalar.cmpi .eq c2_i32 c0_i32_11
  let c1_i32_12 : BitVec 32 := 1#32
  let v31 : BitVec 32 := Scalar.select v30 c1_i32_12 c2_i32
  let v32 : BitVec 32 := Scalar.remsi v12 v31
  let c0_i32_14 : BitVec 32 := 0#32
  let v34 : BitVec 1 := Scalar.cmpi .slt v32 c0_i32_14
  let c0_i32_15 : BitVec 32 := 0#32
  let v35 : BitVec 1 := Scalar.cmpi .slt v31 c0_i32_15
  let v36 : BitVec 1 := Scalar.xori v34 v35
  let c0_i32_13 : BitVec 32 := 0#32
  let v33 : BitVec 1 := Scalar.cmpi .ne v32 c0_i32_13
  let v37 : BitVec 1 := Scalar.andi v36 v33
  let v38 : BitVec 32 := Scalar.addi v32 v31
  let v39 : BitVec 32 := Scalar.select v37 v38 v32
  let c0_i32_16 : BitVec 32 := 0#32
  let v40 : BitVec 1 := Scalar.cmpi .eq v39 c0_i32_16
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c4_i32_4 : BitVec 32 := 4#32
  let c0_i32_7 : BitVec 32 := 0#32
  let v19 : BitVec 1 := Scalar.cmpi .sgt c4_i32_4 c0_i32_7
  let v20 : BitVec 32 := Scalar.extui v19
  let c0_i32_8 : BitVec 32 := 0#32
  let v21 : BitVec 1 := Scalar.cmpi .slt c4_i32_4 c0_i32_8
  let v22 : BitVec 32 := Scalar.extui v21
  let v23 : BitVec 32 := Scalar.subi v20 v22
  let v24 : BitVec 1 := Scalar.cmpi .ne v18 v23
  let v25 : BitVec 32 := Scalar.remsi v2 c4_i32_4
  let c0_i32_9 : BitVec 32 := 0#32
  let v26 : BitVec 1 := Scalar.cmpi .ne v25 c0_i32_9
  let v27 : BitVec 1 := Scalar.andi v24 v26
  let v13 : BitVec 32 := Scalar.divsi v2 c4_i32_4
  let c1_i32_10 : BitVec 32 := 1#32
  let v28 : BitVec 32 := Scalar.subi v13 c1_i32_10
  let v29 : BitVec 32 := Scalar.select v27 v28 v13
  let c3_i32 : BitVec 32 := 3#32
  let v41 : BitVec 32 := Scalar.subi c3_i32 v29
  let v42 : BitVec 32 := Scalar.select v40 v29 v41
  let v44 : BitVec 32 := Scalar.addi v43 v42
  let c1_i32_18 : BitVec 32 := 1#32
  let v45 : BitVec 32 := Scalar.addi v44 c1_i32_18
  let c16_i32_19 : BitVec 32 := 16#32
  let c0_i32_20 : BitVec 32 := 0#32
  let v46 : BitVec 1 := Scalar.cmpi .eq c16_i32_19 c0_i32_20
  let c1_i32_21 : BitVec 32 := 1#32
  let v47 : BitVec 32 := Scalar.select v46 c1_i32_21 c16_i32_19
  let v48 : BitVec 32 := Scalar.remsi v45 v47
  let c0_i32_23 : BitVec 32 := 0#32
  let v50 : BitVec 1 := Scalar.cmpi .slt v48 c0_i32_23
  let c0_i32_24 : BitVec 32 := 0#32
  let v51 : BitVec 1 := Scalar.cmpi .slt v47 c0_i32_24
  let v52 : BitVec 1 := Scalar.xori v50 v51
  let c0_i32_22 : BitVec 32 := 0#32
  let v49 : BitVec 1 := Scalar.cmpi .ne v48 c0_i32_22
  let v53 : BitVec 1 := Scalar.andi v52 v49
  let v54 : BitVec 32 := Scalar.addi v48 v47
  let v55 : BitVec 32 := Scalar.select v53 v54 v48
  let c0_i32_26 : BitVec 32 := 0#32
  let v57 : BitVec 1 := Scalar.cmpi .sgt v55 c0_i32_26
  let v58 : BitVec 32 := Scalar.extui v57
  let c0_i32_27 : BitVec 32 := 0#32
  let v59 : BitVec 1 := Scalar.cmpi .slt v55 c0_i32_27
  let v60 : BitVec 32 := Scalar.extui v59
  let v61 : BitVec 32 := Scalar.subi v58 v60
  let c4_i32_25 : BitVec 32 := 4#32
  let c0_i32_28 : BitVec 32 := 0#32
  let v62 : BitVec 1 := Scalar.cmpi .sgt c4_i32_25 c0_i32_28
  let v63 : BitVec 32 := Scalar.extui v62
  let c0_i32_29 : BitVec 32 := 0#32
  let v64 : BitVec 1 := Scalar.cmpi .slt c4_i32_25 c0_i32_29
  let v65 : BitVec 32 := Scalar.extui v64
  let v66 : BitVec 32 := Scalar.subi v63 v65
  let v67 : BitVec 1 := Scalar.cmpi .ne v61 v66
  let v68 : BitVec 32 := Scalar.remsi v55 c4_i32_25
  let c0_i32_30 : BitVec 32 := 0#32
  let v69 : BitVec 1 := Scalar.cmpi .ne v68 c0_i32_30
  let v70 : BitVec 1 := Scalar.andi v67 v69
  let v56 : BitVec 32 := Scalar.divsi v55 c4_i32_25
  let c1_i32_31 : BitVec 32 := 1#32
  let v71 : BitVec 32 := Scalar.subi v56 c1_i32_31
  let v72 : BitVec 32 := Scalar.select v70 v71 v56
  let c2_i32_38 : BitVec 32 := 2#32
  let c0_i32_39 : BitVec 32 := 0#32
  let v83 : BitVec 1 := Scalar.cmpi .eq c2_i32_38 c0_i32_39
  let c1_i32_40 : BitVec 32 := 1#32
  let v84 : BitVec 32 := Scalar.select v83 c1_i32_40 c2_i32_38
  let v85 : BitVec 32 := Scalar.remsi v72 v84
  let c0_i32_42 : BitVec 32 := 0#32
  let v87 : BitVec 1 := Scalar.cmpi .slt v85 c0_i32_42
  let c0_i32_43 : BitVec 32 := 0#32
  let v88 : BitVec 1 := Scalar.cmpi .slt v84 c0_i32_43
  let v89 : BitVec 1 := Scalar.xori v87 v88
  let c0_i32_41 : BitVec 32 := 0#32
  let v86 : BitVec 1 := Scalar.cmpi .ne v85 c0_i32_41
  let v90 : BitVec 1 := Scalar.andi v89 v86
  let v91 : BitVec 32 := Scalar.addi v85 v84
  let v92 : BitVec 32 := Scalar.select v90 v91 v85
  let c0_i32_44 : BitVec 32 := 0#32
  let v93 : BitVec 1 := Scalar.cmpi .eq v92 c0_i32_44
  let c4_i32_32 : BitVec 32 := 4#32
  let c0_i32_33 : BitVec 32 := 0#32
  let v73 : BitVec 1 := Scalar.cmpi .eq c4_i32_32 c0_i32_33
  let c1_i32_34 : BitVec 32 := 1#32
  let v74 : BitVec 32 := Scalar.select v73 c1_i32_34 c4_i32_32
  let v75 : BitVec 32 := Scalar.remsi v55 v74
  let c0_i32_36 : BitVec 32 := 0#32
  let v77 : BitVec 1 := Scalar.cmpi .slt v75 c0_i32_36
  let c0_i32_37 : BitVec 32 := 0#32
  let v78 : BitVec 1 := Scalar.cmpi .slt v74 c0_i32_37
  let v79 : BitVec 1 := Scalar.xori v77 v78
  let c0_i32_35 : BitVec 32 := 0#32
  let v76 : BitVec 1 := Scalar.cmpi .ne v75 c0_i32_35
  let v80 : BitVec 1 := Scalar.andi v79 v76
  let v81 : BitVec 32 := Scalar.addi v75 v74
  let v82 : BitVec 32 := Scalar.select v80 v81 v75
  let c3_i32_45 : BitVec 32 := 3#32
  let v94 : BitVec 32 := Scalar.subi c3_i32_45 v82
  let v95 : BitVec 32 := Scalar.select v93 v82 v94
  let v96 : BitVec 32 := Scalar.muli c4_i32_46 v95
  let v97 : BitVec 32 := Scalar.addi v96 v72
  let c1_i32_3646 : BitVec 32 := 1#32
  let v4917 : BitVec 32 := Scalar.muli v97 c1_i32_3646
  let v4918 : BitVec 32 := Scalar.addi c0_i32_3647 v4917
  v4918.toNat
def k0_dev97 (d0 : Dev nD) : Nat :=
  let c0_i32_3661 : BitVec 32 := 0#32
  let c4_i32_46 : BitVec 32 := 4#32
  let c4_i32_17 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let v43 : BitVec 32 := Scalar.muli c4_i32_17 v12
  let c2_i32 : BitVec 32 := 2#32
  let c0_i32_11 : BitVec 32 := 0#32
  let v30 : BitVec 1 := Scalar.cmpi .eq c2_i32 c0_i32_11
  let c1_i32_12 : BitVec 32 := 1#32
  let v31 : BitVec 32 := Scalar.select v30 c1_i32_12 c2_i32
  let v32 : BitVec 32 := Scalar.remsi v12 v31
  let c0_i32_14 : BitVec 32 := 0#32
  let v34 : BitVec 1 := Scalar.cmpi .slt v32 c0_i32_14
  let c0_i32_15 : BitVec 32 := 0#32
  let v35 : BitVec 1 := Scalar.cmpi .slt v31 c0_i32_15
  let v36 : BitVec 1 := Scalar.xori v34 v35
  let c0_i32_13 : BitVec 32 := 0#32
  let v33 : BitVec 1 := Scalar.cmpi .ne v32 c0_i32_13
  let v37 : BitVec 1 := Scalar.andi v36 v33
  let v38 : BitVec 32 := Scalar.addi v32 v31
  let v39 : BitVec 32 := Scalar.select v37 v38 v32
  let c0_i32_16 : BitVec 32 := 0#32
  let v40 : BitVec 1 := Scalar.cmpi .eq v39 c0_i32_16
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c4_i32_4 : BitVec 32 := 4#32
  let c0_i32_7 : BitVec 32 := 0#32
  let v19 : BitVec 1 := Scalar.cmpi .sgt c4_i32_4 c0_i32_7
  let v20 : BitVec 32 := Scalar.extui v19
  let c0_i32_8 : BitVec 32 := 0#32
  let v21 : BitVec 1 := Scalar.cmpi .slt c4_i32_4 c0_i32_8
  let v22 : BitVec 32 := Scalar.extui v21
  let v23 : BitVec 32 := Scalar.subi v20 v22
  let v24 : BitVec 1 := Scalar.cmpi .ne v18 v23
  let v25 : BitVec 32 := Scalar.remsi v2 c4_i32_4
  let c0_i32_9 : BitVec 32 := 0#32
  let v26 : BitVec 1 := Scalar.cmpi .ne v25 c0_i32_9
  let v27 : BitVec 1 := Scalar.andi v24 v26
  let v13 : BitVec 32 := Scalar.divsi v2 c4_i32_4
  let c1_i32_10 : BitVec 32 := 1#32
  let v28 : BitVec 32 := Scalar.subi v13 c1_i32_10
  let v29 : BitVec 32 := Scalar.select v27 v28 v13
  let c3_i32 : BitVec 32 := 3#32
  let v41 : BitVec 32 := Scalar.subi c3_i32 v29
  let v42 : BitVec 32 := Scalar.select v40 v29 v41
  let v44 : BitVec 32 := Scalar.addi v43 v42
  let c1_i32_18 : BitVec 32 := 1#32
  let v45 : BitVec 32 := Scalar.addi v44 c1_i32_18
  let c16_i32_19 : BitVec 32 := 16#32
  let c0_i32_20 : BitVec 32 := 0#32
  let v46 : BitVec 1 := Scalar.cmpi .eq c16_i32_19 c0_i32_20
  let c1_i32_21 : BitVec 32 := 1#32
  let v47 : BitVec 32 := Scalar.select v46 c1_i32_21 c16_i32_19
  let v48 : BitVec 32 := Scalar.remsi v45 v47
  let c0_i32_23 : BitVec 32 := 0#32
  let v50 : BitVec 1 := Scalar.cmpi .slt v48 c0_i32_23
  let c0_i32_24 : BitVec 32 := 0#32
  let v51 : BitVec 1 := Scalar.cmpi .slt v47 c0_i32_24
  let v52 : BitVec 1 := Scalar.xori v50 v51
  let c0_i32_22 : BitVec 32 := 0#32
  let v49 : BitVec 1 := Scalar.cmpi .ne v48 c0_i32_22
  let v53 : BitVec 1 := Scalar.andi v52 v49
  let v54 : BitVec 32 := Scalar.addi v48 v47
  let v55 : BitVec 32 := Scalar.select v53 v54 v48
  let c0_i32_26 : BitVec 32 := 0#32
  let v57 : BitVec 1 := Scalar.cmpi .sgt v55 c0_i32_26
  let v58 : BitVec 32 := Scalar.extui v57
  let c0_i32_27 : BitVec 32 := 0#32
  let v59 : BitVec 1 := Scalar.cmpi .slt v55 c0_i32_27
  let v60 : BitVec 32 := Scalar.extui v59
  let v61 : BitVec 32 := Scalar.subi v58 v60
  let c4_i32_25 : BitVec 32 := 4#32
  let c0_i32_28 : BitVec 32 := 0#32
  let v62 : BitVec 1 := Scalar.cmpi .sgt c4_i32_25 c0_i32_28
  let v63 : BitVec 32 := Scalar.extui v62
  let c0_i32_29 : BitVec 32 := 0#32
  let v64 : BitVec 1 := Scalar.cmpi .slt c4_i32_25 c0_i32_29
  let v65 : BitVec 32 := Scalar.extui v64
  let v66 : BitVec 32 := Scalar.subi v63 v65
  let v67 : BitVec 1 := Scalar.cmpi .ne v61 v66
  let v68 : BitVec 32 := Scalar.remsi v55 c4_i32_25
  let c0_i32_30 : BitVec 32 := 0#32
  let v69 : BitVec 1 := Scalar.cmpi .ne v68 c0_i32_30
  let v70 : BitVec 1 := Scalar.andi v67 v69
  let v56 : BitVec 32 := Scalar.divsi v55 c4_i32_25
  let c1_i32_31 : BitVec 32 := 1#32
  let v71 : BitVec 32 := Scalar.subi v56 c1_i32_31
  let v72 : BitVec 32 := Scalar.select v70 v71 v56
  let c2_i32_38 : BitVec 32 := 2#32
  let c0_i32_39 : BitVec 32 := 0#32
  let v83 : BitVec 1 := Scalar.cmpi .eq c2_i32_38 c0_i32_39
  let c1_i32_40 : BitVec 32 := 1#32
  let v84 : BitVec 32 := Scalar.select v83 c1_i32_40 c2_i32_38
  let v85 : BitVec 32 := Scalar.remsi v72 v84
  let c0_i32_42 : BitVec 32 := 0#32
  let v87 : BitVec 1 := Scalar.cmpi .slt v85 c0_i32_42
  let c0_i32_43 : BitVec 32 := 0#32
  let v88 : BitVec 1 := Scalar.cmpi .slt v84 c0_i32_43
  let v89 : BitVec 1 := Scalar.xori v87 v88
  let c0_i32_41 : BitVec 32 := 0#32
  let v86 : BitVec 1 := Scalar.cmpi .ne v85 c0_i32_41
  let v90 : BitVec 1 := Scalar.andi v89 v86
  let v91 : BitVec 32 := Scalar.addi v85 v84
  let v92 : BitVec 32 := Scalar.select v90 v91 v85
  let c0_i32_44 : BitVec 32 := 0#32
  let v93 : BitVec 1 := Scalar.cmpi .eq v92 c0_i32_44
  let c4_i32_32 : BitVec 32 := 4#32
  let c0_i32_33 : BitVec 32 := 0#32
  let v73 : BitVec 1 := Scalar.cmpi .eq c4_i32_32 c0_i32_33
  let c1_i32_34 : BitVec 32 := 1#32
  let v74 : BitVec 32 := Scalar.select v73 c1_i32_34 c4_i32_32
  let v75 : BitVec 32 := Scalar.remsi v55 v74
  let c0_i32_36 : BitVec 32 := 0#32
  let v77 : BitVec 1 := Scalar.cmpi .slt v75 c0_i32_36
  let c0_i32_37 : BitVec 32 := 0#32
  let v78 : BitVec 1 := Scalar.cmpi .slt v74 c0_i32_37
  let v79 : BitVec 1 := Scalar.xori v77 v78
  let c0_i32_35 : BitVec 32 := 0#32
  let v76 : BitVec 1 := Scalar.cmpi .ne v75 c0_i32_35
  let v80 : BitVec 1 := Scalar.andi v79 v76
  let v81 : BitVec 32 := Scalar.addi v75 v74
  let v82 : BitVec 32 := Scalar.select v80 v81 v75
  let c3_i32_45 : BitVec 32 := 3#32
  let v94 : BitVec 32 := Scalar.subi c3_i32_45 v82
  let v95 : BitVec 32 := Scalar.select v93 v82 v94
  let v96 : BitVec 32 := Scalar.muli c4_i32_46 v95
  let v97 : BitVec 32 := Scalar.addi v96 v72
  let c1_i32_3660 : BitVec 32 := 1#32
  let v4927 : BitVec 32 := Scalar.muli v97 c1_i32_3660
  let v4928 : BitVec 32 := Scalar.addi c0_i32_3661 v4927
  v4928.toNat
def k0_dev98 (d0 : Dev nD) : Nat :=
  let c0_i32_3673 : BitVec 32 := 0#32
  let c4_i32_75 : BitVec 32 := 4#32
  let c4_i32_17 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let v43 : BitVec 32 := Scalar.muli c4_i32_17 v12
  let c2_i32 : BitVec 32 := 2#32
  let c0_i32_11 : BitVec 32 := 0#32
  let v30 : BitVec 1 := Scalar.cmpi .eq c2_i32 c0_i32_11
  let c1_i32_12 : BitVec 32 := 1#32
  let v31 : BitVec 32 := Scalar.select v30 c1_i32_12 c2_i32
  let v32 : BitVec 32 := Scalar.remsi v12 v31
  let c0_i32_14 : BitVec 32 := 0#32
  let v34 : BitVec 1 := Scalar.cmpi .slt v32 c0_i32_14
  let c0_i32_15 : BitVec 32 := 0#32
  let v35 : BitVec 1 := Scalar.cmpi .slt v31 c0_i32_15
  let v36 : BitVec 1 := Scalar.xori v34 v35
  let c0_i32_13 : BitVec 32 := 0#32
  let v33 : BitVec 1 := Scalar.cmpi .ne v32 c0_i32_13
  let v37 : BitVec 1 := Scalar.andi v36 v33
  let v38 : BitVec 32 := Scalar.addi v32 v31
  let v39 : BitVec 32 := Scalar.select v37 v38 v32
  let c0_i32_16 : BitVec 32 := 0#32
  let v40 : BitVec 1 := Scalar.cmpi .eq v39 c0_i32_16
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c4_i32_4 : BitVec 32 := 4#32
  let c0_i32_7 : BitVec 32 := 0#32
  let v19 : BitVec 1 := Scalar.cmpi .sgt c4_i32_4 c0_i32_7
  let v20 : BitVec 32 := Scalar.extui v19
  let c0_i32_8 : BitVec 32 := 0#32
  let v21 : BitVec 1 := Scalar.cmpi .slt c4_i32_4 c0_i32_8
  let v22 : BitVec 32 := Scalar.extui v21
  let v23 : BitVec 32 := Scalar.subi v20 v22
  let v24 : BitVec 1 := Scalar.cmpi .ne v18 v23
  let v25 : BitVec 32 := Scalar.remsi v2 c4_i32_4
  let c0_i32_9 : BitVec 32 := 0#32
  let v26 : BitVec 1 := Scalar.cmpi .ne v25 c0_i32_9
  let v27 : BitVec 1 := Scalar.andi v24 v26
  let v13 : BitVec 32 := Scalar.divsi v2 c4_i32_4
  let c1_i32_10 : BitVec 32 := 1#32
  let v28 : BitVec 32 := Scalar.subi v13 c1_i32_10
  let v29 : BitVec 32 := Scalar.select v27 v28 v13
  let c3_i32 : BitVec 32 := 3#32
  let v41 : BitVec 32 := Scalar.subi c3_i32 v29
  let v42 : BitVec 32 := Scalar.select v40 v29 v41
  let v44 : BitVec 32 := Scalar.addi v43 v42
  let c1_i32_47 : BitVec 32 := 1#32
  let v98 : BitVec 32 := Scalar.subi v44 c1_i32_47
  let c16_i32_48 : BitVec 32 := 16#32
  let c0_i32_49 : BitVec 32 := 0#32
  let v99 : BitVec 1 := Scalar.cmpi .eq c16_i32_48 c0_i32_49
  let c1_i32_50 : BitVec 32 := 1#32
  let v100 : BitVec 32 := Scalar.select v99 c1_i32_50 c16_i32_48
  let v101 : BitVec 32 := Scalar.remsi v98 v100
  let c0_i32_52 : BitVec 32 := 0#32
  let v103 : BitVec 1 := Scalar.cmpi .slt v101 c0_i32_52
  let c0_i32_53 : BitVec 32 := 0#32
  let v104 : BitVec 1 := Scalar.cmpi .slt v100 c0_i32_53
  let v105 : BitVec 1 := Scalar.xori v103 v104
  let c0_i32_51 : BitVec 32 := 0#32
  let v102 : BitVec 1 := Scalar.cmpi .ne v101 c0_i32_51
  let v106 : BitVec 1 := Scalar.andi v105 v102
  let v107 : BitVec 32 := Scalar.addi v101 v100
  let v108 : BitVec 32 := Scalar.select v106 v107 v101
  let c0_i32_55 : BitVec 32 := 0#32
  let v110 : BitVec 1 := Scalar.cmpi .sgt v108 c0_i32_55
  let v111 : BitVec 32 := Scalar.extui v110
  let c0_i32_56 : BitVec 32 := 0#32
  let v112 : BitVec 1 := Scalar.cmpi .slt v108 c0_i32_56
  let v113 : BitVec 32 := Scalar.extui v112
  let v114 : BitVec 32 := Scalar.subi v111 v113
  let c4_i32_54 : BitVec 32 := 4#32
  let c0_i32_57 : BitVec 32 := 0#32
  let v115 : BitVec 1 := Scalar.cmpi .sgt c4_i32_54 c0_i32_57
  let v116 : BitVec 32 := Scalar.extui v115
  let c0_i32_58 : BitVec 32 := 0#32
  let v117 : BitVec 1 := Scalar.cmpi .slt c4_i32_54 c0_i32_58
  let v118 : BitVec 32 := Scalar.extui v117
  let v119 : BitVec 32 := Scalar.subi v116 v118
  let v120 : BitVec 1 := Scalar.cmpi .ne v114 v119
  let v121 : BitVec 32 := Scalar.remsi v108 c4_i32_54
  let c0_i32_59 : BitVec 32 := 0#32
  let v122 : BitVec 1 := Scalar.cmpi .ne v121 c0_i32_59
  let v123 : BitVec 1 := Scalar.andi v120 v122
  let v109 : BitVec 32 := Scalar.divsi v108 c4_i32_54
  let c1_i32_60 : BitVec 32 := 1#32
  let v124 : BitVec 32 := Scalar.subi v109 c1_i32_60
  let v125 : BitVec 32 := Scalar.select v123 v124 v109
  let c2_i32_67 : BitVec 32 := 2#32
  let c0_i32_68 : BitVec 32 := 0#32
  let v136 : BitVec 1 := Scalar.cmpi .eq c2_i32_67 c0_i32_68
  let c1_i32_69 : BitVec 32 := 1#32
  let v137 : BitVec 32 := Scalar.select v136 c1_i32_69 c2_i32_67
  let v138 : BitVec 32 := Scalar.remsi v125 v137
  let c0_i32_71 : BitVec 32 := 0#32
  let v140 : BitVec 1 := Scalar.cmpi .slt v138 c0_i32_71
  let c0_i32_72 : BitVec 32 := 0#32
  let v141 : BitVec 1 := Scalar.cmpi .slt v137 c0_i32_72
  let v142 : BitVec 1 := Scalar.xori v140 v141
  let c0_i32_70 : BitVec 32 := 0#32
  let v139 : BitVec 1 := Scalar.cmpi .ne v138 c0_i32_70
  let v143 : BitVec 1 := Scalar.andi v142 v139
  let v144 : BitVec 32 := Scalar.addi v138 v137
  let v145 : BitVec 32 := Scalar.select v143 v144 v138
  let c0_i32_73 : BitVec 32 := 0#32
  let v146 : BitVec 1 := Scalar.cmpi .eq v145 c0_i32_73
  let c4_i32_61 : BitVec 32 := 4#32
  let c0_i32_62 : BitVec 32 := 0#32
  let v126 : BitVec 1 := Scalar.cmpi .eq c4_i32_61 c0_i32_62
  let c1_i32_63 : BitVec 32 := 1#32
  let v127 : BitVec 32 := Scalar.select v126 c1_i32_63 c4_i32_61
  let v128 : BitVec 32 := Scalar.remsi v108 v127
  let c0_i32_65 : BitVec 32 := 0#32
  let v130 : BitVec 1 := Scalar.cmpi .slt v128 c0_i32_65
  let c0_i32_66 : BitVec 32 := 0#32
  let v131 : BitVec 1 := Scalar.cmpi .slt v127 c0_i32_66
  let v132 : BitVec 1 := Scalar.xori v130 v131
  let c0_i32_64 : BitVec 32 := 0#32
  let v129 : BitVec 1 := Scalar.cmpi .ne v128 c0_i32_64
  let v133 : BitVec 1 := Scalar.andi v132 v129
  let v134 : BitVec 32 := Scalar.addi v128 v127
  let v135 : BitVec 32 := Scalar.select v133 v134 v128
  let c3_i32_74 : BitVec 32 := 3#32
  let v147 : BitVec 32 := Scalar.subi c3_i32_74 v135
  let v148 : BitVec 32 := Scalar.select v146 v135 v147
  let v149 : BitVec 32 := Scalar.muli c4_i32_75 v148
  let v150 : BitVec 32 := Scalar.addi v149 v125
  let c1_i32_3672 : BitVec 32 := 1#32
  let v4937 : BitVec 32 := Scalar.muli v150 c1_i32_3672
  let v4938 : BitVec 32 := Scalar.addi c0_i32_3673 v4937
  v4938.toNat
def k0_dev99 (d0 : Dev nD) : Nat :=
  let c0_i32_3699 : BitVec 32 := 0#32
  let c4_i32_75 : BitVec 32 := 4#32
  let c4_i32_17 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let v43 : BitVec 32 := Scalar.muli c4_i32_17 v12
  let c2_i32 : BitVec 32 := 2#32
  let c0_i32_11 : BitVec 32 := 0#32
  let v30 : BitVec 1 := Scalar.cmpi .eq c2_i32 c0_i32_11
  let c1_i32_12 : BitVec 32 := 1#32
  let v31 : BitVec 32 := Scalar.select v30 c1_i32_12 c2_i32
  let v32 : BitVec 32 := Scalar.remsi v12 v31
  let c0_i32_14 : BitVec 32 := 0#32
  let v34 : BitVec 1 := Scalar.cmpi .slt v32 c0_i32_14
  let c0_i32_15 : BitVec 32 := 0#32
  let v35 : BitVec 1 := Scalar.cmpi .slt v31 c0_i32_15
  let v36 : BitVec 1 := Scalar.xori v34 v35
  let c0_i32_13 : BitVec 32 := 0#32
  let v33 : BitVec 1 := Scalar.cmpi .ne v32 c0_i32_13
  let v37 : BitVec 1 := Scalar.andi v36 v33
  let v38 : BitVec 32 := Scalar.addi v32 v31
  let v39 : BitVec 32 := Scalar.select v37 v38 v32
  let c0_i32_16 : BitVec 32 := 0#32
  let v40 : BitVec 1 := Scalar.cmpi .eq v39 c0_i32_16
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c4_i32_4 : BitVec 32 := 4#32
  let c0_i32_7 : BitVec 32 := 0#32
  let v19 : BitVec 1 := Scalar.cmpi .sgt c4_i32_4 c0_i32_7
  let v20 : BitVec 32 := Scalar.extui v19
  let c0_i32_8 : BitVec 32 := 0#32
  let v21 : BitVec 1 := Scalar.cmpi .slt c4_i32_4 c0_i32_8
  let v22 : BitVec 32 := Scalar.extui v21
  let v23 : BitVec 32 := Scalar.subi v20 v22
  let v24 : BitVec 1 := Scalar.cmpi .ne v18 v23
  let v25 : BitVec 32 := Scalar.remsi v2 c4_i32_4
  let c0_i32_9 : BitVec 32 := 0#32
  let v26 : BitVec 1 := Scalar.cmpi .ne v25 c0_i32_9
  let v27 : BitVec 1 := Scalar.andi v24 v26
  let v13 : BitVec 32 := Scalar.divsi v2 c4_i32_4
  let c1_i32_10 : BitVec 32 := 1#32
  let v28 : BitVec 32 := Scalar.subi v13 c1_i32_10
  let v29 : BitVec 32 := Scalar.select v27 v28 v13
  let c3_i32 : BitVec 32 := 3#32
  let v41 : BitVec 32 := Scalar.subi c3_i32 v29
  let v42 : BitVec 32 := Scalar.select v40 v29 v41
  let v44 : BitVec 32 := Scalar.addi v43 v42
  let c1_i32_47 : BitVec 32 := 1#32
  let v98 : BitVec 32 := Scalar.subi v44 c1_i32_47
  let c16_i32_48 : BitVec 32 := 16#32
  let c0_i32_49 : BitVec 32 := 0#32
  let v99 : BitVec 1 := Scalar.cmpi .eq c16_i32_48 c0_i32_49
  let c1_i32_50 : BitVec 32 := 1#32
  let v100 : BitVec 32 := Scalar.select v99 c1_i32_50 c16_i32_48
  let v101 : BitVec 32 := Scalar.remsi v98 v100
  let c0_i32_52 : BitVec 32 := 0#32
  let v103 : BitVec 1 := Scalar.cmpi .slt v101 c0_i32_52
  let c0_i32_53 : BitVec 32 := 0#32
  let v104 : BitVec 1 := Scalar.cmpi .slt v100 c0_i32_53
  let v105 : BitVec 1 := Scalar.xori v103 v104
  let c0_i32_51 : BitVec 32 := 0#32
  let v102 : BitVec 1 := Scalar.cmpi .ne v101 c0_i32_51
  let v106 : BitVec 1 := Scalar.andi v105 v102
  let v107 : BitVec 32 := Scalar.addi v101 v100
  let v108 : BitVec 32 := Scalar.select v106 v107 v101
  let c0_i32_55 : BitVec 32 := 0#32
  let v110 : BitVec 1 := Scalar.cmpi .sgt v108 c0_i32_55
  let v111 : BitVec 32 := Scalar.extui v110
  let c0_i32_56 : BitVec 32 := 0#32
  let v112 : BitVec 1 := Scalar.cmpi .slt v108 c0_i32_56
  let v113 : BitVec 32 := Scalar.extui v112
  let v114 : BitVec 32 := Scalar.subi v111 v113
  let c4_i32_54 : BitVec 32 := 4#32
  let c0_i32_57 : BitVec 32 := 0#32
  let v115 : BitVec 1 := Scalar.cmpi .sgt c4_i32_54 c0_i32_57
  let v116 : BitVec 32 := Scalar.extui v115
  let c0_i32_58 : BitVec 32 := 0#32
  let v117 : BitVec 1 := Scalar.cmpi .slt c4_i32_54 c0_i32_58
  let v118 : BitVec 32 := Scalar.extui v117
  let v119 : BitVec 32 := Scalar.subi v116 v118
  let v120 : BitVec 1 := Scalar.cmpi .ne v114 v119
  let v121 : BitVec 32 := Scalar.remsi v108 c4_i32_54
  let c0_i32_59 : BitVec 32 := 0#32
  let v122 : BitVec 1 := Scalar.cmpi .ne v121 c0_i32_59
  let v123 : BitVec 1 := Scalar.andi v120 v122
  let v109 : BitVec 32 := Scalar.divsi v108 c4_i32_54
  let c1_i32_60 : BitVec 32 := 1#32
  let v124 : BitVec 32 := Scalar.subi v109 c1_i32_60
  let v125 : BitVec 32 := Scalar.select v123 v124 v109
  let c2_i32_67 : BitVec 32 := 2#32
  let c0_i32_68 : BitVec 32 := 0#32
  let v136 : BitVec 1 := Scalar.cmpi .eq c2_i32_67 c0_i32_68
  let c1_i32_69 : BitVec 32 := 1#32
  let v137 : BitVec 32 := Scalar.select v136 c1_i32_69 c2_i32_67
  let v138 : BitVec 32 := Scalar.remsi v125 v137
  let c0_i32_71 : BitVec 32 := 0#32
  let v140 : BitVec 1 := Scalar.cmpi .slt v138 c0_i32_71
  let c0_i32_72 : BitVec 32 := 0#32
  let v141 : BitVec 1 := Scalar.cmpi .slt v137 c0_i32_72
  let v142 : BitVec 1 := Scalar.xori v140 v141
  let c0_i32_70 : BitVec 32 := 0#32
  let v139 : BitVec 1 := Scalar.cmpi .ne v138 c0_i32_70
  let v143 : BitVec 1 := Scalar.andi v142 v139
  let v144 : BitVec 32 := Scalar.addi v138 v137
  let v145 : BitVec 32 := Scalar.select v143 v144 v138
  let c0_i32_73 : BitVec 32 := 0#32
  let v146 : BitVec 1 := Scalar.cmpi .eq v145 c0_i32_73
  let c4_i32_61 : BitVec 32 := 4#32
  let c0_i32_62 : BitVec 32 := 0#32
  let v126 : BitVec 1 := Scalar.cmpi .eq c4_i32_61 c0_i32_62
  let c1_i32_63 : BitVec 32 := 1#32
  let v127 : BitVec 32 := Scalar.select v126 c1_i32_63 c4_i32_61
  let v128 : BitVec 32 := Scalar.remsi v108 v127
  let c0_i32_65 : BitVec 32 := 0#32
  let v130 : BitVec 1 := Scalar.cmpi .slt v128 c0_i32_65
  let c0_i32_66 : BitVec 32 := 0#32
  let v131 : BitVec 1 := Scalar.cmpi .slt v127 c0_i32_66
  let v132 : BitVec 1 := Scalar.xori v130 v131
  let c0_i32_64 : BitVec 32 := 0#32
  let v129 : BitVec 1 := Scalar.cmpi .ne v128 c0_i32_64
  let v133 : BitVec 1 := Scalar.andi v132 v129
  let v134 : BitVec 32 := Scalar.addi v128 v127
  let v135 : BitVec 32 := Scalar.select v133 v134 v128
  let c3_i32_74 : BitVec 32 := 3#32
  let v147 : BitVec 32 := Scalar.subi c3_i32_74 v135
  let v148 : BitVec 32 := Scalar.select v146 v135 v147
  let v149 : BitVec 32 := Scalar.muli c4_i32_75 v148
  let v150 : BitVec 32 := Scalar.addi v149 v125
  let c1_i32_3698 : BitVec 32 := 1#32
  let v4961 : BitVec 32 := Scalar.muli v150 c1_i32_3698
  let v4962 : BitVec 32 := Scalar.addi c0_i32_3699 v4961
  v4962.toNat
def k0_dev100 (d0 : Dev nD) : Nat :=
  let c0_i32_3727 : BitVec 32 := 0#32
  let c4_i32_46 : BitVec 32 := 4#32
  let c4_i32_17 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let v43 : BitVec 32 := Scalar.muli c4_i32_17 v12
  let c2_i32 : BitVec 32 := 2#32
  let c0_i32_11 : BitVec 32 := 0#32
  let v30 : BitVec 1 := Scalar.cmpi .eq c2_i32 c0_i32_11
  let c1_i32_12 : BitVec 32 := 1#32
  let v31 : BitVec 32 := Scalar.select v30 c1_i32_12 c2_i32
  let v32 : BitVec 32 := Scalar.remsi v12 v31
  let c0_i32_14 : BitVec 32 := 0#32
  let v34 : BitVec 1 := Scalar.cmpi .slt v32 c0_i32_14
  let c0_i32_15 : BitVec 32 := 0#32
  let v35 : BitVec 1 := Scalar.cmpi .slt v31 c0_i32_15
  let v36 : BitVec 1 := Scalar.xori v34 v35
  let c0_i32_13 : BitVec 32 := 0#32
  let v33 : BitVec 1 := Scalar.cmpi .ne v32 c0_i32_13
  let v37 : BitVec 1 := Scalar.andi v36 v33
  let v38 : BitVec 32 := Scalar.addi v32 v31
  let v39 : BitVec 32 := Scalar.select v37 v38 v32
  let c0_i32_16 : BitVec 32 := 0#32
  let v40 : BitVec 1 := Scalar.cmpi .eq v39 c0_i32_16
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c4_i32_4 : BitVec 32 := 4#32
  let c0_i32_7 : BitVec 32 := 0#32
  let v19 : BitVec 1 := Scalar.cmpi .sgt c4_i32_4 c0_i32_7
  let v20 : BitVec 32 := Scalar.extui v19
  let c0_i32_8 : BitVec 32 := 0#32
  let v21 : BitVec 1 := Scalar.cmpi .slt c4_i32_4 c0_i32_8
  let v22 : BitVec 32 := Scalar.extui v21
  let v23 : BitVec 32 := Scalar.subi v20 v22
  let v24 : BitVec 1 := Scalar.cmpi .ne v18 v23
  let v25 : BitVec 32 := Scalar.remsi v2 c4_i32_4
  let c0_i32_9 : BitVec 32 := 0#32
  let v26 : BitVec 1 := Scalar.cmpi .ne v25 c0_i32_9
  let v27 : BitVec 1 := Scalar.andi v24 v26
  let v13 : BitVec 32 := Scalar.divsi v2 c4_i32_4
  let c1_i32_10 : BitVec 32 := 1#32
  let v28 : BitVec 32 := Scalar.subi v13 c1_i32_10
  let v29 : BitVec 32 := Scalar.select v27 v28 v13
  let c3_i32 : BitVec 32 := 3#32
  let v41 : BitVec 32 := Scalar.subi c3_i32 v29
  let v42 : BitVec 32 := Scalar.select v40 v29 v41
  let v44 : BitVec 32 := Scalar.addi v43 v42
  let c1_i32_18 : BitVec 32 := 1#32
  let v45 : BitVec 32 := Scalar.addi v44 c1_i32_18
  let c16_i32_19 : BitVec 32 := 16#32
  let c0_i32_20 : BitVec 32 := 0#32
  let v46 : BitVec 1 := Scalar.cmpi .eq c16_i32_19 c0_i32_20
  let c1_i32_21 : BitVec 32 := 1#32
  let v47 : BitVec 32 := Scalar.select v46 c1_i32_21 c16_i32_19
  let v48 : BitVec 32 := Scalar.remsi v45 v47
  let c0_i32_23 : BitVec 32 := 0#32
  let v50 : BitVec 1 := Scalar.cmpi .slt v48 c0_i32_23
  let c0_i32_24 : BitVec 32 := 0#32
  let v51 : BitVec 1 := Scalar.cmpi .slt v47 c0_i32_24
  let v52 : BitVec 1 := Scalar.xori v50 v51
  let c0_i32_22 : BitVec 32 := 0#32
  let v49 : BitVec 1 := Scalar.cmpi .ne v48 c0_i32_22
  let v53 : BitVec 1 := Scalar.andi v52 v49
  let v54 : BitVec 32 := Scalar.addi v48 v47
  let v55 : BitVec 32 := Scalar.select v53 v54 v48
  let c0_i32_26 : BitVec 32 := 0#32
  let v57 : BitVec 1 := Scalar.cmpi .sgt v55 c0_i32_26
  let v58 : BitVec 32 := Scalar.extui v57
  let c0_i32_27 : BitVec 32 := 0#32
  let v59 : BitVec 1 := Scalar.cmpi .slt v55 c0_i32_27
  let v60 : BitVec 32 := Scalar.extui v59
  let v61 : BitVec 32 := Scalar.subi v58 v60
  let c4_i32_25 : BitVec 32 := 4#32
  let c0_i32_28 : BitVec 32 := 0#32
  let v62 : BitVec 1 := Scalar.cmpi .sgt c4_i32_25 c0_i32_28
  let v63 : BitVec 32 := Scalar.extui v62
  let c0_i32_29 : BitVec 32 := 0#32
  let v64 : BitVec 1 := Scalar.cmpi .slt c4_i32_25 c0_i32_29
  let v65 : BitVec 32 := Scalar.extui v64
  let v66 : BitVec 32 := Scalar.subi v63 v65
  let v67 : BitVec 1 := Scalar.cmpi .ne v61 v66
  let v68 : BitVec 32 := Scalar.remsi v55 c4_i32_25
  let c0_i32_30 : BitVec 32 := 0#32
  let v69 : BitVec 1 := Scalar.cmpi .ne v68 c0_i32_30
  let v70 : BitVec 1 := Scalar.andi v67 v69
  let v56 : BitVec 32 := Scalar.divsi v55 c4_i32_25
  let c1_i32_31 : BitVec 32 := 1#32
  let v71 : BitVec 32 := Scalar.subi v56 c1_i32_31
  let v72 : BitVec 32 := Scalar.select v70 v71 v56
  let c2_i32_38 : BitVec 32 := 2#32
  let c0_i32_39 : BitVec 32 := 0#32
  let v83 : BitVec 1 := Scalar.cmpi .eq c2_i32_38 c0_i32_39
  let c1_i32_40 : BitVec 32 := 1#32
  let v84 : BitVec 32 := Scalar.select v83 c1_i32_40 c2_i32_38
  let v85 : BitVec 32 := Scalar.remsi v72 v84
  let c0_i32_42 : BitVec 32 := 0#32
  let v87 : BitVec 1 := Scalar.cmpi .slt v85 c0_i32_42
  let c0_i32_43 : BitVec 32 := 0#32
  let v88 : BitVec 1 := Scalar.cmpi .slt v84 c0_i32_43
  let v89 : BitVec 1 := Scalar.xori v87 v88
  let c0_i32_41 : BitVec 32 := 0#32
  let v86 : BitVec 1 := Scalar.cmpi .ne v85 c0_i32_41
  let v90 : BitVec 1 := Scalar.andi v89 v86
  let v91 : BitVec 32 := Scalar.addi v85 v84
  let v92 : BitVec 32 := Scalar.select v90 v91 v85
  let c0_i32_44 : BitVec 32 := 0#32
  let v93 : BitVec 1 := Scalar.cmpi .eq v92 c0_i32_44
  let c4_i32_32 : BitVec 32 := 4#32
  let c0_i32_33 : BitVec 32 := 0#32
  let v73 : BitVec 1 := Scalar.cmpi .eq c4_i32_32 c0_i32_33
  let c1_i32_34 : BitVec 32 := 1#32
  let v74 : BitVec 32 := Scalar.select v73 c1_i32_34 c4_i32_32
  let v75 : BitVec 32 := Scalar.remsi v55 v74
  let c0_i32_36 : BitVec 32 := 0#32
  let v77 : BitVec 1 := Scalar.cmpi .slt v75 c0_i32_36
  let c0_i32_37 : BitVec 32 := 0#32
  let v78 : BitVec 1 := Scalar.cmpi .slt v74 c0_i32_37
  let v79 : BitVec 1 := Scalar.xori v77 v78
  let c0_i32_35 : BitVec 32 := 0#32
  let v76 : BitVec 1 := Scalar.cmpi .ne v75 c0_i32_35
  let v80 : BitVec 1 := Scalar.andi v79 v76
  let v81 : BitVec 32 := Scalar.addi v75 v74
  let v82 : BitVec 32 := Scalar.select v80 v81 v75
  let c3_i32_45 : BitVec 32 := 3#32
  let v94 : BitVec 32 := Scalar.subi c3_i32_45 v82
  let v95 : BitVec 32 := Scalar.select v93 v82 v94
  let v96 : BitVec 32 := Scalar.muli c4_i32_46 v95
  let v97 : BitVec 32 := Scalar.addi v96 v72
  let c1_i32_3726 : BitVec 32 := 1#32
  let v4985 : BitVec 32 := Scalar.muli v97 c1_i32_3726
  let v4986 : BitVec 32 := Scalar.addi c0_i32_3727 v4985
  v4986.toNat
def k0_dev101 (d0 : Dev nD) : Nat :=
  let c0_i32_3741 : BitVec 32 := 0#32
  let c4_i32_46 : BitVec 32 := 4#32
  let c4_i32_17 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let v43 : BitVec 32 := Scalar.muli c4_i32_17 v12
  let c2_i32 : BitVec 32 := 2#32
  let c0_i32_11 : BitVec 32 := 0#32
  let v30 : BitVec 1 := Scalar.cmpi .eq c2_i32 c0_i32_11
  let c1_i32_12 : BitVec 32 := 1#32
  let v31 : BitVec 32 := Scalar.select v30 c1_i32_12 c2_i32
  let v32 : BitVec 32 := Scalar.remsi v12 v31
  let c0_i32_14 : BitVec 32 := 0#32
  let v34 : BitVec 1 := Scalar.cmpi .slt v32 c0_i32_14
  let c0_i32_15 : BitVec 32 := 0#32
  let v35 : BitVec 1 := Scalar.cmpi .slt v31 c0_i32_15
  let v36 : BitVec 1 := Scalar.xori v34 v35
  let c0_i32_13 : BitVec 32 := 0#32
  let v33 : BitVec 1 := Scalar.cmpi .ne v32 c0_i32_13
  let v37 : BitVec 1 := Scalar.andi v36 v33
  let v38 : BitVec 32 := Scalar.addi v32 v31
  let v39 : BitVec 32 := Scalar.select v37 v38 v32
  let c0_i32_16 : BitVec 32 := 0#32
  let v40 : BitVec 1 := Scalar.cmpi .eq v39 c0_i32_16
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c4_i32_4 : BitVec 32 := 4#32
  let c0_i32_7 : BitVec 32 := 0#32
  let v19 : BitVec 1 := Scalar.cmpi .sgt c4_i32_4 c0_i32_7
  let v20 : BitVec 32 := Scalar.extui v19
  let c0_i32_8 : BitVec 32 := 0#32
  let v21 : BitVec 1 := Scalar.cmpi .slt c4_i32_4 c0_i32_8
  let v22 : BitVec 32 := Scalar.extui v21
  let v23 : BitVec 32 := Scalar.subi v20 v22
  let v24 : BitVec 1 := Scalar.cmpi .ne v18 v23
  let v25 : BitVec 32 := Scalar.remsi v2 c4_i32_4
  let c0_i32_9 : BitVec 32 := 0#32
  let v26 : BitVec 1 := Scalar.cmpi .ne v25 c0_i32_9
  let v27 : BitVec 1 := Scalar.andi v24 v26
  let v13 : BitVec 32 := Scalar.divsi v2 c4_i32_4
  let c1_i32_10 : BitVec 32 := 1#32
  let v28 : BitVec 32 := Scalar.subi v13 c1_i32_10
  let v29 : BitVec 32 := Scalar.select v27 v28 v13
  let c3_i32 : BitVec 32 := 3#32
  let v41 : BitVec 32 := Scalar.subi c3_i32 v29
  let v42 : BitVec 32 := Scalar.select v40 v29 v41
  let v44 : BitVec 32 := Scalar.addi v43 v42
  let c1_i32_18 : BitVec 32 := 1#32
  let v45 : BitVec 32 := Scalar.addi v44 c1_i32_18
  let c16_i32_19 : BitVec 32 := 16#32
  let c0_i32_20 : BitVec 32 := 0#32
  let v46 : BitVec 1 := Scalar.cmpi .eq c16_i32_19 c0_i32_20
  let c1_i32_21 : BitVec 32 := 1#32
  let v47 : BitVec 32 := Scalar.select v46 c1_i32_21 c16_i32_19
  let v48 : BitVec 32 := Scalar.remsi v45 v47
  let c0_i32_23 : BitVec 32 := 0#32
  let v50 : BitVec 1 := Scalar.cmpi .slt v48 c0_i32_23
  let c0_i32_24 : BitVec 32 := 0#32
  let v51 : BitVec 1 := Scalar.cmpi .slt v47 c0_i32_24
  let v52 : BitVec 1 := Scalar.xori v50 v51
  let c0_i32_22 : BitVec 32 := 0#32
  let v49 : BitVec 1 := Scalar.cmpi .ne v48 c0_i32_22
  let v53 : BitVec 1 := Scalar.andi v52 v49
  let v54 : BitVec 32 := Scalar.addi v48 v47
  let v55 : BitVec 32 := Scalar.select v53 v54 v48
  let c0_i32_26 : BitVec 32 := 0#32
  let v57 : BitVec 1 := Scalar.cmpi .sgt v55 c0_i32_26
  let v58 : BitVec 32 := Scalar.extui v57
  let c0_i32_27 : BitVec 32 := 0#32
  let v59 : BitVec 1 := Scalar.cmpi .slt v55 c0_i32_27
  let v60 : BitVec 32 := Scalar.extui v59
  let v61 : BitVec 32 := Scalar.subi v58 v60
  let c4_i32_25 : BitVec 32 := 4#32
  let c0_i32_28 : BitVec 32 := 0#32
  let v62 : BitVec 1 := Scalar.cmpi .sgt c4_i32_25 c0_i32_28
  let v63 : BitVec 32 := Scalar.extui v62
  let c0_i32_29 : BitVec 32 := 0#32
  let v64 : BitVec 1 := Scalar.cmpi .slt c4_i32_25 c0_i32_29
  let v65 : BitVec 32 := Scalar.extui v64
  let v66 : BitVec 32 := Scalar.subi v63 v65
  let v67 : BitVec 1 := Scalar.cmpi .ne v61 v66
  let v68 : BitVec 32 := Scalar.remsi v55 c4_i32_25
  let c0_i32_30 : BitVec 32 := 0#32
  let v69 : BitVec 1 := Scalar.cmpi .ne v68 c0_i32_30
  let v70 : BitVec 1 := Scalar.andi v67 v69
  let v56 : BitVec 32 := Scalar.divsi v55 c4_i32_25
  let c1_i32_31 : BitVec 32 := 1#32
  let v71 : BitVec 32 := Scalar.subi v56 c1_i32_31
  let v72 : BitVec 32 := Scalar.select v70 v71 v56
  let c2_i32_38 : BitVec 32 := 2#32
  let c0_i32_39 : BitVec 32 := 0#32
  let v83 : BitVec 1 := Scalar.cmpi .eq c2_i32_38 c0_i32_39
  let c1_i32_40 : BitVec 32 := 1#32
  let v84 : BitVec 32 := Scalar.select v83 c1_i32_40 c2_i32_38
  let v85 : BitVec 32 := Scalar.remsi v72 v84
  let c0_i32_42 : BitVec 32 := 0#32
  let v87 : BitVec 1 := Scalar.cmpi .slt v85 c0_i32_42
  let c0_i32_43 : BitVec 32 := 0#32
  let v88 : BitVec 1 := Scalar.cmpi .slt v84 c0_i32_43
  let v89 : BitVec 1 := Scalar.xori v87 v88
  let c0_i32_41 : BitVec 32 := 0#32
  let v86 : BitVec 1 := Scalar.cmpi .ne v85 c0_i32_41
  let v90 : BitVec 1 := Scalar.andi v89 v86
  let v91 : BitVec 32 := Scalar.addi v85 v84
  let v92 : BitVec 32 := Scalar.select v90 v91 v85
  let c0_i32_44 : BitVec 32 := 0#32
  let v93 : BitVec 1 := Scalar.cmpi .eq v92 c0_i32_44
  let c4_i32_32 : BitVec 32 := 4#32
  let c0_i32_33 : BitVec 32 := 0#32
  let v73 : BitVec 1 := Scalar.cmpi .eq c4_i32_32 c0_i32_33
  let c1_i32_34 : BitVec 32 := 1#32
  let v74 : BitVec 32 := Scalar.select v73 c1_i32_34 c4_i32_32
  let v75 : BitVec 32 := Scalar.remsi v55 v74
  let c0_i32_36 : BitVec 32 := 0#32
  let v77 : BitVec 1 := Scalar.cmpi .slt v75 c0_i32_36
  let c0_i32_37 : BitVec 32 := 0#32
  let v78 : BitVec 1 := Scalar.cmpi .slt v74 c0_i32_37
  let v79 : BitVec 1 := Scalar.xori v77 v78
  let c0_i32_35 : BitVec 32 := 0#32
  let v76 : BitVec 1 := Scalar.cmpi .ne v75 c0_i32_35
  let v80 : BitVec 1 := Scalar.andi v79 v76
  let v81 : BitVec 32 := Scalar.addi v75 v74
  let v82 : BitVec 32 := Scalar.select v80 v81 v75
  let c3_i32_45 : BitVec 32 := 3#32
  let v94 : BitVec 32 := Scalar.subi c3_i32_45 v82
  let v95 : BitVec 32 := Scalar.select v93 v82 v94
  let v96 : BitVec 32 := Scalar.muli c4_i32_46 v95
  let v97 : BitVec 32 := Scalar.addi v96 v72
  let c1_i32_3740 : BitVec 32 := 1#32
  let v4995 : BitVec 32 := Scalar.muli v97 c1_i32_3740
  let v4996 : BitVec 32 := Scalar.addi c0_i32_3741 v4995
  v4996.toNat
def k0_dev102 (d0 : Dev nD) : Nat :=
  let c0_i32_3753 : BitVec 32 := 0#32
  let c4_i32_75 : BitVec 32 := 4#32
  let c4_i32_17 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let v43 : BitVec 32 := Scalar.muli c4_i32_17 v12
  let c2_i32 : BitVec 32 := 2#32
  let c0_i32_11 : BitVec 32 := 0#32
  let v30 : BitVec 1 := Scalar.cmpi .eq c2_i32 c0_i32_11
  let c1_i32_12 : BitVec 32 := 1#32
  let v31 : BitVec 32 := Scalar.select v30 c1_i32_12 c2_i32
  let v32 : BitVec 32 := Scalar.remsi v12 v31
  let c0_i32_14 : BitVec 32 := 0#32
  let v34 : BitVec 1 := Scalar.cmpi .slt v32 c0_i32_14
  let c0_i32_15 : BitVec 32 := 0#32
  let v35 : BitVec 1 := Scalar.cmpi .slt v31 c0_i32_15
  let v36 : BitVec 1 := Scalar.xori v34 v35
  let c0_i32_13 : BitVec 32 := 0#32
  let v33 : BitVec 1 := Scalar.cmpi .ne v32 c0_i32_13
  let v37 : BitVec 1 := Scalar.andi v36 v33
  let v38 : BitVec 32 := Scalar.addi v32 v31
  let v39 : BitVec 32 := Scalar.select v37 v38 v32
  let c0_i32_16 : BitVec 32 := 0#32
  let v40 : BitVec 1 := Scalar.cmpi .eq v39 c0_i32_16
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c4_i32_4 : BitVec 32 := 4#32
  let c0_i32_7 : BitVec 32 := 0#32
  let v19 : BitVec 1 := Scalar.cmpi .sgt c4_i32_4 c0_i32_7
  let v20 : BitVec 32 := Scalar.extui v19
  let c0_i32_8 : BitVec 32 := 0#32
  let v21 : BitVec 1 := Scalar.cmpi .slt c4_i32_4 c0_i32_8
  let v22 : BitVec 32 := Scalar.extui v21
  let v23 : BitVec 32 := Scalar.subi v20 v22
  let v24 : BitVec 1 := Scalar.cmpi .ne v18 v23
  let v25 : BitVec 32 := Scalar.remsi v2 c4_i32_4
  let c0_i32_9 : BitVec 32 := 0#32
  let v26 : BitVec 1 := Scalar.cmpi .ne v25 c0_i32_9
  let v27 : BitVec 1 := Scalar.andi v24 v26
  let v13 : BitVec 32 := Scalar.divsi v2 c4_i32_4
  let c1_i32_10 : BitVec 32 := 1#32
  let v28 : BitVec 32 := Scalar.subi v13 c1_i32_10
  let v29 : BitVec 32 := Scalar.select v27 v28 v13
  let c3_i32 : BitVec 32 := 3#32
  let v41 : BitVec 32 := Scalar.subi c3_i32 v29
  let v42 : BitVec 32 := Scalar.select v40 v29 v41
  let v44 : BitVec 32 := Scalar.addi v43 v42
  let c1_i32_47 : BitVec 32 := 1#32
  let v98 : BitVec 32 := Scalar.subi v44 c1_i32_47
  let c16_i32_48 : BitVec 32 := 16#32
  let c0_i32_49 : BitVec 32 := 0#32
  let v99 : BitVec 1 := Scalar.cmpi .eq c16_i32_48 c0_i32_49
  let c1_i32_50 : BitVec 32 := 1#32
  let v100 : BitVec 32 := Scalar.select v99 c1_i32_50 c16_i32_48
  let v101 : BitVec 32 := Scalar.remsi v98 v100
  let c0_i32_52 : BitVec 32 := 0#32
  let v103 : BitVec 1 := Scalar.cmpi .slt v101 c0_i32_52
  let c0_i32_53 : BitVec 32 := 0#32
  let v104 : BitVec 1 := Scalar.cmpi .slt v100 c0_i32_53
  let v105 : BitVec 1 := Scalar.xori v103 v104
  let c0_i32_51 : BitVec 32 := 0#32
  let v102 : BitVec 1 := Scalar.cmpi .ne v101 c0_i32_51
  let v106 : BitVec 1 := Scalar.andi v105 v102
  let v107 : BitVec 32 := Scalar.addi v101 v100
  let v108 : BitVec 32 := Scalar.select v106 v107 v101
  let c0_i32_55 : BitVec 32 := 0#32
  let v110 : BitVec 1 := Scalar.cmpi .sgt v108 c0_i32_55
  let v111 : BitVec 32 := Scalar.extui v110
  let c0_i32_56 : BitVec 32 := 0#32
  let v112 : BitVec 1 := Scalar.cmpi .slt v108 c0_i32_56
  let v113 : BitVec 32 := Scalar.extui v112
  let v114 : BitVec 32 := Scalar.subi v111 v113
  let c4_i32_54 : BitVec 32 := 4#32
  let c0_i32_57 : BitVec 32 := 0#32
  let v115 : BitVec 1 := Scalar.cmpi .sgt c4_i32_54 c0_i32_57
  let v116 : BitVec 32 := Scalar.extui v115
  let c0_i32_58 : BitVec 32 := 0#32
  let v117 : BitVec 1 := Scalar.cmpi .slt c4_i32_54 c0_i32_58
  let v118 : BitVec 32 := Scalar.extui v117
  let v119 : BitVec 32 := Scalar.subi v116 v118
  let v120 : BitVec 1 := Scalar.cmpi .ne v114 v119
  let v121 : BitVec 32 := Scalar.remsi v108 c4_i32_54
  let c0_i32_59 : BitVec 32 := 0#32
  let v122 : BitVec 1 := Scalar.cmpi .ne v121 c0_i32_59
  let v123 : BitVec 1 := Scalar.andi v120 v122
  let v109 : BitVec 32 := Scalar.divsi v108 c4_i32_54
  let c1_i32_60 : BitVec 32 := 1#32
  let v124 : BitVec 32 := Scalar.subi v109 c1_i32_60
  let v125 : BitVec 32 := Scalar.select v123 v124 v109
  let c2_i32_67 : BitVec 32 := 2#32
  let c0_i32_68 : BitVec 32 := 0#32
  let v136 : BitVec 1 := Scalar.cmpi .eq c2_i32_67 c0_i32_68
  let c1_i32_69 : BitVec 32 := 1#32
  let v137 : BitVec 32 := Scalar.select v136 c1_i32_69 c2_i32_67
  let v138 : BitVec 32 := Scalar.remsi v125 v137
  let c0_i32_71 : BitVec 32 := 0#32
  let v140 : BitVec 1 := Scalar.cmpi .slt v138 c0_i32_71
  let c0_i32_72 : BitVec 32 := 0#32
  let v141 : BitVec 1 := Scalar.cmpi .slt v137 c0_i32_72
  let v142 : BitVec 1 := Scalar.xori v140 v141
  let c0_i32_70 : BitVec 32 := 0#32
  let v139 : BitVec 1 := Scalar.cmpi .ne v138 c0_i32_70
  let v143 : BitVec 1 := Scalar.andi v142 v139
  let v144 : BitVec 32 := Scalar.addi v138 v137
  let v145 : BitVec 32 := Scalar.select v143 v144 v138
  let c0_i32_73 : BitVec 32 := 0#32
  let v146 : BitVec 1 := Scalar.cmpi .eq v145 c0_i32_73
  let c4_i32_61 : BitVec 32 := 4#32
  let c0_i32_62 : BitVec 32 := 0#32
  let v126 : BitVec 1 := Scalar.cmpi .eq c4_i32_61 c0_i32_62
  let c1_i32_63 : BitVec 32 := 1#32
  let v127 : BitVec 32 := Scalar.select v126 c1_i32_63 c4_i32_61
  let v128 : BitVec 32 := Scalar.remsi v108 v127
  let c0_i32_65 : BitVec 32 := 0#32
  let v130 : BitVec 1 := Scalar.cmpi .slt v128 c0_i32_65
  let c0_i32_66 : BitVec 32 := 0#32
  let v131 : BitVec 1 := Scalar.cmpi .slt v127 c0_i32_66
  let v132 : BitVec 1 := Scalar.xori v130 v131
  let c0_i32_64 : BitVec 32 := 0#32
  let v129 : BitVec 1 := Scalar.cmpi .ne v128 c0_i32_64
  let v133 : BitVec 1 := Scalar.andi v132 v129
  let v134 : BitVec 32 := Scalar.addi v128 v127
  let v135 : BitVec 32 := Scalar.select v133 v134 v128
  let c3_i32_74 : BitVec 32 := 3#32
  let v147 : BitVec 32 := Scalar.subi c3_i32_74 v135
  let v148 : BitVec 32 := Scalar.select v146 v135 v147
  let v149 : BitVec 32 := Scalar.muli c4_i32_75 v148
  let v150 : BitVec 32 := Scalar.addi v149 v125
  let c1_i32_3752 : BitVec 32 := 1#32
  let v5005 : BitVec 32 := Scalar.muli v150 c1_i32_3752
  let v5006 : BitVec 32 := Scalar.addi c0_i32_3753 v5005
  v5006.toNat
def k0_dev103 (d0 : Dev nD) : Nat :=
  let c0_i32_3910 : BitVec 32 := 0#32
  let c4_i32_75 : BitVec 32 := 4#32
  let c4_i32_17 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let v43 : BitVec 32 := Scalar.muli c4_i32_17 v12
  let c2_i32 : BitVec 32 := 2#32
  let c0_i32_11 : BitVec 32 := 0#32
  let v30 : BitVec 1 := Scalar.cmpi .eq c2_i32 c0_i32_11
  let c1_i32_12 : BitVec 32 := 1#32
  let v31 : BitVec 32 := Scalar.select v30 c1_i32_12 c2_i32
  let v32 : BitVec 32 := Scalar.remsi v12 v31
  let c0_i32_14 : BitVec 32 := 0#32
  let v34 : BitVec 1 := Scalar.cmpi .slt v32 c0_i32_14
  let c0_i32_15 : BitVec 32 := 0#32
  let v35 : BitVec 1 := Scalar.cmpi .slt v31 c0_i32_15
  let v36 : BitVec 1 := Scalar.xori v34 v35
  let c0_i32_13 : BitVec 32 := 0#32
  let v33 : BitVec 1 := Scalar.cmpi .ne v32 c0_i32_13
  let v37 : BitVec 1 := Scalar.andi v36 v33
  let v38 : BitVec 32 := Scalar.addi v32 v31
  let v39 : BitVec 32 := Scalar.select v37 v38 v32
  let c0_i32_16 : BitVec 32 := 0#32
  let v40 : BitVec 1 := Scalar.cmpi .eq v39 c0_i32_16
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c4_i32_4 : BitVec 32 := 4#32
  let c0_i32_7 : BitVec 32 := 0#32
  let v19 : BitVec 1 := Scalar.cmpi .sgt c4_i32_4 c0_i32_7
  let v20 : BitVec 32 := Scalar.extui v19
  let c0_i32_8 : BitVec 32 := 0#32
  let v21 : BitVec 1 := Scalar.cmpi .slt c4_i32_4 c0_i32_8
  let v22 : BitVec 32 := Scalar.extui v21
  let v23 : BitVec 32 := Scalar.subi v20 v22
  let v24 : BitVec 1 := Scalar.cmpi .ne v18 v23
  let v25 : BitVec 32 := Scalar.remsi v2 c4_i32_4
  let c0_i32_9 : BitVec 32 := 0#32
  let v26 : BitVec 1 := Scalar.cmpi .ne v25 c0_i32_9
  let v27 : BitVec 1 := Scalar.andi v24 v26
  let v13 : BitVec 32 := Scalar.divsi v2 c4_i32_4
  let c1_i32_10 : BitVec 32 := 1#32
  let v28 : BitVec 32 := Scalar.subi v13 c1_i32_10
  let v29 : BitVec 32 := Scalar.select v27 v28 v13
  let c3_i32 : BitVec 32 := 3#32
  let v41 : BitVec 32 := Scalar.subi c3_i32 v29
  let v42 : BitVec 32 := Scalar.select v40 v29 v41
  let v44 : BitVec 32 := Scalar.addi v43 v42
  let c1_i32_47 : BitVec 32 := 1#32
  let v98 : BitVec 32 := Scalar.subi v44 c1_i32_47
  let c16_i32_48 : BitVec 32 := 16#32
  let c0_i32_49 : BitVec 32 := 0#32
  let v99 : BitVec 1 := Scalar.cmpi .eq c16_i32_48 c0_i32_49
  let c1_i32_50 : BitVec 32 := 1#32
  let v100 : BitVec 32 := Scalar.select v99 c1_i32_50 c16_i32_48
  let v101 : BitVec 32 := Scalar.remsi v98 v100
  let c0_i32_52 : BitVec 32 := 0#32
  let v103 : BitVec 1 := Scalar.cmpi .slt v101 c0_i32_52
  let c0_i32_53 : BitVec 32 := 0#32
  let v104 : BitVec 1 := Scalar.cmpi .slt v100 c0_i32_53
  let v105 : BitVec 1 := Scalar.xori v103 v104
  let c0_i32_51 : BitVec 32 := 0#32
  let v102 : BitVec 1 := Scalar.cmpi .ne v101 c0_i32_51
  let v106 : BitVec 1 := Scalar.andi v105 v102
  let v107 : BitVec 32 := Scalar.addi v101 v100
  let v108 : BitVec 32 := Scalar.select v106 v107 v101
  let c0_i32_55 : BitVec 32 := 0#32
  let v110 : BitVec 1 := Scalar.cmpi .sgt v108 c0_i32_55
  let v111 : BitVec 32 := Scalar.extui v110
  let c0_i32_56 : BitVec 32 := 0#32
  let v112 : BitVec 1 := Scalar.cmpi .slt v108 c0_i32_56
  let v113 : BitVec 32 := Scalar.extui v112
  let v114 : BitVec 32 := Scalar.subi v111 v113
  let c4_i32_54 : BitVec 32 := 4#32
  let c0_i32_57 : BitVec 32 := 0#32
  let v115 : BitVec 1 := Scalar.cmpi .sgt c4_i32_54 c0_i32_57
  let v116 : BitVec 32 := Scalar.extui v115
  let c0_i32_58 : BitVec 32 := 0#32
  let v117 : BitVec 1 := Scalar.cmpi .slt c4_i32_54 c0_i32_58
  let v118 : BitVec 32 := Scalar.extui v117
  let v119 : BitVec 32 := Scalar.subi v116 v118
  let v120 : BitVec 1 := Scalar.cmpi .ne v114 v119
  let v121 : BitVec 32 := Scalar.remsi v108 c4_i32_54
  let c0_i32_59 : BitVec 32 := 0#32
  let v122 : BitVec 1 := Scalar.cmpi .ne v121 c0_i32_59
  let v123 : BitVec 1 := Scalar.andi v120 v122
  let v109 : BitVec 32 := Scalar.divsi v108 c4_i32_54
  let c1_i32_60 : BitVec 32 := 1#32
  let v124 : BitVec 32 := Scalar.subi v109 c1_i32_60
  let v125 : BitVec 32 := Scalar.select v123 v124 v109
  let c2_i32_67 : BitVec 32 := 2#32
  let c0_i32_68 : BitVec 32 := 0#32
  let v136 : BitVec 1 := Scalar.cmpi .eq c2_i32_67 c0_i32_68
  let c1_i32_69 : BitVec 32 := 1#32
  let v137 : BitVec 32 := Scalar.select v136 c1_i32_69 c2_i32_67
  let v138 : BitVec 32 := Scalar.remsi v125 v137
  let c0_i32_71 : BitVec 32 := 0#32
  let v140 : BitVec 1 := Scalar.cmpi .slt v138 c0_i32_71
  let c0_i32_72 : BitVec 32 := 0#32
  let v141 : BitVec 1 := Scalar.cmpi .slt v137 c0_i32_72
  let v142 : BitVec 1 := Scalar.xori v140 v141
  let c0_i32_70 : BitVec 32 := 0#32
  let v139 : BitVec 1 := Scalar.cmpi .ne v138 c0_i32_70
  let v143 : BitVec 1 := Scalar.andi v142 v139
  let v144 : BitVec 32 := Scalar.addi v138 v137
  let v145 : BitVec 32 := Scalar.select v143 v144 v138
  let c0_i32_73 : BitVec 32 := 0#32
  let v146 : BitVec 1 := Scalar.cmpi .eq v145 c0_i32_73
  let c4_i32_61 : BitVec 32 := 4#32
  let c0_i32_62 : BitVec 32 := 0#32
  let v126 : BitVec 1 := Scalar.cmpi .eq c4_i32_61 c0_i32_62
  let c1_i32_63 : BitVec 32 := 1#32
  let v127 : BitVec 32 := Scalar.select v126 c1_i32_63 c4_i32_61
  let v128 : BitVec 32 := Scalar.remsi v108 v127
  let c0_i32_65 : BitVec 32 := 0#32
  let v130 : BitVec 1 := Scalar.cmpi .slt v128 c0_i32_65
  let c0_i32_66 : BitVec 32 := 0#32
  let v131 : BitVec 1 := Scalar.cmpi .slt v127 c0_i32_66
  let v132 : BitVec 1 := Scalar.xori v130 v131
  let c0_i32_64 : BitVec 32 := 0#32
  let v129 : BitVec 1 := Scalar.cmpi .ne v128 c0_i32_64
  let v133 : BitVec 1 := Scalar.andi v132 v129
  let v134 : BitVec 32 := Scalar.addi v128 v127
  let v135 : BitVec 32 := Scalar.select v133 v134 v128
  let c3_i32_74 : BitVec 32 := 3#32
  let v147 : BitVec 32 := Scalar.subi c3_i32_74 v135
  let v148 : BitVec 32 := Scalar.select v146 v135 v147
  let v149 : BitVec 32 := Scalar.muli c4_i32_75 v148
  let v150 : BitVec 32 := Scalar.addi v149 v125
  let c1_i32_3909 : BitVec 32 := 1#32
  let v5273 : BitVec 32 := Scalar.muli v150 c1_i32_3909
  let v5274 : BitVec 32 := Scalar.addi c0_i32_3910 v5273
  v5274.toNat
def k0_dev104 (d0 : Dev nD) : Nat :=
  let c0_i32_3938 : BitVec 32 := 0#32
  let c4_i32_46 : BitVec 32 := 4#32
  let c4_i32_17 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let v43 : BitVec 32 := Scalar.muli c4_i32_17 v12
  let c2_i32 : BitVec 32 := 2#32
  let c0_i32_11 : BitVec 32 := 0#32
  let v30 : BitVec 1 := Scalar.cmpi .eq c2_i32 c0_i32_11
  let c1_i32_12 : BitVec 32 := 1#32
  let v31 : BitVec 32 := Scalar.select v30 c1_i32_12 c2_i32
  let v32 : BitVec 32 := Scalar.remsi v12 v31
  let c0_i32_14 : BitVec 32 := 0#32
  let v34 : BitVec 1 := Scalar.cmpi .slt v32 c0_i32_14
  let c0_i32_15 : BitVec 32 := 0#32
  let v35 : BitVec 1 := Scalar.cmpi .slt v31 c0_i32_15
  let v36 : BitVec 1 := Scalar.xori v34 v35
  let c0_i32_13 : BitVec 32 := 0#32
  let v33 : BitVec 1 := Scalar.cmpi .ne v32 c0_i32_13
  let v37 : BitVec 1 := Scalar.andi v36 v33
  let v38 : BitVec 32 := Scalar.addi v32 v31
  let v39 : BitVec 32 := Scalar.select v37 v38 v32
  let c0_i32_16 : BitVec 32 := 0#32
  let v40 : BitVec 1 := Scalar.cmpi .eq v39 c0_i32_16
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c4_i32_4 : BitVec 32 := 4#32
  let c0_i32_7 : BitVec 32 := 0#32
  let v19 : BitVec 1 := Scalar.cmpi .sgt c4_i32_4 c0_i32_7
  let v20 : BitVec 32 := Scalar.extui v19
  let c0_i32_8 : BitVec 32 := 0#32
  let v21 : BitVec 1 := Scalar.cmpi .slt c4_i32_4 c0_i32_8
  let v22 : BitVec 32 := Scalar.extui v21
  let v23 : BitVec 32 := Scalar.subi v20 v22
  let v24 : BitVec 1 := Scalar.cmpi .ne v18 v23
  let v25 : BitVec 32 := Scalar.remsi v2 c4_i32_4
  let c0_i32_9 : BitVec 32 := 0#32
  let v26 : BitVec 1 := Scalar.cmpi .ne v25 c0_i32_9
  let v27 : BitVec 1 := Scalar.andi v24 v26
  let v13 : BitVec 32 := Scalar.divsi v2 c4_i32_4
  let c1_i32_10 : BitVec 32 := 1#32
  let v28 : BitVec 32 := Scalar.subi v13 c1_i32_10
  let v29 : BitVec 32 := Scalar.select v27 v28 v13
  let c3_i32 : BitVec 32 := 3#32
  let v41 : BitVec 32 := Scalar.subi c3_i32 v29
  let v42 : BitVec 32 := Scalar.select v40 v29 v41
  let v44 : BitVec 32 := Scalar.addi v43 v42
  let c1_i32_18 : BitVec 32 := 1#32
  let v45 : BitVec 32 := Scalar.addi v44 c1_i32_18
  let c16_i32_19 : BitVec 32 := 16#32
  let c0_i32_20 : BitVec 32 := 0#32
  let v46 : BitVec 1 := Scalar.cmpi .eq c16_i32_19 c0_i32_20
  let c1_i32_21 : BitVec 32 := 1#32
  let v47 : BitVec 32 := Scalar.select v46 c1_i32_21 c16_i32_19
  let v48 : BitVec 32 := Scalar.remsi v45 v47
  let c0_i32_23 : BitVec 32 := 0#32
  let v50 : BitVec 1 := Scalar.cmpi .slt v48 c0_i32_23
  let c0_i32_24 : BitVec 32 := 0#32
  let v51 : BitVec 1 := Scalar.cmpi .slt v47 c0_i32_24
  let v52 : BitVec 1 := Scalar.xori v50 v51
  let c0_i32_22 : BitVec 32 := 0#32
  let v49 : BitVec 1 := Scalar.cmpi .ne v48 c0_i32_22
  let v53 : BitVec 1 := Scalar.andi v52 v49
  let v54 : BitVec 32 := Scalar.addi v48 v47
  let v55 : BitVec 32 := Scalar.select v53 v54 v48
  let c0_i32_26 : BitVec 32 := 0#32
  let v57 : BitVec 1 := Scalar.cmpi .sgt v55 c0_i32_26
  let v58 : BitVec 32 := Scalar.extui v57
  let c0_i32_27 : BitVec 32 := 0#32
  let v59 : BitVec 1 := Scalar.cmpi .slt v55 c0_i32_27
  let v60 : BitVec 32 := Scalar.extui v59
  let v61 : BitVec 32 := Scalar.subi v58 v60
  let c4_i32_25 : BitVec 32 := 4#32
  let c0_i32_28 : BitVec 32 := 0#32
  let v62 : BitVec 1 := Scalar.cmpi .sgt c4_i32_25 c0_i32_28
  let v63 : BitVec 32 := Scalar.extui v62
  let c0_i32_29 : BitVec 32 := 0#32
  let v64 : BitVec 1 := Scalar.cmpi .slt c4_i32_25 c0_i32_29
  let v65 : BitVec 32 := Scalar.extui v64
  let v66 : BitVec 32 := Scalar.subi v63 v65
  let v67 : BitVec 1 := Scalar.cmpi .ne v61 v66
  let v68 : BitVec 32 := Scalar.remsi v55 c4_i32_25
  let c0_i32_30 : BitVec 32 := 0#32
  let v69 : BitVec 1 := Scalar.cmpi .ne v68 c0_i32_30
  let v70 : BitVec 1 := Scalar.andi v67 v69
  let v56 : BitVec 32 := Scalar.divsi v55 c4_i32_25
  let c1_i32_31 : BitVec 32 := 1#32
  let v71 : BitVec 32 := Scalar.subi v56 c1_i32_31
  let v72 : BitVec 32 := Scalar.select v70 v71 v56
  let c2_i32_38 : BitVec 32 := 2#32
  let c0_i32_39 : BitVec 32 := 0#32
  let v83 : BitVec 1 := Scalar.cmpi .eq c2_i32_38 c0_i32_39
  let c1_i32_40 : BitVec 32 := 1#32
  let v84 : BitVec 32 := Scalar.select v83 c1_i32_40 c2_i32_38
  let v85 : BitVec 32 := Scalar.remsi v72 v84
  let c0_i32_42 : BitVec 32 := 0#32
  let v87 : BitVec 1 := Scalar.cmpi .slt v85 c0_i32_42
  let c0_i32_43 : BitVec 32 := 0#32
  let v88 : BitVec 1 := Scalar.cmpi .slt v84 c0_i32_43
  let v89 : BitVec 1 := Scalar.xori v87 v88
  let c0_i32_41 : BitVec 32 := 0#32
  let v86 : BitVec 1 := Scalar.cmpi .ne v85 c0_i32_41
  let v90 : BitVec 1 := Scalar.andi v89 v86
  let v91 : BitVec 32 := Scalar.addi v85 v84
  let v92 : BitVec 32 := Scalar.select v90 v91 v85
  let c0_i32_44 : BitVec 32 := 0#32
  let v93 : BitVec 1 := Scalar.cmpi .eq v92 c0_i32_44
  let c4_i32_32 : BitVec 32 := 4#32
  let c0_i32_33 : BitVec 32 := 0#32
  let v73 : BitVec 1 := Scalar.cmpi .eq c4_i32_32 c0_i32_33
  let c1_i32_34 : BitVec 32 := 1#32
  let v74 : BitVec 32 := Scalar.select v73 c1_i32_34 c4_i32_32
  let v75 : BitVec 32 := Scalar.remsi v55 v74
  let c0_i32_36 : BitVec 32 := 0#32
  let v77 : BitVec 1 := Scalar.cmpi .slt v75 c0_i32_36
  let c0_i32_37 : BitVec 32 := 0#32
  let v78 : BitVec 1 := Scalar.cmpi .slt v74 c0_i32_37
  let v79 : BitVec 1 := Scalar.xori v77 v78
  let c0_i32_35 : BitVec 32 := 0#32
  let v76 : BitVec 1 := Scalar.cmpi .ne v75 c0_i32_35
  let v80 : BitVec 1 := Scalar.andi v79 v76
  let v81 : BitVec 32 := Scalar.addi v75 v74
  let v82 : BitVec 32 := Scalar.select v80 v81 v75
  let c3_i32_45 : BitVec 32 := 3#32
  let v94 : BitVec 32 := Scalar.subi c3_i32_45 v82
  let v95 : BitVec 32 := Scalar.select v93 v82 v94
  let v96 : BitVec 32 := Scalar.muli c4_i32_46 v95
  let v97 : BitVec 32 := Scalar.addi v96 v72
  let c1_i32_3937 : BitVec 32 := 1#32
  let v5297 : BitVec 32 := Scalar.muli v97 c1_i32_3937
  let v5298 : BitVec 32 := Scalar.addi c0_i32_3938 v5297
  v5298.toNat
def k0_dev105 (d0 : Dev nD) : Nat :=
  let c0_i32_3952 : BitVec 32 := 0#32
  let c4_i32_46 : BitVec 32 := 4#32
  let c4_i32_17 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let v43 : BitVec 32 := Scalar.muli c4_i32_17 v12
  let c2_i32 : BitVec 32 := 2#32
  let c0_i32_11 : BitVec 32 := 0#32
  let v30 : BitVec 1 := Scalar.cmpi .eq c2_i32 c0_i32_11
  let c1_i32_12 : BitVec 32 := 1#32
  let v31 : BitVec 32 := Scalar.select v30 c1_i32_12 c2_i32
  let v32 : BitVec 32 := Scalar.remsi v12 v31
  let c0_i32_14 : BitVec 32 := 0#32
  let v34 : BitVec 1 := Scalar.cmpi .slt v32 c0_i32_14
  let c0_i32_15 : BitVec 32 := 0#32
  let v35 : BitVec 1 := Scalar.cmpi .slt v31 c0_i32_15
  let v36 : BitVec 1 := Scalar.xori v34 v35
  let c0_i32_13 : BitVec 32 := 0#32
  let v33 : BitVec 1 := Scalar.cmpi .ne v32 c0_i32_13
  let v37 : BitVec 1 := Scalar.andi v36 v33
  let v38 : BitVec 32 := Scalar.addi v32 v31
  let v39 : BitVec 32 := Scalar.select v37 v38 v32
  let c0_i32_16 : BitVec 32 := 0#32
  let v40 : BitVec 1 := Scalar.cmpi .eq v39 c0_i32_16
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c4_i32_4 : BitVec 32 := 4#32
  let c0_i32_7 : BitVec 32 := 0#32
  let v19 : BitVec 1 := Scalar.cmpi .sgt c4_i32_4 c0_i32_7
  let v20 : BitVec 32 := Scalar.extui v19
  let c0_i32_8 : BitVec 32 := 0#32
  let v21 : BitVec 1 := Scalar.cmpi .slt c4_i32_4 c0_i32_8
  let v22 : BitVec 32 := Scalar.extui v21
  let v23 : BitVec 32 := Scalar.subi v20 v22
  let v24 : BitVec 1 := Scalar.cmpi .ne v18 v23
  let v25 : BitVec 32 := Scalar.remsi v2 c4_i32_4
  let c0_i32_9 : BitVec 32 := 0#32
  let v26 : BitVec 1 := Scalar.cmpi .ne v25 c0_i32_9
  let v27 : BitVec 1 := Scalar.andi v24 v26
  let v13 : BitVec 32 := Scalar.divsi v2 c4_i32_4
  let c1_i32_10 : BitVec 32 := 1#32
  let v28 : BitVec 32 := Scalar.subi v13 c1_i32_10
  let v29 : BitVec 32 := Scalar.select v27 v28 v13
  let c3_i32 : BitVec 32 := 3#32
  let v41 : BitVec 32 := Scalar.subi c3_i32 v29
  let v42 : BitVec 32 := Scalar.select v40 v29 v41
  let v44 : BitVec 32 := Scalar.addi v43 v42
  let c1_i32_18 : BitVec 32 := 1#32
  let v45 : BitVec 32 := Scalar.addi v44 c1_i32_18
  let c16_i32_19 : BitVec 32 := 16#32
  let c0_i32_20 : BitVec 32 := 0#32
  let v46 : BitVec 1 := Scalar.cmpi .eq c16_i32_19 c0_i32_20
  let c1_i32_21 : BitVec 32 := 1#32
  let v47 : BitVec 32 := Scalar.select v46 c1_i32_21 c16_i32_19
  let v48 : BitVec 32 := Scalar.remsi v45 v47
  let c0_i32_23 : BitVec 32 := 0#32
  let v50 : BitVec 1 := Scalar.cmpi .slt v48 c0_i32_23
  let c0_i32_24 : BitVec 32 := 0#32
  let v51 : BitVec 1 := Scalar.cmpi .slt v47 c0_i32_24
  let v52 : BitVec 1 := Scalar.xori v50 v51
  let c0_i32_22 : BitVec 32 := 0#32
  let v49 : BitVec 1 := Scalar.cmpi .ne v48 c0_i32_22
  let v53 : BitVec 1 := Scalar.andi v52 v49
  let v54 : BitVec 32 := Scalar.addi v48 v47
  let v55 : BitVec 32 := Scalar.select v53 v54 v48
  let c0_i32_26 : BitVec 32 := 0#32
  let v57 : BitVec 1 := Scalar.cmpi .sgt v55 c0_i32_26
  let v58 : BitVec 32 := Scalar.extui v57
  let c0_i32_27 : BitVec 32 := 0#32
  let v59 : BitVec 1 := Scalar.cmpi .slt v55 c0_i32_27
  let v60 : BitVec 32 := Scalar.extui v59
  let v61 : BitVec 32 := Scalar.subi v58 v60
  let c4_i32_25 : BitVec 32 := 4#32
  let c0_i32_28 : BitVec 32 := 0#32
  let v62 : BitVec 1 := Scalar.cmpi .sgt c4_i32_25 c0_i32_28
  let v63 : BitVec 32 := Scalar.extui v62
  let c0_i32_29 : BitVec 32 := 0#32
  let v64 : BitVec 1 := Scalar.cmpi .slt c4_i32_25 c0_i32_29
  let v65 : BitVec 32 := Scalar.extui v64
  let v66 : BitVec 32 := Scalar.subi v63 v65
  let v67 : BitVec 1 := Scalar.cmpi .ne v61 v66
  let v68 : BitVec 32 := Scalar.remsi v55 c4_i32_25
  let c0_i32_30 : BitVec 32 := 0#32
  let v69 : BitVec 1 := Scalar.cmpi .ne v68 c0_i32_30
  let v70 : BitVec 1 := Scalar.andi v67 v69
  let v56 : BitVec 32 := Scalar.divsi v55 c4_i32_25
  let c1_i32_31 : BitVec 32 := 1#32
  let v71 : BitVec 32 := Scalar.subi v56 c1_i32_31
  let v72 : BitVec 32 := Scalar.select v70 v71 v56
  let c2_i32_38 : BitVec 32 := 2#32
  let c0_i32_39 : BitVec 32 := 0#32
  let v83 : BitVec 1 := Scalar.cmpi .eq c2_i32_38 c0_i32_39
  let c1_i32_40 : BitVec 32 := 1#32
  let v84 : BitVec 32 := Scalar.select v83 c1_i32_40 c2_i32_38
  let v85 : BitVec 32 := Scalar.remsi v72 v84
  let c0_i32_42 : BitVec 32 := 0#32
  let v87 : BitVec 1 := Scalar.cmpi .slt v85 c0_i32_42
  let c0_i32_43 : BitVec 32 := 0#32
  let v88 : BitVec 1 := Scalar.cmpi .slt v84 c0_i32_43
  let v89 : BitVec 1 := Scalar.xori v87 v88
  let c0_i32_41 : BitVec 32 := 0#32
  let v86 : BitVec 1 := Scalar.cmpi .ne v85 c0_i32_41
  let v90 : BitVec 1 := Scalar.andi v89 v86
  let v91 : BitVec 32 := Scalar.addi v85 v84
  let v92 : BitVec 32 := Scalar.select v90 v91 v85
  let c0_i32_44 : BitVec 32 := 0#32
  let v93 : BitVec 1 := Scalar.cmpi .eq v92 c0_i32_44
  let c4_i32_32 : BitVec 32 := 4#32
  let c0_i32_33 : BitVec 32 := 0#32
  let v73 : BitVec 1 := Scalar.cmpi .eq c4_i32_32 c0_i32_33
  let c1_i32_34 : BitVec 32 := 1#32
  let v74 : BitVec 32 := Scalar.select v73 c1_i32_34 c4_i32_32
  let v75 : BitVec 32 := Scalar.remsi v55 v74
  let c0_i32_36 : BitVec 32 := 0#32
  let v77 : BitVec 1 := Scalar.cmpi .slt v75 c0_i32_36
  let c0_i32_37 : BitVec 32 := 0#32
  let v78 : BitVec 1 := Scalar.cmpi .slt v74 c0_i32_37
  let v79 : BitVec 1 := Scalar.xori v77 v78
  let c0_i32_35 : BitVec 32 := 0#32
  let v76 : BitVec 1 := Scalar.cmpi .ne v75 c0_i32_35
  let v80 : BitVec 1 := Scalar.andi v79 v76
  let v81 : BitVec 32 := Scalar.addi v75 v74
  let v82 : BitVec 32 := Scalar.select v80 v81 v75
  let c3_i32_45 : BitVec 32 := 3#32
  let v94 : BitVec 32 := Scalar.subi c3_i32_45 v82
  let v95 : BitVec 32 := Scalar.select v93 v82 v94
  let v96 : BitVec 32 := Scalar.muli c4_i32_46 v95
  let v97 : BitVec 32 := Scalar.addi v96 v72
  let c1_i32_3951 : BitVec 32 := 1#32
  let v5307 : BitVec 32 := Scalar.muli v97 c1_i32_3951
  let v5308 : BitVec 32 := Scalar.addi c0_i32_3952 v5307
  v5308.toNat
def k0_dev106 (d0 : Dev nD) : Nat :=
  let c0_i32_3964 : BitVec 32 := 0#32
  let c4_i32_75 : BitVec 32 := 4#32
  let c4_i32_17 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let v43 : BitVec 32 := Scalar.muli c4_i32_17 v12
  let c2_i32 : BitVec 32 := 2#32
  let c0_i32_11 : BitVec 32 := 0#32
  let v30 : BitVec 1 := Scalar.cmpi .eq c2_i32 c0_i32_11
  let c1_i32_12 : BitVec 32 := 1#32
  let v31 : BitVec 32 := Scalar.select v30 c1_i32_12 c2_i32
  let v32 : BitVec 32 := Scalar.remsi v12 v31
  let c0_i32_14 : BitVec 32 := 0#32
  let v34 : BitVec 1 := Scalar.cmpi .slt v32 c0_i32_14
  let c0_i32_15 : BitVec 32 := 0#32
  let v35 : BitVec 1 := Scalar.cmpi .slt v31 c0_i32_15
  let v36 : BitVec 1 := Scalar.xori v34 v35
  let c0_i32_13 : BitVec 32 := 0#32
  let v33 : BitVec 1 := Scalar.cmpi .ne v32 c0_i32_13
  let v37 : BitVec 1 := Scalar.andi v36 v33
  let v38 : BitVec 32 := Scalar.addi v32 v31
  let v39 : BitVec 32 := Scalar.select v37 v38 v32
  let c0_i32_16 : BitVec 32 := 0#32
  let v40 : BitVec 1 := Scalar.cmpi .eq v39 c0_i32_16
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c4_i32_4 : BitVec 32 := 4#32
  let c0_i32_7 : BitVec 32 := 0#32
  let v19 : BitVec 1 := Scalar.cmpi .sgt c4_i32_4 c0_i32_7
  let v20 : BitVec 32 := Scalar.extui v19
  let c0_i32_8 : BitVec 32 := 0#32
  let v21 : BitVec 1 := Scalar.cmpi .slt c4_i32_4 c0_i32_8
  let v22 : BitVec 32 := Scalar.extui v21
  let v23 : BitVec 32 := Scalar.subi v20 v22
  let v24 : BitVec 1 := Scalar.cmpi .ne v18 v23
  let v25 : BitVec 32 := Scalar.remsi v2 c4_i32_4
  let c0_i32_9 : BitVec 32 := 0#32
  let v26 : BitVec 1 := Scalar.cmpi .ne v25 c0_i32_9
  let v27 : BitVec 1 := Scalar.andi v24 v26
  let v13 : BitVec 32 := Scalar.divsi v2 c4_i32_4
  let c1_i32_10 : BitVec 32 := 1#32
  let v28 : BitVec 32 := Scalar.subi v13 c1_i32_10
  let v29 : BitVec 32 := Scalar.select v27 v28 v13
  let c3_i32 : BitVec 32 := 3#32
  let v41 : BitVec 32 := Scalar.subi c3_i32 v29
  let v42 : BitVec 32 := Scalar.select v40 v29 v41
  let v44 : BitVec 32 := Scalar.addi v43 v42
  let c1_i32_47 : BitVec 32 := 1#32
  let v98 : BitVec 32 := Scalar.subi v44 c1_i32_47
  let c16_i32_48 : BitVec 32 := 16#32
  let c0_i32_49 : BitVec 32 := 0#32
  let v99 : BitVec 1 := Scalar.cmpi .eq c16_i32_48 c0_i32_49
  let c1_i32_50 : BitVec 32 := 1#32
  let v100 : BitVec 32 := Scalar.select v99 c1_i32_50 c16_i32_48
  let v101 : BitVec 32 := Scalar.remsi v98 v100
  let c0_i32_52 : BitVec 32 := 0#32
  let v103 : BitVec 1 := Scalar.cmpi .slt v101 c0_i32_52
  let c0_i32_53 : BitVec 32 := 0#32
  let v104 : BitVec 1 := Scalar.cmpi .slt v100 c0_i32_53
  let v105 : BitVec 1 := Scalar.xori v103 v104
  let c0_i32_51 : BitVec 32 := 0#32
  let v102 : BitVec 1 := Scalar.cmpi .ne v101 c0_i32_51
  let v106 : BitVec 1 := Scalar.andi v105 v102
  let v107 : BitVec 32 := Scalar.addi v101 v100
  let v108 : BitVec 32 := Scalar.select v106 v107 v101
  let c0_i32_55 : BitVec 32 := 0#32
  let v110 : BitVec 1 := Scalar.cmpi .sgt v108 c0_i32_55
  let v111 : BitVec 32 := Scalar.extui v110
  let c0_i32_56 : BitVec 32 := 0#32
  let v112 : BitVec 1 := Scalar.cmpi .slt v108 c0_i32_56
  let v113 : BitVec 32 := Scalar.extui v112
  let v114 : BitVec 32 := Scalar.subi v111 v113
  let c4_i32_54 : BitVec 32 := 4#32
  let c0_i32_57 : BitVec 32 := 0#32
  let v115 : BitVec 1 := Scalar.cmpi .sgt c4_i32_54 c0_i32_57
  let v116 : BitVec 32 := Scalar.extui v115
  let c0_i32_58 : BitVec 32 := 0#32
  let v117 : BitVec 1 := Scalar.cmpi .slt c4_i32_54 c0_i32_58
  let v118 : BitVec 32 := Scalar.extui v117
  let v119 : BitVec 32 := Scalar.subi v116 v118
  let v120 : BitVec 1 := Scalar.cmpi .ne v114 v119
  let v121 : BitVec 32 := Scalar.remsi v108 c4_i32_54
  let c0_i32_59 : BitVec 32 := 0#32
  let v122 : BitVec 1 := Scalar.cmpi .ne v121 c0_i32_59
  let v123 : BitVec 1 := Scalar.andi v120 v122
  let v109 : BitVec 32 := Scalar.divsi v108 c4_i32_54
  let c1_i32_60 : BitVec 32 := 1#32
  let v124 : BitVec 32 := Scalar.subi v109 c1_i32_60
  let v125 : BitVec 32 := Scalar.select v123 v124 v109
  let c2_i32_67 : BitVec 32 := 2#32
  let c0_i32_68 : BitVec 32 := 0#32
  let v136 : BitVec 1 := Scalar.cmpi .eq c2_i32_67 c0_i32_68
  let c1_i32_69 : BitVec 32 := 1#32
  let v137 : BitVec 32 := Scalar.select v136 c1_i32_69 c2_i32_67
  let v138 : BitVec 32 := Scalar.remsi v125 v137
  let c0_i32_71 : BitVec 32 := 0#32
  let v140 : BitVec 1 := Scalar.cmpi .slt v138 c0_i32_71
  let c0_i32_72 : BitVec 32 := 0#32
  let v141 : BitVec 1 := Scalar.cmpi .slt v137 c0_i32_72
  let v142 : BitVec 1 := Scalar.xori v140 v141
  let c0_i32_70 : BitVec 32 := 0#32
  let v139 : BitVec 1 := Scalar.cmpi .ne v138 c0_i32_70
  let v143 : BitVec 1 := Scalar.andi v142 v139
  let v144 : BitVec 32 := Scalar.addi v138 v137
  let v145 : BitVec 32 := Scalar.select v143 v144 v138
  let c0_i32_73 : BitVec 32 := 0#32
  let v146 : BitVec 1 := Scalar.cmpi .eq v145 c0_i32_73
  let c4_i32_61 : BitVec 32 := 4#32
  let c0_i32_62 : BitVec 32 := 0#32
  let v126 : BitVec 1 := Scalar.cmpi .eq c4_i32_61 c0_i32_62
  let c1_i32_63 : BitVec 32 := 1#32
  let v127 : BitVec 32 := Scalar.select v126 c1_i32_63 c4_i32_61
  let v128 : BitVec 32 := Scalar.remsi v108 v127
  let c0_i32_65 : BitVec 32 := 0#32
  let v130 : BitVec 1 := Scalar.cmpi .slt v128 c0_i32_65
  let c0_i32_66 : BitVec 32 := 0#32
  let v131 : BitVec 1 := Scalar.cmpi .slt v127 c0_i32_66
  let v132 : BitVec 1 := Scalar.xori v130 v131
  let c0_i32_64 : BitVec 32 := 0#32
  let v129 : BitVec 1 := Scalar.cmpi .ne v128 c0_i32_64
  let v133 : BitVec 1 := Scalar.andi v132 v129
  let v134 : BitVec 32 := Scalar.addi v128 v127
  let v135 : BitVec 32 := Scalar.select v133 v134 v128
  let c3_i32_74 : BitVec 32 := 3#32
  let v147 : BitVec 32 := Scalar.subi c3_i32_74 v135
  let v148 : BitVec 32 := Scalar.select v146 v135 v147
  let v149 : BitVec 32 := Scalar.muli c4_i32_75 v148
  let v150 : BitVec 32 := Scalar.addi v149 v125
  let c1_i32_3963 : BitVec 32 := 1#32
  let v5317 : BitVec 32 := Scalar.muli v150 c1_i32_3963
  let v5318 : BitVec 32 := Scalar.addi c0_i32_3964 v5317
  v5318.toNat
def k0_dev107 (d0 : Dev nD) : Nat :=
  let c0_i32_3990 : BitVec 32 := 0#32
  let c4_i32_75 : BitVec 32 := 4#32
  let c4_i32_17 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let v43 : BitVec 32 := Scalar.muli c4_i32_17 v12
  let c2_i32 : BitVec 32 := 2#32
  let c0_i32_11 : BitVec 32 := 0#32
  let v30 : BitVec 1 := Scalar.cmpi .eq c2_i32 c0_i32_11
  let c1_i32_12 : BitVec 32 := 1#32
  let v31 : BitVec 32 := Scalar.select v30 c1_i32_12 c2_i32
  let v32 : BitVec 32 := Scalar.remsi v12 v31
  let c0_i32_14 : BitVec 32 := 0#32
  let v34 : BitVec 1 := Scalar.cmpi .slt v32 c0_i32_14
  let c0_i32_15 : BitVec 32 := 0#32
  let v35 : BitVec 1 := Scalar.cmpi .slt v31 c0_i32_15
  let v36 : BitVec 1 := Scalar.xori v34 v35
  let c0_i32_13 : BitVec 32 := 0#32
  let v33 : BitVec 1 := Scalar.cmpi .ne v32 c0_i32_13
  let v37 : BitVec 1 := Scalar.andi v36 v33
  let v38 : BitVec 32 := Scalar.addi v32 v31
  let v39 : BitVec 32 := Scalar.select v37 v38 v32
  let c0_i32_16 : BitVec 32 := 0#32
  let v40 : BitVec 1 := Scalar.cmpi .eq v39 c0_i32_16
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c4_i32_4 : BitVec 32 := 4#32
  let c0_i32_7 : BitVec 32 := 0#32
  let v19 : BitVec 1 := Scalar.cmpi .sgt c4_i32_4 c0_i32_7
  let v20 : BitVec 32 := Scalar.extui v19
  let c0_i32_8 : BitVec 32 := 0#32
  let v21 : BitVec 1 := Scalar.cmpi .slt c4_i32_4 c0_i32_8
  let v22 : BitVec 32 := Scalar.extui v21
  let v23 : BitVec 32 := Scalar.subi v20 v22
  let v24 : BitVec 1 := Scalar.cmpi .ne v18 v23
  let v25 : BitVec 32 := Scalar.remsi v2 c4_i32_4
  let c0_i32_9 : BitVec 32 := 0#32
  let v26 : BitVec 1 := Scalar.cmpi .ne v25 c0_i32_9
  let v27 : BitVec 1 := Scalar.andi v24 v26
  let v13 : BitVec 32 := Scalar.divsi v2 c4_i32_4
  let c1_i32_10 : BitVec 32 := 1#32
  let v28 : BitVec 32 := Scalar.subi v13 c1_i32_10
  let v29 : BitVec 32 := Scalar.select v27 v28 v13
  let c3_i32 : BitVec 32 := 3#32
  let v41 : BitVec 32 := Scalar.subi c3_i32 v29
  let v42 : BitVec 32 := Scalar.select v40 v29 v41
  let v44 : BitVec 32 := Scalar.addi v43 v42
  let c1_i32_47 : BitVec 32 := 1#32
  let v98 : BitVec 32 := Scalar.subi v44 c1_i32_47
  let c16_i32_48 : BitVec 32 := 16#32
  let c0_i32_49 : BitVec 32 := 0#32
  let v99 : BitVec 1 := Scalar.cmpi .eq c16_i32_48 c0_i32_49
  let c1_i32_50 : BitVec 32 := 1#32
  let v100 : BitVec 32 := Scalar.select v99 c1_i32_50 c16_i32_48
  let v101 : BitVec 32 := Scalar.remsi v98 v100
  let c0_i32_52 : BitVec 32 := 0#32
  let v103 : BitVec 1 := Scalar.cmpi .slt v101 c0_i32_52
  let c0_i32_53 : BitVec 32 := 0#32
  let v104 : BitVec 1 := Scalar.cmpi .slt v100 c0_i32_53
  let v105 : BitVec 1 := Scalar.xori v103 v104
  let c0_i32_51 : BitVec 32 := 0#32
  let v102 : BitVec 1 := Scalar.cmpi .ne v101 c0_i32_51
  let v106 : BitVec 1 := Scalar.andi v105 v102
  let v107 : BitVec 32 := Scalar.addi v101 v100
  let v108 : BitVec 32 := Scalar.select v106 v107 v101
  let c0_i32_55 : BitVec 32 := 0#32
  let v110 : BitVec 1 := Scalar.cmpi .sgt v108 c0_i32_55
  let v111 : BitVec 32 := Scalar.extui v110
  let c0_i32_56 : BitVec 32 := 0#32
  let v112 : BitVec 1 := Scalar.cmpi .slt v108 c0_i32_56
  let v113 : BitVec 32 := Scalar.extui v112
  let v114 : BitVec 32 := Scalar.subi v111 v113
  let c4_i32_54 : BitVec 32 := 4#32
  let c0_i32_57 : BitVec 32 := 0#32
  let v115 : BitVec 1 := Scalar.cmpi .sgt c4_i32_54 c0_i32_57
  let v116 : BitVec 32 := Scalar.extui v115
  let c0_i32_58 : BitVec 32 := 0#32
  let v117 : BitVec 1 := Scalar.cmpi .slt c4_i32_54 c0_i32_58
  let v118 : BitVec 32 := Scalar.extui v117
  let v119 : BitVec 32 := Scalar.subi v116 v118
  let v120 : BitVec 1 := Scalar.cmpi .ne v114 v119
  let v121 : BitVec 32 := Scalar.remsi v108 c4_i32_54
  let c0_i32_59 : BitVec 32 := 0#32
  let v122 : BitVec 1 := Scalar.cmpi .ne v121 c0_i32_59
  let v123 : BitVec 1 := Scalar.andi v120 v122
  let v109 : BitVec 32 := Scalar.divsi v108 c4_i32_54
  let c1_i32_60 : BitVec 32 := 1#32
  let v124 : BitVec 32 := Scalar.subi v109 c1_i32_60
  let v125 : BitVec 32 := Scalar.select v123 v124 v109
  let c2_i32_67 : BitVec 32 := 2#32
  let c0_i32_68 : BitVec 32 := 0#32
  let v136 : BitVec 1 := Scalar.cmpi .eq c2_i32_67 c0_i32_68
  let c1_i32_69 : BitVec 32 := 1#32
  let v137 : BitVec 32 := Scalar.select v136 c1_i32_69 c2_i32_67
  let v138 : BitVec 32 := Scalar.remsi v125 v137
  let c0_i32_71 : BitVec 32 := 0#32
  let v140 : BitVec 1 := Scalar.cmpi .slt v138 c0_i32_71
  let c0_i32_72 : BitVec 32 := 0#32
  let v141 : BitVec 1 := Scalar.cmpi .slt v137 c0_i32_72
  let v142 : BitVec 1 := Scalar.xori v140 v141
  let c0_i32_70 : BitVec 32 := 0#32
  let v139 : BitVec 1 := Scalar.cmpi .ne v138 c0_i32_70
  let v143 : BitVec 1 := Scalar.andi v142 v139
  let v144 : BitVec 32 := Scalar.addi v138 v137
  let v145 : BitVec 32 := Scalar.select v143 v144 v138
  let c0_i32_73 : BitVec 32 := 0#32
  let v146 : BitVec 1 := Scalar.cmpi .eq v145 c0_i32_73
  let c4_i32_61 : BitVec 32 := 4#32
  let c0_i32_62 : BitVec 32 := 0#32
  let v126 : BitVec 1 := Scalar.cmpi .eq c4_i32_61 c0_i32_62
  let c1_i32_63 : BitVec 32 := 1#32
  let v127 : BitVec 32 := Scalar.select v126 c1_i32_63 c4_i32_61
  let v128 : BitVec 32 := Scalar.remsi v108 v127
  let c0_i32_65 : BitVec 32 := 0#32
  let v130 : BitVec 1 := Scalar.cmpi .slt v128 c0_i32_65
  let c0_i32_66 : BitVec 32 := 0#32
  let v131 : BitVec 1 := Scalar.cmpi .slt v127 c0_i32_66
  let v132 : BitVec 1 := Scalar.xori v130 v131
  let c0_i32_64 : BitVec 32 := 0#32
  let v129 : BitVec 1 := Scalar.cmpi .ne v128 c0_i32_64
  let v133 : BitVec 1 := Scalar.andi v132 v129
  let v134 : BitVec 32 := Scalar.addi v128 v127
  let v135 : BitVec 32 := Scalar.select v133 v134 v128
  let c3_i32_74 : BitVec 32 := 3#32
  let v147 : BitVec 32 := Scalar.subi c3_i32_74 v135
  let v148 : BitVec 32 := Scalar.select v146 v135 v147
  let v149 : BitVec 32 := Scalar.muli c4_i32_75 v148
  let v150 : BitVec 32 := Scalar.addi v149 v125
  let c1_i32_3989 : BitVec 32 := 1#32
  let v5341 : BitVec 32 := Scalar.muli v150 c1_i32_3989
  let v5342 : BitVec 32 := Scalar.addi c0_i32_3990 v5341
  v5342.toNat
def k0_dev108 (d0 : Dev nD) : Nat :=
  let c0_i32_4018 : BitVec 32 := 0#32
  let c4_i32_46 : BitVec 32 := 4#32
  let c4_i32_17 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let v43 : BitVec 32 := Scalar.muli c4_i32_17 v12
  let c2_i32 : BitVec 32 := 2#32
  let c0_i32_11 : BitVec 32 := 0#32
  let v30 : BitVec 1 := Scalar.cmpi .eq c2_i32 c0_i32_11
  let c1_i32_12 : BitVec 32 := 1#32
  let v31 : BitVec 32 := Scalar.select v30 c1_i32_12 c2_i32
  let v32 : BitVec 32 := Scalar.remsi v12 v31
  let c0_i32_14 : BitVec 32 := 0#32
  let v34 : BitVec 1 := Scalar.cmpi .slt v32 c0_i32_14
  let c0_i32_15 : BitVec 32 := 0#32
  let v35 : BitVec 1 := Scalar.cmpi .slt v31 c0_i32_15
  let v36 : BitVec 1 := Scalar.xori v34 v35
  let c0_i32_13 : BitVec 32 := 0#32
  let v33 : BitVec 1 := Scalar.cmpi .ne v32 c0_i32_13
  let v37 : BitVec 1 := Scalar.andi v36 v33
  let v38 : BitVec 32 := Scalar.addi v32 v31
  let v39 : BitVec 32 := Scalar.select v37 v38 v32
  let c0_i32_16 : BitVec 32 := 0#32
  let v40 : BitVec 1 := Scalar.cmpi .eq v39 c0_i32_16
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c4_i32_4 : BitVec 32 := 4#32
  let c0_i32_7 : BitVec 32 := 0#32
  let v19 : BitVec 1 := Scalar.cmpi .sgt c4_i32_4 c0_i32_7
  let v20 : BitVec 32 := Scalar.extui v19
  let c0_i32_8 : BitVec 32 := 0#32
  let v21 : BitVec 1 := Scalar.cmpi .slt c4_i32_4 c0_i32_8
  let v22 : BitVec 32 := Scalar.extui v21
  let v23 : BitVec 32 := Scalar.subi v20 v22
  let v24 : BitVec 1 := Scalar.cmpi .ne v18 v23
  let v25 : BitVec 32 := Scalar.remsi v2 c4_i32_4
  let c0_i32_9 : BitVec 32 := 0#32
  let v26 : BitVec 1 := Scalar.cmpi .ne v25 c0_i32_9
  let v27 : BitVec 1 := Scalar.andi v24 v26
  let v13 : BitVec 32 := Scalar.divsi v2 c4_i32_4
  let c1_i32_10 : BitVec 32 := 1#32
  let v28 : BitVec 32 := Scalar.subi v13 c1_i32_10
  let v29 : BitVec 32 := Scalar.select v27 v28 v13
  let c3_i32 : BitVec 32 := 3#32
  let v41 : BitVec 32 := Scalar.subi c3_i32 v29
  let v42 : BitVec 32 := Scalar.select v40 v29 v41
  let v44 : BitVec 32 := Scalar.addi v43 v42
  let c1_i32_18 : BitVec 32 := 1#32
  let v45 : BitVec 32 := Scalar.addi v44 c1_i32_18
  let c16_i32_19 : BitVec 32 := 16#32
  let c0_i32_20 : BitVec 32 := 0#32
  let v46 : BitVec 1 := Scalar.cmpi .eq c16_i32_19 c0_i32_20
  let c1_i32_21 : BitVec 32 := 1#32
  let v47 : BitVec 32 := Scalar.select v46 c1_i32_21 c16_i32_19
  let v48 : BitVec 32 := Scalar.remsi v45 v47
  let c0_i32_23 : BitVec 32 := 0#32
  let v50 : BitVec 1 := Scalar.cmpi .slt v48 c0_i32_23
  let c0_i32_24 : BitVec 32 := 0#32
  let v51 : BitVec 1 := Scalar.cmpi .slt v47 c0_i32_24
  let v52 : BitVec 1 := Scalar.xori v50 v51
  let c0_i32_22 : BitVec 32 := 0#32
  let v49 : BitVec 1 := Scalar.cmpi .ne v48 c0_i32_22
  let v53 : BitVec 1 := Scalar.andi v52 v49
  let v54 : BitVec 32 := Scalar.addi v48 v47
  let v55 : BitVec 32 := Scalar.select v53 v54 v48
  let c0_i32_26 : BitVec 32 := 0#32
  let v57 : BitVec 1 := Scalar.cmpi .sgt v55 c0_i32_26
  let v58 : BitVec 32 := Scalar.extui v57
  let c0_i32_27 : BitVec 32 := 0#32
  let v59 : BitVec 1 := Scalar.cmpi .slt v55 c0_i32_27
  let v60 : BitVec 32 := Scalar.extui v59
  let v61 : BitVec 32 := Scalar.subi v58 v60
  let c4_i32_25 : BitVec 32 := 4#32
  let c0_i32_28 : BitVec 32 := 0#32
  let v62 : BitVec 1 := Scalar.cmpi .sgt c4_i32_25 c0_i32_28
  let v63 : BitVec 32 := Scalar.extui v62
  let c0_i32_29 : BitVec 32 := 0#32
  let v64 : BitVec 1 := Scalar.cmpi .slt c4_i32_25 c0_i32_29
  let v65 : BitVec 32 := Scalar.extui v64
  let v66 : BitVec 32 := Scalar.subi v63 v65
  let v67 : BitVec 1 := Scalar.cmpi .ne v61 v66
  let v68 : BitVec 32 := Scalar.remsi v55 c4_i32_25
  let c0_i32_30 : BitVec 32 := 0#32
  let v69 : BitVec 1 := Scalar.cmpi .ne v68 c0_i32_30
  let v70 : BitVec 1 := Scalar.andi v67 v69
  let v56 : BitVec 32 := Scalar.divsi v55 c4_i32_25
  let c1_i32_31 : BitVec 32 := 1#32
  let v71 : BitVec 32 := Scalar.subi v56 c1_i32_31
  let v72 : BitVec 32 := Scalar.select v70 v71 v56
  let c2_i32_38 : BitVec 32 := 2#32
  let c0_i32_39 : BitVec 32 := 0#32
  let v83 : BitVec 1 := Scalar.cmpi .eq c2_i32_38 c0_i32_39
  let c1_i32_40 : BitVec 32 := 1#32
  let v84 : BitVec 32 := Scalar.select v83 c1_i32_40 c2_i32_38
  let v85 : BitVec 32 := Scalar.remsi v72 v84
  let c0_i32_42 : BitVec 32 := 0#32
  let v87 : BitVec 1 := Scalar.cmpi .slt v85 c0_i32_42
  let c0_i32_43 : BitVec 32 := 0#32
  let v88 : BitVec 1 := Scalar.cmpi .slt v84 c0_i32_43
  let v89 : BitVec 1 := Scalar.xori v87 v88
  let c0_i32_41 : BitVec 32 := 0#32
  let v86 : BitVec 1 := Scalar.cmpi .ne v85 c0_i32_41
  let v90 : BitVec 1 := Scalar.andi v89 v86
  let v91 : BitVec 32 := Scalar.addi v85 v84
  let v92 : BitVec 32 := Scalar.select v90 v91 v85
  let c0_i32_44 : BitVec 32 := 0#32
  let v93 : BitVec 1 := Scalar.cmpi .eq v92 c0_i32_44
  let c4_i32_32 : BitVec 32 := 4#32
  let c0_i32_33 : BitVec 32 := 0#32
  let v73 : BitVec 1 := Scalar.cmpi .eq c4_i32_32 c0_i32_33
  let c1_i32_34 : BitVec 32 := 1#32
  let v74 : BitVec 32 := Scalar.select v73 c1_i32_34 c4_i32_32
  let v75 : BitVec 32 := Scalar.remsi v55 v74
  let c0_i32_36 : BitVec 32 := 0#32
  let v77 : BitVec 1 := Scalar.cmpi .slt v75 c0_i32_36
  let c0_i32_37 : BitVec 32 := 0#32
  let v78 : BitVec 1 := Scalar.cmpi .slt v74 c0_i32_37
  let v79 : BitVec 1 := Scalar.xori v77 v78
  let c0_i32_35 : BitVec 32 := 0#32
  let v76 : BitVec 1 := Scalar.cmpi .ne v75 c0_i32_35
  let v80 : BitVec 1 := Scalar.andi v79 v76
  let v81 : BitVec 32 := Scalar.addi v75 v74
  let v82 : BitVec 32 := Scalar.select v80 v81 v75
  let c3_i32_45 : BitVec 32 := 3#32
  let v94 : BitVec 32 := Scalar.subi c3_i32_45 v82
  let v95 : BitVec 32 := Scalar.select v93 v82 v94
  let v96 : BitVec 32 := Scalar.muli c4_i32_46 v95
  let v97 : BitVec 32 := Scalar.addi v96 v72
  let c1_i32_4017 : BitVec 32 := 1#32
  let v5365 : BitVec 32 := Scalar.muli v97 c1_i32_4017
  let v5366 : BitVec 32 := Scalar.addi c0_i32_4018 v5365
  v5366.toNat
def k0_dev109 (d0 : Dev nD) : Nat :=
  let c0_i32_4032 : BitVec 32 := 0#32
  let c4_i32_46 : BitVec 32 := 4#32
  let c4_i32_17 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let v43 : BitVec 32 := Scalar.muli c4_i32_17 v12
  let c2_i32 : BitVec 32 := 2#32
  let c0_i32_11 : BitVec 32 := 0#32
  let v30 : BitVec 1 := Scalar.cmpi .eq c2_i32 c0_i32_11
  let c1_i32_12 : BitVec 32 := 1#32
  let v31 : BitVec 32 := Scalar.select v30 c1_i32_12 c2_i32
  let v32 : BitVec 32 := Scalar.remsi v12 v31
  let c0_i32_14 : BitVec 32 := 0#32
  let v34 : BitVec 1 := Scalar.cmpi .slt v32 c0_i32_14
  let c0_i32_15 : BitVec 32 := 0#32
  let v35 : BitVec 1 := Scalar.cmpi .slt v31 c0_i32_15
  let v36 : BitVec 1 := Scalar.xori v34 v35
  let c0_i32_13 : BitVec 32 := 0#32
  let v33 : BitVec 1 := Scalar.cmpi .ne v32 c0_i32_13
  let v37 : BitVec 1 := Scalar.andi v36 v33
  let v38 : BitVec 32 := Scalar.addi v32 v31
  let v39 : BitVec 32 := Scalar.select v37 v38 v32
  let c0_i32_16 : BitVec 32 := 0#32
  let v40 : BitVec 1 := Scalar.cmpi .eq v39 c0_i32_16
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c4_i32_4 : BitVec 32 := 4#32
  let c0_i32_7 : BitVec 32 := 0#32
  let v19 : BitVec 1 := Scalar.cmpi .sgt c4_i32_4 c0_i32_7
  let v20 : BitVec 32 := Scalar.extui v19
  let c0_i32_8 : BitVec 32 := 0#32
  let v21 : BitVec 1 := Scalar.cmpi .slt c4_i32_4 c0_i32_8
  let v22 : BitVec 32 := Scalar.extui v21
  let v23 : BitVec 32 := Scalar.subi v20 v22
  let v24 : BitVec 1 := Scalar.cmpi .ne v18 v23
  let v25 : BitVec 32 := Scalar.remsi v2 c4_i32_4
  let c0_i32_9 : BitVec 32 := 0#32
  let v26 : BitVec 1 := Scalar.cmpi .ne v25 c0_i32_9
  let v27 : BitVec 1 := Scalar.andi v24 v26
  let v13 : BitVec 32 := Scalar.divsi v2 c4_i32_4
  let c1_i32_10 : BitVec 32 := 1#32
  let v28 : BitVec 32 := Scalar.subi v13 c1_i32_10
  let v29 : BitVec 32 := Scalar.select v27 v28 v13
  let c3_i32 : BitVec 32 := 3#32
  let v41 : BitVec 32 := Scalar.subi c3_i32 v29
  let v42 : BitVec 32 := Scalar.select v40 v29 v41
  let v44 : BitVec 32 := Scalar.addi v43 v42
  let c1_i32_18 : BitVec 32 := 1#32
  let v45 : BitVec 32 := Scalar.addi v44 c1_i32_18
  let c16_i32_19 : BitVec 32 := 16#32
  let c0_i32_20 : BitVec 32 := 0#32
  let v46 : BitVec 1 := Scalar.cmpi .eq c16_i32_19 c0_i32_20
  let c1_i32_21 : BitVec 32 := 1#32
  let v47 : BitVec 32 := Scalar.select v46 c1_i32_21 c16_i32_19
  let v48 : BitVec 32 := Scalar.remsi v45 v47
  let c0_i32_23 : BitVec 32 := 0#32
  let v50 : BitVec 1 := Scalar.cmpi .slt v48 c0_i32_23
  let c0_i32_24 : BitVec 32 := 0#32
  let v51 : BitVec 1 := Scalar.cmpi .slt v47 c0_i32_24
  let v52 : BitVec 1 := Scalar.xori v50 v51
  let c0_i32_22 : BitVec 32 := 0#32
  let v49 : BitVec 1 := Scalar.cmpi .ne v48 c0_i32_22
  let v53 : BitVec 1 := Scalar.andi v52 v49
  let v54 : BitVec 32 := Scalar.addi v48 v47
  let v55 : BitVec 32 := Scalar.select v53 v54 v48
  let c0_i32_26 : BitVec 32 := 0#32
  let v57 : BitVec 1 := Scalar.cmpi .sgt v55 c0_i32_26
  let v58 : BitVec 32 := Scalar.extui v57
  let c0_i32_27 : BitVec 32 := 0#32
  let v59 : BitVec 1 := Scalar.cmpi .slt v55 c0_i32_27
  let v60 : BitVec 32 := Scalar.extui v59
  let v61 : BitVec 32 := Scalar.subi v58 v60
  let c4_i32_25 : BitVec 32 := 4#32
  let c0_i32_28 : BitVec 32 := 0#32
  let v62 : BitVec 1 := Scalar.cmpi .sgt c4_i32_25 c0_i32_28
  let v63 : BitVec 32 := Scalar.extui v62
  let c0_i32_29 : BitVec 32 := 0#32
  let v64 : BitVec 1 := Scalar.cmpi .slt c4_i32_25 c0_i32_29
  let v65 : BitVec 32 := Scalar.extui v64
  let v66 : BitVec 32 := Scalar.subi v63 v65
  let v67 : BitVec 1 := Scalar.cmpi .ne v61 v66
  let v68 : BitVec 32 := Scalar.remsi v55 c4_i32_25
  let c0_i32_30 : BitVec 32 := 0#32
  let v69 : BitVec 1 := Scalar.cmpi .ne v68 c0_i32_30
  let v70 : BitVec 1 := Scalar.andi v67 v69
  let v56 : BitVec 32 := Scalar.divsi v55 c4_i32_25
  let c1_i32_31 : BitVec 32 := 1#32
  let v71 : BitVec 32 := Scalar.subi v56 c1_i32_31
  let v72 : BitVec 32 := Scalar.select v70 v71 v56
  let c2_i32_38 : BitVec 32 := 2#32
  let c0_i32_39 : BitVec 32 := 0#32
  let v83 : BitVec 1 := Scalar.cmpi .eq c2_i32_38 c0_i32_39
  let c1_i32_40 : BitVec 32 := 1#32
  let v84 : BitVec 32 := Scalar.select v83 c1_i32_40 c2_i32_38
  let v85 : BitVec 32 := Scalar.remsi v72 v84
  let c0_i32_42 : BitVec 32 := 0#32
  let v87 : BitVec 1 := Scalar.cmpi .slt v85 c0_i32_42
  let c0_i32_43 : BitVec 32 := 0#32
  let v88 : BitVec 1 := Scalar.cmpi .slt v84 c0_i32_43
  let v89 : BitVec 1 := Scalar.xori v87 v88
  let c0_i32_41 : BitVec 32 := 0#32
  let v86 : BitVec 1 := Scalar.cmpi .ne v85 c0_i32_41
  let v90 : BitVec 1 := Scalar.andi v89 v86
  let v91 : BitVec 32 := Scalar.addi v85 v84
  let v92 : BitVec 32 := Scalar.select v90 v91 v85
  let c0_i32_44 : BitVec 32 := 0#32
  let v93 : BitVec 1 := Scalar.cmpi .eq v92 c0_i32_44
  let c4_i32_32 : BitVec 32 := 4#32
  let c0_i32_33 : BitVec 32 := 0#32
  let v73 : BitVec 1 := Scalar.cmpi .eq c4_i32_32 c0_i32_33
  let c1_i32_34 : BitVec 32 := 1#32
  let v74 : BitVec 32 := Scalar.select v73 c1_i32_34 c4_i32_32
  let v75 : BitVec 32 := Scalar.remsi v55 v74
  let c0_i32_36 : BitVec 32 := 0#32
  let v77 : BitVec 1 := Scalar.cmpi .slt v75 c0_i32_36
  let c0_i32_37 : BitVec 32 := 0#32
  let v78 : BitVec 1 := Scalar.cmpi .slt v74 c0_i32_37
  let v79 : BitVec 1 := Scalar.xori v77 v78
  let c0_i32_35 : BitVec 32 := 0#32
  let v76 : BitVec 1 := Scalar.cmpi .ne v75 c0_i32_35
  let v80 : BitVec 1 := Scalar.andi v79 v76
  let v81 : BitVec 32 := Scalar.addi v75 v74
  let v82 : BitVec 32 := Scalar.select v80 v81 v75
  let c3_i32_45 : BitVec 32 := 3#32
  let v94 : BitVec 32 := Scalar.subi c3_i32_45 v82
  let v95 : BitVec 32 := Scalar.select v93 v82 v94
  let v96 : BitVec 32 := Scalar.muli c4_i32_46 v95
  let v97 : BitVec 32 := Scalar.addi v96 v72
  let c1_i32_4031 : BitVec 32 := 1#32
  let v5375 : BitVec 32 := Scalar.muli v97 c1_i32_4031
  let v5376 : BitVec 32 := Scalar.addi c0_i32_4032 v5375
  v5376.toNat
def k0_dev110 (d0 : Dev nD) : Nat :=
  let c0_i32_4044 : BitVec 32 := 0#32
  let c4_i32_75 : BitVec 32 := 4#32
  let c4_i32_17 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let v43 : BitVec 32 := Scalar.muli c4_i32_17 v12
  let c2_i32 : BitVec 32 := 2#32
  let c0_i32_11 : BitVec 32 := 0#32
  let v30 : BitVec 1 := Scalar.cmpi .eq c2_i32 c0_i32_11
  let c1_i32_12 : BitVec 32 := 1#32
  let v31 : BitVec 32 := Scalar.select v30 c1_i32_12 c2_i32
  let v32 : BitVec 32 := Scalar.remsi v12 v31
  let c0_i32_14 : BitVec 32 := 0#32
  let v34 : BitVec 1 := Scalar.cmpi .slt v32 c0_i32_14
  let c0_i32_15 : BitVec 32 := 0#32
  let v35 : BitVec 1 := Scalar.cmpi .slt v31 c0_i32_15
  let v36 : BitVec 1 := Scalar.xori v34 v35
  let c0_i32_13 : BitVec 32 := 0#32
  let v33 : BitVec 1 := Scalar.cmpi .ne v32 c0_i32_13
  let v37 : BitVec 1 := Scalar.andi v36 v33
  let v38 : BitVec 32 := Scalar.addi v32 v31
  let v39 : BitVec 32 := Scalar.select v37 v38 v32
  let c0_i32_16 : BitVec 32 := 0#32
  let v40 : BitVec 1 := Scalar.cmpi .eq v39 c0_i32_16
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c4_i32_4 : BitVec 32 := 4#32
  let c0_i32_7 : BitVec 32 := 0#32
  let v19 : BitVec 1 := Scalar.cmpi .sgt c4_i32_4 c0_i32_7
  let v20 : BitVec 32 := Scalar.extui v19
  let c0_i32_8 : BitVec 32 := 0#32
  let v21 : BitVec 1 := Scalar.cmpi .slt c4_i32_4 c0_i32_8
  let v22 : BitVec 32 := Scalar.extui v21
  let v23 : BitVec 32 := Scalar.subi v20 v22
  let v24 : BitVec 1 := Scalar.cmpi .ne v18 v23
  let v25 : BitVec 32 := Scalar.remsi v2 c4_i32_4
  let c0_i32_9 : BitVec 32 := 0#32
  let v26 : BitVec 1 := Scalar.cmpi .ne v25 c0_i32_9
  let v27 : BitVec 1 := Scalar.andi v24 v26
  let v13 : BitVec 32 := Scalar.divsi v2 c4_i32_4
  let c1_i32_10 : BitVec 32 := 1#32
  let v28 : BitVec 32 := Scalar.subi v13 c1_i32_10
  let v29 : BitVec 32 := Scalar.select v27 v28 v13
  let c3_i32 : BitVec 32 := 3#32
  let v41 : BitVec 32 := Scalar.subi c3_i32 v29
  let v42 : BitVec 32 := Scalar.select v40 v29 v41
  let v44 : BitVec 32 := Scalar.addi v43 v42
  let c1_i32_47 : BitVec 32 := 1#32
  let v98 : BitVec 32 := Scalar.subi v44 c1_i32_47
  let c16_i32_48 : BitVec 32 := 16#32
  let c0_i32_49 : BitVec 32 := 0#32
  let v99 : BitVec 1 := Scalar.cmpi .eq c16_i32_48 c0_i32_49
  let c1_i32_50 : BitVec 32 := 1#32
  let v100 : BitVec 32 := Scalar.select v99 c1_i32_50 c16_i32_48
  let v101 : BitVec 32 := Scalar.remsi v98 v100
  let c0_i32_52 : BitVec 32 := 0#32
  let v103 : BitVec 1 := Scalar.cmpi .slt v101 c0_i32_52
  let c0_i32_53 : BitVec 32 := 0#32
  let v104 : BitVec 1 := Scalar.cmpi .slt v100 c0_i32_53
  let v105 : BitVec 1 := Scalar.xori v103 v104
  let c0_i32_51 : BitVec 32 := 0#32
  let v102 : BitVec 1 := Scalar.cmpi .ne v101 c0_i32_51
  let v106 : BitVec 1 := Scalar.andi v105 v102
  let v107 : BitVec 32 := Scalar.addi v101 v100
  let v108 : BitVec 32 := Scalar.select v106 v107 v101
  let c0_i32_55 : BitVec 32 := 0#32
  let v110 : BitVec 1 := Scalar.cmpi .sgt v108 c0_i32_55
  let v111 : BitVec 32 := Scalar.extui v110
  let c0_i32_56 : BitVec 32 := 0#32
  let v112 : BitVec 1 := Scalar.cmpi .slt v108 c0_i32_56
  let v113 : BitVec 32 := Scalar.extui v112
  let v114 : BitVec 32 := Scalar.subi v111 v113
  let c4_i32_54 : BitVec 32 := 4#32
  let c0_i32_57 : BitVec 32 := 0#32
  let v115 : BitVec 1 := Scalar.cmpi .sgt c4_i32_54 c0_i32_57
  let v116 : BitVec 32 := Scalar.extui v115
  let c0_i32_58 : BitVec 32 := 0#32
  let v117 : BitVec 1 := Scalar.cmpi .slt c4_i32_54 c0_i32_58
  let v118 : BitVec 32 := Scalar.extui v117
  let v119 : BitVec 32 := Scalar.subi v116 v118
  let v120 : BitVec 1 := Scalar.cmpi .ne v114 v119
  let v121 : BitVec 32 := Scalar.remsi v108 c4_i32_54
  let c0_i32_59 : BitVec 32 := 0#32
  let v122 : BitVec 1 := Scalar.cmpi .ne v121 c0_i32_59
  let v123 : BitVec 1 := Scalar.andi v120 v122
  let v109 : BitVec 32 := Scalar.divsi v108 c4_i32_54
  let c1_i32_60 : BitVec 32 := 1#32
  let v124 : BitVec 32 := Scalar.subi v109 c1_i32_60
  let v125 : BitVec 32 := Scalar.select v123 v124 v109
  let c2_i32_67 : BitVec 32 := 2#32
  let c0_i32_68 : BitVec 32 := 0#32
  let v136 : BitVec 1 := Scalar.cmpi .eq c2_i32_67 c0_i32_68
  let c1_i32_69 : BitVec 32 := 1#32
  let v137 : BitVec 32 := Scalar.select v136 c1_i32_69 c2_i32_67
  let v138 : BitVec 32 := Scalar.remsi v125 v137
  let c0_i32_71 : BitVec 32 := 0#32
  let v140 : BitVec 1 := Scalar.cmpi .slt v138 c0_i32_71
  let c0_i32_72 : BitVec 32 := 0#32
  let v141 : BitVec 1 := Scalar.cmpi .slt v137 c0_i32_72
  let v142 : BitVec 1 := Scalar.xori v140 v141
  let c0_i32_70 : BitVec 32 := 0#32
  let v139 : BitVec 1 := Scalar.cmpi .ne v138 c0_i32_70
  let v143 : BitVec 1 := Scalar.andi v142 v139
  let v144 : BitVec 32 := Scalar.addi v138 v137
  let v145 : BitVec 32 := Scalar.select v143 v144 v138
  let c0_i32_73 : BitVec 32 := 0#32
  let v146 : BitVec 1 := Scalar.cmpi .eq v145 c0_i32_73
  let c4_i32_61 : BitVec 32 := 4#32
  let c0_i32_62 : BitVec 32 := 0#32
  let v126 : BitVec 1 := Scalar.cmpi .eq c4_i32_61 c0_i32_62
  let c1_i32_63 : BitVec 32 := 1#32
  let v127 : BitVec 32 := Scalar.select v126 c1_i32_63 c4_i32_61
  let v128 : BitVec 32 := Scalar.remsi v108 v127
  let c0_i32_65 : BitVec 32 := 0#32
  let v130 : BitVec 1 := Scalar.cmpi .slt v128 c0_i32_65
  let c0_i32_66 : BitVec 32 := 0#32
  let v131 : BitVec 1 := Scalar.cmpi .slt v127 c0_i32_66
  let v132 : BitVec 1 := Scalar.xori v130 v131
  let c0_i32_64 : BitVec 32 := 0#32
  let v129 : BitVec 1 := Scalar.cmpi .ne v128 c0_i32_64
  let v133 : BitVec 1 := Scalar.andi v132 v129
  let v134 : BitVec 32 := Scalar.addi v128 v127
  let v135 : BitVec 32 := Scalar.select v133 v134 v128
  let c3_i32_74 : BitVec 32 := 3#32
  let v147 : BitVec 32 := Scalar.subi c3_i32_74 v135
  let v148 : BitVec 32 := Scalar.select v146 v135 v147
  let v149 : BitVec 32 := Scalar.muli c4_i32_75 v148
  let v150 : BitVec 32 := Scalar.addi v149 v125
  let c1_i32_4043 : BitVec 32 := 1#32
  let v5385 : BitVec 32 := Scalar.muli v150 c1_i32_4043
  let v5386 : BitVec 32 := Scalar.addi c0_i32_4044 v5385
  v5386.toNat
def k0_dev111 (d0 : Dev nD) : Nat :=
  let c0_i32_4201 : BitVec 32 := 0#32
  let c4_i32_75 : BitVec 32 := 4#32
  let c4_i32_17 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let v43 : BitVec 32 := Scalar.muli c4_i32_17 v12
  let c2_i32 : BitVec 32 := 2#32
  let c0_i32_11 : BitVec 32 := 0#32
  let v30 : BitVec 1 := Scalar.cmpi .eq c2_i32 c0_i32_11
  let c1_i32_12 : BitVec 32 := 1#32
  let v31 : BitVec 32 := Scalar.select v30 c1_i32_12 c2_i32
  let v32 : BitVec 32 := Scalar.remsi v12 v31
  let c0_i32_14 : BitVec 32 := 0#32
  let v34 : BitVec 1 := Scalar.cmpi .slt v32 c0_i32_14
  let c0_i32_15 : BitVec 32 := 0#32
  let v35 : BitVec 1 := Scalar.cmpi .slt v31 c0_i32_15
  let v36 : BitVec 1 := Scalar.xori v34 v35
  let c0_i32_13 : BitVec 32 := 0#32
  let v33 : BitVec 1 := Scalar.cmpi .ne v32 c0_i32_13
  let v37 : BitVec 1 := Scalar.andi v36 v33
  let v38 : BitVec 32 := Scalar.addi v32 v31
  let v39 : BitVec 32 := Scalar.select v37 v38 v32
  let c0_i32_16 : BitVec 32 := 0#32
  let v40 : BitVec 1 := Scalar.cmpi .eq v39 c0_i32_16
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c4_i32_4 : BitVec 32 := 4#32
  let c0_i32_7 : BitVec 32 := 0#32
  let v19 : BitVec 1 := Scalar.cmpi .sgt c4_i32_4 c0_i32_7
  let v20 : BitVec 32 := Scalar.extui v19
  let c0_i32_8 : BitVec 32 := 0#32
  let v21 : BitVec 1 := Scalar.cmpi .slt c4_i32_4 c0_i32_8
  let v22 : BitVec 32 := Scalar.extui v21
  let v23 : BitVec 32 := Scalar.subi v20 v22
  let v24 : BitVec 1 := Scalar.cmpi .ne v18 v23
  let v25 : BitVec 32 := Scalar.remsi v2 c4_i32_4
  let c0_i32_9 : BitVec 32 := 0#32
  let v26 : BitVec 1 := Scalar.cmpi .ne v25 c0_i32_9
  let v27 : BitVec 1 := Scalar.andi v24 v26
  let v13 : BitVec 32 := Scalar.divsi v2 c4_i32_4
  let c1_i32_10 : BitVec 32 := 1#32
  let v28 : BitVec 32 := Scalar.subi v13 c1_i32_10
  let v29 : BitVec 32 := Scalar.select v27 v28 v13
  let c3_i32 : BitVec 32 := 3#32
  let v41 : BitVec 32 := Scalar.subi c3_i32 v29
  let v42 : BitVec 32 := Scalar.select v40 v29 v41
  let v44 : BitVec 32 := Scalar.addi v43 v42
  let c1_i32_47 : BitVec 32 := 1#32
  let v98 : BitVec 32 := Scalar.subi v44 c1_i32_47
  let c16_i32_48 : BitVec 32 := 16#32
  let c0_i32_49 : BitVec 32 := 0#32
  let v99 : BitVec 1 := Scalar.cmpi .eq c16_i32_48 c0_i32_49
  let c1_i32_50 : BitVec 32 := 1#32
  let v100 : BitVec 32 := Scalar.select v99 c1_i32_50 c16_i32_48
  let v101 : BitVec 32 := Scalar.remsi v98 v100
  let c0_i32_52 : BitVec 32 := 0#32
  let v103 : BitVec 1 := Scalar.cmpi .slt v101 c0_i32_52
  let c0_i32_53 : BitVec 32 := 0#32
  let v104 : BitVec 1 := Scalar.cmpi .slt v100 c0_i32_53
  let v105 : BitVec 1 := Scalar.xori v103 v104
  let c0_i32_51 : BitVec 32 := 0#32
  let v102 : BitVec 1 := Scalar.cmpi .ne v101 c0_i32_51
  let v106 : BitVec 1 := Scalar.andi v105 v102
  let v107 : BitVec 32 := Scalar.addi v101 v100
  let v108 : BitVec 32 := Scalar.select v106 v107 v101
  let c0_i32_55 : BitVec 32 := 0#32
  let v110 : BitVec 1 := Scalar.cmpi .sgt v108 c0_i32_55
  let v111 : BitVec 32 := Scalar.extui v110
  let c0_i32_56 : BitVec 32 := 0#32
  let v112 : BitVec 1 := Scalar.cmpi .slt v108 c0_i32_56
  let v113 : BitVec 32 := Scalar.extui v112
  let v114 : BitVec 32 := Scalar.subi v111 v113
  let c4_i32_54 : BitVec 32 := 4#32
  let c0_i32_57 : BitVec 32 := 0#32
  let v115 : BitVec 1 := Scalar.cmpi .sgt c4_i32_54 c0_i32_57
  let v116 : BitVec 32 := Scalar.extui v115
  let c0_i32_58 : BitVec 32 := 0#32
  let v117 : BitVec 1 := Scalar.cmpi .slt c4_i32_54 c0_i32_58
  let v118 : BitVec 32 := Scalar.extui v117
  let v119 : BitVec 32 := Scalar.subi v116 v118
  let v120 : BitVec 1 := Scalar.cmpi .ne v114 v119
  let v121 : BitVec 32 := Scalar.remsi v108 c4_i32_54
  let c0_i32_59 : BitVec 32 := 0#32
  let v122 : BitVec 1 := Scalar.cmpi .ne v121 c0_i32_59
  let v123 : BitVec 1 := Scalar.andi v120 v122
  let v109 : BitVec 32 := Scalar.divsi v108 c4_i32_54
  let c1_i32_60 : BitVec 32 := 1#32
  let v124 : BitVec 32 := Scalar.subi v109 c1_i32_60
  let v125 : BitVec 32 := Scalar.select v123 v124 v109
  let c2_i32_67 : BitVec 32 := 2#32
  let c0_i32_68 : BitVec 32 := 0#32
  let v136 : BitVec 1 := Scalar.cmpi .eq c2_i32_67 c0_i32_68
  let c1_i32_69 : BitVec 32 := 1#32
  let v137 : BitVec 32 := Scalar.select v136 c1_i32_69 c2_i32_67
  let v138 : BitVec 32 := Scalar.remsi v125 v137
  let c0_i32_71 : BitVec 32 := 0#32
  let v140 : BitVec 1 := Scalar.cmpi .slt v138 c0_i32_71
  let c0_i32_72 : BitVec 32 := 0#32
  let v141 : BitVec 1 := Scalar.cmpi .slt v137 c0_i32_72
  let v142 : BitVec 1 := Scalar.xori v140 v141
  let c0_i32_70 : BitVec 32 := 0#32
  let v139 : BitVec 1 := Scalar.cmpi .ne v138 c0_i32_70
  let v143 : BitVec 1 := Scalar.andi v142 v139
  let v144 : BitVec 32 := Scalar.addi v138 v137
  let v145 : BitVec 32 := Scalar.select v143 v144 v138
  let c0_i32_73 : BitVec 32 := 0#32
  let v146 : BitVec 1 := Scalar.cmpi .eq v145 c0_i32_73
  let c4_i32_61 : BitVec 32 := 4#32
  let c0_i32_62 : BitVec 32 := 0#32
  let v126 : BitVec 1 := Scalar.cmpi .eq c4_i32_61 c0_i32_62
  let c1_i32_63 : BitVec 32 := 1#32
  let v127 : BitVec 32 := Scalar.select v126 c1_i32_63 c4_i32_61
  let v128 : BitVec 32 := Scalar.remsi v108 v127
  let c0_i32_65 : BitVec 32 := 0#32
  let v130 : BitVec 1 := Scalar.cmpi .slt v128 c0_i32_65
  let c0_i32_66 : BitVec 32 := 0#32
  let v131 : BitVec 1 := Scalar.cmpi .slt v127 c0_i32_66
  let v132 : BitVec 1 := Scalar.xori v130 v131
  let c0_i32_64 : BitVec 32 := 0#32
  let v129 : BitVec 1 := Scalar.cmpi .ne v128 c0_i32_64
  let v133 : BitVec 1 := Scalar.andi v132 v129
  let v134 : BitVec 32 := Scalar.addi v128 v127
  let v135 : BitVec 32 := Scalar.select v133 v134 v128
  let c3_i32_74 : BitVec 32 := 3#32
  let v147 : BitVec 32 := Scalar.subi c3_i32_74 v135
  let v148 : BitVec 32 := Scalar.select v146 v135 v147
  let v149 : BitVec 32 := Scalar.muli c4_i32_75 v148
  let v150 : BitVec 32 := Scalar.addi v149 v125
  let c1_i32_4200 : BitVec 32 := 1#32
  let v5653 : BitVec 32 := Scalar.muli v150 c1_i32_4200
  let v5654 : BitVec 32 := Scalar.addi c0_i32_4201 v5653
  v5654.toNat
def k0_dev112 (d0 : Dev nD) : Nat :=
  let c0_i32_4229 : BitVec 32 := 0#32
  let c4_i32_46 : BitVec 32 := 4#32
  let c4_i32_17 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let v43 : BitVec 32 := Scalar.muli c4_i32_17 v12
  let c2_i32 : BitVec 32 := 2#32
  let c0_i32_11 : BitVec 32 := 0#32
  let v30 : BitVec 1 := Scalar.cmpi .eq c2_i32 c0_i32_11
  let c1_i32_12 : BitVec 32 := 1#32
  let v31 : BitVec 32 := Scalar.select v30 c1_i32_12 c2_i32
  let v32 : BitVec 32 := Scalar.remsi v12 v31
  let c0_i32_14 : BitVec 32 := 0#32
  let v34 : BitVec 1 := Scalar.cmpi .slt v32 c0_i32_14
  let c0_i32_15 : BitVec 32 := 0#32
  let v35 : BitVec 1 := Scalar.cmpi .slt v31 c0_i32_15
  let v36 : BitVec 1 := Scalar.xori v34 v35
  let c0_i32_13 : BitVec 32 := 0#32
  let v33 : BitVec 1 := Scalar.cmpi .ne v32 c0_i32_13
  let v37 : BitVec 1 := Scalar.andi v36 v33
  let v38 : BitVec 32 := Scalar.addi v32 v31
  let v39 : BitVec 32 := Scalar.select v37 v38 v32
  let c0_i32_16 : BitVec 32 := 0#32
  let v40 : BitVec 1 := Scalar.cmpi .eq v39 c0_i32_16
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c4_i32_4 : BitVec 32 := 4#32
  let c0_i32_7 : BitVec 32 := 0#32
  let v19 : BitVec 1 := Scalar.cmpi .sgt c4_i32_4 c0_i32_7
  let v20 : BitVec 32 := Scalar.extui v19
  let c0_i32_8 : BitVec 32 := 0#32
  let v21 : BitVec 1 := Scalar.cmpi .slt c4_i32_4 c0_i32_8
  let v22 : BitVec 32 := Scalar.extui v21
  let v23 : BitVec 32 := Scalar.subi v20 v22
  let v24 : BitVec 1 := Scalar.cmpi .ne v18 v23
  let v25 : BitVec 32 := Scalar.remsi v2 c4_i32_4
  let c0_i32_9 : BitVec 32 := 0#32
  let v26 : BitVec 1 := Scalar.cmpi .ne v25 c0_i32_9
  let v27 : BitVec 1 := Scalar.andi v24 v26
  let v13 : BitVec 32 := Scalar.divsi v2 c4_i32_4
  let c1_i32_10 : BitVec 32 := 1#32
  let v28 : BitVec 32 := Scalar.subi v13 c1_i32_10
  let v29 : BitVec 32 := Scalar.select v27 v28 v13
  let c3_i32 : BitVec 32 := 3#32
  let v41 : BitVec 32 := Scalar.subi c3_i32 v29
  let v42 : BitVec 32 := Scalar.select v40 v29 v41
  let v44 : BitVec 32 := Scalar.addi v43 v42
  let c1_i32_18 : BitVec 32 := 1#32
  let v45 : BitVec 32 := Scalar.addi v44 c1_i32_18
  let c16_i32_19 : BitVec 32 := 16#32
  let c0_i32_20 : BitVec 32 := 0#32
  let v46 : BitVec 1 := Scalar.cmpi .eq c16_i32_19 c0_i32_20
  let c1_i32_21 : BitVec 32 := 1#32
  let v47 : BitVec 32 := Scalar.select v46 c1_i32_21 c16_i32_19
  let v48 : BitVec 32 := Scalar.remsi v45 v47
  let c0_i32_23 : BitVec 32 := 0#32
  let v50 : BitVec 1 := Scalar.cmpi .slt v48 c0_i32_23
  let c0_i32_24 : BitVec 32 := 0#32
  let v51 : BitVec 1 := Scalar.cmpi .slt v47 c0_i32_24
  let v52 : BitVec 1 := Scalar.xori v50 v51
  let c0_i32_22 : BitVec 32 := 0#32
  let v49 : BitVec 1 := Scalar.cmpi .ne v48 c0_i32_22
  let v53 : BitVec 1 := Scalar.andi v52 v49
  let v54 : BitVec 32 := Scalar.addi v48 v47
  let v55 : BitVec 32 := Scalar.select v53 v54 v48
  let c0_i32_26 : BitVec 32 := 0#32
  let v57 : BitVec 1 := Scalar.cmpi .sgt v55 c0_i32_26
  let v58 : BitVec 32 := Scalar.extui v57
  let c0_i32_27 : BitVec 32 := 0#32
  let v59 : BitVec 1 := Scalar.cmpi .slt v55 c0_i32_27
  let v60 : BitVec 32 := Scalar.extui v59
  let v61 : BitVec 32 := Scalar.subi v58 v60
  let c4_i32_25 : BitVec 32 := 4#32
  let c0_i32_28 : BitVec 32 := 0#32
  let v62 : BitVec 1 := Scalar.cmpi .sgt c4_i32_25 c0_i32_28
  let v63 : BitVec 32 := Scalar.extui v62
  let c0_i32_29 : BitVec 32 := 0#32
  let v64 : BitVec 1 := Scalar.cmpi .slt c4_i32_25 c0_i32_29
  let v65 : BitVec 32 := Scalar.extui v64
  let v66 : BitVec 32 := Scalar.subi v63 v65
  let v67 : BitVec 1 := Scalar.cmpi .ne v61 v66
  let v68 : BitVec 32 := Scalar.remsi v55 c4_i32_25
  let c0_i32_30 : BitVec 32 := 0#32
  let v69 : BitVec 1 := Scalar.cmpi .ne v68 c0_i32_30
  let v70 : BitVec 1 := Scalar.andi v67 v69
  let v56 : BitVec 32 := Scalar.divsi v55 c4_i32_25
  let c1_i32_31 : BitVec 32 := 1#32
  let v71 : BitVec 32 := Scalar.subi v56 c1_i32_31
  let v72 : BitVec 32 := Scalar.select v70 v71 v56
  let c2_i32_38 : BitVec 32 := 2#32
  let c0_i32_39 : BitVec 32 := 0#32
  let v83 : BitVec 1 := Scalar.cmpi .eq c2_i32_38 c0_i32_39
  let c1_i32_40 : BitVec 32 := 1#32
  let v84 : BitVec 32 := Scalar.select v83 c1_i32_40 c2_i32_38
  let v85 : BitVec 32 := Scalar.remsi v72 v84
  let c0_i32_42 : BitVec 32 := 0#32
  let v87 : BitVec 1 := Scalar.cmpi .slt v85 c0_i32_42
  let c0_i32_43 : BitVec 32 := 0#32
  let v88 : BitVec 1 := Scalar.cmpi .slt v84 c0_i32_43
  let v89 : BitVec 1 := Scalar.xori v87 v88
  let c0_i32_41 : BitVec 32 := 0#32
  let v86 : BitVec 1 := Scalar.cmpi .ne v85 c0_i32_41
  let v90 : BitVec 1 := Scalar.andi v89 v86
  let v91 : BitVec 32 := Scalar.addi v85 v84
  let v92 : BitVec 32 := Scalar.select v90 v91 v85
  let c0_i32_44 : BitVec 32 := 0#32
  let v93 : BitVec 1 := Scalar.cmpi .eq v92 c0_i32_44
  let c4_i32_32 : BitVec 32 := 4#32
  let c0_i32_33 : BitVec 32 := 0#32
  let v73 : BitVec 1 := Scalar.cmpi .eq c4_i32_32 c0_i32_33
  let c1_i32_34 : BitVec 32 := 1#32
  let v74 : BitVec 32 := Scalar.select v73 c1_i32_34 c4_i32_32
  let v75 : BitVec 32 := Scalar.remsi v55 v74
  let c0_i32_36 : BitVec 32 := 0#32
  let v77 : BitVec 1 := Scalar.cmpi .slt v75 c0_i32_36
  let c0_i32_37 : BitVec 32 := 0#32
  let v78 : BitVec 1 := Scalar.cmpi .slt v74 c0_i32_37
  let v79 : BitVec 1 := Scalar.xori v77 v78
  let c0_i32_35 : BitVec 32 := 0#32
  let v76 : BitVec 1 := Scalar.cmpi .ne v75 c0_i32_35
  let v80 : BitVec 1 := Scalar.andi v79 v76
  let v81 : BitVec 32 := Scalar.addi v75 v74
  let v82 : BitVec 32 := Scalar.select v80 v81 v75
  let c3_i32_45 : BitVec 32 := 3#32
  let v94 : BitVec 32 := Scalar.subi c3_i32_45 v82
  let v95 : BitVec 32 := Scalar.select v93 v82 v94
  let v96 : BitVec 32 := Scalar.muli c4_i32_46 v95
  let v97 : BitVec 32 := Scalar.addi v96 v72
  let c1_i32_4228 : BitVec 32 := 1#32
  let v5677 : BitVec 32 := Scalar.muli v97 c1_i32_4228
  let v5678 : BitVec 32 := Scalar.addi c0_i32_4229 v5677
  v5678.toNat
def k0_dev113 (d0 : Dev nD) : Nat :=
  let c0_i32_4243 : BitVec 32 := 0#32
  let c4_i32_46 : BitVec 32 := 4#32
  let c4_i32_17 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let v43 : BitVec 32 := Scalar.muli c4_i32_17 v12
  let c2_i32 : BitVec 32 := 2#32
  let c0_i32_11 : BitVec 32 := 0#32
  let v30 : BitVec 1 := Scalar.cmpi .eq c2_i32 c0_i32_11
  let c1_i32_12 : BitVec 32 := 1#32
  let v31 : BitVec 32 := Scalar.select v30 c1_i32_12 c2_i32
  let v32 : BitVec 32 := Scalar.remsi v12 v31
  let c0_i32_14 : BitVec 32 := 0#32
  let v34 : BitVec 1 := Scalar.cmpi .slt v32 c0_i32_14
  let c0_i32_15 : BitVec 32 := 0#32
  let v35 : BitVec 1 := Scalar.cmpi .slt v31 c0_i32_15
  let v36 : BitVec 1 := Scalar.xori v34 v35
  let c0_i32_13 : BitVec 32 := 0#32
  let v33 : BitVec 1 := Scalar.cmpi .ne v32 c0_i32_13
  let v37 : BitVec 1 := Scalar.andi v36 v33
  let v38 : BitVec 32 := Scalar.addi v32 v31
  let v39 : BitVec 32 := Scalar.select v37 v38 v32
  let c0_i32_16 : BitVec 32 := 0#32
  let v40 : BitVec 1 := Scalar.cmpi .eq v39 c0_i32_16
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c4_i32_4 : BitVec 32 := 4#32
  let c0_i32_7 : BitVec 32 := 0#32
  let v19 : BitVec 1 := Scalar.cmpi .sgt c4_i32_4 c0_i32_7
  let v20 : BitVec 32 := Scalar.extui v19
  let c0_i32_8 : BitVec 32 := 0#32
  let v21 : BitVec 1 := Scalar.cmpi .slt c4_i32_4 c0_i32_8
  let v22 : BitVec 32 := Scalar.extui v21
  let v23 : BitVec 32 := Scalar.subi v20 v22
  let v24 : BitVec 1 := Scalar.cmpi .ne v18 v23
  let v25 : BitVec 32 := Scalar.remsi v2 c4_i32_4
  let c0_i32_9 : BitVec 32 := 0#32
  let v26 : BitVec 1 := Scalar.cmpi .ne v25 c0_i32_9
  let v27 : BitVec 1 := Scalar.andi v24 v26
  let v13 : BitVec 32 := Scalar.divsi v2 c4_i32_4
  let c1_i32_10 : BitVec 32 := 1#32
  let v28 : BitVec 32 := Scalar.subi v13 c1_i32_10
  let v29 : BitVec 32 := Scalar.select v27 v28 v13
  let c3_i32 : BitVec 32 := 3#32
  let v41 : BitVec 32 := Scalar.subi c3_i32 v29
  let v42 : BitVec 32 := Scalar.select v40 v29 v41
  let v44 : BitVec 32 := Scalar.addi v43 v42
  let c1_i32_18 : BitVec 32 := 1#32
  let v45 : BitVec 32 := Scalar.addi v44 c1_i32_18
  let c16_i32_19 : BitVec 32 := 16#32
  let c0_i32_20 : BitVec 32 := 0#32
  let v46 : BitVec 1 := Scalar.cmpi .eq c16_i32_19 c0_i32_20
  let c1_i32_21 : BitVec 32 := 1#32
  let v47 : BitVec 32 := Scalar.select v46 c1_i32_21 c16_i32_19
  let v48 : BitVec 32 := Scalar.remsi v45 v47
  let c0_i32_23 : BitVec 32 := 0#32
  let v50 : BitVec 1 := Scalar.cmpi .slt v48 c0_i32_23
  let c0_i32_24 : BitVec 32 := 0#32
  let v51 : BitVec 1 := Scalar.cmpi .slt v47 c0_i32_24
  let v52 : BitVec 1 := Scalar.xori v50 v51
  let c0_i32_22 : BitVec 32 := 0#32
  let v49 : BitVec 1 := Scalar.cmpi .ne v48 c0_i32_22
  let v53 : BitVec 1 := Scalar.andi v52 v49
  let v54 : BitVec 32 := Scalar.addi v48 v47
  let v55 : BitVec 32 := Scalar.select v53 v54 v48
  let c0_i32_26 : BitVec 32 := 0#32
  let v57 : BitVec 1 := Scalar.cmpi .sgt v55 c0_i32_26
  let v58 : BitVec 32 := Scalar.extui v57
  let c0_i32_27 : BitVec 32 := 0#32
  let v59 : BitVec 1 := Scalar.cmpi .slt v55 c0_i32_27
  let v60 : BitVec 32 := Scalar.extui v59
  let v61 : BitVec 32 := Scalar.subi v58 v60
  let c4_i32_25 : BitVec 32 := 4#32
  let c0_i32_28 : BitVec 32 := 0#32
  let v62 : BitVec 1 := Scalar.cmpi .sgt c4_i32_25 c0_i32_28
  let v63 : BitVec 32 := Scalar.extui v62
  let c0_i32_29 : BitVec 32 := 0#32
  let v64 : BitVec 1 := Scalar.cmpi .slt c4_i32_25 c0_i32_29
  let v65 : BitVec 32 := Scalar.extui v64
  let v66 : BitVec 32 := Scalar.subi v63 v65
  let v67 : BitVec 1 := Scalar.cmpi .ne v61 v66
  let v68 : BitVec 32 := Scalar.remsi v55 c4_i32_25
  let c0_i32_30 : BitVec 32 := 0#32
  let v69 : BitVec 1 := Scalar.cmpi .ne v68 c0_i32_30
  let v70 : BitVec 1 := Scalar.andi v67 v69
  let v56 : BitVec 32 := Scalar.divsi v55 c4_i32_25
  let c1_i32_31 : BitVec 32 := 1#32
  let v71 : BitVec 32 := Scalar.subi v56 c1_i32_31
  let v72 : BitVec 32 := Scalar.select v70 v71 v56
  let c2_i32_38 : BitVec 32 := 2#32
  let c0_i32_39 : BitVec 32 := 0#32
  let v83 : BitVec 1 := Scalar.cmpi .eq c2_i32_38 c0_i32_39
  let c1_i32_40 : BitVec 32 := 1#32
  let v84 : BitVec 32 := Scalar.select v83 c1_i32_40 c2_i32_38
  let v85 : BitVec 32 := Scalar.remsi v72 v84
  let c0_i32_42 : BitVec 32 := 0#32
  let v87 : BitVec 1 := Scalar.cmpi .slt v85 c0_i32_42
  let c0_i32_43 : BitVec 32 := 0#32
  let v88 : BitVec 1 := Scalar.cmpi .slt v84 c0_i32_43
  let v89 : BitVec 1 := Scalar.xori v87 v88
  let c0_i32_41 : BitVec 32 := 0#32
  let v86 : BitVec 1 := Scalar.cmpi .ne v85 c0_i32_41
  let v90 : BitVec 1 := Scalar.andi v89 v86
  let v91 : BitVec 32 := Scalar.addi v85 v84
  let v92 : BitVec 32 := Scalar.select v90 v91 v85
  let c0_i32_44 : BitVec 32 := 0#32
  let v93 : BitVec 1 := Scalar.cmpi .eq v92 c0_i32_44
  let c4_i32_32 : BitVec 32 := 4#32
  let c0_i32_33 : BitVec 32 := 0#32
  let v73 : BitVec 1 := Scalar.cmpi .eq c4_i32_32 c0_i32_33
  let c1_i32_34 : BitVec 32 := 1#32
  let v74 : BitVec 32 := Scalar.select v73 c1_i32_34 c4_i32_32
  let v75 : BitVec 32 := Scalar.remsi v55 v74
  let c0_i32_36 : BitVec 32 := 0#32
  let v77 : BitVec 1 := Scalar.cmpi .slt v75 c0_i32_36
  let c0_i32_37 : BitVec 32 := 0#32
  let v78 : BitVec 1 := Scalar.cmpi .slt v74 c0_i32_37
  let v79 : BitVec 1 := Scalar.xori v77 v78
  let c0_i32_35 : BitVec 32 := 0#32
  let v76 : BitVec 1 := Scalar.cmpi .ne v75 c0_i32_35
  let v80 : BitVec 1 := Scalar.andi v79 v76
  let v81 : BitVec 32 := Scalar.addi v75 v74
  let v82 : BitVec 32 := Scalar.select v80 v81 v75
  let c3_i32_45 : BitVec 32 := 3#32
  let v94 : BitVec 32 := Scalar.subi c3_i32_45 v82
  let v95 : BitVec 32 := Scalar.select v93 v82 v94
  let v96 : BitVec 32 := Scalar.muli c4_i32_46 v95
  let v97 : BitVec 32 := Scalar.addi v96 v72
  let c1_i32_4242 : BitVec 32 := 1#32
  let v5687 : BitVec 32 := Scalar.muli v97 c1_i32_4242
  let v5688 : BitVec 32 := Scalar.addi c0_i32_4243 v5687
  v5688.toNat
def k0_dev114 (d0 : Dev nD) : Nat :=
  let c0_i32_4255 : BitVec 32 := 0#32
  let c4_i32_75 : BitVec 32 := 4#32
  let c4_i32_17 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let v43 : BitVec 32 := Scalar.muli c4_i32_17 v12
  let c2_i32 : BitVec 32 := 2#32
  let c0_i32_11 : BitVec 32 := 0#32
  let v30 : BitVec 1 := Scalar.cmpi .eq c2_i32 c0_i32_11
  let c1_i32_12 : BitVec 32 := 1#32
  let v31 : BitVec 32 := Scalar.select v30 c1_i32_12 c2_i32
  let v32 : BitVec 32 := Scalar.remsi v12 v31
  let c0_i32_14 : BitVec 32 := 0#32
  let v34 : BitVec 1 := Scalar.cmpi .slt v32 c0_i32_14
  let c0_i32_15 : BitVec 32 := 0#32
  let v35 : BitVec 1 := Scalar.cmpi .slt v31 c0_i32_15
  let v36 : BitVec 1 := Scalar.xori v34 v35
  let c0_i32_13 : BitVec 32 := 0#32
  let v33 : BitVec 1 := Scalar.cmpi .ne v32 c0_i32_13
  let v37 : BitVec 1 := Scalar.andi v36 v33
  let v38 : BitVec 32 := Scalar.addi v32 v31
  let v39 : BitVec 32 := Scalar.select v37 v38 v32
  let c0_i32_16 : BitVec 32 := 0#32
  let v40 : BitVec 1 := Scalar.cmpi .eq v39 c0_i32_16
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c4_i32_4 : BitVec 32 := 4#32
  let c0_i32_7 : BitVec 32 := 0#32
  let v19 : BitVec 1 := Scalar.cmpi .sgt c4_i32_4 c0_i32_7
  let v20 : BitVec 32 := Scalar.extui v19
  let c0_i32_8 : BitVec 32 := 0#32
  let v21 : BitVec 1 := Scalar.cmpi .slt c4_i32_4 c0_i32_8
  let v22 : BitVec 32 := Scalar.extui v21
  let v23 : BitVec 32 := Scalar.subi v20 v22
  let v24 : BitVec 1 := Scalar.cmpi .ne v18 v23
  let v25 : BitVec 32 := Scalar.remsi v2 c4_i32_4
  let c0_i32_9 : BitVec 32 := 0#32
  let v26 : BitVec 1 := Scalar.cmpi .ne v25 c0_i32_9
  let v27 : BitVec 1 := Scalar.andi v24 v26
  let v13 : BitVec 32 := Scalar.divsi v2 c4_i32_4
  let c1_i32_10 : BitVec 32 := 1#32
  let v28 : BitVec 32 := Scalar.subi v13 c1_i32_10
  let v29 : BitVec 32 := Scalar.select v27 v28 v13
  let c3_i32 : BitVec 32 := 3#32
  let v41 : BitVec 32 := Scalar.subi c3_i32 v29
  let v42 : BitVec 32 := Scalar.select v40 v29 v41
  let v44 : BitVec 32 := Scalar.addi v43 v42
  let c1_i32_47 : BitVec 32 := 1#32
  let v98 : BitVec 32 := Scalar.subi v44 c1_i32_47
  let c16_i32_48 : BitVec 32 := 16#32
  let c0_i32_49 : BitVec 32 := 0#32
  let v99 : BitVec 1 := Scalar.cmpi .eq c16_i32_48 c0_i32_49
  let c1_i32_50 : BitVec 32 := 1#32
  let v100 : BitVec 32 := Scalar.select v99 c1_i32_50 c16_i32_48
  let v101 : BitVec 32 := Scalar.remsi v98 v100
  let c0_i32_52 : BitVec 32 := 0#32
  let v103 : BitVec 1 := Scalar.cmpi .slt v101 c0_i32_52
  let c0_i32_53 : BitVec 32 := 0#32
  let v104 : BitVec 1 := Scalar.cmpi .slt v100 c0_i32_53
  let v105 : BitVec 1 := Scalar.xori v103 v104
  let c0_i32_51 : BitVec 32 := 0#32
  let v102 : BitVec 1 := Scalar.cmpi .ne v101 c0_i32_51
  let v106 : BitVec 1 := Scalar.andi v105 v102
  let v107 : BitVec 32 := Scalar.addi v101 v100
  let v108 : BitVec 32 := Scalar.select v106 v107 v101
  let c0_i32_55 : BitVec 32 := 0#32
  let v110 : BitVec 1 := Scalar.cmpi .sgt v108 c0_i32_55
  let v111 : BitVec 32 := Scalar.extui v110
  let c0_i32_56 : BitVec 32 := 0#32
  let v112 : BitVec 1 := Scalar.cmpi .slt v108 c0_i32_56
  let v113 : BitVec 32 := Scalar.extui v112
  let v114 : BitVec 32 := Scalar.subi v111 v113
  let c4_i32_54 : BitVec 32 := 4#32
  let c0_i32_57 : BitVec 32 := 0#32
  let v115 : BitVec 1 := Scalar.cmpi .sgt c4_i32_54 c0_i32_57
  let v116 : BitVec 32 := Scalar.extui v115
  let c0_i32_58 : BitVec 32 := 0#32
  let v117 : BitVec 1 := Scalar.cmpi .slt c4_i32_54 c0_i32_58
  let v118 : BitVec 32 := Scalar.extui v117
  let v119 : BitVec 32 := Scalar.subi v116 v118
  let v120 : BitVec 1 := Scalar.cmpi .ne v114 v119
  let v121 : BitVec 32 := Scalar.remsi v108 c4_i32_54
  let c0_i32_59 : BitVec 32 := 0#32
  let v122 : BitVec 1 := Scalar.cmpi .ne v121 c0_i32_59
  let v123 : BitVec 1 := Scalar.andi v120 v122
  let v109 : BitVec 32 := Scalar.divsi v108 c4_i32_54
  let c1_i32_60 : BitVec 32 := 1#32
  let v124 : BitVec 32 := Scalar.subi v109 c1_i32_60
  let v125 : BitVec 32 := Scalar.select v123 v124 v109
  let c2_i32_67 : BitVec 32 := 2#32
  let c0_i32_68 : BitVec 32 := 0#32
  let v136 : BitVec 1 := Scalar.cmpi .eq c2_i32_67 c0_i32_68
  let c1_i32_69 : BitVec 32 := 1#32
  let v137 : BitVec 32 := Scalar.select v136 c1_i32_69 c2_i32_67
  let v138 : BitVec 32 := Scalar.remsi v125 v137
  let c0_i32_71 : BitVec 32 := 0#32
  let v140 : BitVec 1 := Scalar.cmpi .slt v138 c0_i32_71
  let c0_i32_72 : BitVec 32 := 0#32
  let v141 : BitVec 1 := Scalar.cmpi .slt v137 c0_i32_72
  let v142 : BitVec 1 := Scalar.xori v140 v141
  let c0_i32_70 : BitVec 32 := 0#32
  let v139 : BitVec 1 := Scalar.cmpi .ne v138 c0_i32_70
  let v143 : BitVec 1 := Scalar.andi v142 v139
  let v144 : BitVec 32 := Scalar.addi v138 v137
  let v145 : BitVec 32 := Scalar.select v143 v144 v138
  let c0_i32_73 : BitVec 32 := 0#32
  let v146 : BitVec 1 := Scalar.cmpi .eq v145 c0_i32_73
  let c4_i32_61 : BitVec 32 := 4#32
  let c0_i32_62 : BitVec 32 := 0#32
  let v126 : BitVec 1 := Scalar.cmpi .eq c4_i32_61 c0_i32_62
  let c1_i32_63 : BitVec 32 := 1#32
  let v127 : BitVec 32 := Scalar.select v126 c1_i32_63 c4_i32_61
  let v128 : BitVec 32 := Scalar.remsi v108 v127
  let c0_i32_65 : BitVec 32 := 0#32
  let v130 : BitVec 1 := Scalar.cmpi .slt v128 c0_i32_65
  let c0_i32_66 : BitVec 32 := 0#32
  let v131 : BitVec 1 := Scalar.cmpi .slt v127 c0_i32_66
  let v132 : BitVec 1 := Scalar.xori v130 v131
  let c0_i32_64 : BitVec 32 := 0#32
  let v129 : BitVec 1 := Scalar.cmpi .ne v128 c0_i32_64
  let v133 : BitVec 1 := Scalar.andi v132 v129
  let v134 : BitVec 32 := Scalar.addi v128 v127
  let v135 : BitVec 32 := Scalar.select v133 v134 v128
  let c3_i32_74 : BitVec 32 := 3#32
  let v147 : BitVec 32 := Scalar.subi c3_i32_74 v135
  let v148 : BitVec 32 := Scalar.select v146 v135 v147
  let v149 : BitVec 32 := Scalar.muli c4_i32_75 v148
  let v150 : BitVec 32 := Scalar.addi v149 v125
  let c1_i32_4254 : BitVec 32 := 1#32
  let v5697 : BitVec 32 := Scalar.muli v150 c1_i32_4254
  let v5698 : BitVec 32 := Scalar.addi c0_i32_4255 v5697
  v5698.toNat
def k0_dev115 (d0 : Dev nD) : Nat :=
  let c0_i32_4281 : BitVec 32 := 0#32
  let c4_i32_75 : BitVec 32 := 4#32
  let c4_i32_17 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let v43 : BitVec 32 := Scalar.muli c4_i32_17 v12
  let c2_i32 : BitVec 32 := 2#32
  let c0_i32_11 : BitVec 32 := 0#32
  let v30 : BitVec 1 := Scalar.cmpi .eq c2_i32 c0_i32_11
  let c1_i32_12 : BitVec 32 := 1#32
  let v31 : BitVec 32 := Scalar.select v30 c1_i32_12 c2_i32
  let v32 : BitVec 32 := Scalar.remsi v12 v31
  let c0_i32_14 : BitVec 32 := 0#32
  let v34 : BitVec 1 := Scalar.cmpi .slt v32 c0_i32_14
  let c0_i32_15 : BitVec 32 := 0#32
  let v35 : BitVec 1 := Scalar.cmpi .slt v31 c0_i32_15
  let v36 : BitVec 1 := Scalar.xori v34 v35
  let c0_i32_13 : BitVec 32 := 0#32
  let v33 : BitVec 1 := Scalar.cmpi .ne v32 c0_i32_13
  let v37 : BitVec 1 := Scalar.andi v36 v33
  let v38 : BitVec 32 := Scalar.addi v32 v31
  let v39 : BitVec 32 := Scalar.select v37 v38 v32
  let c0_i32_16 : BitVec 32 := 0#32
  let v40 : BitVec 1 := Scalar.cmpi .eq v39 c0_i32_16
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c4_i32_4 : BitVec 32 := 4#32
  let c0_i32_7 : BitVec 32 := 0#32
  let v19 : BitVec 1 := Scalar.cmpi .sgt c4_i32_4 c0_i32_7
  let v20 : BitVec 32 := Scalar.extui v19
  let c0_i32_8 : BitVec 32 := 0#32
  let v21 : BitVec 1 := Scalar.cmpi .slt c4_i32_4 c0_i32_8
  let v22 : BitVec 32 := Scalar.extui v21
  let v23 : BitVec 32 := Scalar.subi v20 v22
  let v24 : BitVec 1 := Scalar.cmpi .ne v18 v23
  let v25 : BitVec 32 := Scalar.remsi v2 c4_i32_4
  let c0_i32_9 : BitVec 32 := 0#32
  let v26 : BitVec 1 := Scalar.cmpi .ne v25 c0_i32_9
  let v27 : BitVec 1 := Scalar.andi v24 v26
  let v13 : BitVec 32 := Scalar.divsi v2 c4_i32_4
  let c1_i32_10 : BitVec 32 := 1#32
  let v28 : BitVec 32 := Scalar.subi v13 c1_i32_10
  let v29 : BitVec 32 := Scalar.select v27 v28 v13
  let c3_i32 : BitVec 32 := 3#32
  let v41 : BitVec 32 := Scalar.subi c3_i32 v29
  let v42 : BitVec 32 := Scalar.select v40 v29 v41
  let v44 : BitVec 32 := Scalar.addi v43 v42
  let c1_i32_47 : BitVec 32 := 1#32
  let v98 : BitVec 32 := Scalar.subi v44 c1_i32_47
  let c16_i32_48 : BitVec 32 := 16#32
  let c0_i32_49 : BitVec 32 := 0#32
  let v99 : BitVec 1 := Scalar.cmpi .eq c16_i32_48 c0_i32_49
  let c1_i32_50 : BitVec 32 := 1#32
  let v100 : BitVec 32 := Scalar.select v99 c1_i32_50 c16_i32_48
  let v101 : BitVec 32 := Scalar.remsi v98 v100
  let c0_i32_52 : BitVec 32 := 0#32
  let v103 : BitVec 1 := Scalar.cmpi .slt v101 c0_i32_52
  let c0_i32_53 : BitVec 32 := 0#32
  let v104 : BitVec 1 := Scalar.cmpi .slt v100 c0_i32_53
  let v105 : BitVec 1 := Scalar.xori v103 v104
  let c0_i32_51 : BitVec 32 := 0#32
  let v102 : BitVec 1 := Scalar.cmpi .ne v101 c0_i32_51
  let v106 : BitVec 1 := Scalar.andi v105 v102
  let v107 : BitVec 32 := Scalar.addi v101 v100
  let v108 : BitVec 32 := Scalar.select v106 v107 v101
  let c0_i32_55 : BitVec 32 := 0#32
  let v110 : BitVec 1 := Scalar.cmpi .sgt v108 c0_i32_55
  let v111 : BitVec 32 := Scalar.extui v110
  let c0_i32_56 : BitVec 32 := 0#32
  let v112 : BitVec 1 := Scalar.cmpi .slt v108 c0_i32_56
  let v113 : BitVec 32 := Scalar.extui v112
  let v114 : BitVec 32 := Scalar.subi v111 v113
  let c4_i32_54 : BitVec 32 := 4#32
  let c0_i32_57 : BitVec 32 := 0#32
  let v115 : BitVec 1 := Scalar.cmpi .sgt c4_i32_54 c0_i32_57
  let v116 : BitVec 32 := Scalar.extui v115
  let c0_i32_58 : BitVec 32 := 0#32
  let v117 : BitVec 1 := Scalar.cmpi .slt c4_i32_54 c0_i32_58
  let v118 : BitVec 32 := Scalar.extui v117
  let v119 : BitVec 32 := Scalar.subi v116 v118
  let v120 : BitVec 1 := Scalar.cmpi .ne v114 v119
  let v121 : BitVec 32 := Scalar.remsi v108 c4_i32_54
  let c0_i32_59 : BitVec 32 := 0#32
  let v122 : BitVec 1 := Scalar.cmpi .ne v121 c0_i32_59
  let v123 : BitVec 1 := Scalar.andi v120 v122
  let v109 : BitVec 32 := Scalar.divsi v108 c4_i32_54
  let c1_i32_60 : BitVec 32 := 1#32
  let v124 : BitVec 32 := Scalar.subi v109 c1_i32_60
  let v125 : BitVec 32 := Scalar.select v123 v124 v109
  let c2_i32_67 : BitVec 32 := 2#32
  let c0_i32_68 : BitVec 32 := 0#32
  let v136 : BitVec 1 := Scalar.cmpi .eq c2_i32_67 c0_i32_68
  let c1_i32_69 : BitVec 32 := 1#32
  let v137 : BitVec 32 := Scalar.select v136 c1_i32_69 c2_i32_67
  let v138 : BitVec 32 := Scalar.remsi v125 v137
  let c0_i32_71 : BitVec 32 := 0#32
  let v140 : BitVec 1 := Scalar.cmpi .slt v138 c0_i32_71
  let c0_i32_72 : BitVec 32 := 0#32
  let v141 : BitVec 1 := Scalar.cmpi .slt v137 c0_i32_72
  let v142 : BitVec 1 := Scalar.xori v140 v141
  let c0_i32_70 : BitVec 32 := 0#32
  let v139 : BitVec 1 := Scalar.cmpi .ne v138 c0_i32_70
  let v143 : BitVec 1 := Scalar.andi v142 v139
  let v144 : BitVec 32 := Scalar.addi v138 v137
  let v145 : BitVec 32 := Scalar.select v143 v144 v138
  let c0_i32_73 : BitVec 32 := 0#32
  let v146 : BitVec 1 := Scalar.cmpi .eq v145 c0_i32_73
  let c4_i32_61 : BitVec 32 := 4#32
  let c0_i32_62 : BitVec 32 := 0#32
  let v126 : BitVec 1 := Scalar.cmpi .eq c4_i32_61 c0_i32_62
  let c1_i32_63 : BitVec 32 := 1#32
  let v127 : BitVec 32 := Scalar.select v126 c1_i32_63 c4_i32_61
  let v128 : BitVec 32 := Scalar.remsi v108 v127
  let c0_i32_65 : BitVec 32 := 0#32
  let v130 : BitVec 1 := Scalar.cmpi .slt v128 c0_i32_65
  let c0_i32_66 : BitVec 32 := 0#32
  let v131 : BitVec 1 := Scalar.cmpi .slt v127 c0_i32_66
  let v132 : BitVec 1 := Scalar.xori v130 v131
  let c0_i32_64 : BitVec 32 := 0#32
  let v129 : BitVec 1 := Scalar.cmpi .ne v128 c0_i32_64
  let v133 : BitVec 1 := Scalar.andi v132 v129
  let v134 : BitVec 32 := Scalar.addi v128 v127
  let v135 : BitVec 32 := Scalar.select v133 v134 v128
  let c3_i32_74 : BitVec 32 := 3#32
  let v147 : BitVec 32 := Scalar.subi c3_i32_74 v135
  let v148 : BitVec 32 := Scalar.select v146 v135 v147
  let v149 : BitVec 32 := Scalar.muli c4_i32_75 v148
  let v150 : BitVec 32 := Scalar.addi v149 v125
  let c1_i32_4280 : BitVec 32 := 1#32
  let v5721 : BitVec 32 := Scalar.muli v150 c1_i32_4280
  let v5722 : BitVec 32 := Scalar.addi c0_i32_4281 v5721
  v5722.toNat
def k0_dev116 (d0 : Dev nD) : Nat :=
  let c0_i32_4309 : BitVec 32 := 0#32
  let c4_i32_46 : BitVec 32 := 4#32
  let c4_i32_17 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let v43 : BitVec 32 := Scalar.muli c4_i32_17 v12
  let c2_i32 : BitVec 32 := 2#32
  let c0_i32_11 : BitVec 32 := 0#32
  let v30 : BitVec 1 := Scalar.cmpi .eq c2_i32 c0_i32_11
  let c1_i32_12 : BitVec 32 := 1#32
  let v31 : BitVec 32 := Scalar.select v30 c1_i32_12 c2_i32
  let v32 : BitVec 32 := Scalar.remsi v12 v31
  let c0_i32_14 : BitVec 32 := 0#32
  let v34 : BitVec 1 := Scalar.cmpi .slt v32 c0_i32_14
  let c0_i32_15 : BitVec 32 := 0#32
  let v35 : BitVec 1 := Scalar.cmpi .slt v31 c0_i32_15
  let v36 : BitVec 1 := Scalar.xori v34 v35
  let c0_i32_13 : BitVec 32 := 0#32
  let v33 : BitVec 1 := Scalar.cmpi .ne v32 c0_i32_13
  let v37 : BitVec 1 := Scalar.andi v36 v33
  let v38 : BitVec 32 := Scalar.addi v32 v31
  let v39 : BitVec 32 := Scalar.select v37 v38 v32
  let c0_i32_16 : BitVec 32 := 0#32
  let v40 : BitVec 1 := Scalar.cmpi .eq v39 c0_i32_16
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c4_i32_4 : BitVec 32 := 4#32
  let c0_i32_7 : BitVec 32 := 0#32
  let v19 : BitVec 1 := Scalar.cmpi .sgt c4_i32_4 c0_i32_7
  let v20 : BitVec 32 := Scalar.extui v19
  let c0_i32_8 : BitVec 32 := 0#32
  let v21 : BitVec 1 := Scalar.cmpi .slt c4_i32_4 c0_i32_8
  let v22 : BitVec 32 := Scalar.extui v21
  let v23 : BitVec 32 := Scalar.subi v20 v22
  let v24 : BitVec 1 := Scalar.cmpi .ne v18 v23
  let v25 : BitVec 32 := Scalar.remsi v2 c4_i32_4
  let c0_i32_9 : BitVec 32 := 0#32
  let v26 : BitVec 1 := Scalar.cmpi .ne v25 c0_i32_9
  let v27 : BitVec 1 := Scalar.andi v24 v26
  let v13 : BitVec 32 := Scalar.divsi v2 c4_i32_4
  let c1_i32_10 : BitVec 32 := 1#32
  let v28 : BitVec 32 := Scalar.subi v13 c1_i32_10
  let v29 : BitVec 32 := Scalar.select v27 v28 v13
  let c3_i32 : BitVec 32 := 3#32
  let v41 : BitVec 32 := Scalar.subi c3_i32 v29
  let v42 : BitVec 32 := Scalar.select v40 v29 v41
  let v44 : BitVec 32 := Scalar.addi v43 v42
  let c1_i32_18 : BitVec 32 := 1#32
  let v45 : BitVec 32 := Scalar.addi v44 c1_i32_18
  let c16_i32_19 : BitVec 32 := 16#32
  let c0_i32_20 : BitVec 32 := 0#32
  let v46 : BitVec 1 := Scalar.cmpi .eq c16_i32_19 c0_i32_20
  let c1_i32_21 : BitVec 32 := 1#32
  let v47 : BitVec 32 := Scalar.select v46 c1_i32_21 c16_i32_19
  let v48 : BitVec 32 := Scalar.remsi v45 v47
  let c0_i32_23 : BitVec 32 := 0#32
  let v50 : BitVec 1 := Scalar.cmpi .slt v48 c0_i32_23
  let c0_i32_24 : BitVec 32 := 0#32
  let v51 : BitVec 1 := Scalar.cmpi .slt v47 c0_i32_24
  let v52 : BitVec 1 := Scalar.xori v50 v51
  let c0_i32_22 : BitVec 32 := 0#32
  let v49 : BitVec 1 := Scalar.cmpi .ne v48 c0_i32_22
  let v53 : BitVec 1 := Scalar.andi v52 v49
  let v54 : BitVec 32 := Scalar.addi v48 v47
  let v55 : BitVec 32 := Scalar.select v53 v54 v48
  let c0_i32_26 : BitVec 32 := 0#32
  let v57 : BitVec 1 := Scalar.cmpi .sgt v55 c0_i32_26
  let v58 : BitVec 32 := Scalar.extui v57
  let c0_i32_27 : BitVec 32 := 0#32
  let v59 : BitVec 1 := Scalar.cmpi .slt v55 c0_i32_27
  let v60 : BitVec 32 := Scalar.extui v59
  let v61 : BitVec 32 := Scalar.subi v58 v60
  let c4_i32_25 : BitVec 32 := 4#32
  let c0_i32_28 : BitVec 32 := 0#32
  let v62 : BitVec 1 := Scalar.cmpi .sgt c4_i32_25 c0_i32_28
  let v63 : BitVec 32 := Scalar.extui v62
  let c0_i32_29 : BitVec 32 := 0#32
  let v64 : BitVec 1 := Scalar.cmpi .slt c4_i32_25 c0_i32_29
  let v65 : BitVec 32 := Scalar.extui v64
  let v66 : BitVec 32 := Scalar.subi v63 v65
  let v67 : BitVec 1 := Scalar.cmpi .ne v61 v66
  let v68 : BitVec 32 := Scalar.remsi v55 c4_i32_25
  let c0_i32_30 : BitVec 32 := 0#32
  let v69 : BitVec 1 := Scalar.cmpi .ne v68 c0_i32_30
  let v70 : BitVec 1 := Scalar.andi v67 v69
  let v56 : BitVec 32 := Scalar.divsi v55 c4_i32_25
  let c1_i32_31 : BitVec 32 := 1#32
  let v71 : BitVec 32 := Scalar.subi v56 c1_i32_31
  let v72 : BitVec 32 := Scalar.select v70 v71 v56
  let c2_i32_38 : BitVec 32 := 2#32
  let c0_i32_39 : BitVec 32 := 0#32
  let v83 : BitVec 1 := Scalar.cmpi .eq c2_i32_38 c0_i32_39
  let c1_i32_40 : BitVec 32 := 1#32
  let v84 : BitVec 32 := Scalar.select v83 c1_i32_40 c2_i32_38
  let v85 : BitVec 32 := Scalar.remsi v72 v84
  let c0_i32_42 : BitVec 32 := 0#32
  let v87 : BitVec 1 := Scalar.cmpi .slt v85 c0_i32_42
  let c0_i32_43 : BitVec 32 := 0#32
  let v88 : BitVec 1 := Scalar.cmpi .slt v84 c0_i32_43
  let v89 : BitVec 1 := Scalar.xori v87 v88
  let c0_i32_41 : BitVec 32 := 0#32
  let v86 : BitVec 1 := Scalar.cmpi .ne v85 c0_i32_41
  let v90 : BitVec 1 := Scalar.andi v89 v86
  let v91 : BitVec 32 := Scalar.addi v85 v84
  let v92 : BitVec 32 := Scalar.select v90 v91 v85
  let c0_i32_44 : BitVec 32 := 0#32
  let v93 : BitVec 1 := Scalar.cmpi .eq v92 c0_i32_44
  let c4_i32_32 : BitVec 32 := 4#32
  let c0_i32_33 : BitVec 32 := 0#32
  let v73 : BitVec 1 := Scalar.cmpi .eq c4_i32_32 c0_i32_33
  let c1_i32_34 : BitVec 32 := 1#32
  let v74 : BitVec 32 := Scalar.select v73 c1_i32_34 c4_i32_32
  let v75 : BitVec 32 := Scalar.remsi v55 v74
  let c0_i32_36 : BitVec 32 := 0#32
  let v77 : BitVec 1 := Scalar.cmpi .slt v75 c0_i32_36
  let c0_i32_37 : BitVec 32 := 0#32
  let v78 : BitVec 1 := Scalar.cmpi .slt v74 c0_i32_37
  let v79 : BitVec 1 := Scalar.xori v77 v78
  let c0_i32_35 : BitVec 32 := 0#32
  let v76 : BitVec 1 := Scalar.cmpi .ne v75 c0_i32_35
  let v80 : BitVec 1 := Scalar.andi v79 v76
  let v81 : BitVec 32 := Scalar.addi v75 v74
  let v82 : BitVec 32 := Scalar.select v80 v81 v75
  let c3_i32_45 : BitVec 32 := 3#32
  let v94 : BitVec 32 := Scalar.subi c3_i32_45 v82
  let v95 : BitVec 32 := Scalar.select v93 v82 v94
  let v96 : BitVec 32 := Scalar.muli c4_i32_46 v95
  let v97 : BitVec 32 := Scalar.addi v96 v72
  let c1_i32_4308 : BitVec 32 := 1#32
  let v5745 : BitVec 32 := Scalar.muli v97 c1_i32_4308
  let v5746 : BitVec 32 := Scalar.addi c0_i32_4309 v5745
  v5746.toNat
def k0_dev117 (d0 : Dev nD) : Nat :=
  let c0_i32_4323 : BitVec 32 := 0#32
  let c4_i32_46 : BitVec 32 := 4#32
  let c4_i32_17 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let v43 : BitVec 32 := Scalar.muli c4_i32_17 v12
  let c2_i32 : BitVec 32 := 2#32
  let c0_i32_11 : BitVec 32 := 0#32
  let v30 : BitVec 1 := Scalar.cmpi .eq c2_i32 c0_i32_11
  let c1_i32_12 : BitVec 32 := 1#32
  let v31 : BitVec 32 := Scalar.select v30 c1_i32_12 c2_i32
  let v32 : BitVec 32 := Scalar.remsi v12 v31
  let c0_i32_14 : BitVec 32 := 0#32
  let v34 : BitVec 1 := Scalar.cmpi .slt v32 c0_i32_14
  let c0_i32_15 : BitVec 32 := 0#32
  let v35 : BitVec 1 := Scalar.cmpi .slt v31 c0_i32_15
  let v36 : BitVec 1 := Scalar.xori v34 v35
  let c0_i32_13 : BitVec 32 := 0#32
  let v33 : BitVec 1 := Scalar.cmpi .ne v32 c0_i32_13
  let v37 : BitVec 1 := Scalar.andi v36 v33
  let v38 : BitVec 32 := Scalar.addi v32 v31
  let v39 : BitVec 32 := Scalar.select v37 v38 v32
  let c0_i32_16 : BitVec 32 := 0#32
  let v40 : BitVec 1 := Scalar.cmpi .eq v39 c0_i32_16
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c4_i32_4 : BitVec 32 := 4#32
  let c0_i32_7 : BitVec 32 := 0#32
  let v19 : BitVec 1 := Scalar.cmpi .sgt c4_i32_4 c0_i32_7
  let v20 : BitVec 32 := Scalar.extui v19
  let c0_i32_8 : BitVec 32 := 0#32
  let v21 : BitVec 1 := Scalar.cmpi .slt c4_i32_4 c0_i32_8
  let v22 : BitVec 32 := Scalar.extui v21
  let v23 : BitVec 32 := Scalar.subi v20 v22
  let v24 : BitVec 1 := Scalar.cmpi .ne v18 v23
  let v25 : BitVec 32 := Scalar.remsi v2 c4_i32_4
  let c0_i32_9 : BitVec 32 := 0#32
  let v26 : BitVec 1 := Scalar.cmpi .ne v25 c0_i32_9
  let v27 : BitVec 1 := Scalar.andi v24 v26
  let v13 : BitVec 32 := Scalar.divsi v2 c4_i32_4
  let c1_i32_10 : BitVec 32 := 1#32
  let v28 : BitVec 32 := Scalar.subi v13 c1_i32_10
  let v29 : BitVec 32 := Scalar.select v27 v28 v13
  let c3_i32 : BitVec 32 := 3#32
  let v41 : BitVec 32 := Scalar.subi c3_i32 v29
  let v42 : BitVec 32 := Scalar.select v40 v29 v41
  let v44 : BitVec 32 := Scalar.addi v43 v42
  let c1_i32_18 : BitVec 32 := 1#32
  let v45 : BitVec 32 := Scalar.addi v44 c1_i32_18
  let c16_i32_19 : BitVec 32 := 16#32
  let c0_i32_20 : BitVec 32 := 0#32
  let v46 : BitVec 1 := Scalar.cmpi .eq c16_i32_19 c0_i32_20
  let c1_i32_21 : BitVec 32 := 1#32
  let v47 : BitVec 32 := Scalar.select v46 c1_i32_21 c16_i32_19
  let v48 : BitVec 32 := Scalar.remsi v45 v47
  let c0_i32_23 : BitVec 32 := 0#32
  let v50 : BitVec 1 := Scalar.cmpi .slt v48 c0_i32_23
  let c0_i32_24 : BitVec 32 := 0#32
  let v51 : BitVec 1 := Scalar.cmpi .slt v47 c0_i32_24
  let v52 : BitVec 1 := Scalar.xori v50 v51
  let c0_i32_22 : BitVec 32 := 0#32
  let v49 : BitVec 1 := Scalar.cmpi .ne v48 c0_i32_22
  let v53 : BitVec 1 := Scalar.andi v52 v49
  let v54 : BitVec 32 := Scalar.addi v48 v47
  let v55 : BitVec 32 := Scalar.select v53 v54 v48
  let c0_i32_26 : BitVec 32 := 0#32
  let v57 : BitVec 1 := Scalar.cmpi .sgt v55 c0_i32_26
  let v58 : BitVec 32 := Scalar.extui v57
  let c0_i32_27 : BitVec 32 := 0#32
  let v59 : BitVec 1 := Scalar.cmpi .slt v55 c0_i32_27
  let v60 : BitVec 32 := Scalar.extui v59
  let v61 : BitVec 32 := Scalar.subi v58 v60
  let c4_i32_25 : BitVec 32 := 4#32
  let c0_i32_28 : BitVec 32 := 0#32
  let v62 : BitVec 1 := Scalar.cmpi .sgt c4_i32_25 c0_i32_28
  let v63 : BitVec 32 := Scalar.extui v62
  let c0_i32_29 : BitVec 32 := 0#32
  let v64 : BitVec 1 := Scalar.cmpi .slt c4_i32_25 c0_i32_29
  let v65 : BitVec 32 := Scalar.extui v64
  let v66 : BitVec 32 := Scalar.subi v63 v65
  let v67 : BitVec 1 := Scalar.cmpi .ne v61 v66
  let v68 : BitVec 32 := Scalar.remsi v55 c4_i32_25
  let c0_i32_30 : BitVec 32 := 0#32
  let v69 : BitVec 1 := Scalar.cmpi .ne v68 c0_i32_30
  let v70 : BitVec 1 := Scalar.andi v67 v69
  let v56 : BitVec 32 := Scalar.divsi v55 c4_i32_25
  let c1_i32_31 : BitVec 32 := 1#32
  let v71 : BitVec 32 := Scalar.subi v56 c1_i32_31
  let v72 : BitVec 32 := Scalar.select v70 v71 v56
  let c2_i32_38 : BitVec 32 := 2#32
  let c0_i32_39 : BitVec 32 := 0#32
  let v83 : BitVec 1 := Scalar.cmpi .eq c2_i32_38 c0_i32_39
  let c1_i32_40 : BitVec 32 := 1#32
  let v84 : BitVec 32 := Scalar.select v83 c1_i32_40 c2_i32_38
  let v85 : BitVec 32 := Scalar.remsi v72 v84
  let c0_i32_42 : BitVec 32 := 0#32
  let v87 : BitVec 1 := Scalar.cmpi .slt v85 c0_i32_42
  let c0_i32_43 : BitVec 32 := 0#32
  let v88 : BitVec 1 := Scalar.cmpi .slt v84 c0_i32_43
  let v89 : BitVec 1 := Scalar.xori v87 v88
  let c0_i32_41 : BitVec 32 := 0#32
  let v86 : BitVec 1 := Scalar.cmpi .ne v85 c0_i32_41
  let v90 : BitVec 1 := Scalar.andi v89 v86
  let v91 : BitVec 32 := Scalar.addi v85 v84
  let v92 : BitVec 32 := Scalar.select v90 v91 v85
  let c0_i32_44 : BitVec 32 := 0#32
  let v93 : BitVec 1 := Scalar.cmpi .eq v92 c0_i32_44
  let c4_i32_32 : BitVec 32 := 4#32
  let c0_i32_33 : BitVec 32 := 0#32
  let v73 : BitVec 1 := Scalar.cmpi .eq c4_i32_32 c0_i32_33
  let c1_i32_34 : BitVec 32 := 1#32
  let v74 : BitVec 32 := Scalar.select v73 c1_i32_34 c4_i32_32
  let v75 : BitVec 32 := Scalar.remsi v55 v74
  let c0_i32_36 : BitVec 32 := 0#32
  let v77 : BitVec 1 := Scalar.cmpi .slt v75 c0_i32_36
  let c0_i32_37 : BitVec 32 := 0#32
  let v78 : BitVec 1 := Scalar.cmpi .slt v74 c0_i32_37
  let v79 : BitVec 1 := Scalar.xori v77 v78
  let c0_i32_35 : BitVec 32 := 0#32
  let v76 : BitVec 1 := Scalar.cmpi .ne v75 c0_i32_35
  let v80 : BitVec 1 := Scalar.andi v79 v76
  let v81 : BitVec 32 := Scalar.addi v75 v74
  let v82 : BitVec 32 := Scalar.select v80 v81 v75
  let c3_i32_45 : BitVec 32 := 3#32
  let v94 : BitVec 32 := Scalar.subi c3_i32_45 v82
  let v95 : BitVec 32 := Scalar.select v93 v82 v94
  let v96 : BitVec 32 := Scalar.muli c4_i32_46 v95
  let v97 : BitVec 32 := Scalar.addi v96 v72
  let c1_i32_4322 : BitVec 32 := 1#32
  let v5755 : BitVec 32 := Scalar.muli v97 c1_i32_4322
  let v5756 : BitVec 32 := Scalar.addi c0_i32_4323 v5755
  v5756.toNat
def k0_dev118 (d0 : Dev nD) : Nat :=
  let c0_i32_4335 : BitVec 32 := 0#32
  let c4_i32_75 : BitVec 32 := 4#32
  let c4_i32_17 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let v43 : BitVec 32 := Scalar.muli c4_i32_17 v12
  let c2_i32 : BitVec 32 := 2#32
  let c0_i32_11 : BitVec 32 := 0#32
  let v30 : BitVec 1 := Scalar.cmpi .eq c2_i32 c0_i32_11
  let c1_i32_12 : BitVec 32 := 1#32
  let v31 : BitVec 32 := Scalar.select v30 c1_i32_12 c2_i32
  let v32 : BitVec 32 := Scalar.remsi v12 v31
  let c0_i32_14 : BitVec 32 := 0#32
  let v34 : BitVec 1 := Scalar.cmpi .slt v32 c0_i32_14
  let c0_i32_15 : BitVec 32 := 0#32
  let v35 : BitVec 1 := Scalar.cmpi .slt v31 c0_i32_15
  let v36 : BitVec 1 := Scalar.xori v34 v35
  let c0_i32_13 : BitVec 32 := 0#32
  let v33 : BitVec 1 := Scalar.cmpi .ne v32 c0_i32_13
  let v37 : BitVec 1 := Scalar.andi v36 v33
  let v38 : BitVec 32 := Scalar.addi v32 v31
  let v39 : BitVec 32 := Scalar.select v37 v38 v32
  let c0_i32_16 : BitVec 32 := 0#32
  let v40 : BitVec 1 := Scalar.cmpi .eq v39 c0_i32_16
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c4_i32_4 : BitVec 32 := 4#32
  let c0_i32_7 : BitVec 32 := 0#32
  let v19 : BitVec 1 := Scalar.cmpi .sgt c4_i32_4 c0_i32_7
  let v20 : BitVec 32 := Scalar.extui v19
  let c0_i32_8 : BitVec 32 := 0#32
  let v21 : BitVec 1 := Scalar.cmpi .slt c4_i32_4 c0_i32_8
  let v22 : BitVec 32 := Scalar.extui v21
  let v23 : BitVec 32 := Scalar.subi v20 v22
  let v24 : BitVec 1 := Scalar.cmpi .ne v18 v23
  let v25 : BitVec 32 := Scalar.remsi v2 c4_i32_4
  let c0_i32_9 : BitVec 32 := 0#32
  let v26 : BitVec 1 := Scalar.cmpi .ne v25 c0_i32_9
  let v27 : BitVec 1 := Scalar.andi v24 v26
  let v13 : BitVec 32 := Scalar.divsi v2 c4_i32_4
  let c1_i32_10 : BitVec 32 := 1#32
  let v28 : BitVec 32 := Scalar.subi v13 c1_i32_10
  let v29 : BitVec 32 := Scalar.select v27 v28 v13
  let c3_i32 : BitVec 32 := 3#32
  let v41 : BitVec 32 := Scalar.subi c3_i32 v29
  let v42 : BitVec 32 := Scalar.select v40 v29 v41
  let v44 : BitVec 32 := Scalar.addi v43 v42
  let c1_i32_47 : BitVec 32 := 1#32
  let v98 : BitVec 32 := Scalar.subi v44 c1_i32_47
  let c16_i32_48 : BitVec 32 := 16#32
  let c0_i32_49 : BitVec 32 := 0#32
  let v99 : BitVec 1 := Scalar.cmpi .eq c16_i32_48 c0_i32_49
  let c1_i32_50 : BitVec 32 := 1#32
  let v100 : BitVec 32 := Scalar.select v99 c1_i32_50 c16_i32_48
  let v101 : BitVec 32 := Scalar.remsi v98 v100
  let c0_i32_52 : BitVec 32 := 0#32
  let v103 : BitVec 1 := Scalar.cmpi .slt v101 c0_i32_52
  let c0_i32_53 : BitVec 32 := 0#32
  let v104 : BitVec 1 := Scalar.cmpi .slt v100 c0_i32_53
  let v105 : BitVec 1 := Scalar.xori v103 v104
  let c0_i32_51 : BitVec 32 := 0#32
  let v102 : BitVec 1 := Scalar.cmpi .ne v101 c0_i32_51
  let v106 : BitVec 1 := Scalar.andi v105 v102
  let v107 : BitVec 32 := Scalar.addi v101 v100
  let v108 : BitVec 32 := Scalar.select v106 v107 v101
  let c0_i32_55 : BitVec 32 := 0#32
  let v110 : BitVec 1 := Scalar.cmpi .sgt v108 c0_i32_55
  let v111 : BitVec 32 := Scalar.extui v110
  let c0_i32_56 : BitVec 32 := 0#32
  let v112 : BitVec 1 := Scalar.cmpi .slt v108 c0_i32_56
  let v113 : BitVec 32 := Scalar.extui v112
  let v114 : BitVec 32 := Scalar.subi v111 v113
  let c4_i32_54 : BitVec 32 := 4#32
  let c0_i32_57 : BitVec 32 := 0#32
  let v115 : BitVec 1 := Scalar.cmpi .sgt c4_i32_54 c0_i32_57
  let v116 : BitVec 32 := Scalar.extui v115
  let c0_i32_58 : BitVec 32 := 0#32
  let v117 : BitVec 1 := Scalar.cmpi .slt c4_i32_54 c0_i32_58
  let v118 : BitVec 32 := Scalar.extui v117
  let v119 : BitVec 32 := Scalar.subi v116 v118
  let v120 : BitVec 1 := Scalar.cmpi .ne v114 v119
  let v121 : BitVec 32 := Scalar.remsi v108 c4_i32_54
  let c0_i32_59 : BitVec 32 := 0#32
  let v122 : BitVec 1 := Scalar.cmpi .ne v121 c0_i32_59
  let v123 : BitVec 1 := Scalar.andi v120 v122
  let v109 : BitVec 32 := Scalar.divsi v108 c4_i32_54
  let c1_i32_60 : BitVec 32 := 1#32
  let v124 : BitVec 32 := Scalar.subi v109 c1_i32_60
  let v125 : BitVec 32 := Scalar.select v123 v124 v109
  let c2_i32_67 : BitVec 32 := 2#32
  let c0_i32_68 : BitVec 32 := 0#32
  let v136 : BitVec 1 := Scalar.cmpi .eq c2_i32_67 c0_i32_68
  let c1_i32_69 : BitVec 32 := 1#32
  let v137 : BitVec 32 := Scalar.select v136 c1_i32_69 c2_i32_67
  let v138 : BitVec 32 := Scalar.remsi v125 v137
  let c0_i32_71 : BitVec 32 := 0#32
  let v140 : BitVec 1 := Scalar.cmpi .slt v138 c0_i32_71
  let c0_i32_72 : BitVec 32 := 0#32
  let v141 : BitVec 1 := Scalar.cmpi .slt v137 c0_i32_72
  let v142 : BitVec 1 := Scalar.xori v140 v141
  let c0_i32_70 : BitVec 32 := 0#32
  let v139 : BitVec 1 := Scalar.cmpi .ne v138 c0_i32_70
  let v143 : BitVec 1 := Scalar.andi v142 v139
  let v144 : BitVec 32 := Scalar.addi v138 v137
  let v145 : BitVec 32 := Scalar.select v143 v144 v138
  let c0_i32_73 : BitVec 32 := 0#32
  let v146 : BitVec 1 := Scalar.cmpi .eq v145 c0_i32_73
  let c4_i32_61 : BitVec 32 := 4#32
  let c0_i32_62 : BitVec 32 := 0#32
  let v126 : BitVec 1 := Scalar.cmpi .eq c4_i32_61 c0_i32_62
  let c1_i32_63 : BitVec 32 := 1#32
  let v127 : BitVec 32 := Scalar.select v126 c1_i32_63 c4_i32_61
  let v128 : BitVec 32 := Scalar.remsi v108 v127
  let c0_i32_65 : BitVec 32 := 0#32
  let v130 : BitVec 1 := Scalar.cmpi .slt v128 c0_i32_65
  let c0_i32_66 : BitVec 32 := 0#32
  let v131 : BitVec 1 := Scalar.cmpi .slt v127 c0_i32_66
  let v132 : BitVec 1 := Scalar.xori v130 v131
  let c0_i32_64 : BitVec 32 := 0#32
  let v129 : BitVec 1 := Scalar.cmpi .ne v128 c0_i32_64
  let v133 : BitVec 1 := Scalar.andi v132 v129
  let v134 : BitVec 32 := Scalar.addi v128 v127
  let v135 : BitVec 32 := Scalar.select v133 v134 v128
  let c3_i32_74 : BitVec 32 := 3#32
  let v147 : BitVec 32 := Scalar.subi c3_i32_74 v135
  let v148 : BitVec 32 := Scalar.select v146 v135 v147
  let v149 : BitVec 32 := Scalar.muli c4_i32_75 v148
  let v150 : BitVec 32 := Scalar.addi v149 v125
  let c1_i32_4334 : BitVec 32 := 1#32
  let v5765 : BitVec 32 := Scalar.muli v150 c1_i32_4334
  let v5766 : BitVec 32 := Scalar.addi c0_i32_4335 v5765
  v5766.toNat
abbrev stage0_0 : Fin 1 → Memref sig .tc .vmem S4096x256 .fp8e5m2 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S256x8192 .fp8e5m2 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .smem S1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .smem S1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S256x8192 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
-- ==== ReferenceIdeal.lean ====
abbrev S4096x4096 : Shape := ⟨2, ![4096, 4096]⟩
abbrev S4096x8192 : Shape := ⟨2, ![4096, 8192]⟩
abbrev S1 : Shape := ⟨1, ![1]⟩

abbrev nBuf : Space → Nat
  | .hbm => 5
  | .vmem => 3
  | .smem => 2
  | _ => 0

abbrev bufTy : (tb : Table) → Fin (tcTables nBuf tb) → BufTy
  | .hbm, ⟨0, _⟩ => ⟨S4096x4096, .fp8e5m2⟩
  | .hbm, ⟨1, _⟩ => ⟨S4096x8192, .fp8e5m2⟩
  | .hbm, ⟨2, _⟩ => ⟨S1, .f32⟩
  | .hbm, ⟨3, _⟩ => ⟨S1, .f32⟩
  | .hbm, ⟨4, _⟩ => ⟨S4096x8192, .f32⟩
  | .local _ .vmem, ⟨0, _⟩ => ⟨S4096x4096, .fp8e5m2⟩
  | .local _ .vmem, ⟨1, _⟩ => ⟨S4096x8192, .fp8e5m2⟩
  | .local _ .vmem, ⟨2, _⟩ => ⟨S4096x8192, .f32⟩
  | .local _ .smem, ⟨0, _⟩ => ⟨S1, .f32⟩
  | .local _ .smem, ⟨1, _⟩ => ⟨S1, .f32⟩
  | _, _ => ⟨S4096x4096, .fp8e5m2⟩

abbrev bufScoped : (cs : CoreSpace) → Fin (nBuf (.core cs)) → Bool
  | .vmem, ⟨0, _⟩ => true
  | .vmem, ⟨1, _⟩ => true
  | .vmem, ⟨2, _⟩ => true
  | .smem, ⟨0, _⟩ => true
  | .smem, ⟨1, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg4_0 : Ref sig .tc := ⟨.vmem, 2, rfl⟩
abbrev cc0_stg2_0 : Ref sig .tc := ⟨.smem, 0, rfl⟩
abbrev cc0_stg3_0 : Ref sig .tc := ⟨.smem, 1, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4

abbrev nD : Nat := 1
abbrev τ : Topo := Topo.v7x

variable {F : FTy → Type} [FloatOps F]

abbrev grid0 : Pipeline.Grid := .none

abbrev stage0_0 : Fin 1 → Memref sig .tc .vmem S4096x4096 .fp8e5m2 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S4096x8192 .fp8e5m2 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .smem S1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .smem S1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S4096x8192 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
-- ==== Proof.Protocol.lean ====
/-
# The protocol of the four rings

Sixteen devices stand on one cycle (`nxt`, `prv`). Four copies of the same ring reduction run side by side, each on a
quarter of the columns: rings 0 and 1 pass their blocks to `nxt`, rings 2 and 3 to `prv`. A ring has a buffer of two
slots on each device and takes fifteen steps. At step `s` a device sends slot `s % 2` into slot `(s + 1) % 2` of the
device after it on that ring (`dst`), waits until its own send has left and until the block of the device before it
(`src`) has arrived in its own slot `(s + 1) % 2`, tells `src` that slot `s % 2` is free again (the credit), and adds
its own product to what arrived.

This module states the protocol in the rounds library's terms: the semaphore cells, the schedule of their rounds with
the contents each payment hands over, and what every device owes, ordered by its program.
-/
module

public import proofs.«01_k».proof.KernelIdeal
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import Idealize.ShloMosaic.Lib.Pipeline.Launch
public import Idealize.ShloMosaic.Lib.Pipeline.Kit
public import Idealize.ShloMosaic.Lib.Rounds
public import Idealize.ShloMosaic.Lib.ViewIndex
public import Idealize.ShloMosaic.Lib.Tactic

@[expose] public section

noncomputable section

namespace Cert.KernelIdeal.Rings

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- The part of the ghost state that holds the cells' rounds. -/
abbrev UB : Type := URounds (GSem nD τ sig) Bool
/-- The ghost state of the proof. -/
abbrev UU : Type := UR sig nD τ × UB

local notation "𝕄" => MT nD τ sig ℕ (Elt F) ℕ UU ℕ

/-- Where the pipeline's own ghost state lies in it. -/
abbrev EP : Emb (UR sig nD τ) (MT nD τ sig ℕ (Elt F) ℕ UU ℕ) := embL
/-- Where the rounds' ghost state lies in it. -/
abbrev ER : Emb UB (MT nD τ sig ℕ (Elt F) ℕ UU ℕ) := embR

/-- The body has no loop that needs a variant. -/
abbrev 𝒱₀ : Variants := Variants.none

variable (m : (ℓ : Loc nD τ sig) → Buf (Elt F) ℓ) (ρ : Dev nD → PrngReg)

/-- The memory at launch: arbitrary contents, every semaphore counter zero, arbitrary generator registers. -/
def s₀ : MemSt nD τ sig (Elt F) := ⟨m, fun _ => 0, ρ⟩

/-! ## The cycle -/

/-- The device after `c` on the cycle through the four-by-four mesh. -/
def nxt (c : Dev nD) : Dev nD := (![4, 2, 6, 0, 8, 1, 10, 3, 12, 5, 14, 7, 13, 9, 15, 11] : Fin 16 → Fin 16) c
/-- The device before `c`. -/
def prv (c : Dev nD) : Dev nD := (![3, 5, 1, 7, 0, 9, 2, 11, 4, 13, 6, 15, 8, 12, 10, 14] : Fin 16 → Fin 16) c

/-- The device before the next one is the device itself; -/
theorem prv_nxt (c : Dev nD) : prv (nxt c) = c := by revert c; decide
/-- and the next after the one before. -/
theorem nxt_prv (c : Dev nD) : nxt (prv c) = c := by revert c; decide

/-- The cycle as a permutation of the devices. -/
def cyc : Dev nD ≃ Dev nD := ⟨nxt, prv, prv_nxt, nxt_prv⟩

/-- The permutation "the device ring `i` sends to". -/
def dstE (i : Fin 4) : Dev nD ≃ Dev nD := if i.val < 2 then cyc else cyc.symm
/-- The device that device `c` sends to on ring `i`. -/
def dst (i : Fin 4) (c : Dev nD) : Dev nD := dstE i c
/-- The device that device `c` receives from on ring `i`. -/
def src (i : Fin 4) (c : Dev nD) : Dev nD := (dstE i).symm c

/-- A ring's destination receives from its source, -/
theorem src_dst (i : Fin 4) (c : Dev nD) : src i (dst i c) = c := (dstE i).symm_apply_apply c
/-- and a source sends to its destination. -/
theorem dst_src (i : Fin 4) (c : Dev nD) : dst i (src i c) = c := (dstE i).apply_symm_apply c
/-- Rings 0 and 1 send to the next device, -/
theorem dst_low {i : Fin 4} (h : i.val < 2) (c : Dev nD) : dst i c = nxt c := by unfold dst dstE; rw [if_pos h]; rfl
/-- rings 2 and 3 to the one before. -/
theorem dst_high {i : Fin 4} (h : ¬ i.val < 2) (c : Dev nD) : dst i c = prv c := by unfold dst dstE; rw [if_neg h]; rfl

/-! ## Buffers, slots and cells -/

/-- The staged columns of `x`, -/
abbrev xM : Memref sig .tc .vmem S4096x256 .fp8e5m2 := Memref.whole cc0_stg0_0
/-- rows of `w`, -/
abbrev wM : Memref sig .tc .vmem S256x8192 .fp8e5m2 := Memref.whole cc0_stg1_0
/-- scale of `x`, -/
abbrev aM : Memref sig .tc .smem S1 .f32 := Memref.whole cc0_stg2_0
/-- scale of `w`, -/
abbrev bM : Memref sig .tc .smem S1 .f32 := Memref.whole cc0_stg3_0
/-- and the result's buffer. -/
abbrev oM : Memref sig .tc .vmem S256x8192 .f32 := Memref.whole cc0_stg4_0

/-- Ring `i`'s two-slot buffer. -/
def comm (i : Fin 4) : Memref sig .tc .vmem S2x256x2048 .bf16 :=
  match i with
  | 0 => Memref.whole cc0_scratch0 | 1 => Memref.whole cc0_scratch1 | 2 => Memref.whole cc0_scratch2 | 3 => Memref.whole cc0_scratch3

/-- A slot lies inside its ring's buffer. -/
theorem slot_inb (k : Fin 2) : ∀ a, (![k.val, 0, 0] : Fin 3 → ℕ) a + S1x256x2048.size a ≤ S2x256x2048.size a := by
  revert k; decide
/-- The rectangle of slot `k`. -/
def slotR (k : Fin 2) : Rect S2x256x2048 := Rect.unit (s := S2x256x2048) ![k.val, 0, 0] S1x256x2048.size (slot_inb k)
/-- Slot `k` of ring `i`'s buffer, as a transfer names it. -/
def slotM (i : Fin 4) (k : Fin 2) : Memref sig .tc .vmem S256x2048 .bf16 :=
  ((comm i).slice (slotR k) (fun _ => rfl)).squeeze S256x2048 squeezes_S1x256x2048_S256x2048

/-- A ring's two semaphores for copies sent, -/
def sendA (i : Fin 4) : DmaSems sig S2 :=
  match i with | 0 => cc0_scratch4 | 1 => cc0_scratch5 | 2 => cc0_scratch6 | 3 => cc0_scratch7
/-- its two for copies that arrive, -/
def recvA (i : Fin 4) : DmaSems sig S2 :=
  match i with | 0 => cc0_scratch8 | 1 => cc0_scratch9 | 2 => cc0_scratch10 | 3 => cc0_scratch11
/-- and the one that counts its credits. -/
def credS (i : Fin 4) : Sem sig :=
  match i with
  | 0 => (cc0_scratch12 : Sems sig S_).sem | 1 => (cc0_scratch13 : Sems sig S_).sem
  | 2 => (cc0_scratch14 : Sems sig S_).sem | 3 => (cc0_scratch15 : Sems sig S_).sem
/-- Each index names one of the two semaphores. -/
theorem sem_inb (k : Fin 2) : ∀ a, (![k.val] : Fin 1 → ℕ) a + S1.size a ≤ S2.size a := by
  revert k; decide
/-- The semaphore of slot `k` in an array of two. -/
def semAt (a : DmaSems sig S2) (k : Fin 2) : DmaSem sig :=
  ((a.slice (Rect.unit (s := S2) ![k.val] S1.size (sem_inb k))).squeeze S_ squeezes_S1_S_).sem

/-- The runtime's barrier semaphore. -/
abbrev barS : Sem sig := (SemArray.scalar (sig.barrier 0 rfl) : Sems sig S_).sem

/-- The slot in use at step `s`. -/
def sl (s : ℕ) : Fin 2 := ⟨s % 2, Nat.mod_lt _ (by decide)⟩
/-- Slots alternate. -/
theorem sl_add_two (s : ℕ) : sl (s + 2) = sl s := Fin.ext (Nat.add_mod_right s 2)

/-- The cells of a device: the barrier, and for each ring the two send cells, the two receive cells and the credit. -/
abbrev Key : Type := Option (Fin 4 × Fin 5)

/-- The semaphore of a key. -/
def csem (κ : Key) : SemLoc sig :=
  match κ with
  | none => .reg barS
  | some (i, 0) => .dma (semAt (sendA i) 0)
  | some (i, 1) => .dma (semAt (sendA i) 1)
  | some (i, 2) => .dma (semAt (recvA i) 0)
  | some (i, 3) => .dma (semAt (recvA i) 1)
  | some (i, 4) => .reg (credS i)

/-- Which cell a semaphore is, if it is one of the protocol's. -/
def keyOf (sm : SemLoc sig) : Option Key :=
  ((none :: (List.finRange 4).flatMap fun i => (List.finRange 5).map fun j => some (i, j)) : List Key).find? fun κ => decide (csem κ = sm)

set_option maxRecDepth 8000 in
/-- A key is read back from its semaphore, -/
theorem keyOf_csem (κ : Key) : keyOf (csem κ) = some κ := by revert κ; decide +kernel
/-- so different keys have different semaphores. -/
theorem csem_injective : Function.Injective csem := fun κ κ' h => by
  have := keyOf_csem κ; rw [h, keyOf_csem] at this; exact (Option.some.inj this).symm
set_option maxRecDepth 8000 in
/-- The semaphores of the staging copies have no key. -/
theorem keyOf_stage (q : DmaSem sig) (hq : q.val < 5) : keyOf (.dma q) = none := by
  revert q; decide +kernel

/-- The semaphore of a key on device `c`. -/
abbrev kcell (c : Dev nD) (κ : Key) : GSem nD τ sig := ((c : Thread nD τ), csem κ)
/-- The key of ring `i`'s send cell for slot `k`, its receive cell for slot `k`, its credit cell. -/
def kSend (i : Fin 4) (k : Fin 2) : Key := some (i, if k = 0 then 0 else 1)
/-- The key of ring `i`'s arrivals in slot `k`, -/
def kRecv (i : Fin 4) (k : Fin 2) : Key := some (i, if k = 0 then 2 else 3)
/-- and of ring `i`'s credits. -/
def kCred (i : Fin 4) : Key := some (i, 4)
/-- The semaphores behind the keys: of what a slot sends, -/
theorem csem_send (i : Fin 4) (k : Fin 2) : csem (kSend i k) = .dma (semAt (sendA i) k) := by fin_cases k <;> rfl
/-- of what arrives in it, -/
theorem csem_recv (i : Fin 4) (k : Fin 2) : csem (kRecv i k) = .dma (semAt (recvA i) k) := by fin_cases k <;> rfl
/-- of the credits, -/
theorem csem_cred (i : Fin 4) : csem (kCred i) = .reg (credS i) := rfl
/-- and of the entry barrier. -/
theorem csem_bar : csem none = .reg barS := rfl

/-- The credit of one slot's transfer. -/
def N : ℕ := (slotM 0 0).view.dmaCredit
/-- A copied block is not empty. -/
theorem N_pos : 0 < N := View.dmaCredit_pos _ (by decide)
/-- Every slot's copy counts the same amount. -/
theorem amount_slot (i : Fin 4) (k : Fin 2) (q : DmaSem sig) : (slotM i k).view.amount (.dma q) = N := by
  fin_cases i <;> fin_cases k <;> rfl

/-! ## Contents -/

/-- Device `c`'s columns of `x`, its rows of `w` and the two scales, as the body finds them staged. -/
def xstg (c : Dev nD) : (cc0_stg0_0 : Ref sig .tc).ty.Contents (Elt F) :=
  (win0_0.blk (0 : Fin 1)).view.read (Elt F) (m ((c : Thread nD τ).loc main_arg0))
/-- The rows of `w`, as the body finds them staged. -/
def wstg (c : Dev nD) : (cc0_stg1_0 : Ref sig .tc).ty.Contents (Elt F) :=
  (win0_1.blk (0 : Fin 1)).view.read (Elt F) (m ((c : Thread nD τ).loc main_arg1))
/-- The scale of `x`, as the body finds it staged. -/
def astg (c : Dev nD) : (cc0_stg2_0 : Ref sig .tc).ty.Contents (Elt F) :=
  (win0_2.blk (0 : Fin 1)).view.read (Elt F) (m ((c : Thread nD τ).loc main_arg2))
/-- The scale of `w`, as the body finds it staged. -/
def bstg (c : Dev nD) : (cc0_stg3_0 : Ref sig .tc).ty.Contents (Elt F) :=
  (win0_3.blk (0 : Fin 1)).view.read (Elt F) (m ((c : Thread nD τ).loc main_arg3))

/-- The row block of the result that device `c` works on at stage `t` of ring `i`: stage 0 is the block sent first, stage
    15 the device's own. -/
def chunk (i : Fin 4) (c : Dev nD) (t : ℕ) : Dev nD := (src i)^[t + 1] c

/-- A block of rows lies inside `x`. -/
theorem rows_inb (b : Dev nD) : ∀ a, (![256 * b.val, 0] : Fin 2 → ℕ) a + S256x256.size a ≤ S4096x256.size a := by
  revert b; decide
/-- The rows of block `b` in a device's columns of `x`. -/
def rowsR (b : Dev nD) : Rect S4096x256 := Rect.unit (s := S4096x256) ![256 * b.val, 0] S256x256.size (rows_inb b)
/-- Those rows of device `c`'s columns. -/
def xrows (c : Dev nD) (b : Dev nD) : Vec F S256x256 .fp8e5m2 := xM.view.readAt (Elt F) (rowsR b).toLoadRect (xstg m c)

/-- Ring `i`'s product of a row block with the device's rows of `w`. -/
def prod (i : Fin 4) (wb : FVec F S256x8192 .bf16) (xr : Vec F S256x256 .fp8e5m2) : FVec F S256x2048 .f32 :=
  match i with
  | 0 => k0_pay7 wb xr
  | 1 => k0_pay8 wb xr
  | 2 => k0_pay11 (k0_pay9 xr) (k0_pay10 wb) (constant S256x2048 .f32 0x00000000#32)
  | 3 => k0_pay12 wb xr
/-- The first block a device sends on ring `i`. -/
def initial (i : Fin 4) (wb : FVec F S256x8192 .bf16) (xr : Vec F S256x256 .fp8e5m2) : FVec F S1x256x2048 .bf16 :=
  match i with | 0 => k0_pay3 wb xr | 1 => k0_pay4 wb xr | 2 => k0_pay5 wb xr | 3 => k0_pay6 wb xr

/-- The block device `c` sends at step `s` of ring `i`: the first, then the arrived one plus the device's product. -/
def blk (i : Fin 4) (c : Dev nD) : ℕ → FVec F S1x256x2048 .bf16
  | 0 => initial i (k0_pay2 (wstg m c)) (xrows m c (chunk i c 0))
  | s + 1 => k0_pay13 (prod i (k0_pay2 (wstg m c)) (xrows m c (chunk i c (s + 1)))) (blk i (src i c) s)

/-- The one element of a scale. -/
def ascale (c : Dev nD) : Elt F .f32 :=
  (aM.access (Rect.unit (s := S1) ![0] S1.size inb_S1_S1_0)).read (Elt F) (astg m c) (Shape.Idx.first (by decide))
/-- The one element of the scale of `w`. -/
def bscale (c : Dev nD) : Elt F .f32 :=
  (bM.access (Rect.unit (s := S1) ![0] S1.size inb_S1_S1_0)).read (Elt F) (bstg m c) (Shape.Idx.first (by decide))

/-- Device `c`'s result on ring `i`'s columns. -/
def piece (i : Fin 4) (c : Dev nD) : FVec F S256x2048 .f32 :=
  k0_pay1 (prod i (k0_pay2 (wstg m c)) (xrows m c (chunk i c 15))) (blk m i (src i c) 14) (ascale m c) (bscale m c)

/-- A ring's columns lie inside the result. -/
theorem cols_inb (i : Fin 4) : ∀ a, (![0, 2048 * i.val] : Fin 2 → ℕ) a + S256x2048.size a ≤ S256x8192.size a := by
  revert i; decide
/-- Ring `i`'s columns of the result. -/
def colsR (i : Fin 4) : Rect S256x8192 := Rect.unit (s := S256x8192) ![0, 2048 * i.val] S256x2048.size (cols_inb i)
/-- The result buffer with ring `i`'s columns written. -/
def putCols (i : Fin 4) (c : Dev nD) (f : (cc0_stg4_0 : Ref sig .tc).ty.Contents (Elt F)) : (cc0_stg4_0 : Ref sig .tc).ty.Contents (Elt F) :=
  (oM.access (colsR i)).write (Elt F) f (piece m i c) Finset.univ
/-- The result buffer after the four stores, in the order the body makes them. -/
def outOf (c : Dev nD) (f : (cc0_stg4_0 : Ref sig .tc).ty.Contents (Elt F)) : (cc0_stg4_0 : Ref sig .tc).ty.Contents (Elt F) :=
  putCols m 3 c (putCols m 1 c (putCols m 2 c (putCols m 0 c f)))

/-! ## What is held of a slot -/

section Own
variable {sp : Space} {s s' : Shape} {e : EltTy}

/-- A part of a memref on device `c`, holding `V`. -/
def own (M : Memref sig .tc sp s e) (r : Rect s) (c : Dev nD) (V : r.shape.Idx → Elt F e) : sProp 𝕄 :=
  iprop(∃ f : Buf (Elt F) ((M.access r).loc (c : Thread nD τ)),
    ⌜(M.access r).read (Elt F) f = V⌝ ∗ ((M.access r).loc (c : Thread nD τ) ↦[(M.access r).set]{fullShare} f))
/-- A part of a memref on device `c`, at some contents. -/
def ownAny (M : Memref sig .tc sp s e) (r : Rect s) (c : Dev nD) : sProp 𝕄 :=
  iprop(∃ f : Buf (Elt F) ((M.access r).loc (c : Thread nD τ)), ((M.access r).loc (c : Thread nD τ) ↦[(M.access r).set]{fullShare} f))

omit [FloatOps F] in
/-- Holding a piece of a buffer at known contents is holding it at some contents. -/
theorem own_any (M : Memref sig .tc sp s e) (r : Rect s) (c : Dev nD) (V : r.shape.Idx → Elt F e) :
    (own M r c V : sProp 𝕄) ⊢ ownAny M r c := by
  unfold own ownAny
  iintro ⟨%f, -, H⟩
  iexists f; iexact H
omit [FloatOps F] in
/-- A held piece may be put into an invariant, -/
instance own_storable (M : Memref sig .tc sp s e) (r : Rect s) (c : Dev nD) (V : r.shape.Idx → Elt F e) :
    BI.Storable (upEmb : UEmb _ 𝕄) (own M r c V) := by unfold own; infer_instance
omit [FloatOps F] in
/-- at known or unknown contents. -/
instance ownAny_storable (M : Memref sig .tc sp s e) (r : Rect s) (c : Dev nD) :
    BI.Storable (upEmb : UEmb _ 𝕄) (ownAny (F := F) M r c) := by unfold ownAny; infer_instance
end Own

/-- Slot `k` of ring `i` on device `c`, holding `V`. -/
def slotOwn (c : Dev nD) (i : Fin 4) (k : Fin 2) (V : FVec F S1x256x2048 .bf16) : sProp 𝕄 := own (comm i) (slotR k) c V
/-- Slot `k` of ring `i` on device `c`, at some contents. -/
def slotAny (c : Dev nD) (i : Fin 4) (k : Fin 2) : sProp 𝕄 := ownAny (F := F) (comm i) (slotR k) c

omit [FloatOps F] in
/-- The same of a slot. -/
theorem slotOwn_any (c : Dev nD) (i : Fin 4) (k : Fin 2) (V : FVec F S1x256x2048 .bf16) : (slotOwn c i k V : sProp 𝕄) ⊢ slotAny c i k :=
  own_any (comm i) (slotR k) c V
omit [FloatOps F] in
/-- A held slot may be put into an invariant, -/
instance slotOwn_storable (c : Dev nD) (i : Fin 4) (k : Fin 2) (V : FVec F S1x256x2048 .bf16) :
    BI.Storable (upEmb : UEmb _ 𝕄) (slotOwn (F := F) c i k V) := own_storable (comm i) (slotR k) c V
omit [FloatOps F] in
/-- at known or unknown contents. -/
instance slotAny_storable (c : Dev nD) (i : Fin 4) (k : Fin 2) : BI.Storable (upEmb : UEmb _ 𝕄) (slotAny (F := F) c i k) :=
  ownAny_storable (comm i) (slotR k) c

/-! ## The schedule -/

/-- What the barrier signal of a neighbour hands `c` for ring `i`: the slot the first transfer goes to, and that its
    receive cell is at round 0. -/
def barPay1 (i : Fin 4) (c : Dev nD) : sProp 𝕄 := iprop(slotAny (dst i c) i 1 ∗ reached ER (kcell (dst i c) (kRecv i 1)) 0)
/-- The barrier signal of `nxt c` (`true`) hands over rings 0 and 1, that of `prv c` (`false`) rings 2 and 3. -/
def barPay (c : Dev nD) (d : Bool) : sProp 𝕄 :=
  if d then iprop(barPay1 0 c ∗ barPay1 1 c) else iprop(barPay1 2 c ∗ barPay1 3 c)
/-- A landed transfer of step `s`: the slot with the block of `src`, and that `src` has consumed `s` credits. -/
def recvPay (i : Fin 4) (c : Dev nD) (s : ℕ) : sProp 𝕄 :=
  iprop(slotOwn c i (sl (s + 1)) (blk m i (src i c) s) ∗ reached ER (kcell (src i c) (kCred i)) s)
/-- The credit of step `s`: the slot of `dst` that step `s + 1` sends to, and the round its receive cell is at. -/
def credPay (i : Fin 4) (c : Dev nD) (s : ℕ) : sProp 𝕄 :=
  iprop(slotAny (dst i c) i (sl s) ∗ reached ER (kcell (dst i c) (kRecv i (sl s))) ((s + 1) / 2))

/-- The duties of a cell at round `r`: slot 0 is sent from at the eight even steps and received into at the seven odd ones. -/
def dut (κ : Key) (r : ℕ) : Finset Bool :=
  match κ with
  | none => if r = 0 then Finset.univ else ∅
  | some (_, 0) => if r < 8 then {true} else ∅
  | some (_, 1) => if r < 7 then {true} else ∅
  | some (_, 2) => if r < 7 then {true} else ∅
  | some (_, 3) => if r < 8 then {true} else ∅
  | some (_, 4) => if r < 14 then {true} else ∅
/-- How much one payment into a key's semaphore is. -/
def amt (κ : Key) : ℕ :=
  match κ with
  | none => 1
  | some (_, 4) => 1
  | some (_, 0) => N | some (_, 1) => N | some (_, 2) => N | some (_, 3) => N
/-- What a payment into a key's semaphore on device `c` hands over, by round and payer. -/
def pay (κ : Key) (c : Dev nD) (r : ℕ) (d : Bool) : sProp 𝕄 :=
  match κ with
  | none => barPay c d
  | some (i, 0) => slotAny c i 0
  | some (i, 1) => slotAny c i 1
  | some (i, 2) => recvPay m i c (2 * r + 1)
  | some (i, 3) => recvPay m i c (2 * r)
  | some (i, 4) => credPay i c r

/-- A payment is not nothing. -/
theorem amt_pos (κ : Key) : 0 < amt κ := by
  rcases κ with _ | ⟨i, j⟩
  · exact Nat.one_pos
  · fin_cases j <;> first | exact N_pos | exact Nat.one_pos

/-- What a payment hands over may be put into an invariant, -/
instance pay_storable (κ : Key) (c : Dev nD) (r : ℕ) (d : Bool) : BI.Storable (upEmb : UEmb _ 𝕄) (pay (F := F) m κ c r d) := by
  rcases κ with _ | ⟨i, j⟩
  · show BI.Storable upEmb (barPay c d)
    unfold barPay barPay1; split <;> infer_instance
  · fin_cases j
    · show BI.Storable upEmb (slotAny c i 0); infer_instance
    · show BI.Storable upEmb (slotAny c i 1); infer_instance
    · show BI.Storable upEmb (recvPay m i c (2 * r + 1)); unfold recvPay; infer_instance
    · show BI.Storable upEmb (recvPay m i c (2 * r)); unfold recvPay; infer_instance
    · show BI.Storable upEmb (credPay i c r); unfold credPay; infer_instance

/-- The schedule of every device's cells. -/
def sched : Rounds.Schedule (GSem nD τ sig) Bool 𝕄 where
  duties g r := match keyOf g.2 with | none => ∅ | some κ => dut κ r
  unitless _ := False
  amount g _ _ := match keyOf g.2 with | none => 1 | some κ => amt κ
  payload g r d := match keyOf g.2 with | none => iprop(emp) | some κ => pay m κ g.1.1 r d
  amount_pos g _ _ _ := by
    cases keyOf g.2 with
    | none => exact Nat.one_pos
    | some κ => exact amt_pos κ

/-- so also what the schedule says of a cell. -/
instance sched_payload_storable (g : GSem nD τ sig) (r : ℕ) (d : Bool) :
    BI.Storable (upEmb : UEmb _ 𝕄) ((sched (F := F) m).payload g r d) := by
  show BI.Storable upEmb (match keyOf g.2 with | none => iprop(emp) | some κ => pay m κ g.1.1 r d)
  cases keyOf g.2 <;> infer_instance

section Sched
variable (c : Dev nD) (κ : Key) (r : ℕ) (d : Bool)

/-- The schedule at a key's cell: who pays in a round, -/
theorem duties_cell : (sched (F := F) m).duties (kcell c κ) r = dut κ r := by
  show (match keyOf (csem κ) with | none => ∅ | some κ => dut κ r) = _
  rw [keyOf_csem]
/-- how much, -/
theorem amount_cell : (sched (F := F) m).amount (kcell c κ) r d = amt κ := by
  show (match keyOf (csem κ) with | none => 1 | some κ => amt κ) = _
  rw [keyOf_csem]
/-- and what that hands over. -/
theorem payload_cell : (sched (F := F) m).payload (kcell c κ) r d = pay m κ c r d := by
  show (match keyOf (csem κ) with | none => iprop(emp) | some κ => pay m κ c r d) = _
  rw [keyOf_csem]
end Sched

/-! The facts of a cell at the round of step `s`. -/

/-- In each of its rounds a send semaphore has one payer, -/
theorem dut_send (i : Fin 4) {s : ℕ} (hs : s < 15) : dut (kSend i (sl s)) (s / 2) = {true} := by
  unfold kSend
  by_cases h : s % 2 = 0
  · rw [if_pos (show sl s = 0 from Fin.ext h)]; exact if_pos (show s / 2 < 8 by omega)
  · rw [if_neg (show ¬ sl s = 0 from fun e => h (congrArg Fin.val e))]; exact if_pos (show s / 2 < 7 by omega)
/-- a receive semaphore one, -/
theorem dut_recv (i : Fin 4) {s : ℕ} (hs : s < 15) : dut (kRecv i (sl (s + 1))) (s / 2) = {true} := by
  unfold kRecv
  by_cases h : (s + 1) % 2 = 0
  · rw [if_pos (show sl (s + 1) = 0 from Fin.ext h)]; exact if_pos (show s / 2 < 7 by omega)
  · rw [if_neg (show ¬ sl (s + 1) = 0 from fun e => h (congrArg Fin.val e))]; exact if_pos (show s / 2 < 8 by omega)
/-- the barrier two, the neighbours, -/
theorem dut_bar : dut none 0 = Finset.univ := rfl
/-- a credit semaphore one. -/
theorem dut_cred (i : Fin 4) {s : ℕ} (hs : s < 14) : dut (kCred i) s = {true} := if_pos hs
/-- A copy counts its block on the sender's semaphore, -/
theorem amt_send (i : Fin 4) (k : Fin 2) : amt (kSend i k) = N := by fin_cases k <;> rfl
/-- and on the receiver's. -/
theorem amt_recv (i : Fin 4) (k : Fin 2) : amt (kRecv i k) = N := by fin_cases k <;> rfl
/-- A finished send hands the slot back to the sender. -/
theorem pay_send (i : Fin 4) (k : Fin 2) (c : Dev nD) (r : ℕ) (d : Bool) : pay (F := F) m (kSend i k) c r d = slotAny c i k := by
  fin_cases k <;> rfl
/-- An arrival hands over the slot with the sender's block, and that the sender has used its credits. -/
theorem pay_recv (i : Fin 4) (c : Dev nD) (s : ℕ) (d : Bool) : pay (F := F) m (kRecv i (sl (s + 1))) c (s / 2) d = recvPay m i c s := by
  unfold kRecv
  by_cases h : (s + 1) % 2 = 0
  · rw [if_pos (show sl (s + 1) = 0 from Fin.ext h)]
    show recvPay m i c (2 * (s / 2) + 1) = _
    rw [show 2 * (s / 2) + 1 = s by omega]
  · rw [if_neg (show ¬ sl (s + 1) = 0 from fun e => h (congrArg Fin.val e))]
    show recvPay m i c (2 * (s / 2)) = _
    rw [show 2 * (s / 2) = s by omega]
/-- A credit hands over a free slot of the receiver. -/
theorem pay_cred (i : Fin 4) (c : Dev nD) (s : ℕ) (d : Bool) : pay (F := F) m (kCred i) c s d = credPay i c s := rfl

/-- A cell whose rounds are over has no later duty. -/
theorem dut_over_send (i : Fin 4) : ∀ k : Fin 2, ∀ r, 8 - k.val ≤ r → dut (kSend i k) r = ∅ := by
  intro k r h; fin_cases k
  · exact if_neg (fun h' => by simp only [Fin.isValue, Fin.zero_eta] at h; omega)
  · exact if_neg (fun h' => by simp only [Fin.isValue, Fin.mk_one] at h; omega)
/-- After the last step nobody pays into a receive semaphore, -/
theorem dut_over_recv (i : Fin 4) : ∀ k : Fin 2, ∀ r, 7 + k.val ≤ r → dut (kRecv i k) r = ∅ := by
  intro k r h; fin_cases k
  · exact if_neg (fun h' => by simp only [Fin.isValue, Fin.zero_eta] at h; omega)
  · exact if_neg (fun h' => by simp only [Fin.isValue, Fin.mk_one] at h; omega)
/-- nor into a credit semaphore, -/
theorem dut_over_cred (i : Fin 4) : ∀ r, 14 ≤ r → dut (kCred i) r = ∅ := fun r h => if_neg (by omega)
/-- and after the first round nobody into the barrier. -/
theorem dut_over_bar : ∀ r, 1 ≤ r → dut none r = ∅ := fun r h => if_neg (by omega)

section Expect
variable (c : Dev nD)

/-- A round with one payer expects that payer's amount; -/
theorem expect_single {κ : Key} {r : ℕ} (h : dut κ r = {true}) : (sched (F := F) m).expect (kcell c κ) r = amt κ := by
  unfold Schedule.expect Schedule.amountOf
  rw [duties_cell, h, Finset.sum_singleton, amount_cell]
/-- the barrier's expects two. -/
theorem expect_bar : (sched (F := F) m).expect (kcell c none) 0 = 2 := by
  unfold Schedule.expect Schedule.amountOf
  rw [duties_cell, dut_bar, Finset.sum_congr rfl fun d _ => amount_cell m c none 0 d, Finset.sum_const, Finset.card_univ,
    Fintype.card_bool, smul_eq_mul]
  rfl
/-- What a round with one payer hands over is that payer's payload; -/
theorem rest_single {κ : Key} {r : ℕ} (h : dut κ r = {true}) :
    bigSep ((sched (F := F) m).duties (kcell c κ) r \ ∅) (fun d => (sched (F := F) m).payload (kcell c κ) r d) = pay m κ c r true := by
  rw [Finset.sdiff_empty, duties_cell, h, bigSep_singleton, payload_cell]
/-- the barrier's round hands over both neighbours'. -/
theorem rest_bar :
    bigSep ((sched (F := F) m).duties (kcell c none) 0 \ ∅) (fun d => (sched (F := F) m).payload (kcell c none) 0 d)
      = iprop(barPay c false ∗ barPay c true) := by
  rw [Finset.sdiff_empty, duties_cell, dut_bar, bigSep_univ_eq_bigSepL [false, true] (by decide) (by decide),
    bigSepL_cons_cons, bigSepL_singleton, payload_cell, payload_cell]
  rfl
end Expect

/-! ## What a device owes, by position in its program

A device's payments are numbered in program order: 0 and 1 its two barrier signals, then eight positions to a step (rings
0 and 2 start a step; rings 1 and 3 give the credit of the step before; rings 1 and 3 start; rings 0 and 2 give the
credit). A payment's number is the index it is made at (the barrier's two share index 1), and its level: every wait is
for a payment that comes before everything its device still owes. -/

/-- The position of ring `i`'s transfer of step `s`. -/
def posE (i : Fin 4) (s : ℕ) : ℕ := match i with | 0 => 8 * s + 2 | 1 => 8 * s + 6 | 2 => 8 * s + 3 | 3 => 8 * s + 7
/-- The position of ring `i`'s credit of step `s`. -/
def posC (i : Fin 4) (s : ℕ) : ℕ := match i with | 0 => 8 * s + 8 | 1 => 8 * s + 12 | 2 => 8 * s + 9 | 3 => 8 * s + 13

/-- What payment `p` is: which ring, transfer (`true`) or credit (`false`), which step. -/
def dec (p : ℕ) : Option (Fin 4 × Bool × ℕ) :=
  match (p - 2) % 8 with
  | 0 => some (0, true, (p - 2) / 8)
  | 1 => some (2, true, (p - 2) / 8)
  | 2 => if (p - 2) / 8 = 0 then none else some (1, false, (p - 2) / 8 - 1)
  | 3 => if (p - 2) / 8 = 0 then none else some (3, false, (p - 2) / 8 - 1)
  | 4 => some (1, true, (p - 2) / 8)
  | 5 => some (3, true, (p - 2) / 8)
  | 6 => if (p - 2) / 8 < 14 then some (0, false, (p - 2) / 8) else none
  | _ => if (p - 2) / 8 < 14 then some (2, false, (p - 2) / 8) else none

/-- A copy's position names its ring and step, -/
theorem dec_posE (i : Fin 4) (s : ℕ) : dec (posE i s) = some (i, true, s) := by
  have h : ∀ a, a < 8 → (8 * s + 2 + a - 2) % 8 = a ∧ (8 * s + 2 + a - 2) / 8 = s := fun a ha => by omega
  unfold dec
  match i with
  | 0 => rw [show posE (0 : Fin 4) s = 8 * s + 2 + 0 from rfl, (h 0 (by decide)).1, (h 0 (by decide)).2]; rfl
  | 1 => rw [show posE (1 : Fin 4) s = 8 * s + 2 + 4 from rfl, (h 4 (by decide)).1, (h 4 (by decide)).2]; rfl
  | 2 => rw [show posE (2 : Fin 4) s = 8 * s + 2 + 1 from rfl, (h 1 (by decide)).1, (h 1 (by decide)).2]; rfl
  | 3 => rw [show posE (3 : Fin 4) s = 8 * s + 2 + 5 from rfl, (h 5 (by decide)).1, (h 5 (by decide)).2]; rfl

/-- and so does a credit's. -/
theorem dec_posC (i : Fin 4) {s : ℕ} (hs : s < 14) : dec (posC i s) = some (i, false, s) := by
  have h : ∀ a, a < 8 → (8 * s + 2 + a - 2) % 8 = a ∧ (8 * s + 2 + a - 2) / 8 = s := fun a ha => by omega
  have h' : ∀ a, a < 8 → (8 * s + 10 + a - 2) % 8 = a ∧ (8 * s + 10 + a - 2) / 8 = s + 1 := fun a ha => by omega
  unfold dec
  match i with
  | 0 => rw [show posC (0 : Fin 4) s = 8 * s + 2 + 6 from rfl, (h 6 (by decide)).1, (h 6 (by decide)).2]; exact if_pos hs
  | 1 => rw [show posC (1 : Fin 4) s = 8 * s + 10 + 2 from rfl, (h' 2 (by decide)).1, (h' 2 (by decide)).2]; exact if_neg (Nat.succ_ne_zero s)
  | 2 => rw [show posC (2 : Fin 4) s = 8 * s + 2 + 7 from rfl, (h 7 (by decide)).1, (h 7 (by decide)).2]; exact if_pos hs
  | 3 => rw [show posC (3 : Fin 4) s = 8 * s + 10 + 3 from rfl, (h' 3 (by decide)).1, (h' 3 (by decide)).2]; exact if_neg (Nat.succ_ne_zero s)

/-- Payment `p` as it reaches device `c`. -/
def payTo (p : ℕ) (c : Dev nD) : CellTallies nD τ sig ℕ :=
  if p < 2 then tallyAt (kcell c none) 1 1
  else match dec p with
    | none => 0
    | some (i, true, s) => tallyAt (kcell c (kRecv i (sl (s + 1)))) p N
    | some (i, false, _) => tallyAt (kcell c (kCred i)) p 1
/-- The device payment `p` of device `c` goes to. -/
def tgt (p : ℕ) : Dev nD ≃ Dev nD :=
  if p = 0 then cyc.symm else if p = 1 then cyc
  else match dec p with
    | none => Equiv.refl _
    | some (i, true, _) => dstE i
    | some (i, false, _) => (dstE i).symm

/-- What device `c` still owes when it has made its payments before `p`. -/
def Owed (c : Dev nD) (p : ℕ) : CellTallies nD τ sig ℕ := ∑ q ∈ Finset.Ico p 122, payTo q (tgt q c)

/-- What a device owes from position `p` on is what it owes after it and its payment there. -/
theorem Owed_peel (c : Dev nD) {p : ℕ} (hp : p < 122) : Owed c p = Owed c (p + 1) + payTo p (tgt p c) := by
  have h : Finset.Ico p 122 = insert p (Finset.Ico (p + 1) 122) := by
    ext q; rw [Finset.mem_insert, Finset.mem_Ico, Finset.mem_Ico]; omega
  unfold Owed; rw [h, Finset.sum_insert (by rw [Finset.mem_Ico]; omega), add_comm]
/-- At the end nothing is owed. -/
theorem Owed_end (c : Dev nD) : Owed c 122 = 0 := by unfold Owed; rw [Finset.Ico_self, Finset.sum_empty]

/-- Copies come after the two barrier signals, -/
theorem posE_two (i : Fin 4) (s : ℕ) : 2 ≤ posE i s := by fin_cases i <;> exact Nat.le_add_left _ _ |>.trans' (by decide)
/-- and so do credits. -/
theorem posC_two (i : Fin 4) (s : ℕ) : 2 ≤ posC i s := by fin_cases i <;> exact Nat.le_add_left _ _ |>.trans' (by decide)
/-- Positions of copies are below the end, -/
theorem posE_lt (i : Fin 4) {s : ℕ} (hs : s < 15) : posE i s < 122 := by fin_cases i <;> (dsimp only [posE]; omega)
/-- and so are positions of credits. -/
theorem posC_lt (i : Fin 4) {s : ℕ} (hs : s < 14) : posC i s < 122 := by fin_cases i <;> (dsimp only [posC]; omega)

/-- The payment of a copy goes into the receiver's arrivals; -/
theorem payTo_E (i : Fin 4) (s : ℕ) (c : Dev nD) : payTo (posE i s) c = tallyAt (kcell c (kRecv i (sl (s + 1)))) (posE i s) N := by
  unfold payTo; rw [if_neg (Nat.not_lt.mpr (posE_two i s)), dec_posE]
/-- that of a credit into the sender's credits. -/
theorem payTo_C (i : Fin 4) {s : ℕ} (hs : s < 14) (c : Dev nD) : payTo (posC i s) c = tallyAt (kcell c (kCred i)) (posC i s) 1 := by
  unfold payTo; rw [if_neg (Nat.not_lt.mpr (posC_two i s)), dec_posC i hs]
/-- A copy goes to the ring's destination, -/
theorem tgt_E (i : Fin 4) (s : ℕ) (c : Dev nD) : tgt (posE i s) c = dst i c := by
  unfold tgt; rw [if_neg (fun h => by have := posE_two i s; omega), if_neg (fun h => by have := posE_two i s; omega), dec_posE]; rfl
/-- a credit to its source. -/
theorem tgt_C (i : Fin 4) {s : ℕ} (hs : s < 14) (c : Dev nD) : tgt (posC i s) c = src i c := by
  unfold tgt; rw [if_neg (fun h => by have := posC_two i s; omega), if_neg (fun h => by have := posC_two i s; omega), dec_posC i hs]; rfl

/-- Starting a copy pays one arrival of what is owed. -/
theorem Owed_E (i : Fin 4) {s : ℕ} (hs : s < 15) (c : Dev nD) :
    Owed c (posE i s) = Owed c (posE i s + 1) + tallyAt (kcell (dst i c) (kRecv i (sl (s + 1)))) (posE i s) N := by
  rw [Owed_peel c (posE_lt i hs), payTo_E, tgt_E]
/-- Giving a credit pays one credit of what is owed. -/
theorem Owed_C (i : Fin 4) {s : ℕ} (hs : s < 14) (c : Dev nD) :
    Owed c (posC i s) = Owed c (posC i s + 1) + tallyAt (kcell (src i c) (kCred i)) (posC i s) 1 := by
  rw [Owed_peel c (posC_lt i hs), payTo_C i hs, tgt_C i hs]
/-- A position without a payment changes nothing. -/
theorem Owed_gap (c : Dev nD) {p : ℕ} (hp : p < 122) (h2 : 2 ≤ p) (h : dec p = none) : Owed c p = Owed c (p + 1) := by
  rw [Owed_peel c hp]; unfold payTo; rw [if_neg (Nat.not_lt.mpr h2), h, add_zero]
/-- The first signal pays the device before, -/
theorem Owed_zero (c : Dev nD) : Owed c 0 = Owed c 1 + tallyAt (kcell (prv c) none) 1 1 := Owed_peel c (by decide)
/-- the second the next device. -/
theorem Owed_one (c : Dev nD) : Owed c 1 = Owed c 2 + tallyAt (kcell (nxt c) none) 1 1 := Owed_peel c (by decide)
/-- Positions 4 and 5 pay nothing, -/
theorem Owed_four (c : Dev nD) : Owed c 4 = Owed c 6 :=
  (Owed_gap c (by decide) (by decide) (by decide)).trans (Owed_gap c (by decide) (by decide) (by decide))
/-- nor do the last two. -/
theorem Owed_last (c : Dev nD) : Owed c 120 = 0 :=
  ((Owed_gap c (by decide) (by decide) (by decide)).trans (Owed_gap c (by decide) (by decide) (by decide))).trans (Owed_end c)

/-- The indices of a cell, and the level of an index. -/
def L (g : GSem nD τ sig) : Finset ℕ := if g.1.2 = .tc then Finset.range 122 else ∅
/-- The level of a payment is its position. -/
def lv (_ : GSem nD τ sig) (ι : ℕ) : ℕ := ι

/-- Only the cells of the main cores have levels, -/
theorem L_of_ne (g : GSem nD τ sig) (h : g.1.2 ≠ .tc) : L g = ∅ := if_neg h
/-- and there the levels are the positions. -/
theorem L_tc (c : Dev nD) (sm : SemLoc sig) : L ((c : Thread nD τ), sm) = Finset.range 122 := if_pos rfl

/-- A payment is on a main core, at its own position (the two barrier signals share one). -/
theorem payTo_pos {p : ℕ} (hp : p < 122) {c : Dev nD} {g : GSem nD τ sig} {ι : ℕ} (h : 0 < payTo p c g ι) : g.1.2 = .tc ∧ ι = max 1 p := by
  unfold payTo at h
  by_cases h2 : p < 2
  · rw [if_pos h2, tallyAt_apply] at h
    by_cases hc : g = kcell c none ∧ ι = 1
    · exact ⟨by rw [hc.1], by rw [hc.2]; omega⟩
    · rw [if_neg hc] at h; exact absurd h (Nat.lt_irrefl 0)
  · rw [if_neg h2] at h
    rcases hd : dec p with _ | ⟨i, b, s⟩
    · rw [hd] at h; exact absurd h (Nat.lt_irrefl 0)
    · rw [hd] at h
      cases b
      · replace h : 0 < (tallyAt (kcell c (kCred i)) p 1 : CellTallies nD τ sig ℕ) g ι := h
        rw [tallyAt_apply] at h
        by_cases hc : g = kcell c (kCred i) ∧ ι = p
        · exact ⟨by rw [hc.1], by rw [hc.2]; omega⟩
        · rw [if_neg hc] at h; exact absurd h (Nat.lt_irrefl 0)
      · replace h : 0 < (tallyAt (kcell c (kRecv i (sl (s + 1)))) p N : CellTallies nD τ sig ℕ) g ι := h
        rw [tallyAt_apply] at h
        by_cases hc : g = kcell c (kRecv i (sl (s + 1))) ∧ ι = p
        · exact ⟨by rw [hc.1], by rw [hc.2]; omega⟩
        · rw [if_neg hc] at h; exact absurd h (Nat.lt_irrefl 0)

/-- What is owed from `p` on lies at positions from `p` on. -/
theorem Owed_pos {c : Dev nD} {p : ℕ} {g : GSem nD τ sig} {ι : ℕ} (h : 0 < Owed c p g ι) : g.1.2 = .tc ∧ max 1 p ≤ ι ∧ ι < 122 := by
  unfold Owed at h
  rw [Finset.sum_apply, Finsupp.finset_sum_apply] at h
  obtain ⟨q, hq, hq0⟩ := Finset.exists_ne_zero_of_sum_ne_zero (Nat.pos_iff_ne_zero.mp h)
  rw [Finset.mem_Ico] at hq
  obtain ⟨h1, h2⟩ := payTo_pos hq.2 (Nat.pos_iff_ne_zero.mpr hq0)
  exact ⟨h1, by omega, by omega⟩

omit [FloatOps F] in
/-- A wait at an index below everything owed is allowed. -/
theorem mayWait (c : Dev nD) (sm : SemLoc sig) (ι p : ℕ) (h : ι < max 1 p) (hι : ι < 122) :
    (levAts L lv : sProp 𝕄) ⊢ MayWait (c : Thread nD τ) sm ι (Owed c p) := by
  refine MayOwe.of_cut (L := L) (lev := lv) ι (fun x hx => by rw [Finset.mem_singleton.mp hx, L_tc]; exact Finset.mem_range.mpr hι)
    (fun g u hg => ?_) (fun x hx => by rw [Finset.mem_singleton.mp hx]; exact le_rfl) (fun g u hg => ?_)
  · obtain ⟨h1, h2, h3⟩ := Owed_pos hg
    unfold L; rw [if_pos h1]; exact Finset.mem_range.mpr h3
  · obtain ⟨h1, h2, h3⟩ := Owed_pos hg
    exact lt_of_lt_of_le h h2

end Cert.KernelIdeal.Rings

end
-- ==== Proof.Program.lean ====
/-
# The body as a program over the step

The kernel's body is written out step by step. This module writes the same program once, with the ring and the step as
parameters, and proves that the printed body at the pallas_call's buffers is this program.
-/
module

public import proofs.«01_k».proof.Proof.Protocol
public import Idealize.ShloMosaic.Lib.Pipeline.Regions

@[expose] public section

noncomputable section

namespace Cert.KernelIdeal.Rings

open Cert.KernelIdeal Cert.KernelIdeal.Gen
open Idealize.ShloMosaic Idealize.ShloMosaic.TcCoe
open Idealize.SL Idealize.SL.Sem

variable {F : FTy → Type} [FloatOps F]

/-- A program of a TensorCore of this kernel. -/
abbrev TProg (F : FTy → Type) [FloatOps F] (α : Type) : Type 1 := Prog (TpuEff nD τ sig (Elt F) Λ₀ .tc) α

/-- The device each payment goes to, as the program computes it, by position (positions 4 and 5 carry no payment). -/
def devTab : List (Dev nD → Dev nD) :=
  [fun c => ⟨k0_dev1 c, k0_dev1_lt c⟩, fun c => ⟨k0_dev2 c, k0_dev2_lt c⟩, fun c => ⟨k0_dev3 c, k0_dev3_lt c⟩,
   fun c => ⟨k0_dev4 c, k0_dev4_lt c⟩, fun c => ⟨k0_dev1 c, k0_dev1_lt c⟩, fun c => ⟨k0_dev1 c, k0_dev1_lt c⟩,
   fun c => ⟨k0_dev5 c, k0_dev5_lt c⟩, fun c => ⟨k0_dev6 c, k0_dev6_lt c⟩, fun c => ⟨k0_dev7 c, k0_dev7_lt c⟩,
   fun c => ⟨k0_dev8 c, k0_dev8_lt c⟩, fun c => ⟨k0_dev9 c, k0_dev9_lt c⟩, fun c => ⟨k0_dev10 c, k0_dev10_lt c⟩,
   fun c => ⟨k0_dev11 c, k0_dev11_lt c⟩, fun c => ⟨k0_dev12 c, k0_dev12_lt c⟩, fun c => ⟨k0_dev13 c, k0_dev13_lt c⟩,
   fun c => ⟨k0_dev14 c, k0_dev14_lt c⟩, fun c => ⟨k0_dev15 c, k0_dev15_lt c⟩, fun c => ⟨k0_dev16 c, k0_dev16_lt c⟩,
   fun c => ⟨k0_dev17 c, k0_dev17_lt c⟩, fun c => ⟨k0_dev18 c, k0_dev18_lt c⟩, fun c => ⟨k0_dev19 c, k0_dev19_lt c⟩,
   fun c => ⟨k0_dev20 c, k0_dev20_lt c⟩, fun c => ⟨k0_dev21 c, k0_dev21_lt c⟩, fun c => ⟨k0_dev22 c, k0_dev22_lt c⟩,
   fun c => ⟨k0_dev23 c, k0_dev23_lt c⟩, fun c => ⟨k0_dev24 c, k0_dev24_lt c⟩, fun c => ⟨k0_dev25 c, k0_dev25_lt c⟩,
   fun c => ⟨k0_dev26 c, k0_dev26_lt c⟩, fun c => ⟨k0_dev27 c, k0_dev27_lt c⟩, fun c => ⟨k0_dev28 c, k0_dev28_lt c⟩,
   fun c => ⟨k0_dev29 c, k0_dev29_lt c⟩, fun c => ⟨k0_dev30 c, k0_dev30_lt c⟩, fun c => ⟨k0_dev31 c, k0_dev31_lt c⟩,
   fun c => ⟨k0_dev32 c, k0_dev32_lt c⟩, fun c => ⟨k0_dev33 c, k0_dev33_lt c⟩, fun c => ⟨k0_dev34 c, k0_dev34_lt c⟩,
   fun c => ⟨k0_dev35 c, k0_dev35_lt c⟩, fun c => ⟨k0_dev36 c, k0_dev36_lt c⟩, fun c => ⟨k0_dev37 c, k0_dev37_lt c⟩,
   fun c => ⟨k0_dev38 c, k0_dev38_lt c⟩, fun c => ⟨k0_dev39 c, k0_dev39_lt c⟩, fun c => ⟨k0_dev40 c, k0_dev40_lt c⟩,
   fun c => ⟨k0_dev41 c, k0_dev41_lt c⟩, fun c => ⟨k0_dev42 c, k0_dev42_lt c⟩, fun c => ⟨k0_dev43 c, k0_dev43_lt c⟩,
   fun c => ⟨k0_dev44 c, k0_dev44_lt c⟩, fun c => ⟨k0_dev45 c, k0_dev45_lt c⟩, fun c => ⟨k0_dev46 c, k0_dev46_lt c⟩,
   fun c => ⟨k0_dev47 c, k0_dev47_lt c⟩, fun c => ⟨k0_dev48 c, k0_dev48_lt c⟩, fun c => ⟨k0_dev49 c, k0_dev49_lt c⟩,
   fun c => ⟨k0_dev50 c, k0_dev50_lt c⟩, fun c => ⟨k0_dev51 c, k0_dev51_lt c⟩, fun c => ⟨k0_dev52 c, k0_dev52_lt c⟩,
   fun c => ⟨k0_dev53 c, k0_dev53_lt c⟩, fun c => ⟨k0_dev54 c, k0_dev54_lt c⟩, fun c => ⟨k0_dev55 c, k0_dev55_lt c⟩,
   fun c => ⟨k0_dev56 c, k0_dev56_lt c⟩, fun c => ⟨k0_dev57 c, k0_dev57_lt c⟩, fun c => ⟨k0_dev58 c, k0_dev58_lt c⟩,
   fun c => ⟨k0_dev59 c, k0_dev59_lt c⟩, fun c => ⟨k0_dev60 c, k0_dev60_lt c⟩, fun c => ⟨k0_dev61 c, k0_dev61_lt c⟩,
   fun c => ⟨k0_dev62 c, k0_dev62_lt c⟩, fun c => ⟨k0_dev63 c, k0_dev63_lt c⟩, fun c => ⟨k0_dev64 c, k0_dev64_lt c⟩,
   fun c => ⟨k0_dev65 c, k0_dev65_lt c⟩, fun c => ⟨k0_dev66 c, k0_dev66_lt c⟩, fun c => ⟨k0_dev67 c, k0_dev67_lt c⟩,
   fun c => ⟨k0_dev68 c, k0_dev68_lt c⟩, fun c => ⟨k0_dev69 c, k0_dev69_lt c⟩, fun c => ⟨k0_dev70 c, k0_dev70_lt c⟩,
   fun c => ⟨k0_dev71 c, k0_dev71_lt c⟩, fun c => ⟨k0_dev72 c, k0_dev72_lt c⟩, fun c => ⟨k0_dev73 c, k0_dev73_lt c⟩,
   fun c => ⟨k0_dev74 c, k0_dev74_lt c⟩, fun c => ⟨k0_dev75 c, k0_dev75_lt c⟩, fun c => ⟨k0_dev76 c, k0_dev76_lt c⟩,
   fun c => ⟨k0_dev77 c, k0_dev77_lt c⟩, fun c => ⟨k0_dev78 c, k0_dev78_lt c⟩, fun c => ⟨k0_dev79 c, k0_dev79_lt c⟩,
   fun c => ⟨k0_dev80 c, k0_dev80_lt c⟩, fun c => ⟨k0_dev81 c, k0_dev81_lt c⟩, fun c => ⟨k0_dev82 c, k0_dev82_lt c⟩,
   fun c => ⟨k0_dev83 c, k0_dev83_lt c⟩, fun c => ⟨k0_dev84 c, k0_dev84_lt c⟩, fun c => ⟨k0_dev85 c, k0_dev85_lt c⟩,
   fun c => ⟨k0_dev86 c, k0_dev86_lt c⟩, fun c => ⟨k0_dev87 c, k0_dev87_lt c⟩, fun c => ⟨k0_dev88 c, k0_dev88_lt c⟩,
   fun c => ⟨k0_dev89 c, k0_dev89_lt c⟩, fun c => ⟨k0_dev90 c, k0_dev90_lt c⟩, fun c => ⟨k0_dev91 c, k0_dev91_lt c⟩,
   fun c => ⟨k0_dev92 c, k0_dev92_lt c⟩, fun c => ⟨k0_dev93 c, k0_dev93_lt c⟩, fun c => ⟨k0_dev94 c, k0_dev94_lt c⟩,
   fun c => ⟨k0_dev95 c, k0_dev95_lt c⟩, fun c => ⟨k0_dev96 c, k0_dev96_lt c⟩, fun c => ⟨k0_dev97 c, k0_dev97_lt c⟩,
   fun c => ⟨k0_dev98 c, k0_dev98_lt c⟩, fun c => ⟨k0_dev99 c, k0_dev99_lt c⟩, fun c => ⟨k0_dev100 c, k0_dev100_lt c⟩,
   fun c => ⟨k0_dev101 c, k0_dev101_lt c⟩, fun c => ⟨k0_dev102 c, k0_dev102_lt c⟩, fun c => ⟨k0_dev103 c, k0_dev103_lt c⟩,
   fun c => ⟨k0_dev104 c, k0_dev104_lt c⟩, fun c => ⟨k0_dev105 c, k0_dev105_lt c⟩, fun c => ⟨k0_dev106 c, k0_dev106_lt c⟩,
   fun c => ⟨k0_dev107 c, k0_dev107_lt c⟩, fun c => ⟨k0_dev108 c, k0_dev108_lt c⟩, fun c => ⟨k0_dev109 c, k0_dev109_lt c⟩,
   fun c => ⟨k0_dev110 c, k0_dev110_lt c⟩, fun c => ⟨k0_dev111 c, k0_dev111_lt c⟩, fun c => ⟨k0_dev112 c, k0_dev112_lt c⟩,
   fun c => ⟨k0_dev113 c, k0_dev113_lt c⟩, fun c => ⟨k0_dev114 c, k0_dev114_lt c⟩, fun c => ⟨k0_dev115 c, k0_dev115_lt c⟩,
   fun c => ⟨k0_dev116 c, k0_dev116_lt c⟩, fun c => ⟨k0_dev117 c, k0_dev117_lt c⟩, fun c => ⟨k0_dev118 c, k0_dev118_lt c⟩]
/-- The device payment `p` of device `c` goes to, as the program computes it. -/
def devAt (p : ℕ) (c : Dev nD) : Dev nD := devTab.getD p id c

/-- The positions that carry a payment. -/
def paysAt (p : ℕ) : Bool := p < 2 || (dec p).isSome

set_option maxRecDepth 100000 in
/-- The device that the body computes at a position is the one the payment there goes to. -/
theorem devAt_eq_aux : ∀ p : Fin 120, paysAt p.val = true → ∀ c, devAt p.val c = tgt p.val c := by decide +kernel

/-- The program's device computations give the neighbours of the protocol. -/
theorem devAt_eq {p : ℕ} (hp : p < 120) (h : paysAt p = true) (c : Dev nD) : devAt p c = tgt p c := devAt_eq_aux ⟨p, hp⟩ h c

/-- For a copy that is the ring's destination, -/
theorem devAt_E (i : Fin 4) {s : ℕ} (hs : s < 15) (c : Dev nD) : devAt (posE i s) c = dst i c := by
  rw [devAt_eq (by fin_cases i <;> (dsimp only [posE]; omega)) (by unfold paysAt; rw [dec_posE, Option.isSome_some, Bool.or_true]), tgt_E]
/-- for a credit its source. -/
theorem devAt_C (i : Fin 4) {s : ℕ} (hs : s < 14) (c : Dev nD) : devAt (posC i s) c = src i c := by
  rw [devAt_eq (by fin_cases i <;> (dsimp only [posC]; omega)) (by unfold paysAt; rw [dec_posC i hs, Option.isSome_some, Bool.or_true]), tgt_C i hs]

/-- The step as the programs' offsets take it. -/
def st (s : ℕ) : Fin 15 := ⟨s % 15, Nat.mod_lt _ (by decide)⟩

/-- The first row and column of the rows of `x` that ring `i` multiplies, before the first step and at step `s`. -/
def xoffInit (i : Fin 4) (c : Dev nD) : Fin 2 → ℕ :=
  match i with | 0 => k0_off1 c | 1 => k0_off1 c | 2 => k0_off2 c | 3 => k0_off2 c
/-- Where the rows of `x` for ring `i`'s step `s` begin. -/
def xoff (i : Fin 4) (c : Dev nD) (s : ℕ) : Fin 2 → ℕ :=
  match i with
  | 0 => k0_off3 c (BitVec.ofNat 32 (st s).val) | 1 => k0_off3 c (BitVec.ofNat 32 (st s).val)
  | 2 => k0_off4 c (BitVec.ofNat 32 (st s).val) | 3 => k0_off4 c (BitVec.ofNat 32 (st s).val)
/-- The rows read before the first step lie inside `x`, -/
theorem xoffInit_inb (i : Fin 4) (c : Dev nD) : ∀ a, xoffInit i c a + S256x256.size a ≤ S4096x256.size a :=
  match i with | 0 => k0_off1_inb c | 1 => k0_off1_inb c | 2 => k0_off2_inb c | 3 => k0_off2_inb c
/-- and so do those of every step. -/
theorem xoff_inb (i : Fin 4) (c : Dev nD) (s : ℕ) : ∀ a, xoff i c s a + S256x256.size a ≤ S4096x256.size a :=
  match i with
  | 0 => k0_off3_inb c (st s) | 1 => k0_off3_inb c (st s) | 2 => k0_off4_inb c (st s) | 3 => k0_off4_inb c (st s)

/-- A slot is made of whole words. -/
theorem word_slot (i : Fin 4) (k : Fin 2) : (slotM i k).view.WordExact := by
  fin_cases i <;> fin_cases k
  all_goals first
    | exact ((Memref.isWhole_whole _).wordExact_slice rfl _ wordsbf16_S2x256x2048_S1x256x2048_0_0_0).reshape _ _
    | exact ((Memref.isWhole_whole _).wordExact_slice rfl _ wordsbf16_S2x256x2048_S1x256x2048_1_0_0).reshape _ _
/-- A slot may be stored to. -/
theorem stores_slot (i : Fin 4) (k : Fin 2) : ((comm i).access (slotR k)).Stores Finset.univ := by
  fin_cases i <;> fin_cases k
  all_goals first
    | exact View.stores_vmem h_S1x256x2048 ((Memref.isWhole_whole _).storeExact_slice rfl _ packedbf16_S2x256x2048_S1x256x2048_0_0_0) (fun _ => rfl)
    | exact View.stores_vmem h_S1x256x2048 ((Memref.isWhole_whole _).storeExact_slice rfl _ packedbf16_S2x256x2048_S1x256x2048_1_0_0) (fun _ => rfl)

/-! ## The operations -/

/-- Load the 256 rows of `x` at an offset. -/
def loadX (off : Fin 2 → ℕ) (h : ∀ a, off a + S256x256.size a ≤ S4096x256.size a) : TProg F (Vec F S256x256 .fp8e5m2) :=
  Prog.lift (.load xM (Rect.unit (s := S4096x256) off S256x256.size h).toLoadRect (View.loadsAt_vmem h_S256x256))
/-- Load the device's rows of `w`. -/
def loadW : TProg F (Vec F S256x8192 .fp8e5m2) :=
  Prog.lift (.load wM (Rect.unit (s := S256x8192) ![0, 0] S256x8192.size inb_S256x8192_S256x8192_0_0).toLoadRect (View.loadsAt_vmem h_S256x8192))
/-- Load slot `k` of ring `i`. -/
def loadSlot (i : Fin 4) (k : Fin 2) : TProg F (Vec F S1x256x2048 .bf16) :=
  Prog.lift (.load (comm i) (slotR k).toLoadRect (View.loadsAt_vmem h_S1x256x2048))
/-- Store slot `k` of ring `i`. -/
def storeSlot (i : Fin 4) (k : Fin 2) (V : FVec F S1x256x2048 .bf16) : TProg F PUnit :=
  Prog.lift (.store (comm i) (slotR k) V Finset.univ (stores_slot i k) (.inl rfl))
/-- Start the transfer of slot `j` of ring `i` into slot `k` of device `n`. -/
def startTo (i : Fin 4) (j k : Fin 2) (n : Dev nD) : TProg F PUnit :=
  Prog.lift (.enqueueDma (slotM i j) (.remote (Dev.tc n) (slotM i k) (.dma (semAt (sendA i) j))) (.dma (semAt (recvA i) k))
    (word_slot i j) (word_slot i k) ⟨⟨rfl, Or.inl rfl⟩, trivial⟩)
/-- Wait for one transfer's amount on a semaphore; `j` and `k` are the slots the wait names. -/
def waitOn (i : Fin 4) (q : DmaSem sig) (j k : Fin 2) : TProg F PUnit :=
  Prog.lift (.waitDma2 q (slotM i j) (slotM i k) (word_slot i j) (word_slot i k))

/-- Compute and store the first block of ring `i`. -/
def prepare (i : Fin 4) (c : Dev nD) (wb : FVec F S256x8192 .bf16) : TProg F PUnit := do
  let xr ← loadX (xoffInit i c) (xoffInit_inb i c)
  let _ ← loadSlot i 0
  storeSlot i 0 (initial i wb xr)
/-- Start the transfer of step `s` of ring `i`. -/
def start (i : Fin 4) (c : Dev nD) (s : ℕ) : TProg F PUnit := startTo i (sl s) (sl (s + 1)) (devAt (posE i s) c)
/-- Wait for the transfers of step `s` of ring `i`: the one sent and the one received. -/
def await (i : Fin 4) (s : ℕ) : TProg F PUnit := do
  waitOn i (semAt (sendA i) (sl s)) (sl (s + 1)) (sl s)
  waitOn i (semAt (recvA i) (sl (s + 1))) (sl s) (sl (s + 1))
/-- Finish step `s` of ring `i`: wait, give the slot just sent back to the sender, add the product to what arrived. -/
def finish (i : Fin 4) (c : Dev nD) (s : ℕ) (acc : FVec F S256x2048 .f32) : TProg F PUnit := do
  await i s
  semSignalWord (devAt (posC i s) c) (credS i) 1#32
  let V ← loadSlot i (sl (s + 1))
  let _ ← loadSlot i (sl (s + 1))
  storeSlot i (sl (s + 1)) (k0_pay13 acc V)
/-- Take a credit and start the transfer of step `s` of ring `i`. -/
def next (i : Fin 4) (c : Dev nD) (s : ℕ) : TProg F PUnit := do
  semWaitWord (credS i) 1#32
  start i c s
/-- The product of ring `i` at step `s`. -/
def multiply (i : Fin 4) (c : Dev nD) (wb : FVec F S256x8192 .bf16) (s : ℕ) : TProg F (FVec F S256x2048 .f32) := do
  let xr ← loadX (xoff i c s) (xoff_inb i c s)
  pure (prod i wb xr)
/-- Step `s` of the four rings, up to the start of the transfers of step `s + 1`. -/
def step (c : Dev nD) (wb : FVec F S256x8192 .bf16) (s : ℕ) : TProg F PUnit := do
  let p0 ← multiply 0 c wb s
  let p1 ← multiply 1 c wb s
  let p2 ← multiply 2 c wb s
  let p3 ← multiply 3 c wb s
  finish 0 c s p0
  finish 2 c s p2
  next 0 c (s + 1)
  next 2 c (s + 1)
  finish 1 c s p1
  finish 3 c s p3
  next 1 c (s + 1)
  next 3 c (s + 1)
/-- `n` steps from step `s`. -/
def steps (c : Dev nD) (wb : FVec F S256x8192 .bf16) (s : ℕ) : ℕ → TProg F PUnit
  | 0 => pure ⟨⟩
  | n + 1 => do
    step c wb s
    steps c wb (s + 1) n
/-- Load one scale. -/
def loadScale (r : Memref sig .tc .smem S1 .f32) : TProg F (Elt F .f32) :=
  smemLoad r (Rect.unit (s := S1) ![0] S1.size inb_S1_S1_0) numel1_S1 rfl
/-- The last step of ring `i`: wait, add, scale, and write the device's result. -/
def deliver (i : Fin 4) (acc : FVec F S256x2048 .f32) : TProg F PUnit := do
  await i 14
  let V ← loadSlot i 1
  let a ← loadScale aM
  let b ← loadScale bM
  let _ : Vec F S256x2048 .f32 ← Prog.lift (.load oM (colsR i).toLoadRect (View.loadsAt_vmem h_S256x2048))
  Prog.lift (.store oM (colsR i) (k0_pay1 acc V a b) Finset.univ (View.stores_vmem_bits_univ h_S256x2048 rfl) (.inl rfl))
/-- The whole body. -/
def body : TProg F PUnit := do
  let c ← Prog.lift .deviceId
  semSignalWord (devAt 0 c) barS 1#32
  semSignalWord (devAt 1 c) barS 1#32
  semWaitWord barS 2#32
  let w ← loadW
  prepare 0 c (k0_pay2 w)
  prepare 1 c (k0_pay2 w)
  prepare 2 c (k0_pay2 w)
  prepare 3 c (k0_pay2 w)
  start 0 c 0
  start 2 c 0
  start 1 c 0
  start 3 c 0
  steps c (k0_pay2 w) 0 14
  let p0 ← multiply 0 c (k0_pay2 w) 14
  let p1 ← multiply 1 c (k0_pay2 w) 14
  let p2 ← multiply 2 c (k0_pay2 w) 14
  let p3 ← multiply 3 c (k0_pay2 w) 14
  deliver 0 p0
  deliver 2 p2
  deliver 1 p1
  deliver 3 p3

/-- The printed body, at the buffers of the pallas_call, is this program. -/
theorem body_eq : cc0_body (F := F) xM (Memref.isWhole_whole _) wM (Memref.isWhole_whole _) aM (Memref.isWhole_whole _)
    bM (Memref.isWhole_whole _) oM (Memref.isWhole_whole _) (Memref.whole cc0_scratch0) (Memref.isWhole_whole _)
    (Memref.whole cc0_scratch1) (Memref.isWhole_whole _) (Memref.whole cc0_scratch2) (Memref.isWhole_whole _)
    (Memref.whole cc0_scratch3) (Memref.isWhole_whole _) cc0_scratch4 cc0_scratch5 cc0_scratch6 cc0_scratch7 cc0_scratch8
    cc0_scratch9 cc0_scratch10 cc0_scratch11 cc0_scratch12 cc0_scratch13 cc0_scratch14 cc0_scratch15 = body := by
  sl_kernel_rfl

end Cert.KernelIdeal.Rings

end
-- ==== Proof.Steps.lean ====
/-
# The operations of the body, one specification each

What a ring of a device holds between its operations, and what each operation of the body does to it: preparing a block,
starting a transfer, waiting for a step's two transfers, finishing a step, taking a credit, delivering the result.
-/
module

public import proofs.«01_k».proof.Proof.Program

@[expose] public section

noncomputable section

namespace Cert.KernelIdeal.Rings

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ

variable (m : (ℓ : Loc nD τ sig) → Buf (Elt F) ℓ)

/-- Running a program of the body on device `c`. -/
abbrev run {α : Type} (c : Dev nD) (p : TProg F α) (Q : α → sProp 𝕄) : sProp 𝕄 :=
  wp frame (wpE (defs₀ (F := F)) 𝒱₀ (c : Thread nD τ) none) Set.univ p Q

variable (K : Dev nD × Key → ℕ)

/-- Every cell's invariant, and the levels of the indices. -/
def records : sProp 𝕄 :=
  iprop(bigSep Finset.univ (fun ck : Dev nD × Key => cellInv ER (sched m) (K ck) (kcell ck.1 ck.2)) ∗ levAts L lv)
/-- The records are facts that stay true. -/
instance records_persistent : BI.Persistent (records (F := F) m K) := by unfold records; infer_instance
/-- They hold the invariant of every cell, -/
theorem inv_of (c : Dev nD) (κ : Key) : records (F := F) m K ⊢ cellInv ER (sched m) (K (c, κ)) (kcell c κ) := by
  unfold records
  iintro ⟨H, -⟩
  ihave H' := (show (bigSep Finset.univ (fun ck : Dev nD × Key => cellInv ER (sched (F := F) m) (K ck) (kcell ck.1 ck.2)) : sProp 𝕄)
      ⊢ cellInv ER (sched m) (K (c, κ)) (kcell c κ) from
    BI.bigSep_elim (Finset.mem_univ ((c, κ) : Dev nD × Key))) $$ H
  iexact H'
set_option maxRecDepth 20000 in
/-- and the levels. -/
theorem lev_of : records (F := F) m K ⊢ (levAts L lv : sProp 𝕄) := by
  unfold records
  iintro ⟨-, H⟩
  iexact H
set_option maxRecDepth 20000 in
/-- The records let a device wait at an index below everything it still owes. -/
theorem mayWait_of (c : Dev nD) (sm : SemLoc sig) (ι p : ℕ) (h : ι < max 1 p) (hι : ι < 122) :
    records (F := F) m K ⊢ MayWait (c : Thread nD τ) sm ι (Owed c p) :=
  BIBase.Entails.trans (lev_of m K) (mayWait c sm ι p h hι)

/-- What device `c` owes when its payments before `p` are made. -/
def Ow (c : Dev nD) (p : ℕ) : sProp 𝕄 := iprop(∃ W : Waits sig ℕ, owes (c : Thread nD τ) (Owed c p) W)

/-! ## What a ring holds -/

/-- What step `t` of ring `i` takes: the two duties of its transfer and the credit of the one that arrives. -/
def stepTok (i : Fin 4) (c : Dev nD) (t : ℕ) : sProp 𝕄 :=
  iprop(dutyTok ER (kcell c (kSend i (sl t))) (t / 2) true ∗ dutyTok ER (kcell (dst i c) (kRecv i (sl (t + 1)))) (t / 2) true
    ∗ cred (tallyAt (kcell c (kRecv i (sl (t + 1)))) (posE i t) N))
/-- What step `t`'s credit takes: the duty of the credit given and the credit of the one taken. -/
def credTok (i : Fin 4) (c : Dev nD) (t : ℕ) : sProp 𝕄 :=
  iprop(dutyTok ER (kcell (src i c) (kCred i)) t true ∗ cred (tallyAt (kcell c (kCred i)) (posC i t) 1))
/-- The owner's position in the two send cells before step `s`. -/
def posS (i : Fin 4) (c : Dev nD) (s : ℕ) : sProp 𝕄 :=
  iprop((atPos ER (kcell c (kSend i (sl s))) (s / 2) ∅ 0 ∗ reached ER (kcell c (kSend i (sl s))) (s / 2))
    ∗ (atPos ER (kcell c (kSend i (sl (s + 1)))) ((s + 1) / 2) ∅ 0 ∗ reached ER (kcell c (kSend i (sl (s + 1)))) ((s + 1) / 2)))
/-- The owner's position in the two receive cells before step `s`. -/
def posR (i : Fin 4) (c : Dev nD) (s : ℕ) : sProp 𝕄 :=
  iprop((atPos ER (kcell c (kRecv i (sl (s + 1)))) (s / 2) ∅ 0 ∗ reached ER (kcell c (kRecv i (sl (s + 1)))) (s / 2))
    ∗ (atPos ER (kcell c (kRecv i (sl s))) ((s + 1) / 2) ∅ 0 ∗ reached ER (kcell c (kRecv i (sl s))) ((s + 1) / 2)))
/-- The owner's position in the credit cell before step `s`'s credit. -/
def posCr (i : Fin 4) (c : Dev nD) (s : ℕ) : sProp 𝕄 :=
  iprop(atPos ER (kcell c (kCred i)) s ∅ 0 ∗ reached ER (kcell c (kCred i)) s)
/-- The tokens of the steps from `s` and the credits from `u`. -/
def toks (i : Fin 4) (c : Dev nD) (s u : ℕ) : sProp 𝕄 :=
  iprop(bigSep (Finset.Ico s 15) (stepTok i c) ∗ bigSep (Finset.Ico u 14) (credTok i c))

/-- Each slot's round goes up by one every two steps. -/
theorem half_add_two (s : ℕ) : (s + 2) / 2 = s / 2 + 1 := Nat.add_div_right s (by decide)

omit [FloatOps F] in
/-- After a step the two send semaphores' positions are those of the next step, -/
theorem posS_next (i : Fin 4) (c : Dev nD) (s : ℕ) :
    (iprop((atPos ER (kcell c (kSend i (sl s))) (s / 2 + 1) ∅ 0 ∗ reached ER (kcell c (kSend i (sl s))) (s / 2 + 1))
      ∗ (atPos ER (kcell c (kSend i (sl (s + 1)))) ((s + 1) / 2) ∅ 0 ∗ reached ER (kcell c (kSend i (sl (s + 1)))) ((s + 1) / 2))) : sProp 𝕄)
      ⊢ posS i c (s + 1) := by
  unfold posS
  rw [show s + 1 + 1 = s + 2 from rfl, sl_add_two, half_add_two]
  iintro ⟨H1, H2⟩
  isplitl [H2] <;> iassumption
omit [FloatOps F] in
/-- and so are the two receive semaphores'. -/
theorem posR_next (i : Fin 4) (c : Dev nD) (s : ℕ) :
    (iprop((atPos ER (kcell c (kRecv i (sl (s + 1)))) (s / 2 + 1) ∅ 0 ∗ reached ER (kcell c (kRecv i (sl (s + 1)))) (s / 2 + 1))
      ∗ (atPos ER (kcell c (kRecv i (sl s))) ((s + 1) / 2) ∅ 0 ∗ reached ER (kcell c (kRecv i (sl s))) ((s + 1) / 2))) : sProp 𝕄)
      ⊢ posR i c (s + 1) := by
  unfold posR
  rw [show s + 1 + 1 = s + 2 from rfl, sl_add_two, half_add_two]
  iintro ⟨H1, H2⟩
  isplitl [H2] <;> iassumption

/-- The first of a list of assertions and the rest. -/
theorem bigSep_Ico_peel {M : Type} [URA M] {s n : ℕ} (h : s < n) (Φ : ℕ → sProp M) :
    bigSep (Finset.Ico s n) Φ = iprop(Φ s ∗ bigSep (Finset.Ico (s + 1) n) Φ) := by
  rw [show Finset.Ico s n = insert s (Finset.Ico (s + 1) n) by
    ext q; rw [Finset.mem_insert, Finset.mem_Ico, Finset.mem_Ico]; omega]
  exact BI.bigSep_insert (by rw [Finset.mem_Ico]; omega)

omit [FloatOps F] in
/-- The tokens of one step come out of those of all the steps that remain, -/
theorem toks_step (i : Fin 4) (c : Dev nD) {s : ℕ} (hs : s < 15) (u : ℕ) :
    (toks i c s u : sProp 𝕄) ⊢ iprop(stepTok i c s ∗ toks i c (s + 1) u) := by
  unfold toks
  rw [bigSep_Ico_peel hs]
  iintro ⟨⟨H1, H2⟩, H3⟩
  isplitl [H1]; · iexact H1
  isplitl [H2] <;> iassumption
omit [FloatOps F] in
/-- and the tokens of one credit likewise. -/
theorem toks_cred (i : Fin 4) (c : Dev nD) (s : ℕ) {u : ℕ} (hu : u < 14) :
    (toks i c s u : sProp 𝕄) ⊢ iprop(credTok i c u ∗ toks i c s (u + 1)) := by
  unfold toks
  rw [bigSep_Ico_peel hu]
  iintro ⟨H3, ⟨H1, H2⟩⟩
  isplitl [H1]; · iexact H1
  isplitl [H3] <;> iassumption

/-- Ring `i` may start step `s`: its block is in place and the slot it goes to is its own to write. -/
def ready (i : Fin 4) (c : Dev nD) (s : ℕ) : sProp 𝕄 :=
  iprop(slotOwn c i (sl s) (blk m i c s) ∗ slotAny (dst i c) i (sl (s + 1)) ∗ reached ER (kcell (dst i c) (kRecv i (sl (s + 1)))) (s / 2)
    ∗ posS i c s ∗ posR i c s ∗ posCr i c s ∗ toks i c s s)
/-- Ring `i`'s transfers of step `s` are in flight. -/
def flight (i : Fin 4) (c : Dev nD) (s : ℕ) : sProp 𝕄 :=
  iprop(cred (tallyAt (kcell c (kSend i (sl s))) 0 N) ∗ cred (tallyAt (kcell c (kRecv i (sl (s + 1)))) (posE i s) N)
    ∗ posS i c s ∗ posR i c s ∗ posCr i c s ∗ toks i c (s + 1) s)
/-- Ring `i`'s transfers of step `s` are done. -/
def done (i : Fin 4) (c : Dev nD) (s : ℕ) : sProp 𝕄 :=
  iprop(slotAny c i (sl s) ∗ slotOwn c i (sl (s + 1)) (blk m i (src i c) s) ∗ reached ER (kcell (src i c) (kCred i)) s
    ∗ posS i c (s + 1) ∗ posR i c (s + 1) ∗ posCr i c s ∗ toks i c (s + 1) s)
/-- Ring `i` has given its credit of step `s` and waits for the one it is given. -/
def added (i : Fin 4) (c : Dev nD) (s : ℕ) : sProp 𝕄 :=
  iprop(slotOwn c i (sl (s + 1)) (blk m i c (s + 1)) ∗ cred (tallyAt (kcell c (kCred i)) (posC i s) 1)
    ∗ posS i c (s + 1) ∗ posR i c (s + 1) ∗ posCr i c s ∗ toks i c (s + 1) (s + 1))

/-! ## Loads, stores and transfers of a part of a memref -/

section Own
variable {sp : Space} {cs : CoreSpace} {s s' : Shape} {e : EltTy}

/-- A load from a held piece returns what it holds. -/
theorem own_load (M : Memref sig .tc cs s e) (r : Rect s) (c : Dev nD) (V : r.shape.Idx → Elt F e) (h : M.view.LoadsAt r.toLoadRect)
    (Q : (r.shape.Idx → Elt F e) → sProp 𝕄) :
    (own M r c V : sProp 𝕄) ⊢ iprop((own M r c V -∗ Q V) -∗ run c (Prog.lift (.load M r.toLoadRect h)) Q) := by
  unfold own run Prog.lift
  iintro ⟨%f, %hf, H⟩ Hk
  subst hf
  iapply (wp_load_rect 𝒱₀ (c : Thread nD τ) none Set.univ (m := M) (r := r) (Finset.Subset.refl _)) $$ H
  iintro H
  rw [wp_ret]; imodintro
  iapply Hk
  iexists f
  isplitr; · ipureintro; rfl
  iexact H

/-- A store into a held piece leaves it holding what was stored. -/
theorem own_store (M : Memref sig .tc cs s e) (r : Rect s) (c : Dev nD) (V : r.shape.Idx → Elt F e)
    (h : (M.access r).Stores Finset.univ) (hm : Finset.univ = Finset.univ ∨ ∀ a, r.stride a = 1) (Q : PUnit → sProp 𝕄) :
    (ownAny M r c : sProp 𝕄) ⊢ iprop((own M r c V -∗ Q ⟨⟩) -∗ run c (Prog.lift (.store M r V Finset.univ h hm)) Q) := by
  unfold own ownAny run Prog.lift
  iintro ⟨%f, H⟩ Hk
  iapply (wp_store 𝒱₀ (c : Thread nD τ) none Set.univ (m := M) (r := r) (Mk := Finset.univ) (S := (M.access r).set) (Finset.Subset.refl _)) $$ H
  iintro H
  rw [wp_ret]; imodintro
  iapply Hk
  iexists ((M.access r).write (Elt F) f V Finset.univ)
  isplitr
  · ipureintro; exact View.read_write_univ (v := M.access r) f V
  iexact H

omit [FloatOps F] in
/-- A part at some contents holds what it reads. -/
theorem ownAny_own (M : Memref sig .tc sp s e) (r : Rect s) (c : Dev nD) : (ownAny M r c : sProp 𝕄) ⊢ iprop(∃ V, own (F := F) M r c V) := by
  unfold ownAny own
  iintro ⟨%f, H⟩
  iexists ((M.access r).read (Elt F) f)
  iexists f
  isplitr; · ipureintro; rfl
  iexact H

omit [FloatOps F] in
/-- The elements of a part, as a transfer of the part names them. -/
theorem part_pts (M : Memref sig .tc sp s e) (r : Rect s) (hr : ∀ a, r.stride a = 1) (hq : r.shape.Squeezes s') (c : Dev nD)
    (f : Buf (Elt F) ((M.access r).loc (c : Thread nD τ))) :
    (((M.access r).loc (c : Thread nD τ) ↦[(M.access r).set]{fullShare} f) : sProp 𝕄)
      = ((((M.slice r hr).squeeze s' hq).view.loc (c : Thread nD τ)) ↦[((M.slice r hr).squeeze s' hq).view.set]{fullShare} f) := by
  rw [show ((M.slice r hr).squeeze s' hq).view.set = (M.access r).set from View.set_reshape _ _]

omit [FloatOps F] in
/-- What a transfer from one part to another of the same sizes leaves there is what was in the first. -/
theorem landed (M : Memref sig .tc sp s e) (off off' size : Fin s.rank → ℕ) (p : ∀ a, off a + size a ≤ s.size a)
    (p' : ∀ a, off' a + size a ≤ s.size a) (hr : ∀ a, (Rect.unit off size p).stride a = 1) (hr' : ∀ a, (Rect.unit off' size p').stride a = 1)
    (hq : (Rect.unit off size p).shape.Squeezes s') (hq' : (Rect.unit off' size p').shape.Squeezes s')
    (fs fd : M.view.ty.Contents (Elt F)) :
    (M.access (Rect.unit off' size p')).read (Elt F) (((M.slice (Rect.unit off' size p') hr').squeeze s' hq').view.write (Elt F) fd
        (((M.slice (Rect.unit off size p) hr).squeeze s' hq).view.read (Elt F) fs) Finset.univ)
      = (M.access (Rect.unit off size p)).read (Elt F) fs := by
  funext x
  obtain ⟨y, rfl⟩ := (Shape.reshapeEquiv hq'.numel_eq).surjective x
  exact View.read_write_reshape (M.access (Rect.unit off' size p')) _ fd _ y

end Own

/-- Loading a slot returns its block. -/
theorem loadSlot_spec (c : Dev nD) (i : Fin 4) (k : Fin 2) (V : FVec F S1x256x2048 .bf16) (Q : Vec F S1x256x2048 .bf16 → sProp 𝕄) :
    (slotOwn c i k V : sProp 𝕄) ⊢ iprop((slotOwn c i k V -∗ Q V) -∗ run c (loadSlot i k) Q) :=
  own_load (comm i) (slotR k) c V _ Q
/-- Storing a slot leaves it holding the block. -/
theorem storeSlot_spec (c : Dev nD) (i : Fin 4) (k : Fin 2) (V : FVec F S1x256x2048 .bf16) (Q : PUnit → sProp 𝕄) :
    (slotAny c i k : sProp 𝕄) ⊢ iprop((slotOwn c i k V -∗ Q ⟨⟩) -∗ run c (storeSlot i k V) Q) :=
  own_store (comm i) (slotR k) c V _ _ Q
omit [FloatOps F] in
/-- A slot at unknown contents holds some block. -/
theorem slotAny_own (c : Dev nD) (i : Fin 4) (k : Fin 2) : (slotAny c i k : sProp 𝕄) ⊢ iprop(∃ V, slotOwn (F := F) c i k V) :=
  ownAny_own (comm i) (slotR k) c

omit [FloatOps F] in
/-- A slot's elements, as a transfer names them. -/
theorem slotAny_eq (c : Dev nD) (i : Fin 4) (k : Fin 2) :
    (slotAny c i k : sProp 𝕄) = iprop(∃ f : Buf (Elt F) ((slotM i k).view.loc (c : Thread nD τ)),
      ((slotM i k).view.loc (c : Thread nD τ) ↦[(slotM i k).view.set]{fullShare} f)) := by
  unfold slotAny ownAny
  exact congrArg _ (funext fun f => part_pts (comm i) (slotR k) (fun _ => rfl) squeezes_S1x256x2048_S256x2048 c f)
omit [FloatOps F] in
/-- What holding a slot means at the copy's view of it. -/
theorem slotOwn_eq (c : Dev nD) (i : Fin 4) (k : Fin 2) (V : FVec F S1x256x2048 .bf16) :
    (slotOwn c i k V : sProp 𝕄) = iprop(∃ f : Buf (Elt F) ((slotM i k).view.loc (c : Thread nD τ)),
      ⌜((comm i).access (slotR k)).read (Elt F) f = V⌝ ∗ ((slotM i k).view.loc (c : Thread nD τ) ↦[(slotM i k).view.set]{fullShare} f)) := by
  unfold slotOwn own
  exact congrArg _ (funext fun f => congrArg (fun P => iprop(⌜((comm i).access (slotR k)).read (Elt F) f = V⌝ ∗ P))
    (part_pts (comm i) (slotR k) (fun _ => rfl) squeezes_S1x256x2048_S256x2048 c f))

/-! ## The operations of a ring -/

/-- Starting the copy of step `s`: it pays the receiver and leaves the copy in flight. -/
theorem startTo_spec (i : Fin 4) (c n : Dev nD) {s : ℕ} (hs : s < 15) (hn : n = dst i c) (Q : PUnit → sProp 𝕄) :
    iprop(records m K ∗ ready m i c s ∗ Ow c (posE i s))
      ⊢ iprop((iprop(flight i c s ∗ Ow c (posE i s + 1)) -∗ Q ⟨⟩) -∗ run c (startTo i (sl s) (sl (s + 1)) n) Q) := by
  subst hn
  unfold ready flight Ow run startTo posS posCr
  rw [slotOwn_eq, slotAny_eq, Owed_E i hs c]
  iintro ⟨#HR, ⟨⟨%fs, %hfs, Hs⟩, ⟨%fd, Hd⟩, #Hrd, ⟨⟨HaS, #HrS⟩, HaS'⟩, HaR, ⟨HaC, #HrC⟩, Ht⟩, ⟨%W, HO⟩⟩ Hk
  icases (toks_step i c hs s) $$ Ht with ⟨Htk, Ht⟩
  unfold stepTok
  icases Htk with ⟨HtS, HtR, Hc⟩
  ihave #I1 := (inv_of m K c (kSend i (sl s))) $$ HR
  ihave #I2 := (inv_of m K (dst i c) (kRecv i (sl (s + 1)))) $$ HR
  iapply (Rounds.wp_send_pointsTo_with 𝒱₀ ER (sched m) (c : Thread nD τ) none (c' := (dst i c : Thread nD τ))
      (src := slotM i (sl s)) (dst := slotM i (sl (s + 1)))
      (κ₁ := K (c, kSend i (sl s))) (κ₂ := K (dst i c, kRecv i (sl (s + 1))))
      (r₁ := s / 2) (r₂ := s / 2) (d₁ := true) (d₂ := true) (fs := fs) (fd := fd)
      (F := reached ER (kcell c (kCred i)) s)
      (sS := .dma (semAt (sendA i) (sl s))) (sem := .dma (semAt (recvA i) (sl (s + 1))))
      (by rw [← csem_send, duties_cell, dut_send i hs]; exact Finset.mem_singleton_self _)
      (by rw [← csem_recv, duties_cell, dut_recv i hs]; exact Finset.mem_singleton_self _)
      (posE i s) 0 N (amount_slot i _ _)
      (by rw [← csem_send, amount_cell, amt_send]) (by rw [← csem_recv, amount_cell, amt_recv])
      (Owed c (posE i s + 1)) (by rw [← csem_recv]) (W := W)
      (by
        rw [← csem_send, payload_cell, pay_send, slotAny_eq]
        iintro H; iexists fs; iexact H)
      (by
        rw [← csem_recv, payload_cell, pay_recv]
        unfold recvPay
        rw [src_dst, slotOwn_eq]
        iintro ⟨H, Hr⟩
        isplitl [H]
        · iexists ((slotM i (sl (s + 1))).view.write (Elt F) fd ((slotM i (sl s)).view.read (Elt F) fs) Finset.univ)
          isplitr
          · ipureintro
            exact (landed (comm i) _ _ _ (slot_inb (sl s)) (slot_inb (sl (s + 1))) (fun _ => rfl) (fun _ => rfl)
              squeezes_S1x256x2048_S256x2048 squeezes_S1x256x2048_S256x2048 fs fd).trans hfs
          iexact H
        iexact Hr)) $$ [HO HtS HtR Hs Hd]
  · rw [← csem_send, ← csem_recv]
    isplitr; · iexact I1
    isplitr; · iexact I2
    isplitl [Hs]; · iexact Hs
    isplitl [Hd]
    · isplitl [Hd]; · iexact Hd
      iexact HrC
    isplitl [HO]; · iexact HO
    isplitl [HtS]; · iexact HtS
    isplitr; · iexact HrS
    isplitl [HtR]; · iexact HtR
    iexact Hrd
  iintro ⟨Hcs, HO⟩
  rw [wp_ret]; imodintro
  iapply Hk
  rw [← csem_send]
  isplitl [Hcs Hc HaS HaS' HaR HaC Ht]
  · isplitl [Hcs]; · iexact Hcs
    isplitl [Hc]; · iexact Hc
    isplitl [HaS HaS']
    · isplitl [HaS]
      · isplitl [HaS]; · iexact HaS
        iexact HrS
      iexact HaS'
    isplitl [HaR]; · iexact HaR
    isplitl [HaC]
    · isplitl [HaC]; · iexact HaC
      iexact HrC
    iexact Ht
  iexists W; iexact HO

omit [FloatOps F] in
/-- Each slot's copy counts the same amount. -/
theorem credit_slot (i : Fin 4) (k : Fin 2) : (slotM i k).view.dmaCredit = N := by
  fin_cases i <;> fin_cases k <;> rfl

/-- Waiting for the transfer sent: the slot comes back. -/
theorem waitSend_spec (i : Fin 4) (c : Dev nD) {s p : ℕ} (hs : s < 15) (Q : PUnit → sProp 𝕄) :
    iprop(records m K ∗ (cred (tallyAt (kcell c (kSend i (sl s))) 0 N) ∗ posS i c s) ∗ Ow c p)
      ⊢ iprop((iprop(slotAny c i (sl s) ∗ posS i c (s + 1) ∗ Ow c p) -∗ Q ⟨⟩)
        -∗ run c (waitOn i (semAt (sendA i) (sl s)) (sl (s + 1)) (sl s)) Q) := by
  unfold Ow run waitOn Prog.lift
  iintro ⟨#HR, ⟨Hc, Hp⟩, ⟨%W, HO⟩⟩ Hk
  ihave #I1 := (inv_of m K c (kSend i (sl s))) $$ HR
  have hN : (slotM i (sl s)).view.dmaCredit = N := credit_slot i (sl s)
  ihave Hp := (show (posS i c s : sProp 𝕄) ⊢ _ from (by unfold posS; exact Entails.refl _)) $$ Hp
  icases Hp with ⟨⟨Ha, -⟩, Hother⟩
  iapply (Rounds.wp_wait_rest_token 𝒱₀ ER (sched m) (c : Thread nD τ) none (κ := K (c, kSend i (sl s)))
      (sm := .dma (semAt (sendA i) (sl s))) (k' := N)
      (fun Q' => (wpE_waitDma2_eq 𝒱₀ (c : Thread nD τ) none Set.univ Q').trans (congrArg (fun n => waitSpec (c : Thread nD τ) Set.univ _ n Q') hN)) (Set.mem_univ _) 0
      (O := Owed c p) (W := W) (R := s / 2) (m := 0) (T := ∅)
      (by rw [Nat.zero_add, ← csem_send, expect_single m c (dut_send i hs), amt_send])) $$ [Hc HO Ha]
  · rw [← csem_send]
    isplitr; · iexact I1
    isplitl [Hc]; · iexact Hc
    isplitl [HO]; · iexact HO
    isplitr; · iapply (mayWait_of m K c _ 0 p (by omega) (by decide)); iexact HR
    iexact Ha
  rw [← csem_send, rest_single m c (dut_send i hs), pay_send]
  iintro ⟨HO, Ha, Hr, Hpay⟩
  rw [wp_ret]; imodintro
  iapply Hk
  isplitl [Hpay]; · iexact Hpay
  isplitl [Ha Hr Hother]
  · iapply (posS_next i c s)
    isplitl [Ha Hr]
    · isplitl [Ha] <;> iassumption
    iexact Hother
  iexists _; iexact HO

/-- Waiting for the transfer received: the slot comes with the sender's block. -/
theorem waitRecv_spec (i : Fin 4) (c : Dev nD) {s p : ℕ} (hs : s < 15) (hp : posE i s < p) (Q : PUnit → sProp 𝕄) :
    iprop(records m K ∗ (cred (tallyAt (kcell c (kRecv i (sl (s + 1)))) (posE i s) N) ∗ posR i c s) ∗ Ow c p)
      ⊢ iprop((iprop((slotOwn c i (sl (s + 1)) (blk m i (src i c) s) ∗ reached ER (kcell (src i c) (kCred i)) s) ∗ posR i c (s + 1) ∗ Ow c p) -∗ Q ⟨⟩)
        -∗ run c (waitOn i (semAt (recvA i) (sl (s + 1))) (sl s) (sl (s + 1))) Q) := by
  unfold Ow run waitOn Prog.lift
  iintro ⟨#HR, ⟨Hc, Hp⟩, ⟨%W, HO⟩⟩ Hk
  ihave #I1 := (inv_of m K c (kRecv i (sl (s + 1)))) $$ HR
  have hN : (slotM i (sl (s + 1))).view.dmaCredit = N := credit_slot i (sl (s + 1))
  ihave Hp := (show (posR i c s : sProp 𝕄) ⊢ _ from (by unfold posR; exact Entails.refl _)) $$ Hp
  icases Hp with ⟨⟨Ha, -⟩, Hother⟩
  iapply (Rounds.wp_wait_rest_token 𝒱₀ ER (sched m) (c : Thread nD τ) none (κ := K (c, kRecv i (sl (s + 1))))
      (sm := .dma (semAt (recvA i) (sl (s + 1)))) (k' := N)
      (fun Q' => (wpE_waitDma2_eq 𝒱₀ (c : Thread nD τ) none Set.univ Q').trans (congrArg (fun n => waitSpec (c : Thread nD τ) Set.univ _ n Q') hN)) (Set.mem_univ _) (posE i s)
      (O := Owed c p) (W := W) (R := s / 2) (m := 0) (T := ∅)
      (by rw [Nat.zero_add, ← csem_recv, expect_single m c (dut_recv i hs), amt_recv])) $$ [Hc HO Ha]
  · rw [← csem_recv]
    isplitr; · iexact I1
    isplitl [Hc]; · iexact Hc
    isplitl [HO]; · iexact HO
    isplitr; · iapply (mayWait_of m K c _ (posE i s) p (by omega) (posE_lt i hs)); iexact HR
    iexact Ha
  rw [← csem_recv, rest_single m c (dut_recv i hs), pay_recv]
  unfold recvPay
  iintro ⟨HO, Ha, Hr, Hpay⟩
  rw [wp_ret]; imodintro
  iapply Hk
  isplitl [Hpay]; · iexact Hpay
  isplitl [Ha Hr Hother]
  · iapply (posR_next i c s)
    isplitl [Ha Hr]
    · isplitl [Ha] <;> iassumption
    iexact Hother
  iexists _; iexact HO

/-- Waiting for the two transfers of a step. -/
theorem await_spec (i : Fin 4) (c : Dev nD) {s p : ℕ} (hs : s < 15) (hp : posE i s < p) (Q : PUnit → sProp 𝕄) :
    iprop(records m K ∗ flight i c s ∗ Ow c p)
      ⊢ iprop((iprop(done m i c s ∗ Ow c p) -∗ Q ⟨⟩) -∗ run c (await i s) Q) := by
  unfold flight done await
  unfold run
  rw [wp_bind]
  iintro ⟨#HR, ⟨Hcs, Hcr, HpS, HpR, HpC, Ht⟩, HO⟩ Hk
  iapply (waitSend_spec m K i c (p := p) hs _) $$ [Hcs HpS HO]
  · isplitr; · iexact HR
    isplitr [HO]
    · isplitl [Hcs] <;> iassumption
    iexact HO
  iintro ⟨Hsl, HpS, HO⟩
  iapply (waitRecv_spec m K i c hs hp _) $$ [Hcr HpR HO]
  · isplitr; · iexact HR
    isplitr [HO]
    · isplitl [Hcr] <;> iassumption
    iexact HO
  iintro ⟨⟨Hrs, Hr⟩, HpR, HO⟩
  iapply Hk
  isplitr [HO]
  · isplitl [Hsl]; · iexact Hsl
    isplitl [Hrs]; · iexact Hrs
    isplitl [Hr]; · iexact Hr
    isplitl [HpS]; · iexact HpS
    isplitl [HpR]; · iexact HpR
    isplitl [HpC] <;> iassumption
  iexact HO

/-- Giving the credit of a step: the slot just sent goes back to the sender. -/
theorem giveCredit_spec (i : Fin 4) (c n : Dev nD) {s : ℕ} (hs : s < 14) (hn : n = src i c) (Q : PUnit → sProp 𝕄) :
    iprop(records m K ∗ done m i c s ∗ Ow c (posC i s))
      ⊢ iprop((iprop(slotOwn c i (sl (s + 1)) (blk m i (src i c) s) ∗ cred (tallyAt (kcell c (kCred i)) (posC i s) 1)
            ∗ posS i c (s + 1) ∗ posR i c (s + 1) ∗ posCr i c s ∗ toks i c (s + 1) (s + 1) ∗ Ow c (posC i s + 1)) -∗ Q ⟨⟩)
        -∗ run c (semSignalWord n (credS i) 1#32) Q) := by
  subst hn
  unfold done Ow run semSignalWord posR
  rw [Owed_C i hs c, show s + 1 + 1 = s + 2 from rfl, sl_add_two]
  iintro ⟨#HR, ⟨Hsl, Hrs, Hr, HpS, ⟨⟨HaR, #HrR⟩, HpR⟩, HpC, Ht⟩, ⟨%W, HO⟩⟩ Hk
  icases (toks_cred i c (s + 1) hs) $$ Ht with ⟨Htk, Ht⟩
  unfold credTok
  icases Htk with ⟨HtC, Hc⟩
  ihave #I1 := (inv_of m K (src i c) (kCred i)) $$ HR
  iapply (Rounds.wp_signal 𝒱₀ ER (sched m) (c : Thread nD τ) none (dst := (src i c : Thread nD τ)) (κ := K (src i c, kCred i))
      (sem := credS i) (r := s) (d := true)
      (by rw [← csem_cred, duties_cell, dut_cred i hs]; exact Finset.mem_singleton_self _)
      ((amount_cell m (src i c) (kCred i) s true).trans rfl) (posC i s) (Owed c (posC i s + 1)) rfl) $$ [HO HtC Hsl Hr]
  · isplitr; · iexact I1
    isplitl [HO]; · iexact HO
    isplitl [HtC]; · iexact HtC
    isplitl [Hsl]
    · rw [← csem_cred, payload_cell, pay_cred]; unfold credPay; rw [dst_src]
      isplitl [Hsl]; · iexact Hsl
      iexact HrR
    iexact Hr
  iintro HO
  rw [wp_ret]; imodintro
  iapply Hk
  isplitl [Hrs]; · iexact Hrs
  isplitl [Hc]; · iexact Hc
  isplitl [HpS]; · iexact HpS
  isplitl [HpR HaR]
  · isplitr [HpR]
    · isplitl [HaR]; · iexact HaR
      iexact HrR
    iexact HpR
  isplitl [HpC]; · iexact HpC
  isplitl [Ht]; · iexact Ht
  iexists W; iexact HO

end Cert.KernelIdeal.Rings

end
-- ==== Proof.Body.lean ====
/-
# The body of a device, step by step

Each step of the body is run once, at a symbolic device, ring and step number; the fourteen equal steps follow by induction.
-/
module

public import proofs.«01_k».proof.Proof.Steps

@[expose] public section

noncomputable section

namespace Cert.KernelIdeal.Rings

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ

variable (m : (ℓ : Loc nD τ sig) → Buf (Elt F) ℓ) (K : Dev nD × Key → ℕ)

/-- A step's copy comes before its credit, -/
theorem posE_posC (i : Fin 4) (s : ℕ) : posE i s < posC i s := by fin_cases i <;> (dsimp only [posE, posC]; omega)
/-- which comes before the next step's copy. -/
theorem posC_posE (i : Fin 4) (s : ℕ) : posC i s < posE i (s + 1) := by fin_cases i <;> (dsimp only [posE, posC]; omega)
/-- The last copy comes before the end. -/
theorem posE_last (i : Fin 4) : posE i 14 < 120 := by fin_cases i <;> decide

/-- Finishing a step: the next block is in its slot, and the slot sent is given back. -/
theorem finish_spec (i : Fin 4) (c : Dev nD) {s p : ℕ} (hs : s < 14) (hp : p = posC i s) (acc : FVec F S256x2048 .f32)
    (hacc : acc = prod i (k0_pay2 (wstg m c)) (xrows m c (chunk i c (s + 1)))) (Q : PUnit → sProp 𝕄) :
    iprop(records m K ∗ flight i c s ∗ Ow c p)
      ⊢ iprop((iprop(added m i c s ∗ Ow c (p + 1)) -∗ Q ⟨⟩) -∗ run c (finish i c s acc) Q) := by
  subst hp; subst hacc
  unfold finish
  unfold run
  rw [wp_bind]
  iintro ⟨#HR, Hf, HO⟩ Hk
  iapply (await_spec m K i c (p := posC i s) (by omega) (posE_posC i s) _) $$ [Hf HO]
  · isplitr; · iexact HR
    isplitl [Hf] <;> iassumption
  iintro ⟨Hd, HO⟩
  rw [wp_bind]
  iapply (giveCredit_spec m K i c _ hs (devAt_C i hs c) _) $$ [Hd HO]
  · isplitr; · iexact HR
    isplitl [Hd] <;> iassumption
  iintro ⟨Hsl, Hc, HpS, HpR, HpC, Ht, HO⟩
  rw [wp_bind]
  iapply (loadSlot_spec c i (sl (s + 1)) (blk m i (src i c) s) _) $$ Hsl
  iintro Hsl
  rw [wp_bind]
  iapply (loadSlot_spec c i (sl (s + 1)) (blk m i (src i c) s) _) $$ Hsl
  iintro Hsl
  ihave Hsl := (slotOwn_any c i (sl (s + 1)) (blk m i (src i c) s)) $$ Hsl
  iapply (storeSlot_spec c i (sl (s + 1)) _ _) $$ Hsl
  iintro Hsl
  iapply Hk
  unfold added
  isplitr [HO]
  · isplitl [Hsl]; · iexact Hsl
    isplitl [Hc]; · iexact Hc
    isplitl [HpS]; · iexact HpS
    isplitl [HpR]; · iexact HpR
    isplitl [HpC] <;> iassumption
  iexact HO

/-- Starting the transfer of a step. -/
theorem start_spec (i : Fin 4) (c : Dev nD) {s p : ℕ} (hs : s < 15) (hp : p = posE i s) (Q : PUnit → sProp 𝕄) :
    iprop(records m K ∗ ready m i c s ∗ Ow c p)
      ⊢ iprop((iprop(flight i c s ∗ Ow c (p + 1)) -∗ Q ⟨⟩) -∗ run c (start i c s) Q) := by
  subst hp
  exact startTo_spec m K i c _ hs (devAt_E i hs c) Q

/-- Taking a credit: the receiver's slot is free again. -/
theorem takeCredit_spec (i : Fin 4) (c : Dev nD) {s p : ℕ} (hs : s < 14) (hp : p = posE i (s + 1)) (Q : PUnit → sProp 𝕄) :
    iprop(records m K ∗ added m i c s ∗ Ow c p)
      ⊢ iprop((iprop(ready m i c (s + 1) ∗ Ow c p) -∗ Q ⟨⟩) -∗ run c (semWaitWord (credS i) 1#32) Q) := by
  subst hp
  unfold added Ow run semWaitWord posCr
  iintro ⟨#HR, ⟨Hsl, Hc, HpS, HpR, ⟨Ha, -⟩, Ht⟩, ⟨%W, HO⟩⟩ Hk
  ihave #I1 := (inv_of m K c (kCred i)) $$ HR
  iapply (Rounds.wp_wait_rest_token 𝒱₀ ER (sched m) (c : Thread nD τ) none (κ := K (c, kCred i))
      (wpE_semWait_eq 𝒱₀ (c : Thread nD τ) none Set.univ) (Set.mem_univ _) (posC i s)
      (O := Owed c (posE i (s + 1))) (W := W) (R := s) (m := 0) (T := ∅)
      (by rw [← csem_cred, expect_single m c (dut_cred i hs)]; rfl)) $$ [Hc HO Ha]
  · isplitr; · iexact I1
    isplitl [Hc]; · iexact Hc
    isplitl [HO]; · iexact HO
    isplitr; · iapply (mayWait_of m K c _ (posC i s) (posE i (s + 1)) (lt_of_lt_of_le (posC_posE i s) (le_max_right _ _)) (posC_lt i hs)); iexact HR
    iexact Ha
  rw [← csem_cred, rest_single m c (dut_cred i hs), pay_cred]
  unfold credPay ready posCr
  rw [show s + 1 + 1 = s + 2 from rfl, sl_add_two]
  iintro ⟨HO, Ha, Hr, ⟨Hsd, Hrd⟩⟩
  rw [wp_ret]; imodintro
  iapply Hk
  isplitr [HO]
  · isplitl [Hsl]; · iexact Hsl
    isplitl [Hsd]; · iexact Hsd
    isplitl [Hrd]; · iexact Hrd
    isplitl [HpS]; · iexact HpS
    isplitl [HpR]; · iexact HpR
    isplitl [Ha Hr]
    · isplitl [Ha] <;> iassumption
    iexact Ht
  iexists _; iexact HO

/-- Going on to the next step's transfer. -/
theorem next_spec (i : Fin 4) (c : Dev nD) {s p : ℕ} (hs : s < 14) (hp : p = posE i (s + 1)) (Q : PUnit → sProp 𝕄) :
    iprop(records m K ∗ added m i c s ∗ Ow c p)
      ⊢ iprop((iprop(flight i c (s + 1) ∗ Ow c (p + 1)) -∗ Q ⟨⟩) -∗ run c (next i c (s + 1)) Q) := by
  unfold next
  unfold run
  rw [wp_bind]
  iintro ⟨#HR, Ha, HO⟩ Hk
  iapply (takeCredit_spec m K i c hs hp _) $$ [Ha HO]
  · isplitr; · iexact HR
    isplitl [Ha] <;> iassumption
  iintro ⟨Hr, HO⟩
  iapply (start_spec m K i c (by omega) hp _) $$ [Hr HO]
  · isplitr; · iexact HR
    isplitl [Hr] <;> iassumption
  iexact Hk

/-! ## The rows of `x`, and the products -/

/-- The rows that the body computes at a step are those of the block that the ring is at, -/
theorem xoff_eq_aux : ∀ i : Fin 4, ∀ s : Fin 15, ∀ c : Dev nD, xoff i c s.val = ![256 * (chunk i c (s.val + 1)).val, 0] := by
  decide +kernel
/-- at every step of every device. -/
theorem xoff_eq (i : Fin 4) (c : Dev nD) {s : ℕ} (hs : s < 15) : xoff i c s = ![256 * (chunk i c (s + 1)).val, 0] :=
  xoff_eq_aux i ⟨s, hs⟩ c
/-- The same for the block sent first. -/
theorem xoffInit_eq : ∀ (i : Fin 4) (c : Dev nD), xoffInit i c = ![256 * (chunk i c 0).val, 0] := by decide +kernel

/-- Device `c`'s staged columns of `x`. -/
def xPts (c : Dev nD) : sProp 𝕄 := iprop((c : Thread nD τ).loc cc0_stg0_0 ↦{fullShare} xstg m c)
/-- Device `c`'s two staged scales. -/
def aPts (c : Dev nD) : sProp 𝕄 := iprop((c : Thread nD τ).loc cc0_stg2_0 ↦{fullShare} astg m c)
/-- The scale of `w`, held. -/
def bPts (c : Dev nD) : sProp 𝕄 := iprop((c : Thread nD τ).loc cc0_stg3_0 ↦{fullShare} bstg m c)
/-- Device `c`'s result buffer at `f`. -/
def oPts (c : Dev nD) (f : (cc0_stg4_0 : Ref sig .tc).ty.Contents (Elt F)) : sProp 𝕄 :=
  iprop((c : Thread nD τ).loc cc0_stg4_0 ↦{fullShare} f)

/-- Loading a block of rows of `x` returns those rows. -/
theorem loadX_spec (c : Dev nD) (off : Fin 2 → ℕ) (h : ∀ a, off a + S256x256.size a ≤ S4096x256.size a) (b : Dev nD)
    (hb : off = ![256 * b.val, 0]) (Q : Vec F S256x256 .fp8e5m2 → sProp 𝕄) :
    xPts m c ⊢ iprop((xPts m c -∗ Q (xrows m c b)) -∗ run c (loadX off h) Q) := by
  subst hb
  unfold xPts run loadX Prog.lift
  iintro Hx Hk
  iapply (wp_load 𝒱₀ (c : Thread nD τ) none Set.univ (m := xM) (Finset.subset_univ _)) $$ Hx
  iintro Hx
  rw [show xM.view.readAt (Elt F) (Rect.unit (s := S4096x256) ![256 * b.val, 0] S256x256.size h).toLoadRect (xstg m c) = xrows m c b from rfl]
  rw [wp_ret]; imodintro
  iapply Hk
  iexact Hx

/-- The product of a step is ring `i`'s product of the block it is at. -/
theorem multiply_spec (i : Fin 4) (c : Dev nD) {s : ℕ} (hs : s < 15) (wb : FVec F S256x8192 .bf16) (Q : FVec F S256x2048 .f32 → sProp 𝕄) :
    xPts m c ⊢ iprop((xPts m c -∗ Q (prod i wb (xrows m c (chunk i c (s + 1))))) -∗ run c (multiply i c wb s) Q) := by
  unfold multiply
  unfold run
  rw [wp_bind]
  iintro Hx Hk
  iapply (loadX_spec m c _ _ (chunk i c (s + 1)) (xoff_eq i c hs) _) $$ Hx
  iintro Hx
  simp only [Prog.pure_eq_ret]
  rw [wp_ret]; imodintro
  iapply Hk
  iexact Hx

/-- The first block of a ring. -/
theorem prepare_spec (i : Fin 4) (c : Dev nD) (Q : PUnit → sProp 𝕄) :
    iprop(xPts m c ∗ slotAny c i 0) ⊢ iprop((iprop(xPts m c ∗ slotOwn c i 0 (blk m i c 0)) -∗ Q ⟨⟩)
      -∗ run c (prepare i c (k0_pay2 (wstg m c))) Q) := by
  unfold prepare
  unfold run
  rw [wp_bind]
  iintro ⟨Hx, Hs⟩ Hk
  iapply (loadX_spec m c _ _ (chunk i c 0) (xoffInit_eq i c) _) $$ Hx
  iintro Hx
  rw [wp_bind]
  icases (slotAny_own c i 0) $$ Hs with ⟨%V, Hs⟩
  iapply (loadSlot_spec c i 0 V _) $$ Hs
  iintro Hs
  ihave Hs := (slotOwn_any c i 0 V) $$ Hs
  iapply (storeSlot_spec c i 0 _ _) $$ Hs
  iintro Hs
  iapply Hk
  isplitl [Hx]; · iexact Hx
  iexact Hs

/-! ## A step, and the steps -/

/-- The four rings' transfers of step `s` are in flight. -/
def flights (c : Dev nD) (s : ℕ) : sProp 𝕄 := iprop(flight (F := F) 0 c s ∗ flight 1 c s ∗ flight 2 c s ∗ flight 3 c s)

/-- One step of all four rings. -/
theorem step_spec (c : Dev nD) {s : ℕ} (hs : s < 14) (Q : PUnit → sProp 𝕄) :
    iprop(records m K ∗ xPts m c ∗ flights c s ∗ Ow c (8 * s + 8))
      ⊢ iprop((iprop(xPts m c ∗ flights c (s + 1) ∗ Ow c (8 * (s + 1) + 8)) -∗ Q ⟨⟩) -∗ run c (step c (k0_pay2 (wstg m c)) s) Q) := by
  unfold step flights
  unfold run
  rw [wp_bind]
  iintro ⟨#HR, Hx, ⟨H0, H1, H2, H3⟩, HO⟩ Hk
  iapply (multiply_spec m 0 c (s := s) (by omega) _ _) $$ Hx; iintro Hx
  rw [wp_bind]
  iapply (multiply_spec m 1 c (s := s) (by omega) _ _) $$ Hx; iintro Hx
  rw [wp_bind]
  iapply (multiply_spec m 2 c (s := s) (by omega) _ _) $$ Hx; iintro Hx
  rw [wp_bind]
  iapply (multiply_spec m 3 c (s := s) (by omega) _ _) $$ Hx; iintro Hx
  rw [wp_bind]
  iapply (finish_spec m K 0 c hs (p := 8 * s + 8) rfl _ rfl _) $$ [H0 HO]
  · isplitr; · iexact HR
    isplitl [H0] <;> iassumption
  iintro ⟨H0, HO⟩
  rw [wp_bind]
  iapply (finish_spec m K 2 c hs (p := 8 * s + 8 + 1) rfl _ rfl _) $$ [H2 HO]
  · isplitr; · iexact HR
    isplitl [H2] <;> iassumption
  iintro ⟨H2, HO⟩
  rw [wp_bind]
  iapply (next_spec m K 0 c hs (p := 8 * s + 8 + 1 + 1) rfl _) $$ [H0 HO]
  · isplitr; · iexact HR
    isplitl [H0] <;> iassumption
  iintro ⟨H0, HO⟩
  rw [wp_bind]
  iapply (next_spec m K 2 c hs (p := 8 * s + 8 + 1 + 1 + 1) rfl _) $$ [H2 HO]
  · isplitr; · iexact HR
    isplitl [H2] <;> iassumption
  iintro ⟨H2, HO⟩
  rw [wp_bind]
  iapply (finish_spec m K 1 c hs (p := 8 * s + 8 + 1 + 1 + 1 + 1) rfl _ rfl _) $$ [H1 HO]
  · isplitr; · iexact HR
    isplitl [H1] <;> iassumption
  iintro ⟨H1, HO⟩
  rw [wp_bind]
  iapply (finish_spec m K 3 c hs (p := 8 * s + 8 + 1 + 1 + 1 + 1 + 1) rfl _ rfl _) $$ [H3 HO]
  · isplitr; · iexact HR
    isplitl [H3] <;> iassumption
  iintro ⟨H3, HO⟩
  rw [wp_bind]
  iapply (next_spec m K 1 c hs (p := 8 * s + 8 + 1 + 1 + 1 + 1 + 1 + 1) rfl _) $$ [H1 HO]
  · isplitr; · iexact HR
    isplitl [H1] <;> iassumption
  iintro ⟨H1, HO⟩
  iapply (next_spec m K 3 c hs (p := 8 * s + 8 + 1 + 1 + 1 + 1 + 1 + 1 + 1) rfl _) $$ [H3 HO]
  · isplitr; · iexact HR
    isplitl [H3] <;> iassumption
  iintro ⟨H3, HO⟩
  iapply Hk
  isplitl [Hx]; · iexact Hx
  isplitr [HO]
  · isplitl [H0]; · iexact H0
    isplitl [H1]; · iexact H1
    isplitl [H2] <;> iassumption
  iexact HO

/-- `n` steps, one after the other. -/
theorem steps_spec (c : Dev nD) (n : ℕ) : ∀ {s : ℕ}, s + n ≤ 14 → ∀ Q : PUnit → sProp 𝕄,
    iprop(records m K ∗ xPts m c ∗ flights c s ∗ Ow c (8 * s + 8))
      ⊢ iprop((iprop(xPts m c ∗ flights c (s + n) ∗ Ow c (8 * (s + n) + 8)) -∗ Q ⟨⟩)
        -∗ run c (steps c (k0_pay2 (wstg m c)) s n) Q) := by
  induction n with
  | zero =>
    intro s _ Q
    unfold steps run
    simp only [Prog.pure_eq_ret]
    rw [wp_ret]
    iintro ⟨-, H⟩ Hk
    imodintro
    iapply Hk
    iexact H
  | succ n ih =>
    intro s h Q
    unfold steps
    unfold run
    rw [wp_bind]
    iintro ⟨#HR, H⟩ Hk
    iapply (step_spec m K c (s := s) (by omega) _) $$ [H]
    · isplitr; · iexact HR
      iexact H
    iintro H
    rw [show s + (n + 1) = s + 1 + n by omega]
    iapply (ih (s := s + 1) (by omega) _) $$ [H]
    · isplitr; · iexact HR
      iexact H
    iexact Hk

/-! ## The last step -/

/-- Loading a scale returns its one element. -/
theorem loadScale_spec (c : Dev nD) (r : Memref sig .tc .smem S1 .f32) (f : Buf (Elt F) ((r.access (Rect.unit (s := S1) ![0] S1.size inb_S1_S1_0)).loc (c : Thread nD τ)))
    (Q : Elt F .f32 → sProp 𝕄) :
    (((r.access (Rect.unit (s := S1) ![0] S1.size inb_S1_S1_0)).loc (c : Thread nD τ) ↦{fullShare} f) : sProp 𝕄)
      ⊢ iprop((((r.access (Rect.unit (s := S1) ![0] S1.size inb_S1_S1_0)).loc (c : Thread nD τ) ↦{fullShare} f)
          -∗ Q ((r.access (Rect.unit (s := S1) ![0] S1.size inb_S1_S1_0)).read (Elt F) f (Shape.Idx.first (by decide))))
        -∗ run c (loadScale r) Q) := by
  unfold run loadScale smemLoad
  iintro H Hk
  iapply (wp_smemLoadElt 𝒱₀ (c : Thread nD τ) none Set.univ (m := r) (S := Finset.univ) (Finset.subset_univ _)) $$ H
  iintro H
  rw [wp_ret]; imodintro
  iapply Hk
  iexact H

/-- The last step of a ring: the sum, scaled, is stored in the ring's columns of the result. -/
theorem deliver_spec (i : Fin 4) (c : Dev nD) (f : (cc0_stg4_0 : Ref sig .tc).ty.Contents (Elt F)) (Q : PUnit → sProp 𝕄) :
    iprop(records m K ∗ flight i c 14 ∗ Ow c 120 ∗ aPts m c ∗ bPts m c ∗ oPts c f)
      ⊢ iprop((iprop(done m i c 14 ∗ Ow c 120 ∗ aPts m c ∗ bPts m c ∗ oPts c (putCols m i c f)) -∗ Q ⟨⟩)
        -∗ run c (deliver i (prod i (k0_pay2 (wstg m c)) (xrows m c (chunk i c 15)))) Q) := by
  unfold deliver
  unfold run
  rw [wp_bind]
  iintro ⟨#HR, Hf, HO, Ha, Hb, Ho⟩ Hk
  iapply (await_spec m K i c (s := 14) (p := 120) (by decide) (posE_last i) _) $$ [Hf HO]
  · isplitr; · iexact HR
    isplitl [Hf] <;> iassumption
  unfold done
  iintro ⟨⟨Hs, Hsl, Hd⟩, HO⟩
  ihave Hsl := (show (slotOwn c i (sl (14 + 1)) (blk m i (src i c) 14) : sProp 𝕄) ⊢ slotOwn c i 1 (blk m i (src i c) 14) from BIBase.Entails.refl) $$ Hsl
  rw [wp_bind]
  iapply (loadSlot_spec c i 1 (blk m i (src i c) 14) _) $$ Hsl
  iintro Hsl
  unfold aPts bPts oPts
  rw [wp_bind]
  iapply (loadScale_spec c aM (astg m c) _) $$ Ha
  iintro Ha
  rw [wp_bind]
  iapply (loadScale_spec c bM (bstg m c) _) $$ Hb
  iintro Hb
  simp only [Prog.lift, Prog.bind_op, Prog.bind_ret]
  iapply (wp_load_rect 𝒱₀ (c : Thread nD τ) none Set.univ (m := oM) (r := colsR i) (S := Finset.univ) (Finset.subset_univ _)) $$ Ho
  iintro Ho
  iapply (wp_store 𝒱₀ (c : Thread nD τ) none Set.univ (m := oM) (r := colsR i) (Mk := Finset.univ) (S := Finset.univ) (Finset.subset_univ _)) $$ Ho
  iintro Ho
  rw [wp_ret]; imodintro
  iapply Hk
  isplitl [Hs Hsl Hd]
  · isplitl [Hs]; · iexact Hs
    isplitl [Hsl]; · iexact Hsl
    iexact Hd
  isplitl [HO]; · iexact HO
  isplitl [Ha]; · iexact Ha
  isplitl [Hb]; · iexact Hb
  iexact Ho

end Cert.KernelIdeal.Rings

end
-- ==== Proof.Run.lean ====
/-
# The whole body of a device

The handshake on the barrier, the first blocks and transfers, the fourteen equal steps, the last one; then every cell the
device owns is closed, its counter at zero.
-/
module

public import proofs.«01_k».proof.Proof.Body

@[expose] public section

noncomputable section

namespace Cert.KernelIdeal.Rings

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ

variable (m : (ℓ : Loc nD τ sig) → Buf (Elt F) ℓ) (K : Dev nD × Key → ℕ)

/-- What ring `i` of device `c` starts with: its positions in its five cells and the tokens of all its steps. -/
def ring (i : Fin 4) (c : Dev nD) : sProp 𝕄 := iprop(posS i c 0 ∗ posR i c 0 ∗ posCr i c 0 ∗ toks i c 0 0)

/-- What device `c` starts the handshake with. -/
def barStart (c : Dev nD) : sProp 𝕄 :=
  iprop(atPos ER (kcell c none) 0 ∅ 0 ∗ reached ER (kcell (prv c) none) 0 ∗ reached ER (kcell (nxt c) none) 0
    ∗ dutyTok ER (kcell (prv c) none) 0 true ∗ dutyTok ER (kcell (nxt c) none) 0 false ∗ cred (tallyAt (kcell c none) 1 2))

/-- Device `c`'s staged rows of `w`. -/
def wPts (c : Dev nD) : sProp 𝕄 := iprop((c : Thread nD τ).loc cc0_stg1_0 ↦{fullShare} wstg m c)

omit [FloatOps F] in
/-- A ring at its start has its receive semaphores at round zero. -/
theorem ring_reached (i : Fin 4) (c : Dev nD) : (ring i c : sProp 𝕄) ⊢ iprop(ring i c ∗ reached ER (kcell c (kRecv i 1)) 0) := by
  unfold ring posR
  iintro ⟨HS, ⟨⟨Ha, #Hr⟩, HR⟩, HC⟩
  isplitl
  · isplitl [HS]; · iexact HS
    isplitl [Ha HR]
    · isplitl [Ha]
      · isplitl [Ha]; · iexact Ha
        iexact Hr
      iexact HR
    iexact HC
  iexact Hr

/-- The device reads its own number. -/
theorem deviceId_spec (c : Dev nD) (Q : Dev nD → sProp 𝕄) : Q c ⊢ run c (Prog.lift .deviceId) Q := by
  unfold run
  simp only [Prog.lift, wp_deviceId]
  rw [wp_ret]
  iintro H
  imodintro
  iexact H

/-- One signal of the handshake: two rings' second slots go to the device that will write them. -/
theorem give_spec (c n n' : Dev nD) (hn' : n' = n) (d : Bool) (i j : Fin 4) (p : ℕ) (hpay : (barPay n d : sProp 𝕄) = iprop(barPay1 i n ∗ barPay1 j n))
    (hi : dst i n = c) (hj : dst j n = c) (hO : Owed c p = Owed c (p + 1) + tallyAt (kcell n none) 1 1) (Q : PUnit → sProp 𝕄) :
    iprop(records m K ∗ dutyTok ER (kcell n none) 0 d ∗ reached ER (kcell n none) 0 ∗ (ring i c ∗ slotAny c i 1) ∗ (ring j c ∗ slotAny c j 1) ∗ Ow c p)
      ⊢ iprop((iprop(ring i c ∗ ring j c ∗ Ow c (p + 1)) -∗ Q ⟨⟩) -∗ run c (semSignalWord n' barS 1#32) Q) := by
  subst hn'
  unfold Ow run semSignalWord
  rw [hO]
  iintro ⟨#HR, Ht, Hr, ⟨Hi, Hsi⟩, ⟨Hj, Hsj⟩, ⟨%W, HO⟩⟩ Hk
  ihave #I1 := (inv_of m K n' none) $$ HR
  icases (ring_reached i c) $$ Hi with ⟨Hi, #Hri⟩
  icases (ring_reached j c) $$ Hj with ⟨Hj, #Hrj⟩
  iapply (Rounds.wp_signal 𝒱₀ ER (sched m) (c : Thread nD τ) none (dst := (n' : Thread nD τ)) (κ := K (n', none))
      (sem := barS) (r := 0) (d := d)
      (by rw [← csem_bar, duties_cell, dut_bar]; exact Finset.mem_univ _)
      ((amount_cell m n' none 0 d).trans rfl) 1 (Owed c (p + 1)) rfl) $$ [HO Ht Hr Hsi Hsj]
  · isplitr; · iexact I1
    isplitl [HO]; · iexact HO
    isplitl [Ht]; · iexact Ht
    isplitl [Hsi Hsj]
    · rw [← csem_bar, payload_cell, show pay m none n' 0 d = barPay n' d from rfl, hpay]
      unfold barPay1
      rw [hi, hj]
      isplitl [Hsi]
      · isplitl [Hsi]; · iexact Hsi
        iexact Hri
      isplitl [Hsj]; · iexact Hsj
      iexact Hrj
    iexact Hr
  iintro HO
  rw [wp_ret]; imodintro
  iapply Hk
  isplitl [Hi]; · iexact Hi
  isplitl [Hj]; · iexact Hj
  iexists W; iexact HO

/-- The wait of the handshake. -/
theorem barWait_spec (c : Dev nD) (Q : PUnit → sProp 𝕄) :
    iprop(records m K ∗ atPos ER (kcell c none) 0 ∅ 0 ∗ cred (tallyAt (kcell c none) 1 2) ∗ Ow c 2)
      ⊢ iprop((iprop(barPay c false ∗ barPay c true ∗ atPos ER (kcell c none) 1 ∅ 0 ∗ Ow c 2) -∗ Q ⟨⟩)
        -∗ run c (semWaitWord barS 2#32) Q) := by
  unfold Ow run semWaitWord
  iintro ⟨#HR, Ha, Hc, ⟨%W, HO⟩⟩ Hk
  ihave #I1 := (inv_of m K c none) $$ HR
  iapply (Rounds.wp_wait_rest_token 𝒱₀ ER (sched m) (c : Thread nD τ) none (κ := K (c, none))
      (wpE_semWait_eq 𝒱₀ (c : Thread nD τ) none Set.univ) (Set.mem_univ _) 1
      (O := Owed c 2) (W := W) (R := 0) (m := 0) (T := ∅)
      (by rw [← csem_bar, expect_bar m c]; rfl)) $$ [Hc HO Ha]
  · isplitr; · iexact I1
    isplitl [Hc]; · iexact Hc
    isplitl [HO]; · iexact HO
    isplitr; · iapply (mayWait_of m K c _ 1 2 (by decide) (by decide)); iexact HR
    iexact Ha
  rw [← csem_bar, rest_bar m c]
  iintro ⟨HO, Ha, -, ⟨Hf, Ht⟩⟩
  rw [wp_ret]; imodintro
  iapply Hk
  isplitl [Hf]; · iexact Hf
  isplitl [Ht]; · iexact Ht
  isplitl [Ha]; · iexact Ha
  iexists _; iexact HO

/-- An offset of two zeros. -/
theorem zeros2 : (![0, 0] : Fin 2 → ℕ) = fun _ => 0 := funext fun a => by fin_cases a <;> rfl

/-- Loading the rows of `w` returns them. -/
theorem loadW_spec (c : Dev nD) (Q : Vec F S256x8192 .fp8e5m2 → sProp 𝕄) :
    wPts m c ⊢ iprop((wPts m c -∗ Q (wstg m c)) -∗ run c loadW Q) := by
  unfold wPts run loadW Prog.lift
  iintro Hx Hk
  iapply (wp_load 𝒱₀ (c : Thread nD τ) none Set.univ (m := wM) (Finset.subset_univ _)) $$ Hx
  iintro Hx
  rw [show wM.view.readAt (Elt F) (Rect.unit (s := S256x8192) ![0, 0] S256x8192.size inb_S256x8192_S256x8192_0_0).toLoadRect (wstg m c) = wstg m c
    from Memref.readAt_unit_zero (Elt F) cc0_stg1_0 zeros2 _ _]
  rw [wp_ret]; imodintro
  iapply Hk
  iexact Hx

/-- A ring is ready for its first step once the handshake is over and its first block is stored. -/
theorem ready_zero (i : Fin 4) (c : Dev nD) : iprop(ring i c ∗ slotOwn c i 0 (blk m i c 0) ∗ barPay1 i c) ⊢ ready m i c 0 := by
  unfold ring ready barPay1
  iintro ⟨⟨HS, HR, HC, HT⟩, Hs, ⟨Hd, Hr⟩⟩
  isplitl [Hs]; · iexact Hs
  isplitl [Hd]; · iexact Hd
  isplitl [Hr]; · iexact Hr
  isplitl [HS]; · iexact HS
  isplitl [HR]; · iexact HR
  isplitl [HC] <;> iassumption

/-- The device's rings, each with its two slots. -/
def rings (c : Dev nD) (Φ : Fin 4 → sProp 𝕄) : sProp 𝕄 := iprop(Φ 0 ∗ Φ 1 ∗ Φ 2 ∗ Φ 3)

set_option maxHeartbeats 800000 in
/-- The whole body. -/
theorem body_spec (c : Dev nD) (f : (cc0_stg4_0 : Ref sig .tc).ty.Contents (Elt F)) (Q : PUnit → sProp 𝕄) :
    iprop(records m K ∗ barStart c ∗ rings c (fun i => iprop(ring i c ∗ slotAny c i 0 ∗ slotAny c i 1)) ∗ Ow c 0
        ∗ xPts m c ∗ wPts m c ∗ aPts m c ∗ bPts m c ∗ oPts c f)
      ⊢ iprop((iprop(rings c (fun i => done m i c 14) ∗ atPos ER (kcell c none) 1 ∅ 0 ∗ Ow c 120
          ∗ xPts m c ∗ wPts m c ∗ aPts m c ∗ bPts m c ∗ oPts c (outOf m c f)) -∗ Q ⟨⟩) -∗ run c body Q) := by
  unfold body barStart rings
  unfold run
  rw [wp_bind]
  iintro ⟨#HR, ⟨Hat, Hrp, Hrn, Htp, Htn, Hc⟩, ⟨⟨G0, S00, S01⟩, ⟨G1, S10, S11⟩, ⟨G2, S20, S21⟩, ⟨G3, S30, S31⟩⟩, HO, Hx, Hw, Ha, Hb, Ho⟩ Hk
  iapply (deviceId_spec c _)
  rw [wp_bind]
  iapply (give_spec m K c (prv c) _ (devAt_eq (p := 0) (by decide) (by decide) c) true 0 1 0 rfl (nxt_prv c) (nxt_prv c) (Owed_zero c) _) $$ [Htp Hrp G0 S01 G1 S11 HO]
  · isplitr; · iexact HR
    isplitl [Htp]; · iexact Htp
    isplitl [Hrp]; · iexact Hrp
    isplitl [G0 S01]
    · isplitl [G0] <;> iassumption
    isplitl [G1 S11]
    · isplitl [G1] <;> iassumption
    iexact HO
  iintro ⟨G0, G1, HO⟩
  rw [wp_bind]
  iapply (give_spec m K c (nxt c) _ (devAt_eq (p := 1) (by decide) (by decide) c) false 2 3 (0 + 1) rfl (prv_nxt c) (prv_nxt c) (Owed_one c) _) $$ [Htn Hrn G2 S21 G3 S31 HO]
  · isplitr; · iexact HR
    isplitl [Htn]; · iexact Htn
    isplitl [Hrn]; · iexact Hrn
    isplitl [G2 S21]
    · isplitl [G2] <;> iassumption
    isplitl [G3 S31]
    · isplitl [G3] <;> iassumption
    iexact HO
  iintro ⟨G2, G3, HO⟩
  rw [wp_bind]
  iapply (barWait_spec m K c _) $$ [Hat Hc HO]
  · isplitr; · iexact HR
    isplitl [Hat]; · iexact Hat
    isplitl [Hc] <;> iassumption
  iintro ⟨Hf, Ht, Hat, HO⟩
  ihave Hf := (show (barPay c false : sProp 𝕄) ⊢ iprop(barPay1 2 c ∗ barPay1 3 c) from BIBase.Entails.refl) $$ Hf
  ihave Ht := (show (barPay c true : sProp 𝕄) ⊢ iprop(barPay1 0 c ∗ barPay1 1 c) from BIBase.Entails.refl) $$ Ht
  icases Hf with ⟨P2, P3⟩
  icases Ht with ⟨P0, P1⟩
  rw [wp_bind]
  iapply (loadW_spec m c _) $$ Hw; iintro Hw
  rw [wp_bind]
  iapply (prepare_spec m 0 c _) $$ [Hx S00]
  · isplitl [Hx] <;> iassumption
  iintro ⟨Hx, S00⟩
  rw [wp_bind]
  iapply (prepare_spec m 1 c _) $$ [Hx S10]
  · isplitl [Hx] <;> iassumption
  iintro ⟨Hx, S10⟩
  rw [wp_bind]
  iapply (prepare_spec m 2 c _) $$ [Hx S20]
  · isplitl [Hx] <;> iassumption
  iintro ⟨Hx, S20⟩
  rw [wp_bind]
  iapply (prepare_spec m 3 c _) $$ [Hx S30]
  · isplitl [Hx] <;> iassumption
  iintro ⟨Hx, S30⟩
  ihave R0 := (ready_zero m 0 c) $$ [G0 S00 P0]
  · isplitl [G0]; · iexact G0
    isplitl [S00] <;> iassumption
  ihave R1 := (ready_zero m 1 c) $$ [G1 S10 P1]
  · isplitl [G1]; · iexact G1
    isplitl [S10] <;> iassumption
  ihave R2 := (ready_zero m 2 c) $$ [G2 S20 P2]
  · isplitl [G2]; · iexact G2
    isplitl [S20] <;> iassumption
  ihave R3 := (ready_zero m 3 c) $$ [G3 S30 P3]
  · isplitl [G3]; · iexact G3
    isplitl [S30] <;> iassumption
  rw [wp_bind]
  iapply (start_spec m K 0 c (s := 0) (p := 2) (by decide) rfl _) $$ [R0 HO]
  · isplitr; · iexact HR
    isplitl [R0] <;> iassumption
  iintro ⟨R0, HO⟩
  rw [wp_bind]
  iapply (start_spec m K 2 c (s := 0) (p := 2 + 1) (by decide) rfl _) $$ [R2 HO]
  · isplitr; · iexact HR
    isplitl [R2] <;> iassumption
  iintro ⟨R2, HO⟩
  ihave HO := (show (Ow c (2 + 1 + 1) : sProp 𝕄) ⊢ Ow c 6 from by
    unfold Ow; rw [show 2 + 1 + 1 = 4 from rfl, Owed_four c]) $$ HO
  rw [wp_bind]
  iapply (start_spec m K 1 c (s := 0) (p := 6) (by decide) rfl _) $$ [R1 HO]
  · isplitr; · iexact HR
    isplitl [R1] <;> iassumption
  iintro ⟨R1, HO⟩
  rw [wp_bind]
  iapply (start_spec m K 3 c (s := 0) (p := 6 + 1) (by decide) rfl _) $$ [R3 HO]
  · isplitr; · iexact HR
    isplitl [R3] <;> iassumption
  iintro ⟨R3, HO⟩
  rw [wp_bind]
  iapply (steps_spec m K c 14 (s := 0) (by decide) _) $$ [Hx R0 R1 R2 R3 HO]
  · isplitr; · iexact HR
    isplitl [Hx]; · iexact Hx
    isplitr [HO]
    · unfold flights
      isplitl [R0]; · iexact R0
      isplitl [R1]; · iexact R1
      isplitl [R2] <;> iassumption
    iexact HO
  unfold flights
  iintro ⟨Hx, ⟨R0, R1, R2, R3⟩, HO⟩
  rw [wp_bind]
  iapply (multiply_spec m 0 c (s := 14) (by decide) _ _) $$ Hx; iintro Hx
  rw [wp_bind]
  iapply (multiply_spec m 1 c (s := 14) (by decide) _ _) $$ Hx; iintro Hx
  rw [wp_bind]
  iapply (multiply_spec m 2 c (s := 14) (by decide) _ _) $$ Hx; iintro Hx
  rw [wp_bind]
  iapply (multiply_spec m 3 c (s := 14) (by decide) _ _) $$ Hx; iintro Hx
  rw [wp_bind]
  iapply (deliver_spec m K 0 c f _) $$ [R0 HO Ha Hb Ho]
  · isplitr; · iexact HR
    isplitl [R0]; · iexact R0
    isplitl [HO]; · iexact HO
    isplitl [Ha]; · iexact Ha
    isplitl [Hb] <;> iassumption
  iintro ⟨R0, HO, Ha, Hb, Ho⟩
  rw [wp_bind]
  iapply (deliver_spec m K 2 c _ _) $$ [R2 HO Ha Hb Ho]
  · isplitr; · iexact HR
    isplitl [R2]; · iexact R2
    isplitl [HO]; · iexact HO
    isplitl [Ha]; · iexact Ha
    isplitl [Hb] <;> iassumption
  iintro ⟨R2, HO, Ha, Hb, Ho⟩
  rw [wp_bind]
  iapply (deliver_spec m K 1 c _ _) $$ [R1 HO Ha Hb Ho]
  · isplitr; · iexact HR
    isplitl [R1]; · iexact R1
    isplitl [HO]; · iexact HO
    isplitl [Ha]; · iexact Ha
    isplitl [Hb] <;> iassumption
  iintro ⟨R1, HO, Ha, Hb, Ho⟩
  iapply (deliver_spec m K 3 c _ _) $$ [R3 HO Ha Hb Ho]
  · isplitr; · iexact HR
    isplitl [R3]; · iexact R3
    isplitl [HO]; · iexact HO
    isplitl [Ha]; · iexact Ha
    isplitl [Hb] <;> iassumption
  iintro ⟨R3, HO, Ha, Hb, Ho⟩
  iapply Hk
  isplitl [R0 R1 R2 R3]
  · isplitl [R0]; · iexact R0
    isplitl [R1]; · iexact R1
    isplitl [R2] <;> iassumption
  isplitl [Hat]; · iexact Hat
  isplitl [HO]; · iexact HO
  isplitl [Hx]; · iexact Hx
  isplitl [Hw]; · iexact Hw
  isplitl [Ha]; · iexact Ha
  isplitl [Hb]; · iexact Hb
  iexact Ho

/-! ## Closing the cells -/

/-- Ring `i`'s five counters at zero. -/
def ringZero (i : Fin 4) (c : Dev nD) : sProp 𝕄 :=
  iprop(semVal (kcell c (kSend i 0)) 0 ∗ semVal (kcell c (kSend i 1)) 0 ∗ semVal (kcell c (kRecv i 0)) 0 ∗ semVal (kcell c (kRecv i 1)) 0
    ∗ semVal (kcell c (kCred i)) 0)

/-- A cell whose last round is over gives its counter back, at zero. -/
theorem close_spec (c : Dev nD) (κ : Key) (R : ℕ) (h : ∀ r, R ≤ r → dut κ r = ∅) :
    iprop(records m K ∗ atPos ER (kcell c κ) R ∅ 0) ⊢ (|={Set.univ}=> semVal (kcell c κ) 0 : sProp 𝕄) := by
  iintro ⟨#HR, Ha⟩
  iapply (Rounds.cell_close ER (sched m) (Set.mem_univ (K (c, κ))) (fun h => h) (R := R)
    (fun r hr => (duties_cell m c κ r).trans (h r hr)))
  isplitr; · iapply (inv_of m K c κ); iexact HR
  iexact Ha

/-- After its last step a ring's cells close; its two slots are at some contents. -/
theorem ring_close (i : Fin 4) (c : Dev nD) :
    iprop(records m K ∗ done m i c 14) ⊢ (|={Set.univ}=> iprop((slotAny c i 0 ∗ slotAny c i 1) ∗ ringZero i c) : sProp 𝕄) := by
  unfold done posS posR posCr ringZero
  iintro ⟨#HR, ⟨S0, S1, -, ⟨⟨A1, -⟩, ⟨A2, -⟩⟩, ⟨⟨A3, -⟩, ⟨A4, -⟩⟩, ⟨A5, -⟩, -⟩⟩
  imod (close_spec m K c (kSend i 1) 7 (fun r hr => dut_over_send i 1 r hr)) $$ [A1] with Z1
  · isplitr; · iexact HR
    iexact A1
  imod (close_spec m K c (kSend i 0) 8 (fun r hr => dut_over_send i 0 r hr)) $$ [A2] with Z2
  · isplitr; · iexact HR
    iexact A2
  imod (close_spec m K c (kRecv i 0) 7 (fun r hr => dut_over_recv i 0 r hr)) $$ [A3] with Z3
  · isplitr; · iexact HR
    iexact A3
  imod (close_spec m K c (kRecv i 1) 8 (fun r hr => dut_over_recv i 1 r hr)) $$ [A4] with Z4
  · isplitr; · iexact HR
    iexact A4
  imod (close_spec m K c (kCred i) 14 (fun r hr => dut_over_cred i r hr)) $$ [A5] with Z5
  · isplitr; · iexact HR
    iexact A5
  imodintro
  isplitl [S0 S1]
  · isplitl [S0]; · iexact S0
    iapply (slotOwn_any c i 1 (blk m i (src i c) 14))
    iexact S1
  isplitl [Z2]; · iexact Z2
  isplitl [Z1]; · iexact Z1
  isplitl [Z3]; · iexact Z3
  isplitl [Z4] <;> iassumption

end Cert.KernelIdeal.Rings

end
-- ==== Proof.Slots.lean ====
/-
# A ring's buffer is its two slots

The two slots' elements are disjoint and together the whole buffer.
-/
module

public import proofs.«01_k».proof.Proof.Run

@[expose] public section

noncomputable section

namespace Cert.KernelIdeal.Rings

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

local notation "𝕄" => MT nD τ sig ℕ (Elt F) ℕ UU ℕ

/-- An element lies in slot `k` when its first coordinate is `k`. -/
theorem mem_slotR (k : Fin 2) (x : S2x256x2048.Idx) : x ∈ (slotR k).set ↔ (x 0).val = k.val := by
  unfold slotR
  rw [Rect.mem_set_unit]
  constructor
  · intro h
    have h0 := h 0
    replace h0 : k.val ≤ (x 0).val ∧ (x 0).val < k.val + 1 := h0
    omega
  · intro h a
    fin_cases a
    · show k.val ≤ (x 0).val ∧ (x 0).val < k.val + 1
      omega
    · exact ⟨Nat.zero_le _, (Nat.zero_add _).symm ▸ (x 1).isLt⟩
    · exact ⟨Nat.zero_le _, (Nat.zero_add _).symm ▸ (x 2).isLt⟩

/-- The two slots share no element, -/
theorem slots_disjoint : Disjoint (slotR 0).set (slotR 1).set := by
  rw [Finset.disjoint_left]
  intro x h0 h1
  rw [mem_slotR] at h0 h1
  exact absurd (h0.symm.trans h1) (by decide)
/-- and there is no other. -/
theorem slots_cover : (slotR 0).set ∪ (slotR 1).set = Finset.univ := by
  ext x
  rw [Finset.mem_union, mem_slotR, mem_slotR]
  have h : (x 0).val < 2 := (x 0).isLt
  have h0 : (0 : Fin 2).val = 0 := rfl
  have h1 : (1 : Fin 2).val = 1 := rfl
  rw [h0, h1]
  exact ⟨fun _ => Finset.mem_univ _, fun _ => by omega⟩

section Whole
variable (M : Memref sig .tc .vmem S2x256x2048 .bf16) (hM : M.view.set = Finset.univ) (c : Dev nD)

/-- The same, read through a ring's buffer: no element shared, -/
theorem access_disjoint : Disjoint (M.access (slotR 0)).set (M.access (slotR 1)).set := by
  unfold Memref.access
  rw [View.set_slice, View.set_slice]
  exact (Finset.disjoint_map _).mpr slots_disjoint
include hM in
/-- and none left over. -/
theorem access_cover : ((M.access (slotR 0)).set ∪ (M.access (slotR 1)).set : Finset M.view.ty.Idx) = Finset.univ := by
  unfold Memref.access
  rw [View.set_slice, View.set_slice]
  refine (Finset.map_union _ _).symm.trans ?_
  rw [slots_cover]
  exact hM

include hM in
/-- The two slots, held, are the buffer, held. -/
theorem halves_join : iprop(ownAny (F := F) M (slotR 0) c ∗ ownAny M (slotR 1) c)
    ⊢ (iprop(∃ f : Buf (Elt F) (M.view.loc (c : Thread nD τ)), M.view.loc (c : Thread nD τ) ↦{fullShare} f) : sProp 𝕄) := by
  unfold ownAny
  iintro ⟨⟨%f, Hf⟩, ⟨%g, Hg⟩⟩
  ihave H := (pointsTo_join (ℓ := M.view.loc (c : Thread nD τ)) (q := fullShare) (f := f) (g := g) (access_disjoint M)) $$ [Hf Hg]
  · isplitl [Hf]; · iexact Hf
    iexact Hg
  rw [access_cover M hM]
  iexists _; iexact H
include hM in
/-- The buffer, held, is the two slots, held. -/
theorem halves_split (f : Buf (Elt F) (M.view.loc (c : Thread nD τ))) :
    (M.view.loc (c : Thread nD τ) ↦{fullShare} f : sProp 𝕄) ⊢ iprop(ownAny (F := F) M (slotR 0) c ∗ ownAny M (slotR 1) c) := by
  rw [show (M.view.loc (c : Thread nD τ) ↦{fullShare} f : sProp 𝕄)
      = (M.view.loc (c : Thread nD τ) ↦[(M.access (slotR 0)).set ∪ (M.access (slotR 1)).set]{fullShare} f) from by rw [access_cover M hM]]
  refine (pointsTo_union (access_disjoint M)).1.trans ?_
  unfold ownAny
  iintro ⟨H0, H1⟩
  isplitl [H0]
  · iexists f; iexact H0
  iexists f; iexact H1
end Whole

/-- Ring `i`'s buffer on device `c`, whole, at some contents. -/
def commAny (i : Fin 4) (c : Dev nD) : sProp 𝕄 :=
  iprop(∃ f : Buf (Elt F) ((comm i).view.loc (c : Thread nD τ)), (comm i).view.loc (c : Thread nD τ) ↦{fullShare} f)

/-- A ring's buffer is all of its memory. -/
theorem comm_whole (i : Fin 4) : (comm i).view.set = Finset.univ :=
  match i with
  | 0 => View.set_whole _ | 1 => View.set_whole _ | 2 => View.set_whole _ | 3 => View.set_whole _

/-- A ring's two slots make its buffer. -/
theorem commAny_join (i : Fin 4) (c : Dev nD) : iprop(slotAny (F := F) c i 0 ∗ slotAny c i 1) ⊢ commAny i c :=
  halves_join (comm i) (comm_whole i) c
/-- A ring's buffer comes apart into its two slots. -/
theorem commAny_split (i : Fin 4) (c : Dev nD) : (commAny i c : sProp 𝕄) ⊢ iprop(slotAny (F := F) c i 0 ∗ slotAny c i 1) := by
  unfold commAny
  iintro ⟨%f, H⟩
  iapply (halves_split (comm i) (comm_whole i) c f)
  iexact H

/-- What the launch leaves of the scoped buffers is the four rings' buffers. -/
theorem scopedRest_eq (c : Dev nD) :
    (Pipeline.scopedRest (Ix := ℕ) (Name := ℕ) (U := UU) (Lvl := ℕ) (Val := Elt F) spec0 c : sProp 𝕄)
      = iprop(commAny 0 c ∗ commAny 1 c ∗ commAny 2 c ∗ commAny 3 c) := by
  rw [scopedRest0_eq]; rfl

end Cert.KernelIdeal.Rings

end
-- ==== Proof.Deal.lean ====
/-
# What the launch deals to each device

Every cell's positions and duties are minted on the device that owns the cell. The duties are then dealt to the devices
that pay them — along the cycle for the transfers, against it for the credits — and the credit of what a device will be
sent is split into the pieces its waits take.
-/
module

public import proofs.«01_k».proof.Proof.Slots
public import Idealize.ShloMosaic.Lib.Pipeline.Launch
public import Mathlib.Tactic.Abel

@[expose] public section

noncomputable section

namespace Cert.KernelIdeal.Rings

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ

variable (m : (ℓ : Loc nD τ sig) → Buf (Elt F) ℓ) (K : Dev nD × Key → ℕ)

/-! ## Families of assertions -/

omit [FloatOps F] in
/-- A family over the four rings, written out, -/
theorem bigSep_four (Φ : Fin 4 → sProp 𝕄) : bigSep Finset.univ Φ = iprop(Φ 0 ∗ Φ 1 ∗ Φ 2 ∗ Φ 3) :=
  bigSep_univ_eq_bigSepL [0, 1, 2, 3] (by decide) (by decide) Φ
omit [FloatOps F] in
/-- over five things, -/
theorem bigSep_five (Φ : Fin 5 → sProp 𝕄) : bigSep Finset.univ Φ = iprop(Φ 0 ∗ Φ 1 ∗ Φ 2 ∗ Φ 3 ∗ Φ 4) :=
  bigSep_univ_eq_bigSepL [0, 1, 2, 3, 4] (by decide) (by decide) Φ
omit [FloatOps F] in
/-- over the two payers, -/
theorem bigSep_two (Φ : Bool → sProp 𝕄) : bigSep Finset.univ Φ = iprop(Φ true ∗ Φ false) :=
  bigSep_univ_eq_bigSepL [true, false] (by decide) (by decide) Φ

omit [FloatOps F] in
/-- A family over the cells of a device: the barrier's, and the twenty of the rings. -/
theorem bigSep_key (Φ : Key → sProp 𝕄) :
    bigSep Finset.univ Φ = iprop(Φ none ∗ bigSep Finset.univ fun i : Fin 4 => bigSep Finset.univ fun j : Fin 5 => Φ (some (i, j))) := by
  have h : (Finset.univ : Finset Key).erase none = (Finset.univ : Finset (Fin 4 × Fin 5)).map Function.Embedding.some := by
    ext x; cases x <;> simp
  rw [bigSep_univ_split none, h, bigSep_map, bigSep_univ_prod]
  rfl

omit [FloatOps F] in
/-- and over the numbers below `n`. -/
theorem bigSep_range (n : ℕ) (Φ : ℕ → sProp 𝕄) : bigSep (Finset.Ico 0 n) Φ = bigSep Finset.univ fun t : Fin n => Φ t.val := by
  have h : Finset.Ico 0 n = (Finset.univ : Finset (Fin n)).map Fin.valEmbedding := by
    ext x; simp only [Finset.mem_Ico, Finset.mem_map, Finset.mem_univ, true_and, Fin.valEmbedding_apply]
    exact ⟨fun hx => ⟨⟨x, hx.2⟩, rfl⟩, fun ⟨t, ht⟩ => ⟨Nat.zero_le x, ht ▸ t.isLt⟩⟩
  rw [h, bigSep_map]
  rfl

/-! ## The duties -/

/-- Which of a device's duties: its barrier's two; on each ring the fifteen of its send cells, the fifteen of its receive
    cells and the fourteen of its credit cell. -/
abbrev Duty : Type := Bool ⊕ (Fin 4 × (Fin 15 ⊕ (Fin 15 ⊕ Fin 14)))

/-- A duty's cell, round and name. -/
def dutyAt (j : Duty) : Key × ℕ × Bool :=
  match j with
  | .inl b => (none, 0, b)
  | .inr (i, .inl t) => (kSend i (sl t.val), t.val / 2, true)
  | .inr (i, .inr (.inl t)) => (kRecv i (sl (t.val + 1)), t.val / 2, true)
  | .inr (i, .inr (.inr t)) => (kCred i, t.val, true)

/-- The device whose duty it is that `c` pays: itself for its sends, the one it sends to for the landings, the one it
    receives from for the credits. -/
def owner (j : Duty) : Dev nD ≃ Dev nD :=
  match j with
  | .inl true => cyc.symm
  | .inl false => cyc
  | .inr (_, .inl _) => Equiv.refl _
  | .inr (i, .inr (.inl _)) => dstE i
  | .inr (i, .inr (.inr _)) => (dstE i).symm

set_option maxRecDepth 100000 in
/-- Different duties are at different cells, rounds or payers. -/
theorem dutyAt_injective : Function.Injective dutyAt := by
  have h : ∀ a b : Duty, dutyAt a = dutyAt b → a = b := by decide +kernel
  exact fun a b => h a b

/-- The token of a duty on a device. -/
def cellTok (cj : Dev nD × Duty) : GSem nD τ sig × ℕ × Bool := (kcell cj.1 (dutyAt cj.2).1, (dutyAt cj.2).2)

/-- Different devices or keys have different cells. -/
theorem kcell_injective : Function.Injective fun ck : Dev nD × Key => kcell ck.1 ck.2 := by
  rintro ⟨c, k⟩ ⟨c', k'⟩ h
  have h1 : c = c' := congrArg (fun g : GSem nD τ sig => g.1.1) h
  have h2 : csem k = csem k' := congrArg Prod.snd h
  rw [h1, csem_injective h2]

/-- Different duties have different tokens. -/
theorem cellTok_injective : Function.Injective cellTok := by
  rintro ⟨c, j⟩ ⟨c', j'⟩ h
  have h0 : kcell c (dutyAt j).1 = kcell c' (dutyAt j').1 := congrArg Prod.fst h
  have h1 := kcell_injective (a₁ := (c, (dutyAt j).1)) (a₂ := (c', (dutyAt j').1)) h0
  have h3 : (dutyAt j).2 = (dutyAt j').2 := congrArg (fun x : GSem nD τ sig × ℕ × Bool => x.2) h
  have h2 : j = j' := dutyAt_injective (Prod.ext (congrArg Prod.snd h1) h3)
  rw [h2, show c = c' from congrArg Prod.fst h1]

/-- The cells of all devices, -/
def ringCells : Finset (GSem nD τ sig) := Finset.univ.map ⟨fun ck : Dev nD × Key => kcell ck.1 ck.2, kcell_injective⟩
/-- and their tokens. -/
def ringToks : Finset (GSem nD τ sig × ℕ × Bool) := Finset.univ.map ⟨cellTok, cellTok_injective⟩

/-- The token of duty `j` of device `c`. -/
def tok (c : Dev nD) (j : Duty) : sProp 𝕄 := dutyTok ER (kcell c (dutyAt j).1) (dutyAt j).2.1 (dutyAt j).2.2
/-- Device `c`'s position in a cell. -/
def posAt (c : Dev nD) (κ : Key) : sProp 𝕄 := iprop(atPos ER (kcell c κ) 0 ∅ 0 ∗ reached ER (kcell c κ) 0)

/-- What the launch element deals device `c`. -/
def minted (c : Dev nD) : sProp 𝕄 :=
  iprop((bigSep Finset.univ fun κ : Key => roundState ER (sched m) (kcell c κ) 0) ∗ (bigSep Finset.univ fun κ : Key => posAt c κ)
    ∗ bigSep Finset.univ fun j : Duty => tok c j)

/-- The cells' ghost state, minted: each device gets its positions and tokens. -/
theorem fund_rings : BI.own (ER (initOf ringCells ringToks)) ⊢ (|==> bigSep Finset.univ (minted m) : sProp 𝕄) := by
  have hX (Φ : GSem nD τ sig → sProp 𝕄) : bigSep ringCells Φ = bigSep Finset.univ fun c : Dev nD => bigSep Finset.univ fun κ : Key => Φ (kcell c κ) := by
    unfold ringCells; rw [bigSep_map, bigSep_univ_prod]; rfl
  have hT : bigSep ringToks (fun x => (dutyTok ER x.1 x.2.1 x.2.2 : sProp 𝕄))
      = bigSep Finset.univ fun c : Dev nD => bigSep Finset.univ fun j : Duty => tok c j := by
    unfold ringToks; rw [bigSep_map, bigSep_univ_prod]; rfl
  iintro HX
  imod (Rounds.fund ER (sched m) ringCells ringToks) $$ HX with ⟨Hst, Hr, Hat, Htok⟩
  imodintro
  ihave Hst' := (Entails.of_eq (hX fun g => roundState ER (sched m) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold minted posAt; simp only [bigSep_sep']
  isplitl [Hst']; · iexact Hst'
  isplitl [Hat' Hr']
  · isplitl [Hat'] <;> iassumption
  iexact Htok'

omit [FloatOps F] in
/-- The tokens dealt to the devices that pay them. -/
theorem toks_deal : (bigSep Finset.univ fun c : Dev nD => bigSep Finset.univ fun j : Duty => (tok c j : sProp 𝕄))
    = bigSep Finset.univ fun c : Dev nD => bigSep Finset.univ fun j : Duty => tok (owner j c) j := by
  rw [bigSep_univ_comm, bigSep_univ_comm (fun (c : Dev nD) (j : Duty) => (tok (owner j c) j : sProp 𝕄))]
  exact bigSep_congr fun j _ => bigSep_univ_equiv (owner j) fun c => (tok c j : sProp 𝕄)

/-! ## The credit -/

/-- All the credit of what device `c` will be sent. -/
def due (c : Dev nD) : CellTallies nD τ sig ℕ := ∑ p ∈ Finset.Ico 0 122, payTo p c

/-- What all devices owe together is what is due to all of them. -/
theorem sum_due : (∑ d : Dev nD, Owed d 0) = ∑ d : Dev nD, due d := by
  unfold Owed due
  rw [Finset.sum_comm, Finset.sum_comm (f := fun (d : Dev nD) (p : ℕ) => payTo p d)]
  exact Finset.sum_congr rfl fun p _ => Equiv.sum_comp (tgt p) (payTo p)

/-- A payment goes into a cell of the device that it is to, -/
theorem payTo_cell {p : ℕ} {c : Dev nD} {g : GSem nD τ sig} (h : payTo p c g ≠ 0) : g.1 = (c : Thread nD τ) := by
  by_contra hg
  apply h
  have hne (κ : Key) (q n : ℕ) : (tallyAt (kcell c κ) q n : CellTallies nD τ sig ℕ) g = 0 :=
    tallyAt_ne_cell (fun hc : g = kcell c κ => hg (by rw [hc])) q n
  unfold payTo
  by_cases h2 : p < 2
  · rw [if_pos h2]; exact hne _ _ _
  · rw [if_neg h2]
    rcases dec p with _ | ⟨i, _ | _, s⟩
    · rfl
    · exact hne _ _ _
    · exact hne _ _ _

/-- so what is due to a device is in its own cells. -/
theorem due_cell (c : Dev nD) (g : GSem nD τ sig) (h : due c g ≠ 0) : g.1 = (c : Thread nD τ) := by
  unfold due at h
  rw [Finset.sum_apply] at h
  obtain ⟨p, -, hp⟩ := Finset.exists_ne_zero_of_sum_ne_zero h
  exact payTo_cell hp

omit [FloatOps F] in
/-- What a device may wait for at the start is what is due to it. -/
theorem launch_due (c : Dev nD) : (Pipeline.launchCred (fun d => Owed d 0) c : sProp 𝕄) = cred (due c) :=
  Pipeline.launchCred_of_sum _ due sum_due due_cell c

/-- A sum over the positions is over the two signals, the copies and the credits. -/
theorem sum_positions {A : Type} [AddCommMonoid A] (f : ℕ → A) (h4 : f 4 = 0) (h5 : f 5 = 0) (h120 : f 120 = 0) (h121 : f 121 = 0) :
    ∑ p ∈ Finset.Ico 0 122, f p
      = f 0 + f 1 + ∑ i : Fin 4, (∑ t ∈ Finset.Ico 0 15, f (posE i t) + ∑ t ∈ Finset.Ico 0 14, f (posC i t)) := by
  simp only [Nat.Ico_zero_eq_range, Fin.sum_univ_four, posE, posC, Finset.sum_range_succ, Finset.sum_range_zero, Nat.reduceMul, Nat.reduceAdd,
    h4, h5, h120, h121, zero_add, add_zero]
  abel

/-- What is due to a device: two signals, and on each ring fifteen arrivals and fourteen credits. -/
theorem due_split (c : Dev nD) : due c = tallyAt (kcell c none) 1 2
    + ∑ i : Fin 4, (∑ t ∈ Finset.Ico 0 15, tallyAt (kcell c (kRecv i (sl (t + 1)))) (posE i t) N
      + ∑ t ∈ Finset.Ico 0 14, tallyAt (kcell c (kCred i)) (posC i t) 1) := by
  unfold due
  have h (p : ℕ) (h1 : ¬ p < 2) (h2 : dec p = none) : payTo p c = 0 := by unfold payTo; rw [if_neg h1, h2]
  rw [sum_positions (fun p => payTo p c) (h 4 (by decide) (by decide)) (h 5 (by decide) (by decide)) (h 120 (by decide) (by decide))
    (h 121 (by decide) (by decide))]
  refine congrArg₂ (· + ·) ?_ ?_
  · have h' (p : ℕ) (h1 : p < 2) : payTo p c = tallyAt (kcell c none) 1 1 := by unfold payTo; rw [if_pos h1]
    rw [h' 0 (by decide), h' 1 (by decide), tallyAt_add]
  · refine Finset.sum_congr rfl fun i _ => congrArg₂ (· + ·) (Finset.sum_congr rfl fun t _ => payTo_E i t c)
      (Finset.sum_congr rfl fun t ht => payTo_C i (Finset.mem_Ico.mp ht).2 c)

/-- The credit of ring `i`. -/
def ringDue (i : Fin 4) (c : Dev nD) : sProp 𝕄 :=
  iprop((bigSep (Finset.Ico 0 15) fun t => cred (tallyAt (kcell c (kRecv i (sl (t + 1)))) (posE i t) N))
    ∗ bigSep (Finset.Ico 0 14) fun t => cred (tallyAt (kcell c (kCred i)) (posC i t) 1))

omit [FloatOps F] in
/-- Rights to wait come apart with the amounts. -/
theorem cred_plus (A B : CellTallies nD τ sig ℕ) : (cred (A + B) : sProp 𝕄) = iprop(cred A ∗ cred B) :=
  BI.Entails.antisymm (cred_add A B).1 (cred_add A B).2

omit [FloatOps F] in
/-- The rights to wait for what is due, by ring. -/
theorem cred_due (c : Dev nD) : (cred (due c) : sProp 𝕄) = iprop(cred (tallyAt (kcell c none) 1 2) ∗ bigSep Finset.univ fun i : Fin 4 => ringDue i c) := by
  rw [due_split, cred_plus, Pipeline.cred_finsetSum]
  refine congrArg (fun P : sProp 𝕄 => iprop(cred (tallyAt (kcell c none) 1 2) ∗ P)) (bigSep_congr fun i _ => ?_)
  rw [cred_plus, Pipeline.cred_finsetSum, Pipeline.cred_finsetSum]
  rfl

/-! ## What a device starts from -/

/-- The positions and tokens device `c` starts with, and the two barrier cells it signals at round 0. -/
def dealt (c : Dev nD) : sProp 𝕄 :=
  iprop((bigSep Finset.univ fun κ : Key => posAt c κ) ∗ reached ER (kcell (prv c) none) 0 ∗ reached ER (kcell (nxt c) none) 0
    ∗ bigSep Finset.univ fun j : Duty => tok (owner j c) j)

/-- The tokens ring `i` of device `c` pays with. -/
def ringToksOf (i : Fin 4) (c : Dev nD) : sProp 𝕄 :=
  iprop((bigSep (Finset.Ico 0 15) fun t => dutyTok ER (kcell c (kSend i (sl t))) (t / 2) true)
    ∗ (bigSep (Finset.Ico 0 15) fun t => dutyTok ER (kcell (dst i c) (kRecv i (sl (t + 1)))) (t / 2) true)
    ∗ bigSep (Finset.Ico 0 14) fun t => dutyTok ER (kcell (src i c) (kCred i)) t true)

omit [FloatOps F] in
/-- The tokens a device pays with: of its two signals and of each ring. -/
theorem dealt_toks (c : Dev nD) : (bigSep Finset.univ fun j : Duty => (tok (owner j c) j : sProp 𝕄))
    = iprop((dutyTok ER (kcell (prv c) none) 0 true ∗ dutyTok ER (kcell (nxt c) none) 0 false) ∗ bigSep Finset.univ fun i : Fin 4 => ringToksOf i c) := by
  rw [bigSep_univ_sum, bigSep_two, bigSep_univ_prod]
  refine congrArg₂ (fun P Q : sProp 𝕄 => iprop(P ∗ Q)) rfl (bigSep_congr fun i _ => ?_)
  rw [bigSep_univ_sum, bigSep_univ_sum]
  unfold ringToksOf
  rw [bigSep_range, bigSep_range, bigSep_range]
  rfl

omit [FloatOps F] in
/-- Positions, tokens and rights of one ring make up the ring at its start. -/
theorem ring_intro (i : Fin 4) (c : Dev nD) :
    iprop((bigSep Finset.univ fun j : Fin 5 => posAt c (some (i, j))) ∗ ringToksOf i c ∗ ringDue i c) ⊢ (ring i c : sProp 𝕄) := by
  rw [bigSep_five]
  unfold ring posS posR posCr toks ringToksOf ringDue
  rw [show bigSep (Finset.Ico 0 15) (stepTok (F := F) i c) = iprop((bigSep (Finset.Ico 0 15) fun t => dutyTok ER (kcell c (kSend i (sl t))) (t / 2) true)
      ∗ (bigSep (Finset.Ico 0 15) fun t => dutyTok ER (kcell (dst i c) (kRecv i (sl (t + 1)))) (t / 2) true)
      ∗ bigSep (Finset.Ico 0 15) fun t => cred (tallyAt (kcell c (kRecv i (sl (t + 1)))) (posE i t) N)) from by
        rw [← bigSep_sep', ← bigSep_sep']; rfl,
    show bigSep (Finset.Ico 0 14) (credTok (F := F) i c) = iprop((bigSep (Finset.Ico 0 14) fun t => dutyTok ER (kcell (src i c) (kCred i)) t true)
      ∗ bigSep (Finset.Ico 0 14) fun t => cred (tallyAt (kcell c (kCred i)) (posC i t) 1)) from by
        rw [← bigSep_sep']; rfl]
  unfold posAt
  iintro ⟨⟨P0, P1, P2, P3, P4⟩, ⟨T1, T2, T3⟩, D1, D2⟩
  isplitl [P0 P1]
  · isplitl [P0]; · iexact P0
    iexact P1
  isplitl [P2 P3]
  · isplitl [P3]; · iexact P3
    iexact P2
  isplitl [P4]; · iexact P4
  isplitl [T1 T2 D1]
  · isplitl [T1]; · iexact T1
    isplitl [T2]; · iexact T2
    iexact D1
  isplitl [T3]; · iexact T3
  iexact D2

omit [FloatOps F] in
/-- A device's share of the deal and its credit are what its handshake and its four rings start with. -/
theorem dealt_open (c : Dev nD) : iprop(dealt c ∗ cred (due c)) ⊢ (iprop(barStart c ∗ rings c (fun i => ring i c)) : sProp 𝕄) := by
  unfold dealt
  rw [cred_due, dealt_toks, bigSep_key, bigSep_four, bigSep_four, bigSep_four]
  unfold barStart rings posAt
  iintro ⟨⟨⟨⟨Hb, -⟩, P0, P1, P2, P3⟩, Hrp, Hrn, ⟨Htp, Htn⟩, T0, T1, T2, T3⟩, Hc, D0, D1, D2, D3⟩
  isplitl [Hb Hrp Hrn Htp Htn Hc]
  · isplitl [Hb]; · iexact Hb
    isplitl [Hrp]; · iexact Hrp
    isplitl [Hrn]; · iexact Hrn
    isplitl [Htp]; · iexact Htp
    isplitl [Htn]; · iexact Htn
    iexact Hc
  isplitl [P0 T0 D0]
  · iapply (ring_intro 0 c); unfold posAt; isplitl [P0]; · iexact P0
    isplitl [T0]; · iexact T0
    iexact D0
  isplitl [P1 T1 D1]
  · iapply (ring_intro 1 c); unfold posAt; isplitl [P1]; · iexact P1
    isplitl [T1]; · iexact T1
    iexact D1
  isplitl [P2 T2 D2]
  · iapply (ring_intro 2 c); unfold posAt; isplitl [P2]; · iexact P2
    isplitl [T2]; · iexact T2
    iexact D2
  iapply (ring_intro 3 c); unfold posAt; isplitl [P3]; · iexact P3
  isplitl [T3]; · iexact T3
  iexact D3

/-! ## The cells' invariants -/

/-- The kernel's own counters. -/
abbrev osem (p : Fin 4 × Fin 5) : SemLoc sig := csem (some p)

omit [FloatOps F] in
/-- The one counter outside the scope is the barrier's, -/
theorem unscoped_eq (c : Dev nD) : (unscopedSems0 c : sProp 𝕄) = semVal (kcell c none) 0 := by
  unfold unscopedSems0; rw [bigSep_eq_bigSepL_of_eq [SemLoc.reg barS] (by decide) (by decide)]; rfl
omit [FloatOps F] in
/-- and the kernel's own counters are those of the rings. -/
theorem own_eq (c : Dev nD) : (Pipeline.ownSems0 (Ix := ℕ) (Name := ℕ) (U := UU) (Lvl := ℕ) (Val := Elt F) (τ := τ) osem c : sProp 𝕄)
    = bigSep Finset.univ fun i : Fin 4 => ringZero i c := by
  unfold Pipeline.ownSems0
  rw [bigSep_univ_prod]
  exact bigSep_congr fun i _ => by rw [bigSep_five]; rfl

omit [FloatOps F] in
/-- Together they are the counters of all keys. -/
theorem counters_eq (c : Dev nD) :
    iprop(Pipeline.ownSems0 (Ix := ℕ) (Name := ℕ) (U := UU) (Lvl := ℕ) (Val := Elt F) (τ := τ) osem c ∗ unscopedSems0 c)
      ⊢ (bigSep Finset.univ fun κ : Key => semVal (kcell c κ) 0 : sProp 𝕄) := by
  rw [unscoped_eq, bigSep_key]
  unfold Pipeline.ownSems0
  rw [bigSep_univ_prod]
  iintro ⟨H1, H2⟩
  isplitl [H2]; · iexact H2
  iexact H1

/-- Counters at zero and a device's positions become its cells' invariants. -/
theorem core_alloc (c : Dev nD) :
    iprop(Pipeline.ownSems0 (Ix := ℕ) (Name := ℕ) (U := UU) (Lvl := ℕ) (Val := Elt F) (τ := τ) osem c ∗ unscopedSems0 c ∗ minted m c)
      ⊢ |={Set.univ}=> iprop((bigSep Finset.univ fun κ : Key => iprop(∃ n : ℕ, cellInv ER (sched m) n (kcell c κ)))
          ∗ (bigSep Finset.univ fun κ : Key => posAt c κ) ∗ bigSep Finset.univ fun j : Duty => tok c j) := by
  unfold minted
  iintro ⟨Hos, Hus, Hst, Hat, Htok⟩
  ihave Hv := (counters_eq (F := F) c) $$ [Hos Hus]
  · isplitl [Hos] <;> iassumption
  imod (show iprop((bigSep Finset.univ fun κ : Key => semVal (kcell c κ) 0) ∗ bigSep Finset.univ fun κ : Key => roundState ER (sched m) (kcell c κ) 0)
      ⊢ (|={Set.univ}=> bigSep Finset.univ fun κ : Key => iprop(∃ n : ℕ, cellInv ER (sched m) n (kcell c κ)) : sProp 𝕄) from by
        rw [← bigSep_sep']
        exact (bigSep_mono fun κ _ => (Rounds.body_intro ER (sched m) (kcell c κ)).trans inv_alloc).trans (bigSep_fupd _ _)) $$ [Hv Hst] with Hinv
  · isplitl [Hv] <;> iassumption
  imodintro
  isplitl [Hinv]; · iexact Hinv
  isplitl [Hat]; · iexact Hat
  iexact Htok

/-- Every cell's invariant. -/
def cells : sProp 𝕄 := bigSep Finset.univ fun ck : Dev nD × Key => cellInv ER (sched m) (K ck) (kcell ck.1 ck.2)
/-- The invariants are facts that stay true, -/
instance cells_persistent : BI.Persistent (cells (F := F) m K) := by unfold cells; infer_instance
/-- Every barrier cell is at round 0 or later. -/
def marks : sProp 𝕄 := bigSep Finset.univ fun c : Dev nD => reached ER (kcell c none) 0
/-- and so are the marks of the barriers. -/
instance marks_persistent : BI.Persistent (marks (F := F)) := by unfold marks; infer_instance
omit [FloatOps F] in
/-- Every device's barrier is marked at round zero. -/
theorem mark_of (c : Dev nD) : (marks : sProp 𝕄) ⊢ reached ER (kcell c none) 0 := by
  unfold marks; exact bigSep_elim (Finset.mem_univ c)

/-- What the global step makes: the invariants at some names, and the device's share of the deal. -/
def granted (c : Dev nD) : sProp 𝕄 := iprop(∃ K, cells m K ∗ dealt c)

omit [FloatOps F] in
/-- A lasting fact may be used for each member of a family. -/
theorem bigSep_under {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

omit [FloatOps F] in
/-- A device's barrier position gives its mark, -/
theorem pos_mark (c : Dev nD) : (bigSep Finset.univ fun κ : Key => (posAt c κ : sProp 𝕄)) ⊢ iprop((bigSep Finset.univ fun κ : Key => posAt c κ) ∗ reached ER (kcell c none) 0) := by
  rw [bigSep_key]
  conv_lhs => rw [posAt]
  conv_rhs => rw [posAt]
  iintro ⟨⟨Ha, #Hr⟩, H⟩
  isplitl
  · isplitl [Ha]
    · isplitl; · iexact Ha
      iexact Hr
    iexact H
  iexact Hr

omit [FloatOps F] in
/-- and all the devices' positions all the marks. -/
theorem pos_marks : (bigSep Finset.univ fun c : Dev nD => bigSep Finset.univ fun κ : Key => (posAt c κ : sProp 𝕄))
    ⊢ iprop((bigSep Finset.univ fun c : Dev nD => bigSep Finset.univ fun κ : Key => posAt c κ) ∗ marks) := by
  unfold marks
  rw [← bigSep_sep']
  exact bigSep_mono fun c _ => pos_mark c

/-- Invariants, marks, positions and tokens make up what a device is granted. -/
theorem granted_intro (c : Dev nD) :
    iprop((cells m K ∗ marks) ∗ (bigSep Finset.univ fun κ : Key => posAt c κ) ∗ bigSep Finset.univ fun j : Duty => tok (owner j c) j) ⊢ granted (F := F) m c := by
  unfold granted dealt
  iintro ⟨⟨#HC, #HM⟩, HP, HT⟩
  iexists K
  isplitr; · iexact HC
  isplitl [HP]; · iexact HP
  isplitr; · iapply (mark_of (prv c)); iexact HM
  isplitr; · iapply (mark_of (nxt c)); iexact HM
  iexact HT

/-- What was allocated device by device, sorted into what every device knows and what each holds. -/
theorem regroup :
    (bigSep Finset.univ fun c : Dev nD => iprop((bigSep Finset.univ fun κ : Key => iprop(∃ n : ℕ, cellInv ER (sched m) n (kcell c κ)))
          ∗ (bigSep Finset.univ fun κ : Key => posAt c κ) ∗ bigSep Finset.univ fun j : Duty => tok c j) : sProp 𝕄)
      ⊢ bigSep Finset.univ (granted m) := by
  rw [bigSep_sep', bigSep_sep', ← bigSep_univ_prod (fun ck : Dev nD × Key => iprop(∃ n : ℕ, cellInv ER (sched m) n (kcell ck.1 ck.2))), toks_deal]
  iintro ⟨HI, HP, HT⟩
  ihave HK := (BI.bigSep_exists_pi Finset.univ (fun (ck : Dev nD × Key) (n : ℕ) => (cellInv ER (sched m) n (kcell ck.1 ck.2) : sProp 𝕄))) $$ HI
  icases HK with ⟨%K, #HI⟩
  ihave HP := (pos_marks (F := F)) $$ HP
  icases HP with ⟨HP, #HM⟩
  iapply (bigSep_under (R := iprop(cells m K ∗ marks)) fun c _ => granted_intro m K c)
  isplitr
  · isplitl
    · unfold cells; iexact HI
    unfold marks; iexact HM
  · iapply (Entails.of_eq (bigSep_sep' _ _ _).symm)
    isplitl [HP]; · iexact HP
    iexact HT

/-- The global step: the counters of every device at once. -/
theorem glob : (bigSep Finset.univ fun c => iprop(Pipeline.ownSems0 (Ix := ℕ) (Name := ℕ) (U := UU) (Lvl := ℕ) (Val := Elt F) (τ := τ) osem c ∗ unscopedSems0 c ∗ minted m c) : sProp 𝕄)
    ⊢ |={Set.univ}=> bigSep Finset.univ (granted m) :=
  ((bigSep_mono fun c _ => core_alloc m c).trans (bigSep_fupd _ _)).trans (BI.fupd_mono (regroup m))

end Cert.KernelIdeal.Rings

end
-- ==== Proof.Result.lean ====
/-
# What a device's result buffer holds at the end

The four stores cover the buffer, each its ring's 2048 columns, so what it held before does not matter.
-/
module

public import proofs.«01_k».proof.Proof.Protocol
public import Idealize.ShloMosaic.Lib.Pipeline.Value

@[expose] public section

noncomputable section

namespace Cert.KernelIdeal.Rings

open Cert.KernelIdeal Cert.KernelIdeal.Gen
open Idealize.ShloMosaic Idealize.ShloMosaic.TcCoe
open Idealize.SL Idealize.SL.RA Idealize.SL.BI

variable {F : FTy → Type} [FloatOps F]
variable (m : (ℓ : Loc nD τ sig) → Buf (Elt F) ℓ)

/-- The ring whose columns hold column `q`, and the column within them. -/
def ringOf (q : Fin 8192) : Fin 4 := ⟨q.val / 2048, by have := q.isLt; omega⟩
/-- The column within the ring. -/
def colOf (q : Fin 8192) : Fin 2048 := ⟨q.val % 2048, Nat.mod_lt _ (by decide)⟩
/-- The place of an element of the result in its ring's piece. -/
def placeOf (x : S256x8192.Idx) : S256x2048.Idx :=
  fun a => match a with
    | 0 => x 0
    | 1 => colOf (x 1)

/-- The result of device `c`. -/
def outAt (c : Dev nD) : (cc0_stg4_0 : Ref sig .tc).ty.Contents (Elt F) := fun x => piece m (ringOf (x 1)) c (placeOf x)

/-- After a ring's store an element is the ring's piece in its columns, and as before elsewhere. -/
theorem putCols_apply (i : Fin 4) (c : Dev nD) (f : (cc0_stg4_0 : Ref sig .tc).ty.Contents (Elt F)) (x : S256x8192.Idx) :
    putCols m i c f x = if ringOf (x 1) = i then piece m i c (placeOf x) else f x := by
  have hx : (x 1).val < 8192 := (x 1).isLt
  have hr : (x 0).val < 256 := (x 0).isLt
  refine (congrFun (View.write_whole_slice_unit cc0_stg4_0 ![0, 2048 * i.val] S256x2048.size (cols_inb i) f (piece m i c)) x).trans ?_
  unfold updateSlice
  by_cases h : ringOf (x 1) = i
  · have hi : (x 1).val / 2048 = i.val := congrArg Fin.val h
    rw [if_pos h, dif_pos (fun a => match a with
      | 0 => ⟨Nat.zero_le _, (Nat.zero_add _).symm ▸ hr⟩
      | 1 => ⟨show 2048 * i.val ≤ (x 1).val by omega, show (x 1).val < 2048 * i.val + 2048 by omega⟩)]
    refine congrArg (piece m i c) (funext fun a => Fin.ext ?_)
    match a with
    | 0 => exact Nat.sub_zero _
    | 1 => show (x 1).val - 2048 * i.val = (x 1).val % 2048; omega
  · rw [if_neg h, dif_neg (fun hc => ?_)]
    have h1 : 2048 * i.val ≤ (x 1).val ∧ (x 1).val < 2048 * i.val + 2048 := hc 1
    exact h (Fin.ext (show (x 1).val / 2048 = i.val by omega))

/-- After the four stores the buffer holds the result, whatever it held before. -/
theorem outOf_eq (c : Dev nD) (f : (cc0_stg4_0 : Ref sig .tc).ty.Contents (Elt F)) : outOf m c f = outAt m c := by
  funext x
  unfold outOf outAt
  rw [putCols_apply, putCols_apply, putCols_apply, putCols_apply]
  generalize ringOf (x 1) = k
  match k with
  | 0 => rfl
  | 1 => rfl
  | 2 => rfl
  | 3 => rfl

end Cert.KernelIdeal.Rings

end
-- ==== Proof.Launch.lean ====
/-
# The run

The launch's proof data, the body of each device at the launch's grid point, and the whole run: every device's result is
`outAt`, its operands are as they were, and every counter is zero.
-/
module

public import proofs.«01_k».proof.Proof.Deal
public import proofs.«01_k».proof.Proof.Result
public import Idealize.ShloMosaic.Lib.Pipeline.Launch
public import Idealize.ShloMosaic.Lib.Pipeline.Kit
public import Idealize.ShloMosaic.Lib.Pipeline.CollectiveSegs

@[expose] public section

noncomputable section

namespace Cert.KernelIdeal.Rings

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig ℕ (Elt F) ℕ UU ℕ

variable (m : (ℓ : Loc nD τ sig) → Buf (Elt F) ℓ) (ρ : Dev nD → PrngReg)

/-! ## The proof data -/

/-- What a device's body starts from. -/
def begins (c : Dev nD) : sProp 𝕄 := iprop(∃ K, records m K ∗ dealt c ∗ cred (due c))
/-- The four two-slot buffers, at some contents. -/
def comms (c : Dev nD) : sProp 𝕄 := iprop(commAny 0 c ∗ commAny 1 c ∗ commAny 2 c ∗ commAny 3 c)
/-- What a device holds when the body begins. -/
def Φ₀ (c : Dev nD) : sProp 𝕄 := iprop(begins m c ∗ comms c)
/-- After the body: the buffers, and every counter at zero. -/
def Φ₁ (c : Dev nD) : sProp 𝕄 := iprop(comms c ∗ rings c (fun i => ringZero i c) ∗ semVal (kcell c none) 0)

/-- The data of the launch: the arrays, what each buffer holds after the body, what is held before and after. -/
def dats (_ : Fin 1) (c : Dev nD) : Dat τ (Elt F) ℕ ℕ UU ℕ cfg0 c where
  A w := (s₀ m ρ).mem ((cfg0.win w).arr.view.loc (c : Thread nD τ))
  after w _ := match w with
    | ⟨0, _⟩ => xstg m c
    | ⟨1, _⟩ => wstg m c
    | ⟨2, _⟩ => astg m c
    | ⟨3, _⟩ => bstg m c
    | ⟨4, _⟩ => outAt m c
  Φ t := match t with
    | ⟨0, _⟩ => Φ₀ m c
    | ⟨_ + 1, _⟩ => Φ₁ c
  q _ := fullShare
  owed t := match t with
    | ⟨0, _⟩ => Owed c 0
    | ⟨_ + 1, _⟩ => 0

/-- There is one grid point, -/
theorem cfg0_N : cfg0.N = 1 := by decide
/-- this one, -/
def t₀ : Fin cfg0.N := ⟨0, by rw [cfg0_N]; decide⟩
/-- and no other. -/
theorem fin_N (t : Fin cfg0.N) : t = t₀ := by
  obtain ⟨t, ht⟩ := t; have := cfg0_N; exact Fin.ext (by simp only [t₀]; omega)

omit [FloatOps F] in
/-- A family over the five windows, written out. -/
theorem bigSep_W (Φ : Fin cfg0.W → sProp 𝕄) : bigSep Finset.univ Φ = iprop(Φ (0 : Fin 5) ∗ Φ (1 : Fin 5) ∗ Φ (2 : Fin 5) ∗ Φ (3 : Fin 5) ∗ Φ (4 : Fin 5)) := bigSep_W0 Φ

omit [FloatOps F] in
/-- Holding a window's whole buffer is holding the buffer. -/
theorem owns_whole_eq (c : Dev nD) (b : Ref sig .tc) (X : b.ty.Contents (Elt F)) :
    (owns (Ix := ℕ) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

/-- Buffer `b` of device `c`, whole, holding `X`. -/
def stg (c : Dev nD) (b : Ref sig .tc) (X : b.ty.Contents (Elt F)) : sProp 𝕄 :=
  iprop(∃ f : Buf (Elt F) ((c : Thread nD τ).loc b), ⌜f = X⌝ ∗ ((c : Thread nD τ).loc b ↦{fullShare} f))

/-- Before the body, `x`'s buffer holds the device's columns, -/
theorem before_x (c : Dev nD) (d) : (dats m ρ 0 c).before (0 : Fin 5) t₀ d = xstg m c := by
  unfold Dat.before; rw [if_pos (fetch0_0 t₀)]; rfl
/-- `w`'s its rows, -/
theorem before_w (c : Dev nD) (d) : (dats m ρ 0 c).before (1 : Fin 5) t₀ d = wstg m c := by
  unfold Dat.before; rw [if_pos (fetch0_1 t₀)]; rfl
/-- and the scales' buffers the scale of `x` -/
theorem before_a (c : Dev nD) (d) : (dats m ρ 0 c).before (2 : Fin 5) t₀ d = astg m c := by
  unfold Dat.before; rw [if_pos (fetch0_2 t₀)]; rfl
/-- and the scale of `w`. -/
theorem before_b (c : Dev nD) (d) : (dats m ρ 0 c).before (3 : Fin 5) t₀ d = bstg m c := by
  unfold Dat.before; rw [if_pos (fetch0_3 t₀)]; rfl

/-- What the body starts from. -/
def bodyPre (c : Dev nD) : sProp 𝕄 :=
  iprop(Φ₀ m c ∗ (dats m ρ 0 c).owesAt 0 t₀.castSucc
    ∗ (∃ d, stg c cc0_stg0_0 ((dats m ρ 0 c).before (0 : Fin 5) t₀ d))
    ∗ (∃ d, stg c cc0_stg1_0 ((dats m ρ 0 c).before (1 : Fin 5) t₀ d))
    ∗ (∃ d, stg c cc0_stg2_0 ((dats m ρ 0 c).before (2 : Fin 5) t₀ d))
    ∗ (∃ d, stg c cc0_stg3_0 ((dats m ρ 0 c).before (3 : Fin 5) t₀ d))
    ∗ (∃ d, stg c cc0_stg4_0 ((dats m ρ 0 c).before (4 : Fin 5) t₀ d)))

/-- What the body ends with. -/
def bodyPost (c : Dev nD) : sProp 𝕄 :=
  iprop(Φ₁ c ∗ (dats m ρ 0 c).owesAt 0 t₀.succ
    ∗ stg c cc0_stg0_0 (xstg m c) ∗ stg c cc0_stg1_0 (wstg m c) ∗ stg c cc0_stg2_0 (astg m c) ∗ stg c cc0_stg3_0 (bstg m c)
    ∗ stg c cc0_stg4_0 (outAt m c))

omit [FloatOps F] in
/-- Each ring gets its buffer as two slots. -/
theorem slots_open (c : Dev nD) : iprop(rings c (fun i => ring i c) ∗ comms c)
    ⊢ (rings c (fun i => iprop(ring i c ∗ slotAny (F := F) c i 0 ∗ slotAny c i 1)) : sProp 𝕄) := by
  unfold rings comms
  iintro ⟨⟨R0, R1, R2, R3⟩, C0, C1, C2, C3⟩
  isplitl [R0 C0]; · isplitl [R0]; · iexact R0
                     iapply (commAny_split 0 c); iexact C0
  isplitl [R1 C1]; · isplitl [R1]; · iexact R1
                     iapply (commAny_split 1 c); iexact C1
  isplitl [R2 C2]; · isplitl [R2]; · iexact R2
                     iapply (commAny_split 2 c); iexact C2
  isplitl [R3]; · iexact R3
  iapply (commAny_split 3 c); iexact C3

/-- When the four rings are done and the barrier's round is over, every cell closes. -/
theorem rings_close (K : Dev nD × Key → ℕ) (c : Dev nD) :
    iprop(records m K ∗ rings c (fun i => done m i c 14) ∗ atPos ER (kcell c none) 1 ∅ 0) ⊢ (|={Set.univ}=> Φ₁ c : sProp 𝕄) := by
  unfold Φ₁ comms rings
  iintro ⟨#HR, ⟨D0, D1, D2, D3⟩, Hb⟩
  imod (close_spec m K c none 1 (fun r hr => dut_over_bar r hr)) $$ [Hb] with Zb
  · isplitr; · iexact HR
    iexact Hb
  imod (ring_close m K 0 c) $$ [D0] with ⟨S0, Z0⟩
  · isplitr; · iexact HR
    iexact D0
  imod (ring_close m K 1 c) $$ [D1] with ⟨S1, Z1⟩
  · isplitr; · iexact HR
    iexact D1
  imod (ring_close m K 2 c) $$ [D2] with ⟨S2, Z2⟩
  · isplitr; · iexact HR
    iexact D2
  imod (ring_close m K 3 c) $$ [D3] with ⟨S3, Z3⟩
  · isplitr; · iexact HR
    iexact D3
  imodintro
  isplitl [S0 S1 S2 S3]
  · isplitl [S0]; · iapply (commAny_join 0 c); iexact S0
    isplitl [S1]; · iapply (commAny_join 1 c); iexact S1
    isplitl [S2]; · iapply (commAny_join 2 c); iexact S2
    iapply (commAny_join 3 c); iexact S3
  isplitl [Z0 Z1 Z2 Z3]
  · isplitl [Z0]; · iexact Z0
    isplitl [Z1]; · iexact Z1
    isplitl [Z2]; · iexact Z2
    iexact Z3
  iexact Zb

/-- What holds after an update at the end of a run holds after the run. -/
theorem run_fupd (c : Dev nD) (p : TProg F PUnit) (Q : PUnit → sProp 𝕄) : run c p (fun a => iprop(|={Set.univ}=> Q a)) ⊢ run c p Q := by
  unfold run
  exact wp_fupd _ _ _ p Q

/-- The body, from what the launch hands it to what the launch takes back. -/
theorem sound_body (c : Dev nD) : bodyPre m ρ c ⊢ run c body (fun _ => bodyPost m ρ c) := by
  refine BIBase.Entails.trans ?_ (run_fupd c body fun _ => bodyPost m ρ c)
  unfold bodyPre Φ₀ begins stg
  simp only [before_x, before_w, before_a, before_b]
  unfold Dat.owesAt Pipeline.owesWithin
  rw [show (dats m ρ 0 c).owed t₀.castSucc = Owed c 0 from rfl]
  iintro ⟨⟨⟨%K, #HR, HD, HC⟩, HS⟩, ⟨%W, %hW, HO⟩, ⟨%d0, %f0, %h0, Hx⟩, ⟨%d1, %f1, %h1, Hw⟩, ⟨%d2, %f2, %h2, Ha⟩, ⟨%d3, %f3, %h3, Hb⟩, ⟨%d4, %f4, %h4, Ho⟩⟩
  subst h0 h1 h2 h3
  ihave HH := (dealt_open (F := F) c) $$ [HD HC]
  · isplitl [HD] <;> iassumption
  icases HH with ⟨HB, HRg⟩
  iapply (body_spec m K c f4 (fun _ => iprop(|={Set.univ}=> bodyPost m ρ c))) $$ [HB HRg HS HO Hx Hw Ha Hb Ho]
  · isplitr; · iexact HR
    isplitl [HB]; · iexact HB
    isplitl [HRg HS]
    · iapply (slots_open c); isplitl [HRg] <;> iassumption
    isplitl [HO]; · unfold Ow; iexists W; iexact HO
    isplitl [Hx]; · unfold xPts; iexact Hx
    isplitl [Hw]; · unfold wPts; iexact Hw
    isplitl [Ha]; · unfold aPts; iexact Ha
    isplitl [Hb]; · unfold bPts; iexact Hb
    unfold oPts; iexact Ho
  iintro ⟨HD, Hbar, HO, Hx, Hw, Ha, Hb, Ho⟩
  imod (rings_close m K c) $$ [HD Hbar] with HΦ
  · isplitr; · iexact HR
    isplitl [HD] <;> iassumption
  imodintro
  unfold bodyPost Dat.owesAt Pipeline.owesWithin stg
  rw [show (dats m ρ 0 c).owed t₀.succ = 0 from rfl]
  isplitl [HΦ]; · iexact HΦ
  isplitl [HO]
  · unfold Ow
    rw [Owed_last]
    icases HO with ⟨%W', HO⟩
    iexists W'
    isplitr; · ipureintro; exact fun _ _ => Or.inl trivial
    iexact HO
  isplitl [Hx]
  · iexists _; isplitr; · (ipureintro; rfl)
    unfold xPts; iexact Hx
  isplitl [Hw]
  · iexists _; isplitr; · (ipureintro; rfl)
    unfold wPts; iexact Hw
  isplitl [Ha]
  · iexists _; isplitr; · (ipureintro; rfl)
    unfold aPts; iexact Ha
  isplitl [Hb]
  · iexists _; isplitr; · (ipureintro; rfl)
    unfold bPts; iexact Hb
  iexists _; isplitr; · (ipureintro; exact outOf_eq m c f4)
  unfold oPts; iexact Ho

/-- The body at the launch's point, for any spelling `p` of it. -/
theorem sound_row (c : Dev nD) (p : TProg F PUnit) (hp : p = body) : bodyPre m ρ c
    ⊢ wp frame (wpE (defs₀ (F := F)) 𝒱₀ (c : Thread nD τ) none) Set.univ p (fun _ => bodyPost m ρ c) := by
  rw [hp]
  exact sound_body m ρ c

/-- The body obligation of the launch's one grid point. -/
theorem body_obligation (c : Dev nD) : BodyObligation (dats (F := F) m ρ 0 c) (defs₀ (F := F)) 𝒱₀ 0 Set.univ := fun t => by
  rw [fin_N t]
  rw [bigSep_W, bigSep_W]
  simp only [owns_whole_eq]
  show bodyPre m ρ c ⊢ _
  refine BIBase.Entails.trans (sound_row m ρ c (defs₀ (F := F) Proc.tc 0 (t₀, cfg0.slots t₀)) ?_) ?_
  · refine (show _ = bodyAt0 t₀ from rfl).trans ?_
    refine Eq.trans ?_ body_eq
    rfl
  refine Entails.of_eq ?_
  congr 1

/-! ## The launch -/

/-- The kernel's own semaphores are apart from those of the staging copies. -/
theorem ownSemFacts : Pipeline.OwnSemFacts cfg0.spec osem := by decide +kernel

/-- Every window is held in full. -/
theorem share_eq (c : Dev nD) (w : Fin cfg0.W) : (dats m ρ 0 c).share w = fullShare := by unfold Dat.share; split <;> rfl

/-- The ghost state at the start. -/
def u₀ : UU :=
  (initOf (Pipeline.cells cfgs cellOf_inj) (Pipeline.launchToks cfgs cellOf_inj), initOf ringCells ringToks)

/-- What the launch hands a device is what it begins with, -/
theorem begins_intro (c : Dev nD) :
    iprop(Pipeline.unscopedRestP Pipeline.Prefetch.none cfg0.spec c (fun b => m ((c : Thread nD τ).loc b)) ∗ levAts L lv
        ∗ Pipeline.launchCred (fun d => Owed d 0) c ∗ prngReg c (ρ c) ∗ granted m c)
      ⊢ |={Set.univ}=> iprop(begins m c ∗ emp) := by
  rw [launch_due]
  unfold granted begins cells records
  iintro ⟨-, Hlev, Hcr, -, ⟨%K, HC, HD⟩⟩
  imodintro
  isplitl
  · iexists K
    isplitl [HC Hlev]
    · isplitl [HC]; · iexact HC
      iexact Hlev
    isplitl [HD]; · iexact HD
    iexact Hcr
  · iempintro

/-- and with the scoped buffers it is what the body starts from. -/
theorem first_intro (c : Dev nD) :
    iprop(begins m c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m c from rfl, show Pipeline.scopedRest (Ix := ℕ) (Name := ℕ) (U := UU) (Lvl := ℕ) (Val := Elt F) cfg0.spec c = _ from scopedRest_eq c]
  unfold Φ₀ comms
  iintro ⟨Hs, -, Hr⟩
  isplitl [Hs]; · iexact Hs
  iexact Hr

/-- What the body ends with gives the counters back, at zero. -/
theorem last_exit (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = Φ₁ c from rfl, show Pipeline.scopedRest (Ix := ℕ) (Name := ℕ) (U := UU) (Lvl := ℕ) (Val := Elt F) cfg0.spec c = _ from scopedRest_eq c,
    own_eq, unscoped_eq, bigSep_four]
  unfold Φ₁ comms rings
  iintro ⟨Hr, HZ, HB⟩
  isplitl [HB]; · iexact HB
  isplitl [HZ]; · iexact HZ
  iexact Hr

/-- The staging copies' waits lie below all that is owed. -/
theorem waits (c : Dev nD) : (levAts L lv : sProp 𝕄) ⊢ Pipeline.cellsWaits cfgs (dats m ρ) 0 0 c :=
  Pipeline.cellsWaits_intro cfgs (dats m ρ) 0 0 c fun w s t => by
    rcases t with ⟨_ | n, ht⟩
    · exact mayWait c _ 0 0 (by decide) (by decide)
    · show (levAts L lv : sProp 𝕄) ⊢ MayWait (c : Thread nD τ) _ 0 (0 : CellTallies nD τ sig ℕ)
      rw [← Owed_last c]
      exact mayWait c _ 0 120 (by decide) (by decide)

/-- What array `w` holds on device `c` at the end. -/
def finalA (c : Dev nD) (w : Fin cfg0.W) : Buf (Elt F) ((cfg0.win w).arr.view.loc (c : Thread nD τ)) := (dats m ρ 0 c).arrAt w cfg0.N

/-- What holds of the memory at the end. -/
def QC : PUnit × MemSt nD τ sig (Elt F) → Prop := fun r =>
  ∀ c : Dev nD, ∀ w : Fin cfg0.W, r.2.mem ((cfg0.win w).arr.view.loc (c : Thread nD τ)) = finalA m ρ c w

set_option maxRecDepth 40000 in
/-- From any memory with zero counters every fair run of the sixteen devices ends, each array at its final contents and
    every counter at zero. -/
theorem run_main : θ_run defs (onTc (τ := τ) (main (F := F))) (s₀ m ρ) (fun r => QC m ρ r ∧ r.2.sem = fun _ => 0) :=
  Pipeline.θ_run_region_owing_glob_pf (fun p => (cfgs p).toPCfg) (fun p => (cfgs p).toPCfg_adm) (dats m ρ) 0 cellOf_inj (0 : Fin 1)
    winFacts0.to₀ ownSemFacts (Pipeline.PreFacts.none _) EP defs₀ 𝒱₀ m ρ main
    (hmain := fun _ => rfl)
    (hbody := body_obligation m ρ) (hne := fun w => by fin_cases w <;> exact Nat.succ_pos _) (harr := arr_whole0) (hstage := stage_whole0) (hshare := share_eq m ρ)
    (hdistinct := winFacts0.arr_inj)
    (O₀ := fun d => Owed d 0) (howed₀ := fun _ => rfl) (howedN := fun _ => rfl)
    (L := L) (lv := lv) (hL := L_of_ne) (hwaits := waits m ρ)
    (G := minted m) (G' := granted m) (u₀ := u₀)
    (hu₀ := by
      unfold u₀
      iintro Hu
      ihave H := (ownU_pair _ _) $$ Hu
      icases H with ⟨HP, HX⟩
      imod (fund_rings m) $$ HX with HG
      imodintro
      isplitl [HP] <;> iassumption)
    (hglob := glob m)
    (hA := fun _ _ => rfl) (hpf := fun _ k => k.elim0)
    (X := begins m) (Y := fun c => unscopedSems0 c) (Z := fun _ => iprop(emp))
    (hX := begins_intro m ρ) (hin := first_intro m ρ) (hout := last_exit m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

end Cert.KernelIdeal.Rings

end
-- ==== Proof.Whole.lean ====
/-
# The run, at the buffers of the program

Every window is its whole array, so a device's staged operands are its argument buffers and its result buffer ends
holding `outAt`.
-/
module

public import proofs.«01_k».proof.Proof.Launch
public import Idealize.ShloMosaic.Lib.Pipeline.Value

@[expose] public section

noncomputable section

namespace Cert.KernelIdeal.Rings

open Cert.KernelIdeal Cert.KernelIdeal.Gen
open Idealize.ShloMosaic Idealize.ShloMosaic.TcCoe
open Idealize.SL Idealize.SL.RA Idealize.SL.BI Idealize.SL.Sem
open Idealize.ShloMosaic.Pipeline (Dat Cfg Window)

variable {F : FTy → Type} [FloatOps F]
variable (m : (ℓ : Loc nD τ sig) → Buf (Elt F) ℓ) (ρ : Dev nD → PrngReg)

/-- Window by window, the one block is the whole array: of `x`, -/
theorem read_whole_x (f : (main_arg0 : Ref sig .tc).ty.Contents (Elt F)) : (win0_0.blk (0 : Fin 1)).view.read (Elt F) f = f :=
  Memref.read_access_unit_zero (Elt F) main_arg0 (by decide) _ f
/-- of `w`, -/
theorem read_whole_w (f : (main_arg1 : Ref sig .tc).ty.Contents (Elt F)) : (win0_1.blk (0 : Fin 1)).view.read (Elt F) f = f :=
  Memref.read_access_unit_zero (Elt F) main_arg1 (by decide) _ f
/-- of the scale of `x`, -/
theorem read_whole_a (f : (main_arg2 : Ref sig .tc).ty.Contents (Elt F)) : (win0_2.blk (0 : Fin 1)).view.read (Elt F) f = f :=
  Memref.read_access_unit_zero (Elt F) main_arg2 (by decide) _ f
/-- of the scale of `w`, -/
theorem read_whole_b (f : (main_arg3 : Ref sig .tc).ty.Contents (Elt F)) : (win0_3.blk (0 : Fin 1)).view.read (Elt F) f = f :=
  Memref.read_access_unit_zero (Elt F) main_arg3 (by decide) _ f
/-- and of the result. -/
theorem read_whole_o (f : (main_v1 : Ref sig .tc).ty.Contents (Elt F)) : (win0_4.blk (0 : Fin 1)).view.read (Elt F) f = f :=
  Memref.read_access_unit_zero (Elt F) main_v1 (by decide) _ f

/-- So what is staged is the argument: `x`, -/
theorem xstg_eq (c : Dev nD) : xstg m c = m ((c : Thread nD τ).loc main_arg0) := read_whole_x _
/-- `w`, -/
theorem wstg_eq (c : Dev nD) : wstg m c = m ((c : Thread nD τ).loc main_arg1) := read_whole_w _
/-- the scale of `x`, -/
theorem astg_eq (c : Dev nD) : astg m c = m ((c : Thread nD τ).loc main_arg2) := read_whole_a _
/-- the scale of `w`. -/
theorem bstg_eq (c : Dev nD) : bstg m c = m ((c : Thread nD τ).loc main_arg3) := read_whole_b _

/-- At the end the arguments are as they were: `x`, -/
theorem final_x (c : Dev nD) : finalA m ρ c (0 : Fin 5) = m ((c : Thread nD τ).loc main_arg0) := (dats m ρ 0 c).arrAt_in (0 : Fin 5) rfl _
/-- `w`, -/
theorem final_w (c : Dev nD) : finalA m ρ c (1 : Fin 5) = m ((c : Thread nD τ).loc main_arg1) := (dats m ρ 0 c).arrAt_in (1 : Fin 5) rfl _
/-- the scale of `x`, -/
theorem final_a (c : Dev nD) : finalA m ρ c (2 : Fin 5) = m ((c : Thread nD τ).loc main_arg2) := (dats m ρ 0 c).arrAt_in (2 : Fin 5) rfl _
/-- the scale of `w`. -/
theorem final_b (c : Dev nD) : finalA m ρ c (3 : Fin 5) = m ((c : Thread nD τ).loc main_arg3) := (dats m ρ 0 c).arrAt_in (3 : Fin 5) rfl _
/-- At the end the result's array holds the device's result. -/
theorem final_o (c : Dev nD) : finalA m ρ c (4 : Fin 5) = outAt m c := by
  refine (read_whole_o _).symm.trans ?_
  unfold finalA
  rw [show cfg0.N = ((0 : Fin 1) : Fin cfg0.N).val + 1 from rfl, (dats m ρ 0 c).arrAt_succ (4 : Fin 5) (0 : Fin 1)]
  rw [show (cfg0.win (4 : Fin 5)).flush (0 : Fin 1) = true from flush0_4 (0 : Fin 1), if_pos rfl]
  exact View.read_write_univ _ _

/-- The whole run: each device's result, its four arguments, and the counters. -/
theorem run_all : θ_run defs (onTc (τ := τ) (main (F := F))) ⟨m, fun _ => 0, ρ⟩ (fun r => (∀ c : Dev nD,
      r.2.mem ((c : Thread nD τ).loc main_v1) = outAt m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3))
      ∧ r.2.sem = fun _ => 0) :=
  (θ_run defs _ _).mono (fun _ h => ⟨fun c => ⟨(h.1 c (4 : Fin 5)).trans (final_o m ρ c), (h.1 c (0 : Fin 5)).trans (final_x m ρ c),
    (h.1 c (1 : Fin 5)).trans (final_w m ρ c), (h.1 c (2 : Fin 5)).trans (final_a m ρ c), (h.1 c (3 : Fin 5)).trans (final_b m ρ c)⟩, h.2⟩)
    (run_main m ρ)

end Cert.KernelIdeal.Rings

end
-- ==== Proof.Value.lean ====
/-
# What the device's result is over the extended reals

Over the extended reals a change of format is the identity and a sum may be taken in any order. The block a device sends at
step `s` is then the sum of the products of the devices it has passed, and a device's piece, which has passed all sixteen,
is the product contracted over all the columns of `x`.
-/
module

public import proofs.«01_k».proof.Proof.Whole
public import Idealize.ShloMosaic.Lib.Pointwise

@[expose] public section

noncomputable section

namespace Cert.KernelIdeal.Rings

open Cert.KernelIdeal Cert.KernelIdeal.Gen
open Idealize.ShloMosaic Idealize.ShloMosaic.TcCoe

variable (m : (ℓ : Loc nD τ sig) → Buf (Elt Ideal) ℓ)

/-- Row `r` of block `e`, and column `q` of ring `i`. -/
def rowAt (e : Dev nD) (r : Fin 256) : Fin 4096 := ⟨256 * e.val + r.val, by have := e.isLt; have := r.isLt; simp only [nD] at *; omega⟩
/-- Column `q` of ring `i`. -/
def colAt (i : Fin 4) (q : Fin 2048) : Fin 8192 := ⟨2048 * i.val + q.val, by omega⟩

/-- Device `d`'s operands, element by element. -/
def xval (d : Dev nD) (r : Fin 4096) (k : Fin 256) : EReal := xstg m d (ix2 r k)
/-- Device `d`'s rows of `w`, element by element. -/
def wval (d : Dev nD) (k : Fin 256) (q : Fin 8192) : EReal := wstg m d (ix2 k q)

/-- Device `d`'s part of the product at row `r` of block `e` and column `q` of ring `i`. -/
def part (i : Fin 4) (d e : Dev nD) (r : Fin 256) (q : Fin 2048) : EReal :=
  ∑ k : Fin 256, xval m d (rowAt e r) k * wval m d k (colAt i q)

/-- The rows of block `e`, element by element. -/
theorem xrows_apply (d e : Dev nD) (r k : Fin 256) : (xrows m d e (ix2 r k) : EReal) = xval m d (rowAt e r) k := by
  unfold xval xrows rowsR
  refine (congrFun (congrFun rfl (xstg m d)) (ix2 r k)).trans (congrArg (xstg m d) (funext fun a => Fin.ext ?_))
  match a with
  | 0 => show 256 * e.val + 1 * r.val = 256 * e.val + r.val; omega
  | 1 => show 0 + 1 * k.val = k.val; omega

/-- The column by its number. -/
theorem col_eq (i : Fin 4) (q : Fin 2048) (y : Fin 8192) (h : y.val = 2048 * i.val + q.val) : colAt i q = y := Fin.ext h.symm

set_option maxRecDepth 16384 in
/-- A ring's product at an element is the device's part. -/
theorem prod_apply (i : Fin 4) (d e : Dev nD) (r : Fin 256) (q : Fin 2048) :
    prod i (k0_pay2 (wstg m d)) (xrows m d e) (ix2 r q) = part m i d e r q := by
  unfold part
  simp only [← xrows_apply]
  match i with
  | 0 => unfold prod; pointwise [k0_pay7, k0_pay2]; rw [col_eq 0 q ⟨q.val, by omega⟩ (by simp)]; rfl
  | 1 => unfold prod; pointwise [k0_pay8, k0_pay2]; rw [col_eq 1 q ⟨2048 + q.val, by omega⟩ (by simp)]; rfl
  | 2 => unfold prod; pointwise [k0_pay11, k0_pay10, k0_pay9, k0_pay2]; rw [col_eq 2 q ⟨4096 + q.val, by omega⟩ (by simp)]; rfl
  | 3 => unfold prod; pointwise [k0_pay12, k0_pay2]; rw [col_eq 3 q ⟨6144 + q.val, by omega⟩ (by simp)]; rfl

set_option maxRecDepth 16384 in
/-- The block sent first is the device's part. -/
theorem initial_apply (i : Fin 4) (d e : Dev nD) (z : Fin 1) (r : Fin 256) (q : Fin 2048) :
    initial i (k0_pay2 (wstg m d)) (xrows m d e) (ix3 z r q) = part m i d e r q := by
  unfold part
  simp only [← xrows_apply]
  match i with
  | 0 => unfold initial; pointwise [k0_pay3, k0_pay2]; rw [col_eq 0 q ⟨q.val, by omega⟩ (by simp)]; rfl
  | 1 => unfold initial; pointwise [k0_pay4, k0_pay2]; rw [col_eq 1 q ⟨2048 + q.val, by omega⟩ (by simp)]; rfl
  | 2 => unfold initial; pointwise [k0_pay5, k0_pay2]; rw [col_eq 2 q ⟨4096 + q.val, by omega⟩ (by simp)]; rfl
  | 3 => unfold initial; pointwise [k0_pay6, k0_pay2]; rw [col_eq 3 q ⟨6144 + q.val, by omega⟩ (by simp)]; rfl

/-- Adding a product to an arrived block, at an element. -/
theorem pay13_apply (p : FVec Ideal S256x2048 .f32) (b : FVec Ideal S1x256x2048 .bf16) (z : Fin 1) (r : Fin 256) (q : Fin 2048) :
    k0_pay13 p b (ix3 z r q) = (b (ix3 0 r q) : EReal) + (p (ix2 r q) : EReal) := by
  pointwise [k0_pay13]

/-- Adding a product to the last arrived block and scaling, at an element. -/
theorem pay1_apply (p : FVec Ideal S256x2048 .f32) (b : FVec Ideal S1x256x2048 .bf16) (u v : Elt Ideal .f32) (r : Fin 256) (q : Fin 2048) :
    k0_pay1 p b u v (ix2 r q) = ((b (ix3 0 r q) : EReal) + (p (ix2 r q) : EReal)) * ((u : EReal) * (v : EReal)) := by
  pointwise [k0_pay1]

/-- The block device `c` sends at step `s` is the sum of the products of the devices it has passed. -/
theorem blk_apply (i : Fin 4) (s : ℕ) : ∀ (c : Dev nD) (z : Fin 1) (r : Fin 256) (q : Fin 2048),
    (blk m i c s (ix3 z r q) : EReal) = ∑ j ∈ Finset.range (s + 1), part m i ((src i)^[j] c) (chunk i c s) r q := by
  induction s with
  | zero => intro c z r q; rw [Finset.sum_range_one]; exact initial_apply m i c _ z r q
  | succ s ih =>
    intro c z r q
    rw [Finset.sum_range_succ']
    refine (pay13_apply _ _ z r q).trans ?_
    rw [prod_apply, ih (src i c) 0 r q]
    rfl

/-- A device's piece is the scaled sum of the parts of the devices passed, -/
theorem piece_sum (i : Fin 4) (c : Dev nD) (r : Fin 256) (q : Fin 2048) :
    (piece m i c (ix2 r q) : EReal) = (∑ j ∈ Finset.range 16, part m i ((src i)^[j] c) (chunk i c 15) r q)
      * ((ascale m c : EReal) * (bscale m c : EReal)) := by
  refine (pay1_apply _ _ _ _ r q).trans ?_
  rw [prod_apply, blk_apply, Finset.sum_range_succ' (n := 15)]
  rfl

/-- Going round a ring sixteen times comes back, -/
theorem chunk_last (i : Fin 4) (c : Dev nD) : chunk i c 15 = c := by
  revert i c; decide +kernel
/-- having passed every device once. -/
theorem round_bijective (i : Fin 4) (c : Dev nD) : Function.Bijective fun j : Fin 16 => ((src i)^[j.val] c : Dev nD) := by
  rw [Finite.injective_iff_bijective.symm]
  intro a b
  revert i c a b; decide +kernel

/-- which are all sixteen. -/
theorem piece_apply (i : Fin 4) (c : Dev nD) (r : Fin 256) (q : Fin 2048) :
    (piece m i c (ix2 r q) : EReal) = (∑ d : Dev nD, part m i d c r q) * ((ascale m c : EReal) * (bscale m c : EReal)) := by
  rw [piece_sum, chunk_last, ← Fin.sum_univ_eq_sum_range (fun j => part m i ((src i)^[j] c) c r q) 16]
  rw [(round_bijective i c).sum_comp (fun d => part m i d c r q)]

end Cert.KernelIdeal.Rings

end
-- ==== Proof.Reference.lean ====
/-
# What the reference computes

One matrix product over the whole operands, scaled: the result element at row `r` and column `q`.
-/
module

public import proofs.«01_k».proof.Proof.Gen.ReferenceIdeal.Value
public import Idealize.ShloMosaic.Lib.Pipeline.Value
public import Idealize.ShloMosaic.Lib.Pipeline.ValueKit
public import Idealize.ShloMosaic.Lib.Pipeline.FrameBody
public import Idealize.ShloMosaic.Lib.Pipeline.ReadBack
public import Idealize.ShloMosaic.Lib.Pointwise

@[expose] public section

noncomputable section

namespace Cert.ReferenceIdeal.Whole

open Cert.ReferenceIdeal Cert.ReferenceIdeal.Gen
open Idealize.ShloMosaic Idealize.ShloMosaic.TcCoe Idealize.SL.Sem

variable (m : (ℓ : Loc nD τ sig) → Buf (Elt Ideal) ℓ) (ρ : Dev nD → PrngReg)

/-- The operands, element by element. -/
def xAt (c : Dev nD) (r k : Fin 4096) : EReal := m ((c : Thread nD τ).loc main_arg0) (ix2 r k)
/-- The second operand, element by element. -/
def wAt (c : Dev nD) (k : Fin 4096) (q : Fin 8192) : EReal := m ((c : Thread nD τ).loc main_arg1) (ix2 k q)
/-- The scale of the first operand, -/
def aAt (c : Dev nD) : EReal := m ((c : Thread nD τ).loc main_arg2) (ix1 0)
/-- and of the second. -/
def bAt (c : Dev nD) : EReal := m ((c : Thread nD τ).loc main_arg3) (ix1 0)

/-- Window by window, the one block is the whole array: of `x`, -/
theorem read_whole_x (f : (main_arg0 : Ref sig .tc).ty.Contents (Elt Ideal)) : (win0_0.blk (0 : Fin 1)).view.read (Elt Ideal) f = f :=
  Memref.read_access_unit_zero (Elt Ideal) main_arg0 (by decide) _ f
/-- of `w`, -/
theorem read_whole_w (f : (main_arg1 : Ref sig .tc).ty.Contents (Elt Ideal)) : (win0_1.blk (0 : Fin 1)).view.read (Elt Ideal) f = f :=
  Memref.read_access_unit_zero (Elt Ideal) main_arg1 (by decide) _ f
/-- of the scale of `x`, -/
theorem read_whole_a (f : (main_arg2 : Ref sig .tc).ty.Contents (Elt Ideal)) : (win0_2.blk (0 : Fin 1)).view.read (Elt Ideal) f = f :=
  Memref.read_access_unit_zero (Elt Ideal) main_arg2 (by decide) _ f
/-- of the scale of `w`, -/
theorem read_whole_b (f : (main_arg3 : Ref sig .tc).ty.Contents (Elt Ideal)) : (win0_3.blk (0 : Fin 1)).view.read (Elt Ideal) f = f :=
  Memref.read_access_unit_zero (Elt Ideal) main_arg3 (by decide) _ f

/-- and of the result. -/
theorem read_whole_o (f : (main_v0 : Ref sig .tc).ty.Contents (Elt Ideal)) : (win0_4.blk (0 : Fin 1)).view.read (Elt Ideal) f = f :=
  Memref.read_access_unit_zero (Elt Ideal) main_v0 (by decide) _ f
/-- A scale has one element. -/
theorem one_place (z : S1.Idx) : z = ix1 0 :=
  funext fun a => match a with | 0 => Fin.ext (by have h : (z 0).val < 1 := (z 0).isLt; show (z 0).val = 0; omega)

/-- The reference's result. -/
def outAt (c : Dev nD) : (main_v0 : Ref sig .tc).ty.Contents (Elt Ideal) :=
  fun y => (∑ k : Fin 4096, xAt m c (y 0) k * wAt m c k (y 1)) * (aAt m c * bAt m c)

/-- So what the body reads is the argument: `x`, -/
theorem iblk_x (c : Dev nD) : iblk m c 0 (0 : Fin 1) = m ((c : Thread nD τ).loc main_arg0) := (read_whole_x _).trans (V_main_arg0 m c)
/-- `w`, -/
theorem iblk_w (c : Dev nD) : iblk m c 1 (0 : Fin 1) = m ((c : Thread nD τ).loc main_arg1) := (read_whole_w _).trans (V_main_arg1 m c)
/-- the scale of `x`, -/
theorem iblk_a (c : Dev nD) : iblk m c 2 (0 : Fin 1) = m ((c : Thread nD τ).loc main_arg2) := (read_whole_a _).trans (V_main_arg2 m c)
/-- the scale of `w`. -/
theorem iblk_b (c : Dev nD) : iblk m c 3 (0 : Fin 1) = m ((c : Thread nD τ).loc main_arg3) := (read_whole_b _).trans (V_main_arg3 m c)

set_option maxRecDepth 16384 in
/-- What the body stores, at an element: the contraction over all 4096 columns, scaled. -/
theorem pay_apply (c : Dev nD) (y : S4096x8192.Idx) : k0_pay1 (m ((c : Thread nD τ).loc main_arg0)) (m ((c : Thread nD τ).loc main_arg1))
    (m ((c : Thread nD τ).loc main_arg2) (ix1 0)) (m ((c : Thread nD τ).loc main_arg3) (ix1 0)) y = outAt m c y := by
  unfold outAt xAt wAt aAt bAt
  pointwise [k0_pay1]

set_option maxRecDepth 16384 in
/-- At the end the result's array holds it. -/
theorem final_eq (c : Dev nD) : (dats m 0 c).arrAt 4 cfg0.N = outAt m c := by
  refine (dats m 0 c).arrAt_eq_of_covers 4 _ (by decide +kernel) fun t hf y => ?_
  blk_simp
  rw [after0_4]
  unfold outsAt0
  frame_out
  simp only [read_unread_whole]
  simp only [one_place (Shape.Idx.first _)]
  match t with
  | ⟨0, _⟩ =>
    exact (congrFun (congr (congr (congr (congrArg k0_pay1 (iblk_x m c)) (iblk_w m c)) (congrArg (· (ix1 0)) (iblk_a m c)))
      (congrArg (· (ix1 0)) (iblk_b m c))) y).trans ((pay_apply m c y).trans (congrFun (read_whole_o (outAt m c)) y).symm)

/-- The reference's run: its result, its arguments. -/
theorem run_out : θ_run defs (onTc (τ := τ) (main (F := Ideal))) ⟨m, fun _ => 0, ρ⟩ fun r => ∀ c : Dev nD,
      r.2.mem ((c : Thread nD τ).loc main_v0) = outAt m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans (final_eq m c), (h c).2⟩) (Cert.ReferenceIdeal.Value.run_blocks m ρ)

end Cert.ReferenceIdeal.Whole

end
-- ==== Proof.Agree.lean ====
/-
# Each device's result is its block of the reference's

Device `d` holds columns `256 d` to `256 d + 255` of `x` and the rows of `w` of the same numbers, so the sixteen devices'
parts of a product are the whole contraction; device `c`'s result is the rows of block `c`.
-/
module

public import proofs.«01_k».proof.Proof.Value
public import proofs.«01_k».proof.Proof.Reference
public import Idealize.ShloMosaic.Lib.Layout

@[expose] public section

noncomputable section

namespace Cert.KernelIdeal.Rings

open Cert.KernelIdeal Cert.KernelIdeal.Gen
open Idealize.ShloMosaic Idealize.ShloMosaic.TcCoe

/-- Place `k` of part `d` of the contracted axis. -/
def kAt (d : Fin 16) (k : Fin 256) : Fin 4096 := ⟨k.val + 256 * d.val, by omega⟩

/-- The sum over the contracted axis, device by device. -/
theorem sum_parts (g : Fin 4096 → EReal) : ∑ d : Fin 16, ∑ k : Fin 256, g (kAt d k) = ∑ k : Fin 4096, g k := by
  rw [← Fintype.sum_prod_type']
  exact Equiv.sum_comp (finProdFinEquiv (m := 16) (n := 256)) g

/-- A column of the result is its ring's column. -/
theorem col_back (q : Fin 8192) : colAt (ringOf q) (colOf q) = q :=
  Fin.ext (by show 2048 * (q.val / 2048) + q.val % 2048 = q.val; omega)

variable (m : (ℓ : Loc nD τ sig) → Buf (Elt Ideal) ℓ)
  (m' : (ℓ : Loc Cert.ReferenceIdeal.nD Cert.ReferenceIdeal.τ Cert.ReferenceIdeal.sig) → Buf (Elt Ideal) ℓ)

/-- Every device's arguments are its parts of the reference's. -/
def Cut : Prop := ∀ c : Dev nD,
  m ((c : Thread nD τ).loc main_arg0) = Layout.block ⟨2, ![4096, 256]⟩ ⟨2, ![4096, 4096]⟩ 1 16 c (m' (((0 : Dev Cert.ReferenceIdeal.nD) : Thread Cert.ReferenceIdeal.nD Cert.ReferenceIdeal.τ).loc Cert.ReferenceIdeal.main_arg0))
  ∧ m ((c : Thread nD τ).loc main_arg1) = Layout.block ⟨2, ![256, 8192]⟩ ⟨2, ![4096, 8192]⟩ 0 16 c (m' (((0 : Dev Cert.ReferenceIdeal.nD) : Thread Cert.ReferenceIdeal.nD Cert.ReferenceIdeal.τ).loc Cert.ReferenceIdeal.main_arg1))
  ∧ m ((c : Thread nD τ).loc main_arg2) = m' (((0 : Dev Cert.ReferenceIdeal.nD) : Thread Cert.ReferenceIdeal.nD Cert.ReferenceIdeal.τ).loc Cert.ReferenceIdeal.main_arg2)
  ∧ m ((c : Thread nD τ).loc main_arg3) = m' (((0 : Dev Cert.ReferenceIdeal.nD) : Thread Cert.ReferenceIdeal.nD Cert.ReferenceIdeal.τ).loc Cert.ReferenceIdeal.main_arg3)

variable (h : Cut m m')
include h

/-- Device `d`'s element of `x` is the reference's, in the device's part of the columns. -/
theorem xval_eq (d : Dev nD) (r : Fin 4096) (k : Fin 256) : xval m d r k = Cert.ReferenceIdeal.Whole.xAt m' 0 r (kAt d k) := by
  unfold xval Cert.ReferenceIdeal.Whole.xAt
  rw [xstg_eq, (h d).1]
  refine (Layout.block_apply (d : Fin 16) _ _ _).trans (congrArg (m' _) (funext fun a => Fin.ext ?_))
  match a with
  | 0 => rfl
  | 1 => show d.val * 256 + k.val = k.val + 256 * d.val; omega

/-- Device `d`'s element of `w` is the reference's, in the device's part of the rows. -/
theorem wval_eq (d : Dev nD) (k : Fin 256) (q : Fin 8192) : wval m d k q = Cert.ReferenceIdeal.Whole.wAt m' 0 (kAt d k) q := by
  unfold wval Cert.ReferenceIdeal.Whole.wAt
  rw [wstg_eq, (h d).2.1]
  refine (Layout.block_apply (d : Fin 16) _ _ _).trans (congrArg (m' _) (funext fun a => Fin.ext ?_))
  match a with
  | 0 => show d.val * 256 + k.val = k.val + 256 * d.val; omega
  | 1 => rfl

/-- The scale of `x` is the reference's, -/
theorem scale_a (c : Dev nD) : ascale m c = Cert.ReferenceIdeal.Whole.aAt m' 0 := by
  unfold ascale Cert.ReferenceIdeal.Whole.aAt
  rw [astg_eq, (h c).2.2.1]
  exact congrArg (m' _) (Cert.ReferenceIdeal.Whole.one_place _)
/-- and so is the scale of `w`. -/
theorem scale_b (c : Dev nD) : bscale m c = Cert.ReferenceIdeal.Whole.bAt m' 0 := by
  unfold bscale Cert.ReferenceIdeal.Whole.bAt
  rw [bstg_eq, (h c).2.2.2]
  exact congrArg (m' _) (Cert.ReferenceIdeal.Whole.one_place _)

/-- Device `c`'s result is block `c`, by rows, of the reference's. -/
theorem out_block (c : Dev nD) :
    outAt m c = Layout.block ⟨2, ![256, 8192]⟩ ⟨2, ![4096, 8192]⟩ 0 16 c (Cert.ReferenceIdeal.Whole.outAt m' 0) := by
  funext x
  obtain ⟨r, q, rfl⟩ : ∃ (r : Fin 256) (q : Fin 8192), x = ix2 r q := ⟨x 0, x 1, eq_ix2 x⟩
  have hp : placeOf (ix2 r q) = ix2 r (colOf q) := funext fun a => match a with | 0 => rfl | 1 => rfl
  show piece m (ringOf q) c (placeOf (ix2 r q)) = _
  rw [hp]
  refine (piece_apply m (ringOf q) c r (colOf q)).trans ?_
  rw [scale_a m m' h, scale_b m m' h]
  refine Eq.trans ?_ (Layout.block_apply (c : Fin 16) _ _ _).symm
  refine congrArg (· * (Cert.ReferenceIdeal.Whole.aAt m' 0 * Cert.ReferenceIdeal.Whole.bAt m' 0)) ?_
  refine Eq.trans ?_ (sum_parts fun k => Cert.ReferenceIdeal.Whole.xAt m' 0 (rowAt c r) k * Cert.ReferenceIdeal.Whole.wAt m' 0 k q)|>.trans ?_
  · refine Finset.sum_congr rfl fun d _ => Finset.sum_congr rfl fun k _ => ?_
    rw [col_back, xval_eq m m' h, wval_eq m m' h]
  · refine Finset.sum_congr rfl fun k _ => ?_
    refine congrArg₂ (fun a b => Cert.ReferenceIdeal.Whole.xAt m' 0 a k * Cert.ReferenceIdeal.Whole.wAt m' 0 k b) (Fin.ext ?_) (Fin.ext ?_)
    · show 256 * c.val + r.val = c.val * 256 + r.val; omega
    · rfl

end Cert.KernelIdeal.Rings

end
-- ==== Proof.lean ====
/-
# The claims

The kernel, as printed and idealized, runs on sixteen devices from any memory, ends with its arguments unchanged and every
counter at zero; so does the reference on one; and over the extended reals each device's result is its block of the
reference's.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.Gen.ReferenceIdeal.Value
public import proofs.«01_k».proof.Proof.Agree
public import proofs.«01_k».proof.Proof.AsPrinted.Whole
public import Idealize.ShloMosaic.Adequacy
public import Idealize.ShloMosaic.Init

@[expose] public section

noncomputable section

namespace Cert.Proof

open Idealize.ShloMosaic Idealize.SL.Sem Cert.Kernel

/-- The kernel as printed: every run ends, arguments unchanged, counters zero. -/
theorem frame_kernel : Cert.quiescent_Kernel := fun m ρ _ =>
  (θ_run Cert.Kernel.defs _ _).mono (fun _ h => ⟨fun c => (h.1 c).2, h.2⟩) (Cert.Kernel.Rings.run_all (F := Bits) m ρ)

/-- The same of the idealized kernel. -/
theorem frame_ideal : Cert.quiescent_KernelIdeal := fun m ρ _ =>
  (θ_run Cert.KernelIdeal.defs _ _).mono (fun _ h => ⟨fun c => (h.1 c).2, h.2⟩) (Cert.KernelIdeal.Rings.run_all (F := Ideal) m ρ)

/-- The same of the reference. -/
theorem frame_reference : Cert.quiescent_ReferenceIdeal := fun m ρ _ => Cert.ReferenceIdeal.Gen.frame m ρ

/-- Over the extended reals, from arguments that are the parts of the reference's, each device's result is its block of the
    reference's result. -/
theorem value : Cert.algebraic_KernelIdeal_ReferenceIdeal := fun m ρ m' ρ' _ hargs =>
  ⟨Cert.ReferenceIdeal.Whole.outAt m' 0,
    (θ_run Cert.KernelIdeal.defs _ _).mono
      (fun _ h c => ⟨(h.1 c).1.trans (Cert.KernelIdeal.Rings.out_block m m' hargs c), (h.1 c).2⟩)
      (Cert.KernelIdeal.Rings.run_all (F := Ideal) m ρ),
    (θ_run Cert.ReferenceIdeal.defs _ _).mono (fun _ h => h 0) (Cert.ReferenceIdeal.Whole.run_out m' ρ')⟩

/-- All the claims. -/
theorem claim : Cert.Claim := ⟨Cert.Kernel.Gen.facts, Cert.KernelIdeal.Gen.facts, Cert.ReferenceIdeal.Gen.facts,
  frame_kernel, frame_ideal, frame_reference, trivial, value⟩

end Cert.Proof

end
